-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_scores [hPre_real_scores : Cert.Pre_real_scores.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores [hPre_real_scores : Cert.Pre_real_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_real_gates [hPre_real_gates : Cert.Pre_real_gates.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_real_gates.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).1 = (fun _ => 1#1)
    ∧ (Cert.Pre_real_gates.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).2.1 = (fun _ => 1#1)
    ∧ (Cert.Pre_real_gates.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).2.2.1 = (fun _ => 1#1)
    ∧ (Cert.Pre_real_gates.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).2.2.2.1 = (fun _ => 1#1)
    ∧ (Cert.Pre_real_gates.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).2.2.2.2 = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_real_gates [hPre_real_gates : Cert.Pre_real_gates.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_real_gates.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).1 = (fun _ => 1#1)
    ∧ (Cert.Pre_real_gates.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).2.1 = (fun _ => 1#1)
    ∧ (Cert.Pre_real_gates.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).2.2.1 = (fun _ => 1#1)
    ∧ (Cert.Pre_real_gates.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).2.2.2.1 = (fun _ => 1#1)
    ∧ (Cert.Pre_real_gates.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).2.2.2.2 = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_real_scores_b [hPre_real_scores_b : Cert.Pre_real_scores_b.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_real_scores_b.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))).1 = (fun _ => 1#1)
    ∧ (Cert.Pre_real_scores_b.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))).2 = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_real_scores_b [hPre_real_scores_b : Cert.Pre_real_scores_b.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_real_scores_b.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2))).1 = (fun _ => 1#1)
    ∧ (Cert.Pre_real_scores_b.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2))).2 = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_real_scores [hKernelIdeal : Cert.KernelIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_real_scores [hReferenceIdeal : Cert.ReferenceIdeal.Facts] [hPre_real_scores : Cert.Pre_real_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Kernel25Ideal_pre_real_gates [hKernel25Ideal : Cert.Kernel25Ideal.Facts] [hPre_real_gates : Cert.Pre_real_gates.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_real_gates m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Reference25Ideal_pre_real_gates [hReference25Ideal : Cert.Reference25Ideal.Facts] [hPre_real_gates : Cert.Pre_real_gates.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_real_gates m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Kernel27Ideal_pre_real_scores_b [hKernel27Ideal : Cert.Kernel27Ideal.Facts] [hPre_real_scores_b : Cert.Pre_real_scores_b.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_real_scores_b m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Reference27Ideal_pre_real_scores_b [hReference27Ideal : Cert.Reference27Ideal.Facts] [hPre_real_scores_b : Cert.Pre_real_scores_b.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_real_scores_b m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6)
      ∧ r.2.mem ((c.tc : Thread Cert.Kernel34.nD Cert.Kernel34.τ).loc Cert.Kernel34.main_arg7) = m ((c.tc : Thread Cert.Kernel34.nD Cert.Kernel34.τ).loc Cert.Kernel34.main_arg7))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5)
      ∧ r.2.mem ((c.tc : Thread Cert.Kernel35.nD Cert.Kernel35.τ).loc Cert.Kernel35.main_arg6) = m ((c.tc : Thread Cert.Kernel35.nD Cert.Kernel35.τ).loc Cert.Kernel35.main_arg6)
      ∧ r.2.mem ((c.tc : Thread Cert.Kernel35.nD Cert.Kernel35.τ).loc Cert.Kernel35.main_arg7) = m ((c.tc : Thread Cert.Kernel35.nD Cert.Kernel35.τ).loc Cert.Kernel35.main_arg7)
      ∧ r.2.mem ((c.tc : Thread Cert.Kernel35.nD Cert.Kernel35.τ).loc Cert.Kernel35.main_arg8) = m ((c.tc : Thread Cert.Kernel35.nD Cert.Kernel35.τ).loc Cert.Kernel35.main_arg8)
      ∧ r.2.mem ((c.tc : Thread Cert.Kernel35.nD Cert.Kernel35.τ).loc Cert.Kernel35.main_arg9) = m ((c.tc : Thread Cert.Kernel35.nD Cert.Kernel35.τ).loc Cert.Kernel35.main_arg9)
      ∧ r.2.mem ((c.tc : Thread Cert.Kernel35.nD Cert.Kernel35.τ).loc Cert.Kernel35.main_arg10) = m ((c.tc : Thread Cert.Kernel35.nD Cert.Kernel35.τ).loc Cert.Kernel35.main_arg10)
      ∧ r.2.mem ((c.tc : Thread Cert.Kernel35.nD Cert.Kernel35.τ).loc Cert.Kernel35.main_arg11) = m ((c.tc : Thread Cert.Kernel35.nD Cert.Kernel35.τ).loc Cert.Kernel35.main_arg11)
      ∧ r.2.mem ((c.tc : Thread Cert.Kernel35.nD Cert.Kernel35.τ).loc Cert.Kernel35.main_arg12) = m ((c.tc : Thread Cert.Kernel35.nD Cert.Kernel35.τ).loc Cert.Kernel35.main_arg12)
      ∧ r.2.mem ((c.tc : Thread Cert.Kernel35.nD Cert.Kernel35.τ).loc Cert.Kernel35.main_arg13) = m ((c.tc : Thread Cert.Kernel35.nD Cert.Kernel35.τ).loc Cert.Kernel35.main_arg13)
      ∧ r.2.mem ((c.tc : Thread Cert.Kernel35.nD Cert.Kernel35.τ).loc Cert.Kernel35.main_arg14) = m ((c.tc : Thread Cert.Kernel35.nD Cert.Kernel35.τ).loc Cert.Kernel35.main_arg14)
      ∧ r.2.mem ((c.tc : Thread Cert.Kernel35.nD Cert.Kernel35.τ).loc Cert.Kernel35.main_arg15) = m ((c.tc : Thread Cert.Kernel35.nD Cert.Kernel35.τ).loc Cert.Kernel35.main_arg15)
      ∧ r.2.mem ((c.tc : Thread Cert.Kernel35.nD Cert.Kernel35.τ).loc Cert.Kernel35.main_arg16) = m ((c.tc : Thread Cert.Kernel35.nD Cert.Kernel35.τ).loc Cert.Kernel35.main_arg16)
      ∧ r.2.mem ((c.tc : Thread Cert.Kernel35.nD Cert.Kernel35.τ).loc Cert.Kernel35.main_arg17) = m ((c.tc : Thread Cert.Kernel35.nD Cert.Kernel35.τ).loc Cert.Kernel35.main_arg17)
      ∧ r.2.mem ((c.tc : Thread Cert.Kernel35.nD Cert.Kernel35.τ).loc Cert.Kernel35.main_arg18) = m ((c.tc : Thread Cert.Kernel35.nD Cert.Kernel35.τ).loc Cert.Kernel35.main_arg18)
      ∧ r.2.mem ((c.tc : Thread Cert.Kernel35.nD Cert.Kernel35.τ).loc Cert.Kernel35.main_arg19) = m ((c.tc : Thread Cert.Kernel35.nD Cert.Kernel35.τ).loc Cert.Kernel35.main_arg19)
      ∧ r.2.mem ((c.tc : Thread Cert.Kernel35.nD Cert.Kernel35.τ).loc Cert.Kernel35.main_arg20) = m ((c.tc : Thread Cert.Kernel35.nD Cert.Kernel35.τ).loc Cert.Kernel35.main_arg20)
      ∧ r.2.mem ((c.tc : Thread Cert.Kernel35.nD Cert.Kernel35.τ).loc Cert.Kernel35.main_arg21) = m ((c.tc : Thread Cert.Kernel35.nD Cert.Kernel35.τ).loc Cert.Kernel35.main_arg21)
      ∧ r.2.mem ((c.tc : Thread Cert.Kernel35.nD Cert.Kernel35.τ).loc Cert.Kernel35.main_arg22) = m ((c.tc : Thread Cert.Kernel35.nD Cert.Kernel35.τ).loc Cert.Kernel35.main_arg22)
      ∧ r.2.mem ((c.tc : Thread Cert.Kernel35.nD Cert.Kernel35.τ).loc Cert.Kernel35.main_arg23) = m ((c.tc : Thread Cert.Kernel35.nD Cert.Kernel35.τ).loc Cert.Kernel35.main_arg23)
      ∧ r.2.mem ((c.tc : Thread Cert.Kernel35.nD Cert.Kernel35.τ).loc Cert.Kernel35.main_arg24) = m ((c.tc : Thread Cert.Kernel35.nD Cert.Kernel35.τ).loc Cert.Kernel35.main_arg24)
      ∧ r.2.mem ((c.tc : Thread Cert.Kernel35.nD Cert.Kernel35.τ).loc Cert.Kernel35.main_arg25) = m ((c.tc : Thread Cert.Kernel35.nD Cert.Kernel35.τ).loc Cert.Kernel35.main_arg25)
      ∧ r.2.mem ((c.tc : Thread Cert.Kernel35.nD Cert.Kernel35.τ).loc Cert.Kernel35.main_arg26) = m ((c.tc : Thread Cert.Kernel35.nD Cert.Kernel35.τ).loc Cert.Kernel35.main_arg26)
      ∧ r.2.mem ((c.tc : Thread Cert.Kernel35.nD Cert.Kernel35.τ).loc Cert.Kernel35.main_arg27) = m ((c.tc : Thread Cert.Kernel35.nD Cert.Kernel35.τ).loc Cert.Kernel35.main_arg27)
      ∧ r.2.mem ((c.tc : Thread Cert.Kernel35.nD Cert.Kernel35.τ).loc Cert.Kernel35.main_arg28) = m ((c.tc : Thread Cert.Kernel35.nD Cert.Kernel35.τ).loc Cert.Kernel35.main_arg28)
      ∧ r.2.mem ((c.tc : Thread Cert.Kernel35.nD Cert.Kernel35.τ).loc Cert.Kernel35.main_arg29) = m ((c.tc : Thread Cert.Kernel35.nD Cert.Kernel35.τ).loc Cert.Kernel35.main_arg29)
      ∧ r.2.mem ((c.tc : Thread Cert.Kernel35.nD Cert.Kernel35.τ).loc Cert.Kernel35.main_arg30) = m ((c.tc : Thread Cert.Kernel35.nD Cert.Kernel35.τ).loc Cert.Kernel35.main_arg30)
      ∧ r.2.mem ((c.tc : Thread Cert.Kernel35.nD Cert.Kernel35.τ).loc Cert.Kernel35.main_arg31) = m ((c.tc : Thread Cert.Kernel35.nD Cert.Kernel35.τ).loc Cert.Kernel35.main_arg31)
      ∧ r.2.mem ((c.tc : Thread Cert.Kernel35.nD Cert.Kernel35.τ).loc Cert.Kernel35.main_arg32) = m ((c.tc : Thread Cert.Kernel35.nD Cert.Kernel35.τ).loc Cert.Kernel35.main_arg32)
      ∧ r.2.mem ((c.tc : Thread Cert.Kernel35.nD Cert.Kernel35.τ).loc Cert.Kernel35.main_arg33) = m ((c.tc : Thread Cert.Kernel35.nD Cert.Kernel35.τ).loc Cert.Kernel35.main_arg33)
      ∧ r.2.mem ((c.tc : Thread Cert.Kernel35.nD Cert.Kernel35.τ).loc Cert.Kernel35.main_arg34) = m ((c.tc : Thread Cert.Kernel35.nD Cert.Kernel35.τ).loc Cert.Kernel35.main_arg34)
      ∧ r.2.mem ((c.tc : Thread Cert.Kernel35.nD Cert.Kernel35.τ).loc Cert.Kernel35.main_arg35) = m ((c.tc : Thread Cert.Kernel35.nD Cert.Kernel35.τ).loc Cert.Kernel35.main_arg35))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
      ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6)
      ∧ r.2.mem ((c.tc : Thread Cert.Kernel35Ideal.nD Cert.Kernel35Ideal.τ).loc Cert.Kernel35Ideal.main_arg7) = m ((c.tc : Thread Cert.Kernel35Ideal.nD Cert.Kernel35Ideal.τ).loc Cert.Kernel35Ideal.main_arg7)
      ∧ r.2.mem ((c.tc : Thread Cert.Kernel35Ideal.nD Cert.Kernel35Ideal.τ).loc Cert.Kernel35Ideal.main_arg8) = m ((c.tc : Thread Cert.Kernel35Ideal.nD Cert.Kernel35Ideal.τ).loc Cert.Kernel35Ideal.main_arg8)
      ∧ r.2.mem ((c.tc : Thread Cert.Kernel35Ideal.nD Cert.Kernel35Ideal.τ).loc Cert.Kernel35Ideal.main_arg9) = m ((c.tc : Thread Cert.Kernel35Ideal.nD Cert.Kernel35Ideal.τ).loc Cert.Kernel35Ideal.main_arg9)
      ∧ r.2.mem ((c.tc : Thread Cert.Kernel35Ideal.nD Cert.Kernel35Ideal.τ).loc Cert.Kernel35Ideal.main_arg10) = m ((c.tc : Thread Cert.Kernel35Ideal.nD Cert.Kernel35Ideal.τ).loc Cert.Kernel35Ideal.main_arg10)
      ∧ r.2.mem ((c.tc : Thread Cert.Kernel35Ideal.nD Cert.Kernel35Ideal.τ).loc Cert.Kernel35Ideal.main_arg11) = m ((c.tc : Thread Cert.Kernel35Ideal.nD Cert.Kernel35Ideal.τ).loc Cert.Kernel35Ideal.main_arg11)
      ∧ r.2.mem ((c.tc : Thread Cert.Kernel35Ideal.nD Cert.Kernel35Ideal.τ).loc Cert.Kernel35Ideal.main_arg12) = m ((c.tc : Thread Cert.Kernel35Ideal.nD Cert.Kernel35Ideal.τ).loc Cert.Kernel35Ideal.main_arg12)
      ∧ r.2.mem ((c.tc : Thread Cert.Kernel35Ideal.nD Cert.Kernel35Ideal.τ).loc Cert.Kernel35Ideal.main_arg13) = m ((c.tc : Thread Cert.Kernel35Ideal.nD Cert.Kernel35Ideal.τ).loc Cert.Kernel35Ideal.main_arg13)
      ∧ r.2.mem ((c.tc : Thread Cert.Kernel35Ideal.nD Cert.Kernel35Ideal.τ).loc Cert.Kernel35Ideal.main_arg14) = m ((c.tc : Thread Cert.Kernel35Ideal.nD Cert.Kernel35Ideal.τ).loc Cert.Kernel35Ideal.main_arg14)
      ∧ r.2.mem ((c.tc : Thread Cert.Kernel35Ideal.nD Cert.Kernel35Ideal.τ).loc Cert.Kernel35Ideal.main_arg15) = m ((c.tc : Thread Cert.Kernel35Ideal.nD Cert.Kernel35Ideal.τ).loc Cert.Kernel35Ideal.main_arg15)
      ∧ r.2.mem ((c.tc : Thread Cert.Kernel35Ideal.nD Cert.Kernel35Ideal.τ).loc Cert.Kernel35Ideal.main_arg16) = m ((c.tc : Thread Cert.Kernel35Ideal.nD Cert.Kernel35Ideal.τ).loc Cert.Kernel35Ideal.main_arg16)
      ∧ r.2.mem ((c.tc : Thread Cert.Kernel35Ideal.nD Cert.Kernel35Ideal.τ).loc Cert.Kernel35Ideal.main_arg17) = m ((c.tc : Thread Cert.Kernel35Ideal.nD Cert.Kernel35Ideal.τ).loc Cert.Kernel35Ideal.main_arg17)
      ∧ r.2.mem ((c.tc : Thread Cert.Kernel35Ideal.nD Cert.Kernel35Ideal.τ).loc Cert.Kernel35Ideal.main_arg18) = m ((c.tc : Thread Cert.Kernel35Ideal.nD Cert.Kernel35Ideal.τ).loc Cert.Kernel35Ideal.main_arg18)
      ∧ r.2.mem ((c.tc : Thread Cert.Kernel35Ideal.nD Cert.Kernel35Ideal.τ).loc Cert.Kernel35Ideal.main_arg19) = m ((c.tc : Thread Cert.Kernel35Ideal.nD Cert.Kernel35Ideal.τ).loc Cert.Kernel35Ideal.main_arg19)
      ∧ r.2.mem ((c.tc : Thread Cert.Kernel35Ideal.nD Cert.Kernel35Ideal.τ).loc Cert.Kernel35Ideal.main_arg20) = m ((c.tc : Thread Cert.Kernel35Ideal.nD Cert.Kernel35Ideal.τ).loc Cert.Kernel35Ideal.main_arg20)
      ∧ r.2.mem ((c.tc : Thread Cert.Kernel35Ideal.nD Cert.Kernel35Ideal.τ).loc Cert.Kernel35Ideal.main_arg21) = m ((c.tc : Thread Cert.Kernel35Ideal.nD Cert.Kernel35Ideal.τ).loc Cert.Kernel35Ideal.main_arg21)
      ∧ r.2.mem ((c.tc : Thread Cert.Kernel35Ideal.nD Cert.Kernel35Ideal.τ).loc Cert.Kernel35Ideal.main_arg22) = m ((c.tc : Thread Cert.Kernel35Ideal.nD Cert.Kernel35Ideal.τ).loc Cert.Kernel35Ideal.main_arg22)
      ∧ r.2.mem ((c.tc : Thread Cert.Kernel35Ideal.nD Cert.Kernel35Ideal.τ).loc Cert.Kernel35Ideal.main_arg23) = m ((c.tc : Thread Cert.Kernel35Ideal.nD Cert.Kernel35Ideal.τ).loc Cert.Kernel35Ideal.main_arg23)
      ∧ r.2.mem ((c.tc : Thread Cert.Kernel35Ideal.nD Cert.Kernel35Ideal.τ).loc Cert.Kernel35Ideal.main_arg24) = m ((c.tc : Thread Cert.Kernel35Ideal.nD Cert.Kernel35Ideal.τ).loc Cert.Kernel35Ideal.main_arg24)
      ∧ r.2.mem ((c.tc : Thread Cert.Kernel35Ideal.nD Cert.Kernel35Ideal.τ).loc Cert.Kernel35Ideal.main_arg25) = m ((c.tc : Thread Cert.Kernel35Ideal.nD Cert.Kernel35Ideal.τ).loc Cert.Kernel35Ideal.main_arg25)
      ∧ r.2.mem ((c.tc : Thread Cert.Kernel35Ideal.nD Cert.Kernel35Ideal.τ).loc Cert.Kernel35Ideal.main_arg26) = m ((c.tc : Thread Cert.Kernel35Ideal.nD Cert.Kernel35Ideal.τ).loc Cert.Kernel35Ideal.main_arg26)
      ∧ r.2.mem ((c.tc : Thread Cert.Kernel35Ideal.nD Cert.Kernel35Ideal.τ).loc Cert.Kernel35Ideal.main_arg27) = m ((c.tc : Thread Cert.Kernel35Ideal.nD Cert.Kernel35Ideal.τ).loc Cert.Kernel35Ideal.main_arg27)
      ∧ r.2.mem ((c.tc : Thread Cert.Kernel35Ideal.nD Cert.Kernel35Ideal.τ).loc Cert.Kernel35Ideal.main_arg28) = m ((c.tc : Thread Cert.Kernel35Ideal.nD Cert.Kernel35Ideal.τ).loc Cert.Kernel35Ideal.main_arg28)
      ∧ r.2.mem ((c.tc : Thread Cert.Kernel35Ideal.nD Cert.Kernel35Ideal.τ).loc Cert.Kernel35Ideal.main_arg29) = m ((c.tc : Thread Cert.Kernel35Ideal.nD Cert.Kernel35Ideal.τ).loc Cert.Kernel35Ideal.main_arg29)
      ∧ r.2.mem ((c.tc : Thread Cert.Kernel35Ideal.nD Cert.Kernel35Ideal.τ).loc Cert.Kernel35Ideal.main_arg30) = m ((c.tc : Thread Cert.Kernel35Ideal.nD Cert.Kernel35Ideal.τ).loc Cert.Kernel35Ideal.main_arg30)
      ∧ r.2.mem ((c.tc : Thread Cert.Kernel35Ideal.nD Cert.Kernel35Ideal.τ).loc Cert.Kernel35Ideal.main_arg31) = m ((c.tc : Thread Cert.Kernel35Ideal.nD Cert.Kernel35Ideal.τ).loc Cert.Kernel35Ideal.main_arg31)
      ∧ r.2.mem ((c.tc : Thread Cert.Kernel35Ideal.nD Cert.Kernel35Ideal.τ).loc Cert.Kernel35Ideal.main_arg32) = m ((c.tc : Thread Cert.Kernel35Ideal.nD Cert.Kernel35Ideal.τ).loc Cert.Kernel35Ideal.main_arg32)
      ∧ r.2.mem ((c.tc : Thread Cert.Kernel35Ideal.nD Cert.Kernel35Ideal.τ).loc Cert.Kernel35Ideal.main_arg33) = m ((c.tc : Thread Cert.Kernel35Ideal.nD Cert.Kernel35Ideal.τ).loc Cert.Kernel35Ideal.main_arg33)
      ∧ r.2.mem ((c.tc : Thread Cert.Kernel35Ideal.nD Cert.Kernel35Ideal.τ).loc Cert.Kernel35Ideal.main_arg34) = m ((c.tc : Thread Cert.Kernel35Ideal.nD Cert.Kernel35Ideal.τ).loc Cert.Kernel35Ideal.main_arg34)
      ∧ r.2.mem ((c.tc : Thread Cert.Kernel35Ideal.nD Cert.Kernel35Ideal.τ).loc Cert.Kernel35Ideal.main_arg35) = m ((c.tc : Thread Cert.Kernel35Ideal.nD Cert.Kernel35Ideal.τ).loc Cert.Kernel35Ideal.main_arg35))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5)
      ∧ r.2.mem ((c.tc : Thread Cert.Reference35Ideal.nD Cert.Reference35Ideal.τ).loc Cert.Reference35Ideal.main_arg6) = m ((c.tc : Thread Cert.Reference35Ideal.nD Cert.Reference35Ideal.τ).loc Cert.Reference35Ideal.main_arg6)
      ∧ r.2.mem ((c.tc : Thread Cert.Reference35Ideal.nD Cert.Reference35Ideal.τ).loc Cert.Reference35Ideal.main_arg7) = m ((c.tc : Thread Cert.Reference35Ideal.nD Cert.Reference35Ideal.τ).loc Cert.Reference35Ideal.main_arg7)
      ∧ r.2.mem ((c.tc : Thread Cert.Reference35Ideal.nD Cert.Reference35Ideal.τ).loc Cert.Reference35Ideal.main_arg8) = m ((c.tc : Thread Cert.Reference35Ideal.nD Cert.Reference35Ideal.τ).loc Cert.Reference35Ideal.main_arg8)
      ∧ r.2.mem ((c.tc : Thread Cert.Reference35Ideal.nD Cert.Reference35Ideal.τ).loc Cert.Reference35Ideal.main_arg9) = m ((c.tc : Thread Cert.Reference35Ideal.nD Cert.Reference35Ideal.τ).loc Cert.Reference35Ideal.main_arg9)
      ∧ r.2.mem ((c.tc : Thread Cert.Reference35Ideal.nD Cert.Reference35Ideal.τ).loc Cert.Reference35Ideal.main_arg10) = m ((c.tc : Thread Cert.Reference35Ideal.nD Cert.Reference35Ideal.τ).loc Cert.Reference35Ideal.main_arg10)
      ∧ r.2.mem ((c.tc : Thread Cert.Reference35Ideal.nD Cert.Reference35Ideal.τ).loc Cert.Reference35Ideal.main_arg11) = m ((c.tc : Thread Cert.Reference35Ideal.nD Cert.Reference35Ideal.τ).loc Cert.Reference35Ideal.main_arg11)
      ∧ r.2.mem ((c.tc : Thread Cert.Reference35Ideal.nD Cert.Reference35Ideal.τ).loc Cert.Reference35Ideal.main_arg12) = m ((c.tc : Thread Cert.Reference35Ideal.nD Cert.Reference35Ideal.τ).loc Cert.Reference35Ideal.main_arg12)
      ∧ r.2.mem ((c.tc : Thread Cert.Reference35Ideal.nD Cert.Reference35Ideal.τ).loc Cert.Reference35Ideal.main_arg13) = m ((c.tc : Thread Cert.Reference35Ideal.nD Cert.Reference35Ideal.τ).loc Cert.Reference35Ideal.main_arg13)
      ∧ r.2.mem ((c.tc : Thread Cert.Reference35Ideal.nD Cert.Reference35Ideal.τ).loc Cert.Reference35Ideal.main_arg14) = m ((c.tc : Thread Cert.Reference35Ideal.nD Cert.Reference35Ideal.τ).loc Cert.Reference35Ideal.main_arg14)
      ∧ r.2.mem ((c.tc : Thread Cert.Reference35Ideal.nD Cert.Reference35Ideal.τ).loc Cert.Reference35Ideal.main_arg15) = m ((c.tc : Thread Cert.Reference35Ideal.nD Cert.Reference35Ideal.τ).loc Cert.Reference35Ideal.main_arg15)
      ∧ r.2.mem ((c.tc : Thread Cert.Reference35Ideal.nD Cert.Reference35Ideal.τ).loc Cert.Reference35Ideal.main_arg16) = m ((c.tc : Thread Cert.Reference35Ideal.nD Cert.Reference35Ideal.τ).loc Cert.Reference35Ideal.main_arg16)
      ∧ r.2.mem ((c.tc : Thread Cert.Reference35Ideal.nD Cert.Reference35Ideal.τ).loc Cert.Reference35Ideal.main_arg17) = m ((c.tc : Thread Cert.Reference35Ideal.nD Cert.Reference35Ideal.τ).loc Cert.Reference35Ideal.main_arg17)
      ∧ r.2.mem ((c.tc : Thread Cert.Reference35Ideal.nD Cert.Reference35Ideal.τ).loc Cert.Reference35Ideal.main_arg18) = m ((c.tc : Thread Cert.Reference35Ideal.nD Cert.Reference35Ideal.τ).loc Cert.Reference35Ideal.main_arg18)
      ∧ r.2.mem ((c.tc : Thread Cert.Reference35Ideal.nD Cert.Reference35Ideal.τ).loc Cert.Reference35Ideal.main_arg19) = m ((c.tc : Thread Cert.Reference35Ideal.nD Cert.Reference35Ideal.τ).loc Cert.Reference35Ideal.main_arg19)
      ∧ r.2.mem ((c.tc : Thread Cert.Reference35Ideal.nD Cert.Reference35Ideal.τ).loc Cert.Reference35Ideal.main_arg20) = m ((c.tc : Thread Cert.Reference35Ideal.nD Cert.Reference35Ideal.τ).loc Cert.Reference35Ideal.main_arg20)
      ∧ r.2.mem ((c.tc : Thread Cert.Reference35Ideal.nD Cert.Reference35Ideal.τ).loc Cert.Reference35Ideal.main_arg21) = m ((c.tc : Thread Cert.Reference35Ideal.nD Cert.Reference35Ideal.τ).loc Cert.Reference35Ideal.main_arg21)
      ∧ r.2.mem ((c.tc : Thread Cert.Reference35Ideal.nD Cert.Reference35Ideal.τ).loc Cert.Reference35Ideal.main_arg22) = m ((c.tc : Thread Cert.Reference35Ideal.nD Cert.Reference35Ideal.τ).loc Cert.Reference35Ideal.main_arg22)
      ∧ r.2.mem ((c.tc : Thread Cert.Reference35Ideal.nD Cert.Reference35Ideal.τ).loc Cert.Reference35Ideal.main_arg23) = m ((c.tc : Thread Cert.Reference35Ideal.nD Cert.Reference35Ideal.τ).loc Cert.Reference35Ideal.main_arg23)
      ∧ r.2.mem ((c.tc : Thread Cert.Reference35Ideal.nD Cert.Reference35Ideal.τ).loc Cert.Reference35Ideal.main_arg24) = m ((c.tc : Thread Cert.Reference35Ideal.nD Cert.Reference35Ideal.τ).loc Cert.Reference35Ideal.main_arg24)
      ∧ r.2.mem ((c.tc : Thread Cert.Reference35Ideal.nD Cert.Reference35Ideal.τ).loc Cert.Reference35Ideal.main_arg25) = m ((c.tc : Thread Cert.Reference35Ideal.nD Cert.Reference35Ideal.τ).loc Cert.Reference35Ideal.main_arg25)
      ∧ r.2.mem ((c.tc : Thread Cert.Reference35Ideal.nD Cert.Reference35Ideal.τ).loc Cert.Reference35Ideal.main_arg26) = m ((c.tc : Thread Cert.Reference35Ideal.nD Cert.Reference35Ideal.τ).loc Cert.Reference35Ideal.main_arg26)
      ∧ r.2.mem ((c.tc : Thread Cert.Reference35Ideal.nD Cert.Reference35Ideal.τ).loc Cert.Reference35Ideal.main_arg27) = m ((c.tc : Thread Cert.Reference35Ideal.nD Cert.Reference35Ideal.τ).loc Cert.Reference35Ideal.main_arg27)
      ∧ r.2.mem ((c.tc : Thread Cert.Reference35Ideal.nD Cert.Reference35Ideal.τ).loc Cert.Reference35Ideal.main_arg28) = m ((c.tc : Thread Cert.Reference35Ideal.nD Cert.Reference35Ideal.τ).loc Cert.Reference35Ideal.main_arg28)
      ∧ r.2.mem ((c.tc : Thread Cert.Reference35Ideal.nD Cert.Reference35Ideal.τ).loc Cert.Reference35Ideal.main_arg29) = m ((c.tc : Thread Cert.Reference35Ideal.nD Cert.Reference35Ideal.τ).loc Cert.Reference35Ideal.main_arg29)
      ∧ r.2.mem ((c.tc : Thread Cert.Reference35Ideal.nD Cert.Reference35Ideal.τ).loc Cert.Reference35Ideal.main_arg30) = m ((c.tc : Thread Cert.Reference35Ideal.nD Cert.Reference35Ideal.τ).loc Cert.Reference35Ideal.main_arg30)
      ∧ r.2.mem ((c.tc : Thread Cert.Reference35Ideal.nD Cert.Reference35Ideal.τ).loc Cert.Reference35Ideal.main_arg31) = m ((c.tc : Thread Cert.Reference35Ideal.nD Cert.Reference35Ideal.τ).loc Cert.Reference35Ideal.main_arg31)
      ∧ r.2.mem ((c.tc : Thread Cert.Reference35Ideal.nD Cert.Reference35Ideal.τ).loc Cert.Reference35Ideal.main_arg32) = m ((c.tc : Thread Cert.Reference35Ideal.nD Cert.Reference35Ideal.τ).loc Cert.Reference35Ideal.main_arg32)
      ∧ r.2.mem ((c.tc : Thread Cert.Reference35Ideal.nD Cert.Reference35Ideal.τ).loc Cert.Reference35Ideal.main_arg33) = m ((c.tc : Thread Cert.Reference35Ideal.nD Cert.Reference35Ideal.τ).loc Cert.Reference35Ideal.main_arg33)
      ∧ r.2.mem ((c.tc : Thread Cert.Reference35Ideal.nD Cert.Reference35Ideal.τ).loc Cert.Reference35Ideal.main_arg34) = m ((c.tc : Thread Cert.Reference35Ideal.nD Cert.Reference35Ideal.τ).loc Cert.Reference35Ideal.main_arg34)
      ∧ r.2.mem ((c.tc : Thread Cert.Reference35Ideal.nD Cert.Reference35Ideal.τ).loc Cert.Reference35Ideal.main_arg35) = m ((c.tc : Thread Cert.Reference35Ideal.nD Cert.Reference35Ideal.τ).loc Cert.Reference35Ideal.main_arg35))
      ∧ r.2.sem = fun _ => 0)

def preserves_Kernel_KernelIdeal : Prop :=
  True

def algebraic_KernelIdeal_ReferenceIdeal_pre_real_scores [hKernelIdeal : Cert.KernelIdeal.Facts] [hReferenceIdeal : Cert.ReferenceIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v10) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v10) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v36) = v0 c
          ∧ r.2.mem ((c.tc : Thread Cert.Reference23Ideal.nD Cert.Reference23Ideal.τ).loc Cert.Reference23Ideal.main_v37) = v1 c
          ∧ r.2.mem ((c.tc : Thread Cert.Reference23Ideal.nD Cert.Reference23Ideal.τ).loc Cert.Reference23Ideal.main_v38) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v1_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v1_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v35) = v0 c
          ∧ r.2.mem ((c.tc : Thread Cert.Reference24Ideal.nD Cert.Reference24Ideal.τ).loc Cert.Reference24Ideal.main_v36) = v1 c
          ∧ r.2.mem ((c.tc : Thread Cert.Reference24Ideal.nD Cert.Reference24Ideal.τ).loc Cert.Reference24Ideal.main_v37) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  IdealRules.named_const.Statement Cert.Kernel25Ideal.κ "half_root" .f32 0x3F3504F3#32 (((Real.sqrt 2)⁻¹ : ℝ) : EReal)
  ∧ IdealRules.named_const.Statement Cert.Kernel25Ideal.κ "density" .f32 0x3ECC422A#32 (((9465531 / 16777216) * (Real.sqrt 2)⁻¹ : ℝ) : EReal)

def algebraic_Kernel25Ideal_Reference25Ideal_pre_real_gates [hKernel25Ideal : Cert.Kernel25Ideal.Facts] [hReference25Ideal : Cert.Reference25Ideal.Facts] [hPre_real_gates : Cert.Pre_real_gates.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_real_gates m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)) (v3 : (c : Dev Cert.Kernel25Ideal.nD) → Buf (Elt Ideal) ((c.tc : Thread Cert.Kernel25Ideal.nD Cert.Kernel25Ideal.τ).loc Cert.Kernel25Ideal.main_v4_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_v4_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v92) = v0 c
          ∧ r.2.mem ((c.tc : Thread Cert.Reference25Ideal.nD Cert.Reference25Ideal.τ).loc Cert.Reference25Ideal.main_v53) = v1 c
          ∧ r.2.mem ((c.tc : Thread Cert.Reference25Ideal.nD Cert.Reference25Ideal.τ).loc Cert.Reference25Ideal.main_v51) = v2 c
          ∧ r.2.mem ((c.tc : Thread Cert.Reference25Ideal.nD Cert.Reference25Ideal.τ).loc Cert.Reference25Ideal.main_v93) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel27_Kernel27Ideal : Prop :=
  True

def algebraic_Kernel27Ideal_Reference27Ideal_pre_real_scores_b [hKernel27Ideal : Cert.Kernel27Ideal.Facts] [hReference27Ideal : Cert.Reference27Ideal.Facts] [hPre_real_scores_b : Cert.Pre_real_scores_b.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_real_scores_b m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v77) = v0 c
          ∧ r.2.mem ((c.tc : Thread Cert.Reference27Ideal.nD Cert.Reference27Ideal.τ).loc Cert.Reference27Ideal.main_v79) = v1 c
          ∧ r.2.mem ((c.tc : Thread Cert.Reference27Ideal.nD Cert.Reference27Ideal.τ).loc Cert.Reference27Ideal.main_v81) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v27) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v27) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v13) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v3) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v35) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v36) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)
      ∧ m' ((c.tc : Thread Cert.Reference34Ideal.nD Cert.Reference34Ideal.τ).loc Cert.Reference34Ideal.main_arg6) = m ((c.tc : Thread Cert.Kernel34Ideal.nD Cert.Kernel34Ideal.τ).loc Cert.Kernel34Ideal.main_arg6)
      ∧ m' ((c.tc : Thread Cert.Reference34Ideal.nD Cert.Reference34Ideal.τ).loc Cert.Reference34Ideal.main_arg7) = m ((c.tc : Thread Cert.Kernel34Ideal.nD Cert.Kernel34Ideal.τ).loc Cert.Kernel34Ideal.main_arg7)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
          ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
          ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v32) = v0 c
          ∧ r.2.mem ((c.tc : Thread Cert.Reference34Ideal.nD Cert.Reference34Ideal.τ).loc Cert.Reference34Ideal.main_v35) = v1 c
          ∧ r.2.mem ((c.tc : Thread Cert.Reference34Ideal.nD Cert.Reference34Ideal.τ).loc Cert.Reference34Ideal.main_v38) = v2 c
          ∧ r.2.mem ((c.tc : Thread Cert.Reference34Ideal.nD Cert.Reference34Ideal.τ).loc Cert.Reference34Ideal.main_v41) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5)
          ∧ r.2.mem ((c.tc : Thread Cert.Reference34Ideal.nD Cert.Reference34Ideal.τ).loc Cert.Reference34Ideal.main_arg6) = m' ((c.tc : Thread Cert.Reference34Ideal.nD Cert.Reference34Ideal.τ).loc Cert.Reference34Ideal.main_arg6)
          ∧ r.2.mem ((c.tc : Thread Cert.Reference34Ideal.nD Cert.Reference34Ideal.τ).loc Cert.Reference34Ideal.main_arg7) = m' ((c.tc : Thread Cert.Reference34Ideal.nD Cert.Reference34Ideal.τ).loc Cert.Reference34Ideal.main_arg7))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)
      ∧ m' ((c.tc : Thread Cert.Reference35Ideal.nD Cert.Reference35Ideal.τ).loc Cert.Reference35Ideal.main_arg6) = m ((c.tc : Thread Cert.Kernel35Ideal.nD Cert.Kernel35Ideal.τ).loc Cert.Kernel35Ideal.main_arg6)
      ∧ m' ((c.tc : Thread Cert.Reference35Ideal.nD Cert.Reference35Ideal.τ).loc Cert.Reference35Ideal.main_arg7) = m ((c.tc : Thread Cert.Kernel35Ideal.nD Cert.Kernel35Ideal.τ).loc Cert.Kernel35Ideal.main_arg7)
      ∧ m' ((c.tc : Thread Cert.Reference35Ideal.nD Cert.Reference35Ideal.τ).loc Cert.Reference35Ideal.main_arg8) = m ((c.tc : Thread Cert.Kernel35Ideal.nD Cert.Kernel35Ideal.τ).loc Cert.Kernel35Ideal.main_arg8)
      ∧ m' ((c.tc : Thread Cert.Reference35Ideal.nD Cert.Reference35Ideal.τ).loc Cert.Reference35Ideal.main_arg9) = m ((c.tc : Thread Cert.Kernel35Ideal.nD Cert.Kernel35Ideal.τ).loc Cert.Kernel35Ideal.main_arg9)
      ∧ m' ((c.tc : Thread Cert.Reference35Ideal.nD Cert.Reference35Ideal.τ).loc Cert.Reference35Ideal.main_arg10) = m ((c.tc : Thread Cert.Kernel35Ideal.nD Cert.Kernel35Ideal.τ).loc Cert.Kernel35Ideal.main_arg10)
      ∧ m' ((c.tc : Thread Cert.Reference35Ideal.nD Cert.Reference35Ideal.τ).loc Cert.Reference35Ideal.main_arg11) = m ((c.tc : Thread Cert.Kernel35Ideal.nD Cert.Kernel35Ideal.τ).loc Cert.Kernel35Ideal.main_arg11)
      ∧ m' ((c.tc : Thread Cert.Reference35Ideal.nD Cert.Reference35Ideal.τ).loc Cert.Reference35Ideal.main_arg12) = m ((c.tc : Thread Cert.Kernel35Ideal.nD Cert.Kernel35Ideal.τ).loc Cert.Kernel35Ideal.main_arg12)
      ∧ m' ((c.tc : Thread Cert.Reference35Ideal.nD Cert.Reference35Ideal.τ).loc Cert.Reference35Ideal.main_arg13) = m ((c.tc : Thread Cert.Kernel35Ideal.nD Cert.Kernel35Ideal.τ).loc Cert.Kernel35Ideal.main_arg13)
      ∧ m' ((c.tc : Thread Cert.Reference35Ideal.nD Cert.Reference35Ideal.τ).loc Cert.Reference35Ideal.main_arg14) = m ((c.tc : Thread Cert.Kernel35Ideal.nD Cert.Kernel35Ideal.τ).loc Cert.Kernel35Ideal.main_arg14)
      ∧ m' ((c.tc : Thread Cert.Reference35Ideal.nD Cert.Reference35Ideal.τ).loc Cert.Reference35Ideal.main_arg15) = m ((c.tc : Thread Cert.Kernel35Ideal.nD Cert.Kernel35Ideal.τ).loc Cert.Kernel35Ideal.main_arg15)
      ∧ m' ((c.tc : Thread Cert.Reference35Ideal.nD Cert.Reference35Ideal.τ).loc Cert.Reference35Ideal.main_arg16) = m ((c.tc : Thread Cert.Kernel35Ideal.nD Cert.Kernel35Ideal.τ).loc Cert.Kernel35Ideal.main_arg16)
      ∧ m' ((c.tc : Thread Cert.Reference35Ideal.nD Cert.Reference35Ideal.τ).loc Cert.Reference35Ideal.main_arg17) = m ((c.tc : Thread Cert.Kernel35Ideal.nD Cert.Kernel35Ideal.τ).loc Cert.Kernel35Ideal.main_arg17)
      ∧ m' ((c.tc : Thread Cert.Reference35Ideal.nD Cert.Reference35Ideal.τ).loc Cert.Reference35Ideal.main_arg18) = m ((c.tc : Thread Cert.Kernel35Ideal.nD Cert.Kernel35Ideal.τ).loc Cert.Kernel35Ideal.main_arg18)
      ∧ m' ((c.tc : Thread Cert.Reference35Ideal.nD Cert.Reference35Ideal.τ).loc Cert.Reference35Ideal.main_arg19) = m ((c.tc : Thread Cert.Kernel35Ideal.nD Cert.Kernel35Ideal.τ).loc Cert.Kernel35Ideal.main_arg19)
      ∧ m' ((c.tc : Thread Cert.Reference35Ideal.nD Cert.Reference35Ideal.τ).loc Cert.Reference35Ideal.main_arg20) = m ((c.tc : Thread Cert.Kernel35Ideal.nD Cert.Kernel35Ideal.τ).loc Cert.Kernel35Ideal.main_arg20)
      ∧ m' ((c.tc : Thread Cert.Reference35Ideal.nD Cert.Reference35Ideal.τ).loc Cert.Reference35Ideal.main_arg21) = m ((c.tc : Thread Cert.Kernel35Ideal.nD Cert.Kernel35Ideal.τ).loc Cert.Kernel35Ideal.main_arg21)
      ∧ m' ((c.tc : Thread Cert.Reference35Ideal.nD Cert.Reference35Ideal.τ).loc Cert.Reference35Ideal.main_arg22) = m ((c.tc : Thread Cert.Kernel35Ideal.nD Cert.Kernel35Ideal.τ).loc Cert.Kernel35Ideal.main_arg22)
      ∧ m' ((c.tc : Thread Cert.Reference35Ideal.nD Cert.Reference35Ideal.τ).loc Cert.Reference35Ideal.main_arg23) = m ((c.tc : Thread Cert.Kernel35Ideal.nD Cert.Kernel35Ideal.τ).loc Cert.Kernel35Ideal.main_arg23)
      ∧ m' ((c.tc : Thread Cert.Reference35Ideal.nD Cert.Reference35Ideal.τ).loc Cert.Reference35Ideal.main_arg24) = m ((c.tc : Thread Cert.Kernel35Ideal.nD Cert.Kernel35Ideal.τ).loc Cert.Kernel35Ideal.main_arg24)
      ∧ m' ((c.tc : Thread Cert.Reference35Ideal.nD Cert.Reference35Ideal.τ).loc Cert.Reference35Ideal.main_arg25) = m ((c.tc : Thread Cert.Kernel35Ideal.nD Cert.Kernel35Ideal.τ).loc Cert.Kernel35Ideal.main_arg25)
      ∧ m' ((c.tc : Thread Cert.Reference35Ideal.nD Cert.Reference35Ideal.τ).loc Cert.Reference35Ideal.main_arg26) = m ((c.tc : Thread Cert.Kernel35Ideal.nD Cert.Kernel35Ideal.τ).loc Cert.Kernel35Ideal.main_arg26)
      ∧ m' ((c.tc : Thread Cert.Reference35Ideal.nD Cert.Reference35Ideal.τ).loc Cert.Reference35Ideal.main_arg27) = m ((c.tc : Thread Cert.Kernel35Ideal.nD Cert.Kernel35Ideal.τ).loc Cert.Kernel35Ideal.main_arg27)
      ∧ m' ((c.tc : Thread Cert.Reference35Ideal.nD Cert.Reference35Ideal.τ).loc Cert.Reference35Ideal.main_arg28) = m ((c.tc : Thread Cert.Kernel35Ideal.nD Cert.Kernel35Ideal.τ).loc Cert.Kernel35Ideal.main_arg28)
      ∧ m' ((c.tc : Thread Cert.Reference35Ideal.nD Cert.Reference35Ideal.τ).loc Cert.Reference35Ideal.main_arg29) = m ((c.tc : Thread Cert.Kernel35Ideal.nD Cert.Kernel35Ideal.τ).loc Cert.Kernel35Ideal.main_arg29)
      ∧ m' ((c.tc : Thread Cert.Reference35Ideal.nD Cert.Reference35Ideal.τ).loc Cert.Reference35Ideal.main_arg30) = m ((c.tc : Thread Cert.Kernel35Ideal.nD Cert.Kernel35Ideal.τ).loc Cert.Kernel35Ideal.main_arg30)
      ∧ m' ((c.tc : Thread Cert.Reference35Ideal.nD Cert.Reference35Ideal.τ).loc Cert.Reference35Ideal.main_arg31) = m ((c.tc : Thread Cert.Kernel35Ideal.nD Cert.Kernel35Ideal.τ).loc Cert.Kernel35Ideal.main_arg31)
      ∧ m' ((c.tc : Thread Cert.Reference35Ideal.nD Cert.Reference35Ideal.τ).loc Cert.Reference35Ideal.main_arg32) = m ((c.tc : Thread Cert.Kernel35Ideal.nD Cert.Kernel35Ideal.τ).loc Cert.Kernel35Ideal.main_arg32)
      ∧ m' ((c.tc : Thread Cert.Reference35Ideal.nD Cert.Reference35Ideal.τ).loc Cert.Reference35Ideal.main_arg33) = m ((c.tc : Thread Cert.Kernel35Ideal.nD Cert.Kernel35Ideal.τ).loc Cert.Kernel35Ideal.main_arg33)
      ∧ m' ((c.tc : Thread Cert.Reference35Ideal.nD Cert.Reference35Ideal.τ).loc Cert.Reference35Ideal.main_arg34) = m ((c.tc : Thread Cert.Kernel35Ideal.nD Cert.Kernel35Ideal.τ).loc Cert.Kernel35Ideal.main_arg34)
      ∧ m' ((c.tc : Thread Cert.Reference35Ideal.nD Cert.Reference35Ideal.τ).loc Cert.Reference35Ideal.main_arg35) = m ((c.tc : Thread Cert.Kernel35Ideal.nD Cert.Kernel35Ideal.τ).loc Cert.Kernel35Ideal.main_arg35)) →
    ∃ (v0 : (c : Dev Cert.Kernel35Ideal.nD) → Buf (Elt Ideal) ((c.tc : Thread Cert.Kernel35Ideal.nD Cert.Kernel35Ideal.τ).loc Cert.Kernel35Ideal.main_v44_0)) (v1 : (c : Dev Cert.Kernel35Ideal.nD) → Buf (Elt Ideal) ((c.tc : Thread Cert.Kernel35Ideal.nD Cert.Kernel35Ideal.τ).loc Cert.Kernel35Ideal.main_v44_1)) (v2 : (c : Dev Cert.Kernel35Ideal.nD) → Buf (Elt Ideal) ((c.tc : Thread Cert.Kernel35Ideal.nD Cert.Kernel35Ideal.τ).loc Cert.Kernel35Ideal.main_v44_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v44_0) = v0 c
          ∧ r.2.mem ((c.tc : Thread Cert.Kernel35Ideal.nD Cert.Kernel35Ideal.τ).loc Cert.Kernel35Ideal.main_v44_1) = v1 c
          ∧ r.2.mem ((c.tc : Thread Cert.Kernel35Ideal.nD Cert.Kernel35Ideal.τ).loc Cert.Kernel35Ideal.main_v44_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
          ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6)
          ∧ r.2.mem ((c.tc : Thread Cert.Kernel35Ideal.nD Cert.Kernel35Ideal.τ).loc Cert.Kernel35Ideal.main_arg7) = m ((c.tc : Thread Cert.Kernel35Ideal.nD Cert.Kernel35Ideal.τ).loc Cert.Kernel35Ideal.main_arg7)
          ∧ r.2.mem ((c.tc : Thread Cert.Kernel35Ideal.nD Cert.Kernel35Ideal.τ).loc Cert.Kernel35Ideal.main_arg8) = m ((c.tc : Thread Cert.Kernel35Ideal.nD Cert.Kernel35Ideal.τ).loc Cert.Kernel35Ideal.main_arg8)
          ∧ r.2.mem ((c.tc : Thread Cert.Kernel35Ideal.nD Cert.Kernel35Ideal.τ).loc Cert.Kernel35Ideal.main_arg9) = m ((c.tc : Thread Cert.Kernel35Ideal.nD Cert.Kernel35Ideal.τ).loc Cert.Kernel35Ideal.main_arg9)
          ∧ r.2.mem ((c.tc : Thread Cert.Kernel35Ideal.nD Cert.Kernel35Ideal.τ).loc Cert.Kernel35Ideal.main_arg10) = m ((c.tc : Thread Cert.Kernel35Ideal.nD Cert.Kernel35Ideal.τ).loc Cert.Kernel35Ideal.main_arg10)
          ∧ r.2.mem ((c.tc : Thread Cert.Kernel35Ideal.nD Cert.Kernel35Ideal.τ).loc Cert.Kernel35Ideal.main_arg11) = m ((c.tc : Thread Cert.Kernel35Ideal.nD Cert.Kernel35Ideal.τ).loc Cert.Kernel35Ideal.main_arg11)
          ∧ r.2.mem ((c.tc : Thread Cert.Kernel35Ideal.nD Cert.Kernel35Ideal.τ).loc Cert.Kernel35Ideal.main_arg12) = m ((c.tc : Thread Cert.Kernel35Ideal.nD Cert.Kernel35Ideal.τ).loc Cert.Kernel35Ideal.main_arg12)
          ∧ r.2.mem ((c.tc : Thread Cert.Kernel35Ideal.nD Cert.Kernel35Ideal.τ).loc Cert.Kernel35Ideal.main_arg13) = m ((c.tc : Thread Cert.Kernel35Ideal.nD Cert.Kernel35Ideal.τ).loc Cert.Kernel35Ideal.main_arg13)
          ∧ r.2.mem ((c.tc : Thread Cert.Kernel35Ideal.nD Cert.Kernel35Ideal.τ).loc Cert.Kernel35Ideal.main_arg14) = m ((c.tc : Thread Cert.Kernel35Ideal.nD Cert.Kernel35Ideal.τ).loc Cert.Kernel35Ideal.main_arg14)
          ∧ r.2.mem ((c.tc : Thread Cert.Kernel35Ideal.nD Cert.Kernel35Ideal.τ).loc Cert.Kernel35Ideal.main_arg15) = m ((c.tc : Thread Cert.Kernel35Ideal.nD Cert.Kernel35Ideal.τ).loc Cert.Kernel35Ideal.main_arg15)
          ∧ r.2.mem ((c.tc : Thread Cert.Kernel35Ideal.nD Cert.Kernel35Ideal.τ).loc Cert.Kernel35Ideal.main_arg16) = m ((c.tc : Thread Cert.Kernel35Ideal.nD Cert.Kernel35Ideal.τ).loc Cert.Kernel35Ideal.main_arg16)
          ∧ r.2.mem ((c.tc : Thread Cert.Kernel35Ideal.nD Cert.Kernel35Ideal.τ).loc Cert.Kernel35Ideal.main_arg17) = m ((c.tc : Thread Cert.Kernel35Ideal.nD Cert.Kernel35Ideal.τ).loc Cert.Kernel35Ideal.main_arg17)
          ∧ r.2.mem ((c.tc : Thread Cert.Kernel35Ideal.nD Cert.Kernel35Ideal.τ).loc Cert.Kernel35Ideal.main_arg18) = m ((c.tc : Thread Cert.Kernel35Ideal.nD Cert.Kernel35Ideal.τ).loc Cert.Kernel35Ideal.main_arg18)
          ∧ r.2.mem ((c.tc : Thread Cert.Kernel35Ideal.nD Cert.Kernel35Ideal.τ).loc Cert.Kernel35Ideal.main_arg19) = m ((c.tc : Thread Cert.Kernel35Ideal.nD Cert.Kernel35Ideal.τ).loc Cert.Kernel35Ideal.main_arg19)
          ∧ r.2.mem ((c.tc : Thread Cert.Kernel35Ideal.nD Cert.Kernel35Ideal.τ).loc Cert.Kernel35Ideal.main_arg20) = m ((c.tc : Thread Cert.Kernel35Ideal.nD Cert.Kernel35Ideal.τ).loc Cert.Kernel35Ideal.main_arg20)
          ∧ r.2.mem ((c.tc : Thread Cert.Kernel35Ideal.nD Cert.Kernel35Ideal.τ).loc Cert.Kernel35Ideal.main_arg21) = m ((c.tc : Thread Cert.Kernel35Ideal.nD Cert.Kernel35Ideal.τ).loc Cert.Kernel35Ideal.main_arg21)
          ∧ r.2.mem ((c.tc : Thread Cert.Kernel35Ideal.nD Cert.Kernel35Ideal.τ).loc Cert.Kernel35Ideal.main_arg22) = m ((c.tc : Thread Cert.Kernel35Ideal.nD Cert.Kernel35Ideal.τ).loc Cert.Kernel35Ideal.main_arg22)
          ∧ r.2.mem ((c.tc : Thread Cert.Kernel35Ideal.nD Cert.Kernel35Ideal.τ).loc Cert.Kernel35Ideal.main_arg23) = m ((c.tc : Thread Cert.Kernel35Ideal.nD Cert.Kernel35Ideal.τ).loc Cert.Kernel35Ideal.main_arg23)
          ∧ r.2.mem ((c.tc : Thread Cert.Kernel35Ideal.nD Cert.Kernel35Ideal.τ).loc Cert.Kernel35Ideal.main_arg24) = m ((c.tc : Thread Cert.Kernel35Ideal.nD Cert.Kernel35Ideal.τ).loc Cert.Kernel35Ideal.main_arg24)
          ∧ r.2.mem ((c.tc : Thread Cert.Kernel35Ideal.nD Cert.Kernel35Ideal.τ).loc Cert.Kernel35Ideal.main_arg25) = m ((c.tc : Thread Cert.Kernel35Ideal.nD Cert.Kernel35Ideal.τ).loc Cert.Kernel35Ideal.main_arg25)
          ∧ r.2.mem ((c.tc : Thread Cert.Kernel35Ideal.nD Cert.Kernel35Ideal.τ).loc Cert.Kernel35Ideal.main_arg26) = m ((c.tc : Thread Cert.Kernel35Ideal.nD Cert.Kernel35Ideal.τ).loc Cert.Kernel35Ideal.main_arg26)
          ∧ r.2.mem ((c.tc : Thread Cert.Kernel35Ideal.nD Cert.Kernel35Ideal.τ).loc Cert.Kernel35Ideal.main_arg27) = m ((c.tc : Thread Cert.Kernel35Ideal.nD Cert.Kernel35Ideal.τ).loc Cert.Kernel35Ideal.main_arg27)
          ∧ r.2.mem ((c.tc : Thread Cert.Kernel35Ideal.nD Cert.Kernel35Ideal.τ).loc Cert.Kernel35Ideal.main_arg28) = m ((c.tc : Thread Cert.Kernel35Ideal.nD Cert.Kernel35Ideal.τ).loc Cert.Kernel35Ideal.main_arg28)
          ∧ r.2.mem ((c.tc : Thread Cert.Kernel35Ideal.nD Cert.Kernel35Ideal.τ).loc Cert.Kernel35Ideal.main_arg29) = m ((c.tc : Thread Cert.Kernel35Ideal.nD Cert.Kernel35Ideal.τ).loc Cert.Kernel35Ideal.main_arg29)
          ∧ r.2.mem ((c.tc : Thread Cert.Kernel35Ideal.nD Cert.Kernel35Ideal.τ).loc Cert.Kernel35Ideal.main_arg30) = m ((c.tc : Thread Cert.Kernel35Ideal.nD Cert.Kernel35Ideal.τ).loc Cert.Kernel35Ideal.main_arg30)
          ∧ r.2.mem ((c.tc : Thread Cert.Kernel35Ideal.nD Cert.Kernel35Ideal.τ).loc Cert.Kernel35Ideal.main_arg31) = m ((c.tc : Thread Cert.Kernel35Ideal.nD Cert.Kernel35Ideal.τ).loc Cert.Kernel35Ideal.main_arg31)
          ∧ r.2.mem ((c.tc : Thread Cert.Kernel35Ideal.nD Cert.Kernel35Ideal.τ).loc Cert.Kernel35Ideal.main_arg32) = m ((c.tc : Thread Cert.Kernel35Ideal.nD Cert.Kernel35Ideal.τ).loc Cert.Kernel35Ideal.main_arg32)
          ∧ r.2.mem ((c.tc : Thread Cert.Kernel35Ideal.nD Cert.Kernel35Ideal.τ).loc Cert.Kernel35Ideal.main_arg33) = m ((c.tc : Thread Cert.Kernel35Ideal.nD Cert.Kernel35Ideal.τ).loc Cert.Kernel35Ideal.main_arg33)
          ∧ r.2.mem ((c.tc : Thread Cert.Kernel35Ideal.nD Cert.Kernel35Ideal.τ).loc Cert.Kernel35Ideal.main_arg34) = m ((c.tc : Thread Cert.Kernel35Ideal.nD Cert.Kernel35Ideal.τ).loc Cert.Kernel35Ideal.main_arg34)
          ∧ r.2.mem ((c.tc : Thread Cert.Kernel35Ideal.nD Cert.Kernel35Ideal.τ).loc Cert.Kernel35Ideal.main_arg35) = m ((c.tc : Thread Cert.Kernel35Ideal.nD Cert.Kernel35Ideal.τ).loc Cert.Kernel35Ideal.main_arg35))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v226) = v0 c
          ∧ r.2.mem ((c.tc : Thread Cert.Reference35Ideal.nD Cert.Reference35Ideal.τ).loc Cert.Reference35Ideal.main_v237) = v1 c
          ∧ r.2.mem ((c.tc : Thread Cert.Reference35Ideal.nD Cert.Reference35Ideal.τ).loc Cert.Reference35Ideal.main_v248) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5)
          ∧ r.2.mem ((c.tc : Thread Cert.Reference35Ideal.nD Cert.Reference35Ideal.τ).loc Cert.Reference35Ideal.main_arg6) = m' ((c.tc : Thread Cert.Reference35Ideal.nD Cert.Reference35Ideal.τ).loc Cert.Reference35Ideal.main_arg6)
          ∧ r.2.mem ((c.tc : Thread Cert.Reference35Ideal.nD Cert.Reference35Ideal.τ).loc Cert.Reference35Ideal.main_arg7) = m' ((c.tc : Thread Cert.Reference35Ideal.nD Cert.Reference35Ideal.τ).loc Cert.Reference35Ideal.main_arg7)
          ∧ r.2.mem ((c.tc : Thread Cert.Reference35Ideal.nD Cert.Reference35Ideal.τ).loc Cert.Reference35Ideal.main_arg8) = m' ((c.tc : Thread Cert.Reference35Ideal.nD Cert.Reference35Ideal.τ).loc Cert.Reference35Ideal.main_arg8)
          ∧ r.2.mem ((c.tc : Thread Cert.Reference35Ideal.nD Cert.Reference35Ideal.τ).loc Cert.Reference35Ideal.main_arg9) = m' ((c.tc : Thread Cert.Reference35Ideal.nD Cert.Reference35Ideal.τ).loc Cert.Reference35Ideal.main_arg9)
          ∧ r.2.mem ((c.tc : Thread Cert.Reference35Ideal.nD Cert.Reference35Ideal.τ).loc Cert.Reference35Ideal.main_arg10) = m' ((c.tc : Thread Cert.Reference35Ideal.nD Cert.Reference35Ideal.τ).loc Cert.Reference35Ideal.main_arg10)
          ∧ r.2.mem ((c.tc : Thread Cert.Reference35Ideal.nD Cert.Reference35Ideal.τ).loc Cert.Reference35Ideal.main_arg11) = m' ((c.tc : Thread Cert.Reference35Ideal.nD Cert.Reference35Ideal.τ).loc Cert.Reference35Ideal.main_arg11)
          ∧ r.2.mem ((c.tc : Thread Cert.Reference35Ideal.nD Cert.Reference35Ideal.τ).loc Cert.Reference35Ideal.main_arg12) = m' ((c.tc : Thread Cert.Reference35Ideal.nD Cert.Reference35Ideal.τ).loc Cert.Reference35Ideal.main_arg12)
          ∧ r.2.mem ((c.tc : Thread Cert.Reference35Ideal.nD Cert.Reference35Ideal.τ).loc Cert.Reference35Ideal.main_arg13) = m' ((c.tc : Thread Cert.Reference35Ideal.nD Cert.Reference35Ideal.τ).loc Cert.Reference35Ideal.main_arg13)
          ∧ r.2.mem ((c.tc : Thread Cert.Reference35Ideal.nD Cert.Reference35Ideal.τ).loc Cert.Reference35Ideal.main_arg14) = m' ((c.tc : Thread Cert.Reference35Ideal.nD Cert.Reference35Ideal.τ).loc Cert.Reference35Ideal.main_arg14)
          ∧ r.2.mem ((c.tc : Thread Cert.Reference35Ideal.nD Cert.Reference35Ideal.τ).loc Cert.Reference35Ideal.main_arg15) = m' ((c.tc : Thread Cert.Reference35Ideal.nD Cert.Reference35Ideal.τ).loc Cert.Reference35Ideal.main_arg15)
          ∧ r.2.mem ((c.tc : Thread Cert.Reference35Ideal.nD Cert.Reference35Ideal.τ).loc Cert.Reference35Ideal.main_arg16) = m' ((c.tc : Thread Cert.Reference35Ideal.nD Cert.Reference35Ideal.τ).loc Cert.Reference35Ideal.main_arg16)
          ∧ r.2.mem ((c.tc : Thread Cert.Reference35Ideal.nD Cert.Reference35Ideal.τ).loc Cert.Reference35Ideal.main_arg17) = m' ((c.tc : Thread Cert.Reference35Ideal.nD Cert.Reference35Ideal.τ).loc Cert.Reference35Ideal.main_arg17)
          ∧ r.2.mem ((c.tc : Thread Cert.Reference35Ideal.nD Cert.Reference35Ideal.τ).loc Cert.Reference35Ideal.main_arg18) = m' ((c.tc : Thread Cert.Reference35Ideal.nD Cert.Reference35Ideal.τ).loc Cert.Reference35Ideal.main_arg18)
          ∧ r.2.mem ((c.tc : Thread Cert.Reference35Ideal.nD Cert.Reference35Ideal.τ).loc Cert.Reference35Ideal.main_arg19) = m' ((c.tc : Thread Cert.Reference35Ideal.nD Cert.Reference35Ideal.τ).loc Cert.Reference35Ideal.main_arg19)
          ∧ r.2.mem ((c.tc : Thread Cert.Reference35Ideal.nD Cert.Reference35Ideal.τ).loc Cert.Reference35Ideal.main_arg20) = m' ((c.tc : Thread Cert.Reference35Ideal.nD Cert.Reference35Ideal.τ).loc Cert.Reference35Ideal.main_arg20)
          ∧ r.2.mem ((c.tc : Thread Cert.Reference35Ideal.nD Cert.Reference35Ideal.τ).loc Cert.Reference35Ideal.main_arg21) = m' ((c.tc : Thread Cert.Reference35Ideal.nD Cert.Reference35Ideal.τ).loc Cert.Reference35Ideal.main_arg21)
          ∧ r.2.mem ((c.tc : Thread Cert.Reference35Ideal.nD Cert.Reference35Ideal.τ).loc Cert.Reference35Ideal.main_arg22) = m' ((c.tc : Thread Cert.Reference35Ideal.nD Cert.Reference35Ideal.τ).loc Cert.Reference35Ideal.main_arg22)
          ∧ r.2.mem ((c.tc : Thread Cert.Reference35Ideal.nD Cert.Reference35Ideal.τ).loc Cert.Reference35Ideal.main_arg23) = m' ((c.tc : Thread Cert.Reference35Ideal.nD Cert.Reference35Ideal.τ).loc Cert.Reference35Ideal.main_arg23)
          ∧ r.2.mem ((c.tc : Thread Cert.Reference35Ideal.nD Cert.Reference35Ideal.τ).loc Cert.Reference35Ideal.main_arg24) = m' ((c.tc : Thread Cert.Reference35Ideal.nD Cert.Reference35Ideal.τ).loc Cert.Reference35Ideal.main_arg24)
          ∧ r.2.mem ((c.tc : Thread Cert.Reference35Ideal.nD Cert.Reference35Ideal.τ).loc Cert.Reference35Ideal.main_arg25) = m' ((c.tc : Thread Cert.Reference35Ideal.nD Cert.Reference35Ideal.τ).loc Cert.Reference35Ideal.main_arg25)
          ∧ r.2.mem ((c.tc : Thread Cert.Reference35Ideal.nD Cert.Reference35Ideal.τ).loc Cert.Reference35Ideal.main_arg26) = m' ((c.tc : Thread Cert.Reference35Ideal.nD Cert.Reference35Ideal.τ).loc Cert.Reference35Ideal.main_arg26)
          ∧ r.2.mem ((c.tc : Thread Cert.Reference35Ideal.nD Cert.Reference35Ideal.τ).loc Cert.Reference35Ideal.main_arg27) = m' ((c.tc : Thread Cert.Reference35Ideal.nD Cert.Reference35Ideal.τ).loc Cert.Reference35Ideal.main_arg27)
          ∧ r.2.mem ((c.tc : Thread Cert.Reference35Ideal.nD Cert.Reference35Ideal.τ).loc Cert.Reference35Ideal.main_arg28) = m' ((c.tc : Thread Cert.Reference35Ideal.nD Cert.Reference35Ideal.τ).loc Cert.Reference35Ideal.main_arg28)
          ∧ r.2.mem ((c.tc : Thread Cert.Reference35Ideal.nD Cert.Reference35Ideal.τ).loc Cert.Reference35Ideal.main_arg29) = m' ((c.tc : Thread Cert.Reference35Ideal.nD Cert.Reference35Ideal.τ).loc Cert.Reference35Ideal.main_arg29)
          ∧ r.2.mem ((c.tc : Thread Cert.Reference35Ideal.nD Cert.Reference35Ideal.τ).loc Cert.Reference35Ideal.main_arg30) = m' ((c.tc : Thread Cert.Reference35Ideal.nD Cert.Reference35Ideal.τ).loc Cert.Reference35Ideal.main_arg30)
          ∧ r.2.mem ((c.tc : Thread Cert.Reference35Ideal.nD Cert.Reference35Ideal.τ).loc Cert.Reference35Ideal.main_arg31) = m' ((c.tc : Thread Cert.Reference35Ideal.nD Cert.Reference35Ideal.τ).loc Cert.Reference35Ideal.main_arg31)
          ∧ r.2.mem ((c.tc : Thread Cert.Reference35Ideal.nD Cert.Reference35Ideal.τ).loc Cert.Reference35Ideal.main_arg32) = m' ((c.tc : Thread Cert.Reference35Ideal.nD Cert.Reference35Ideal.τ).loc Cert.Reference35Ideal.main_arg32)
          ∧ r.2.mem ((c.tc : Thread Cert.Reference35Ideal.nD Cert.Reference35Ideal.τ).loc Cert.Reference35Ideal.main_arg33) = m' ((c.tc : Thread Cert.Reference35Ideal.nD Cert.Reference35Ideal.τ).loc Cert.Reference35Ideal.main_arg33)
          ∧ r.2.mem ((c.tc : Thread Cert.Reference35Ideal.nD Cert.Reference35Ideal.τ).loc Cert.Reference35Ideal.main_arg34) = m' ((c.tc : Thread Cert.Reference35Ideal.nD Cert.Reference35Ideal.τ).loc Cert.Reference35Ideal.main_arg34)
          ∧ r.2.mem ((c.tc : Thread Cert.Reference35Ideal.nD Cert.Reference35Ideal.τ).loc Cert.Reference35Ideal.main_arg35) = m' ((c.tc : Thread Cert.Reference35Ideal.nD Cert.Reference35Ideal.τ).loc Cert.Reference35Ideal.main_arg35))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hPre_real_scores : Cert.Pre_real_scores.Facts) (hPre_real_gates : Cert.Pre_real_gates.Facts) (hPre_real_scores_b : Cert.Pre_real_scores_b.Facts),
    quiescent_Kernel (hKernel := hKernel)
    ∧ quiescent_KernelIdeal (hKernelIdeal := hKernelIdeal)
    ∧ quiescent_KernelIdeal_pre_real_scores (hKernelIdeal := hKernelIdeal) (hPre_real_scores := hPre_real_scores)
    ∧ quiescent_ReferenceIdeal (hReferenceIdeal := hReferenceIdeal)
    ∧ quiescent_ReferenceIdeal_pre_real_scores (hReferenceIdeal := hReferenceIdeal) (hPre_real_scores := hPre_real_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Kernel25Ideal_pre_real_gates (hKernel25Ideal := hKernel25Ideal) (hPre_real_gates := hPre_real_gates)
    ∧ quiescent_Reference25Ideal (hReference25Ideal := hReference25Ideal)
    ∧ quiescent_Reference25Ideal_pre_real_gates (hReference25Ideal := hReference25Ideal) (hPre_real_gates := hPre_real_gates)
    ∧ quiescent_Kernel27 (hKernel27 := hKernel27)
    ∧ quiescent_Kernel27Ideal (hKernel27Ideal := hKernel27Ideal)
    ∧ quiescent_Kernel27Ideal_pre_real_scores_b (hKernel27Ideal := hKernel27Ideal) (hPre_real_scores_b := hPre_real_scores_b)
    ∧ quiescent_Reference27Ideal (hReference27Ideal := hReference27Ideal)
    ∧ quiescent_Reference27Ideal_pre_real_scores_b (hReference27Ideal := hReference27Ideal) (hPre_real_scores_b := hPre_real_scores_b)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ algebraic_KernelIdeal_ReferenceIdeal_pre_real_scores (hKernelIdeal := hKernelIdeal) (hReferenceIdeal := hReferenceIdeal) (hPre_real_scores := hPre_real_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal_pre_real_gates (hKernel25Ideal := hKernel25Ideal) (hReference25Ideal := hReference25Ideal) (hPre_real_gates := hPre_real_gates)
    ∧ preserves_Kernel27_Kernel27Ideal
    ∧ algebraic_Kernel27Ideal_Reference27Ideal_pre_real_scores_b (hKernel27Ideal := hKernel27Ideal) (hReference27Ideal := hReference27Ideal) (hPre_real_scores_b := hPre_real_scores_b)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Pre_real_gates.lean ====
abbrev S2048x3584 : Shape := ⟨2, ![2048, 3584]⟩
abbrev S1536 : Shape := ⟨1, ![1536]⟩
abbrev S12x128x128 : Shape := ⟨3, ![12, 128, 128]⟩
abbrev S12x128 : Shape := ⟨2, ![12, 128]⟩
abbrev S2048x2048 : Shape := ⟨2, ![2048, 2048]⟩
abbrev S2048x3072 : Shape := ⟨2, ![2048, 3072]⟩
abbrev S_ : Shape := ⟨0, ![]⟩
abbrev S2048x1536 : Shape := ⟨2, ![2048, 1536]⟩

class Facts : Prop where
  slices_S2048x3584_S2048x3072_0_0 : S2048x3584.Slices ![0, 0] S2048x3072
  bcast_S_S2048x3072 : S_.BroadcastsInDim S2048x3072 (![] : Fin 0 → Fin S2048x3072.rank)
  bcast_S_S1536 : S_.BroadcastsInDim S1536 (![] : Fin 0 → Fin S1536.rank)
  bcast_S_S12x128x128 : S_.BroadcastsInDim S12x128x128 (![] : Fin 0 → Fin S12x128x128.rank)
  bcast_S_S12x128 : S_.BroadcastsInDim S12x128 (![] : Fin 0 → Fin S12x128.rank)
  slices_S2048x2048_S2048x1536_0_0 : S2048x2048.Slices ![0, 0] S2048x1536
  bcast_S_S2048x1536 : S_.BroadcastsInDim S2048x1536 (![] : Fin 0 → Fin S2048x1536.rank)

variable [Facts]

def fn {F : FTy → Type} [FloatOps F] (main_arg0 : FVec F S2048x3584 .f32) (main_arg1 : FVec F S1536 .f32) (main_arg2 : FVec F S12x128x128 .f32) (main_arg3 : FVec F S12x128 .f32) (main_arg4 : FVec F S2048x2048 .f32) : IVec S2048x3072 1 × IVec S1536 1 × IVec S12x128x128 1 × IVec S12x128 1 × IVec S2048x1536 1 :=
  let main_v0 : FVec F S2048x3072 .f32 := (extractStridedSlice S2048x3072 ![0, 0] · slices_S2048x3584_S2048x3072_0_0) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_v4 : FVec F S1536 .f32 := Host.absf main_arg1
  let main_cst_0 : FVec F S_ .f32 := constant S_ .f32 0x7F800000#32
  let main_v5 : FVec F S1536 .f32 := broadcastInDim S1536 ![] bcast_S_S1536 main_cst_0
  let main_v6 : IVec S1536 1 := cmpf .olt main_v4 main_v5
  let main_v7 : FVec F S12x128x128 .f32 := Host.absf main_arg2
  let main_cst_1 : FVec F S_ .f32 := constant S_ .f32 0x7F800000#32
  let main_v8 : FVec F S12x128x128 .f32 := broadcastInDim S12x128x128 ![] bcast_S_S12x128x128 main_cst_1
  let main_v9 : IVec S12x128x128 1 := cmpf .olt main_v7 main_v8
  let main_v10 : FVec F S12x128 .f32 := Host.absf main_arg3
  let main_cst_2 : FVec F S_ .f32 := constant S_ .f32 0x7F800000#32
  let main_v11 : FVec F S12x128 .f32 := broadcastInDim S12x128 ![] bcast_S_S12x128 main_cst_2
  let main_v12 : IVec S12x128 1 := cmpf .olt main_v10 main_v11
  let main_v13 : FVec F S2048x1536 .f32 := (extractStridedSlice S2048x1536 ![0, 0] · slices_S2048x2048_S2048x1536_0_0) main_arg4
  let main_v14 : FVec F S2048x1536 .f32 := Host.absf main_v13
  let main_cst_3 : FVec F S_ .f32 := constant S_ .f32 0x7F800000#32
  let main_v15 : FVec F S2048x1536 .f32 := broadcastInDim S2048x1536 ![] bcast_S_S2048x1536 main_cst_3
  let main_v16 : IVec S2048x1536 1 := cmpf .olt main_v14 main_v15
  (main_v3, main_v6, main_v9, main_v12, main_v16)
-- ==== Pre_real_scores.lean ====
abbrev S2048x5120 : Shape := ⟨2, ![2048, 5120]⟩
abbrev S256x1024 : Shape := ⟨2, ![256, 1024]⟩
abbrev S2048x1024 : Shape := ⟨2, ![2048, 1024]⟩
abbrev S2048x512 : Shape := ⟨2, ![2048, 512]⟩
abbrev S_ : Shape := ⟨0, ![]⟩
abbrev S256x512 : Shape := ⟨2, ![256, 512]⟩

class Facts : Prop where
  slices_S2048x5120_S2048x512_0_4608 : S2048x5120.Slices ![0, 4608] S2048x512
  bcast_S_S2048x512 : S_.BroadcastsInDim S2048x512 (![] : Fin 0 → Fin S2048x512.rank)
  slices_S256x1024_S256x512_0_0 : S256x1024.Slices ![0, 0] S256x512
  bcast_S_S256x512 : S_.BroadcastsInDim S256x512 (![] : Fin 0 → Fin S256x512.rank)

variable [Facts]

def fn {F : FTy → Type} [FloatOps F] (main_arg0 : FVec F S2048x5120 .f32) (main_arg1 : FVec F S256x1024 .f32) (main_arg2 : FVec F S2048x1024 .f32) : IVec S2048x512 1 × IVec S256x512 1 :=
  let main_v0 : FVec F S2048x512 .f32 := (extractStridedSlice S2048x512 ![0, 4608] · slices_S2048x5120_S2048x512_0_4608) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S256x512 .f32 := (extractStridedSlice S256x512 ![0, 0] · slices_S256x1024_S256x512_0_0) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  (main_v3, main_v7)
-- ==== Pre_real_scores_b.lean ====
abbrev S2048x3584 : Shape := ⟨2, ![2048, 3584]⟩
abbrev S256x1024 : Shape := ⟨2, ![256, 1024]⟩
abbrev S2048x2048 : Shape := ⟨2, ![2048, 2048]⟩
abbrev S2048x512 : Shape := ⟨2, ![2048, 512]⟩
abbrev S_ : Shape := ⟨0, ![]⟩
abbrev S256x512 : Shape := ⟨2, ![256, 512]⟩

class Facts : Prop where
  slices_S2048x3584_S2048x512_0_3072 : S2048x3584.Slices ![0, 3072] S2048x512
  bcast_S_S2048x512 : S_.BroadcastsInDim S2048x512 (![] : Fin 0 → Fin S2048x512.rank)
  slices_S256x1024_S256x512_0_0 : S256x1024.Slices ![0, 0] S256x512
  bcast_S_S256x512 : S_.BroadcastsInDim S256x512 (![] : Fin 0 → Fin S256x512.rank)

variable [Facts]

def fn {F : FTy → Type} [FloatOps F] (main_arg0 : FVec F S2048x3584 .f32) (main_arg1 : FVec F S256x1024 .f32) (main_arg2 : FVec F S2048x2048 .f32) : IVec S2048x512 1 × IVec S256x512 1 :=
  let main_v0 : FVec F S2048x512 .f32 := (extractStridedSlice S2048x512 ![0, 3072] · slices_S2048x3584_S2048x512_0_3072) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S256x512 .f32 := (extractStridedSlice S256x512 ![0, 0] · slices_S256x1024_S256x512_0_0) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  (main_v3, main_v7)
-- ==== Kernel.lean ====
abbrev S2048x5120 : Shape := ⟨2, ![2048, 5120]⟩
abbrev S256x1024 : Shape := ⟨2, ![256, 1024]⟩
abbrev S2048x1024 : Shape := ⟨2, ![2048, 1024]⟩
abbrev S2048x512 : Shape := ⟨2, ![2048, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S2048x5120, .f32⟩
  | .hbm, ⟨1, _⟩ => ⟨S256x1024, .f32⟩
  | .hbm, ⟨2, _⟩ => ⟨S2048x1024, .f32⟩
  | .hbm, ⟨3, _⟩ => ⟨S2048x512, .bf16⟩
  | .hbm, ⟨4, _⟩ => ⟨S256x512, .f32⟩
  | .hbm, ⟨5, _⟩ => ⟨S256x512, .f32⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg1 : BitVec 32 := BitVec.ofNat 32 (i 1).val
  let c0_i32_19 : BitVec 32 := 0#32
  let v39 : BitVec 1 := Scalar.cmpi .sgt arg1 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x5120 : Shape := ⟨2, ![2048, 5120]⟩
abbrev S256x1024 : Shape := ⟨2, ![256, 1024]⟩
abbrev S2048x1024 : Shape := ⟨2, ![2048, 1024]⟩
abbrev S2048x512 : Shape := ⟨2, ![2048, 512]⟩
abbrev S1x2048x512 : Shape := ⟨3, ![1, 2048, 512]⟩
abbrev S1x256x1024 : Shape := ⟨3, ![1, 256, 1024]⟩
abbrev S1x256x2x4x128 : Shape := ⟨5, ![1, 256, 2, 4, 128]⟩
abbrev S1x2048x4x128 : Shape := ⟨4, ![1, 2048, 4, 128]⟩
abbrev S1x256x1x4x128 : Shape := ⟨5, ![1, 256, 1, 4, 128]⟩
abbrev S1x256x4x128 : Shape := ⟨4, ![1, 256, 4, 128]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x128x2048 : Shape := ⟨4, ![1, 4, 128, 2048]⟩
abbrev S1x4x128x256 : Shape := ⟨4, ![1, 4, 128, 256]⟩
abbrev S4x2048 : Shape := ⟨2, ![4, 2048]⟩
abbrev S1x4x256x128 : Shape := ⟨4, ![1, 4, 256, 128]⟩
abbrev S1x4x2048x128 : Shape := ⟨4, ![1, 4, 2048, 128]⟩
abbrev S1x256x512 : Shape := ⟨3, ![1, 256, 512]⟩
abbrev S256x512 : Shape := ⟨2, ![256, 512]⟩

abbrev nBuf : Space → Nat
  | .hbm => 101
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S256x1024, .f32⟩
  | .hbm, ⟨2, _⟩ => ⟨S2048x1024, .f32⟩
  | .hbm, ⟨3, _⟩ => ⟨S2048x512, .f32⟩
  | .hbm, ⟨4, _⟩ => ⟨S1x2048x512, .f32⟩
  | .hbm, ⟨5, _⟩ => ⟨S1x256x1024, .f32⟩
  | .hbm, ⟨6, _⟩ => ⟨S1x256x2x4x128, .f32⟩
  | .hbm, ⟨7, _⟩ => ⟨S1x2048x4x128, .f32⟩
  | .hbm, ⟨8, _⟩ => ⟨S1x256x1x4x128, .f32⟩
  | .hbm, ⟨9, _⟩ => ⟨S1x256x4x128, .f32⟩
  | .hbm, ⟨10, _⟩ => ⟨S1x256x1x4x128, .f32⟩
  | .hbm, ⟨11, _⟩ => ⟨S1x256x4x128, .f32⟩
  | .hbm, ⟨12, _⟩ => ⟨S1x4x2048x256, .f32⟩
  | .hbm, ⟨13, _⟩ => ⟨S_, .f32⟩
  | .hbm, ⟨14, _⟩ => ⟨S1x4x2048x256, .f32⟩
  | .hbm, ⟨15, _⟩ => ⟨S1x4x2048x256, .f32⟩
  | .hbm, ⟨16, _⟩ => ⟨S_, .f32⟩
  | .hbm, ⟨17, _⟩ => ⟨S1x4x2048, .f32⟩
  | .hbm, ⟨18, _⟩ => ⟨S1x4x2048x1, .f32⟩
  | .hbm, ⟨19, _⟩ => ⟨S1x4x2048x256, .f32⟩
  | .hbm, ⟨20, _⟩ => ⟨S1x4x2048x256, .i1⟩
  | .hbm, ⟨21, _⟩ => ⟨S1x4x2048x256, .f32⟩
  | .hbm, ⟨22, _⟩ => ⟨S_, .f32⟩
  | .hbm, ⟨23, _⟩ => ⟨S1x4x2048, .f32⟩
  | .hbm, ⟨24, _⟩ => ⟨S_, .f32⟩
  | .hbm, ⟨25, _⟩ => ⟨S1x4x2048, .f32⟩
  | .hbm, ⟨26, _⟩ => ⟨S1x4x2048, .f32⟩
  | .hbm, ⟨27, _⟩ => ⟨S_, .f32⟩
  | .hbm, ⟨28, _⟩ => ⟨S1x4x2048, .f32⟩
  | .hbm, ⟨29, _⟩ => ⟨S1x4x2048, .i1⟩
  | .hbm, ⟨30, _⟩ => ⟨S_, .f32⟩
  | .hbm, ⟨31, _⟩ => ⟨S1x4x2048, .f32⟩
  | .hbm, ⟨32, _⟩ => ⟨S1x4x2048, .i1⟩
  | .hbm, ⟨33, _⟩ => ⟨S_, .f32⟩
  | .hbm, ⟨34, _⟩ => ⟨S1x4x2048, .f32⟩
  | .hbm, ⟨35, _⟩ => ⟨S_, .f32⟩
  | .hbm, ⟨36, _⟩ => ⟨S1x4x2048, .f32⟩
  | .hbm, ⟨37, _⟩ => ⟨S_, .f32⟩
  | .hbm, ⟨38, _⟩ => ⟨S1x4x2048, .f32⟩
  | .hbm, ⟨39, _⟩ => ⟨S1x4x2048, .f32⟩
  | .hbm, ⟨40, _⟩ => ⟨S1x4x2048, .f32⟩
  | .hbm, ⟨41, _⟩ => ⟨S1x4x2048x1, .f32⟩
  | .hbm, ⟨42, _⟩ => ⟨S1x4x2048x256, .f32⟩
  | .hbm, ⟨43, _⟩ => ⟨S1x4x2048x256, .f32⟩
  | .hbm, ⟨44, _⟩ => ⟨S1x4x2048x256, .f32⟩
  | .hbm, ⟨45, _⟩ => ⟨S_, .f32⟩
  | .hbm, ⟨46, _⟩ => ⟨S1x4x2048, .f32⟩
  | .hbm, ⟨47, _⟩ => ⟨S1x4x2048x1, .f32⟩
  | .hbm, ⟨48, _⟩ => ⟨S1x4x2048x256, .f32⟩
  | .hbm, ⟨49, _⟩ => ⟨S1x4x2048x256, .f32⟩
  | .hbm, ⟨50, _⟩ => ⟨S1x4x2048x1, .f32⟩
  | .hbm, ⟨51, _⟩ => ⟨S_, .f32⟩
  | .hbm, ⟨52, _⟩ => ⟨S1x4x2048x1, .f32⟩
  | .hbm, ⟨53, _⟩ => ⟨S1x4x2048x1, .f32⟩
  | .hbm, ⟨54, _⟩ => ⟨S1x4x128x2048, .f32⟩
  | .hbm, ⟨55, _⟩ => ⟨S1x2048x4x128, .f32⟩
  | .hbm, ⟨56, _⟩ => ⟨S1x2048x512, .f32⟩
  | .hbm, ⟨57, _⟩ => ⟨S2048x512, .f32⟩
  | .hbm, ⟨58, _⟩ => ⟨S1x2048x512, .f32⟩
  | .hbm, ⟨59, _⟩ => ⟨S1x2048x4x128, .f32⟩
  | .hbm, ⟨60, _⟩ => ⟨S1x4x128x2048, .f32⟩
  | .hbm, ⟨61, _⟩ => ⟨S1x4x2048x256, .f32⟩
  | .hbm, ⟨62, _⟩ => ⟨S1x4x128x256, .f32⟩
  | .hbm, ⟨63, _⟩ => ⟨S1x256x4x128, .f32⟩
  | .hbm, ⟨64, _⟩ => ⟨S1x4x2048x256, .f32⟩
  | .hbm, ⟨65, _⟩ => ⟨S1x4x2048x256, .f32⟩
  | .hbm, ⟨66, _⟩ => ⟨S1x4x2048x256, .f32⟩
  | .hbm, ⟨67, _⟩ => ⟨S_, .f32⟩
  | .hbm, ⟨68, _⟩ => ⟨S1x4x2048, .f32⟩
  | .hbm, ⟨69, _⟩ => ⟨S1x4x2048x1, .f32⟩
  | .hbm, ⟨70, _⟩ => ⟨S1x4x2048x1, .f32⟩
  | .hbm, ⟨71, _⟩ => ⟨S1x4x2048x256, .f32⟩
  | .hbm, ⟨72, _⟩ => ⟨S1x4x2048x256, .f32⟩
  | .hbm, ⟨73, _⟩ => ⟨S_, .f32⟩
  | .hbm, ⟨74, _⟩ => ⟨S4x2048, .f32⟩
  | .hbm, ⟨75, _⟩ => ⟨S1x4x2048, .f32⟩
  | .hbm, ⟨76, _⟩ => ⟨S1x4x2048x256, .f32⟩
  | .hbm, ⟨77, _⟩ => ⟨S1x4x2048x256, .f32⟩
  | .hbm, ⟨78, _⟩ => ⟨S1x4x2048x256, .f32⟩
  | .hbm, ⟨79, _⟩ => ⟨S_, .f32⟩
  | .hbm, ⟨80, _⟩ => ⟨S1x4x2048x256, .f32⟩
  | .hbm, ⟨81, _⟩ => ⟨S1x4x2048x256, .f32⟩
  | .hbm, ⟨82, _⟩ => ⟨S1x4x256x128, .f32⟩
  | .hbm, ⟨83, _⟩ => ⟨S1x256x4x128, .f32⟩
  | .hbm, ⟨84, _⟩ => ⟨S1x4x2048x128, .f32⟩
  | .hbm, ⟨85, _⟩ => ⟨S1x2048x4x128, .f32⟩
  | .hbm, ⟨86, _⟩ => ⟨S1x256x1x4x128, .f32⟩
  | .hbm, ⟨87, _⟩ => ⟨S_, .f32⟩
  | .hbm, ⟨88, _⟩ => ⟨S1x256x2x4x128, .f32⟩
  | .hbm, ⟨89, _⟩ => ⟨S1x256x1x4x128, .f32⟩
  | .hbm, ⟨90, _⟩ => ⟨S_, .f32⟩
  | .hbm, ⟨91, _⟩ => ⟨S1x256x2x4x128, .f32⟩
  | .hbm, ⟨92, _⟩ => ⟨S1x256x2x4x128, .f32⟩
  | .hbm, ⟨93, _⟩ => ⟨S1x2048x512, .f32⟩
  | .hbm, ⟨94, _⟩ => ⟨S1x256x1024, .f32⟩
  | .hbm, ⟨95, _⟩ => ⟨S2048x512, .f32⟩
  | .hbm, ⟨96, _⟩ => ⟨S2048x512, .bf16⟩
  | .hbm, ⟨97, _⟩ => ⟨S1x256x512, .f32⟩
  | .hbm, ⟨98, _⟩ => ⟨S256x512, .f32⟩
  | .hbm, ⟨99, _⟩ => ⟨S1x256x512, .f32⟩
  | .hbm, ⟨100, _⟩ => ⟨S256x512, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel2.lean ====
abbrev S2048x2048 : Shape := ⟨2, ![2048, 2048]⟩
abbrev S1x5632x2048 : Shape := ⟨3, ![1, 5632, 2048]⟩
abbrev S2048x5632 : Shape := ⟨2, ![2048, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S2048x2048 : Shape := ⟨2, ![2048, 2048]⟩
abbrev S1x5632x2048 : Shape := ⟨3, ![1, 5632, 2048]⟩
abbrev S2048x5632 : Shape := ⟨2, ![2048, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S1x5632x2048 : Shape := ⟨3, ![1, 5632, 2048]⟩
abbrev S5632x1x2048 : Shape := ⟨3, ![5632, 1, 2048]⟩
abbrev S5632x2048 : Shape := ⟨2, ![5632, 2048]⟩
abbrev S_ : Shape := ⟨0, ![]⟩
abbrev S1x2048x5632 : Shape := ⟨3, ![1, 2048, 5632]⟩
abbrev S1x2048x2048 : Shape := ⟨3, ![1, 2048, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S1x5632x2048, .f32⟩
  | .hbm, ⟨3, _⟩ => ⟨S5632x1x2048, .f32⟩
  | .hbm, ⟨4, _⟩ => ⟨S5632x2048, .f32⟩
  | .hbm, ⟨5, _⟩ => ⟨S_, .f32⟩
  | .hbm, ⟨6, _⟩ => ⟨S1x2048x5632, .f32⟩
  | .hbm, ⟨7, _⟩ => ⟨S1x2048x2048, .f32⟩
  | .hbm, ⟨8, _⟩ => ⟨S1x2048x2048, .bf16⟩
  | .hbm, ⟨9, _⟩ => ⟨S1x2048x2048, .f32⟩
  | .hbm, ⟨10, _⟩ => ⟨S1x2048x5632, .f32⟩
  | .hbm, ⟨11, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x5632 : Shape := ⟨2, ![2048, 5632]⟩
abbrev S2048x2048 : Shape := ⟨2, ![2048, 2048]⟩
abbrev S1x5632x2048 : Shape := ⟨3, ![1, 5632, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1x5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S2048x5632 : Shape := ⟨2, ![2048, 5632]⟩
abbrev S2048x2048 : Shape := ⟨2, ![2048, 2048]⟩
abbrev S1x5632x2048 : Shape := ⟨3, ![1, 5632, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1x5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S1x2048x5632 : Shape := ⟨3, ![1, 2048, 5632]⟩
abbrev S1x2048x2048 : Shape := ⟨3, ![1, 2048, 2048]⟩
abbrev S5632x1x2048 : Shape := ⟨3, ![5632, 1, 2048]⟩
abbrev S1x5632x2048 : Shape := ⟨3, ![1, 5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S1x2048x5632, .bf16⟩
  | .hbm, ⟨5, _⟩ => ⟨S1x2048x5632, .f32⟩
  | .hbm, ⟨6, _⟩ => ⟨S1x2048x2048, .f32⟩
  | .hbm, ⟨7, _⟩ => ⟨S1x2048x2048, .bf16⟩
  | .hbm, ⟨8, _⟩ => ⟨S1x2048x2048, .f32⟩
  | .hbm, ⟨9, _⟩ => ⟨S2048x5632, .f32⟩
  | .hbm, ⟨10, _⟩ => ⟨S5632x2048, .f32⟩
  | .hbm, ⟨11, _⟩ => ⟨S5632x1x2048, .f32⟩
  | .hbm, ⟨12, _⟩ => ⟨S1x5632x2048, .f32⟩
  | .hbm, ⟨13, _⟩ => ⟨S1x5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S2048x2048 : Shape := ⟨2, ![2048, 2048]⟩
abbrev S2048x5632 : Shape := ⟨2, ![2048, 5632]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x2048 : Shape := ⟨2, ![2048, 2048]⟩
abbrev S2048x5632 : Shape := ⟨2, ![2048, 5632]⟩
abbrev S2048x11264 : Shape := ⟨2, ![2048, 11264]⟩
abbrev S_ : Shape := ⟨0, ![]⟩
abbrev S1x2048x2048 : Shape := ⟨3, ![1, 2048, 2048]⟩
abbrev S1x2048x11264 : Shape := ⟨3, ![1, 2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x11264, .bf16⟩
  | .hbm, ⟨4, _⟩ => ⟨S_, .f32⟩
  | .hbm, ⟨5, _⟩ => ⟨S2048x11264, .f32⟩
  | .hbm, ⟨6, _⟩ => ⟨S1x2048x2048, .bf16⟩
  | .hbm, ⟨7, _⟩ => ⟨S1x2048x2048, .f32⟩
  | .hbm, ⟨8, _⟩ => ⟨S1x2048x11264, .f32⟩
  | .hbm, ⟨9, _⟩ => ⟨S1x2048x11264, .bf16⟩
  | .hbm, ⟨10, _⟩ => ⟨S1x2048x11264, .f32⟩
  | .hbm, ⟨11, _⟩ => ⟨S11264x2048, .f32⟩
  | .hbm, ⟨12, _⟩ => ⟨S2048x11264, .f32⟩
  | .hbm, ⟨13, _⟩ => ⟨S2048x4x2816, .f32⟩
  | .hbm, ⟨14, _⟩ => ⟨S4x2048x2816, .f32⟩
  | .hbm, ⟨15, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel5.lean ====
abbrev S2048x5632 : Shape := ⟨2, ![2048, 5632]⟩
abbrev S4x2048x2816 : Shape := ⟨3, ![4, 2048, 2816]⟩
abbrev S2048x2048 : Shape := ⟨2, ![2048, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x2816, .bf16⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x5632 : Shape := ⟨2, ![2048, 5632]⟩
abbrev S4x2048x2816 : Shape := ⟨3, ![4, 2048, 2816]⟩
abbrev S2048x11264 : Shape := ⟨2, ![2048, 11264]⟩
abbrev S2048x4x2816 : Shape := ⟨3, ![2048, 4, 2816]⟩
abbrev S_ : Shape := ⟨0, ![]⟩
abbrev S1x2048x2048 : Shape := ⟨3, ![1, 2048, 2048]⟩
abbrev S1x2048x11264 : Shape := ⟨3, ![1, 2048, 11264]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x2816, .bf16⟩
  | .hbm, ⟨3, _⟩ => ⟨S2048x11264, .bf16⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S_, .f32⟩
  | .hbm, ⟨8, _⟩ => ⟨S1x2048x2048, .f32⟩
  | .hbm, ⟨9, _⟩ => ⟨S1x2048x11264, .f32⟩
  | .hbm, ⟨10, _⟩ => ⟨S1x2048x11264, .bf16⟩
  | .hbm, ⟨11, _⟩ => ⟨S1x2048x11264, .f32⟩
  | .hbm, ⟨12, _⟩ => ⟨S1x2048x2048, .f32⟩
  | .hbm, ⟨13, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S2048x2048 : Shape := ⟨2, ![2048, 2048]⟩
abbrev S4x2048x2816 : Shape := ⟨3, ![4, 2048, 2816]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S2048x2048 : Shape := ⟨2, ![2048, 2048]⟩
abbrev S4x2048x2816 : Shape := ⟨3, ![4, 2048, 2816]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S4x2048x2816 : Shape := ⟨3, ![4, 2048, 2816]⟩
abbrev S1x2048x2048 : Shape := ⟨3, ![1, 2048, 2048]⟩
abbrev S2048x4x2816 : Shape := ⟨3, ![2048, 4, 2816]⟩
abbrev S2048x11264 : Shape := ⟨2, ![2048, 11264]⟩
abbrev S1x2048x11264 : Shape := ⟨3, ![1, 2048, 11264]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S1x2048x2048, .bf16⟩
  | .hbm, ⟨3, _⟩ => ⟨S1x2048x2048, .f32⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S1x2048x11264, .f32⟩
  | .hbm, ⟨8, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S2048x5632 : Shape := ⟨2, ![2048, 5632]⟩
abbrev S1x5632x2048 : Shape := ⟨3, ![1, 5632, 2048]⟩
abbrev S2048x2048 : Shape := ⟨2, ![2048, 2048]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel7Ideal.lean ====
abbrev S2048x5632 : Shape := ⟨2, ![2048, 5632]⟩
abbrev S1x5632x2048 : Shape := ⟨3, ![1, 5632, 2048]⟩
abbrev S2048x2048 : Shape := ⟨2, ![2048, 2048]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x5632 : Shape := ⟨2, ![2048, 5632]⟩
abbrev S1x5632x2048 : Shape := ⟨3, ![1, 5632, 2048]⟩
abbrev S2048x2048 : Shape := ⟨2, ![2048, 2048]⟩
abbrev S1x2048x2048 : Shape := ⟨3, ![1, 2048, 2048]⟩
abbrev S1x2048x5632 : Shape := ⟨3, ![1, 2048, 5632]⟩
abbrev S5632x1x2048 : Shape := ⟨3, ![5632, 1, 2048]⟩
abbrev S5632x2048 : Shape := ⟨2, ![5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S1x2048x2048, .f32⟩
  | .hbm, ⟨4, _⟩ => ⟨S1x2048x5632, .bf16⟩
  | .hbm, ⟨5, _⟩ => ⟨S1x2048x5632, .f32⟩
  | .hbm, ⟨6, _⟩ => ⟨S1x5632x2048, .f32⟩
  | .hbm, ⟨7, _⟩ => ⟨S5632x1x2048, .f32⟩
  | .hbm, ⟨8, _⟩ => ⟨S5632x2048, .f32⟩
  | .hbm, ⟨9, _⟩ => ⟨S1x2048x2048, .f32⟩
  | .hbm, ⟨10, _⟩ => ⟨S1x2048x2048, .f32⟩
  | .hbm, ⟨11, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S2048x2048 : Shape := ⟨2, ![2048, 2048]⟩
abbrev S4x2048x1280 : Shape := ⟨3, ![4, 2048, 1280]⟩
abbrev S2048x5120 : Shape := ⟨2, ![2048, 5120]⟩
abbrev S1024x2048 : Shape := ⟨2, ![1024, 2048]⟩
abbrev S1x2048x1280 : Shape := ⟨3, ![1, 2048, 1280]⟩
abbrev S1024x1280 : Shape := ⟨2, ![1024, 1280]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1280, .bf16⟩
  | .hbm, ⟨2, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .f32⟩
  | .local _ .vmem, ⟨5, _⟩ => ⟨S1024x1280, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S2048x2048 : Shape := ⟨2, ![2048, 2048]⟩
abbrev S4x2048x1280 : Shape := ⟨3, ![4, 2048, 1280]⟩
abbrev S2048x5120 : Shape := ⟨2, ![2048, 5120]⟩
abbrev S1024x2048 : Shape := ⟨2, ![1024, 2048]⟩
abbrev S1x2048x1280 : Shape := ⟨3, ![1, 2048, 1280]⟩
abbrev S1024x1280 : Shape := ⟨2, ![1024, 1280]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1280, .bf16⟩
  | .hbm, ⟨2, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .f32⟩
  | .local _ .vmem, ⟨5, _⟩ => ⟨S1024x1280, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S4x2048x1280 : Shape := ⟨3, ![4, 2048, 1280]⟩
abbrev S1x2048x2048 : Shape := ⟨3, ![1, 2048, 2048]⟩
abbrev S2048x4x1280 : Shape := ⟨3, ![2048, 4, 1280]⟩
abbrev S2048x5120 : Shape := ⟨2, ![2048, 5120]⟩
abbrev S1x2048x5120 : Shape := ⟨3, ![1, 2048, 5120]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1280, .bf16⟩
  | .hbm, ⟨2, _⟩ => ⟨S1x2048x2048, .bf16⟩
  | .hbm, ⟨3, _⟩ => ⟨S1x2048x2048, .f32⟩
  | .hbm, ⟨4, _⟩ => ⟨S4x2048x1280, .f32⟩
  | .hbm, ⟨5, _⟩ => ⟨S2048x4x1280, .f32⟩
  | .hbm, ⟨6, _⟩ => ⟨S2048x5120, .f32⟩
  | .hbm, ⟨7, _⟩ => ⟨S1x2048x5120, .f32⟩
  | .hbm, ⟨8, _⟩ => ⟨S2048x5120, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel9.lean ====
abbrev S2048x1024 : Shape := ⟨2, ![2048, 1024]⟩
abbrev S4x1024x512 : Shape := ⟨3, ![4, 1024, 512]⟩
abbrev S2048x2048 : Shape := ⟨2, ![2048, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .f32⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel9Ideal.lean ====
abbrev S2048x1024 : Shape := ⟨2, ![2048, 1024]⟩
abbrev S4x1024x512 : Shape := ⟨3, ![4, 1024, 512]⟩
abbrev S2048x2048 : Shape := ⟨2, ![2048, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .f32⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x1024 : Shape := ⟨2, ![2048, 1024]⟩
abbrev S4x1024x512 : Shape := ⟨3, ![4, 1024, 512]⟩
abbrev S2048x2048 : Shape := ⟨2, ![2048, 2048]⟩
abbrev S1x2048x2048 : Shape := ⟨3, ![1, 2048, 2048]⟩
abbrev S1x2048x1024 : Shape := ⟨3, ![1, 2048, 1024]⟩
abbrev S1024x4x512 : Shape := ⟨3, ![1024, 4, 512]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .f32⟩
  | .hbm, ⟨3, _⟩ => ⟨S1x2048x2048, .f32⟩
  | .hbm, ⟨4, _⟩ => ⟨S1x2048x1024, .bf16⟩
  | .hbm, ⟨5, _⟩ => ⟨S1x2048x1024, .f32⟩
  | .hbm, ⟨6, _⟩ => ⟨S4x1024x512, .f32⟩
  | .hbm, ⟨7, _⟩ => ⟨S1024x4x512, .f32⟩
  | .hbm, ⟨8, _⟩ => ⟨S1024x2048, .f32⟩
  | .hbm, ⟨9, _⟩ => ⟨S1x2048x2048, .f32⟩
  | .hbm, ⟨10, _⟩ => ⟨S1x2048x2048, .f32⟩
  | .hbm, ⟨11, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S2048x2048 : Shape := ⟨2, ![2048, 2048]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S2048x2048 : Shape := ⟨2, ![2048, 2048]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S1x2048x1024 : Shape := ⟨3, ![1, 2048, 1024]⟩
abbrev S1x2048x2048 : Shape := ⟨3, ![1, 2048, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S4x1024x512, .f32⟩
  | .hbm, ⟨3, _⟩ => ⟨S1024x4x512, .f32⟩
  | .hbm, ⟨4, _⟩ => ⟨S1024x2048, .f32⟩
  | .hbm, ⟨5, _⟩ => ⟨S_, .f32⟩
  | .hbm, ⟨6, _⟩ => ⟨S1x2048x1024, .f32⟩
  | .hbm, ⟨7, _⟩ => ⟨S1x2048x2048, .f32⟩
  | .hbm, ⟨8, _⟩ => ⟨S1x2048x2048, .bf16⟩
  | .hbm, ⟨9, _⟩ => ⟨S1x2048x2048, .f32⟩
  | .hbm, ⟨10, _⟩ => ⟨S1x2048x1024, .f32⟩
  | .hbm, ⟨11, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1x2048x1024 : Shape := ⟨3, ![1, 2048, 1024]⟩
abbrev S1x2048x2048 : Shape := ⟨3, ![1, 2048, 2048]⟩
abbrev S1024x4x512 : Shape := ⟨3, ![1024, 4, 512]⟩
abbrev S4x1024x512 : Shape := ⟨3, ![4, 1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S1x2048x1024, .bf16⟩
  | .hbm, ⟨5, _⟩ => ⟨S1x2048x1024, .f32⟩
  | .hbm, ⟨6, _⟩ => ⟨S1x2048x2048, .f32⟩
  | .hbm, ⟨7, _⟩ => ⟨S1x2048x2048, .bf16⟩
  | .hbm, ⟨8, _⟩ => ⟨S1x2048x2048, .f32⟩
  | .hbm, ⟨9, _⟩ => ⟨S2048x1024, .f32⟩
  | .hbm, ⟨10, _⟩ => ⟨S1024x2048, .f32⟩
  | .hbm, ⟨11, _⟩ => ⟨S1024x4x512, .f32⟩
  | .hbm, ⟨12, _⟩ => ⟨S4x1024x512, .f32⟩
  | .hbm, ⟨13, _⟩ => ⟨S4x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel12.lean ====
abbrev S2048x2048 : Shape := ⟨2, ![2048, 2048]⟩
abbrev S2048x5120 : Shape := ⟨2, ![2048, 5120]⟩
abbrev S4x2048x1280 : Shape := ⟨3, ![4, 2048, 1280]⟩
abbrev S2048x1024 : Shape := ⟨2, ![2048, 1024]⟩
abbrev S2048x1280 : Shape := ⟨2, ![2048, 1280]⟩
abbrev S1x1024x1280 : Shape := ⟨3, ![1, 1024, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S4x2048x1280, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1024x1280, .bf16⟩
  | .local _ .vmem, ⟨5, _⟩ => ⟨S1x1024x1280, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S2048x2048 : Shape := ⟨2, ![2048, 2048]⟩
abbrev S2048x5120 : Shape := ⟨2, ![2048, 5120]⟩
abbrev S4x2048x1280 : Shape := ⟨3, ![4, 2048, 1280]⟩
abbrev S2048x1024 : Shape := ⟨2, ![2048, 1024]⟩
abbrev S2048x1280 : Shape := ⟨2, ![2048, 1280]⟩
abbrev S1x1024x1280 : Shape := ⟨3, ![1, 1024, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S4x2048x1280, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1024x1280, .bf16⟩
  | .local _ .vmem, ⟨5, _⟩ => ⟨S1x1024x1280, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S2048x5120 : Shape := ⟨2, ![2048, 5120]⟩
abbrev S_ : Shape := ⟨0, ![]⟩
abbrev S1x2048x2048 : Shape := ⟨3, ![1, 2048, 2048]⟩
abbrev S1x2048x5120 : Shape := ⟨3, ![1, 2048, 5120]⟩
abbrev S5120x2048 : Shape := ⟨2, ![5120, 2048]⟩
abbrev S2048x4x1280 : Shape := ⟨3, ![2048, 4, 1280]⟩
abbrev S4x2048x1280 : Shape := ⟨3, ![4, 2048, 1280]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S_, .f32⟩
  | .hbm, ⟨3, _⟩ => ⟨S2048x5120, .f32⟩
  | .hbm, ⟨4, _⟩ => ⟨S1x2048x2048, .bf16⟩
  | .hbm, ⟨5, _⟩ => ⟨S1x2048x2048, .f32⟩
  | .hbm, ⟨6, _⟩ => ⟨S1x2048x5120, .f32⟩
  | .hbm, ⟨7, _⟩ => ⟨S1x2048x5120, .bf16⟩
  | .hbm, ⟨8, _⟩ => ⟨S1x2048x5120, .f32⟩
  | .hbm, ⟨9, _⟩ => ⟨S5120x2048, .f32⟩
  | .hbm, ⟨10, _⟩ => ⟨S2048x5120, .f32⟩
  | .hbm, ⟨11, _⟩ => ⟨S2048x4x1280, .f32⟩
  | .hbm, ⟨12, _⟩ => ⟨S4x2048x1280, .f32⟩
  | .hbm, ⟨13, _⟩ => ⟨S4x2048x1280, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel13.lean ====
abbrev S2048x5120 : Shape := ⟨2, ![2048, 5120]⟩
abbrev S4x2048x1280 : Shape := ⟨3, ![4, 2048, 1280]⟩
abbrev S2048x2048 : Shape := ⟨2, ![2048, 2048]⟩
abbrev S1024x1280 : Shape := ⟨2, ![1024, 1280]⟩
abbrev S1x1024x1280 : Shape := ⟨3, ![1, 1024, 1280]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S4x2048x1280, .bf16⟩
  | .hbm, ⟨2, _⟩ => ⟨S2048x2048, .f32⟩
  | .local _ .vmem, ⟨0, _⟩ => ⟨S1024x1280, .bf16⟩
  | .local _ .vmem, ⟨1, _⟩ => ⟨S1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S2048x5120 : Shape := ⟨2, ![2048, 5120]⟩
abbrev S4x2048x1280 : Shape := ⟨3, ![4, 2048, 1280]⟩
abbrev S2048x2048 : Shape := ⟨2, ![2048, 2048]⟩
abbrev S1024x1280 : Shape := ⟨2, ![1024, 1280]⟩
abbrev S1x1024x1280 : Shape := ⟨3, ![1, 1024, 1280]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S4x2048x1280, .bf16⟩
  | .hbm, ⟨2, _⟩ => ⟨S2048x2048, .f32⟩
  | .local _ .vmem, ⟨0, _⟩ => ⟨S1024x1280, .bf16⟩
  | .local _ .vmem, ⟨1, _⟩ => ⟨S1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x5120 : Shape := ⟨2, ![2048, 5120]⟩
abbrev S4x2048x1280 : Shape := ⟨3, ![4, 2048, 1280]⟩
abbrev S2048x4x1280 : Shape := ⟨3, ![2048, 4, 1280]⟩
abbrev S_ : Shape := ⟨0, ![]⟩
abbrev S1x2048x2048 : Shape := ⟨3, ![1, 2048, 2048]⟩
abbrev S1x2048x5120 : Shape := ⟨3, ![1, 2048, 5120]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S4x2048x1280, .bf16⟩
  | .hbm, ⟨2, _⟩ => ⟨S4x2048x1280, .f32⟩
  | .hbm, ⟨3, _⟩ => ⟨S2048x4x1280, .f32⟩
  | .hbm, ⟨4, _⟩ => ⟨S2048x5120, .f32⟩
  | .hbm, ⟨5, _⟩ => ⟨S_, .f32⟩
  | .hbm, ⟨6, _⟩ => ⟨S1x2048x2048, .f32⟩
  | .hbm, ⟨7, _⟩ => ⟨S1x2048x5120, .f32⟩
  | .hbm, ⟨8, _⟩ => ⟨S1x2048x5120, .bf16⟩
  | .hbm, ⟨9, _⟩ => ⟨S1x2048x5120, .f32⟩
  | .hbm, ⟨10, _⟩ => ⟨S1x2048x2048, .f32⟩
  | .hbm, ⟨11, _⟩ => ⟨S2048x2048, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S2048x2048 : Shape := ⟨2, ![2048, 2048]⟩
abbrev S4x2048x896 : Shape := ⟨3, ![4, 2048, 896]⟩
abbrev S2048x3584 : Shape := ⟨2, ![2048, 3584]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x896, .bf16⟩
  | .hbm, ⟨2, _⟩ => ⟨S2048x3584, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S2048x2048 : Shape := ⟨2, ![2048, 2048]⟩
abbrev S4x2048x896 : Shape := ⟨3, ![4, 2048, 896]⟩
abbrev S2048x3584 : Shape := ⟨2, ![2048, 3584]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x896, .bf16⟩
  | .hbm, ⟨2, _⟩ => ⟨S2048x3584, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S4x2048x896 : Shape := ⟨3, ![4, 2048, 896]⟩
abbrev S1x2048x2048 : Shape := ⟨3, ![1, 2048, 2048]⟩
abbrev S2048x4x896 : Shape := ⟨3, ![2048, 4, 896]⟩
abbrev S2048x3584 : Shape := ⟨2, ![2048, 3584]⟩
abbrev S1x2048x3584 : Shape := ⟨3, ![1, 2048, 3584]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x896, .bf16⟩
  | .hbm, ⟨2, _⟩ => ⟨S1x2048x2048, .bf16⟩
  | .hbm, ⟨3, _⟩ => ⟨S1x2048x2048, .f32⟩
  | .hbm, ⟨4, _⟩ => ⟨S4x2048x896, .f32⟩
  | .hbm, ⟨5, _⟩ => ⟨S2048x4x896, .f32⟩
  | .hbm, ⟨6, _⟩ => ⟨S2048x3584, .f32⟩
  | .hbm, ⟨7, _⟩ => ⟨S1x2048x3584, .f32⟩
  | .hbm, ⟨8, _⟩ => ⟨S2048x3584, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel15.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S2048x2048 : Shape := ⟨2, ![2048, 2048]⟩
abbrev S1x2048x2048 : Shape := ⟨3, ![1, 2048, 2048]⟩
abbrev S2048x1x2048 : Shape := ⟨3, ![2048, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S1x2048x2048, .f32⟩
  | .hbm, ⟨4, _⟩ => ⟨S1x2048x2048, .bf16⟩
  | .hbm, ⟨5, _⟩ => ⟨S1x2048x2048, .f32⟩
  | .hbm, ⟨6, _⟩ => ⟨S1x2048x2048, .f32⟩
  | .hbm, ⟨7, _⟩ => ⟨S2048x1x2048, .f32⟩
  | .hbm, ⟨8, _⟩ => ⟨S2048x2048, .f32⟩
  | .hbm, ⟨9, _⟩ => ⟨S1x2048x2048, .f32⟩
  | .hbm, ⟨10, _⟩ => ⟨S1x2048x2048, .f32⟩
  | .hbm, ⟨11, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel16.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S1x2048x2048 : Shape := ⟨3, ![1, 2048, 2048]⟩
abbrev S2048x1x2048 : Shape := ⟨3, ![2048, 1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S1x2048x2048, .f32⟩
  | .hbm, ⟨3, _⟩ => ⟨S2048x1x2048, .f32⟩
  | .hbm, ⟨4, _⟩ => ⟨S2048x2048, .f32⟩
  | .hbm, ⟨5, _⟩ => ⟨S_, .f32⟩
  | .hbm, ⟨6, _⟩ => ⟨S1x2048x2048, .f32⟩
  | .hbm, ⟨7, _⟩ => ⟨S1x2048x2048, .f32⟩
  | .hbm, ⟨8, _⟩ => ⟨S1x2048x2048, .bf16⟩
  | .hbm, ⟨9, _⟩ => ⟨S1x2048x2048, .f32⟩
  | .hbm, ⟨10, _⟩ => ⟨S1x2048x2048, .f32⟩
  | .hbm, ⟨11, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel17.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S_ : Shape := ⟨0, ![]⟩
abbrev S1x2048x2048 : Shape := ⟨3, ![1, 2048, 2048]⟩
abbrev S2048x1x2048 : Shape := ⟨3, ![2048, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S1x2048x2048, .bf16⟩
  | .hbm, ⟨5, _⟩ => ⟨S1x2048x2048, .f32⟩
  | .hbm, ⟨6, _⟩ => ⟨S1x2048x2048, .f32⟩
  | .hbm, ⟨7, _⟩ => ⟨S1x2048x2048, .bf16⟩
  | .hbm, ⟨8, _⟩ => ⟨S1x2048x2048, .f32⟩
  | .hbm, ⟨9, _⟩ => ⟨S2048x2048, .f32⟩
  | .hbm, ⟨10, _⟩ => ⟨S2048x2048, .f32⟩
  | .hbm, ⟨11, _⟩ => ⟨S2048x1x2048, .f32⟩
  | .hbm, ⟨12, _⟩ => ⟨S1x2048x2048, .f32⟩
  | .hbm, ⟨13, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel18.lean ====
abbrev S2048x2048 : Shape := ⟨2, ![2048, 2048]⟩
abbrev S2048x3584 : Shape := ⟨2, ![2048, 3584]⟩
abbrev S4x2048x896 : Shape := ⟨3, ![4, 2048, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .bf16⟩
  | .hbm, ⟨2, _⟩ => ⟨S4x2048x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x2048 : Shape := ⟨2, ![2048, 2048]⟩
abbrev S2048x3584 : Shape := ⟨2, ![2048, 3584]⟩
abbrev S_ : Shape := ⟨0, ![]⟩
abbrev S1x2048x2048 : Shape := ⟨3, ![1, 2048, 2048]⟩
abbrev S1x2048x3584 : Shape := ⟨3, ![1, 2048, 3584]⟩
abbrev S3584x2048 : Shape := ⟨2, ![3584, 2048]⟩
abbrev S2048x4x896 : Shape := ⟨3, ![2048, 4, 896]⟩
abbrev S4x2048x896 : Shape := ⟨3, ![4, 2048, 896]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .bf16⟩
  | .hbm, ⟨2, _⟩ => ⟨S_, .f32⟩
  | .hbm, ⟨3, _⟩ => ⟨S2048x3584, .f32⟩
  | .hbm, ⟨4, _⟩ => ⟨S1x2048x2048, .bf16⟩
  | .hbm, ⟨5, _⟩ => ⟨S1x2048x2048, .f32⟩
  | .hbm, ⟨6, _⟩ => ⟨S1x2048x3584, .f32⟩
  | .hbm, ⟨7, _⟩ => ⟨S1x2048x3584, .bf16⟩
  | .hbm, ⟨8, _⟩ => ⟨S1x2048x3584, .f32⟩
  | .hbm, ⟨9, _⟩ => ⟨S3584x2048, .f32⟩
  | .hbm, ⟨10, _⟩ => ⟨S2048x3584, .f32⟩
  | .hbm, ⟨11, _⟩ => ⟨S2048x4x896, .f32⟩
  | .hbm, ⟨12, _⟩ => ⟨S4x2048x896, .f32⟩
  | .hbm, ⟨13, _⟩ => ⟨S4x2048x896, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel19.lean ====
abbrev S2048x3584 : Shape := ⟨2, ![2048, 3584]⟩
abbrev S4x2048x896 : Shape := ⟨3, ![4, 2048, 896]⟩
abbrev S2048x2048 : Shape := ⟨2, ![2048, 2048]⟩
abbrev S1024x896 : Shape := ⟨2, ![1024, 896]⟩
abbrev S1x1024x896 : Shape := ⟨3, ![1, 1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3584, .bf16⟩
  | .hbm, ⟨1, _⟩ => ⟨S4x2048x896, .bf16⟩
  | .hbm, ⟨2, _⟩ => ⟨S2048x2048, .f32⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S2048x3584 : Shape := ⟨2, ![2048, 3584]⟩
abbrev S4x2048x896 : Shape := ⟨3, ![4, 2048, 896]⟩
abbrev S2048x2048 : Shape := ⟨2, ![2048, 2048]⟩
abbrev S1024x896 : Shape := ⟨2, ![1024, 896]⟩
abbrev S1x1024x896 : Shape := ⟨3, ![1, 1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3584, .bf16⟩
  | .hbm, ⟨1, _⟩ => ⟨S4x2048x896, .bf16⟩
  | .hbm, ⟨2, _⟩ => ⟨S2048x2048, .f32⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x3584 : Shape := ⟨2, ![2048, 3584]⟩
abbrev S4x2048x896 : Shape := ⟨3, ![4, 2048, 896]⟩
abbrev S2048x4x896 : Shape := ⟨3, ![2048, 4, 896]⟩
abbrev S_ : Shape := ⟨0, ![]⟩
abbrev S1x2048x2048 : Shape := ⟨3, ![1, 2048, 2048]⟩
abbrev S1x2048x3584 : Shape := ⟨3, ![1, 2048, 3584]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S4x2048x896, .bf16⟩
  | .hbm, ⟨2, _⟩ => ⟨S4x2048x896, .f32⟩
  | .hbm, ⟨3, _⟩ => ⟨S2048x4x896, .f32⟩
  | .hbm, ⟨4, _⟩ => ⟨S2048x3584, .f32⟩
  | .hbm, ⟨5, _⟩ => ⟨S_, .f32⟩
  | .hbm, ⟨6, _⟩ => ⟨S1x2048x2048, .f32⟩
  | .hbm, ⟨7, _⟩ => ⟨S1x2048x3584, .f32⟩
  | .hbm, ⟨8, _⟩ => ⟨S1x2048x3584, .bf16⟩
  | .hbm, ⟨9, _⟩ => ⟨S1x2048x3584, .f32⟩
  | .hbm, ⟨10, _⟩ => ⟨S1x2048x2048, .f32⟩
  | .hbm, ⟨11, _⟩ => ⟨S2048x2048, .f32⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel20.lean ====
abbrev S256x2048 : Shape := ⟨2, ![256, 2048]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S1x2048x1024, .bf16⟩
  | .hbm, ⟨2, _⟩ => ⟨S256x1024, .f32⟩
  | .local _ .vmem, ⟨0, _⟩ => ⟨S256x2048, .bf16⟩
  | .local _ .vmem, ⟨1, _⟩ => ⟨S1x2048x1024, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S256x2048 : Shape := ⟨2, ![256, 2048]⟩
abbrev S1x2048x1024 : Shape := ⟨3, ![1, 2048, 1024]⟩
abbrev S1x256x2048 : Shape := ⟨3, ![1, 256, 2048]⟩
abbrev S2048x1x1024 : Shape := ⟨3, ![2048, 1, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S1x2048x1024, .bf16⟩
  | .hbm, ⟨2, _⟩ => ⟨S1x256x2048, .bf16⟩
  | .hbm, ⟨3, _⟩ => ⟨S1x256x2048, .f32⟩
  | .hbm, ⟨4, _⟩ => ⟨S1x2048x1024, .f32⟩
  | .hbm, ⟨5, _⟩ => ⟨S2048x1x1024, .f32⟩
  | .hbm, ⟨6, _⟩ => ⟨S2048x1024, .f32⟩
  | .hbm, ⟨7, _⟩ => ⟨S1x256x1024, .f32⟩
  | .hbm, ⟨8, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel21.lean ====
abbrev S256x2048 : Shape := ⟨2, ![256, 2048]⟩
abbrev S256x1024 : Shape := ⟨2, ![256, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S1x2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1x1024x1024, .bf16⟩
  | .local _ .vmem, ⟨4, _⟩ => ⟨S1x1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1x256x2048 : Shape := ⟨3, ![1, 256, 2048]⟩
abbrev S1x256x1024 : Shape := ⟨3, ![1, 256, 1024]⟩
abbrev S1024x2048 : Shape := ⟨2, ![1024, 2048]⟩
abbrev S2048x1x1024 : Shape := ⟨3, ![2048, 1, 1024]⟩
abbrev S1x2048x1024 : Shape := ⟨3, ![1, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S1x256x2048, .bf16⟩
  | .hbm, ⟨5, _⟩ => ⟨S1x256x2048, .f32⟩
  | .hbm, ⟨6, _⟩ => ⟨S1x256x1024, .f32⟩
  | .hbm, ⟨7, _⟩ => ⟨S1x256x1024, .f32⟩
  | .hbm, ⟨8, _⟩ => ⟨S1024x2048, .f32⟩
  | .hbm, ⟨9, _⟩ => ⟨S2048x1024, .f32⟩
  | .hbm, ⟨10, _⟩ => ⟨S2048x1x1024, .f32⟩
  | .hbm, ⟨11, _⟩ => ⟨S1x2048x1024, .f32⟩
  | .hbm, ⟨12, _⟩ => ⟨S1x2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel22.lean ====
abbrev S256x1024 : Shape := ⟨2, ![256, 1024]⟩
abbrev S1x2048x1024 : Shape := ⟨3, ![1, 2048, 1024]⟩
abbrev S256x2048 : Shape := ⟨2, ![256, 2048]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x2048x1024, .bf16⟩
  | .hbm, ⟨2, _⟩ => ⟨S256x2048, .f32⟩
  | .local _ .vmem, ⟨0, _⟩ => ⟨S256x1024, .f32⟩
  | .local _ .vmem, ⟨1, _⟩ => ⟨S1x1024x1024, .bf16⟩
  | .local _ .vmem, ⟨2, _⟩ => ⟨S1x1024x1024, .bf16⟩
  | .local _ .vmem, ⟨3, _⟩ => ⟨S256x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S256x1024 : Shape := ⟨2, ![256, 1024]⟩
abbrev S1x2048x1024 : Shape := ⟨3, ![1, 2048, 1024]⟩
abbrev S2048x1x1024 : Shape := ⟨3, ![2048, 1, 1024]⟩
abbrev S2048x1024 : Shape := ⟨2, ![2048, 1024]⟩
abbrev S_ : Shape := ⟨0, ![]⟩
abbrev S1x256x2048 : Shape := ⟨3, ![1, 256, 2048]⟩
abbrev S1x256x1024 : Shape := ⟨3, ![1, 256, 1024]⟩
abbrev S256x2048 : Shape := ⟨2, ![256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x2048x1024, .bf16⟩
  | .hbm, ⟨2, _⟩ => ⟨S1x2048x1024, .f32⟩
  | .hbm, ⟨3, _⟩ => ⟨S2048x1x1024, .f32⟩
  | .hbm, ⟨4, _⟩ => ⟨S2048x1024, .f32⟩
  | .hbm, ⟨5, _⟩ => ⟨S_, .f32⟩
  | .hbm, ⟨6, _⟩ => ⟨S1x256x2048, .f32⟩
  | .hbm, ⟨7, _⟩ => ⟨S1x256x1024, .f32⟩
  | .hbm, ⟨8, _⟩ => ⟨S1x256x1024, .f32⟩
  | .hbm, ⟨9, _⟩ => ⟨S1x256x2048, .f32⟩
  | .hbm, ⟨10, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel23.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel24.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S1x2048, .f32⟩
  | .hbm, ⟨4, _⟩ => ⟨S256x2048, .f32⟩
  | .hbm, ⟨5, _⟩ => ⟨S256x2048, .bf16⟩
  | .hbm, ⟨6, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S2048, .f32⟩
  | .hbm, ⟨31, _⟩ => ⟨S256x2048, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .bf16⟩
  | .hbm, ⟨49, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel25.lean ====
abbrev S2048x3584 : Shape := ⟨2, ![2048, 3584]⟩
abbrev S1536 : Shape := ⟨1, ![1536]⟩
abbrev S12x128x128 : Shape := ⟨3, ![12, 128, 128]⟩
abbrev S12x128 : Shape := ⟨2, ![12, 128]⟩
abbrev S2048x2048 : Shape := ⟨2, ![2048, 2048]⟩
abbrev S12x128x1 : Shape := ⟨3, ![12, 128, 1]⟩
abbrev S1x1536 : Shape := ⟨2, ![1, 1536]⟩
abbrev S2048x3072 : Shape := ⟨2, ![2048, 3072]⟩
abbrev S128x3072 : Shape := ⟨2, ![128, 3072]⟩
abbrev S128x1536 : Shape := ⟨2, ![128, 1536]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 13
  | .vmem => 14
  | .smem => 0
  | _ => 0

abbrev bufTy : (tb : Table) → Fin (tcTables nBuf tb) → BufTy
  | .hbm, ⟨0, _⟩ => ⟨S2048x3584, .f32⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S2048x2048, .f32⟩
  | .hbm, ⟨5, _⟩ => ⟨S12x128x128, .f32⟩
  | .hbm, ⟨6, _⟩ => ⟨S12x128x1, .f32⟩
  | .hbm, ⟨7, _⟩ => ⟨S12x128x128, .f32⟩
  | .hbm, ⟨8, _⟩ => ⟨S1x1536, .f32⟩
  | .hbm, ⟨9, _⟩ => ⟨S2048x3072, .bf16⟩
  | .hbm, ⟨10, _⟩ => ⟨S12x128x128, .f32⟩
  | .hbm, ⟨11, _⟩ => ⟨S12x128x128, .f32⟩
  | .hbm, ⟨12, _⟩ => ⟨S1x1536, .f32⟩
  | .local _ .vmem, ⟨0, _⟩ => ⟨S128x3072, .f32⟩
  | .local _ .vmem, ⟨1, _⟩ => ⟨S128x3072, .f32⟩
  | .local _ .vmem, ⟨2, _⟩ => ⟨S1x1536, .f32⟩
  | .local _ .vmem, ⟨3, _⟩ => ⟨S12x128x128, .f32⟩
  | .local _ .vmem, ⟨4, _⟩ => ⟨S12x128x128, .f32⟩
  | .local _ .vmem, ⟨5, _⟩ => ⟨S12x128x128, .f32⟩
  | .local _ .vmem, ⟨6, _⟩ => ⟨S128x1536, .f32⟩
  | .local _ .vmem, ⟨7, _⟩ => ⟨S128x1536, .f32⟩
  | .local _ .vmem, ⟨8, _⟩ => ⟨S128x3072, .bf16⟩
  | .local _ .vmem, ⟨9, _⟩ => ⟨S128x3072, .bf16⟩
  | .local _ .vmem, ⟨10, _⟩ => ⟨S12x128x128, .f32⟩
  | .local _ .vmem, ⟨11, _⟩ => ⟨S12x128x128, .f32⟩
  | .local _ .vmem, ⟨12, _⟩ => ⟨S1x1536, .f32⟩
  | .local _ .vmem, ⟨13, _⟩ => ⟨S128x1536, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_28 : BitVec 32 := 0#32
  let v63 : BitVec 1 := Scalar.cmpi .ne v62 c0_i32_28
  v63

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v64 : BitVec 1 := Scalar.xori v0 v_true
  let v65 : BitVec 32 := Scalar.extui v64
  let c0_i32_29 : BitVec 32 := 0#32
  let v66 : BitVec 1 := Scalar.cmpi .ne v65 c0_i32_29
  v66

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v94 : BitVec 32 := Scalar.extui v0
  let c0_i32_44 : BitVec 32 := 0#32
  let v95 : BitVec 1 := Scalar.cmpi .ne v94 c0_i32_44
  v95

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_45 : BitVec 1 := 1#1
  let v96 : BitVec 1 := Scalar.xori v0 true_45
  let v97 : BitVec 32 := Scalar.extui v96
  let c0_i32_46 : BitVec 32 := 0#32
  let v98 : BitVec 1 := Scalar.cmpi .ne v97 c0_i32_46
  v98

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v126 : BitVec 32 := Scalar.extui v0
  let c0_i32_61 : BitVec 32 := 0#32
  let v127 : BitVec 1 := Scalar.cmpi .ne v126 c0_i32_61
  v127

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_62 : BitVec 1 := 1#1
  let v128 : BitVec 1 := Scalar.xori v0 true_62
  let v129 : BitVec 32 := Scalar.extui v128
  let c0_i32_63 : BitVec 32 := 0#32
  let v130 : BitVec 1 := Scalar.cmpi .ne v129 c0_i32_63
  v130

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v158 : BitVec 32 := Scalar.extui v0
  let c0_i32_78 : BitVec 32 := 0#32
  let v159 : BitVec 1 := Scalar.cmpi .ne v158 c0_i32_78
  v159

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_79 : BitVec 1 := 1#1
  let v160 : BitVec 1 := Scalar.xori v0 true_79
  let v161 : BitVec 32 := Scalar.extui v160
  let c0_i32_80 : BitVec 32 := 0#32
  let v162 : BitVec 1 := Scalar.cmpi .ne v161 c0_i32_80
  v162

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v190 : BitVec 32 := Scalar.extui v0
  let c0_i32_95 : BitVec 32 := 0#32
  let v191 : BitVec 1 := Scalar.cmpi .ne v190 c0_i32_95
  v191

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_96 : BitVec 1 := 1#1
  let v192 : BitVec 1 := Scalar.xori v0 true_96
  let v193 : BitVec 32 := Scalar.extui v192
  let c0_i32_97 : BitVec 32 := 0#32
  let v194 : BitVec 1 := Scalar.cmpi .ne v193 c0_i32_97
  v194

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v222 : BitVec 32 := Scalar.extui v0
  let c0_i32_112 : BitVec 32 := 0#32
  let v223 : BitVec 1 := Scalar.cmpi .ne v222 c0_i32_112
  v223

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_113 : BitVec 1 := 1#1
  let v224 : BitVec 1 := Scalar.xori v0 true_113
  let v225 : BitVec 32 := Scalar.extui v224
  let c0_i32_114 : BitVec 32 := 0#32
  let v226 : BitVec 1 := Scalar.cmpi .ne v225 c0_i32_114
  v226

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v254 : BitVec 32 := Scalar.extui v0
  let c0_i32_129 : BitVec 32 := 0#32
  let v255 : BitVec 1 := Scalar.cmpi .ne v254 c0_i32_129
  v255

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_130 : BitVec 1 := 1#1
  let v256 : BitVec 1 := Scalar.xori v0 true_130
  let v257 : BitVec 32 := Scalar.extui v256
  let c0_i32_131 : BitVec 32 := 0#32
  let v258 : BitVec 1 := Scalar.cmpi .ne v257 c0_i32_131
  v258

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v286 : BitVec 32 := Scalar.extui v0
  let c0_i32_146 : BitVec 32 := 0#32
  let v287 : BitVec 1 := Scalar.cmpi .ne v286 c0_i32_146
  v287

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_147 : BitVec 1 := 1#1
  let v288 : BitVec 1 := Scalar.xori v0 true_147
  let v289 : BitVec 32 := Scalar.extui v288
  let c0_i32_148 : BitVec 32 := 0#32
  let v290 : BitVec 1 := Scalar.cmpi .ne v289 c0_i32_148
  v290

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v318 : BitVec 32 := Scalar.extui v0
  let c0_i32_163 : BitVec 32 := 0#32
  let v319 : BitVec 1 := Scalar.cmpi .ne v318 c0_i32_163
  v319

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_164 : BitVec 1 := 1#1
  let v320 : BitVec 1 := Scalar.xori v0 true_164
  let v321 : BitVec 32 := Scalar.extui v320
  let c0_i32_165 : BitVec 32 := 0#32
  let v322 : BitVec 1 := Scalar.cmpi .ne v321 c0_i32_165
  v322

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let v350 : BitVec 32 := Scalar.extui v0
  let c0_i32_180 : BitVec 32 := 0#32
  let v351 : BitVec 1 := Scalar.cmpi .ne v350 c0_i32_180
  v351

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let true_181 : BitVec 1 := 1#1
  let v352 : BitVec 1 := Scalar.xori v0 true_181
  let v353 : BitVec 32 := Scalar.extui v352
  let c0_i32_182 : BitVec 32 := 0#32
  let v354 : BitVec 1 := Scalar.cmpi .ne v353 c0_i32_182
  v354

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let v382 : BitVec 32 := Scalar.extui v0
  let c0_i32_197 : BitVec 32 := 0#32
  let v383 : BitVec 1 := Scalar.cmpi .ne v382 c0_i32_197
  v383

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let true_198 : BitVec 1 := 1#1
  let v384 : BitVec 1 := Scalar.xori v0 true_198
  let v385 : BitVec 32 := Scalar.extui v384
  let c0_i32_199 : BitVec 32 := 0#32
  let v386 : BitVec 1 := Scalar.cmpi .ne v385 c0_i32_199
  v386

def k0_cond23 (i : grid0.Coords) : BitVec 1 :=
  let arg0 : BitVec 32 := BitVec.ofNat 32 (i 0).val
  let c0_i32 : BitVec 32 := 0#32
  let v0 : BitVec 1 := Scalar.cmpi .eq arg0 c0_i32
  let v414 : BitVec 32 := Scalar.extui v0
  let c0_i32_214 : BitVec 32 := 0#32
  let v415 : BitVec 1 := Scalar.cmpi .ne v414 c0_i32_214
  v415

def k0_cond24 (i : grid0.Coords) : BitVec 1 :=
  let arg0 : BitVec 32 := BitVec.ofNat 32 (i 0).val
  let c0_i32 : BitVec 32 := 0#32
  let v0 : BitVec 1 := Scalar.cmpi .eq arg0 c0_i32
  let true_215 : BitVec 1 := 1#1
  let v416 : BitVec 1 := Scalar.xori v0 true_215
  let v417 : BitVec 32 := Scalar.extui v416
  let c0_i32_216 : BitVec 32 := 0#32
  let v418 : BitVec 1 := Scalar.cmpi .ne v417 c0_i32_216
  v418

def k0_cond25 (i : grid0.Coords) : BitVec 1 :=
  let arg0 : BitVec 32 := BitVec.ofNat 32 (i 0).val
  let c0_i32 : BitVec 32 := 0#32
  let v0 : BitVec 1 := Scalar.cmpi .eq arg0 c0_i32
  let v423 : BitVec 32 := Scalar.extui v0
  let c0_i32_220 : BitVec 32 := 0#32
  let v424 : BitVec 1 := Scalar.cmpi .ne v423 c0_i32_220
  v424

def k0_cond26 (i : grid0.Coords) : BitVec 1 :=
  let arg0 : BitVec 32 := BitVec.ofNat 32 (i 0).val
  let c0_i32 : BitVec 32 := 0#32
  let v0 : BitVec 1 := Scalar.cmpi .eq arg0 c0_i32
  let true_221 : BitVec 1 := 1#1
  let v425 : BitVec 1 := Scalar.xori v0 true_221
  let v426 : BitVec 32 := Scalar.extui v425
  let c0_i32_222 : BitVec 32 := 0#32
  let v427 : BitVec 1 := Scalar.cmpi .ne v426 c0_i32_222
  v427

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S12x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel25Ideal.lean ====
variable {F : FTy → Type} [FloatOps F] [Named F]
def κ : String → Option EReal := fun
  | "density" => some (((9465531 / 16777216) * (Real.sqrt 2)⁻¹ : ℝ) : EReal)
  | "half_root" => some (((Real.sqrt 2)⁻¹ : ℝ) : EReal)
  | _ => none
-- ==== Reference25Ideal.lean ====
abbrev S2048x3584 : Shape := ⟨2, ![2048, 3584]⟩
abbrev S1536 : Shape := ⟨1, ![1536]⟩
abbrev S12x128x128 : Shape := ⟨3, ![12, 128, 128]⟩
abbrev S12x128 : Shape := ⟨2, ![12, 128]⟩
abbrev S2048x2048 : Shape := ⟨2, ![2048, 2048]⟩
abbrev S12x128x1 : Shape := ⟨3, ![12, 128, 1]⟩
abbrev S2048x3072 : Shape := ⟨2, ![2048, 3072]⟩
abbrev S1x2048x3072 : Shape := ⟨3, ![1, 2048, 3072]⟩
abbrev S_ : Shape := ⟨0, ![]⟩
abbrev S1x2048x1536 : Shape := ⟨3, ![1, 2048, 1536]⟩
abbrev S1x2048 : Shape := ⟨2, ![1, 2048]⟩
abbrev S1x2048x1 : Shape := ⟨3, ![1, 2048, 1]⟩
abbrev S1x1x1536 : Shape := ⟨3, ![1, 1, 1536]⟩
abbrev S1x16x128x12x128 : Shape := ⟨5, ![1, 16, 128, 12, 128]⟩
abbrev S12x1x16x128x128 : Shape := ⟨5, ![12, 1, 16, 128, 128]⟩
abbrev S128x12x128 : Shape := ⟨3, ![128, 12, 128]⟩
abbrev S1x1x128x12x128 : Shape := ⟨5, ![1, 1, 128, 12, 128]⟩
abbrev S2048x1536 : Shape := ⟨2, ![2048, 1536]⟩
abbrev S1x128x12x128 : Shape := ⟨4, ![1, 128, 12, 128]⟩
abbrev S1x1536 : Shape := ⟨2, ![1, 1536]⟩
abbrev S2048 : Shape := ⟨1, ![2048]⟩

abbrev nBuf : Space → Nat
  | .hbm => 117
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S2048x2048, .f32⟩
  | .hbm, ⟨5, _⟩ => ⟨S12x128x1, .f32⟩
  | .hbm, ⟨6, _⟩ => ⟨S12x128x128, .f32⟩
  | .hbm, ⟨7, _⟩ => ⟨S2048x3072, .f32⟩
  | .hbm, ⟨8, _⟩ => ⟨S1x2048x3072, .f32⟩
  | .hbm, ⟨9, _⟩ => ⟨S_, .f32⟩
  | .hbm, ⟨10, _⟩ => ⟨S1x2048x3072, .f32⟩
  | .hbm, ⟨11, _⟩ => ⟨S1x2048x3072, .f32⟩
  | .hbm, ⟨12, _⟩ => ⟨S_, .f32⟩
  | .hbm, ⟨13, _⟩ => ⟨S_, .f32⟩
  | .hbm, ⟨14, _⟩ => ⟨S1x2048x3072, .f32⟩
  | .hbm, ⟨15, _⟩ => ⟨S1x2048x3072, .f32⟩
  | .hbm, ⟨16, _⟩ => ⟨S1x2048x3072, .f32⟩
  | .hbm, ⟨17, _⟩ => ⟨S1x2048x3072, .f32⟩
  | .hbm, ⟨18, _⟩ => ⟨S1x2048x3072, .f32⟩
  | .hbm, ⟨19, _⟩ => ⟨S1x2048x3072, .f32⟩
  | .hbm, ⟨20, _⟩ => ⟨S_, .f32⟩
  | .hbm, ⟨21, _⟩ => ⟨S1x2048x3072, .f32⟩
  | .hbm, ⟨22, _⟩ => ⟨S1x2048x3072, .f32⟩
  | .hbm, ⟨23, _⟩ => ⟨S1x2048x3072, .f32⟩
  | .hbm, ⟨24, _⟩ => ⟨S1x2048x1536, .f32⟩
  | .hbm, ⟨25, _⟩ => ⟨S1x2048x1536, .f32⟩
  | .hbm, ⟨26, _⟩ => ⟨S1x2048x1536, .f32⟩
  | .hbm, ⟨27, _⟩ => ⟨S_, .f32⟩
  | .hbm, ⟨28, _⟩ => ⟨S1x2048, .f32⟩
  | .hbm, ⟨29, _⟩ => ⟨S1x2048x1, .f32⟩
  | .hbm, ⟨30, _⟩ => ⟨S_, .f32⟩
  | .hbm, ⟨31, _⟩ => ⟨S1x2048x1, .f32⟩
  | .hbm, ⟨32, _⟩ => ⟨S1x2048x1, .f32⟩
  | .hbm, ⟨33, _⟩ => ⟨S_, .f32⟩
  | .hbm, ⟨34, _⟩ => ⟨S1x2048x1, .f32⟩
  | .hbm, ⟨35, _⟩ => ⟨S1x2048x1, .f32⟩
  | .hbm, ⟨36, _⟩ => ⟨S1x2048x1, .f32⟩
  | .hbm, ⟨37, _⟩ => ⟨S1x2048x1, .f32⟩
  | .hbm, ⟨38, _⟩ => ⟨S_, .f32⟩
  | .hbm, ⟨39, _⟩ => ⟨S1x2048x1, .f32⟩
  | .hbm, ⟨40, _⟩ => ⟨S1x2048x1, .f32⟩
  | .hbm, ⟨41, _⟩ => ⟨S1x2048x1536, .f32⟩
  | .hbm, ⟨42, _⟩ => ⟨S1x2048x1536, .f32⟩
  | .hbm, ⟨43, _⟩ => ⟨S1x1x1536, .f32⟩
  | .hbm, ⟨44, _⟩ => ⟨S1x2048x1536, .f32⟩
  | .hbm, ⟨45, _⟩ => ⟨S1x2048x1536, .f32⟩
  | .hbm, ⟨46, _⟩ => ⟨S1x16x128x12x128, .f32⟩
  | .hbm, ⟨47, _⟩ => ⟨S12x1x16x128x128, .f32⟩
  | .hbm, ⟨48, _⟩ => ⟨S1x16x128x12x128, .f32⟩
  | .hbm, ⟨49, _⟩ => ⟨S128x12x128, .f32⟩
  | .hbm, ⟨50, _⟩ => ⟨S1x1x128x12x128, .f32⟩
  | .hbm, ⟨51, _⟩ => ⟨S1x16x128x12x128, .f32⟩
  | .hbm, ⟨52, _⟩ => ⟨S1x16x128x12x128, .f32⟩
  | .hbm, ⟨53, _⟩ => ⟨S1x2048x1536, .f32⟩
  | .hbm, ⟨54, _⟩ => ⟨S1x2048x1536, .f32⟩
  | .hbm, ⟨55, _⟩ => ⟨S2048x1536, .f32⟩
  | .hbm, ⟨56, _⟩ => ⟨S1x2048x1536, .f32⟩
  | .hbm, ⟨57, _⟩ => ⟨S1x2048x1536, .f32⟩
  | .hbm, ⟨58, _⟩ => ⟨S1x2048x1536, .f32⟩
  | .hbm, ⟨59, _⟩ => ⟨S1x16x128x12x128, .f32⟩
  | .hbm, ⟨60, _⟩ => ⟨S_, .f32⟩
  | .hbm, ⟨61, _⟩ => ⟨S1x128x12x128, .f32⟩
  | .hbm, ⟨62, _⟩ => ⟨S1x1x128x12x128, .f32⟩
  | .hbm, ⟨63, _⟩ => ⟨S_, .f32⟩
  | .hbm, ⟨64, _⟩ => ⟨S128x12x128, .f32⟩
  | .hbm, ⟨65, _⟩ => ⟨S12x128x128, .f32⟩
  | .hbm, ⟨66, _⟩ => ⟨S12x1x16x128x128, .f32⟩
  | .hbm, ⟨67, _⟩ => ⟨S12x128x128, .f32⟩
  | .hbm, ⟨68, _⟩ => ⟨S12x1x16x128x128, .f32⟩
  | .hbm, ⟨69, _⟩ => ⟨S1x16x128x12x128, .f32⟩
  | .hbm, ⟨70, _⟩ => ⟨S1x2048x1536, .f32⟩
  | .hbm, ⟨71, _⟩ => ⟨S1x2048x1536, .f32⟩
  | .hbm, ⟨72, _⟩ => ⟨S_, .f32⟩
  | .hbm, ⟨73, _⟩ => ⟨S1x1536, .f32⟩
  | .hbm, ⟨74, _⟩ => ⟨S1x1x1536, .f32⟩
  | .hbm, ⟨75, _⟩ => ⟨S1x2048x1536, .f32⟩
  | .hbm, ⟨76, _⟩ => ⟨S1x2048x1536, .f32⟩
  | .hbm, ⟨77, _⟩ => ⟨S_, .f32⟩
  | .hbm, ⟨78, _⟩ => ⟨S1536, .f32⟩
  | .hbm, ⟨79, _⟩ => ⟨S1x2048x1536, .f32⟩
  | .hbm, ⟨80, _⟩ => ⟨S_, .f32⟩
  | .hbm, ⟨81, _⟩ => ⟨S1x2048, .f32⟩
  | .hbm, ⟨82, _⟩ => ⟨S1x2048x1, .f32⟩
  | .hbm, ⟨83, _⟩ => ⟨S1x2048x1536, .f32⟩
  | .hbm, ⟨84, _⟩ => ⟨S1x2048x1536, .f32⟩
  | .hbm, ⟨85, _⟩ => ⟨S1x2048x1, .f32⟩
  | .hbm, ⟨86, _⟩ => ⟨S_, .f32⟩
  | .hbm, ⟨87, _⟩ => ⟨S1x2048x1, .f32⟩
  | .hbm, ⟨88, _⟩ => ⟨S1x2048x1, .f32⟩
  | .hbm, ⟨89, _⟩ => ⟨S_, .f32⟩
  | .hbm, ⟨90, _⟩ => ⟨S2048, .f32⟩
  | .hbm, ⟨91, _⟩ => ⟨S1x2048, .f32⟩
  | .hbm, ⟨92, _⟩ => ⟨S1x2048x1536, .f32⟩
  | .hbm, ⟨93, _⟩ => ⟨S1x2048x1536, .f32⟩
  | .hbm, ⟨94, _⟩ => ⟨S1x2048x1536, .f32⟩
  | .hbm, ⟨95, _⟩ => ⟨S1x2048x1536, .f32⟩
  | .hbm, ⟨96, _⟩ => ⟨S1x2048x1536, .f32⟩
  | .hbm, ⟨97, _⟩ => ⟨S_, .f32⟩
  | .hbm, ⟨98, _⟩ => ⟨S1x2048x3072, .f32⟩
  | .hbm, ⟨99, _⟩ => ⟨S_, .f32⟩
  | .hbm, ⟨100, _⟩ => ⟨S1x2048x3072, .f32⟩
  | .hbm, ⟨101, _⟩ => ⟨S1x2048x3072, .f32⟩
  | .hbm, ⟨102, _⟩ => ⟨S1x2048x3072, .f32⟩
  | .hbm, ⟨103, _⟩ => ⟨S1x2048x3072, .f32⟩
  | .hbm, ⟨104, _⟩ => ⟨S_, .f32⟩
  | .hbm, ⟨105, _⟩ => ⟨S1x2048x3072, .f32⟩
  | .hbm, ⟨106, _⟩ => ⟨S1x2048x3072, .f32⟩
  | .hbm, ⟨107, _⟩ => ⟨S1x2048x3072, .f32⟩
  | .hbm, ⟨108, _⟩ => ⟨S1x2048x3072, .f32⟩
  | .hbm, ⟨109, _⟩ => ⟨S1x2048x3072, .f32⟩
  | .hbm, ⟨110, _⟩ => ⟨S_, .f32⟩
  | .hbm, ⟨111, _⟩ => ⟨S1x2048x3072, .f32⟩
  | .hbm, ⟨112, _⟩ => ⟨S1x2048x3072, .f32⟩
  | .hbm, ⟨113, _⟩ => ⟨S1x2048x3072, .f32⟩
  | .hbm, ⟨114, _⟩ => ⟨S2048x3072, .f32⟩
  | .hbm, ⟨115, _⟩ => ⟨S2048x3072, .bf16⟩
  | .hbm, ⟨116, _⟩ => ⟨S1x1536, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_13 : Ref sig .tc := ⟨.hbm, 97, rfl⟩
abbrev main_v78 : Ref sig .tc := ⟨.hbm, 98, rfl⟩
abbrev main_cst_14 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_15 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_16 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩

abbrev nD : Nat := 1
abbrev τ : Topo := Topo.v7x

variable {F : FTy → Type} [FloatOps F]
-- ==== Kernel27.lean ====
abbrev S2048x3584 : Shape := ⟨2, ![2048, 3584]⟩
abbrev S256x1024 : Shape := ⟨2, ![256, 1024]⟩
abbrev S2048x2048 : Shape := ⟨2, ![2048, 2048]⟩
abbrev S2048x512 : Shape := ⟨2, ![2048, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S2048x3584, .f32⟩
  | .hbm, ⟨1, _⟩ => ⟨S256x1024, .f32⟩
  | .hbm, ⟨2, _⟩ => ⟨S2048x2048, .f32⟩
  | .hbm, ⟨3, _⟩ => ⟨S2048x512, .bf16⟩
  | .hbm, ⟨4, _⟩ => ⟨S256x512, .f32⟩
  | .hbm, ⟨5, _⟩ => ⟨S256x512, .f32⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg1 : BitVec 32 := BitVec.ofNat 32 (i 1).val
  let c0_i32_19 : BitVec 32 := 0#32
  let v39 : BitVec 1 := Scalar.cmpi .sgt arg1 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference27Ideal.lean ====
abbrev S2048x3584 : Shape := ⟨2, ![2048, 3584]⟩
abbrev S256x1024 : Shape := ⟨2, ![256, 1024]⟩
abbrev S2048x2048 : Shape := ⟨2, ![2048, 2048]⟩
abbrev S2048x512 : Shape := ⟨2, ![2048, 512]⟩
abbrev S1x2048x512 : Shape := ⟨3, ![1, 2048, 512]⟩
abbrev S1x256x1024 : Shape := ⟨3, ![1, 256, 1024]⟩
abbrev S1x256x2x4x128 : Shape := ⟨5, ![1, 256, 2, 4, 128]⟩
abbrev S1x2048x4x128 : Shape := ⟨4, ![1, 2048, 4, 128]⟩
abbrev S1x256x1x4x128 : Shape := ⟨5, ![1, 256, 1, 4, 128]⟩
abbrev S1x256x4x128 : Shape := ⟨4, ![1, 256, 4, 128]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x128x2048 : Shape := ⟨4, ![1, 4, 128, 2048]⟩
abbrev S1x4x128x256 : Shape := ⟨4, ![1, 4, 128, 256]⟩
abbrev S4x2048 : Shape := ⟨2, ![4, 2048]⟩
abbrev S1x4x256x128 : Shape := ⟨4, ![1, 4, 256, 128]⟩
abbrev S1x4x2048x128 : Shape := ⟨4, ![1, 4, 2048, 128]⟩
abbrev S1x256x512 : Shape := ⟨3, ![1, 256, 512]⟩
abbrev S256x512 : Shape := ⟨2, ![256, 512]⟩

abbrev nBuf : Space → Nat
  | .hbm => 101
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S256x1024, .f32⟩
  | .hbm, ⟨2, _⟩ => ⟨S2048x2048, .f32⟩
  | .hbm, ⟨3, _⟩ => ⟨S2048x512, .f32⟩
  | .hbm, ⟨4, _⟩ => ⟨S1x2048x512, .f32⟩
  | .hbm, ⟨5, _⟩ => ⟨S1x256x1024, .f32⟩
  | .hbm, ⟨6, _⟩ => ⟨S1x256x2x4x128, .f32⟩
  | .hbm, ⟨7, _⟩ => ⟨S1x2048x4x128, .f32⟩
  | .hbm, ⟨8, _⟩ => ⟨S1x256x1x4x128, .f32⟩
  | .hbm, ⟨9, _⟩ => ⟨S1x256x4x128, .f32⟩
  | .hbm, ⟨10, _⟩ => ⟨S1x256x1x4x128, .f32⟩
  | .hbm, ⟨11, _⟩ => ⟨S1x256x4x128, .f32⟩
  | .hbm, ⟨12, _⟩ => ⟨S1x4x2048x256, .f32⟩
  | .hbm, ⟨13, _⟩ => ⟨S_, .f32⟩
  | .hbm, ⟨14, _⟩ => ⟨S1x4x2048x256, .f32⟩
  | .hbm, ⟨15, _⟩ => ⟨S1x4x2048x256, .f32⟩
  | .hbm, ⟨16, _⟩ => ⟨S_, .f32⟩
  | .hbm, ⟨17, _⟩ => ⟨S1x4x2048, .f32⟩
  | .hbm, ⟨18, _⟩ => ⟨S1x4x2048x1, .f32⟩
  | .hbm, ⟨19, _⟩ => ⟨S1x4x2048x256, .f32⟩
  | .hbm, ⟨20, _⟩ => ⟨S1x4x2048x256, .i1⟩
  | .hbm, ⟨21, _⟩ => ⟨S1x4x2048x256, .f32⟩
  | .hbm, ⟨22, _⟩ => ⟨S_, .f32⟩
  | .hbm, ⟨23, _⟩ => ⟨S1x4x2048, .f32⟩
  | .hbm, ⟨24, _⟩ => ⟨S_, .f32⟩
  | .hbm, ⟨25, _⟩ => ⟨S1x4x2048, .f32⟩
  | .hbm, ⟨26, _⟩ => ⟨S1x4x2048, .f32⟩
  | .hbm, ⟨27, _⟩ => ⟨S_, .f32⟩
  | .hbm, ⟨28, _⟩ => ⟨S1x4x2048, .f32⟩
  | .hbm, ⟨29, _⟩ => ⟨S1x4x2048, .i1⟩
  | .hbm, ⟨30, _⟩ => ⟨S_, .f32⟩
  | .hbm, ⟨31, _⟩ => ⟨S1x4x2048, .f32⟩
  | .hbm, ⟨32, _⟩ => ⟨S1x4x2048, .i1⟩
  | .hbm, ⟨33, _⟩ => ⟨S_, .f32⟩
  | .hbm, ⟨34, _⟩ => ⟨S1x4x2048, .f32⟩
  | .hbm, ⟨35, _⟩ => ⟨S_, .f32⟩
  | .hbm, ⟨36, _⟩ => ⟨S1x4x2048, .f32⟩
  | .hbm, ⟨37, _⟩ => ⟨S_, .f32⟩
  | .hbm, ⟨38, _⟩ => ⟨S1x4x2048, .f32⟩
  | .hbm, ⟨39, _⟩ => ⟨S1x4x2048, .f32⟩
  | .hbm, ⟨40, _⟩ => ⟨S1x4x2048, .f32⟩
  | .hbm, ⟨41, _⟩ => ⟨S1x4x2048x1, .f32⟩
  | .hbm, ⟨42, _⟩ => ⟨S1x4x2048x256, .f32⟩
  | .hbm, ⟨43, _⟩ => ⟨S1x4x2048x256, .f32⟩
  | .hbm, ⟨44, _⟩ => ⟨S1x4x2048x256, .f32⟩
  | .hbm, ⟨45, _⟩ => ⟨S_, .f32⟩
  | .hbm, ⟨46, _⟩ => ⟨S1x4x2048, .f32⟩
  | .hbm, ⟨47, _⟩ => ⟨S1x4x2048x1, .f32⟩
  | .hbm, ⟨48, _⟩ => ⟨S1x4x2048x256, .f32⟩
  | .hbm, ⟨49, _⟩ => ⟨S1x4x2048x256, .f32⟩
  | .hbm, ⟨50, _⟩ => ⟨S1x4x2048x1, .f32⟩
  | .hbm, ⟨51, _⟩ => ⟨S_, .f32⟩
  | .hbm, ⟨52, _⟩ => ⟨S1x4x2048x1, .f32⟩
  | .hbm, ⟨53, _⟩ => ⟨S1x4x2048x1, .f32⟩
  | .hbm, ⟨54, _⟩ => ⟨S1x4x128x2048, .f32⟩
  | .hbm, ⟨55, _⟩ => ⟨S1x2048x4x128, .f32⟩
  | .hbm, ⟨56, _⟩ => ⟨S1x2048x512, .f32⟩
  | .hbm, ⟨57, _⟩ => ⟨S2048x512, .f32⟩
  | .hbm, ⟨58, _⟩ => ⟨S1x2048x512, .f32⟩
  | .hbm, ⟨59, _⟩ => ⟨S1x2048x4x128, .f32⟩
  | .hbm, ⟨60, _⟩ => ⟨S1x4x128x2048, .f32⟩
  | .hbm, ⟨61, _⟩ => ⟨S1x4x2048x256, .f32⟩
  | .hbm, ⟨62, _⟩ => ⟨S1x4x128x256, .f32⟩
  | .hbm, ⟨63, _⟩ => ⟨S1x256x4x128, .f32⟩
  | .hbm, ⟨64, _⟩ => ⟨S1x4x2048x256, .f32⟩
  | .hbm, ⟨65, _⟩ => ⟨S1x4x2048x256, .f32⟩
  | .hbm, ⟨66, _⟩ => ⟨S1x4x2048x256, .f32⟩
  | .hbm, ⟨67, _⟩ => ⟨S_, .f32⟩
  | .hbm, ⟨68, _⟩ => ⟨S1x4x2048, .f32⟩
  | .hbm, ⟨69, _⟩ => ⟨S1x4x2048x1, .f32⟩
  | .hbm, ⟨70, _⟩ => ⟨S1x4x2048x1, .f32⟩
  | .hbm, ⟨71, _⟩ => ⟨S1x4x2048x256, .f32⟩
  | .hbm, ⟨72, _⟩ => ⟨S1x4x2048x256, .f32⟩
  | .hbm, ⟨73, _⟩ => ⟨S_, .f32⟩
  | .hbm, ⟨74, _⟩ => ⟨S4x2048, .f32⟩
  | .hbm, ⟨75, _⟩ => ⟨S1x4x2048, .f32⟩
  | .hbm, ⟨76, _⟩ => ⟨S1x4x2048x256, .f32⟩
  | .hbm, ⟨77, _⟩ => ⟨S1x4x2048x256, .f32⟩
  | .hbm, ⟨78, _⟩ => ⟨S1x4x2048x256, .f32⟩
  | .hbm, ⟨79, _⟩ => ⟨S_, .f32⟩
  | .hbm, ⟨80, _⟩ => ⟨S1x4x2048x256, .f32⟩
  | .hbm, ⟨81, _⟩ => ⟨S1x4x2048x256, .f32⟩
  | .hbm, ⟨82, _⟩ => ⟨S1x4x256x128, .f32⟩
  | .hbm, ⟨83, _⟩ => ⟨S1x256x4x128, .f32⟩
  | .hbm, ⟨84, _⟩ => ⟨S1x4x2048x128, .f32⟩
  | .hbm, ⟨85, _⟩ => ⟨S1x2048x4x128, .f32⟩
  | .hbm, ⟨86, _⟩ => ⟨S1x256x1x4x128, .f32⟩
  | .hbm, ⟨87, _⟩ => ⟨S_, .f32⟩
  | .hbm, ⟨88, _⟩ => ⟨S1x256x2x4x128, .f32⟩
  | .hbm, ⟨89, _⟩ => ⟨S1x256x1x4x128, .f32⟩
  | .hbm, ⟨90, _⟩ => ⟨S_, .f32⟩
  | .hbm, ⟨91, _⟩ => ⟨S1x256x2x4x128, .f32⟩
  | .hbm, ⟨92, _⟩ => ⟨S1x256x2x4x128, .f32⟩
  | .hbm, ⟨93, _⟩ => ⟨S1x2048x512, .f32⟩
  | .hbm, ⟨94, _⟩ => ⟨S1x256x1024, .f32⟩
  | .hbm, ⟨95, _⟩ => ⟨S2048x512, .f32⟩
  | .hbm, ⟨96, _⟩ => ⟨S2048x512, .bf16⟩
  | .hbm, ⟨97, _⟩ => ⟨S1x256x512, .f32⟩
  | .hbm, ⟨98, _⟩ => ⟨S256x512, .f32⟩
  | .hbm, ⟨99, _⟩ => ⟨S1x256x512, .f32⟩
  | .hbm, ⟨100, _⟩ => ⟨S256x512, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel28.lean ====
abbrev S2048x5120 : Shape := ⟨2, ![2048, 5120]⟩
abbrev S256x1024 : Shape := ⟨2, ![256, 1024]⟩
abbrev S2048x512 : Shape := ⟨2, ![2048, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x5120, .f32⟩
  | .hbm, ⟨1, _⟩ => ⟨S256x1024, .f32⟩
  | .hbm, ⟨2, _⟩ => ⟨S2048x512, .bf16⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S512x128, .bf16⟩
  | .local _ .vmem, ⟨7, _⟩ => ⟨S512x128, .bf16⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference28Ideal.lean ====
abbrev S2048x5120 : Shape := ⟨2, ![2048, 5120]⟩
abbrev S256x1024 : Shape := ⟨2, ![256, 1024]⟩
abbrev S2048x512 : Shape := ⟨2, ![2048, 512]⟩
abbrev S1x2048x512 : Shape := ⟨3, ![1, 2048, 512]⟩
abbrev S1x256x1024 : Shape := ⟨3, ![1, 256, 1024]⟩
abbrev S1x256x2x4x128 : Shape := ⟨5, ![1, 256, 2, 4, 128]⟩
abbrev S1x2048x4x128 : Shape := ⟨4, ![1, 2048, 4, 128]⟩
abbrev S1x256x1x4x128 : Shape := ⟨5, ![1, 256, 1, 4, 128]⟩
abbrev S1x256x4x128 : Shape := ⟨4, ![1, 256, 4, 128]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x128x2048 : Shape := ⟨4, ![1, 4, 128, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S256x1024, .f32⟩
  | .hbm, ⟨2, _⟩ => ⟨S2048x512, .f32⟩
  | .hbm, ⟨3, _⟩ => ⟨S1x2048x512, .f32⟩
  | .hbm, ⟨4, _⟩ => ⟨S1x256x1024, .f32⟩
  | .hbm, ⟨5, _⟩ => ⟨S1x256x2x4x128, .f32⟩
  | .hbm, ⟨6, _⟩ => ⟨S1x2048x4x128, .f32⟩
  | .hbm, ⟨7, _⟩ => ⟨S1x256x1x4x128, .f32⟩
  | .hbm, ⟨8, _⟩ => ⟨S1x256x4x128, .f32⟩
  | .hbm, ⟨9, _⟩ => ⟨S1x256x1x4x128, .f32⟩
  | .hbm, ⟨10, _⟩ => ⟨S1x256x4x128, .f32⟩
  | .hbm, ⟨11, _⟩ => ⟨S1x4x2048x256, .f32⟩
  | .hbm, ⟨12, _⟩ => ⟨S_, .f32⟩
  | .hbm, ⟨13, _⟩ => ⟨S1x4x2048x256, .f32⟩
  | .hbm, ⟨14, _⟩ => ⟨S1x4x2048x256, .f32⟩
  | .hbm, ⟨15, _⟩ => ⟨S_, .f32⟩
  | .hbm, ⟨16, _⟩ => ⟨S1x4x2048, .f32⟩
  | .hbm, ⟨17, _⟩ => ⟨S_, .f32⟩
  | .hbm, ⟨18, _⟩ => ⟨S1x4x2048, .f32⟩
  | .hbm, ⟨19, _⟩ => ⟨S1x4x2048, .f32⟩
  | .hbm, ⟨20, _⟩ => ⟨S1x4x2048x1, .f32⟩
  | .hbm, ⟨21, _⟩ => ⟨S1x4x2048x256, .f32⟩
  | .hbm, ⟨22, _⟩ => ⟨S1x4x2048x256, .f32⟩
  | .hbm, ⟨23, _⟩ => ⟨S1x4x2048x256, .f32⟩
  | .hbm, ⟨24, _⟩ => ⟨S_, .f32⟩
  | .hbm, ⟨25, _⟩ => ⟨S1x4x2048, .f32⟩
  | .hbm, ⟨26, _⟩ => ⟨S1x4x2048x1, .f32⟩
  | .hbm, ⟨27, _⟩ => ⟨S1x4x2048x256, .f32⟩
  | .hbm, ⟨28, _⟩ => ⟨S1x4x2048x256, .f32⟩
  | .hbm, ⟨29, _⟩ => ⟨S1x4x128x2048, .f32⟩
  | .hbm, ⟨30, _⟩ => ⟨S1x2048x4x128, .f32⟩
  | .hbm, ⟨31, _⟩ => ⟨S1x2048x512, .f32⟩
  | .hbm, ⟨32, _⟩ => ⟨S2048x512, .f32⟩
  | .hbm, ⟨33, _⟩ => ⟨S2048x512, .bf16⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel29.lean ====
abbrev S2048x3584 : Shape := ⟨2, ![2048, 3584]⟩
abbrev S256x1024 : Shape := ⟨2, ![256, 1024]⟩
abbrev S2048x512 : Shape := ⟨2, ![2048, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x3584, .f32⟩
  | .hbm, ⟨1, _⟩ => ⟨S256x1024, .f32⟩
  | .hbm, ⟨2, _⟩ => ⟨S2048x512, .bf16⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S512x128, .bf16⟩
  | .local _ .vmem, ⟨7, _⟩ => ⟨S512x128, .bf16⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference29Ideal.lean ====
abbrev S2048x3584 : Shape := ⟨2, ![2048, 3584]⟩
abbrev S256x1024 : Shape := ⟨2, ![256, 1024]⟩
abbrev S2048x512 : Shape := ⟨2, ![2048, 512]⟩
abbrev S1x2048x512 : Shape := ⟨3, ![1, 2048, 512]⟩
abbrev S1x256x1024 : Shape := ⟨3, ![1, 256, 1024]⟩
abbrev S1x256x2x4x128 : Shape := ⟨5, ![1, 256, 2, 4, 128]⟩
abbrev S1x2048x4x128 : Shape := ⟨4, ![1, 2048, 4, 128]⟩
abbrev S1x256x1x4x128 : Shape := ⟨5, ![1, 256, 1, 4, 128]⟩
abbrev S1x256x4x128 : Shape := ⟨4, ![1, 256, 4, 128]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x128x2048 : Shape := ⟨4, ![1, 4, 128, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S256x1024, .f32⟩
  | .hbm, ⟨2, _⟩ => ⟨S2048x512, .f32⟩
  | .hbm, ⟨3, _⟩ => ⟨S1x2048x512, .f32⟩
  | .hbm, ⟨4, _⟩ => ⟨S1x256x1024, .f32⟩
  | .hbm, ⟨5, _⟩ => ⟨S1x256x2x4x128, .f32⟩
  | .hbm, ⟨6, _⟩ => ⟨S1x2048x4x128, .f32⟩
  | .hbm, ⟨7, _⟩ => ⟨S1x256x1x4x128, .f32⟩
  | .hbm, ⟨8, _⟩ => ⟨S1x256x4x128, .f32⟩
  | .hbm, ⟨9, _⟩ => ⟨S1x256x1x4x128, .f32⟩
  | .hbm, ⟨10, _⟩ => ⟨S1x256x4x128, .f32⟩
  | .hbm, ⟨11, _⟩ => ⟨S1x4x2048x256, .f32⟩
  | .hbm, ⟨12, _⟩ => ⟨S_, .f32⟩
  | .hbm, ⟨13, _⟩ => ⟨S1x4x2048x256, .f32⟩
  | .hbm, ⟨14, _⟩ => ⟨S1x4x2048x256, .f32⟩
  | .hbm, ⟨15, _⟩ => ⟨S_, .f32⟩
  | .hbm, ⟨16, _⟩ => ⟨S1x4x2048, .f32⟩
  | .hbm, ⟨17, _⟩ => ⟨S_, .f32⟩
  | .hbm, ⟨18, _⟩ => ⟨S1x4x2048, .f32⟩
  | .hbm, ⟨19, _⟩ => ⟨S1x4x2048, .f32⟩
  | .hbm, ⟨20, _⟩ => ⟨S1x4x2048x1, .f32⟩
  | .hbm, ⟨21, _⟩ => ⟨S1x4x2048x256, .f32⟩
  | .hbm, ⟨22, _⟩ => ⟨S1x4x2048x256, .f32⟩
  | .hbm, ⟨23, _⟩ => ⟨S1x4x2048x256, .f32⟩
  | .hbm, ⟨24, _⟩ => ⟨S_, .f32⟩
  | .hbm, ⟨25, _⟩ => ⟨S1x4x2048, .f32⟩
  | .hbm, ⟨26, _⟩ => ⟨S1x4x2048x1, .f32⟩
  | .hbm, ⟨27, _⟩ => ⟨S1x4x2048x256, .f32⟩
  | .hbm, ⟨28, _⟩ => ⟨S1x4x2048x256, .f32⟩
  | .hbm, ⟨29, _⟩ => ⟨S1x4x128x2048, .f32⟩
  | .hbm, ⟨30, _⟩ => ⟨S1x2048x4x128, .f32⟩
  | .hbm, ⟨31, _⟩ => ⟨S1x2048x512, .f32⟩
  | .hbm, ⟨32, _⟩ => ⟨S2048x512, .f32⟩
  | .hbm, ⟨33, _⟩ => ⟨S2048x512, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel30.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel30Ideal.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel31.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference31Ideal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel32.lean ====
abbrev S2048x3584 : Shape := ⟨2, ![2048, 3584]⟩
abbrev S1536 : Shape := ⟨1, ![1536]⟩
abbrev S12x128x128 : Shape := ⟨3, ![12, 128, 128]⟩
abbrev S12x128 : Shape := ⟨2, ![12, 128]⟩
abbrev S12x128x1 : Shape := ⟨3, ![12, 128, 1]⟩
abbrev S1x1536 : Shape := ⟨2, ![1, 1536]⟩
abbrev S2048x1536 : Shape := ⟨2, ![2048, 1536]⟩
abbrev S128x3072 : Shape := ⟨2, ![128, 3072]⟩
abbrev S128x1536 : Shape := ⟨2, ![128, 1536]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 8
  | .vmem => 7
  | .smem => 0
  | _ => 0

abbrev bufTy : (tb : Table) → Fin (tcTables nBuf tb) → BufTy
  | .hbm, ⟨0, _⟩ => ⟨S2048x3584, .f32⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S12x128x1, .f32⟩
  | .hbm, ⟨5, _⟩ => ⟨S12x128x128, .f32⟩
  | .hbm, ⟨6, _⟩ => ⟨S1x1536, .f32⟩
  | .hbm, ⟨7, _⟩ => ⟨S2048x1536, .bf16⟩
  | .local _ .vmem, ⟨0, _⟩ => ⟨S128x3072, .f32⟩
  | .local _ .vmem, ⟨1, _⟩ => ⟨S128x3072, .f32⟩
  | .local _ .vmem, ⟨2, _⟩ => ⟨S1x1536, .f32⟩
  | .local _ .vmem, ⟨3, _⟩ => ⟨S12x128x128, .f32⟩
  | .local _ .vmem, ⟨4, _⟩ => ⟨S12x128x128, .f32⟩
  | .local _ .vmem, ⟨5, _⟩ => ⟨S128x1536, .bf16⟩
  | .local _ .vmem, ⟨6, _⟩ => ⟨S128x1536, .bf16⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S2048x3584 : Shape := ⟨2, ![2048, 3584]⟩
abbrev S1536 : Shape := ⟨1, ![1536]⟩
abbrev S12x128x128 : Shape := ⟨3, ![12, 128, 128]⟩
abbrev S12x128 : Shape := ⟨2, ![12, 128]⟩
abbrev S2048x3072 : Shape := ⟨2, ![2048, 3072]⟩
abbrev S1x2048x3072 : Shape := ⟨3, ![1, 2048, 3072]⟩
abbrev S12x128x1 : Shape := ⟨3, ![12, 128, 1]⟩
abbrev S_ : Shape := ⟨0, ![]⟩
abbrev S1x2048x1536 : Shape := ⟨3, ![1, 2048, 1536]⟩
abbrev S1x2048 : Shape := ⟨2, ![1, 2048]⟩
abbrev S1x2048x1 : Shape := ⟨3, ![1, 2048, 1]⟩
abbrev S1x1x1536 : Shape := ⟨3, ![1, 1, 1536]⟩
abbrev S1x16x128x12x128 : Shape := ⟨5, ![1, 16, 128, 12, 128]⟩
abbrev S12x1x16x128x128 : Shape := ⟨5, ![12, 1, 16, 128, 128]⟩
abbrev S128x12x1 : Shape := ⟨3, ![128, 12, 1]⟩
abbrev S1x1x128x12x1 : Shape := ⟨5, ![1, 1, 128, 12, 1]⟩
abbrev S2048x1536 : Shape := ⟨2, ![2048, 1536]⟩

abbrev nBuf : Space → Nat
  | .hbm => 45
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S2048x3072, .f32⟩
  | .hbm, ⟨5, _⟩ => ⟨S1x2048x3072, .f32⟩
  | .hbm, ⟨6, _⟩ => ⟨S12x128x1, .f32⟩
  | .hbm, ⟨7, _⟩ => ⟨S_, .f32⟩
  | .hbm, ⟨8, _⟩ => ⟨S1x2048x3072, .f32⟩
  | .hbm, ⟨9, _⟩ => ⟨S1x2048x3072, .f32⟩
  | .hbm, ⟨10, _⟩ => ⟨S1x2048x3072, .f32⟩
  | .hbm, ⟨11, _⟩ => ⟨S_, .f32⟩
  | .hbm, ⟨12, _⟩ => ⟨S1x2048x3072, .f32⟩
  | .hbm, ⟨13, _⟩ => ⟨S1x2048x3072, .f32⟩
  | .hbm, ⟨14, _⟩ => ⟨S1x2048x3072, .f32⟩
  | .hbm, ⟨15, _⟩ => ⟨S1x2048x3072, .f32⟩
  | .hbm, ⟨16, _⟩ => ⟨S1x2048x1536, .f32⟩
  | .hbm, ⟨17, _⟩ => ⟨S1x2048x1536, .f32⟩
  | .hbm, ⟨18, _⟩ => ⟨S1x2048x1536, .f32⟩
  | .hbm, ⟨19, _⟩ => ⟨S_, .f32⟩
  | .hbm, ⟨20, _⟩ => ⟨S1x2048, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S_, .f32⟩
  | .hbm, ⟨26, _⟩ => ⟨S1x2048x1, .f32⟩
  | .hbm, ⟨27, _⟩ => ⟨S1x2048x1, .f32⟩
  | .hbm, ⟨28, _⟩ => ⟨S1x2048x1, .f32⟩
  | .hbm, ⟨29, _⟩ => ⟨S1x2048x1536, .f32⟩
  | .hbm, ⟨30, _⟩ => ⟨S1x2048x1536, .f32⟩
  | .hbm, ⟨31, _⟩ => ⟨S1x1x1536, .f32⟩
  | .hbm, ⟨32, _⟩ => ⟨S1x2048x1536, .f32⟩
  | .hbm, ⟨33, _⟩ => ⟨S1x2048x1536, .f32⟩
  | .hbm, ⟨34, _⟩ => ⟨S1x16x128x12x128, .f32⟩
  | .hbm, ⟨35, _⟩ => ⟨S12x1x16x128x128, .f32⟩
  | .hbm, ⟨36, _⟩ => ⟨S1x16x128x12x128, .f32⟩
  | .hbm, ⟨37, _⟩ => ⟨S128x12x1, .f32⟩
  | .hbm, ⟨38, _⟩ => ⟨S1x1x128x12x1, .f32⟩
  | .hbm, ⟨39, _⟩ => ⟨S1x16x128x12x128, .f32⟩
  | .hbm, ⟨40, _⟩ => ⟨S1x16x128x12x128, .f32⟩
  | .hbm, ⟨41, _⟩ => ⟨S1x2048x1536, .f32⟩
  | .hbm, ⟨42, _⟩ => ⟨S1x2048x1536, .f32⟩
  | .hbm, ⟨43, _⟩ => ⟨S2048x1536, .f32⟩
  | .hbm, ⟨44, _⟩ => ⟨S2048x1536, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel33.lean ====
abbrev S2048x11264 : Shape := ⟨2, ![2048, 11264]⟩
abbrev S3x11264 : Shape := ⟨2, ![3, 11264]⟩
abbrev S11264 : Shape := ⟨1, ![11264]⟩
abbrev S1x11264 : Shape := ⟨2, ![1, 11264]⟩
abbrev S2048x5632 : Shape := ⟨2, ![2048, 5632]⟩
abbrev S2048x256 : Shape := ⟨2, ![2048, 256]⟩
abbrev S3x256 : Shape := ⟨2, ![3, 256]⟩
abbrev S1x256 : Shape := ⟨2, ![1, 256]⟩

abbrev nBuf : Space → Nat
  | .hbm => 5
  | .vmem => 14
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S2048x5632, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S2048x11264 : Shape := ⟨2, ![2048, 11264]⟩
abbrev S3x11264 : Shape := ⟨2, ![3, 11264]⟩
abbrev S11264 : Shape := ⟨1, ![11264]⟩
abbrev S1x2048x11264 : Shape := ⟨3, ![1, 2048, 11264]⟩
abbrev S_ : Shape := ⟨0, ![]⟩
abbrev S1x2050x11264 : Shape := ⟨3, ![1, 2050, 11264]⟩
abbrev S1x11264 : Shape := ⟨2, ![1, 11264]⟩
abbrev S1x1x11264 : Shape := ⟨3, ![1, 1, 11264]⟩
abbrev S1x2048x5632 : Shape := ⟨3, ![1, 2048, 5632]⟩
abbrev S2048x5632 : Shape := ⟨2, ![2048, 5632]⟩

abbrev nBuf : Space → Nat
  | .hbm => 44
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S1x2048x11264, .f32⟩
  | .hbm, ⟨4, _⟩ => ⟨S_, .i32⟩
  | .hbm, ⟨5, _⟩ => ⟨S_, .f32⟩
  | .hbm, ⟨6, _⟩ => ⟨S1x2050x11264, .f32⟩
  | .hbm, ⟨7, _⟩ => ⟨S1x2048x11264, .f32⟩
  | .hbm, ⟨8, _⟩ => ⟨S1x11264, .f32⟩
  | .hbm, ⟨9, _⟩ => ⟨S11264, .f32⟩
  | .hbm, ⟨10, _⟩ => ⟨S1x1x11264, .f32⟩
  | .hbm, ⟨11, _⟩ => ⟨S1x2048x11264, .f32⟩
  | .hbm, ⟨12, _⟩ => ⟨S1x2048x11264, .f32⟩
  | .hbm, ⟨13, _⟩ => ⟨S1x2048x11264, .f32⟩
  | .hbm, ⟨14, _⟩ => ⟨S1x11264, .f32⟩
  | .hbm, ⟨15, _⟩ => ⟨S11264, .f32⟩
  | .hbm, ⟨16, _⟩ => ⟨S1x1x11264, .f32⟩
  | .hbm, ⟨17, _⟩ => ⟨S1x2048x11264, .f32⟩
  | .hbm, ⟨18, _⟩ => ⟨S1x2048x11264, .f32⟩
  | .hbm, ⟨19, _⟩ => ⟨S1x2048x11264, .f32⟩
  | .hbm, ⟨20, _⟩ => ⟨S1x2048x11264, .f32⟩
  | .hbm, ⟨21, _⟩ => ⟨S1x11264, .f32⟩
  | .hbm, ⟨22, _⟩ => ⟨S11264, .f32⟩
  | .hbm, ⟨23, _⟩ => ⟨S1x1x11264, .f32⟩
  | .hbm, ⟨24, _⟩ => ⟨S1x2048x11264, .f32⟩
  | .hbm, ⟨25, _⟩ => ⟨S1x2048x11264, .f32⟩
  | .hbm, ⟨26, _⟩ => ⟨S1x2048x11264, .f32⟩
  | .hbm, ⟨27, _⟩ => ⟨S1x1x11264, .f32⟩
  | .hbm, ⟨28, _⟩ => ⟨S1x2048x11264, .f32⟩
  | .hbm, ⟨29, _⟩ => ⟨S1x2048x11264, .f32⟩
  | .hbm, ⟨30, _⟩ => ⟨S1x2048x5632, .f32⟩
  | .hbm, ⟨31, _⟩ => ⟨S1x2048x5632, .f32⟩
  | .hbm, ⟨32, _⟩ => ⟨S_, .f32⟩
  | .hbm, ⟨33, _⟩ => ⟨S1x2048x5632, .f32⟩
  | .hbm, ⟨34, _⟩ => ⟨S1x2048x5632, .f32⟩
  | .hbm, ⟨35, _⟩ => ⟨S1x2048x5632, .f32⟩
  | .hbm, ⟨36, _⟩ => ⟨S_, .f32⟩
  | .hbm, ⟨37, _⟩ => ⟨S1x2048x5632, .f32⟩
  | .hbm, ⟨38, _⟩ => ⟨S1x2048x5632, .f32⟩
  | .hbm, ⟨39, _⟩ => ⟨S1x2048x5632, .f32⟩
  | .hbm, ⟨40, _⟩ => ⟨S1x2048x5632, .f32⟩
  | .hbm, ⟨41, _⟩ => ⟨S1x2048x5632, .f32⟩
  | .hbm, ⟨42, _⟩ => ⟨S2048x5632, .f32⟩
  | .hbm, ⟨43, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Kernel34.lean ====
abbrev S4x1408x2048 : Shape := ⟨3, ![4, 1408, 2048]⟩
abbrev S1408x2048 : Shape := ⟨2, ![1408, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S4x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S4x1408x2048 : Shape := ⟨3, ![4, 1408, 2048]⟩
abbrev S1408x2048 : Shape := ⟨2, ![1408, 2048]⟩
abbrev S1x1408x2048 : Shape := ⟨3, ![1, 1408, 2048]⟩
abbrev S_ : Shape := ⟨0, ![]⟩
abbrev S3x1408x2048 : Shape := ⟨3, ![3, 1408, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S1x1408x2048, .f32⟩
  | .hbm, ⟨9, _⟩ => ⟨S1408x2048, .f32⟩
  | .hbm, ⟨10, _⟩ => ⟨S1x1408x2048, .f32⟩
  | .hbm, ⟨11, _⟩ => ⟨S1408x2048, .f32⟩
  | .hbm, ⟨12, _⟩ => ⟨S1x1408x2048, .f32⟩
  | .hbm, ⟨13, _⟩ => ⟨S1408x2048, .f32⟩
  | .hbm, ⟨14, _⟩ => ⟨S_, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S1408x2048, .f32⟩
  | .hbm, ⟨25, _⟩ => ⟨S_, .f32⟩
  | .hbm, ⟨26, _⟩ => ⟨S1408x2048, .f32⟩
  | .hbm, ⟨27, _⟩ => ⟨S1408x2048, .f32⟩
  | .hbm, ⟨28, _⟩ => ⟨S1408x2048, .f32⟩
  | .hbm, ⟨29, _⟩ => ⟨S_, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | .hbm, ⟨39, _⟩ => ⟨S1408x2048, .f32⟩
  | .hbm, ⟨40, _⟩ => ⟨S_, .f32⟩
  | .hbm, ⟨41, _⟩ => ⟨S1408x2048, .f32⟩
  | .hbm, ⟨42, _⟩ => ⟨S1408x2048, .f32⟩
  | .hbm, ⟨43, _⟩ => ⟨S1408x2048, .f32⟩
  | .hbm, ⟨44, _⟩ => ⟨S_, .f32⟩
  | .hbm, ⟨45, _⟩ => ⟨S1408x2048, .f32⟩
  | .hbm, ⟨46, _⟩ => ⟨S1408x2048, .f32⟩
  | .hbm, ⟨47, _⟩ => ⟨S1x1408x2048, .f32⟩
  | .hbm, ⟨48, _⟩ => ⟨S3x1408x2048, .f32⟩
  | .hbm, ⟨49, _⟩ => ⟨S4x1408x2048, .f32⟩
  | .hbm, ⟨50, _⟩ => ⟨S1x1408x2048, .f32⟩
  | .hbm, ⟨51, _⟩ => ⟨S3x1408x2048, .f32⟩
  | .hbm, ⟨52, _⟩ => ⟨S4x1408x2048, .f32⟩
  | .hbm, ⟨53, _⟩ => ⟨S1x1408x2048, .f32⟩
  | .hbm, ⟨54, _⟩ => ⟨S3x1408x2048, .f32⟩
  | .hbm, ⟨55, _⟩ => ⟨S4x1408x2048, .f32⟩
  | .hbm, ⟨56, _⟩ => ⟨S1x1408x2048, .f32⟩
  | .hbm, ⟨57, _⟩ => ⟨S3x1408x2048, .f32⟩
  | .hbm, ⟨58, _⟩ => ⟨S4x1408x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel35.lean ====
abbrev S4x2048 : Shape := ⟨2, ![4, 2048]⟩
abbrev S2x384 : Shape := ⟨2, ![2, 384]⟩
abbrev S2x12x128x128 : Shape := ⟨4, ![2, 12, 128, 128]⟩
abbrev S2x12x128 : Shape := ⟨3, ![2, 12, 128]⟩
abbrev S4x3x2816 : Shape := ⟨3, ![4, 3, 2816]⟩
abbrev S4x11264 : Shape := ⟨2, ![4, 11264]⟩
abbrev S2048 : Shape := ⟨1, ![2048]⟩
abbrev S8192 : Shape := ⟨1, ![8192]⟩
abbrev S768 : Shape := ⟨1, ![768]⟩
abbrev S393216 : Shape := ⟨1, ![393216]⟩
abbrev S3072 : Shape := ⟨1, ![3072]⟩
abbrev S33792 : Shape := ⟨1, ![33792]⟩
abbrev S45056 : Shape := ⟨1, ![45056]⟩
abbrev S502528 : Shape := ⟨1, ![502528]⟩
abbrev S_ : Shape := ⟨0, ![]⟩
abbrev S507904 : Shape := ⟨1, ![507904]⟩
abbrev S3968x128 : Shape := ⟨2, ![3968, 128]⟩
abbrev S128x128 : Shape := ⟨2, ![128, 128]⟩

abbrev nBuf : Space → Nat
  | .hbm => 91
  | .vmem => 14
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S2x384, .f32⟩
  | .hbm, ⟨4, _⟩ => ⟨S2x12x128x128, .f32⟩
  | .hbm, ⟨5, _⟩ => ⟨S2x12x128, .f32⟩
  | .hbm, ⟨6, _⟩ => ⟨S4x3x2816, .f32⟩
  | .hbm, ⟨7, _⟩ => ⟨S4x11264, .f32⟩
  | .hbm, ⟨8, _⟩ => ⟨S2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S2x384, .f32⟩
  | .hbm, ⟨13, _⟩ => ⟨S2x12x128x128, .f32⟩
  | .hbm, ⟨14, _⟩ => ⟨S2x12x128, .f32⟩
  | .hbm, ⟨15, _⟩ => ⟨S4x3x2816, .f32⟩
  | .hbm, ⟨16, _⟩ => ⟨S4x11264, .f32⟩
  | .hbm, ⟨17, _⟩ => ⟨S2048, .f32⟩
  | .hbm, ⟨18, _⟩ => ⟨S4x2048, .f32⟩
  | .hbm, ⟨19, _⟩ => ⟨S4x2048, .f32⟩
  | .hbm, ⟨20, _⟩ => ⟨S4x2048, .f32⟩
  | .hbm, ⟨21, _⟩ => ⟨S2x384, .f32⟩
  | .hbm, ⟨22, _⟩ => ⟨S2x12x128x128, .f32⟩
  | .hbm, ⟨23, _⟩ => ⟨S2x12x128, .f32⟩
  | .hbm, ⟨24, _⟩ => ⟨S4x3x2816, .f32⟩
  | .hbm, ⟨25, _⟩ => ⟨S4x11264, .f32⟩
  | .hbm, ⟨26, _⟩ => ⟨S2048, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S2x384, .f32⟩
  | .hbm, ⟨31, _⟩ => ⟨S2x12x128x128, .f32⟩
  | .hbm, ⟨32, _⟩ => ⟨S2x12x128, .f32⟩
  | .hbm, ⟨33, _⟩ => ⟨S4x3x2816, .f32⟩
  | .hbm, ⟨34, _⟩ => ⟨S4x11264, .f32⟩
  | .hbm, ⟨35, _⟩ => ⟨S2048, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S768, .f32⟩
  | .hbm, ⟨40, _⟩ => ⟨S393216, .f32⟩
  | .hbm, ⟨41, _⟩ => ⟨S3072, .f32⟩
  | .hbm, ⟨42, _⟩ => ⟨S33792, .f32⟩
  | .hbm, ⟨43, _⟩ => ⟨S45056, .f32⟩
  | .hbm, ⟨44, _⟩ => ⟨S502528, .f32⟩
  | .hbm, ⟨45, _⟩ => ⟨S_, .i32⟩
  | .hbm, ⟨46, _⟩ => ⟨S_, .f32⟩
  | .hbm, ⟨47, _⟩ => ⟨S507904, .f32⟩
  | .hbm, ⟨48, _⟩ => ⟨S3968x128, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S768, .f32⟩
  | .hbm, ⟨53, _⟩ => ⟨S393216, .f32⟩
  | .hbm, ⟨54, _⟩ => ⟨S3072, .f32⟩
  | .hbm, ⟨55, _⟩ => ⟨S33792, .f32⟩
  | .hbm, ⟨56, _⟩ => ⟨S45056, .f32⟩
  | .hbm, ⟨57, _⟩ => ⟨S502528, .f32⟩
  | .hbm, ⟨58, _⟩ => ⟨S_, .i32⟩
  | .hbm, ⟨59, _⟩ => ⟨S_, .f32⟩
  | .hbm, ⟨60, _⟩ => ⟨S507904, .f32⟩
  | .hbm, ⟨61, _⟩ => ⟨S3968x128, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S768, .f32⟩
  | .hbm, ⟨66, _⟩ => ⟨S393216, .f32⟩
  | .hbm, ⟨67, _⟩ => ⟨S3072, .f32⟩
  | .hbm, ⟨68, _⟩ => ⟨S33792, .f32⟩
  | .hbm, ⟨69, _⟩ => ⟨S45056, .f32⟩
  | .hbm, ⟨70, _⟩ => ⟨S502528, .f32⟩
  | .hbm, ⟨71, _⟩ => ⟨S_, .i32⟩
  | .hbm, ⟨72, _⟩ => ⟨S_, .f32⟩
  | .hbm, ⟨73, _⟩ => ⟨S507904, .f32⟩
  | .hbm, ⟨74, _⟩ => ⟨S3968x128, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S768, .f32⟩
  | .hbm, ⟨79, _⟩ => ⟨S393216, .f32⟩
  | .hbm, ⟨80, _⟩ => ⟨S3072, .f32⟩
  | .hbm, ⟨81, _⟩ => ⟨S33792, .f32⟩
  | .hbm, ⟨82, _⟩ => ⟨S45056, .f32⟩
  | .hbm, ⟨83, _⟩ => ⟨S502528, .f32⟩
  | .hbm, ⟨84, _⟩ => ⟨S_, .i32⟩
  | .hbm, ⟨85, _⟩ => ⟨S_, .f32⟩
  | .hbm, ⟨86, _⟩ => ⟨S507904, .f32⟩
  | .hbm, ⟨87, _⟩ => ⟨S3968x128, .f32⟩
  | .hbm, ⟨88, _⟩ => ⟨S3968x128, .f32⟩
  | .hbm, ⟨89, _⟩ => ⟨S3968x128, .f32⟩
  | .hbm, ⟨90, _⟩ => ⟨S3968x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_c : Ref sig .tc := ⟨.hbm, 45, rfl⟩
abbrev main_call0_v0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c_0 : Ref sig .tc := ⟨.hbm, 58, rfl⟩
abbrev main_call1_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_1 : Ref sig .tc := ⟨.hbm, 71, rfl⟩
abbrev main_call2_v0 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_2 : Ref sig .tc := ⟨.hbm, 84, rfl⟩
abbrev main_call3_v0 : Ref sig .tc := ⟨.hbm, 85, rfl⟩
abbrev main_v42 : Ref sig .tc := ⟨.hbm, 86, rfl⟩
abbrev main_v43 : Ref sig .tc := ⟨.hbm, 87, rfl⟩
abbrev main_v44_0 : Ref sig .tc := ⟨.hbm, 88, rfl⟩
abbrev main_v44_1 : Ref sig .tc := ⟨.hbm, 89, rfl⟩
abbrev main_v44_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference35Ideal.lean ====
abbrev S4x2048 : Shape := ⟨2, ![4, 2048]⟩
abbrev S2x384 : Shape := ⟨2, ![2, 384]⟩
abbrev S2x12x128x128 : Shape := ⟨4, ![2, 12, 128, 128]⟩
abbrev S2x12x128 : Shape := ⟨3, ![2, 12, 128]⟩
abbrev S4x3x2816 : Shape := ⟨3, ![4, 3, 2816]⟩
abbrev S4x11264 : Shape := ⟨2, ![4, 11264]⟩
abbrev S2048 : Shape := ⟨1, ![2048]⟩
abbrev S_ : Shape := ⟨0, ![]⟩
abbrev S8192 : Shape := ⟨1, ![8192]⟩
abbrev S768 : Shape := ⟨1, ![768]⟩
abbrev S393216 : Shape := ⟨1, ![393216]⟩
abbrev S3072 : Shape := ⟨1, ![3072]⟩
abbrev S33792 : Shape := ⟨1, ![33792]⟩
abbrev S45056 : Shape := ⟨1, ![45056]⟩
abbrev S502528 : Shape := ⟨1, ![502528]⟩
abbrev S507904 : Shape := ⟨1, ![507904]⟩
abbrev S3968x128 : Shape := ⟨2, ![3968, 128]⟩

abbrev nBuf : Space → Nat
  | .hbm => 372
  | .vmem => 0
  | .smem => 0
  | _ => 0

abbrev hbmTy0_0 (i : Nat) : BufTy := match i % 128 with
  | 0 => ⟨S4x2048, .f32⟩
  | 1 => ⟨S4x2048, .f32⟩
  | 2 => ⟨S4x2048, .f32⟩
  | 3 => ⟨S2x384, .f32⟩
  | 4 => ⟨S2x12x128x128, .f32⟩
  | 5 => ⟨S2x12x128, .f32⟩
  | 6 => ⟨S4x3x2816, .f32⟩
  | 7 => ⟨S4x11264, .f32⟩
  | 8 => ⟨S2048, .f32⟩
  | 9 => ⟨S4x2048, .f32⟩
  | 10 => ⟨S4x2048, .f32⟩
  | 11 => ⟨S4x2048, .f32⟩
  | 12 => ⟨S2x384, .f32⟩
  | 13 => ⟨S2x12x128x128, .f32⟩
  | 14 => ⟨S2x12x128, .f32⟩
  | 15 => ⟨S4x3x2816, .f32⟩
  | 16 => ⟨S4x11264, .f32⟩
  | 17 => ⟨S2048, .f32⟩
  | 18 => ⟨S4x2048, .f32⟩
  | 19 => ⟨S4x2048, .f32⟩
  | 20 => ⟨S4x2048, .f32⟩
  | 21 => ⟨S2x384, .f32⟩
  | 22 => ⟨S2x12x128x128, .f32⟩
  | 23 => ⟨S2x12x128, .f32⟩
  | 24 => ⟨S4x3x2816, .f32⟩
  | 25 => ⟨S4x11264, .f32⟩
  | 26 => ⟨S2048, .f32⟩
  | 27 => ⟨S4x2048, .f32⟩
  | 28 => ⟨S4x2048, .f32⟩
  | 29 => ⟨S4x2048, .f32⟩
  | 30 => ⟨S2x384, .f32⟩
  | 31 => ⟨S2x12x128x128, .f32⟩
  | 32 => ⟨S2x12x128, .f32⟩
  | 33 => ⟨S4x3x2816, .f32⟩
  | 34 => ⟨S4x11264, .f32⟩
  | 35 => ⟨S2048, .f32⟩
  | 36 => ⟨S_, .f32⟩
  | 37 => ⟨S4x2048, .f32⟩
  | 38 => ⟨S4x2048, .f32⟩
  | 39 => ⟨S_, .f32⟩
  | 40 => ⟨S4x2048, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S4x2048, .f32⟩
  | 47 => ⟨S_, .f32⟩
  | 48 => ⟨S4x2048, .f32⟩
  | 49 => ⟨S4x2048, .f32⟩
  | 50 => ⟨S4x2048, .f32⟩
  | 51 => ⟨S_, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S_, .f32⟩
  | 63 => ⟨S4x2048, .f32⟩
  | 64 => ⟨S4x2048, .f32⟩
  | 65 => ⟨S4x2048, .f32⟩
  | 66 => ⟨S_, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S_, .f32⟩
  | 73 => ⟨S4x2048, .f32⟩
  | 74 => ⟨S4x2048, .f32⟩
  | 75 => ⟨S4x2048, .f32⟩
  | 76 => ⟨S_, .f32⟩
  | 77 => ⟨S4x2048, .f32⟩
  | 78 => ⟨S4x2048, .f32⟩
  | 79 => ⟨S4x2048, .f32⟩
  | 80 => ⟨S_, .f32⟩
  | 81 => ⟨S4x2048, .f32⟩
  | 82 => ⟨S4x2048, .f32⟩
  | 83 => ⟨S4x2048, .f32⟩
  | 84 => ⟨S_, .f32⟩
  | 85 => ⟨S4x2048, .f32⟩
  | 86 => ⟨S4x2048, .f32⟩
  | 87 => ⟨S_, .f32⟩
  | 88 => ⟨S4x2048, .f32⟩
  | 89 => ⟨S4x2048, .f32⟩
  | 90 => ⟨S4x2048, .f32⟩
  | 91 => ⟨S_, .f32⟩
  | 92 => ⟨S4x2048, .f32⟩
  | 93 => ⟨S4x2048, .f32⟩
  | 94 => ⟨S4x2048, .f32⟩
  | 95 => ⟨S_, .f32⟩
  | 96 => ⟨S4x2048, .f32⟩
  | 97 => ⟨S4x2048, .f32⟩
  | 98 => ⟨S4x2048, .f32⟩
  | 99 => ⟨S_, .f32⟩
  | 100 => ⟨S4x2048, .f32⟩
  | 101 => ⟨S4x2048, .f32⟩
  | 102 => ⟨S_, .f32⟩
  | 103 => ⟨S4x2048, .f32⟩
  | 104 => ⟨S4x2048, .f32⟩
  | 105 => ⟨S_, .f32⟩
  | 106 => ⟨S4x2048, .f32⟩
  | 107 => ⟨S4x2048, .f32⟩
  | 108 => ⟨S4x2048, .f32⟩
  | 109 => ⟨S_, .f32⟩
  | 110 => ⟨S4x2048, .f32⟩
  | 111 => ⟨S4x2048, .f32⟩
  | 112 => ⟨S4x2048, .f32⟩
  | 113 => ⟨S_, .f32⟩
  | 114 => ⟨S4x2048, .f32⟩
  | 115 => ⟨S4x2048, .f32⟩
  | 116 => ⟨S4x2048, .f32⟩
  | 117 => ⟨S_, .f32⟩
  | 118 => ⟨S4x2048, .f32⟩
  | 119 => ⟨S4x2048, .f32⟩
  | 120 => ⟨S_, .f32⟩
  | 121 => ⟨S4x2048, .f32⟩
  | 122 => ⟨S4x2048, .f32⟩
  | 123 => ⟨S4x2048, .f32⟩
  | 124 => ⟨S_, .f32⟩
  | 125 => ⟨S4x2048, .f32⟩
  | 126 => ⟨S4x2048, .f32⟩
  | 127 => ⟨S4x2048, .f32⟩
  | _ => ⟨S4x2048, .f32⟩

abbrev hbmTy0_1 (i : Nat) : BufTy := match i % 128 with
  | 0 => ⟨S_, .f32⟩
  | 1 => ⟨S4x2048, .f32⟩
  | 2 => ⟨S4x2048, .f32⟩
  | 3 => ⟨S4x2048, .f32⟩
  | 4 => ⟨S_, .f32⟩
  | 5 => ⟨S4x2048, .f32⟩
  | 6 => ⟨S4x2048, .f32⟩
  | 7 => ⟨S_, .f32⟩
  | 8 => ⟨S2x384, .f32⟩
  | 9 => ⟨S2x384, .f32⟩
  | 10 => ⟨S_, .f32⟩
  | 11 => ⟨S2x384, .f32⟩
  | 12 => ⟨S2x384, .f32⟩
  | 13 => ⟨S2x384, .f32⟩
  | 14 => ⟨S_, .f32⟩
  | 15 => ⟨S2x384, .f32⟩
  | 16 => ⟨S2x384, .f32⟩
  | 17 => ⟨S2x384, .f32⟩
  | 18 => ⟨S_, .f32⟩
  | 19 => ⟨S2x384, .f32⟩
  | 20 => ⟨S2x384, .f32⟩
  | 21 => ⟨S2x384, .f32⟩
  | 22 => ⟨S_, .f32⟩
  | 23 => ⟨S2x384, .f32⟩
  | 24 => ⟨S2x384, .f32⟩
  | 25 => ⟨S_, .f32⟩
  | 26 => ⟨S2x384, .f32⟩
  | 27 => ⟨S2x384, .f32⟩
  | 28 => ⟨S2x384, .f32⟩
  | 29 => ⟨S_, .f32⟩
  | 30 => ⟨S2x384, .f32⟩
  | 31 => ⟨S2x384, .f32⟩
  | 32 => ⟨S2x384, .f32⟩
  | 33 => ⟨S_, .f32⟩
  | 34 => ⟨S2x384, .f32⟩
  | 35 => ⟨S2x384, .f32⟩
  | 36 => ⟨S2x384, .f32⟩
  | 37 => ⟨S_, .f32⟩
  | 38 => ⟨S2x384, .f32⟩
  | 39 => ⟨S2x384, .f32⟩
  | 40 => ⟨S_, .f32⟩
  | 41 => ⟨S2x12x128x128, .f32⟩
  | 42 => ⟨S2x12x128x128, .f32⟩
  | 43 => ⟨S_, .f32⟩
  | 44 => ⟨S2x12x128x128, .f32⟩
  | 45 => ⟨S2x12x128x128, .f32⟩
  | 46 => ⟨S2x12x128x128, .f32⟩
  | 47 => ⟨S_, .f32⟩
  | 48 => ⟨S2x12x128x128, .f32⟩
  | 49 => ⟨S2x12x128x128, .f32⟩
  | 50 => ⟨S2x12x128x128, .f32⟩
  | 51 => ⟨S_, .f32⟩
  | 52 => ⟨S2x12x128x128, .f32⟩
  | 53 => ⟨S2x12x128x128, .f32⟩
  | 54 => ⟨S2x12x128x128, .f32⟩
  | 55 => ⟨S_, .f32⟩
  | 56 => ⟨S2x12x128x128, .f32⟩
  | 57 => ⟨S2x12x128x128, .f32⟩
  | 58 => ⟨S_, .f32⟩
  | 59 => ⟨S2x12x128x128, .f32⟩
  | 60 => ⟨S2x12x128x128, .f32⟩
  | 61 => ⟨S2x12x128x128, .f32⟩
  | 62 => ⟨S_, .f32⟩
  | 63 => ⟨S2x12x128x128, .f32⟩
  | 64 => ⟨S2x12x128x128, .f32⟩
  | 65 => ⟨S2x12x128x128, .f32⟩
  | 66 => ⟨S_, .f32⟩
  | 67 => ⟨S2x12x128x128, .f32⟩
  | 68 => ⟨S2x12x128x128, .f32⟩
  | 69 => ⟨S2x12x128x128, .f32⟩
  | 70 => ⟨S_, .f32⟩
  | 71 => ⟨S2x12x128x128, .f32⟩
  | 72 => ⟨S2x12x128x128, .f32⟩
  | 73 => ⟨S_, .f32⟩
  | 74 => ⟨S2x12x128, .f32⟩
  | 75 => ⟨S2x12x128, .f32⟩
  | 76 => ⟨S_, .f32⟩
  | 77 => ⟨S2x12x128, .f32⟩
  | 78 => ⟨S2x12x128, .f32⟩
  | 79 => ⟨S2x12x128, .f32⟩
  | 80 => ⟨S_, .f32⟩
  | 81 => ⟨S2x12x128, .f32⟩
  | 82 => ⟨S2x12x128, .f32⟩
  | 83 => ⟨S2x12x128, .f32⟩
  | 84 => ⟨S_, .f32⟩
  | 85 => ⟨S2x12x128, .f32⟩
  | 86 => ⟨S2x12x128, .f32⟩
  | 87 => ⟨S2x12x128, .f32⟩
  | 88 => ⟨S_, .f32⟩
  | 89 => ⟨S2x12x128, .f32⟩
  | 90 => ⟨S2x12x128, .f32⟩
  | 91 => ⟨S_, .f32⟩
  | 92 => ⟨S2x12x128, .f32⟩
  | 93 => ⟨S2x12x128, .f32⟩
  | 94 => ⟨S2x12x128, .f32⟩
  | 95 => ⟨S_, .f32⟩
  | 96 => ⟨S2x12x128, .f32⟩
  | 97 => ⟨S2x12x128, .f32⟩
  | 98 => ⟨S2x12x128, .f32⟩
  | 99 => ⟨S_, .f32⟩
  | 100 => ⟨S2x12x128, .f32⟩
  | 101 => ⟨S2x12x128, .f32⟩
  | 102 => ⟨S2x12x128, .f32⟩
  | 103 => ⟨S_, .f32⟩
  | 104 => ⟨S2x12x128, .f32⟩
  | 105 => ⟨S2x12x128, .f32⟩
  | 106 => ⟨S_, .f32⟩
  | 107 => ⟨S4x3x2816, .f32⟩
  | 108 => ⟨S4x3x2816, .f32⟩
  | 109 => ⟨S_, .f32⟩
  | 110 => ⟨S4x3x2816, .f32⟩
  | 111 => ⟨S4x3x2816, .f32⟩
  | 112 => ⟨S4x3x2816, .f32⟩
  | 113 => ⟨S_, .f32⟩
  | 114 => ⟨S4x3x2816, .f32⟩
  | 115 => ⟨S4x3x2816, .f32⟩
  | 116 => ⟨S4x3x2816, .f32⟩
  | 117 => ⟨S_, .f32⟩
  | 118 => ⟨S4x3x2816, .f32⟩
  | 119 => ⟨S4x3x2816, .f32⟩
  | 120 => ⟨S4x3x2816, .f32⟩
  | 121 => ⟨S_, .f32⟩
  | 122 => ⟨S4x3x2816, .f32⟩
  | 123 => ⟨S4x3x2816, .f32⟩
  | 124 => ⟨S_, .f32⟩
  | 125 => ⟨S4x3x2816, .f32⟩
  | 126 => ⟨S4x3x2816, .f32⟩
  | 127 => ⟨S4x3x2816, .f32⟩
  | _ => ⟨S4x2048, .f32⟩

abbrev hbmTy0_2 (i : Nat) : BufTy := match i % 128 with
  | 0 => ⟨S_, .f32⟩
  | 1 => ⟨S4x3x2816, .f32⟩
  | 2 => ⟨S4x3x2816, .f32⟩
  | 3 => ⟨S4x3x2816, .f32⟩
  | 4 => ⟨S_, .f32⟩
  | 5 => ⟨S4x3x2816, .f32⟩
  | 6 => ⟨S4x3x2816, .f32⟩
  | 7 => ⟨S4x3x2816, .f32⟩
  | 8 => ⟨S_, .f32⟩
  | 9 => ⟨S4x3x2816, .f32⟩
  | 10 => ⟨S4x3x2816, .f32⟩
  | 11 => ⟨S_, .f32⟩
  | 12 => ⟨S4x11264, .f32⟩
  | 13 => ⟨S4x11264, .f32⟩
  | 14 => ⟨S_, .f32⟩
  | 15 => ⟨S4x11264, .f32⟩
  | 16 => ⟨S4x11264, .f32⟩
  | 17 => ⟨S4x11264, .f32⟩
  | 18 => ⟨S_, .f32⟩
  | 19 => ⟨S4x11264, .f32⟩
  | 20 => ⟨S4x11264, .f32⟩
  | 21 => ⟨S4x11264, .f32⟩
  | 22 => ⟨S_, .f32⟩
  | 23 => ⟨S4x11264, .f32⟩
  | 24 => ⟨S4x11264, .f32⟩
  | 25 => ⟨S4x11264, .f32⟩
  | 26 => ⟨S_, .f32⟩
  | 27 => ⟨S4x11264, .f32⟩
  | 28 => ⟨S4x11264, .f32⟩
  | 29 => ⟨S_, .f32⟩
  | 30 => ⟨S4x11264, .f32⟩
  | 31 => ⟨S4x11264, .f32⟩
  | 32 => ⟨S4x11264, .f32⟩
  | 33 => ⟨S_, .f32⟩
  | 34 => ⟨S4x11264, .f32⟩
  | 35 => ⟨S4x11264, .f32⟩
  | 36 => ⟨S4x11264, .f32⟩
  | 37 => ⟨S_, .f32⟩
  | 38 => ⟨S4x11264, .f32⟩
  | 39 => ⟨S4x11264, .f32⟩
  | 40 => ⟨S4x11264, .f32⟩
  | 41 => ⟨S_, .f32⟩
  | 42 => ⟨S4x11264, .f32⟩
  | 43 => ⟨S4x11264, .f32⟩
  | 44 => ⟨S_, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | 77 => ⟨S8192, .f32⟩
  | 78 => ⟨S8192, .f32⟩
  | 79 => ⟨S8192, .f32⟩
  | 80 => ⟨S768, .f32⟩
  | 81 => ⟨S393216, .f32⟩
  | 82 => ⟨S3072, .f32⟩
  | 83 => ⟨S33792, .f32⟩
  | 84 => ⟨S45056, .f32⟩
  | 85 => ⟨S502528, .f32⟩
  | 86 => ⟨S_, .i32⟩
  | 87 => ⟨S_, .f32⟩
  | 88 => ⟨S507904, .f32⟩
  | 89 => ⟨S3968x128, .f32⟩
  | 90 => ⟨S8192, .f32⟩
  | 91 => ⟨S8192, .f32⟩
  | 92 => ⟨S8192, .f32⟩
  | 93 => ⟨S768, .f32⟩
  | 94 => ⟨S393216, .f32⟩
  | 95 => ⟨S3072, .f32⟩
  | 96 => ⟨S33792, .f32⟩
  | 97 => ⟨S45056, .f32⟩
  | 98 => ⟨S502528, .f32⟩
  | 99 => ⟨S_, .i32⟩
  | 100 => ⟨S_, .f32⟩
  | 101 => ⟨S507904, .f32⟩
  | 102 => ⟨S3968x128, .f32⟩
  | 103 => ⟨S8192, .f32⟩
  | 104 => ⟨S8192, .f32⟩
  | 105 => ⟨S8192, .f32⟩
  | 106 => ⟨S768, .f32⟩
  | 107 => ⟨S393216, .f32⟩
  | 108 => ⟨S3072, .f32⟩
  | 109 => ⟨S33792, .f32⟩
  | 110 => ⟨S45056, .f32⟩
  | 111 => ⟨S502528, .f32⟩
  | 112 => ⟨S_, .i32⟩
  | 113 => ⟨S_, .f32⟩
  | 114 => ⟨S507904, .f32⟩
  | 115 => ⟨S3968x128, .f32⟩
  | _ => ⟨S4x2048, .f32⟩

abbrev hbmTy (i : Nat) : BufTy := match i / 128 with
  | 0 => hbmTy0_0 i
  | 1 => hbmTy0_1 i
  | 2 => hbmTy0_2 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_c : Ref sig .tc := ⟨.hbm, 342, rfl⟩
abbrev main_call0_v0 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_c_80 : Ref sig .tc := ⟨.hbm, 355, rfl⟩
abbrev main_call1_v0 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_c_81 : Ref sig .tc := ⟨.hbm, 368, rfl⟩
abbrev main_call2_v0 : Ref sig .tc := ⟨.hbm, 369, rfl⟩
abbrev main_v247 : Ref sig .tc := ⟨.hbm, 370, rfl⟩
abbrev main_v248 : Ref sig .tc := ⟨.hbm, 371, rfl⟩

abbrev nD : Nat := 1
abbrev τ : Topo := Topo.v7x

variable {F : FTy → Type} [FloatOps F]
-- ==== Proof.MemMath.lean ====
/- The gradient of a softmax's row in the extended reals: the two ways of writing it, and that they agree where the
   scores are real numbers. -/
module

public import Idealize.ShloMosaic.PureOps.Ideal
public import Idealize.ShloMosaic.PureOps.Ideal.Laws

@[expose] public section

set_option maxRecDepth 16384

noncomputable section

namespace Cert.Mem

open Idealize.ShloMosaic

variable {n : ℕ}

/-- The word of minus infinity denotes the least extended real. -/
theorem negInf : Ideal.ofBits .f32 0xFF800000#32 = (⊥ : EReal) := by simp [Ideal.ofBits, Ideal.ieee]

/-- The word of plus infinity denotes the greatest extended real. -/
theorem posInf : Ideal.ofBits .f32 0x7F800000#32 = (⊤ : EReal) := by simp [Ideal.ofBits, Ideal.ieee]

/-- The word of one denotes one. -/
theorem oneWord : Ideal.ofBits .f32 0x3F800000#32 = (1 : EReal) := by
  simp [Ideal.ofBits, Ideal.ieee]
  rw [← EReal.coe_mul]; norm_num

/-- A nonnegative real distributes over a sum of two extended reals. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- A row's largest score. -/
def rowMax (s : Fin n → EReal) : EReal := Finset.univ.fold max ⊥ s

/-- The exponential of a score less the row's largest. -/
def expo (s : Fin n → EReal) (t : Fin n) : EReal := Ideal.exp (s t - rowMax s)

/-- The row's sum of exponentials. -/
def total (s : Fin n → EReal) : EReal := ∑ t, expo s t

/-- The row's softmax. -/
def prob (s : Fin n → EReal) (t : Fin n) : EReal := Ideal.div (expo s t) (total s)

/-- The scores' gradient as the kernel writes it: the probabilities times the deviation of `dp` from its mean. -/
def grad (c : EReal) (s dp : Fin n → EReal) (t : Fin n) : EReal :=
  prob s t * (dp t - ∑ u, dp u * prob s u) * c

/-- The scores' gradient as the derivative of the quotient gives it. -/
def gradQuot (c : EReal) (s dp : Fin n → EReal) (t : Fin n) : EReal :=
  (Ideal.div (dp t) (total s) + -(∑ u, dp u * Ideal.div 1 (total s * total s) * expo s u)) * expo s t * c

theorem rowMax_bot_max (s : Fin n → EReal) : max ⊥ (rowMax s) = rowMax s := max_eq_right bot_le

/-- A score is at most the row's largest. -/
theorem le_rowMax (s : Fin n → EReal) (t : Fin n) : s t ≤ rowMax s := by
  unfold rowMax
  rw [Finset.le_fold_max]
  exact Or.inr ⟨t, Finset.mem_univ t, le_rfl⟩

/-- The largest score is a real number where all are. -/
theorem rowMax_real (s : Fin (n + 1) → EReal) (h : ∀ t, ∃ r : ℝ, s t = r) : ∃ t, rowMax s = s t := by
  obtain ⟨t, -, ht⟩ := Finset.exists_max_image Finset.univ s ⟨0, Finset.mem_univ _⟩
  refine ⟨t, le_antisymm ?_ (le_rowMax s t)⟩
  unfold rowMax
  rw [Finset.fold_max_le]
  exact ⟨bot_le, ht⟩

/-- Where the scores are real numbers, the exponentials are positive reals. -/
theorem expo_real (s : Fin (n + 1) → EReal) (h : ∀ t, ∃ r : ℝ, s t = r) : ∃ e : Fin (n + 1) → ℝ, (∀ t, 0 < e t) ∧ ∀ t, expo s t = e t := by
  choose r hr using h
  obtain ⟨u, hu⟩ := rowMax_real s fun t => ⟨r t, hr t⟩
  refine ⟨fun t => Real.exp (r t - r u), fun t => Real.exp_pos _, fun t => ?_⟩
  unfold expo
  rw [hu, hr, hr, ← EReal.coe_sub, Ideal.exp_coe]

/-- A sum of reals is a real. -/
theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- Multiplying by a nonnegative real distributes over a sum of extended reals. -/
theorem sum_mul_coe {ι : Type*} (S : Finset ι) (f : ι → EReal) {a : ℝ} (ha : 0 ≤ a) :
    (∑ i ∈ S, f i) * (a : EReal) = ∑ i ∈ S, f i * (a : EReal) := by
  classical
  induction S using Finset.induction_on with
  | empty => simp
  | insert b S hb ih =>
    rw [Finset.sum_insert hb, Finset.sum_insert hb, ← ih, mul_comm, coe_mul_add ha, mul_comm (a : EReal), mul_comm (a : EReal)]

/-- THE TWO GRADIENTS AGREE where the scores are real numbers, whatever extended reals `dp` and `c` are. -/
theorem grad_eq_gradQuot (c : EReal) (s dp : Fin (n + 1) → EReal) (h : ∀ t, ∃ r : ℝ, s t = r) (t : Fin (n + 1)) :
    grad c s dp t = gradQuot c s dp t := by
  obtain ⟨e, hpos, he⟩ := expo_real s h
  have hL : total s = ((∑ u, e u : ℝ) : EReal) := by unfold total; simp only [he]; exact coe_sum _ _
  have hL0 : 0 < ∑ u, e u := Finset.sum_pos (fun u _ => hpos u) ⟨0, Finset.mem_univ _⟩
  generalize (∑ u, e u) = L at hL hL0
  have hprob : ∀ u, prob s u = ((e u * (1 / L) : ℝ) : EReal) := fun u => by
    unfold prob; rw [hL, he, Ideal.div_coe hL0.ne', EReal.coe_mul]
  have hi : (0 : ℝ) ≤ 1 / L := by positivity
  unfold grad gradQuot
  congr 1
  rw [hL, Ideal.div_coe hL0.ne', ← EReal.coe_mul, Ideal.div_coe (mul_pos hL0 hL0).ne', one_mul]
  have hsum : ∑ u, dp u * ((1 / (L * L) : ℝ) : EReal) * expo s u = (∑ u, dp u * prob s u) * ((1 / L : ℝ) : EReal) := by
    rw [sum_mul_coe _ _ hi]
    refine Finset.sum_congr rfl fun u _ => ?_
    rw [he, hprob, mul_assoc, mul_assoc, ← EReal.coe_mul, ← EReal.coe_mul]
    congr 2
    field_simp
  rw [hsum, hprob, he, sub_eq_add_neg]
  generalize (∑ u, dp u * prob s u) = X
  have hn : -(X * ((1 / L : ℝ) : EReal)) = -X * ((1 / L : ℝ) : EReal) := by rw [EReal.neg_mul]
  have hd : dp t * ((1 / L : ℝ) : EReal) + -X * ((1 / L : ℝ) : EReal) = (dp t + -X) * ((1 / L : ℝ) : EReal) := by
    rw [mul_comm (dp t + -X), coe_mul_add hi, mul_comm (dp t), mul_comm (-X)]
  rw [hn, hd, EReal.coe_mul, mul_comm]
  rw [mul_comm ((e t : ℝ) : EReal), mul_assoc]

end Cert.Mem

end
-- ==== Proof.MemSpec.lean ====
/- The gradient of the memory cross-attention, entry by entry: what both programs compute. -/
module

public import proofs.«01_k».proof.Proof.MemMath
public import Idealize.ShloMosaic.Lib.Pointwise

@[expose] public section

set_option maxRecDepth 16384

noncomputable section

namespace Cert.Mem

open Idealize.ShloMosaic

/-- The projections of the rows, whose last 512 columns are the queries of the four heads. -/
abbrev Proj := (⟨2, ![2048, 5120]⟩ : Shape).Idx → EReal
/-- The memory's keys (the first 512 columns) and values (the last 512). -/
abbrev Kv := (⟨2, ![256, 1024]⟩ : Shape).Idx → EReal
/-- The cotangent of the concatenated heads, whose last 512 columns are the memory's. -/
abbrev Cot := (⟨2, ![2048, 1024]⟩ : Shape).Idx → EReal

/-- The query of head `h` in row `r`. -/
def qAt (x0 : Proj) (h : Fin 4) (r : Fin 2048) (e : Fin 128) : EReal := x0 (ix2 r ⟨4608 + 128 * h.val + e.val, by omega⟩)
/-- The key of head `h` at memory place `t`. -/
def kAt (x1 : Kv) (h : Fin 4) (t : Fin 256) (e : Fin 128) : EReal := x1 (ix2 t ⟨128 * h.val + e.val, by omega⟩)
/-- The value of head `h` at memory place `t`. -/
def vAt (x1 : Kv) (h : Fin 4) (t : Fin 256) (e : Fin 128) : EReal := x1 (ix2 t ⟨512 + 128 * h.val + e.val, by omega⟩)
/-- The cotangent of head `h` in row `r`. -/
def gAt (x2 : Cot) (h : Fin 4) (r : Fin 2048) (e : Fin 128) : EReal := x2 (ix2 r ⟨512 + 128 * h.val + e.val, by omega⟩)

/-- The scale of the scores, the word nearest to one over the root of 128. -/
def scale : EReal := Ideal.ofBits .f32 0x3DB504F3#32

/-- The scores of row `r` in head `h`. -/
def score (x0 : Proj) (x1 : Kv) (h : Fin 4) (r : Fin 2048) (t : Fin 256) : EReal := (∑ e, qAt x0 h r e * kAt x1 h t e) * scale
/-- The cotangents of the probabilities of row `r` in head `h`. -/
def dprob (x1 : Kv) (x2 : Cot) (h : Fin 4) (r : Fin 2048) (t : Fin 256) : EReal := ∑ e, gAt x2 h r e * vAt x1 h t e
/-- The cotangents of the unscaled scores of row `r` in head `h`. -/
def dscore (x0 : Proj) (x1 : Kv) (x2 : Cot) (h : Fin 4) (r : Fin 2048) (t : Fin 256) : EReal :=
  grad scale (score x0 x1 h r) (dprob x1 x2 h r) t

/-- The gradient of the query. -/
def dq (x0 : Proj) (x1 : Kv) (x2 : Cot) (h : Fin 4) (r : Fin 2048) (e : Fin 128) : EReal := ∑ t, dscore x0 x1 x2 h r t * kAt x1 h t e
/-- The gradient of the key. -/
def dk (x0 : Proj) (x1 : Kv) (x2 : Cot) (h : Fin 4) (t : Fin 256) (e : Fin 128) : EReal := ∑ r, dscore x0 x1 x2 h r t * qAt x0 h r e
/-- The gradient of the value. -/
def dv (x0 : Proj) (x1 : Kv) (x2 : Cot) (h : Fin 4) (t : Fin 256) (e : Fin 128) : EReal := ∑ r, prob (score x0 x1 h r) t * gAt x2 h r e

/-- The gradient of the queries as an array, the heads side by side. -/
def dqArr (x0 : Proj) (x1 : Kv) (x2 : Cot) (i : (⟨2, ![2048, 512]⟩ : Shape).Idx) : EReal :=
  dq x0 x1 x2 ⟨(i 1).val / 128, by have : (i 1).val < 512 := (i 1).isLt; omega⟩ (i 0) ⟨(i 1).val % 128, by omega⟩
/-- The gradient of the keys as an array, the heads side by side. -/
def dkArr (x0 : Proj) (x1 : Kv) (x2 : Cot) (i : (⟨2, ![256, 512]⟩ : Shape).Idx) : EReal :=
  dk x0 x1 x2 ⟨(i 1).val / 128, by have : (i 1).val < 512 := (i 1).isLt; omega⟩ (i 0) ⟨(i 1).val % 128, by omega⟩
/-- The gradient of the values as an array, the heads side by side. -/
def dvArr (x0 : Proj) (x1 : Kv) (x2 : Cot) (i : (⟨2, ![256, 512]⟩ : Shape).Idx) : EReal :=
  dv x0 x1 x2 ⟨(i 1).val / 128, by have : (i 1).val < 512 := (i 1).isLt; omega⟩ (i 0) ⟨(i 1).val % 128, by omega⟩

/-- An index of an array of 512 columns from its row, head and lane. -/
theorem eq_lane {n : Nat} (i : (⟨2, ![n, 512]⟩ : Shape).Idx) :
    i = ix2 (i 0) ⟨128 * (⟨(i 1).val / 128, by have : (i 1).val < 512 := (i 1).isLt; omega⟩ : Fin 4).val + (⟨(i 1).val % 128, by omega⟩ : Fin 128).val,
      by have : (i 1).val < 512 := (i 1).isLt; simp only; omega⟩ := by
  funext a
  apply Fin.ext
  match a with
  | ⟨0, _⟩ => rfl
  | ⟨1, _⟩ => show (i 1).val = 128 * ((i 1).val / 128) + (i 1).val % 128; omega

/-- The queries and the keys are real numbers. -/
def RealScores (x0 : Proj) (x1 : Kv) : Prop :=
  (∀ h r e, ∃ a : ℝ, qAt x0 h r e = a) ∧ ∀ h t e, ∃ a : ℝ, kAt x1 h t e = a

/-- The scale is a real number. -/
theorem scale_real : ∃ a : ℝ, scale = a := by
  refine ⟨11863283 * (2 ^ 27)⁻¹, ?_⟩
  unfold scale
  simp [Ideal.ofBits, Ideal.ieee]

/-- The scores are real numbers where the queries and the keys are. -/
theorem score_real {x0 : Proj} {x1 : Kv} (H : RealScores x0 x1) (h : Fin 4) (r : Fin 2048) (t : Fin 256) :
    ∃ a : ℝ, score x0 x1 h r t = a := by
  choose q hq using H.1
  choose k hk using H.2
  obtain ⟨c, hc⟩ := scale_real
  refine ⟨(∑ e, q h r e * k h t e) * c, ?_⟩
  unfold score
  simp only [hq, hk, hc, ← EReal.coe_mul]
  rw [coe_sum, EReal.coe_mul]

/-- The scores' cotangents as the derivative of the quotient gives them. -/
theorem dscore_eq {x0 : Proj} {x1 : Kv} (H : RealScores x0 x1) (x2 : Cot) (h : Fin 4) (r : Fin 2048) (t : Fin 256) :
    dscore x0 x1 x2 h r t = gradQuot scale (score x0 x1 h r) (dprob x1 x2 h r) t :=
  grad_eq_gradQuot scale _ _ (score_real H h r) t

end Cert.Mem

end
-- ==== Proof.MemTile.lean ====
/- What one grid point of the kernel computes from its blocks, entry by entry. -/
module

public import proofs.«01_k».proof.Proof.MemSpec
public import proofs.«01_k».proof.Proof.Gen.KernelIdeal.Skeleton

@[expose] public section

set_option maxRecDepth 16384

noncomputable section

namespace Cert.Mem.Kern

open Idealize.ShloMosaic Cert.KernelIdeal Cert.KernelIdeal.Gen Cert.Mem

variable (q : Vec Ideal S512x128 .f32) (k v : Vec Ideal S256x128 .f32) (g : Vec Ideal S512x128 .f32)

/-- The scores of a row of a tile. -/
def bscore (r : Fin 512) (t : Fin 256) : EReal := (∑ e : Fin 128, q (ix2 r e) * k (ix2 t e)) * scale
/-- The cotangents of the probabilities of a row of a tile. -/
def bdprob (r : Fin 512) (t : Fin 256) : EReal := ∑ e : Fin 128, g (ix2 r e) * v (ix2 t e)

/-- The probabilities of a tile. -/
theorem pay6 (r : Fin 512) (t : Fin 256) : k0_pay6 (F := Ideal) q k (ix2 r t) = prob (bscore q k r) t := by
  unfold k0_pay6 k0_pay3 k0_pay4
  pointwise
  rw [negInf]
  rfl

/-- The cotangents of a tile's scores. -/
theorem pay7 (r : Fin 512) (t : Fin 256) : k0_pay7 (F := Ideal) q k v g (ix2 r t) = grad scale (bscore q k r) (bdprob v g r) t := by
  unfold k0_pay7 k0_pay5
  pointwise
  simp only [pay6]
  rfl

/-- What a tile gives the queries. -/
theorem pay8 (r : Fin 512) (e : Fin 128) : k0_pay8 (F := Ideal) q k v g (ix2 r e)
    = ∑ t : Fin 256, grad scale (bscore q k r) (bdprob v g r) t * k (ix2 t e) := by
  unfold k0_pay8 k0_pay4
  pointwise
  simp only [pay7]

/-- What a tile adds to the keys. -/
theorem pay9 (t : Fin 256) (e : Fin 128) : k0_pay9 (F := Ideal) q k v g (ix2 t e)
    = ∑ r : Fin 512, grad scale (bscore q k r) (bdprob v g r) t * q (ix2 r e) := by
  unfold k0_pay9 k0_pay3
  pointwise
  simp only [pay7]

/-- What a tile adds to the values. -/
theorem pay10 (t : Fin 256) (e : Fin 128) : k0_pay10 (F := Ideal) q k g (ix2 t e)
    = ∑ r : Fin 512, prob (bscore q k r) t * g (ix2 r e) := by
  unfold k0_pay10 k0_pay5
  pointwise
  simp only [pay6]

end Cert.Mem.Kern

end
-- ==== Proof.MemCase.lean ====
/- What each case of the kernel's body leaves in the outputs' buffers, as the payloads of the blocks. -/
module

public import proofs.«01_k».proof.Proof.Gen.KernelIdeal.Frame
public import Idealize.ShloMosaic.Lib.Pipeline.Value

@[expose] public section

set_option maxRecDepth 16384

noncomputable section

namespace Cert.Mem.Kern

open Idealize.ShloMosaic Idealize.ShloMosaic.TcCoe Cert.KernelIdeal Cert.KernelIdeal.Gen

variable {F : FTy → Type} [FloatOps F]

/-- The store's offsets are zero. -/
theorem offsets : (![0, 0] : Fin 2 → Nat) = fun _ => 0 := funext fun a => by fin_cases a <;> rfl

variable (c : Dev nD) (i : grid0.Coords) (arg2 : Memref sig .tc .vmem S512x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S512x128 .f32) (harg5 : arg5.IsWhole) (arg6 : Memref sig .tc .vmem S512x128 .bf16) (harg6 : arg6.IsWhole) (arg7 : Memref sig .tc .vmem S256x128 .f32) (harg7 : arg7.IsWhole) (arg8 : Memref sig .tc .vmem S256x128 .f32) (harg8 : arg8.IsWhole)
variable (x0 : Vec F S512x128 .f32) (x1 x2 : Vec F S256x128 .f32) (x3 : Vec F S512x128 .f32) (xo5 xo6 : Vec F S256x128 .f32)

/-- In the output of the queries' gradient the first row tile leaves this payload. -/
theorem out_A_4 (hc0 : cond0_0 i) (hc1 : ¬cond0_1 i) :
    out0_A_4 c i arg2 harg2 arg3 harg3 arg4 harg4 arg5 harg5 arg6 harg6 arg7 harg7 arg8 harg8 hc0 hc1 x0 x1 x2 x3 = k0_pay8 x0 x1 x2 x3 := by
  unfold out0_A_4
  rw [View.read_writes_eq_canon _ _ _ (cover0_A_4 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the keys' gradient the first row tile leaves this payload. -/
theorem out_A_5 (hc0 : cond0_0 i) (hc1 : ¬cond0_1 i) :
    out0_A_5 c i arg2 harg2 arg3 harg3 arg4 harg4 arg5 harg5 arg6 harg6 arg7 harg7 arg8 harg8 hc0 hc1 x0 x1 x2 x3 = k0_pay9 x0 x1 x2 x3 := by
  unfold out0_A_5
  rw [View.read_writes_eq_canon _ _ _ (cover0_A_5 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the values' gradient the first row tile leaves this payload. -/
theorem out_A_6 (hc0 : cond0_0 i) (hc1 : ¬cond0_1 i) :
    out0_A_6 c i arg2 harg2 arg3 harg3 arg4 harg4 arg5 harg5 arg6 harg6 arg7 harg7 arg8 harg8 hc0 hc1 x0 x1 x2 x3 = k0_pay10 x0 x1 x3 := by
  unfold out0_A_6
  rw [View.read_writes_eq_canon _ _ _ (cover0_A_6 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the queries' gradient a later row tile leaves this payload. -/
theorem out_B_4 (hc0 : ¬cond0_0 i) (hc1 : cond0_1 i) :
    out0_B_4 c i arg2 harg2 arg3 harg3 arg4 harg4 arg5 harg5 arg6 harg6 arg7 harg7 arg8 harg8 hc0 hc1 x0 x1 x2 x3 xo5 xo6 = k0_pay8 x0 x1 x2 x3 := by
  unfold out0_B_4
  rw [View.read_writes_eq_canon _ _ _ (cover0_B_4 c i arg2 harg2 arg3 harg3 arg4 harg4 arg5 harg5 arg6 harg6 arg7 harg7 arg8 harg8 hc0 hc1 x0 x1 x2 x3 xo5 xo6)]
  unfold kernelRun0_B
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the keys' gradient a later row tile leaves this payload. -/
theorem out_B_5 (hc0 : ¬cond0_0 i) (hc1 : cond0_1 i) :
    out0_B_5 c i arg2 harg2 arg3 harg3 arg4 harg4 arg5 harg5 arg6 harg6 arg7 harg7 arg8 harg8 hc0 hc1 x0 x1 x2 x3 xo5 xo6 = k0_pay1 (k0_pay9 x0 x1 x2 x3) xo5 := by
  unfold out0_B_5
  rw [View.read_writes_eq_canon _ _ _ (cover0_B_5 c i arg2 harg2 arg3 harg3 arg4 harg4 arg5 harg5 arg6 harg6 arg7 harg7 arg8 harg8 hc0 hc1 x0 x1 x2 x3 xo5 xo6)]
  unfold kernelRun0_B
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the values' gradient a later row tile leaves this payload. -/
theorem out_B_6 (hc0 : ¬cond0_0 i) (hc1 : cond0_1 i) :
    out0_B_6 c i arg2 harg2 arg3 harg3 arg4 harg4 arg5 harg5 arg6 harg6 arg7 harg7 arg8 harg8 hc0 hc1 x0 x1 x2 x3 xo5 xo6 = k0_pay2 (k0_pay10 x0 x1 x3) xo6 := by
  unfold out0_B_6
  rw [View.read_writes_eq_canon _ _ _ (cover0_B_6 c i arg2 harg2 arg3 harg3 arg4 harg4 arg5 harg5 arg6 harg6 arg7 harg7 arg8 harg8 hc0 hc1 x0 x1 x2 x3 xo5 xo6)]
  unfold kernelRun0_B
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

end Cert.Mem.Kern

end
-- ==== Proof.MemKernel.lean ====
/- The kernel's results: the blocks each grid point reads, the sums over the row tiles, and the final arrays. -/
module

public import proofs.«01_k».proof.Proof.MemTile
public import proofs.«01_k».proof.Proof.MemCase
public import proofs.«01_k».proof.Proof.Gen.KernelIdeal.Value

@[expose] public section

set_option maxRecDepth 16384

noncomputable section

namespace Cert.Mem.Kern

open Idealize.ShloMosaic Idealize.ShloMosaic.TcCoe Idealize.SL.Sem Cert.KernelIdeal Cert.KernelIdeal.Gen Cert.KernelIdeal.Value Cert.Mem
open Idealize.ShloMosaic.Pipeline

variable (m : (ℓ : Loc nD τ sig) → Buf (Elt Ideal) ℓ) (c : Dev nD)

/-- The projections on a device. -/
abbrev A0 : Proj := m ((c.tc : Thread nD τ).loc main_arg0)
/-- The memory's keys and values on a device. -/
abbrev A1 : Kv := m ((c.tc : Thread nD τ).loc main_arg1)
/-- The cotangents on a device. -/
abbrev A2 : Cot := m ((c.tc : Thread nD τ).loc main_arg2)

/-- The head of a grid point. -/
def hd (t : Fin cfg0.N) : Fin 4 := ⟨t.val / 4, by have : t.val < 16 := t.isLt; omega⟩
/-- The row of the whole array that a row of a grid point's tile is. -/
def row (t : Fin cfg0.N) (r : Fin 512) : Fin 2048 := ⟨512 * (t.val % 4) + r.val, by omega⟩

theorem index0 : ∀ t : Fin cfg0.N, win0_0.index t 0 = t.val % 4 ∧ win0_0.index t 1 = 36 + t.val / 4 :=
  (by decide +kernel : ∀ t : Fin grid0.N, _)
theorem index1 : ∀ t : Fin cfg0.N, win0_1.index t 0 = 0 ∧ win0_1.index t 1 = t.val / 4 :=
  (by decide +kernel : ∀ t : Fin grid0.N, _)
theorem index2 : ∀ t : Fin cfg0.N, win0_2.index t 0 = 0 ∧ win0_2.index t 1 = 4 + t.val / 4 :=
  (by decide +kernel : ∀ t : Fin grid0.N, _)
theorem index3 : ∀ t : Fin cfg0.N, win0_3.index t 0 = t.val % 4 ∧ win0_3.index t 1 = 4 + t.val / 4 :=
  (by decide +kernel : ∀ t : Fin grid0.N, _)
theorem index4 : ∀ t : Fin cfg0.N, win0_4.index t 0 = t.val % 4 ∧ win0_4.index t 1 = t.val / 4 :=
  (by decide +kernel : ∀ t : Fin grid0.N, _)
theorem index5 : ∀ t : Fin cfg0.N, win0_5.index t 0 = 0 ∧ win0_5.index t 1 = t.val / 4 :=
  (by decide +kernel : ∀ t : Fin grid0.N, _)
theorem index6 : ∀ t : Fin cfg0.N, win0_6.index t 0 = 0 ∧ win0_6.index t 1 = t.val / 4 :=
  (by decide +kernel : ∀ t : Fin grid0.N, _)

/-- A grid point's block of queries. -/
theorem blk0 (t : Fin cfg0.N) (r : Fin 512) (e : Fin 128) : (iblk m c 0 t : Vec Ideal S512x128 .f32) (ix2 r e) = qAt (A0 m c) (hd t) (row t r) e := by
  unfold iblk qAt
  rw [View.read_apply]
  show V m c main_arg0 _ = m (c.tc.loc main_arg0) _
  unfold V
  congr 1
  funext a
  apply Fin.ext
  match a with
  | ⟨0, _⟩ => show win0_0.index t 0 * 512 + 1 * r.val = 512 * (t.val % 4) + r.val; rw [(index0 t).1]; omega
  | ⟨1, _⟩ => show win0_0.index t 1 * 128 + 1 * e.val = 4608 + 128 * (t.val / 4) + e.val; rw [(index0 t).2]; omega

/-- A grid point's block of keys. -/
theorem blk1 (t : Fin cfg0.N) (r : Fin 256) (e : Fin 128) : (iblk m c 1 t : Vec Ideal S256x128 .f32) (ix2 r e) = kAt (A1 m c) (hd t) r e := by
  unfold iblk kAt
  rw [View.read_apply]
  show V m c main_arg1 _ = m (c.tc.loc main_arg1) _
  unfold V
  congr 1
  funext a
  apply Fin.ext
  match a with
  | ⟨0, _⟩ => show win0_1.index t 0 * 256 + 1 * r.val = r.val; rw [(index1 t).1]; omega
  | ⟨1, _⟩ => show win0_1.index t 1 * 128 + 1 * e.val = 128 * (t.val / 4) + e.val; rw [(index1 t).2]; omega

/-- A grid point's block of values. -/
theorem blk2 (t : Fin cfg0.N) (r : Fin 256) (e : Fin 128) : (iblk m c 2 t : Vec Ideal S256x128 .f32) (ix2 r e) = vAt (A1 m c) (hd t) r e := by
  unfold iblk vAt
  rw [View.read_apply]
  show V m c main_arg1 _ = m (c.tc.loc main_arg1) _
  unfold V
  congr 1
  funext a
  apply Fin.ext
  match a with
  | ⟨0, _⟩ => show win0_2.index t 0 * 256 + 1 * r.val = r.val; rw [(index2 t).1]; omega
  | ⟨1, _⟩ => show win0_2.index t 1 * 128 + 1 * e.val = 512 + 128 * (t.val / 4) + e.val; rw [(index2 t).2]; omega

/-- A grid point's block of cotangents. -/
theorem blk3 (t : Fin cfg0.N) (r : Fin 512) (e : Fin 128) : (iblk m c 3 t : Vec Ideal S512x128 .f32) (ix2 r e) = gAt (A2 m c) (hd t) (row t r) e := by
  unfold iblk gAt
  rw [View.read_apply]
  show V m c main_arg2 _ = m (c.tc.loc main_arg2) _
  unfold V
  congr 1
  funext a
  apply Fin.ext
  match a with
  | ⟨0, _⟩ => show win0_3.index t 0 * 512 + 1 * r.val = 512 * (t.val % 4) + r.val; rw [(index3 t).1]; omega
  | ⟨1, _⟩ => show win0_3.index t 1 * 128 + 1 * e.val = 512 + 128 * (t.val / 4) + e.val; rw [(index3 t).2]; omega

/-- A tile's scores are the row's. -/
theorem bscore_eq (t : Fin cfg0.N) (r : Fin 512) : bscore (iblk m c 0 t) (iblk m c 1 t) r = score (A0 m c) (A1 m c) (hd t) (row t r) := by
  funext u
  unfold bscore score
  simp only [blk0, blk1]

/-- A tile's cotangents of the probabilities are the row's. -/
theorem bdprob_eq (t : Fin cfg0.N) (r : Fin 512) : bdprob (iblk m c 2 t) (iblk m c 3 t) r = dprob (A1 m c) (A2 m c) (hd t) (row t r) := by
  funext u
  unfold bdprob dprob
  simp only [blk2, blk3]

/-- What a grid point gives the queries. -/
theorem tile_q (t : Fin cfg0.N) (r : Fin 512) (e : Fin 128) :
    k0_pay8 (F := Ideal) (iblk m c 0 t) (iblk m c 1 t) (iblk m c 2 t) (iblk m c 3 t) (ix2 r e) = dq (A0 m c) (A1 m c) (A2 m c) (hd t) (row t r) e := by
  rw [pay8, bscore_eq, bdprob_eq]
  simp only [blk1]
  rfl

/-- What a row adds to the keys. -/
def kRow (h : Fin 4) (u : Fin 256) (e : Fin 128) (r : ℕ) : EReal :=
  if hr : r < 2048 then dscore (A0 m c) (A1 m c) (A2 m c) h ⟨r, hr⟩ u * qAt (A0 m c) h ⟨r, hr⟩ e else 0
/-- What a row adds to the values. -/
def vRow (h : Fin 4) (u : Fin 256) (e : Fin 128) (r : ℕ) : EReal :=
  if hr : r < 2048 then prob (score (A0 m c) (A1 m c) h ⟨r, hr⟩) u * gAt (A2 m c) h ⟨r, hr⟩ e else 0

/-- What a grid point adds to the keys. -/
theorem tile_k (t : Fin cfg0.N) (u : Fin 256) (e : Fin 128) :
    k0_pay9 (F := Ideal) (iblk m c 0 t) (iblk m c 1 t) (iblk m c 2 t) (iblk m c 3 t) (ix2 u e)
      = ∑ r ∈ Finset.range 512, kRow m c (hd t) u e (512 * (t.val % 4) + r) := by
  rw [pay9, Finset.sum_range]
  refine Finset.sum_congr rfl fun r _ => ?_
  rw [bscore_eq, bdprob_eq, blk0]
  unfold kRow
  rw [dif_pos (show 512 * (t.val % 4) + r.val < 2048 by omega)]
  rfl

/-- What a grid point adds to the values. -/
theorem tile_v (t : Fin cfg0.N) (u : Fin 256) (e : Fin 128) :
    k0_pay10 (F := Ideal) (iblk m c 0 t) (iblk m c 1 t) (iblk m c 3 t) (ix2 u e)
      = ∑ r ∈ Finset.range 512, vRow m c (hd t) u e (512 * (t.val % 4) + r) := by
  rw [pay10, Finset.sum_range]
  refine Finset.sum_congr rfl fun r _ => ?_
  rw [bscore_eq, blk3]
  unfold vRow
  rw [dif_pos (show 512 * (t.val % 4) + r.val < 2048 by omega)]
  rfl

/-- After each grid point its block of the queries' gradient is done. -/
theorem outs_q (t : Fin cfg0.N) (r : Fin 512) (e : Fin 128) :
    (outsAt0 m c t.val t.isLt).1 (ix2 r e) = dq (A0 m c) (A1 m c) (A2 m c) (hd t) (row t r) e := by
  by_cases h0 : t.val % 4 = 0
  · rw [outsAt0_A m c t h0 (by omega)]
    dsimp only
    rw [out_A_4, tile_q]
  · rw [outsAt0_B m c t h0 (by omega)]
    dsimp only
    rw [out_B_4, tile_q]

/-- After each grid point the other two outputs hold the sums over the rows so far. -/
theorem outs_kv : ∀ (n : ℕ) (hn : n < cfg0.N) (u : Fin 256) (e : Fin 128),
    (outsAt0 m c n hn).2.1 (ix2 u e) = ∑ r ∈ Finset.range (512 * (n % 4 + 1)), kRow m c (hd ⟨n, hn⟩) u e r
    ∧ (outsAt0 m c n hn).2.2 (ix2 u e) = ∑ r ∈ Finset.range (512 * (n % 4 + 1)), vRow m c (hd ⟨n, hn⟩) u e r := by
  intro n
  induction n with
  | zero =>
    intro hn u e
    rw [outsAt0_A m c ⟨0, hn⟩ rfl (by simp)]
    dsimp only
    rw [out_A_5, out_A_6, tile_k, tile_v]
    simp
  | succ n ih =>
    intro hn u e
    by_cases h0 : (n + 1) % 4 = 0
    · rw [outsAt0_A m c ⟨n + 1, hn⟩ h0 (by simp only; omega)]
      dsimp only
      rw [out_A_5, out_A_6, tile_k, tile_v]
      simp [h0]
    · rw [outsAt0_B m c ⟨n + 1, hn⟩ h0 (by simp only; omega)]
      dsimp only
      rw [out_B_5, out_B_6]
      have hp := ih (Nat.lt_of_succ_lt hn) u e
      have hh : hd ⟨n + 1, hn⟩ = hd ⟨n, Nat.lt_of_succ_lt hn⟩ := Fin.ext (by show (n + 1) / 4 = n / 4; omega)
      have hs : 512 * ((n + 1) % 4 + 1) = 512 * (n % 4 + 1) + 512 := by omega
      have ho : 512 * ((n + 1) % 4) = 512 * (n % 4 + 1) := by omega
      rw [hs, Finset.sum_range_add, Finset.sum_range_add, hh, ← hp.1, ← hp.2]
      unfold k0_pay1 k0_pay2
      simp only [shapeCast_self]
      constructor
      · show _ + k0_pay9 (F := Ideal) _ _ _ _ (ix2 u e) = _
        rw [tile_k, hh]
        dsimp only
        rw [ho]
        rfl
      · show _ + k0_pay10 (F := Ideal) _ _ _ (ix2 u e) = _
        rw [tile_v, hh]
        dsimp only
        rw [ho]
        rfl

/-- The sum over all rows is the keys' gradient. -/
theorem sum_k (h : Fin 4) (u : Fin 256) (e : Fin 128) : ∑ r ∈ Finset.range 2048, kRow m c h u e r = dk (A0 m c) (A1 m c) (A2 m c) h u e := by
  rw [Finset.sum_range]
  refine Finset.sum_congr rfl fun r _ => ?_
  unfold kRow
  rw [dif_pos r.isLt]

/-- The sum over all rows is the values' gradient. -/
theorem sum_v (h : Fin 4) (u : Fin 256) (e : Fin 128) : ∑ r ∈ Finset.range 2048, vRow m c h u e r = dv (A0 m c) (A1 m c) (A2 m c) h u e := by
  rw [Finset.sum_range]
  refine Finset.sum_congr rfl fun r _ => ?_
  unfold vRow
  rw [dif_pos r.isLt]

/-- The first result is the queries' gradient. -/
theorem final_q : (dats m 0 c).arrAt 4 cfg0.N = dqArr (A0 m c) (A1 m c) (A2 m c) := by
  refine (dats m 0 c).arrAt_eq_of_cover 4 _ (fun t _ => ?_) fun i => ?_
  · rw [flushed4]
    funext j
    rw [View.read_apply]
    show (outsAt0 m c t.val t.isLt).1 j = dqArr (A0 m c) (A1 m c) (A2 m c) _
    have key : ∀ j : S512x128.Idx, (outsAt0 m c t.val t.isLt).1 j = dq (A0 m c) (A1 m c) (A2 m c) (hd t) (row t (j 0)) (j 1) := fun j => by
      conv_lhs => rw [eq_ix2 j]
      exact outs_q m c t _ _
    refine (key j).trans ?_
    have h1 : (j 1).val < 128 := (j 1).isLt
    unfold dqArr
    congr 1
    · apply Fin.ext
      show t.val / 4 = (win0_4.index t 1 * 128 + 1 * (j 1).val) / 128
      rw [(index4 t).2]; omega
    · apply Fin.ext
      show 512 * (t.val % 4) + (j 0).val = win0_4.index t 0 * 512 + 1 * (j 0).val
      rw [(index4 t).1]; omega
    · apply Fin.ext
      show (j 1).val = (win0_4.index t 1 * 128 + 1 * (j 1).val) % 128
      rw [(index4 t).2]; omega
  · have h0 : (i 0 : Nat) < 2048 := (i 0).isLt
    have h1 : (i 1 : Nat) < 512 := (i 1).isLt
    have hlt : 4 * ((i 1 : Nat) / 128) + (i 0 : Nat) / 512 < cfg0.N := by show _ < 16; omega
    refine ⟨⟨4 * ((i 1 : Nat) / 128) + (i 0 : Nat) / 512, hlt⟩, flush0_4 _, ?_⟩
    generalize ht : (⟨4 * ((i 1 : Nat) / 128) + (i 0 : Nat) / 512, hlt⟩ : Fin cfg0.N) = t
    have hv : t.val = 4 * ((i 1 : Nat) / 128) + (i 0 : Nat) / 512 := by rw [← ht]
    show i ∈ ((View.whole main_v0_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [(index4 t).1]; omega
    | ⟨1, _⟩ => show win0_4.index t 1 * 128 ≤ (i 1 : Nat) ∧ (i 1 : Nat) < win0_4.index t 1 * 128 + 128
                rw [(index4 t).2]; omega

/-- The second result is the keys' gradient. -/
theorem final_k : (dats m 0 c).arrAt 5 cfg0.N = dkArr (A0 m c) (A1 m c) (A2 m c) := by
  refine (dats m 0 c).arrAt_eq_of_cover 5 _ (fun t hf => ?_) fun i => ?_
  · have hm : t.val % 4 = 3 := (flush0_5 t).mp hf
    rw [flushed5]
    funext j
    rw [View.read_apply]
    show (outsAt0 m c t.val t.isLt).2.1 j = dkArr (A0 m c) (A1 m c) (A2 m c) _
    have key : ∀ j : S256x128.Idx, (outsAt0 m c t.val t.isLt).2.1 j = dk (A0 m c) (A1 m c) (A2 m c) (hd t) (j 0) (j 1) := fun j => by
      conv_lhs => rw [eq_ix2 j]
      refine ((outs_kv m c t.val t.isLt (j 0) (j 1)).1).trans ?_
      rw [hm]
      exact sum_k m c _ _ _
    refine (key j).trans ?_
    have h1 : (j 1).val < 128 := (j 1).isLt
    unfold dkArr
    congr 1
    · apply Fin.ext
      show t.val / 4 = (win0_5.index t 1 * 128 + 1 * (j 1).val) / 128
      rw [(index5 t).2]; omega
    · apply Fin.ext
      show (j 0).val = win0_5.index t 0 * 256 + 1 * (j 0).val
      rw [(index5 t).1]; omega
    · apply Fin.ext
      show (j 1).val = (win0_5.index t 1 * 128 + 1 * (j 1).val) % 128
      rw [(index5 t).2]; omega
  · have h0 : (i 0 : Nat) < 256 := (i 0).isLt
    have h1 : (i 1 : Nat) < 512 := (i 1).isLt
    have hlt : 4 * ((i 1 : Nat) / 128) + 3 < cfg0.N := by show _ < 16; omega
    refine ⟨⟨4 * ((i 1 : Nat) / 128) + 3, hlt⟩, (flush0_5 _).mpr (by show (4 * ((i 1 : Nat) / 128) + 3) % 4 = 3; omega), ?_⟩
    generalize ht : (⟨4 * ((i 1 : Nat) / 128) + 3, hlt⟩ : Fin cfg0.N) = t
    have hv : t.val = 4 * ((i 1 : Nat) / 128) + 3 := by rw [← ht]
    show i ∈ ((View.whole main_v0_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(index5 t).1]; omega
    | ⟨1, _⟩ => show win0_5.index t 1 * 128 ≤ (i 1 : Nat) ∧ (i 1 : Nat) < win0_5.index t 1 * 128 + 128
                rw [(index5 t).2]; omega

/-- The third result is the values' gradient. -/
theorem final_v : (dats m 0 c).arrAt 6 cfg0.N = dvArr (A0 m c) (A1 m c) (A2 m c) := by
  refine (dats m 0 c).arrAt_eq_of_cover 6 _ (fun t hf => ?_) fun i => ?_
  · have hm : t.val % 4 = 3 := (flush0_6 t).mp hf
    rw [flushed6]
    funext j
    rw [View.read_apply]
    show (outsAt0 m c t.val t.isLt).2.2 j = dvArr (A0 m c) (A1 m c) (A2 m c) _
    have key : ∀ j : S256x128.Idx, (outsAt0 m c t.val t.isLt).2.2 j = dv (A0 m c) (A1 m c) (A2 m c) (hd t) (j 0) (j 1) := fun j => by
      conv_lhs => rw [eq_ix2 j]
      refine ((outs_kv m c t.val t.isLt (j 0) (j 1)).2).trans ?_
      rw [hm]
      exact sum_v m c _ _ _
    refine (key j).trans ?_
    have h1 : (j 1).val < 128 := (j 1).isLt
    unfold dvArr
    congr 1
    · apply Fin.ext
      show t.val / 4 = (win0_6.index t 1 * 128 + 1 * (j 1).val) / 128
      rw [(index6 t).2]; omega
    · apply Fin.ext
      show (j 0).val = win0_6.index t 0 * 256 + 1 * (j 0).val
      rw [(index6 t).1]; omega
    · apply Fin.ext
      show (j 1).val = (win0_6.index t 1 * 128 + 1 * (j 1).val) % 128
      rw [(index6 t).2]; omega
  · have h0 : (i 0 : Nat) < 256 := (i 0).isLt
    have h1 : (i 1 : Nat) < 512 := (i 1).isLt
    have hlt : 4 * ((i 1 : Nat) / 128) + 3 < cfg0.N := by show _ < 16; omega
    refine ⟨⟨4 * ((i 1 : Nat) / 128) + 3, hlt⟩, (flush0_6 _).mpr (by show (4 * ((i 1 : Nat) / 128) + 3) % 4 = 3; omega), ?_⟩
    generalize ht : (⟨4 * ((i 1 : Nat) / 128) + 3, hlt⟩ : Fin cfg0.N) = t
    have hv : t.val = 4 * ((i 1 : Nat) / 128) + 3 := by rw [← ht]
    show i ∈ ((View.whole main_v0_2).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [(index6 t).1]; omega
    | ⟨1, _⟩ => show win0_6.index t 1 * 128 ≤ (i 1 : Nat) ∧ (i 1 : Nat) < win0_6.index t 1 * 128 + 128
                rw [(index6 t).2]; omega

/-- The kernel's run: its three results are the gradients, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = dqArr (A0 m c) (A1 m c) (A2 m c)
      ∧ r.2.mem ((c : Thread nD τ).loc main_v0_1) = dkArr (A0 m c) (A1 m c) (A2 m c)
      ∧ r.2.mem ((c : Thread nD τ).loc main_v0_2) = dvArr (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_q m c), (h c).2.1.trans (final_k m c), (h c).2.2.1.trans (final_v m c), (h c).2.2.2⟩)
    (run_blocks m ρ)

end Cert.Mem.Kern

end
-- ==== Proof.MemRef.lean ====
/- The reference program read at an entry. -/
module

public import proofs.«01_k».proof.Proof.MemSpec
public import proofs.«01_k».proof.Proof.Gen.ReferenceIdeal.Read
public import Idealize.ShloMosaic.Lib.KernelVsHost

@[expose] public section

set_option maxRecDepth 16384

noncomputable section

namespace Cert.Mem.Ref

open Idealize.ShloMosaic Cert.ReferenceIdeal Cert.ReferenceIdeal.Gen Cert.ReferenceIdeal.Read Cert.Mem

variable (x0 : Proj) (x1 : Kv) (x2 : Cot)

/-- The queries, split into heads. -/
theorem v4 (i : S1x2048x4x128.Idx) : val_main_v4 (F := Ideal) x0 i = qAt x0 (i 2) (i 1) (i 3) := by
  have h0 : (i 0).val < 1 := (i 0).isLt
  have h1 : (i 1).val < 2048 := (i 1).isLt
  have h2 : (i 2).val < 4 := (i 2).isLt
  have h3 : (i 3).val < 128 := (i 3).isLt
  rw [val_main_v4_apply, val_main_v1_apply, val_main_v0_apply]
  unfold qAt
  congr 1
  funext a
  apply Fin.ext
  match a with
  | ⟨0, _⟩ => show ((((i 0).val * 2048 + (i 1).val) * 4 + (i 2).val) * 128 + (i 3).val) / 512 % 2048 = (i 1).val; omega
  | ⟨1, _⟩ => show 4608 + ((((i 0).val * 2048 + (i 1).val) * 4 + (i 2).val) * 128 + (i 3).val) % 512 = 4608 + 128 * (i 2).val + (i 3).val; omega

/-- The keys, split into heads. -/
theorem v6 (i : S1x256x4x128.Idx) : val_main_v6 (F := Ideal) x1 i = kAt x1 (i 2) (i 1) (i 3) := by
  have h0 : (i 0).val < 1 := (i 0).isLt
  have h1 : (i 1).val < 256 := (i 1).isLt
  have h2 : (i 2).val < 4 := (i 2).isLt
  have h3 : (i 3).val < 128 := (i 3).isLt
  rw [val_main_v6_apply, val_main_v5_apply, val_main_v3_apply, val_main_v2_apply]
  unfold kAt
  congr 1
  funext a
  apply Fin.ext
  match a with
  | ⟨0, _⟩ => show ((((0 * 256 + ((((i 0).val * 256 + (i 1).val) * 4 + (i 2).val) * 128 + (i 3).val) / 512 % 256) * 2 + 0) * 4 + ((((i 0).val * 256 + (i 1).val) * 4 + (i 2).val) * 128 + (i 3).val) / 128 % 4) * 128 + ((((i 0).val * 256 + (i 1).val) * 4 + (i 2).val) * 128 + (i 3).val) % 128) / 1024 % 256 = (i 1).val; omega
  | ⟨1, _⟩ => show ((((0 * 256 + ((((i 0).val * 256 + (i 1).val) * 4 + (i 2).val) * 128 + (i 3).val) / 512 % 256) * 2 + 0) * 4 + ((((i 0).val * 256 + (i 1).val) * 4 + (i 2).val) * 128 + (i 3).val) / 128 % 4) * 128 + ((((i 0).val * 256 + (i 1).val) * 4 + (i 2).val) * 128 + (i 3).val) % 128) % 1024 = 128 * (i 2).val + (i 3).val; omega

/-- The values, split into heads. -/
theorem v8 (i : S1x256x4x128.Idx) : val_main_v8 (F := Ideal) x1 i = vAt x1 (i 2) (i 1) (i 3) := by
  have h0 : (i 0).val < 1 := (i 0).isLt
  have h1 : (i 1).val < 256 := (i 1).isLt
  have h2 : (i 2).val < 4 := (i 2).isLt
  have h3 : (i 3).val < 128 := (i 3).isLt
  rw [val_main_v8_apply, val_main_v7_apply, val_main_v3_apply, val_main_v2_apply]
  unfold vAt
  congr 1
  funext a
  apply Fin.ext
  match a with
  | ⟨0, _⟩ => show ((((0 * 256 + ((((i 0).val * 256 + (i 1).val) * 4 + (i 2).val) * 128 + (i 3).val) / 512 % 256) * 2 + 1) * 4 + ((((i 0).val * 256 + (i 1).val) * 4 + (i 2).val) * 128 + (i 3).val) / 128 % 4) * 128 + ((((i 0).val * 256 + (i 1).val) * 4 + (i 2).val) * 128 + (i 3).val) % 128) / 1024 % 256 = (i 1).val; omega
  | ⟨1, _⟩ => show ((((0 * 256 + ((((i 0).val * 256 + (i 1).val) * 4 + (i 2).val) * 128 + (i 3).val) / 512 % 256) * 2 + 1) * 4 + ((((i 0).val * 256 + (i 1).val) * 4 + (i 2).val) * 128 + (i 3).val) / 128 % 4) * 128 + ((((i 0).val * 256 + (i 1).val) * 4 + (i 2).val) * 128 + (i 3).val) % 128) % 1024 = 512 + 128 * (i 2).val + (i 3).val; omega

/-- The cotangents, split into heads. -/
theorem v46 (i : S1x4x128x2048.Idx) : val_main_v46 (F := Ideal) x2 i = gAt x2 (i 1) (i 3) (i 2) := by
  have h0 : (i 0).val < 1 := (i 0).isLt
  have h1 : (i 1).val < 4 := (i 1).isLt
  have h2 : (i 2).val < 128 := (i 2).isLt
  have h3 : (i 3).val < 2048 := (i 3).isLt
  rw [val_main_v46_apply, val_main_v45_apply, val_main_v44_apply, val_main_v43_apply]
  unfold gAt
  congr 1
  funext a
  apply Fin.ext
  match a with
  | ⟨0, _⟩ => show ((((i 0).val * 2048 + (i 3).val) * 4 + (i 1).val) * 128 + (i 2).val) / 512 % 2048 = (i 3).val; omega
  | ⟨1, _⟩ => show 512 + ((((i 0).val * 2048 + (i 3).val) * 4 + (i 1).val) * 128 + (i 2).val) % 512 = 512 + 128 * (i 1).val + (i 2).val; omega

/-- The scores. -/
theorem v11 (i : S1x4x2048x256.Idx) : val_main_v11 (F := Ideal) x0 x1 i = score x0 x1 (i 1) (i 2) (i 3) := by
  rw [val_main_v11_apply, val_main_v9_apply, val_main_v10_apply]
  simp only [v4, v6]
  rfl

/-- The largest score of a row. -/
theorem v12 (i : S1x4x2048.Idx) : val_main_v12 (F := Ideal) x0 x1 i = rowMax (score x0 x1 (i 1) (i 2)) := by
  unfold val_main_v12
  rw [Host.reduce_eq_fold_single FloatOps.maximumf _ _ _ (by decide : S1x4x2048x256.Reduces [3] S1x4x2048)]
  unfold rowMax
  show Finset.fold max (Ideal.ofBits .f32 0xFF800000#32) _ _ = _
  rw [negInf]
  congr 1
  funext k
  show val_main_v11 (F := Ideal) x0 x1 _ = _
  rw [v11]
  congr 1

/-- The exponentials. -/
theorem v32 (i : S1x4x2048x256.Idx) : val_main_v32 (F := Ideal) x0 x1 i = expo (score x0 x1 (i 1) (i 2)) (i 3) := by
  rw [val_main_v32_apply, val_main_v31_apply, val_main_v30_apply, val_main_v29_apply, val_main_v19_apply, val_main_v18_apply, v11, v12]
  show Ideal.exp (score x0 x1 (i 1) (i 2) (i 3) - max (Ideal.ofBits .f32 0xFF800000#32) (rowMax (score x0 x1 (i 1) (i 2)))) = _
  rw [negInf, rowMax_bot_max]
  rfl

/-- The sums of the exponentials. -/
theorem v34 (i : S1x4x2048x1.Idx) : val_main_v34 (F := Ideal) x0 x1 i = total (score x0 x1 (i 1) (i 2)) := by
  rw [val_main_v34_apply, val_main_v33_apply]
  simp only [v32]
  show Ideal.ofBits .f32 0x00000000#32 + total (score x0 x1 (i 1) (i 2)) = _
  rw [Ideal.ofBits_zero_f32, zero_add]

/-- The probabilities. -/
theorem v36 (i : S1x4x2048x256.Idx) : val_main_v36 (F := Ideal) x0 x1 i = prob (score x0 x1 (i 1) (i 2)) (i 3) := by
  rw [val_main_v36_apply, val_main_v35_apply, v34, v32]
  rfl

/-- The cotangents of the probabilities. -/
theorem v47 (i : S1x4x2048x256.Idx) : val_main_v47 (F := Ideal) x1 x2 i = dprob x1 x2 (i 1) (i 2) (i 3) := by
  rw [val_main_v47_apply]
  simp only [v46, v8]
  rfl

/-- The terms of the weighted sum of a row. -/
theorem v52 (i : S1x4x2048x256.Idx) : val_main_v52 (F := Ideal) x0 x1 x2 i
    = dprob x1 x2 (i 1) (i 2) (i 3) * Ideal.div 1 (total (score x0 x1 (i 1) (i 2)) * total (score x0 x1 (i 1) (i 2)))
      * expo (score x0 x1 (i 1) (i 2)) (i 3) := by
  rw [val_main_v52_apply, val_main_v51_apply, val_main_v50_apply, val_main_v39_apply, val_main_v38_apply, val_main_v37_apply, v47, v34, v32]
  show dprob x1 x2 (i 1) (i 2) (i 3) * Ideal.div (Ideal.ofBits .f32 0x3F800000#32)
    (total (score x0 x1 (i 1) (i 2)) * total (score x0 x1 (i 1) (i 2))) * expo (score x0 x1 (i 1) (i 2)) (i 3) = _
  rw [oneWord]

/-- An index without its last coordinate. -/
abbrev dropLast (i : S1x4x2048x1.Idx) : S1x4x2048.Idx := fun a => match a with
  | ⟨0, _⟩ => ⟨0, Nat.one_pos⟩
  | ⟨1, _⟩ => ⟨(i 1).val, (i 1).isLt⟩
  | ⟨2, _⟩ => ⟨(i 2).val, (i 2).isLt⟩

/-- The negated weighted sum of a row. -/
theorem v55 (i : S1x4x2048x1.Idx) : val_main_v55 (F := Ideal) x0 x1 x2 i
    = -(∑ u : Fin 256, dprob x1 x2 (i 1) (i 2) u * Ideal.div 1 (total (score x0 x1 (i 1) (i 2)) * total (score x0 x1 (i 1) (i 2)))
      * expo (score x0 x1 (i 1) (i 2)) u) := by
  have hi : idx_main_v54 i = dropLast i := by
    have h0 : (i 0).val < 1 := (i 0).isLt
    have h1 : (i 1).val < 4 := (i 1).isLt
    have h2 : (i 2).val < 2048 := (i 2).isLt
    have h3 : (i 3).val < 1 := (i 3).isLt
    funext a
    apply Fin.ext
    match a with
    | ⟨0, _⟩ => rfl
    | ⟨1, _⟩ => show ((((i 0).val * 4 + (i 1).val) * 2048 + (i 2).val) * 1 + (i 3).val) / 2048 % 4 = (i 1).val; omega
    | ⟨2, _⟩ => show ((((i 0).val * 4 + (i 1).val) * 2048 + (i 2).val) * 1 + (i 3).val) % 2048 = (i 2).val; omega
  rw [val_main_v55_apply, val_main_v54_apply, hi, val_main_v53_apply]
  simp only [v52]
  show -(Ideal.ofBits .f32 0x00000000#32 + _) = _
  rw [Ideal.ofBits_zero_f32, zero_add]
  rfl

/-- The index of the rank-four array that drops to an index of the rank-two one. -/
abbrev up (i : S4x2048.Idx) : S1x4x2048x1.Idx := fun a => match a with
  | ⟨0, _⟩ => ⟨0, Nat.one_pos⟩
  | ⟨1, _⟩ => ⟨(i 0).val, (i 0).isLt⟩
  | ⟨2, _⟩ => ⟨(i 1).val, (i 1).isLt⟩
  | ⟨3, _⟩ => ⟨0, Nat.one_pos⟩

/-- The same after the sum over the axes of one place. -/
theorem v58 (i : S4x2048.Idx) : val_main_v58 (F := Ideal) x0 x1 x2 i = val_main_v55 (F := Ideal) x0 x1 x2 (up i) := by
  unfold val_main_v58
  generalize val_main_v55 (F := Ideal) x0 x1 x2 = y
  show Ideal.hostReduceAdd _ y _ i = _
  unfold Ideal.hostReduceAdd
  have hf : (Finset.univ.filter fun k => reducesTo_S1x4x2048x1_S4x2048_d0_3.drop k = i) = {up i} := by
    ext k
    simp only [Finset.mem_filter, Finset.mem_univ, true_and, Finset.mem_singleton]
    constructor
    · intro e
      funext a
      apply Fin.ext
      have h0 : (k 0).val < 1 := (k 0).isLt
      have h3 : (k 3).val < 1 := (k 3).isLt
      match a with
      | ⟨0, _⟩ => show (k 0).val = 0; omega
      | ⟨1, _⟩ => exact congrArg Fin.val (congrFun e 0)
      | ⟨2, _⟩ => exact congrArg Fin.val (congrFun e 1)
      | ⟨3, _⟩ => show (k 3).val = 0; omega
    · rintro rfl
      funext b
      apply Fin.ext
      match b with
      | ⟨0, _⟩ => rfl
      | ⟨1, _⟩ => rfl
  rw [hf, Finset.sum_singleton]
  show Ideal.ofBits .f32 0x00000000#32 + _ = _
  rw [Ideal.ofBits_zero_f32, zero_add]

/-- The cotangents of the unscaled scores. -/
theorem v64 (H : RealScores x0 x1) (i : S1x4x2048x256.Idx) : val_main_v64 (F := Ideal) x0 x1 x2 i = dscore x0 x1 x2 (i 1) (i 2) (i 3) := by
  refine Eq.trans ?_ (dscore_eq H x2 _ _ _).symm
  rw [val_main_v64_apply, val_main_v63_apply, val_main_v62_apply, val_main_v61_apply, val_main_v60_apply, val_main_v59_apply, v58, v55,
    val_main_v57_apply, val_main_v56_apply, v47, v34, v32]
  rfl

/-- The gradient of the queries. -/
theorem v68 (H : RealScores x0 x1) (i : S1x2048x4x128.Idx) : val_main_v68 (F := Ideal) x0 x1 x2 i = dq x0 x1 x2 (i 2) (i 1) (i 3) := by
  rw [val_main_v68_apply, val_main_v67_apply]
  simp only [v64 x0 x1 x2 H, v6]
  rfl

/-- The gradient of the keys. -/
theorem v66 (H : RealScores x0 x1) (i : S1x256x4x128.Idx) : val_main_v66 (F := Ideal) x0 x1 x2 i = dk x0 x1 x2 (i 2) (i 1) (i 3) := by
  rw [val_main_v66_apply, val_main_v65_apply]
  simp only [v64 x0 x1 x2 H, v4]
  rfl

/-- The gradient of the values. -/
theorem v49 (i : S1x256x4x128.Idx) : val_main_v49 (F := Ideal) x0 x1 x2 i = dv x0 x1 x2 (i 2) (i 1) (i 3) := by
  rw [val_main_v49_apply, val_main_v48_apply]
  simp only [v36, v46]
  unfold dv
  refine Finset.sum_congr rfl fun r _ => ?_
  exact mul_comm _ _

/-- The padded gradient of the values: zero at place zero of the third axis. -/
theorem v70_zero (t : Fin 256) (h : Fin 4) (e : Fin 128) : val_main_v70 (F := Ideal) x0 x1 x2 (ix5 0 t 0 h e) = (0 : EReal) := by
  unfold val_main_v70
  rw [pad_apply_of_not_inside _ _ _ _ _ _ _ _ (2 : Fin 5) (fun hh => absurd (show 1 ≤ 0 from hh.1) (by decide))]
  exact Ideal.ofBits_zero_f32

/-- The padded gradient of the values: the gradient at place one of the third axis. -/
theorem v70_one (t : Fin 256) (h : Fin 4) (e : Fin 128) : val_main_v70 (F := Ideal) x0 x1 x2 (ix5 0 t 1 h e) = dv x0 x1 x2 h t e := by
  unfold val_main_v70
  rw [pad_apply_of_inside _ _ _ _ _ _ _ _ (ix5 (0 : Fin 1) t (0 : Fin 1) h e) (fun a => match a with
    | ⟨0, _⟩ => rfl
    | ⟨1, _⟩ => by show t.val = 0 + t.val * 1; omega
    | ⟨2, _⟩ => rfl
    | ⟨3, _⟩ => by show h.val = 0 + h.val * 1; omega
    | ⟨4, _⟩ => by show e.val = 0 + e.val * 1; omega)]
  rw [val_main_v69_apply, v49]
  rfl

/-- The padded gradient of the keys: the gradient at place zero of the third axis. -/
theorem v72_zero (H : RealScores x0 x1) (t : Fin 256) (h : Fin 4) (e : Fin 128) :
    val_main_v72 (F := Ideal) x0 x1 x2 (ix5 0 t 0 h e) = dk x0 x1 x2 h t e := by
  unfold val_main_v72
  rw [pad_apply_of_inside _ _ _ _ _ _ _ _ (ix5 (0 : Fin 1) t (0 : Fin 1) h e) (fun a => match a with
    | ⟨0, _⟩ => rfl
    | ⟨1, _⟩ => by show t.val = 0 + t.val * 1; omega
    | ⟨2, _⟩ => rfl
    | ⟨3, _⟩ => by show h.val = 0 + h.val * 1; omega
    | ⟨4, _⟩ => by show e.val = 0 + e.val * 1; omega)]
  rw [val_main_v71_apply, v66 x0 x1 x2 H]
  rfl

/-- The padded gradient of the keys: zero at place one of the third axis. -/
theorem v72_one (t : Fin 256) (h : Fin 4) (e : Fin 128) : val_main_v72 (F := Ideal) x0 x1 x2 (ix5 0 t 1 h e) = (0 : EReal) := by
  unfold val_main_v72
  rw [pad_apply_of_not_inside _ _ _ _ _ _ _ _ (2 : Fin 5) (fun hh => absurd (show (1 - 0) / (0 + 1) < 1 from hh.2.2) (by decide))]
  exact Ideal.ofBits_zero_f32

/-- The first result: the gradient of the queries. -/
theorem v77 (H : RealScores x0 x1) (h : Fin 4) (r : Fin 2048) (e : Fin 128) :
    val_main_v77 (F := Ideal) x0 x1 x2 (ix2 r ⟨128 * h.val + e.val, by omega⟩) = dq x0 x1 x2 h r e := by
  rw [val_main_v77_apply, val_main_v76_apply, val_main_v74_apply, v68 x0 x1 x2 H]
  show dq x0 x1 x2 _ _ _ = _
  congr 1
  · apply Fin.ext
    show ((0 * 2048 + (r.val * 512 + (128 * h.val + e.val)) / 512 % 2048) * 512 + (r.val * 512 + (128 * h.val + e.val)) % 512) / 128 % 4 = h.val
    omega
  · apply Fin.ext
    show ((0 * 2048 + (r.val * 512 + (128 * h.val + e.val)) / 512 % 2048) * 512 + (r.val * 512 + (128 * h.val + e.val)) % 512) / 512 % 2048 = r.val
    omega
  · apply Fin.ext
    show ((0 * 2048 + (r.val * 512 + (128 * h.val + e.val)) / 512 % 2048) * 512 + (r.val * 512 + (128 * h.val + e.val)) % 512) % 128 = e.val
    omega

/-- The second result: the gradient of the keys. -/
theorem v79 (H : RealScores x0 x1) (h : Fin 4) (t : Fin 256) (e : Fin 128) :
    val_main_v79 (F := Ideal) x0 x1 x2 (ix2 t ⟨128 * h.val + e.val, by omega⟩) = dk x0 x1 x2 h t e := by
  have hi : idx_main_v75 (idx_main_v78 (idx_main_v79 (ix2 t ⟨128 * h.val + e.val, by omega⟩))) = ix5 (0 : Fin 1) t (0 : Fin 2) h e := by
    funext a
    apply Fin.ext
    match a with
    | ⟨0, _⟩ => rfl
    | ⟨1, _⟩ => show ((0 * 256 + (t.val * 512 + (128 * h.val + e.val)) / 512 % 256) * 1024 + ((t.val * 512 + (128 * h.val + e.val)) % 512)) / 1024 % 256 = t.val; omega
    | ⟨2, _⟩ => show ((0 * 256 + (t.val * 512 + (128 * h.val + e.val)) / 512 % 256) * 1024 + ((t.val * 512 + (128 * h.val + e.val)) % 512)) / 512 % 2 = 0; omega
    | ⟨3, _⟩ => show ((0 * 256 + (t.val * 512 + (128 * h.val + e.val)) / 512 % 256) * 1024 + ((t.val * 512 + (128 * h.val + e.val)) % 512)) / 128 % 4 = h.val; omega
    | ⟨4, _⟩ => show ((0 * 256 + (t.val * 512 + (128 * h.val + e.val)) / 512 % 256) * 1024 + ((t.val * 512 + (128 * h.val + e.val)) % 512)) % 128 = e.val; omega
  rw [val_main_v79_apply, val_main_v78_apply, val_main_v75_apply, val_main_v73_apply, hi, v70_zero, v72_zero x0 x1 x2 H]
  exact zero_add _

/-- The third result: the gradient of the values. -/
theorem v81 (h : Fin 4) (t : Fin 256) (e : Fin 128) :
    val_main_v81 (F := Ideal) x0 x1 x2 (ix2 t ⟨128 * h.val + e.val, by omega⟩) = dv x0 x1 x2 h t e := by
  have hi : idx_main_v75 (idx_main_v80 (idx_main_v81 (ix2 t ⟨128 * h.val + e.val, by omega⟩))) = ix5 (0 : Fin 1) t (1 : Fin 2) h e := by
    funext a
    apply Fin.ext
    match a with
    | ⟨0, _⟩ => rfl
    | ⟨1, _⟩ => show ((0 * 256 + (t.val * 512 + (128 * h.val + e.val)) / 512 % 256) * 1024 + (512 + (t.val * 512 + (128 * h.val + e.val)) % 512)) / 1024 % 256 = t.val; omega
    | ⟨2, _⟩ => show ((0 * 256 + (t.val * 512 + (128 * h.val + e.val)) / 512 % 256) * 1024 + (512 + (t.val * 512 + (128 * h.val + e.val)) % 512)) / 512 % 2 = 1; omega
    | ⟨3, _⟩ => show ((0 * 256 + (t.val * 512 + (128 * h.val + e.val)) / 512 % 256) * 1024 + (512 + (t.val * 512 + (128 * h.val + e.val)) % 512)) / 128 % 4 = h.val; omega
    | ⟨4, _⟩ => show ((0 * 256 + (t.val * 512 + (128 * h.val + e.val)) / 512 % 256) * 1024 + (512 + (t.val * 512 + (128 * h.val + e.val)) % 512)) % 128 = e.val; omega
  rw [val_main_v81_apply, val_main_v80_apply, val_main_v75_apply, val_main_v73_apply, hi, v70_one, v72_one]
  exact add_zero _

/-- The first result as an array. -/
theorem v77_eq (H : RealScores x0 x1) : val_main_v77 (F := Ideal) x0 x1 x2 = dqArr x0 x1 x2 := funext fun i => by
  conv_lhs => rw [eq_lane i]
  exact v77 x0 x1 x2 H _ _ _

/-- The second result as an array. -/
theorem v79_eq (H : RealScores x0 x1) : val_main_v79 (F := Ideal) x0 x1 x2 = dkArr x0 x1 x2 := funext fun i => by
  conv_lhs => rw [eq_lane i]
  exact v79 x0 x1 x2 H _ _ _

/-- The third result as an array. -/
theorem v81_eq : val_main_v81 (F := Ideal) x0 x1 x2 = dvArr x0 x1 x2 := funext fun i => by
  conv_lhs => rw [eq_lane i]
  exact v81 x0 x1 x2 _ _ _

end Cert.Mem.Ref

end
-- ==== Proof.MemEq.lean ====
/- Kernel and reference compute the same three gradients, and the reference's frame. -/
module

public import proofs.«01_k».proof.Defs
public import proofs.«01_k».proof.Proof.MemKernel
public import proofs.«01_k».proof.Proof.MemRef
public import proofs.«01_k».proof.Proof.Gen.ReferenceIdeal.Run

@[expose] public section

set_option maxRecDepth 16384

noncomputable section

namespace Cert.Mem

open Idealize.ShloMosaic Idealize.SL.Sem

/-- The shape relations the precondition's operations take. -/
instance preFacts : Cert.Pre_real_scores.Facts where
  slices_S2048x5120_S2048x512_0_4608 := by decide
  bcast_S_S2048x512 := by decide
  slices_S256x1024_S256x512_0_0 := by decide
  bcast_S_S256x512 := by decide

/-- A number whose absolute value is below infinity is real. -/
theorem real_of_lt (x : EReal) (h : Ideal.cmp .olt (max x (-x)) (Ideal.ofBits .f32 0x7F800000#32) = 1#1) : ∃ a : ℝ, x = a := by
  rw [posInf] at h
  have h2 : max x (-x) < ⊤ := by
    by_contra hn
    have : Ideal.cmp .olt (max x (-x)) ⊤ = 0#1 := by simp [Ideal.cmp, hn]
    rw [this] at h
    exact absurd h (by decide)
  induction x using EReal.rec with
  | bot => simp at h2
  | coe a => exact ⟨a, rfl⟩
  | top => simp at h2

/-- The precondition says that the queries and the keys are real. -/
theorem real_of_pre (x0 : Proj) (x1 : Kv) (x2 : Cot)
    (h : (Cert.Pre_real_scores.fn (F := Ideal) x0 x1 x2).1 = (fun _ => 1#1) ∧ (Cert.Pre_real_scores.fn (F := Ideal) x0 x1 x2).2 = (fun _ => 1#1)) :
    RealScores x0 x1 := by
  refine ⟨fun hh r e => real_of_lt _ ?_, fun hh t e => real_of_lt _ ?_⟩
  · refine Eq.trans ?_ (congrFun h.1 (ix2 r ⟨128 * hh.val + e.val, by omega⟩))
    unfold qAt Cert.Pre_real_scores.fn
    dsimp only
    pointwise
    rw [Ideal.absf_def]
    simp only [Nat.add_assoc]
  · refine Eq.trans ?_ (congrFun h.2 (ix2 t ⟨128 * hh.val + e.val, by omega⟩))
    unfold kAt Cert.Pre_real_scores.fn
    dsimp only
    pointwise
    rw [Ideal.absf_def]

/-- The reference runs, its arguments end unchanged, and no signal is left. -/
theorem refFrame : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- On finite queries and keys, kernel and reference end with the same three arrays. -/
theorem algebraic : Cert.algebraic_KernelIdeal_ReferenceIdeal_pre_real_scores := by
  intro m g m' g' hpre hargs
  refine ⟨fun c => dqArr (Kern.A0 m c) (Kern.A1 m c) (Kern.A2 m c), fun c => dkArr (Kern.A0 m c) (Kern.A1 m c) (Kern.A2 m c),
    fun c => dvArr (Kern.A0 m c) (Kern.A1 m c) (Kern.A2 m c), Kern.run m g, ?_⟩
  refine (θ_run Cert.ReferenceIdeal.defs _ _).mono (fun r h c => ?_) (Cert.ReferenceIdeal.Value.run (F := Ideal) m' g')
  have H : RealScores (Kern.A0 m c) (Kern.A1 m c) := real_of_pre _ _ (Kern.A2 m c) (hpre c)
  obtain ⟨e0, e1, e2⟩ := hargs c
  refine ⟨(h c).1.trans ?_, (h c).2.1.trans ?_, (h c).2.2.1.trans ?_, (h c).2.2.2⟩
  · rw [Cert.ReferenceIdeal.Read.val_main_v77_eq, e0, e1, e2]; exact Ref.v77_eq _ _ _ H
  · rw [Cert.ReferenceIdeal.Read.val_main_v79_eq, e0, e1, e2]; exact Ref.v79_eq _ _ _ H
  · rw [Cert.ReferenceIdeal.Read.val_main_v81_eq, e0, e1, e2]; exact Ref.v81_eq _ _ _

end Cert.Mem

end
-- ==== Proof.Prod.lean ====
/- Arrays given entry by entry, and sums taken part by part: what the proofs of the products share. -/
module

public import Idealize.ShloMosaic.Lib.Pointwise

@[expose] public section

noncomputable section

namespace Cert.Prod

open Idealize.ShloMosaic

/-- An array of one axis. -/
abbrev Arr1 (a : ℕ) := (⟨1, ![a]⟩ : Shape).Idx → EReal
/-- An array of two axes. -/
abbrev Arr2 (a b : ℕ) := (⟨2, ![a, b]⟩ : Shape).Idx → EReal
/-- An array of three axes. -/
abbrev Arr3 (a b c : ℕ) := (⟨3, ![a, b, c]⟩ : Shape).Idx → EReal

/-- The array of two axes with these entries. -/
def arr2 {a b : ℕ} (f : Fin a → Fin b → EReal) : Arr2 a b := fun i => f (i 0) (i 1)
/-- The array of three axes with these entries. -/
def arr3 {a b c : ℕ} (f : Fin a → Fin b → Fin c → EReal) : Arr3 a b c := fun i => f (i 0) (i 1) (i 2)

/-- An array whose entries are these is that array. -/
theorem eq_arr2 {a b : ℕ} (x : Arr2 a b) (f : Fin a → Fin b → EReal) (h : ∀ r t, x (ix2 r t) = f r t) : x = arr2 f :=
  funext fun i => by
    conv_lhs => rw [eq_ix2 i]
    exact h _ _
/-- An array whose entries are these is that array. -/
theorem eq_arr3 {a b c : ℕ} (x : Arr3 a b c) (f : Fin a → Fin b → Fin c → EReal) (h : ∀ r t u, x (ix3 r t u) = f r t u) : x = arr3 f :=
  funext fun i => by
    conv_lhs => rw [eq_ix3 i]
    exact h _ _ _

/-- An entry is the array's value at an index of these coordinates. -/
theorem entry_arr2 {a b : ℕ} (f : Fin a → Fin b → EReal) (i : (⟨2, ![a, b]⟩ : Shape).Idx) (r : Fin a) (t : Fin b)
    (h0 : r.val = (i 0).val) (h1 : t.val = (i 1).val) : f r t = arr2 f i := by
  obtain rfl : r = i 0 := Fin.ext h0
  obtain rfl : t = i 1 := Fin.ext h1
  rfl
/-- An entry is the array's value at an index of these coordinates. -/
theorem entry_arr3 {a b c : ℕ} (f : Fin a → Fin b → Fin c → EReal) (i : (⟨3, ![a, b, c]⟩ : Shape).Idx) (r : Fin a) (t : Fin b) (u : Fin c)
    (h0 : r.val = (i 0).val) (h1 : t.val = (i 1).val) (h2 : u.val = (i 2).val) : f r t u = arr3 f i := by
  obtain rfl : r = i 0 := Fin.ext h0
  obtain rfl : t = i 1 := Fin.ext h1
  obtain rfl : u = i 2 := Fin.ext h2
  rfl

/-- The terms of a sum, counted by natural numbers, zero past the end. -/
def ext {K : ℕ} (f : Fin K → EReal) (k : ℕ) : EReal := if h : k < K then f ⟨k, h⟩ else 0
/-- The sum of all terms. -/
theorem sum_ext {K : ℕ} (f : Fin K → EReal) : ∑ k ∈ Finset.range K, ext f k = ∑ k, f k := by
  rw [Finset.sum_range]
  refine Finset.sum_congr rfl fun k _ => ?_
  unfold ext
  rw [dif_pos k.isLt]
/-- The sum of the terms from one place on. -/
theorem part_range {K n : ℕ} (f : Fin K → EReal) (g : Fin n → Fin K) (b : ℕ) (hg : ∀ k, (g k).val = b + k.val) :
    ∑ k, f (g k) = ∑ k ∈ Finset.range n, ext f (b + k) := by
  rw [Finset.sum_range]
  refine Finset.sum_congr rfl fun k _ => ?_
  unfold ext
  have h : b + k.val < K := by rw [← hg]; exact (g k).isLt
  rw [dif_pos h]
  congr 1
  exact Fin.ext (hg k)
/-- The sum of the terms of two halves, one after the other. -/
theorem sum_halves {n : ℕ} (f : Fin (n + n) → EReal) :
    ∑ k, f k = ∑ k : Fin n, f ⟨k.val, by omega⟩ + ∑ k : Fin n, f ⟨n + k.val, by omega⟩ := by
  rw [Fin.sum_univ_add]
  rfl

/-- Offsets written as two zeros are the zero offsets. -/
theorem offsets2 : (![0, 0] : Fin 2 → Nat) = fun _ => 0 := funext fun a => by fin_cases a <;> rfl
/-- Offsets written as three zeros are the zero offsets. -/
theorem offsets3 : (![0, 0, 0] : Fin 3 → Nat) = fun _ => 0 := funext fun a => by fin_cases a <;> rfl

end Cert.Prod

end
-- ==== Proof.DAct.lean ====
/- The cotangent of the feed-forward activations: the kernel's tiles of the product make the reference's product. -/
module

public import proofs.«01_k».proof.Defs
public import proofs.«01_k».proof.Proof.Prod
public import proofs.«01_k».proof.Proof.Gen.Kernel2Ideal.Value
public import proofs.«01_k».proof.Proof.Gen.Reference2Ideal.Read

@[expose] public section

set_option maxRecDepth 16384

noncomputable section

namespace Cert.DAct

open Idealize.ShloMosaic Idealize.ShloMosaic.TcCoe Idealize.SL.Sem Cert.Prod

/-- One entry: a row of the first argument times a row of the second. -/
def entry (x0 : Arr2 2048 2048) (x1 : Arr3 1 5632 2048) (r : Fin 2048) (f : Fin 5632) : EReal :=
  ∑ k : Fin 2048, x0 (ix2 r k) * x1 (ix3 0 f k)

section Kern
open Cert.Kernel2Ideal Cert.Kernel2Ideal.Gen Cert.Kernel2Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr3 1 5632 2048 := m ((c.tc : Thread nD τ).loc main_arg1)

theorem index0 : ∀ t : Fin cfg0.N, win0_0.index t 0 = t.val / 4 ∧ win0_0.index t 1 = 0 :=
  (by decide +kernel : ∀ t : Fin grid0.N, _)
theorem index1 : ∀ t : Fin cfg0.N, win0_1.index t 0 = 0 ∧ win0_1.index t 1 = t.val % 4 ∧ win0_1.index t 2 = 0 :=
  (by decide +kernel : ∀ t : Fin grid0.N, _)
theorem index2 : ∀ t : Fin cfg0.N, win0_2.index t 0 = t.val / 4 ∧ win0_2.index t 1 = t.val % 4 :=
  (by decide +kernel : ∀ t : Fin grid0.N, _)

/-- The row of the whole result that a row of a grid point's tile is. -/
def row (t : Fin cfg0.N) (r : Fin 1024) : Fin 2048 := ⟨t.val / 4 * 1024 + r.val, by have : t.val < 8 := t.isLt; omega⟩
/-- The column of the whole result that a column of a grid point's tile is. -/
def col (t : Fin cfg0.N) (f : Fin 1408) : Fin 5632 := ⟨t.val % 4 * 1408 + f.val, by have : t.val < 8 := t.isLt; omega⟩

/-- A grid point's block of the first argument. -/
theorem blk0 (t : Fin cfg0.N) (r : Fin 1024) (k : Fin 2048) : (iblk m c 0 t : Vec Ideal S1024x2048 .bf16) (ix2 r k) = A0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 4 * 1024 + r.val; rw [(index0 t).1]; omega
  | ⟨1, _⟩ => show win0_0.index t 1 * 2048 + 1 * k.val = k.val; rw [(index0 t).2]; omega

/-- A grid point's block of the second argument. -/
theorem blk1 (t : Fin cfg0.N) (z : Fin 1) (f : Fin 1408) (k : Fin 2048) : (iblk m c 1 t : Vec Ideal S1x1408x2048 .bf16) (ix3 z f k) = A1 m c (ix3 0 (col t f) k) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = 0; rw [(index1 t).1]; omega
  | ⟨1, _⟩ => show win0_1.index t 1 * 1408 + 1 * f.val = t.val % 4 * 1408 + f.val; rw [(index1 t).2.1]; omega
  | ⟨2, _⟩ => show win0_1.index t 2 * 2048 + 1 * k.val = k.val; rw [(index1 t).2.2]; omega

/-- What a grid point leaves in its tile. -/
theorem tile (t : Fin cfg0.N) (r : Fin 1024) (f : Fin 1408) :
    out0_2 (F := Ideal) (iblk m c 0 t) (iblk m c 1 t) (ix2 r f) = entry (A0 m c) (A1 m c) (row t r) (col t f) := by
  unfold out0_2
  rw [View.canon_unit_zero offsets2]
  simp only [View.ld_unit_zero (S := S1024x2048) offsets2, View.ld_unit_zero (S := S1x1408x2048) offsets3]
  unfold k0_pay1 entry
  pointwise
  simp only [blk0, blk1]

/-- The result is the product. -/
theorem final : (dats m 0 c).arrAt 2 cfg0.N = arr2 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr2 (entry (A0 m c) (A1 m c)) _
    have key : ∀ j : S1024x1408.Idx, out0_2 (F := Ideal) (iblk m c 0 t) (iblk m c 1 t) j = entry (A0 m c) (A1 m c) (row t (j 0)) (col t (j 1)) := fun j => by
      conv_lhs => rw [eq_ix2 j]
      exact tile m c t _ _
    refine (key j).trans (entry_arr2 _ _ _ _ ?_ ?_)
    · show t.val / 4 * 1024 + (j 0).val = win0_2.index t 0 * 1024 + 1 * (j 0).val
      rw [(index2 t).1]; omega
    · show t.val % 4 * 1408 + (j 1).val = win0_2.index t 1 * 1408 + 1 * (j 1).val
      rw [(index2 t).2]; omega
  · have h0 : (i 0 : Nat) < 2048 := (i 0).isLt
    have h1 : (i 1 : Nat) < 5632 := (i 1).isLt
    have hlt : 4 * ((i 0 : Nat) / 1024) + (i 1 : Nat) / 1408 < cfg0.N := by show _ < 8; omega
    refine ⟨⟨4 * ((i 0 : Nat) / 1024) + (i 1 : Nat) / 1408, hlt⟩, flush0_2 _, ?_⟩
    generalize ht : (⟨4 * ((i 0 : Nat) / 1024) + (i 1 : Nat) / 1408, hlt⟩ : Fin cfg0.N) = t
    have hv : t.val = 4 * ((i 0 : Nat) / 1024) + (i 1 : Nat) / 1408 := by rw [← ht]
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1]; omega
    | ⟨1, _⟩ => show win0_2.index t 1 * 1408 ≤ (i 1 : Nat) ∧ (i 1 : Nat) < win0_2.index t 1 * 1408 + 1408
                rw [(index2 t).2]; omega

end Kern

section Ref
open Cert.Reference2Ideal Cert.Reference2Ideal.Gen Cert.Reference2Ideal.Read

/-- The reference's result is the product. -/
theorem ref (x0 : Arr2 2048 2048) (x1 : Arr3 1 5632 2048) : val_main_v8 (F := Ideal) x0 x1 = arr2 (entry x0 x1) :=
  eq_arr2 _ _ fun r f => by
    unfold val_main_v8 val_main_v7 val_main_v6 val_main_v5 val_main_v2 val_main_v1 val_main_v0 entry
    pointwise

/-- The reference runs, its arguments end unchanged, and no signal is left. -/
theorem refFrame : Cert.quiescent_Reference2Ideal := fun m ρ _ =>
  (θ_run defs _ _).mono (fun r h => ⟨fun c => (h c).2, Idealize.ShloMosaic.sem_eq_zero_of_no_sems (by decide) r.2⟩)
    (Cert.Reference2Ideal.Value.run (F := Ideal) m ρ)

end Ref

/-- Kernel and reference end with the same array, whatever the arguments hold. -/
theorem algebraic : Cert.algebraic_Kernel2Ideal_Reference2Ideal := by
  intro m g m' g' _ hargs
  refine ⟨fun c => arr2 (entry (A0 m c) (A1 m c)), ?_, ?_⟩
  · exact (θ_run Cert.Kernel2Ideal.defs _ _).mono (fun r h c => ⟨(h c).1.trans (final m c), (h c).2⟩) (Cert.Kernel2Ideal.Value.run_blocks m g)
  · refine (θ_run Cert.Reference2Ideal.defs _ _).mono (fun r h c => ⟨(h c).1.trans ?_, (h c).2⟩) (Cert.Reference2Ideal.Value.run (F := Ideal) m' g')
    obtain ⟨e0, e1⟩ := hargs c
    rw [Cert.Reference2Ideal.Read.val_main_v8_eq, e0, e1]; exact ref _ _

end Cert.DAct

end
-- ==== Proof.DWdown.lean ====
/- The gradient of the down-projection: the kernel's tiles of the product make the reference's product. -/
module

public import proofs.«01_k».proof.Defs
public import proofs.«01_k».proof.Proof.Prod
public import proofs.«01_k».proof.Proof.Gen.Kernel3Ideal.Value
public import proofs.«01_k».proof.Proof.Gen.Reference3Ideal.Read

@[expose] public section

set_option maxRecDepth 16384

noncomputable section

namespace Cert.DWdown

open Idealize.ShloMosaic Idealize.ShloMosaic.TcCoe Idealize.SL.Sem Cert.Prod

/-- One entry: a column of the first argument times a column of the second. -/
def entry (x0 : Arr2 2048 5632) (x1 : Arr2 2048 2048) (f : Fin 5632) (d : Fin 2048) : EReal :=
  ∑ k : Fin 2048, x0 (ix2 k f) * x1 (ix2 k d)

section Kern
open Cert.Kernel3Ideal Cert.Kernel3Ideal.Gen Cert.Kernel3Ideal.Value Idealize.ShloMosaic.Pipeline

variable (m : (ℓ : Loc nD τ sig) → Buf (Elt Ideal) ℓ) (c : Dev nD)

/-- The first argument on a device. -/
abbrev A0 : Arr2 2048 5632 := m ((c.tc : Thread nD τ).loc main_arg0)
/-- The second argument on a device. -/
abbrev A1 : Arr2 2048 2048 := m ((c.tc : Thread nD τ).loc main_arg1)

theorem index0 : ∀ t : Fin cfg0.N, win0_0.index t 0 = 0 ∧ win0_0.index t 1 = t.val / 2 :=
  (by decide +kernel : ∀ t : Fin grid0.N, _)
theorem index1 : ∀ t : Fin cfg0.N, win0_1.index t 0 = 0 ∧ win0_1.index t 1 = t.val % 2 :=
  (by decide +kernel : ∀ t : Fin grid0.N, _)
theorem index2 : ∀ t : Fin cfg0.N, win0_2.index t 0 = 0 ∧ win0_2.index t 1 = t.val / 2 ∧ win0_2.index t 2 = t.val % 2 % 2 :=
  (by decide +kernel : ∀ t : Fin grid0.N, _)

/-- The row of the whole result that a row of a grid point's tile is. -/
def row (t : Fin cfg0.N) (f : Fin 512) : Fin 5632 := ⟨t.val / 2 * 512 + f.val, by have : t.val < 22 := t.isLt; omega⟩
/-- The column of the whole result that a column of a grid point's tile is. -/
def col (t : Fin cfg0.N) (d : Fin 1024) : Fin 2048 := ⟨t.val % 2 % 2 * 1024 + d.val, by have : t.val < 22 := t.isLt; omega⟩

/-- A grid point's block of the first argument. -/
theorem blk0 (t : Fin cfg0.N) (k : Fin 2048) (f : Fin 512) : (iblk m c 0 t : Vec Ideal S2048x512 .bf16) (ix2 k f) = A0 m c (ix2 k (row t f)) := by
  unfold iblk
  rw [View.read_apply]
  show V m c main_arg0 _ = m (c.tc.loc main_arg0) _
  unfold V
  congr 1
  funext a
  apply Fin.ext
  match a with
  | ⟨0, _⟩ => show win0_0.index t 0 * 2048 + 1 * k.val = k.val; rw [(index0 t).1]; omega
  | ⟨1, _⟩ => show win0_0.index t 1 * 512 + 1 * f.val = t.val / 2 * 512 + f.val; rw [(index0 t).2]; omega

/-- A grid point's block of the second argument. -/
theorem blk1 (t : Fin cfg0.N) (k : Fin 2048) (d : Fin 1024) : (iblk m c 1 t : Vec Ideal S2048x1024 .bf16) (ix2 k d) = A1 m c (ix2 k (col t d)) := by
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [(index1 t).1]; omega
  | ⟨1, _⟩ => show win0_1.index t 1 * 1024 + 1 * d.val = t.val % 2 % 2 * 1024 + d.val; rw [(index1 t).2]; omega

/-- What a grid point leaves in its tile. -/
theorem tile (t : Fin cfg0.N) (z : Fin 1) (f : Fin 512) (d : Fin 1024) :
    out0_2 (F := Ideal) (iblk m c 0 t) (iblk m c 1 t) (ix3 z f d) = entry (A0 m c) (A1 m c) (row t f) (col t d) := by
  unfold out0_2
  rw [View.canon_unit_zero offsets3]
  simp only [View.ld_unit_zero (S := S2048x1024) offsets2, View.ld_unit_zero (S := S2048x512) offsets2]
  unfold k0_pay1 entry
  pointwise
  simp only [blk0, blk1]

/-- The result is the product. -/
theorem final : (dats m 0 c).arrAt 2 cfg0.N = arr3 (fun _ => entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr3 (fun _ => entry (A0 m c) (A1 m c)) _
    have key : ∀ j : S1x512x1024.Idx, out0_2 (F := Ideal) (iblk m c 0 t) (iblk m c 1 t) j = entry (A0 m c) (A1 m c) (row t (j 1)) (col t (j 2)) := fun j => by
      conv_lhs => rw [eq_ix3 j]
      exact tile m c t _ _ _
    refine (key j).trans (entry_arr3 (fun _ => entry (A0 m c) (A1 m c)) _ 0 _ _ ?_ ?_ ?_)
    · have hz : (j 0).val < 1 := (j 0).isLt
      show 0 = win0_2.index t 0 * 1 + 1 * (j 0).val
      rw [(index2 t).1]; omega
    · show t.val / 2 * 512 + (j 1).val = win0_2.index t 1 * 512 + 1 * (j 1).val
      rw [(index2 t).2.1]; omega
    · show t.val % 2 % 2 * 1024 + (j 2).val = win0_2.index t 2 * 1024 + 1 * (j 2).val
      rw [(index2 t).2.2]; omega
  · have h0 : (i 0 : Nat) < 1 := (i 0).isLt
    have h1 : (i 1 : Nat) < 5632 := (i 1).isLt
    have h2 : (i 2 : Nat) < 2048 := (i 2).isLt
    have hlt : 2 * ((i 1 : Nat) / 512) + (i 2 : Nat) / 1024 < cfg0.N := by show _ < 22; omega
    refine ⟨⟨2 * ((i 1 : Nat) / 512) + (i 2 : Nat) / 1024, hlt⟩, flush0_2 _, ?_⟩
    generalize ht : (⟨2 * ((i 1 : Nat) / 512) + (i 2 : Nat) / 1024, hlt⟩ : Fin cfg0.N) = t
    have hv : t.val = 2 * ((i 1 : Nat) / 512) + (i 2 : Nat) / 1024 := by rw [← ht]
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(index2 t).1]; omega
    | ⟨1, _⟩ => show win0_2.index t 1 * 512 ≤ (i 1 : Nat) ∧ (i 1 : Nat) < win0_2.index t 1 * 512 + 512
                rw [(index2 t).2.1]; omega
    | ⟨2, _⟩ => show win0_2.index t 2 * 1024 ≤ (i 2 : Nat) ∧ (i 2 : Nat) < win0_2.index t 2 * 1024 + 1024
                rw [(index2 t).2.2]; omega

end Kern

section Ref
open Cert.Reference3Ideal Cert.Reference3Ideal.Gen Cert.Reference3Ideal.Read

/-- The reference's result is the product. -/
theorem ref (x0 : Arr2 2048 5632) (x1 : Arr2 2048 2048) : val_main_v10 (F := Ideal) x0 x1 = arr3 (fun _ => entry x0 x1) :=
  eq_arr3 _ _ fun z f d => by
    obtain rfl : z = 0 := Subsingleton.elim _ _
    unfold val_main_v10 val_main_v9 val_main_v8 val_main_v7 val_main_v6 val_main_v5 val_main_v4 val_main_v2 val_main_v1 entry
    pointwise
    rw [Fin.sum_univ_one]
    exact Finset.sum_congr rfl fun k _ => mul_comm _ _

/-- The reference runs, its arguments end unchanged, and no signal is left. -/
theorem refFrame : Cert.quiescent_Reference3Ideal := fun m ρ _ =>
  (θ_run defs _ _).mono (fun r h => ⟨fun c => (h c).2, Idealize.ShloMosaic.sem_eq_zero_of_no_sems (by decide) r.2⟩)
    (Cert.Reference3Ideal.Value.run (F := Ideal) m ρ)

end Ref

/-- Kernel and reference end with the same array, whatever the arguments hold. -/
theorem algebraic : Cert.algebraic_Kernel3Ideal_Reference3Ideal := by
  intro m g m' g' _ hargs
  refine ⟨fun c => arr3 (fun _ => entry (A0 m c) (A1 m c)), ?_, ?_⟩
  · exact (θ_run Cert.Kernel3Ideal.defs _ _).mono (fun r h c => ⟨(h c).1.trans (final m c), (h c).2⟩) (Cert.Kernel3Ideal.Value.run_blocks m g)
  · refine (θ_run Cert.Reference3Ideal.defs _ _).mono (fun r h c => ⟨(h c).1.trans ?_, (h c).2⟩) (Cert.Reference3Ideal.Value.run (F := Ideal) m' g')
    obtain ⟨e0, e1⟩ := hargs c
    rw [Cert.Reference3Ideal.Read.val_main_v10_eq, e0, e1]; exact ref _ _

end Cert.DWdown

end
-- ==== Proof.DWup.lean ====
/- The gradient of the up-projection: the kernel's tiles of the product make the reference's product. -/
module

public import proofs.«01_k».proof.Defs
public import proofs.«01_k».proof.Proof.Prod
public import proofs.«01_k».proof.Proof.Gen.Kernel4Ideal.Value
public import proofs.«01_k».proof.Proof.Gen.Reference4Ideal.Read

@[expose] public section

set_option maxRecDepth 16384

noncomputable section

namespace Cert.DWup

open Idealize.ShloMosaic Idealize.ShloMosaic.TcCoe Idealize.SL.Sem Cert.Prod

/-- One entry: a column of the first argument times a column of the other two, side by side. -/
def entry (x0 : Arr2 2048 2048) (x1 : Arr2 2048 5632) (x2 : Arr2 2048 5632) (s : Fin 4) (f : Fin 2048) (d : Fin 2816) : EReal :=
  ∑ k : Fin 2048, x0 (ix2 k f) * (if h : s.val * 2816 + d.val < 5632 then x1 (ix2 k ⟨s.val * 2816 + d.val, h⟩) else x2 (ix2 k ⟨s.val * 2816 + d.val - 5632, by omega⟩))

section Kern
open Cert.Kernel4Ideal Cert.Kernel4Ideal.Gen Cert.Kernel4Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr2 2048 5632 := m ((c.tc : Thread nD τ).loc main_arg1)
/-- The third argument on a device. -/
abbrev A2 : Arr2 2048 5632 := m ((c.tc : Thread nD τ).loc main_arg2)

theorem index0 : ∀ t : Fin cfg0.N, win0_0.index t 0 = 0 ∧ win0_0.index t 1 = t.val / 8 :=
  (by decide +kernel : ∀ t : Fin grid0.N, _)
theorem index1 : ∀ t : Fin cfg0.N, win0_1.index t 0 = 0 ∧ win0_1.index t 1 = min (t.val % 8) 3 :=
  (by decide +kernel : ∀ t : Fin grid0.N, _)
theorem index2 : ∀ t : Fin cfg0.N, win0_2.index t 0 = 0 ∧ win0_2.index t 1 = (t.val % 8 - 4) :=
  (by decide +kernel : ∀ t : Fin grid0.N, _)
theorem index3 : ∀ t : Fin cfg0.N, win0_3.index t 0 = t.val % 8 / 2 ∧ win0_3.index t 1 = t.val / 8 ∧ win0_3.index t 2 = t.val % 8 % 2 :=
  (by decide +kernel : ∀ t : Fin grid0.N, _)

/-- The shard of the result that a grid point's tile is in. -/
def shard (t : Fin cfg0.N) : Fin 4 := ⟨t.val % 8 / 2, by have : t.val < 16 := t.isLt; omega⟩
/-- The row of the whole result that a row of a grid point's tile is. -/
def row (t : Fin cfg0.N) (f : Fin 1024) : Fin 2048 := ⟨t.val / 8 * 1024 + f.val, by have : t.val < 16 := t.isLt; omega⟩
/-- The column of the whole result that a column of a grid point's tile is. -/
def col (t : Fin cfg0.N) (d : Fin 1408) : Fin 2816 := ⟨t.val % 8 % 2 * 1408 + d.val, by have : t.val < 16 := t.isLt; omega⟩
/-- The column of the first half that a grid point reads. -/
def lo (t : Fin cfg0.N) (d : Fin 1408) : Fin 5632 := ⟨min (t.val % 8) 3 * 1408 + d.val, by have : t.val < 16 := t.isLt; omega⟩
/-- The column of the second half that a grid point reads. -/
def hi (t : Fin cfg0.N) (d : Fin 1408) : Fin 5632 := ⟨(t.val % 8 - 4) * 1408 + d.val, by have : t.val < 16 := t.isLt; omega⟩

/-- A grid point's block of the first argument. -/
theorem blk0 (t : Fin cfg0.N) (k : Fin 2048) (f : Fin 1024) : (iblk m c 0 t : Vec Ideal S2048x1024 .bf16) (ix2 k f) = A0 m c (ix2 k (row t f)) := by
  unfold iblk
  rw [View.read_apply]
  show V m c main_arg0 _ = m (c.tc.loc main_arg0) _
  unfold V
  congr 1
  funext a
  apply Fin.ext
  match a with
  | ⟨0, _⟩ => show win0_0.index t 0 * 2048 + 1 * k.val = k.val; rw [(index0 t).1]; omega
  | ⟨1, _⟩ => show win0_0.index t 1 * 1024 + 1 * f.val = t.val / 8 * 1024 + f.val; rw [(index0 t).2]; omega

/-- A grid point's block of the second argument. -/
theorem blk1 (t : Fin cfg0.N) (k : Fin 2048) (d : Fin 1408) : (iblk m c 1 t : Vec Ideal S2048x1408 .bf16) (ix2 k d) = A1 m c (ix2 k (lo t d)) := by
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [(index1 t).1]; omega
  | ⟨1, _⟩ => show win0_1.index t 1 * 1408 + 1 * d.val = min (t.val % 8) 3 * 1408 + d.val; rw [(index1 t).2]; omega

/-- A grid point's block of the third argument. -/
theorem blk2 (t : Fin cfg0.N) (k : Fin 2048) (d : Fin 1408) : (iblk m c 2 t : Vec Ideal S2048x1408 .bf16) (ix2 k d) = A2 m c (ix2 k (hi t d)) := by
  unfold iblk
  rw [View.read_apply]
  show V m c main_arg2 _ = m (c.tc.loc main_arg2) _
  unfold V
  congr 1
  funext a
  apply Fin.ext
  match a with
  | ⟨0, _⟩ => show win0_2.index t 0 * 2048 + 1 * k.val = k.val; rw [(index2 t).1]; omega
  | ⟨1, _⟩ => show win0_2.index t 1 * 1408 + 1 * d.val = (t.val % 8 - 4) * 1408 + d.val; rw [(index2 t).2]; omega

/-- The grid points of the first two shards read the first half, the others the second. -/
theorem side : ∀ t : Fin cfg0.N, Scalar.cmpi .slt (BitVec.ofNat 32 ((grid0.coords t) 1).val) 4#32 = if t.val % 8 < 4 then 1#1 else 0#1 :=
  (by decide +kernel : ∀ t : Fin grid0.N, _)

/-- What a grid point leaves in its tile. -/
theorem tile (t : Fin cfg0.N) (z : Fin 1) (f : Fin 1024) (d : Fin 1408) :
    out0_3 (F := Ideal) (grid0.coords t) (iblk m c 0 t) (iblk m c 1 t) (iblk m c 2 t) (ix3 z f d) = entry (A0 m c) (A1 m c) (A2 m c) (shard t) (row t f) (col t d) := by
  unfold out0_3
  rw [View.canon_unit_zero offsets3]
  simp only [View.ld_unit_zero (S := S2048x1024) offsets2, View.ld_unit_zero (S := S2048x1408) offsets2]
  unfold k0_pay1 entry
  pointwise
  refine Finset.sum_congr rfl fun k _ => ?_
  rw [blk0, blk1, blk2, side]
  congr 1
  have hd : d.val < 1408 := d.isLt
  by_cases h : t.val % 8 < 4
  · rw [if_pos h, dif_pos (show (shard t).val * 2816 + (col t d).val < 5632 by show t.val % 8 / 2 * 2816 + (t.val % 8 % 2 * 1408 + d.val) < 5632; omega)]
    refine congrArg (fun z => A1 m c (ix2 k z)) (Fin.ext ?_)
    show min (t.val % 8) 3 * 1408 + d.val = t.val % 8 / 2 * 2816 + (t.val % 8 % 2 * 1408 + d.val)
    omega
  · rw [if_neg h, dif_neg (show ¬(shard t).val * 2816 + (col t d).val < 5632 by show ¬t.val % 8 / 2 * 2816 + (t.val % 8 % 2 * 1408 + d.val) < 5632; omega)]
    refine congrArg (fun z => A2 m c (ix2 k z)) (Fin.ext ?_)
    show (t.val % 8 - 4) * 1408 + d.val = t.val % 8 / 2 * 2816 + (t.val % 8 % 2 * 1408 + d.val) - 5632
    omega

/-- The result is the product. -/
theorem final : (dats m 0 c).arrAt 3 cfg0.N = arr3 (entry (A0 m c) (A1 m c) (A2 m c)) := by
  refine (dats m 0 c).arrAt_eq_of_cover 3 _ (fun t _ => ?_) fun i => ?_
  · rw [flushed3]
    funext j
    rw [View.read_apply]
    show out0_3 (F := Ideal) (grid0.coords t) (iblk m c 0 t) (iblk m c 1 t) (iblk m c 2 t) j = arr3 (entry (A0 m c) (A1 m c) (A2 m c)) _
    have key : ∀ j : S1x1024x1408.Idx, out0_3 (F := Ideal) (grid0.coords t) (iblk m c 0 t) (iblk m c 1 t) (iblk m c 2 t) j = entry (A0 m c) (A1 m c) (A2 m c) (shard t) (row t (j 1)) (col t (j 2)) := fun j => by
      conv_lhs => rw [eq_ix3 j]
      exact tile m c t _ _ _
    refine (key j).trans (entry_arr3 _ _ _ _ _ ?_ ?_ ?_)
    · have hz : (j 0).val < 1 := (j 0).isLt
      show t.val % 8 / 2 = win0_3.index t 0 * 1 + 1 * (j 0).val
      rw [(index3 t).1]; omega
    · show t.val / 8 * 1024 + (j 1).val = win0_3.index t 1 * 1024 + 1 * (j 1).val
      rw [(index3 t).2.1]; omega
    · show t.val % 8 % 2 * 1408 + (j 2).val = win0_3.index t 2 * 1408 + 1 * (j 2).val
      rw [(index3 t).2.2]; omega
  · have h0 : (i 0 : Nat) < 4 := (i 0).isLt
    have h1 : (i 1 : Nat) < 2048 := (i 1).isLt
    have h2 : (i 2 : Nat) < 2816 := (i 2).isLt
    have hlt : 8 * ((i 1 : Nat) / 1024) + 2 * (i 0 : Nat) + (i 2 : Nat) / 1408 < cfg0.N := by show _ < 16; omega
    refine ⟨⟨8 * ((i 1 : Nat) / 1024) + 2 * (i 0 : Nat) + (i 2 : Nat) / 1408, hlt⟩, flush0_3 _, ?_⟩
    generalize ht : (⟨8 * ((i 1 : Nat) / 1024) + 2 * (i 0 : Nat) + (i 2 : Nat) / 1408, hlt⟩ : Fin cfg0.N) = t
    have hv : t.val = 8 * ((i 1 : Nat) / 1024) + 2 * (i 0 : Nat) + (i 2 : Nat) / 1408 := by rw [← ht]
    show i ∈ ((View.whole main_v0).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [(index3 t).1]; omega
    | ⟨1, _⟩ => show win0_3.index t 1 * 1024 ≤ (i 1 : Nat) ∧ (i 1 : Nat) < win0_3.index t 1 * 1024 + 1024
                rw [(index3 t).2.1]; omega
    | ⟨2, _⟩ => show win0_3.index t 2 * 1408 ≤ (i 2 : Nat) ∧ (i 2 : Nat) < win0_3.index t 2 * 1408 + 1408
                rw [(index3 t).2.2]; omega

end Kern

section Ref
open Cert.Reference4Ideal Cert.Reference4Ideal.Gen Cert.Reference4Ideal.Read

/-- The reference's result is the product. -/
theorem ref (x0 : Arr2 2048 2048) (x1 : Arr2 2048 5632) (x2 : Arr2 2048 5632) : val_main_v11 (F := Ideal) x0 x1 x2 = arr3 (entry x0 x1 x2) :=
  eq_arr3 _ _ fun s f d => by
    unfold val_main_v11 val_main_v10 val_main_v9 val_main_v8 val_main_v7 val_main_v6 val_main_v5 val_main_v3 val_main_v2 val_main_v0 entry
    pointwise
    rw [Fin.sum_univ_one]
    exact Finset.sum_congr rfl fun k _ => mul_comm _ _

/-- The reference runs, its arguments end unchanged, and no signal is left. -/
theorem refFrame : Cert.quiescent_Reference4Ideal := fun m ρ _ =>
  (θ_run defs _ _).mono (fun r h => ⟨fun c => (h c).2, Idealize.ShloMosaic.sem_eq_zero_of_no_sems (by decide) r.2⟩)
    (Cert.Reference4Ideal.Value.run (F := Ideal) m ρ)

end Ref

/-- Kernel and reference end with the same array, whatever the arguments hold. -/
theorem algebraic : Cert.algebraic_Kernel4Ideal_Reference4Ideal := by
  intro m g m' g' _ hargs
  refine ⟨fun c => arr3 (entry (A0 m c) (A1 m c) (A2 m c)), ?_, ?_⟩
  · exact (θ_run Cert.Kernel4Ideal.defs _ _).mono (fun r h c => ⟨(h c).1.trans (final m c), (h c).2⟩) (Cert.Kernel4Ideal.Value.run_blocks m g)
  · refine (θ_run Cert.Reference4Ideal.defs _ _).mono (fun r h c => ⟨(h c).1.trans ?_, (h c).2⟩) (Cert.Reference4Ideal.Value.run (F := Ideal) m' g')
    obtain ⟨e0, e1, e2⟩ := hargs c
    rw [Cert.Reference4Ideal.Read.val_main_v11_eq, e0, e1, e2]; exact ref _ _ _

end Cert.DWup

end
-- ==== Proof.DH2.lean ====
/- The cotangent of the normed input of the feed-forward layer: the kernel's tiles of the product make the reference's product. -/
module

public import proofs.«01_k».proof.Defs
public import proofs.«01_k».proof.Proof.Prod
public import proofs.«01_k».proof.Proof.Gen.Kernel5Ideal.Value
public import proofs.«01_k».proof.Proof.Gen.Reference5Ideal.Read

@[expose] public section

set_option maxRecDepth 16384

noncomputable section

namespace Cert.DH2

open Idealize.ShloMosaic Idealize.ShloMosaic.TcCoe Idealize.SL.Sem Cert.Prod

/-- One term of an entry. -/
def term (x0 : Arr2 2048 5632) (x1 : Arr2 2048 5632) (x2 : Arr3 4 2048 2816) (r : Fin 2048) (f : Fin 2048) (k : Fin 11264) : EReal := (if h : k.val < 5632 then x0 (ix2 r ⟨k.val, h⟩) else x1 (ix2 r ⟨k.val - 5632, by omega⟩)) * x2 (ix3 ⟨k.val / 2816, by omega⟩ f ⟨k.val % 2816, by omega⟩)

/-- One entry: a row of the first two arguments, side by side, times a row of the third. -/
def entry (x0 : Arr2 2048 5632) (x1 : Arr2 2048 5632) (x2 : Arr3 4 2048 2816) (r : Fin 2048) (f : Fin 2048) : EReal :=
  ∑ k : Fin 11264, term x0 x1 x2 r f k

section Kern
open Cert.Kernel5Ideal Cert.Kernel5Ideal.Gen Cert.Kernel5Ideal.Value Idealize.ShloMosaic.Pipeline

variable (m : (ℓ : Loc nD τ sig) → Buf (Elt Ideal) ℓ) (c : Dev nD)

/-- The first argument on a device. -/
abbrev A0 : Arr2 2048 5632 := m ((c.tc : Thread nD τ).loc main_arg0)
/-- The second argument on a device. -/
abbrev A1 : Arr2 2048 5632 := m ((c.tc : Thread nD τ).loc main_arg1)
/-- The third argument on a device. -/
abbrev A2 : Arr3 4 2048 2816 := m ((c.tc : Thread nD τ).loc main_arg2)

theorem index0 : ∀ t : Fin cfg0.N, win0_0.index t 0 = t.val / 8 ∧ win0_0.index t 1 = min (t.val % 4) 1 :=
  (by decide +kernel : ∀ t : Fin grid0.N, _)
theorem index1 : ∀ t : Fin cfg0.N, win0_1.index t 0 = t.val / 8 ∧ win0_1.index t 1 = (t.val % 4 - 2) :=
  (by decide +kernel : ∀ t : Fin grid0.N, _)
theorem index2 : ∀ t : Fin cfg0.N, win0_2.index t 0 = t.val % 4 ∧ win0_2.index t 1 = t.val / 4 % 2 ∧ win0_2.index t 2 = 0 :=
  (by decide +kernel : ∀ t : Fin grid0.N, _)
theorem index3 : ∀ t : Fin cfg0.N, win0_3.index t 0 = t.val / 8 ∧ win0_3.index t 1 = t.val / 4 % 2 :=
  (by decide +kernel : ∀ t : Fin grid0.N, _)

/-- The row of the whole result that a row of a grid point's tile is. -/
def row (t : Fin cfg0.N) (r : Fin 1024) : Fin 2048 := ⟨t.val / 8 * 1024 + r.val, by have : t.val < 16 := t.isLt; omega⟩
/-- The column of the whole result that a column of a grid point's tile is. -/
def col (t : Fin cfg0.N) (f : Fin 1024) : Fin 2048 := ⟨t.val / 4 % 2 * 1024 + f.val, by have : t.val < 16 := t.isLt; omega⟩
/-- The place in the whole sum that a place of a grid point's part of it is. -/
def kk (t : Fin cfg0.N) (k : Fin 2816) : Fin 11264 := ⟨t.val % 4 * 2816 + k.val, by have : t.val < 16 := t.isLt; omega⟩
/-- The column of the first half that a grid point reads. -/
def lo (t : Fin cfg0.N) (k : Fin 2816) : Fin 5632 := ⟨min (t.val % 4) 1 * 2816 + k.val, by have : t.val < 16 := t.isLt; omega⟩
/-- The column of the second half that a grid point reads. -/
def hi (t : Fin cfg0.N) (k : Fin 2816) : Fin 5632 := ⟨(t.val % 4 - 2) * 2816 + k.val, by have : t.val < 16 := t.isLt; omega⟩

/-- A grid point's block of the first argument. -/
theorem blk0 (t : Fin cfg0.N) (r : Fin 1024) (k : Fin 2816) : (iblk m c 0 t : Vec Ideal S1024x2816 .bf16) (ix2 r k) = A0 m c (ix2 (row t r) (lo t k)) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 8 * 1024 + r.val; rw [(index0 t).1]; omega
  | ⟨1, _⟩ => show win0_0.index t 1 * 2816 + 1 * k.val = min (t.val % 4) 1 * 2816 + k.val; rw [(index0 t).2]; omega

/-- A grid point's block of the second argument. -/
theorem blk1 (t : Fin cfg0.N) (r : Fin 1024) (k : Fin 2816) : (iblk m c 1 t : Vec Ideal S1024x2816 .bf16) (ix2 r k) = A1 m c (ix2 (row t r) (hi t k)) := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val / 8 * 1024 + r.val; rw [(index1 t).1]; omega
  | ⟨1, _⟩ => show win0_1.index t 1 * 2816 + 1 * k.val = (t.val % 4 - 2) * 2816 + k.val; rw [(index1 t).2]; omega

/-- A grid point's block of the third argument. -/
theorem blk2 (t : Fin cfg0.N) (z : Fin 1) (f : Fin 1024) (k : Fin 2816) : (iblk m c 2 t : Vec Ideal S1x1024x2816 .bf16) (ix3 z f k) = A2 m c (ix3 ⟨(kk t k).val / 2816, by omega⟩ (col t f) ⟨(kk t k).val % 2816, by omega⟩) := by
  unfold iblk
  rw [View.read_apply]
  show V m c main_arg2 _ = m (c.tc.loc main_arg2) _
  unfold V
  congr 1
  funext a
  apply Fin.ext
  match a with
  | ⟨0, _⟩ => show win0_2.index t 0 * 1 + 1 * z.val = (t.val % 4 * 2816 + k.val) / 2816; rw [(index2 t).1]; omega
  | ⟨1, _⟩ => show win0_2.index t 1 * 1024 + 1 * f.val = t.val / 4 % 2 * 1024 + f.val; rw [(index2 t).2.1]; omega
  | ⟨2, _⟩ => show win0_2.index t 2 * 2816 + 1 * k.val = (t.val % 4 * 2816 + k.val) % 2816; rw [(index2 t).2.2]; omega

section Case
variable {F : FTy → Type} [FloatOps F] (i : grid0.Coords) (arg3 : Memref sig .tc .vmem S1024x2816 .bf16) (harg3 : arg3.IsWhole) (arg4 : Memref sig .tc .vmem S1024x2816 .bf16) (harg4 : arg4.IsWhole) (arg5 : Memref sig .tc .vmem S1x1024x2816 .bf16) (harg5 : arg5.IsWhole) (arg6 : Memref sig .tc .vmem S1024x1024 .f32) (harg6 : arg6.IsWhole) (arg7 : Memref sig .tc .vmem S1024x1024 .f32) (harg7 : arg7.IsWhole)
variable (x0 : Vec F S1024x2816 .bf16) (x1 : Vec F S1024x2816 .bf16) (x2 : Vec F S1x1024x2816 .bf16) (xs0 : Vec F S1024x1024 .f32)

/-- The first part of the sum leaves this in the scratch. -/
theorem sout_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay2 i x0 x1 x2 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero offsets2]
  simp only [View.readAt_eq_ld, harg3.read_unread, harg4.read_unread, harg5.read_unread, harg6.read_unread, harg7.read_unread,
    View.ld_unit_zero (S := S1024x1024) offsets2, View.ld_unit_zero (S := S1024x2816) offsets2, View.ld_unit_zero (S := S1x1024x2816) offsets3]

/-- A later part of the sum leaves this in the scratch. -/
theorem sout_B (hc0 : ¬cond0_0 i) (hc1 : cond0_1 i) (hc2 : ¬cond0_2 i) :
    sout0_B_0 c i arg3 harg3 arg4 harg4 arg5 harg5 arg6 harg6 arg7 harg7 hc0 hc1 hc2 x0 x1 x2 xs0 = k0_pay3 i x0 x1 x2 xs0 := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  rw [View.canon_unit_zero offsets2]
  simp only [View.readAt_eq_ld, harg3.read_unread, harg4.read_unread, harg5.read_unread, harg6.read_unread, harg7.read_unread,
    View.ld_unit_zero (S := S1024x1024) offsets2, View.ld_unit_zero (S := S1024x2816) offsets2, View.ld_unit_zero (S := S1x1024x2816) offsets3]

/-- A later part of the sum leaves this in the scratch. -/
theorem sout_C (hc0 : ¬cond0_0 i) (hc1 : cond0_1 i) (hc2 : cond0_2 i) :
    sout0_C_0 c i arg3 harg3 arg4 harg4 arg5 harg5 arg6 harg6 arg7 harg7 hc0 hc1 hc2 x0 x1 x2 xs0 = k0_pay3 i x0 x1 x2 xs0 := by
  unfold sout0_C_0
  rw [View.read_writes_eq_canon _ _ _ (scover0_C_0 c i arg3 harg3 arg4 harg4 arg5 harg5 arg6 harg6 arg7 harg7 hc0 hc1 hc2 x0 x1 x2 xs0)]
  unfold kernelRun0_C
  dsimp only
  sl_unfold_words
  rw [View.canon_unit_zero offsets2]
  simp only [View.readAt_eq_ld, harg3.read_unread, harg4.read_unread, harg5.read_unread, harg6.read_unread, harg7.read_unread,
    View.ld_unit_zero (S := S1024x1024) offsets2, View.ld_unit_zero (S := S1024x2816) offsets2, View.ld_unit_zero (S := S1x1024x2816) offsets3]

/-- The last part of the sum leaves this in the output. -/
theorem out_C (hc0 : ¬cond0_0 i) (hc1 : cond0_1 i) (hc2 : cond0_2 i) :
    out0_C_3 c i arg3 harg3 arg4 harg4 arg5 harg5 arg6 harg6 arg7 harg7 hc0 hc1 hc2 x0 x1 x2 xs0 = k0_pay3 i x0 x1 x2 xs0 := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  rw [View.canon_unit_zero offsets2]
  simp only [View.readAt_eq_ld, harg3.read_unread, harg4.read_unread, harg5.read_unread, harg6.read_unread, harg7.read_unread,
    View.ld_unit_zero (S := S1024x1024) offsets2, View.ld_unit_zero (S := S1024x2816) offsets2, View.ld_unit_zero (S := S1x1024x2816) offsets3, View.readCov_cons_toLoadRect]

end Case

/-- The first parts of the sum read the first half, the others the second. -/
theorem side : ∀ t : Fin cfg0.N, Scalar.cmpi .slt (BitVec.ofNat 32 ((grid0.coords t) 2).val) 2#32 = if t.val % 4 < 2 then 1#1 else 0#1 :=
  (by decide +kernel : ∀ t : Fin grid0.N, _)

/-- What a grid point adds to the sum. -/
theorem part (t : Fin cfg0.N) (r : Fin 1024) (f : Fin 1024) :
    k0_pay1 (F := Ideal) (grid0.coords t) (iblk m c 0 t) (iblk m c 1 t) (iblk m c 2 t) (ix2 r f) = ∑ k ∈ Finset.range 2816, ext (term (A0 m c) (A1 m c) (A2 m c) (row t r) (col t f)) (t.val % 4 * 2816 + k) := by
  rw [← part_range (term (A0 m c) (A1 m c) (A2 m c) (row t r) (col t f)) (kk t) (t.val % 4 * 2816) fun _ => rfl]
  unfold k0_pay1 term
  pointwise
  refine Finset.sum_congr rfl fun k _ => ?_
  rw [blk0, blk1, blk2, side]
  congr 1
  have hk : k.val < 2816 := k.isLt
  by_cases h : t.val % 4 < 2
  · rw [if_pos h, dif_pos (show (kk t k).val < 5632 by show t.val % 4 * 2816 + k.val < 5632; omega)]
    refine congrArg (fun z => A0 m c (ix2 (row t r) z)) (Fin.ext ?_)
    show min (t.val % 4) 1 * 2816 + k.val = t.val % 4 * 2816 + k.val
    omega
  · rw [if_neg h, dif_neg (show ¬(kk t k).val < 5632 by show ¬t.val % 4 * 2816 + k.val < 5632; omega)]
    refine congrArg (fun z => A1 m c (ix2 (row t r) z)) (Fin.ext ?_)
    show (t.val % 4 - 2) * 2816 + k.val = t.val % 4 * 2816 + k.val - 5632
    omega

/-- What a grid point leaves in the scratch at the start of a sum. -/
theorem first (t : Fin cfg0.N) (r : Fin 1024) (f : Fin 1024) :
    k0_pay2 (F := Ideal) (grid0.coords t) (iblk m c 0 t) (iblk m c 1 t) (iblk m c 2 t) (ix2 r f) = ∑ k ∈ Finset.range 2816, ext (term (A0 m c) (A1 m c) (A2 m c) (row t r) (col t f)) (t.val % 4 * 2816 + k) := by
  unfold k0_pay2
  rw [shapeCast_self, part]

/-- What a grid point leaves in the scratch further on. -/
theorem next (t : Fin cfg0.N) (r : Fin 1024) (f : Fin 1024) (x : Vec Ideal S1024x1024 .f32) :
    k0_pay3 (F := Ideal) (grid0.coords t) (iblk m c 0 t) (iblk m c 1 t) (iblk m c 2 t) x (ix2 r f) = x (ix2 r f) + ∑ k ∈ Finset.range 2816, ext (term (A0 m c) (A1 m c) (A2 m c) (row t r) (col t f)) (t.val % 4 * 2816 + k) := by
  unfold k0_pay3
  rw [shapeCast_self]
  show _ + k0_pay1 (F := Ideal) (grid0.coords t) (iblk m c 0 t) (iblk m c 1 t) (iblk m c 2 t) (ix2 r f) = _
  rw [part]

/-- After each grid point the scratch holds the sum so far. -/
theorem sofar : ∀ (n : ℕ) (hn : n < cfg0.N) (r : Fin 1024) (f : Fin 1024),
    (outsAt0 m c n hn).2 (ix2 r f) = ∑ k ∈ Finset.range (2816 * (n % 4 + 1)), ext (term (A0 m c) (A1 m c) (A2 m c) (row ⟨n, hn⟩ r) (col ⟨n, hn⟩ f)) k := by
  intro n
  induction n with
  | zero =>
    intro hn r f
    rw [outsAt0_A m c ⟨0, hn⟩ rfl (by simp) (by simp)]
    dsimp only
    rw [sout_A, first]
    simp
  | succ n ih =>
    intro hn r f
    have hN : n + 1 < 16 := hn
    by_cases h0 : (n + 1) % 4 = 0
    · rw [outsAt0_A m c ⟨n + 1, hn⟩ h0 (by simp only; omega) (by simp only; omega)]
      dsimp only
      rw [sout_A, first]
      simp [h0]
    · have hp := ih (Nat.lt_of_succ_lt hn) r f
      have hs : 2816 * ((n + 1) % 4 + 1) = 2816 * (n % 4 + 1) + 2816 := by omega
      have ho : (n + 1) % 4 * 2816 = 2816 * (n % 4 + 1) := by omega
      have hr : row ⟨n + 1, hn⟩ r = row ⟨n, Nat.lt_of_succ_lt hn⟩ r := Fin.ext (by show (n + 1) / 8 * 1024 + r.val = n / 8 * 1024 + r.val; omega)
      have hc : col ⟨n + 1, hn⟩ f = col ⟨n, Nat.lt_of_succ_lt hn⟩ f := Fin.ext (by show (n + 1) / 4 % 2 * 1024 + f.val = n / 4 % 2 * 1024 + f.val; omega)
      have hx : (outsAt0 m c (n + 1) hn).2 (ix2 r f)
          = (outsAt0 m c n (Nat.lt_of_succ_lt hn)).2 (ix2 r f) + ∑ k ∈ Finset.range 2816, ext (term (A0 m c) (A1 m c) (A2 m c) (row ⟨n + 1, hn⟩ r) (col ⟨n + 1, hn⟩ f)) ((n + 1) % 4 * 2816 + k) := by
        by_cases h2 : (n + 1) % 4 = 3
        · rw [outsAt0_C m c ⟨n + 1, hn⟩ h0 (by simp only; omega) h2]
          dsimp only
          rw [sout_C, next]
          rfl
        · rw [outsAt0_B m c ⟨n + 1, hn⟩ h0 (by simp only; omega) h2]
          dsimp only
          rw [sout_B, next]
          rfl
      rw [hx, hs, Finset.sum_range_add, hr, hc, ← hp, ho]

/-- After the last part of a sum the output holds the entry. -/
theorem done (t : Fin cfg0.N) (h : t.val % 4 = 3) (r : Fin 1024) (f : Fin 1024) :
    (outsAt0 m c t.val t.isLt).1 (ix2 r f) = entry (A0 m c) (A1 m c) (A2 m c) (row t r) (col t f) := by
  have hs := sofar m c t.val t.isLt r f
  rw [outsAt0_C m c t (by omega) (by omega) h] at hs ⊢
  dsimp only at hs ⊢
  rw [sout_C, h] at hs
  rw [out_C]
  rw [hs]
  unfold entry
  rw [sum_ext]

/-- The result is the product. -/
theorem final : (dats m 0 c).arrAt 3 cfg0.N = arr2 (entry (A0 m c) (A1 m c) (A2 m c)) := by
  refine (dats m 0 c).arrAt_eq_of_cover 3 _ (fun t hf => ?_) fun i => ?_
  · rw [flushed3]
    funext j
    rw [View.read_apply]
    show (outsAt0 m c t.val t.isLt).1 j = arr2 (entry (A0 m c) (A1 m c) (A2 m c)) _
    have key : ∀ j : S1024x1024.Idx, (outsAt0 m c t.val t.isLt).1 j = entry (A0 m c) (A1 m c) (A2 m c) (row t (j 0)) (col t (j 1)) := fun j => by
      conv_lhs => rw [eq_ix2 j]
      exact done m c t ((flush0_3 t).mp hf) _ _
    refine (key j).trans (entry_arr2 _ _ _ _ ?_ ?_)
    · show t.val / 8 * 1024 + (j 0).val = win0_3.index t 0 * 1024 + 1 * (j 0).val
      rw [(index3 t).1]; omega
    · show t.val / 4 % 2 * 1024 + (j 1).val = win0_3.index t 1 * 1024 + 1 * (j 1).val
      rw [(index3 t).2]; omega
  · have h0 : (i 0 : Nat) < 2048 := (i 0).isLt
    have h1 : (i 1 : Nat) < 2048 := (i 1).isLt
    have hlt : 8 * ((i 0 : Nat) / 1024) + 4 * ((i 1 : Nat) / 1024) + 3 < cfg0.N := by show _ < 16; omega
    refine ⟨⟨8 * ((i 0 : Nat) / 1024) + 4 * ((i 1 : Nat) / 1024) + 3, hlt⟩, (flush0_3 _).mpr (by show (8 * ((i 0 : Nat) / 1024) + 4 * ((i 1 : Nat) / 1024) + 3) % 4 = 3; omega), ?_⟩
    generalize ht : (⟨8 * ((i 0 : Nat) / 1024) + 4 * ((i 1 : Nat) / 1024) + 3, hlt⟩ : Fin cfg0.N) = t
    have hv : t.val = 8 * ((i 0 : Nat) / 1024) + 4 * ((i 1 : Nat) / 1024) + 3 := by rw [← ht]
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index3 t).1]; omega
    | ⟨1, _⟩ => show win0_3.index t 1 * 1024 ≤ (i 1 : Nat) ∧ (i 1 : Nat) < win0_3.index t 1 * 1024 + 1024
                rw [(index3 t).2]; omega

end Kern

section Ref
open Cert.Reference5Ideal Cert.Reference5Ideal.Gen Cert.Reference5Ideal.Read

/-- The reference's result is the product. -/
theorem ref (x0 : Arr2 2048 5632) (x1 : Arr2 2048 5632) (x2 : Arr3 4 2048 2816) : val_main_v9 (F := Ideal) x0 x1 x2 = arr2 (entry x0 x1 x2) :=
  eq_arr2 _ _ fun r f => by
    unfold val_main_v9 val_main_v8 val_main_v7 val_main_v6 val_main_v3 val_main_v2 val_main_v1 val_main_v0 entry
    pointwise
    refine Eq.trans ?_ (sum_halves (n := 5632) (term x0 x1 x2 r f)).symm
    refine congrArg₂ _ (Finset.sum_congr rfl fun k _ => ?_) (Finset.sum_congr rfl fun k _ => ?_)
    · unfold term
      rw [dif_pos (show k.val < 5632 from k.isLt)]
    · unfold term
      rw [dif_neg (show ¬5632 + k.val < 5632 by omega)]
      refine congrArg (fun z => x1 (ix2 r z) * _) (Fin.ext ?_)
      show k.val = 5632 + k.val - 5632
      omega

/-- The reference runs, its arguments end unchanged, and no signal is left. -/
theorem refFrame : Cert.quiescent_Reference5Ideal := fun m ρ _ =>
  (θ_run defs _ _).mono (fun r h => ⟨fun c => (h c).2, Idealize.ShloMosaic.sem_eq_zero_of_no_sems (by decide) r.2⟩)
    (Cert.Reference5Ideal.Value.run (F := Ideal) m ρ)

end Ref

/-- Kernel and reference end with the same array, whatever the arguments hold. -/
theorem algebraic : Cert.algebraic_Kernel5Ideal_Reference5Ideal := by
  intro m g m' g' _ hargs
  refine ⟨fun c => arr2 (entry (A0 m c) (A1 m c) (A2 m c)), ?_, ?_⟩
  · exact (θ_run Cert.Kernel5Ideal.defs _ _).mono (fun r h c => ⟨(h c).1.trans (final m c), (h c).2⟩) (Cert.Kernel5Ideal.Value.run_blocks m g)
  · refine (θ_run Cert.Reference5Ideal.defs _ _).mono (fun r h c => ⟨(h c).1.trans ?_, (h c).2⟩) (Cert.Reference5Ideal.Value.run (F := Ideal) m' g')
    obtain ⟨e0, e1, e2⟩ := hargs c
    rw [Cert.Reference5Ideal.Read.val_main_v9_eq, e0, e1, e2]; exact ref _ _ _

end Cert.DH2

end
-- ==== Proof.FfnUp.lean ====
/- The up-projection of the feed-forward layer: the kernel's tiles of the product make the reference's product. -/
module

public import proofs.«01_k».proof.Defs
public import proofs.«01_k».proof.Proof.Prod
public import proofs.«01_k».proof.Proof.Gen.Kernel6Ideal.Value
public import proofs.«01_k».proof.Proof.Gen.Reference6Ideal.Read

@[expose] public section

set_option maxRecDepth 16384

noncomputable section

namespace Cert.FfnUp

open Idealize.ShloMosaic Idealize.ShloMosaic.TcCoe Idealize.SL.Sem Cert.Prod

/-- One entry: a row of the first argument times a column of the second. -/
def entry (x0 : Arr2 2048 2048) (x1 : Arr3 4 2048 2816) (r : Fin 2048) (f : Fin 11264) : EReal :=
  ∑ k : Fin 2048, x0 (ix2 r k) * x1 (ix3 ⟨f.val / 2816, by omega⟩ k ⟨f.val % 2816, by omega⟩)

section Kern
open Cert.Kernel6Ideal Cert.Kernel6Ideal.Gen Cert.Kernel6Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr3 4 2048 2816 := m ((c.tc : Thread nD τ).loc main_arg1)

theorem index0 : ∀ t : Fin cfg0.N, win0_0.index t 0 = t.val / 8 ∧ win0_0.index t 1 = 0 :=
  (by decide +kernel : ∀ t : Fin grid0.N, _)
theorem index1 : ∀ t : Fin cfg0.N, win0_1.index t 0 = t.val % 8 / 2 ∧ win0_1.index t 1 = 0 ∧ win0_1.index t 2 = t.val % 8 % 2 :=
  (by decide +kernel : ∀ t : Fin grid0.N, _)
theorem index2 : ∀ t : Fin cfg0.N, win0_2.index t 0 = t.val / 8 ∧ win0_2.index t 1 = t.val % 8 :=
  (by decide +kernel : ∀ t : Fin grid0.N, _)

/-- The row of the whole result that a row of a grid point's tile is. -/
def row (t : Fin cfg0.N) (r : Fin 1024) : Fin 2048 := ⟨t.val / 8 * 1024 + r.val, by have : t.val < 16 := t.isLt; omega⟩
/-- The column of the whole result that a column of a grid point's tile is. -/
def col (t : Fin cfg0.N) (f : Fin 1408) : Fin 11264 := ⟨t.val % 8 * 1408 + f.val, by have : t.val < 16 := t.isLt; omega⟩

/-- A grid point's block of the first argument. -/
theorem blk0 (t : Fin cfg0.N) (r : Fin 1024) (k : Fin 2048) : (iblk m c 0 t : Vec Ideal S1024x2048 .bf16) (ix2 r k) = A0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 8 * 1024 + r.val; rw [(index0 t).1]; omega
  | ⟨1, _⟩ => show win0_0.index t 1 * 2048 + 1 * k.val = k.val; rw [(index0 t).2]; omega

/-- A grid point's block of the second argument. -/
theorem blk1 (t : Fin cfg0.N) (z : Fin 1) (k : Fin 2048) (f : Fin 1408) : (iblk m c 1 t : Vec Ideal S1x2048x1408 .bf16) (ix3 z k f) = A1 m c (ix3 ⟨(col t f).val / 2816, by omega⟩ k ⟨(col t f).val % 2816, by omega⟩) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = (t.val % 8 * 1408 + f.val) / 2816; rw [(index1 t).1]; omega
  | ⟨1, _⟩ => show win0_1.index t 1 * 2048 + 1 * k.val = k.val; rw [(index1 t).2.1]; omega
  | ⟨2, _⟩ => show win0_1.index t 2 * 1408 + 1 * f.val = (t.val % 8 * 1408 + f.val) % 2816; rw [(index1 t).2.2]; omega

/-- What a grid point leaves in its tile. -/
theorem tile (t : Fin cfg0.N) (r : Fin 1024) (f : Fin 1408) :
    out0_2 (F := Ideal) (iblk m c 0 t) (iblk m c 1 t) (ix2 r f) = entry (A0 m c) (A1 m c) (row t r) (col t f) := by
  unfold out0_2
  rw [View.canon_unit_zero offsets2]
  simp only [View.ld_unit_zero (S := S1024x2048) offsets2, View.ld_unit_zero (S := S1x2048x1408) offsets3]
  unfold k0_pay1 entry
  pointwise
  simp only [blk0, blk1]

/-- The result is the product. -/
theorem final : (dats m 0 c).arrAt 2 cfg0.N = arr2 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr2 (entry (A0 m c) (A1 m c)) _
    have key : ∀ j : S1024x1408.Idx, out0_2 (F := Ideal) (iblk m c 0 t) (iblk m c 1 t) j = entry (A0 m c) (A1 m c) (row t (j 0)) (col t (j 1)) := fun j => by
      conv_lhs => rw [eq_ix2 j]
      exact tile m c t _ _
    refine (key j).trans (entry_arr2 _ _ _ _ ?_ ?_)
    · show t.val / 8 * 1024 + (j 0).val = win0_2.index t 0 * 1024 + 1 * (j 0).val
      rw [(index2 t).1]; omega
    · show t.val % 8 * 1408 + (j 1).val = win0_2.index t 1 * 1408 + 1 * (j 1).val
      rw [(index2 t).2]; omega
  · have h0 : (i 0 : Nat) < 2048 := (i 0).isLt
    have h1 : (i 1 : Nat) < 11264 := (i 1).isLt
    have hlt : 8 * ((i 0 : Nat) / 1024) + (i 1 : Nat) / 1408 < cfg0.N := by show _ < 16; omega
    refine ⟨⟨8 * ((i 0 : Nat) / 1024) + (i 1 : Nat) / 1408, hlt⟩, flush0_2 _, ?_⟩
    generalize ht : (⟨8 * ((i 0 : Nat) / 1024) + (i 1 : Nat) / 1408, hlt⟩ : Fin cfg0.N) = t
    have hv : t.val = 8 * ((i 0 : Nat) / 1024) + (i 1 : Nat) / 1408 := by rw [← ht]
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1]; omega
    | ⟨1, _⟩ => show win0_2.index t 1 * 1408 ≤ (i 1 : Nat) ∧ (i 1 : Nat) < win0_2.index t 1 * 1408 + 1408
                rw [(index2 t).2]; omega

end Kern

section Ref
open Cert.Reference6Ideal Cert.Reference6Ideal.Gen Cert.Reference6Ideal.Read

/-- The reference's result is the product. -/
theorem ref (x0 : Arr2 2048 2048) (x1 : Arr3 4 2048 2816) : val_main_v6 (F := Ideal) x0 x1 = arr2 (entry x0 x1) :=
  eq_arr2 _ _ fun r f => by
    unfold val_main_v6 val_main_v5 val_main_v4 val_main_v3 val_main_v2 val_main_v1 val_main_v0 entry
    pointwise

/-- The reference runs, its arguments end unchanged, and no signal is left. -/
theorem refFrame : Cert.quiescent_Reference6Ideal := fun m ρ _ =>
  (θ_run defs _ _).mono (fun r h => ⟨fun c => (h c).2, Idealize.ShloMosaic.sem_eq_zero_of_no_sems (by decide) r.2⟩)
    (Cert.Reference6Ideal.Value.run (F := Ideal) m ρ)

end Ref

/-- Kernel and reference end with the same array, whatever the arguments hold. -/
theorem algebraic : Cert.algebraic_Kernel6Ideal_Reference6Ideal := by
  intro m g m' g' _ hargs
  refine ⟨fun c => arr2 (entry (A0 m c) (A1 m c)), ?_, ?_⟩
  · exact (θ_run Cert.Kernel6Ideal.defs _ _).mono (fun r h c => ⟨(h c).1.trans (final m c), (h c).2⟩) (Cert.Kernel6Ideal.Value.run_blocks m g)
  · refine (θ_run Cert.Reference6Ideal.defs _ _).mono (fun r h c => ⟨(h c).1.trans ?_, (h c).2⟩) (Cert.Reference6Ideal.Value.run (F := Ideal) m' g')
    obtain ⟨e0, e1⟩ := hargs c
    rw [Cert.Reference6Ideal.Read.val_main_v6_eq, e0, e1]; exact ref _ _

end Cert.FfnUp

end
-- ==== Proof.FfnDown.lean ====
/- The down-projection of the feed-forward layer: the kernel's tiles of the product make the reference's product. -/
module

public import proofs.«01_k».proof.Defs
public import proofs.«01_k».proof.Proof.Prod
public import proofs.«01_k».proof.Proof.Gen.Kernel7Ideal.Value
public import proofs.«01_k».proof.Proof.Gen.Reference7Ideal.Read

@[expose] public section

set_option maxRecDepth 16384

noncomputable section

namespace Cert.FfnDown

open Idealize.ShloMosaic Idealize.ShloMosaic.TcCoe Idealize.SL.Sem Cert.Prod

/-- One term of an entry. -/
def term (x0 : Arr2 2048 5632) (x1 : Arr3 1 5632 2048) (r : Fin 2048) (f : Fin 2048) (k : Fin 5632) : EReal := x0 (ix2 r k) * x1 (ix3 0 k f)

/-- One entry: a row of the first argument times a column of the second, added to the third. -/
def entry (x0 : Arr2 2048 5632) (x1 : Arr3 1 5632 2048) (x2 : Arr2 2048 2048) (r : Fin 2048) (f : Fin 2048) : EReal :=
  x2 (ix2 r f) + ∑ k : Fin 5632, term x0 x1 r f k

section Kern
open Cert.Kernel7Ideal Cert.Kernel7Ideal.Gen Cert.Kernel7Ideal.Value Idealize.ShloMosaic.Pipeline

variable (m : (ℓ : Loc nD τ sig) → Buf (Elt Ideal) ℓ) (c : Dev nD)

/-- The first argument on a device. -/
abbrev A0 : Arr2 2048 5632 := m ((c.tc : Thread nD τ).loc main_arg0)
/-- The second argument on a device. -/
abbrev A1 : Arr3 1 5632 2048 := m ((c.tc : Thread nD τ).loc main_arg1)
/-- The third argument on a device. -/
abbrev A2 : Arr2 2048 2048 := m ((c.tc : Thread nD τ).loc main_arg2)

theorem index0 : ∀ t : Fin cfg0.N, win0_0.index t 0 = t.val / 4 ∧ win0_0.index t 1 = t.val % 2 :=
  (by decide +kernel : ∀ t : Fin grid0.N, _)
theorem index1 : ∀ t : Fin cfg0.N, win0_1.index t 0 = 0 ∧ win0_1.index t 1 = t.val % 2 ∧ win0_1.index t 2 = t.val / 2 % 2 :=
  (by decide +kernel : ∀ t : Fin grid0.N, _)
theorem index2 : ∀ t : Fin cfg0.N, win0_2.index t 0 = t.val / 4 ∧ win0_2.index t 1 = t.val / 2 % 2 :=
  (by decide +kernel : ∀ t : Fin grid0.N, _)
theorem index3 : ∀ t : Fin cfg0.N, win0_3.index t 0 = t.val / 4 ∧ win0_3.index t 1 = t.val / 2 % 2 :=
  (by decide +kernel : ∀ t : Fin grid0.N, _)

/-- The row of the whole result that a row of a grid point's tile is. -/
def row (t : Fin cfg0.N) (r : Fin 1024) : Fin 2048 := ⟨t.val / 4 * 1024 + r.val, by have : t.val < 8 := t.isLt; omega⟩
/-- The column of the whole result that a column of a grid point's tile is. -/
def col (t : Fin cfg0.N) (f : Fin 1024) : Fin 2048 := ⟨t.val / 2 % 2 * 1024 + f.val, by have : t.val < 8 := t.isLt; omega⟩
/-- The place in the whole sum that a place of a grid point's part of it is. -/
def kk (t : Fin cfg0.N) (k : Fin 2816) : Fin 5632 := ⟨t.val % 2 * 2816 + k.val, by have : t.val < 8 := t.isLt; omega⟩

/-- A grid point's block of the first argument. -/
theorem blk0 (t : Fin cfg0.N) (r : Fin 1024) (k : Fin 2816) : (iblk m c 0 t : Vec Ideal S1024x2816 .bf16) (ix2 r k) = A0 m c (ix2 (row t r) (kk t k)) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 4 * 1024 + r.val; rw [(index0 t).1]; omega
  | ⟨1, _⟩ => show win0_0.index t 1 * 2816 + 1 * k.val = (t.val % 2 * 2816 + k.val); rw [(index0 t).2]; omega

/-- A grid point's block of the second argument. -/
theorem blk1 (t : Fin cfg0.N) (z : Fin 1) (k : Fin 2816) (f : Fin 1024) : (iblk m c 1 t : Vec Ideal S1x2816x1024 .bf16) (ix3 z k f) = A1 m c (ix3 0 (kk t k) (col t f)) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = 0; rw [(index1 t).1]; omega
  | ⟨1, _⟩ => show win0_1.index t 1 * 2816 + 1 * k.val = (t.val % 2 * 2816 + k.val); rw [(index1 t).2.1]; omega
  | ⟨2, _⟩ => show win0_1.index t 2 * 1024 + 1 * f.val = t.val / 2 % 2 * 1024 + f.val; rw [(index1 t).2.2]; omega

/-- A grid point's block of the third argument. -/
theorem blk2 (t : Fin cfg0.N) (r : Fin 1024) (f : Fin 1024) : (iblk m c 2 t : Vec Ideal S1024x1024 .f32) (ix2 r f) = A2 m c (ix2 (row t r) (col t f)) := by
  unfold iblk
  rw [View.read_apply]
  show V m c main_arg2 _ = m (c.tc.loc main_arg2) _
  unfold V
  congr 1
  funext a
  apply Fin.ext
  match a with
  | ⟨0, _⟩ => show win0_2.index t 0 * 1024 + 1 * r.val = t.val / 4 * 1024 + r.val; rw [(index2 t).1]; omega
  | ⟨1, _⟩ => show win0_2.index t 1 * 1024 + 1 * f.val = t.val / 2 % 2 * 1024 + f.val; rw [(index2 t).2]; omega

section Case
variable {F : FTy → Type} [FloatOps F] (i : grid0.Coords) (arg3 : Memref sig .tc .vmem S1024x2816 .bf16) (harg3 : arg3.IsWhole) (arg4 : Memref sig .tc .vmem S1x2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
variable (x0 : Vec F S1024x2816 .bf16) (x1 : Vec F S1x2816x1024 .bf16) (x2 : Vec F S1024x1024 .f32) (xs0 : Vec F S1024x1024 .f32)

/-- The first part of the sum leaves this in the scratch. -/
theorem sout_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero offsets2]
  simp only [View.readAt_eq_ld, harg3.read_unread, harg4.read_unread, harg5.read_unread, harg6.read_unread, harg7.read_unread,
    View.ld_unit_zero (S := S1024x1024) offsets2, View.ld_unit_zero (S := S1024x2816) offsets2, View.ld_unit_zero (S := S1x2816x1024) offsets3]

/-- A later part of the sum leaves this in the scratch. -/
theorem sout_B (hc0 : ¬cond0_0 i) (hc1 : cond0_1 i) (hc2 : cond0_2 i) :
    sout0_B_0 c i arg3 harg3 arg4 harg4 arg5 harg5 arg6 harg6 arg7 harg7 hc0 hc1 hc2 x0 x1 x2 xs0 = k0_pay3 x0 x1 xs0 := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  rw [View.canon_unit_zero offsets2]
  simp only [View.readAt_eq_ld, harg3.read_unread, harg4.read_unread, harg5.read_unread, harg6.read_unread, harg7.read_unread,
    View.ld_unit_zero (S := S1024x1024) offsets2, View.ld_unit_zero (S := S1024x2816) offsets2, View.ld_unit_zero (S := S1x2816x1024) offsets3]

/-- The last part of the sum leaves this in the output. -/
theorem out_B (hc0 : ¬cond0_0 i) (hc1 : cond0_1 i) (hc2 : cond0_2 i) :
    out0_B_3 c i arg3 harg3 arg4 harg4 arg5 harg5 arg6 harg6 arg7 harg7 hc0 hc1 hc2 x0 x1 x2 xs0 = k0_pay4 (k0_pay3 x0 x1 xs0) x2 := by
  unfold out0_B_3
  rw [View.read_writes_eq_canon _ _ _ (cover0_B_3 c i arg3 harg3 arg4 harg4 arg5 harg5 arg6 harg6 arg7 harg7 hc0 hc1 hc2 x0 x1 x2 xs0)]
  unfold kernelRun0_B
  dsimp only
  sl_unfold_words
  rw [View.canon_unit_zero offsets2]
  simp only [View.readAt_eq_ld, harg3.read_unread, harg4.read_unread, harg5.read_unread, harg6.read_unread, harg7.read_unread,
    View.ld_unit_zero (S := S1024x1024) offsets2, View.ld_unit_zero (S := S1024x2816) offsets2, View.ld_unit_zero (S := S1x2816x1024) offsets3, View.readCov_cons_toLoadRect]

end Case

/-- What a grid point adds to the sum. -/
theorem part (t : Fin cfg0.N) (r : Fin 1024) (f : Fin 1024) :
    k0_pay1 (F := Ideal) (iblk m c 0 t) (iblk m c 1 t) (ix2 r f) = ∑ k ∈ Finset.range 2816, ext (term (A0 m c) (A1 m c) (row t r) (col t f)) (t.val % 2 * 2816 + k) := by
  rw [← part_range (term (A0 m c) (A1 m c) (row t r) (col t f)) (kk t) (t.val % 2 * 2816) fun _ => rfl]
  unfold k0_pay1 term
  pointwise
  simp only [blk0, blk1]

/-- What a grid point leaves in the scratch at the start of a sum. -/
theorem first (t : Fin cfg0.N) (r : Fin 1024) (f : Fin 1024) :
    k0_pay2 (F := Ideal) (iblk m c 0 t) (iblk m c 1 t) (ix2 r f) = ∑ k ∈ Finset.range 2816, ext (term (A0 m c) (A1 m c) (row t r) (col t f)) (t.val % 2 * 2816 + k) := by
  unfold k0_pay2
  rw [shapeCast_self, part]

/-- What a grid point leaves in the scratch further on. -/
theorem next (t : Fin cfg0.N) (r : Fin 1024) (f : Fin 1024) (x : Vec Ideal S1024x1024 .f32) :
    k0_pay3 (F := Ideal) (iblk m c 0 t) (iblk m c 1 t) x (ix2 r f) = x (ix2 r f) + ∑ k ∈ Finset.range 2816, ext (term (A0 m c) (A1 m c) (row t r) (col t f)) (t.val % 2 * 2816 + k) := by
  unfold k0_pay3
  rw [shapeCast_self]
  show _ + k0_pay1 (F := Ideal) (iblk m c 0 t) (iblk m c 1 t) (ix2 r f) = _
  rw [part]

/-- After each grid point the scratch holds the sum so far. -/
theorem sofar : ∀ (n : ℕ) (hn : n < cfg0.N) (r : Fin 1024) (f : Fin 1024),
    (outsAt0 m c n hn).2 (ix2 r f) = ∑ k ∈ Finset.range (2816 * (n % 2 + 1)), ext (term (A0 m c) (A1 m c) (row ⟨n, hn⟩ r) (col ⟨n, hn⟩ f)) k := by
  intro n
  induction n with
  | zero =>
    intro hn r f
    rw [outsAt0_A m c ⟨0, hn⟩ rfl (by simp) (by simp)]
    dsimp only
    rw [sout_A, first]
    simp
  | succ n ih =>
    intro hn r f
    have hN : n + 1 < 8 := hn
    by_cases h0 : (n + 1) % 2 = 0
    · rw [outsAt0_A m c ⟨n + 1, hn⟩ h0 (by simp only; omega) (by simp only; omega)]
      dsimp only
      rw [sout_A, first]
      simp [h0]
    · have hp := ih (Nat.lt_of_succ_lt hn) r f
      have hs : 2816 * ((n + 1) % 2 + 1) = 2816 * (n % 2 + 1) + 2816 := by omega
      have ho : (n + 1) % 2 * 2816 = 2816 * (n % 2 + 1) := by omega
      have hr : row ⟨n + 1, hn⟩ r = row ⟨n, Nat.lt_of_succ_lt hn⟩ r := Fin.ext (by show (n + 1) / 4 * 1024 + r.val = n / 4 * 1024 + r.val; omega)
      have hc : col ⟨n + 1, hn⟩ f = col ⟨n, Nat.lt_of_succ_lt hn⟩ f := Fin.ext (by show (n + 1) / 2 % 2 * 1024 + f.val = n / 2 % 2 * 1024 + f.val; omega)
      have hx : (outsAt0 m c (n + 1) hn).2 (ix2 r f)
          = (outsAt0 m c n (Nat.lt_of_succ_lt hn)).2 (ix2 r f) + ∑ k ∈ Finset.range 2816, ext (term (A0 m c) (A1 m c) (row ⟨n + 1, hn⟩ r) (col ⟨n + 1, hn⟩ f)) ((n + 1) % 2 * 2816 + k) := by
        rw [outsAt0_B m c ⟨n + 1, hn⟩ h0 (by simp only; omega) (by simp only; omega)]
        dsimp only
        rw [sout_B, next]
        rfl
      rw [hx, hs, Finset.sum_range_add, hr, hc, ← hp, ho]

/-- After the last part of a sum the output holds the entry. -/
theorem done (t : Fin cfg0.N) (h : t.val % 2 = 1) (r : Fin 1024) (f : Fin 1024) :
    (outsAt0 m c t.val t.isLt).1 (ix2 r f) = entry (A0 m c) (A1 m c) (A2 m c) (row t r) (col t f) := by
  have hs := sofar m c t.val t.isLt r f
  rw [outsAt0_B m c t (by omega) (by omega) h] at hs ⊢
  dsimp only at hs ⊢
  rw [sout_B, h] at hs
  rw [out_B]
  unfold k0_pay4 entry
  pointwise
  rw [hs, blk2, add_comm, sum_ext]

/-- The result is the product. -/
theorem final : (dats m 0 c).arrAt 3 cfg0.N = arr2 (entry (A0 m c) (A1 m c) (A2 m c)) := by
  refine (dats m 0 c).arrAt_eq_of_cover 3 _ (fun t hf => ?_) fun i => ?_
  · rw [flushed3]
    funext j
    rw [View.read_apply]
    show (outsAt0 m c t.val t.isLt).1 j = arr2 (entry (A0 m c) (A1 m c) (A2 m c)) _
    have key : ∀ j : S1024x1024.Idx, (outsAt0 m c t.val t.isLt).1 j = entry (A0 m c) (A1 m c) (A2 m c) (row t (j 0)) (col t (j 1)) := fun j => by
      conv_lhs => rw [eq_ix2 j]
      exact done m c t ((flush0_3 t).mp hf) _ _
    refine (key j).trans (entry_arr2 _ _ _ _ ?_ ?_)
    · show t.val / 4 * 1024 + (j 0).val = win0_3.index t 0 * 1024 + 1 * (j 0).val
      rw [(index3 t).1]; omega
    · show t.val / 2 % 2 * 1024 + (j 1).val = win0_3.index t 1 * 1024 + 1 * (j 1).val
      rw [(index3 t).2]; omega
  · have h0 : (i 0 : Nat) < 2048 := (i 0).isLt
    have h1 : (i 1 : Nat) < 2048 := (i 1).isLt
    have hlt : 4 * ((i 0 : Nat) / 1024) + 2 * ((i 1 : Nat) / 1024) + 1 < cfg0.N := by show _ < 8; omega
    refine ⟨⟨4 * ((i 0 : Nat) / 1024) + 2 * ((i 1 : Nat) / 1024) + 1, hlt⟩, (flush0_3 _).mpr (by show (4 * ((i 0 : Nat) / 1024) + 2 * ((i 1 : Nat) / 1024) + 1) % 2 = 1; omega), ?_⟩
    generalize ht : (⟨4 * ((i 0 : Nat) / 1024) + 2 * ((i 1 : Nat) / 1024) + 1, hlt⟩ : Fin cfg0.N) = t
    have hv : t.val = 4 * ((i 0 : Nat) / 1024) + 2 * ((i 1 : Nat) / 1024) + 1 := by rw [← ht]
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index3 t).1]; omega
    | ⟨1, _⟩ => show win0_3.index t 1 * 1024 ≤ (i 1 : Nat) ∧ (i 1 : Nat) < win0_3.index t 1 * 1024 + 1024
                rw [(index3 t).2]; omega

end Kern

section Ref
open Cert.Reference7Ideal Cert.Reference7Ideal.Gen Cert.Reference7Ideal.Read

/-- The reference's result is the product. -/
theorem ref (x0 : Arr2 2048 5632) (x1 : Arr3 1 5632 2048) (x2 : Arr2 2048 2048) : val_main_v8 (F := Ideal) x0 x1 x2 = arr2 (entry x0 x1 x2) :=
  eq_arr2 _ _ fun r f => by
    unfold val_main_v8 val_main_v7 val_main_v6 val_main_v5 val_main_v4 val_main_v3 val_main_v2 val_main_v1 val_main_v0 entry term
    pointwise

/-- The reference runs, its arguments end unchanged, and no signal is left. -/
theorem refFrame : Cert.quiescent_Reference7Ideal := fun m ρ _ =>
  (θ_run defs _ _).mono (fun r h => ⟨fun c => (h c).2, Idealize.ShloMosaic.sem_eq_zero_of_no_sems (by decide) r.2⟩)
    (Cert.Reference7Ideal.Value.run (F := Ideal) m ρ)

end Ref

/-- Kernel and reference end with the same array, whatever the arguments hold. -/
theorem algebraic : Cert.algebraic_Kernel7Ideal_Reference7Ideal := by
  intro m g m' g' _ hargs
  refine ⟨fun c => arr2 (entry (A0 m c) (A1 m c) (A2 m c)), ?_, ?_⟩
  · exact (θ_run Cert.Kernel7Ideal.defs _ _).mono (fun r h c => ⟨(h c).1.trans (final m c), (h c).2⟩) (Cert.Kernel7Ideal.Value.run_blocks m g)
  · refine (θ_run Cert.Reference7Ideal.defs _ _).mono (fun r h c => ⟨(h c).1.trans ?_, (h c).2⟩) (Cert.Reference7Ideal.Value.run (F := Ideal) m' g')
    obtain ⟨e0, e1, e2⟩ := hargs c
    rw [Cert.Reference7Ideal.Read.val_main_v8_eq, e0, e1, e2]; exact ref _ _ _

end Cert.FfnDown

end
-- ==== Proof.AIn.lean ====
/- The input projection of an attention layer: the kernel's tiles of the product make the reference's product. -/
module

public import proofs.«01_k».proof.Defs
public import proofs.«01_k».proof.Proof.Prod
public import proofs.«01_k».proof.Proof.Gen.Kernel8Ideal.Value
public import proofs.«01_k».proof.Proof.Gen.Reference8Ideal.Read

@[expose] public section

set_option maxRecDepth 16384

noncomputable section

namespace Cert.AIn

open Idealize.ShloMosaic Idealize.ShloMosaic.TcCoe Idealize.SL.Sem Cert.Prod

/-- One entry: a row of the first argument times a column of the second. -/
def entry (x0 : Arr2 2048 2048) (x1 : Arr3 4 2048 1280) (r : Fin 2048) (f : Fin 5120) : EReal :=
  ∑ k : Fin 2048, x0 (ix2 r k) * x1 (ix3 ⟨f.val / 1280, by omega⟩ k ⟨f.val % 1280, by omega⟩)

section Kern
open Cert.Kernel8Ideal Cert.Kernel8Ideal.Gen Cert.Kernel8Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr3 4 2048 1280 := m ((c.tc : Thread nD τ).loc main_arg1)

theorem index0 : ∀ t : Fin cfg0.N, win0_0.index t 0 = t.val / 4 ∧ win0_0.index t 1 = 0 :=
  (by decide +kernel : ∀ t : Fin grid0.N, _)
theorem index1 : ∀ t : Fin cfg0.N, win0_1.index t 0 = t.val % 4 ∧ win0_1.index t 1 = 0 ∧ win0_1.index t 2 = 0 :=
  (by decide +kernel : ∀ t : Fin grid0.N, _)
theorem index2 : ∀ t : Fin cfg0.N, win0_2.index t 0 = t.val / 4 ∧ win0_2.index t 1 = t.val % 4 :=
  (by decide +kernel : ∀ t : Fin grid0.N, _)

/-- The row of the whole result that a row of a grid point's tile is. -/
def row (t : Fin cfg0.N) (r : Fin 1024) : Fin 2048 := ⟨t.val / 4 * 1024 + r.val, by have : t.val < 8 := t.isLt; omega⟩
/-- The column of the whole result that a column of a grid point's tile is. -/
def col (t : Fin cfg0.N) (f : Fin 1280) : Fin 5120 := ⟨t.val % 4 * 1280 + f.val, by have : t.val < 8 := t.isLt; omega⟩

/-- A grid point's block of the first argument. -/
theorem blk0 (t : Fin cfg0.N) (r : Fin 1024) (k : Fin 2048) : (iblk m c 0 t : Vec Ideal S1024x2048 .bf16) (ix2 r k) = A0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 4 * 1024 + r.val; rw [(index0 t).1]; omega
  | ⟨1, _⟩ => show win0_0.index t 1 * 2048 + 1 * k.val = k.val; rw [(index0 t).2]; omega

/-- A grid point's block of the second argument. -/
theorem blk1 (t : Fin cfg0.N) (z : Fin 1) (k : Fin 2048) (f : Fin 1280) : (iblk m c 1 t : Vec Ideal S1x2048x1280 .bf16) (ix3 z k f) = A1 m c (ix3 ⟨(col t f).val / 1280, by omega⟩ k ⟨(col t f).val % 1280, by omega⟩) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = (t.val % 4 * 1280 + f.val) / 1280; rw [(index1 t).1]; omega
  | ⟨1, _⟩ => show win0_1.index t 1 * 2048 + 1 * k.val = k.val; rw [(index1 t).2.1]; omega
  | ⟨2, _⟩ => show win0_1.index t 2 * 1280 + 1 * f.val = (t.val % 4 * 1280 + f.val) % 1280; rw [(index1 t).2.2]; omega

/-- What a grid point leaves in its tile. -/
theorem tile (t : Fin cfg0.N) (r : Fin 1024) (f : Fin 1280) :
    out0_2 (F := Ideal) (iblk m c 0 t) (iblk m c 1 t) (ix2 r f) = entry (A0 m c) (A1 m c) (row t r) (col t f) := by
  unfold out0_2
  rw [View.canon_unit_zero offsets2]
  simp only [View.ld_unit_zero (S := S1024x2048) offsets2, View.ld_unit_zero (S := S1x2048x1280) offsets3]
  unfold k0_pay1 entry
  pointwise
  simp only [blk0, blk1]

/-- The result is the product. -/
theorem final : (dats m 0 c).arrAt 2 cfg0.N = arr2 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr2 (entry (A0 m c) (A1 m c)) _
    have key : ∀ j : S1024x1280.Idx, out0_2 (F := Ideal) (iblk m c 0 t) (iblk m c 1 t) j = entry (A0 m c) (A1 m c) (row t (j 0)) (col t (j 1)) := fun j => by
      conv_lhs => rw [eq_ix2 j]
      exact tile m c t _ _
    refine (key j).trans (entry_arr2 _ _ _ _ ?_ ?_)
    · show t.val / 4 * 1024 + (j 0).val = win0_2.index t 0 * 1024 + 1 * (j 0).val
      rw [(index2 t).1]; omega
    · show t.val % 4 * 1280 + (j 1).val = win0_2.index t 1 * 1280 + 1 * (j 1).val
      rw [(index2 t).2]; omega
  · have h0 : (i 0 : Nat) < 2048 := (i 0).isLt
    have h1 : (i 1 : Nat) < 5120 := (i 1).isLt
    have hlt : 4 * ((i 0 : Nat) / 1024) + (i 1 : Nat) / 1280 < cfg0.N := by show _ < 8; omega
    refine ⟨⟨4 * ((i 0 : Nat) / 1024) + (i 1 : Nat) / 1280, hlt⟩, flush0_2 _, ?_⟩
    generalize ht : (⟨4 * ((i 0 : Nat) / 1024) + (i 1 : Nat) / 1280, hlt⟩ : Fin cfg0.N) = t
    have hv : t.val = 4 * ((i 0 : Nat) / 1024) + (i 1 : Nat) / 1280 := by rw [← ht]
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1]; omega
    | ⟨1, _⟩ => show win0_2.index t 1 * 1280 ≤ (i 1 : Nat) ∧ (i 1 : Nat) < win0_2.index t 1 * 1280 + 1280
                rw [(index2 t).2]; omega

end Kern

section Ref
open Cert.Reference8Ideal Cert.Reference8Ideal.Gen Cert.Reference8Ideal.Read

/-- The reference's result is the product. -/
theorem ref (x0 : Arr2 2048 2048) (x1 : Arr3 4 2048 1280) : val_main_v6 (F := Ideal) x0 x1 = arr2 (entry x0 x1) :=
  eq_arr2 _ _ fun r f => by
    unfold val_main_v6 val_main_v5 val_main_v4 val_main_v3 val_main_v2 val_main_v1 val_main_v0 entry
    pointwise

/-- The reference runs, its arguments end unchanged, and no signal is left. -/
theorem refFrame : Cert.quiescent_Reference8Ideal := fun m ρ _ =>
  (θ_run defs _ _).mono (fun r h => ⟨fun c => (h c).2, Idealize.ShloMosaic.sem_eq_zero_of_no_sems (by decide) r.2⟩)
    (Cert.Reference8Ideal.Value.run (F := Ideal) m ρ)

end Ref

/-- Kernel and reference end with the same array, whatever the arguments hold. -/
theorem algebraic : Cert.algebraic_Kernel8Ideal_Reference8Ideal := by
  intro m g m' g' _ hargs
  refine ⟨fun c => arr2 (entry (A0 m c) (A1 m c)), ?_, ?_⟩
  · exact (θ_run Cert.Kernel8Ideal.defs _ _).mono (fun r h c => ⟨(h c).1.trans (final m c), (h c).2⟩) (Cert.Kernel8Ideal.Value.run_blocks m g)
  · refine (θ_run Cert.Reference8Ideal.defs _ _).mono (fun r h c => ⟨(h c).1.trans ?_, (h c).2⟩) (Cert.Reference8Ideal.Value.run (F := Ideal) m' g')
    obtain ⟨e0, e1⟩ := hargs c
    rw [Cert.Reference8Ideal.Read.val_main_v6_eq, e0, e1]; exact ref _ _

end Cert.AIn

end
-- ==== Proof.AOut.lean ====
/- The output projection of an attention layer: the kernel's tiles of the product make the reference's product. -/
module

public import proofs.«01_k».proof.Defs
public import proofs.«01_k».proof.Proof.Prod
public import proofs.«01_k».proof.Proof.Gen.Kernel9Ideal.Value
public import proofs.«01_k».proof.Proof.Gen.Reference9Ideal.Read

@[expose] public section

set_option maxRecDepth 16384

noncomputable section

namespace Cert.AOut

open Idealize.ShloMosaic Idealize.ShloMosaic.TcCoe Idealize.SL.Sem Cert.Prod

/-- One entry: a row of the first argument times a column of the second, added to the third. -/
def entry (x0 : Arr2 2048 1024) (x1 : Arr3 4 1024 512) (x2 : Arr2 2048 2048) (r : Fin 2048) (f : Fin 2048) : EReal :=
  x2 (ix2 r f) + ∑ k : Fin 1024, x0 (ix2 r k) * x1 (ix3 ⟨f.val / 512, by omega⟩ k ⟨f.val % 512, by omega⟩)

section Kern
open Cert.Kernel9Ideal Cert.Kernel9Ideal.Gen Cert.Kernel9Ideal.Value Idealize.ShloMosaic.Pipeline

variable (m : (ℓ : Loc nD τ sig) → Buf (Elt Ideal) ℓ) (c : Dev nD)

/-- The first argument on a device. -/
abbrev A0 : Arr2 2048 1024 := m ((c.tc : Thread nD τ).loc main_arg0)
/-- The second argument on a device. -/
abbrev A1 : Arr3 4 1024 512 := m ((c.tc : Thread nD τ).loc main_arg1)
/-- The third argument on a device. -/
abbrev A2 : Arr2 2048 2048 := m ((c.tc : Thread nD τ).loc main_arg2)

theorem index0 : ∀ t : Fin cfg0.N, win0_0.index t 0 = t.val / 4 ∧ win0_0.index t 1 = 0 :=
  (by decide +kernel : ∀ t : Fin grid0.N, _)
theorem index1 : ∀ t : Fin cfg0.N, win0_1.index t 0 = t.val % 4 ∧ win0_1.index t 1 = 0 ∧ win0_1.index t 2 = 0 :=
  (by decide +kernel : ∀ t : Fin grid0.N, _)
theorem index2 : ∀ t : Fin cfg0.N, win0_2.index t 0 = t.val / 4 ∧ win0_2.index t 1 = t.val % 4 :=
  (by decide +kernel : ∀ t : Fin grid0.N, _)
theorem index3 : ∀ t : Fin cfg0.N, win0_3.index t 0 = t.val / 4 ∧ win0_3.index t 1 = t.val % 4 :=
  (by decide +kernel : ∀ t : Fin grid0.N, _)

/-- The row of the whole result that a row of a grid point's tile is. -/
def row (t : Fin cfg0.N) (r : Fin 1024) : Fin 2048 := ⟨t.val / 4 * 1024 + r.val, by have : t.val < 8 := t.isLt; omega⟩
/-- The column of the whole result that a column of a grid point's tile is. -/
def col (t : Fin cfg0.N) (f : Fin 512) : Fin 2048 := ⟨t.val % 4 * 512 + f.val, by have : t.val < 8 := t.isLt; omega⟩

/-- A grid point's block of the first argument. -/
theorem blk0 (t : Fin cfg0.N) (r : Fin 1024) (k : Fin 1024) : (iblk m c 0 t : Vec Ideal S1024x1024 .bf16) (ix2 r k) = A0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 4 * 1024 + r.val; rw [(index0 t).1]; omega
  | ⟨1, _⟩ => show win0_0.index t 1 * 1024 + 1 * k.val = k.val; rw [(index0 t).2]; omega

/-- A grid point's block of the second argument. -/
theorem blk1 (t : Fin cfg0.N) (z : Fin 1) (k : Fin 1024) (f : Fin 512) : (iblk m c 1 t : Vec Ideal S1x1024x512 .bf16) (ix3 z k f) = A1 m c (ix3 ⟨(col t f).val / 512, by omega⟩ k ⟨(col t f).val % 512, by omega⟩) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = (t.val % 4 * 512 + f.val) / 512; rw [(index1 t).1]; omega
  | ⟨1, _⟩ => show win0_1.index t 1 * 1024 + 1 * k.val = k.val; rw [(index1 t).2.1]; omega
  | ⟨2, _⟩ => show win0_1.index t 2 * 512 + 1 * f.val = (t.val % 4 * 512 + f.val) % 512; rw [(index1 t).2.2]; omega

/-- A grid point's block of the third argument. -/
theorem blk2 (t : Fin cfg0.N) (r : Fin 1024) (f : Fin 512) : (iblk m c 2 t : Vec Ideal S1024x512 .f32) (ix2 r f) = A2 m c (ix2 (row t r) (col t f)) := by
  unfold iblk
  rw [View.read_apply]
  show V m c main_arg2 _ = m (c.tc.loc main_arg2) _
  unfold V
  congr 1
  funext a
  apply Fin.ext
  match a with
  | ⟨0, _⟩ => show win0_2.index t 0 * 1024 + 1 * r.val = t.val / 4 * 1024 + r.val; rw [(index2 t).1]; omega
  | ⟨1, _⟩ => show win0_2.index t 1 * 512 + 1 * f.val = t.val % 4 * 512 + f.val; rw [(index2 t).2]; omega

/-- What a grid point leaves in its tile. -/
theorem tile (t : Fin cfg0.N) (r : Fin 1024) (f : Fin 512) :
    out0_3 (F := Ideal) (iblk m c 0 t) (iblk m c 1 t) (iblk m c 2 t) (ix2 r f) = entry (A0 m c) (A1 m c) (A2 m c) (row t r) (col t f) := by
  unfold out0_3
  rw [View.canon_unit_zero offsets2]
  simp only [View.ld_unit_zero (S := S1024x1024) offsets2, View.ld_unit_zero (S := S1024x512) offsets2, View.ld_unit_zero (S := S1x1024x512) offsets3]
  unfold k0_pay1 entry
  pointwise
  simp only [blk0, blk1, blk2]
  rw [add_comm]

/-- The result is the product. -/
theorem final : (dats m 0 c).arrAt 3 cfg0.N = arr2 (entry (A0 m c) (A1 m c) (A2 m c)) := by
  refine (dats m 0 c).arrAt_eq_of_cover 3 _ (fun t _ => ?_) fun i => ?_
  · rw [flushed3]
    funext j
    rw [View.read_apply]
    show out0_3 (F := Ideal) (iblk m c 0 t) (iblk m c 1 t) (iblk m c 2 t) j = arr2 (entry (A0 m c) (A1 m c) (A2 m c)) _
    have key : ∀ j : S1024x512.Idx, out0_3 (F := Ideal) (iblk m c 0 t) (iblk m c 1 t) (iblk m c 2 t) j = entry (A0 m c) (A1 m c) (A2 m c) (row t (j 0)) (col t (j 1)) := fun j => by
      conv_lhs => rw [eq_ix2 j]
      exact tile m c t _ _
    refine (key j).trans (entry_arr2 _ _ _ _ ?_ ?_)
    · show t.val / 4 * 1024 + (j 0).val = win0_3.index t 0 * 1024 + 1 * (j 0).val
      rw [(index3 t).1]; omega
    · show t.val % 4 * 512 + (j 1).val = win0_3.index t 1 * 512 + 1 * (j 1).val
      rw [(index3 t).2]; omega
  · have h0 : (i 0 : Nat) < 2048 := (i 0).isLt
    have h1 : (i 1 : Nat) < 2048 := (i 1).isLt
    have hlt : 4 * ((i 0 : Nat) / 1024) + (i 1 : Nat) / 512 < cfg0.N := by show _ < 8; omega
    refine ⟨⟨4 * ((i 0 : Nat) / 1024) + (i 1 : Nat) / 512, hlt⟩, flush0_3 _, ?_⟩
    generalize ht : (⟨4 * ((i 0 : Nat) / 1024) + (i 1 : Nat) / 512, hlt⟩ : Fin cfg0.N) = t
    have hv : t.val = 4 * ((i 0 : Nat) / 1024) + (i 1 : Nat) / 512 := by rw [← ht]
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index3 t).1]; omega
    | ⟨1, _⟩ => show win0_3.index t 1 * 512 ≤ (i 1 : Nat) ∧ (i 1 : Nat) < win0_3.index t 1 * 512 + 512
                rw [(index3 t).2]; omega

end Kern

section Ref
open Cert.Reference9Ideal Cert.Reference9Ideal.Gen Cert.Reference9Ideal.Read

/-- The reference's result is the product. -/
theorem ref (x0 : Arr2 2048 1024) (x1 : Arr3 4 1024 512) (x2 : Arr2 2048 2048) : val_main_v8 (F := Ideal) x0 x1 x2 = arr2 (entry x0 x1 x2) :=
  eq_arr2 _ _ fun r f => by
    unfold val_main_v8 val_main_v7 val_main_v6 val_main_v5 val_main_v4 val_main_v3 val_main_v2 val_main_v1 val_main_v0 entry
    pointwise

/-- The reference runs, its arguments end unchanged, and no signal is left. -/
theorem refFrame : Cert.quiescent_Reference9Ideal := fun m ρ _ =>
  (θ_run defs _ _).mono (fun r h => ⟨fun c => (h c).2, Idealize.ShloMosaic.sem_eq_zero_of_no_sems (by decide) r.2⟩)
    (Cert.Reference9Ideal.Value.run (F := Ideal) m ρ)

end Ref

/-- Kernel and reference end with the same array, whatever the arguments hold. -/
theorem algebraic : Cert.algebraic_Kernel9Ideal_Reference9Ideal := by
  intro m g m' g' _ hargs
  refine ⟨fun c => arr2 (entry (A0 m c) (A1 m c) (A2 m c)), ?_, ?_⟩
  · exact (θ_run Cert.Kernel9Ideal.defs _ _).mono (fun r h c => ⟨(h c).1.trans (final m c), (h c).2⟩) (Cert.Kernel9Ideal.Value.run_blocks m g)
  · refine (θ_run Cert.Reference9Ideal.defs _ _).mono (fun r h c => ⟨(h c).1.trans ?_, (h c).2⟩) (Cert.Reference9Ideal.Value.run (F := Ideal) m' g')
    obtain ⟨e0, e1, e2⟩ := hargs c
    rw [Cert.Reference9Ideal.Read.val_main_v8_eq, e0, e1, e2]; exact ref _ _ _

end Cert.AOut

end
-- ==== Proof.ADCat.lean ====
/- The cotangent of the mixed rows of an attention layer: the kernel's tiles of the product make the reference's product. -/
module

public import proofs.«01_k».proof.Defs
public import proofs.«01_k».proof.Proof.Prod
public import proofs.«01_k».proof.Proof.Gen.Kernel10Ideal.Value
public import proofs.«01_k».proof.Proof.Gen.Reference10Ideal.Read

@[expose] public section

set_option maxRecDepth 16384

noncomputable section

namespace Cert.ADCat

open Idealize.ShloMosaic Idealize.ShloMosaic.TcCoe Idealize.SL.Sem Cert.Prod

/-- One term of an entry. -/
def term (x0 : Arr2 2048 2048) (x1 : Arr3 4 1024 512) (r : Fin 2048) (f : Fin 1024) (k : Fin 2048) : EReal := x0 (ix2 r k) * x1 (ix3 ⟨k.val / 512, by omega⟩ f ⟨k.val % 512, by omega⟩)

/-- One entry: a row of the first argument times a row of the second. -/
def entry (x0 : Arr2 2048 2048) (x1 : Arr3 4 1024 512) (r : Fin 2048) (f : Fin 1024) : EReal :=
  ∑ k : Fin 2048, term x0 x1 r f k

section Kern
open Cert.Kernel10Ideal Cert.Kernel10Ideal.Gen Cert.Kernel10Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr3 4 1024 512 := m ((c.tc : Thread nD τ).loc main_arg1)

theorem index0 : ∀ t : Fin cfg0.N, win0_0.index t 0 = t.val / 4 ∧ win0_0.index t 1 = t.val % 4 :=
  (by decide +kernel : ∀ t : Fin grid0.N, _)
theorem index1 : ∀ t : Fin cfg0.N, win0_1.index t 0 = t.val % 4 ∧ win0_1.index t 1 = 0 ∧ win0_1.index t 2 = 0 :=
  (by decide +kernel : ∀ t : Fin grid0.N, _)
theorem index2 : ∀ t : Fin cfg0.N, win0_2.index t 0 = t.val / 4 ∧ win0_2.index t 1 = 0 :=
  (by decide +kernel : ∀ t : Fin grid0.N, _)

/-- The row of the whole result that a row of a grid point's tile is. -/
def row (t : Fin cfg0.N) (r : Fin 1024) : Fin 2048 := ⟨t.val / 4 * 1024 + r.val, by have : t.val < 8 := t.isLt; omega⟩
/-- The column of the whole result that a column of a grid point's tile is. -/
def col (t : Fin cfg0.N) (f : Fin 1024) : Fin 1024 := ⟨f.val, by have : t.val < 8 := t.isLt; omega⟩
/-- The place in the whole sum that a place of a grid point's part of it is. -/
def kk (t : Fin cfg0.N) (k : Fin 512) : Fin 2048 := ⟨t.val % 4 * 512 + k.val, by have : t.val < 8 := t.isLt; omega⟩

/-- A grid point's block of the first argument. -/
theorem blk0 (t : Fin cfg0.N) (r : Fin 1024) (k : Fin 512) : (iblk m c 0 t : Vec Ideal S1024x512 .bf16) (ix2 r k) = A0 m c (ix2 (row t r) (kk t k)) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 4 * 1024 + r.val; rw [(index0 t).1]; omega
  | ⟨1, _⟩ => show win0_0.index t 1 * 512 + 1 * k.val = (t.val % 4 * 512 + k.val); rw [(index0 t).2]; omega

/-- A grid point's block of the second argument. -/
theorem blk1 (t : Fin cfg0.N) (z : Fin 1) (f : Fin 1024) (k : Fin 512) : (iblk m c 1 t : Vec Ideal S1x1024x512 .bf16) (ix3 z f k) = A1 m c (ix3 ⟨(kk t k).val / 512, by omega⟩ (col t f) ⟨(kk t k).val % 512, by omega⟩) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = (t.val % 4 * 512 + k.val) / 512; rw [(index1 t).1]; omega
  | ⟨1, _⟩ => show win0_1.index t 1 * 1024 + 1 * f.val = f.val; rw [(index1 t).2.1]; omega
  | ⟨2, _⟩ => show win0_1.index t 2 * 512 + 1 * k.val = (t.val % 4 * 512 + k.val) % 512; rw [(index1 t).2.2]; omega

section Case
variable {F : FTy → Type} [FloatOps F] (i : grid0.Coords) (arg3 : Memref sig .tc .vmem S1024x512 .bf16) (harg3 : arg3.IsWhole) (arg4 : Memref sig .tc .vmem S1x1024x512 .bf16) (harg4 : arg4.IsWhole) (arg5 : Memref sig .tc .vmem S1024x1024 .f32) (harg5 : arg5.IsWhole) (arg6 : Memref sig .tc .vmem S1024x1024 .f32) (harg6 : arg6.IsWhole)
variable (x0 : Vec F S1024x512 .bf16) (x1 : Vec F S1x1024x512 .bf16) (xs0 : Vec F S1024x1024 .f32)

/-- The first part of the sum leaves this in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x512) offsets2, View.ld_unit_zero (S := S1x1024x512) offsets3]

/-- A later part of the sum leaves this in the scratch. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x512) offsets2, View.ld_unit_zero (S := S1x1024x512) offsets3]

/-- A later part of the sum leaves this in the scratch. -/
theorem sout_C (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x512) offsets2, View.ld_unit_zero (S := S1x1024x512) offsets3]

/-- The last part of the sum leaves this in the output. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay3 x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x512) offsets2, View.ld_unit_zero (S := S1x1024x512) offsets3, View.readCov_cons_toLoadRect]

end Case

/-- What a grid point adds to the sum. -/
theorem part (t : Fin cfg0.N) (r : Fin 1024) (f : Fin 1024) :
    k0_pay1 (F := Ideal) (iblk m c 0 t) (iblk m c 1 t) (ix2 r f) = ∑ k ∈ Finset.range 512, ext (term (A0 m c) (A1 m c) (row t r) (col t f)) (t.val % 4 * 512 + k) := by
  rw [← part_range (term (A0 m c) (A1 m c) (row t r) (col t f)) (kk t) (t.val % 4 * 512) fun _ => rfl]
  unfold k0_pay1 term
  pointwise
  simp only [blk0, blk1]

/-- What a grid point leaves in the scratch at the start of a sum. -/
theorem first (t : Fin cfg0.N) (r : Fin 1024) (f : Fin 1024) :
    k0_pay2 (F := Ideal) (iblk m c 0 t) (iblk m c 1 t) (ix2 r f) = ∑ k ∈ Finset.range 512, ext (term (A0 m c) (A1 m c) (row t r) (col t f)) (t.val % 4 * 512 + k) := by
  unfold k0_pay2
  rw [shapeCast_self, part]

/-- What a grid point leaves in the scratch further on. -/
theorem next (t : Fin cfg0.N) (r : Fin 1024) (f : Fin 1024) (x : Vec Ideal S1024x1024 .f32) :
    k0_pay3 (F := Ideal) (iblk m c 0 t) (iblk m c 1 t) x (ix2 r f) = x (ix2 r f) + ∑ k ∈ Finset.range 512, ext (term (A0 m c) (A1 m c) (row t r) (col t f)) (t.val % 4 * 512 + k) := by
  unfold k0_pay3
  rw [shapeCast_self]
  show _ + k0_pay1 (F := Ideal) (iblk m c 0 t) (iblk m c 1 t) (ix2 r f) = _
  rw [part]

/-- After each grid point the scratch holds the sum so far. -/
theorem sofar : ∀ (n : ℕ) (hn : n < cfg0.N) (r : Fin 1024) (f : Fin 1024),
    (outsAt0 m c n hn).2 (ix2 r f) = ∑ k ∈ Finset.range (512 * (n % 4 + 1)), ext (term (A0 m c) (A1 m c) (row ⟨n, hn⟩ r) (col ⟨n, hn⟩ f)) k := by
  intro n
  induction n with
  | zero =>
    intro hn r f
    rw [outsAt0_A m c ⟨0, hn⟩ rfl (by simp) (by simp)]
    dsimp only
    rw [sout_A, first]
    simp
  | succ n ih =>
    intro hn r f
    have hN : n + 1 < 8 := hn
    by_cases h0 : (n + 1) % 4 = 0
    · rw [outsAt0_A m c ⟨n + 1, hn⟩ h0 (by simp only; omega) (by simp only; omega)]
      dsimp only
      rw [sout_A, first]
      simp [h0]
    · have hp := ih (Nat.lt_of_succ_lt hn) r f
      have hs : 512 * ((n + 1) % 4 + 1) = 512 * (n % 4 + 1) + 512 := by omega
      have ho : (n + 1) % 4 * 512 = 512 * (n % 4 + 1) := by omega
      have hr : row ⟨n + 1, hn⟩ r = row ⟨n, Nat.lt_of_succ_lt hn⟩ r := Fin.ext (by show (n + 1) / 4 * 1024 + r.val = n / 4 * 1024 + r.val; omega)
      have hc : col ⟨n + 1, hn⟩ f = col ⟨n, Nat.lt_of_succ_lt hn⟩ f := rfl
      have hx : (outsAt0 m c (n + 1) hn).2 (ix2 r f)
          = (outsAt0 m c n (Nat.lt_of_succ_lt hn)).2 (ix2 r f) + ∑ k ∈ Finset.range 512, ext (term (A0 m c) (A1 m c) (row ⟨n + 1, hn⟩ r) (col ⟨n + 1, hn⟩ f)) ((n + 1) % 4 * 512 + k) := by
        by_cases h2 : (n + 1) % 4 = 3
        · rw [outsAt0_C m c ⟨n + 1, hn⟩ h0 (by simp only; omega) h2]
          dsimp only
          rw [sout_C, next]
          rfl
        · rw [outsAt0_B m c ⟨n + 1, hn⟩ h0 (by simp only; omega) h2]
          dsimp only
          rw [sout_B, next]
          rfl
      rw [hx, hs, Finset.sum_range_add, hr, hc, ← hp, ho]

/-- After the last part of a sum the output holds the entry. -/
theorem done (t : Fin cfg0.N) (h : t.val % 4 = 3) (r : Fin 1024) (f : Fin 1024) :
    (outsAt0 m c t.val t.isLt).1 (ix2 r f) = entry (A0 m c) (A1 m c) (row t r) (col t f) := by
  have hs := sofar m c t.val t.isLt r f
  rw [outsAt0_C m c t (by omega) (by omega) h] at hs ⊢
  dsimp only at hs ⊢
  rw [sout_C, h] at hs
  rw [out_C]
  rw [hs]
  unfold entry
  rw [sum_ext]

/-- The result is the product. -/
theorem final : (dats m 0 c).arrAt 2 cfg0.N = arr2 (entry (A0 m c) (A1 m c)) := by
  refine (dats m 0 c).arrAt_eq_of_cover 2 _ (fun t hf => ?_) fun i => ?_
  · rw [flushed2]
    funext j
    rw [View.read_apply]
    show (outsAt0 m c t.val t.isLt).1 j = arr2 (entry (A0 m c) (A1 m c)) _
    have key : ∀ j : S1024x1024.Idx, (outsAt0 m c t.val t.isLt).1 j = entry (A0 m c) (A1 m c) (row t (j 0)) (col t (j 1)) := fun j => by
      conv_lhs => rw [eq_ix2 j]
      exact done m c t ((flush0_2 t).mp hf) _ _
    refine (key j).trans (entry_arr2 _ _ _ _ ?_ ?_)
    · show t.val / 4 * 1024 + (j 0).val = win0_2.index t 0 * 1024 + 1 * (j 0).val
      rw [(index2 t).1]; omega
    · show (j 1).val = win0_2.index t 1 * 1024 + 1 * (j 1).val
      rw [(index2 t).2]; omega
  · have h0 : (i 0 : Nat) < 2048 := (i 0).isLt
    have h1 : (i 1 : Nat) < 1024 := (i 1).isLt
    have hlt : 4 * ((i 0 : Nat) / 1024) + 3 < cfg0.N := by show _ < 8; omega
    refine ⟨⟨4 * ((i 0 : Nat) / 1024) + 3, hlt⟩, (flush0_2 _).mpr (by show (4 * ((i 0 : Nat) / 1024) + 3) % 4 = 3; omega), ?_⟩
    generalize ht : (⟨4 * ((i 0 : Nat) / 1024) + 3, hlt⟩ : Fin cfg0.N) = t
    have hv : t.val = 4 * ((i 0 : Nat) / 1024) + 3 := by rw [← ht]
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1]; omega
    | ⟨1, _⟩ => show win0_2.index t 1 * 1024 ≤ (i 1 : Nat) ∧ (i 1 : Nat) < win0_2.index t 1 * 1024 + 1024
                rw [(index2 t).2]; omega

end Kern

section Ref
open Cert.Reference10Ideal Cert.Reference10Ideal.Gen Cert.Reference10Ideal.Read

/-- The reference's result is the product. -/
theorem ref (x0 : Arr2 2048 2048) (x1 : Arr3 4 1024 512) : val_main_v8 (F := Ideal) x0 x1 = arr2 (entry x0 x1) :=
  eq_arr2 _ _ fun r f => by
    unfold val_main_v8 val_main_v7 val_main_v6 val_main_v5 val_main_v2 val_main_v1 val_main_v0 entry term
    pointwise

/-- The reference runs, its arguments end unchanged, and no signal is left. -/
theorem refFrame : Cert.quiescent_Reference10Ideal := fun m ρ _ =>
  (θ_run defs _ _).mono (fun r h => ⟨fun c => (h c).2, Idealize.ShloMosaic.sem_eq_zero_of_no_sems (by decide) r.2⟩)
    (Cert.Reference10Ideal.Value.run (F := Ideal) m ρ)

end Ref

/-- Kernel and reference end with the same array, whatever the arguments hold. -/
theorem algebraic : Cert.algebraic_Kernel10Ideal_Reference10Ideal := by
  intro m g m' g' _ hargs
  refine ⟨fun c => arr2 (entry (A0 m c) (A1 m c)), ?_, ?_⟩
  · exact (θ_run Cert.Kernel10Ideal.defs _ _).mono (fun r h c => ⟨(h c).1.trans (final m c), (h c).2⟩) (Cert.Kernel10Ideal.Value.run_blocks m g)
  · refine (θ_run Cert.Reference10Ideal.defs _ _).mono (fun r h c => ⟨(h c).1.trans ?_, (h c).2⟩) (Cert.Reference10Ideal.Value.run (F := Ideal) m' g')
    obtain ⟨e0, e1⟩ := hargs c
    rw [Cert.Reference10Ideal.Read.val_main_v8_eq, e0, e1]; exact ref _ _

end Cert.ADCat

end
-- ==== Proof.ADWout.lean ====
/- The gradient of the output projection of an attention layer: the kernel's tiles of the product make the reference's product. -/
module

public import proofs.«01_k».proof.Defs
public import proofs.«01_k».proof.Proof.Prod
public import proofs.«01_k».proof.Proof.Gen.Kernel11Ideal.Value
public import proofs.«01_k».proof.Proof.Gen.Reference11Ideal.Read

@[expose] public section

set_option maxRecDepth 16384

noncomputable section

namespace Cert.ADWout

open Idealize.ShloMosaic Idealize.ShloMosaic.TcCoe Idealize.SL.Sem Cert.Prod

/-- One entry: a column of the first argument times a column of the second. -/
def entry (x0 : Arr2 2048 1024) (x1 : Arr2 2048 2048) (s : Fin 4) (f : Fin 1024) (d : Fin 512) : EReal :=
  ∑ k : Fin 2048, x0 (ix2 k f) * x1 (ix2 k ⟨s.val * 512 + d.val, by omega⟩)

section Kern
open Cert.Kernel11Ideal Cert.Kernel11Ideal.Gen Cert.Kernel11Ideal.Value Idealize.ShloMosaic.Pipeline

variable (m : (ℓ : Loc nD τ sig) → Buf (Elt Ideal) ℓ) (c : Dev nD)

/-- The first argument on a device. -/
abbrev A0 : Arr2 2048 1024 := m ((c.tc : Thread nD τ).loc main_arg0)
/-- The second argument on a device. -/
abbrev A1 : Arr2 2048 2048 := m ((c.tc : Thread nD τ).loc main_arg1)

theorem index0 : ∀ t : Fin cfg0.N, win0_0.index t 0 = 0 ∧ win0_0.index t 1 = 0 :=
  (by decide +kernel : ∀ t : Fin grid0.N, _)
theorem index1 : ∀ t : Fin cfg0.N, win0_1.index t 0 = 0 ∧ win0_1.index t 1 = t.val % 4 :=
  (by decide +kernel : ∀ t : Fin grid0.N, _)
theorem index2 : ∀ t : Fin cfg0.N, win0_2.index t 0 = t.val % 4 ∧ win0_2.index t 1 = 0 ∧ win0_2.index t 2 = 0 :=
  (by decide +kernel : ∀ t : Fin grid0.N, _)

/-- The shard of the result that a grid point's tile is in. -/
def shard (t : Fin cfg0.N) : Fin 4 := ⟨t.val % 4, by have : t.val < 4 := t.isLt; omega⟩
/-- The row of the whole result that a row of a grid point's tile is. -/
def row (t : Fin cfg0.N) (f : Fin 1024) : Fin 1024 := ⟨f.val, by have : t.val < 4 := t.isLt; omega⟩
/-- The column of the whole result that a column of a grid point's tile is. -/
def col (t : Fin cfg0.N) (d : Fin 512) : Fin 512 := ⟨d.val, by have : t.val < 4 := t.isLt; omega⟩

/-- A grid point's block of the first argument. -/
theorem blk0 (t : Fin cfg0.N) (k : Fin 2048) (f : Fin 1024) : (iblk m c 0 t : Vec Ideal S2048x1024 .bf16) (ix2 k f) = A0 m c (ix2 k (row t f)) := by
  unfold iblk
  rw [View.read_apply]
  show V m c main_arg0 _ = m (c.tc.loc main_arg0) _
  unfold V
  congr 1
  funext a
  apply Fin.ext
  match a with
  | ⟨0, _⟩ => show win0_0.index t 0 * 2048 + 1 * k.val = k.val; rw [(index0 t).1]; omega
  | ⟨1, _⟩ => show win0_0.index t 1 * 1024 + 1 * f.val = f.val; rw [(index0 t).2]; omega

/-- A grid point's block of the second argument. -/
theorem blk1 (t : Fin cfg0.N) (k : Fin 2048) (d : Fin 512) : (iblk m c 1 t : Vec Ideal S2048x512 .bf16) (ix2 k d) = A1 m c (ix2 k ⟨(shard t).val * 512 + (col t d).val, by omega⟩) := by
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [(index1 t).1]; omega
  | ⟨1, _⟩ => show win0_1.index t 1 * 512 + 1 * d.val = (t.val % 4) * 512 + (d.val); rw [(index1 t).2]; omega

/-- What a grid point leaves in its tile. -/
theorem tile (t : Fin cfg0.N) (z : Fin 1) (f : Fin 1024) (d : Fin 512) :
    out0_2 (F := Ideal) (iblk m c 0 t) (iblk m c 1 t) (ix3 z f d) = entry (A0 m c) (A1 m c) (shard t) (row t f) (col t d) := by
  unfold out0_2
  rw [View.canon_unit_zero offsets3]
  simp only [View.ld_unit_zero (S := S2048x1024) offsets2, View.ld_unit_zero (S := S2048x512) offsets2]
  unfold k0_pay1 entry
  pointwise
  simp only [blk0, blk1]

/-- The result is the product. -/
theorem final : (dats m 0 c).arrAt 2 cfg0.N = arr3 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr3 (entry (A0 m c) (A1 m c)) _
    have key : ∀ j : S1x1024x512.Idx, out0_2 (F := Ideal) (iblk m c 0 t) (iblk m c 1 t) j = entry (A0 m c) (A1 m c) (shard t) (row t (j 1)) (col t (j 2)) := fun j => by
      conv_lhs => rw [eq_ix3 j]
      exact tile m c t _ _ _
    refine (key j).trans (entry_arr3 _ _ _ _ _ ?_ ?_ ?_)
    · have hz : (j 0).val < 1 := (j 0).isLt
      show t.val % 4 = win0_2.index t 0 * 1 + 1 * (j 0).val
      rw [(index2 t).1]; omega
    · show (j 1).val = win0_2.index t 1 * 1024 + 1 * (j 1).val
      rw [(index2 t).2.1]; omega
    · show (j 2).val = win0_2.index t 2 * 512 + 1 * (j 2).val
      rw [(index2 t).2.2]; omega
  · have h0 : (i 0 : Nat) < 4 := (i 0).isLt
    have h1 : (i 1 : Nat) < 1024 := (i 1).isLt
    have h2 : (i 2 : Nat) < 512 := (i 2).isLt
    have hlt : (i 0 : Nat) < cfg0.N := by show _ < 4; omega
    refine ⟨⟨(i 0 : Nat), hlt⟩, flush0_2 _, ?_⟩
    generalize ht : (⟨(i 0 : Nat), hlt⟩ : Fin cfg0.N) = t
    have hv : t.val = (i 0 : Nat) := by rw [← ht]
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(index2 t).1]; omega
    | ⟨1, _⟩ => show win0_2.index t 1 * 1024 ≤ (i 1 : Nat) ∧ (i 1 : Nat) < win0_2.index t 1 * 1024 + 1024
                rw [(index2 t).2.1]; omega
    | ⟨2, _⟩ => show win0_2.index t 2 * 512 ≤ (i 2 : Nat) ∧ (i 2 : Nat) < win0_2.index t 2 * 512 + 512
                rw [(index2 t).2.2]; omega

end Kern

section Ref
open Cert.Reference11Ideal Cert.Reference11Ideal.Gen Cert.Reference11Ideal.Read

/-- The reference's result is the product. -/
theorem ref (x0 : Arr2 2048 1024) (x1 : Arr2 2048 2048) : val_main_v10 (F := Ideal) x0 x1 = arr3 (entry x0 x1) :=
  eq_arr3 _ _ fun s f d => by
    unfold val_main_v10 val_main_v9 val_main_v8 val_main_v7 val_main_v6 val_main_v5 val_main_v4 val_main_v2 val_main_v1 entry
    pointwise
    rw [Fin.sum_univ_one]
    exact Finset.sum_congr rfl fun k _ => mul_comm _ _

/-- The reference runs, its arguments end unchanged, and no signal is left. -/
theorem refFrame : Cert.quiescent_Reference11Ideal := fun m ρ _ =>
  (θ_run defs _ _).mono (fun r h => ⟨fun c => (h c).2, Idealize.ShloMosaic.sem_eq_zero_of_no_sems (by decide) r.2⟩)
    (Cert.Reference11Ideal.Value.run (F := Ideal) m ρ)

end Ref

/-- Kernel and reference end with the same array, whatever the arguments hold. -/
theorem algebraic : Cert.algebraic_Kernel11Ideal_Reference11Ideal := by
  intro m g m' g' _ hargs
  refine ⟨fun c => arr3 (entry (A0 m c) (A1 m c)), ?_, ?_⟩
  · exact (θ_run Cert.Kernel11Ideal.defs _ _).mono (fun r h c => ⟨(h c).1.trans (final m c), (h c).2⟩) (Cert.Kernel11Ideal.Value.run_blocks m g)
  · refine (θ_run Cert.Reference11Ideal.defs _ _).mono (fun r h c => ⟨(h c).1.trans ?_, (h c).2⟩) (Cert.Reference11Ideal.Value.run (F := Ideal) m' g')
    obtain ⟨e0, e1⟩ := hargs c
    rw [Cert.Reference11Ideal.Read.val_main_v10_eq, e0, e1]; exact ref _ _

end Cert.ADWout

end
-- ==== Proof.ADWin.lean ====
/- The gradient of the input projection of an attention layer: the kernel's tiles of the product make the reference's product. -/
module

public import proofs.«01_k».proof.Defs
public import proofs.«01_k».proof.Proof.Prod
public import proofs.«01_k».proof.Proof.Gen.Kernel12Ideal.Value
public import proofs.«01_k».proof.Proof.Gen.Reference12Ideal.Read

@[expose] public section

set_option maxRecDepth 16384

noncomputable section

namespace Cert.ADWin

open Idealize.ShloMosaic Idealize.ShloMosaic.TcCoe Idealize.SL.Sem Cert.Prod

/-- One entry: a column of the first argument times a column of the second. -/
def entry (x0 : Arr2 2048 2048) (x1 : Arr2 2048 5120) (s : Fin 4) (f : Fin 2048) (d : Fin 1280) : EReal :=
  ∑ k : Fin 2048, x0 (ix2 k f) * x1 (ix2 k ⟨s.val * 1280 + d.val, by omega⟩)

section Kern
open Cert.Kernel12Ideal Cert.Kernel12Ideal.Gen Cert.Kernel12Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr2 2048 5120 := m ((c.tc : Thread nD τ).loc main_arg1)

theorem index0 : ∀ t : Fin cfg0.N, win0_0.index t 0 = 0 ∧ win0_0.index t 1 = t.val / 4 :=
  (by decide +kernel : ∀ t : Fin grid0.N, _)
theorem index1 : ∀ t : Fin cfg0.N, win0_1.index t 0 = 0 ∧ win0_1.index t 1 = t.val % 4 :=
  (by decide +kernel : ∀ t : Fin grid0.N, _)
theorem index2 : ∀ t : Fin cfg0.N, win0_2.index t 0 = t.val % 4 ∧ win0_2.index t 1 = t.val / 4 ∧ win0_2.index t 2 = 0 :=
  (by decide +kernel : ∀ t : Fin grid0.N, _)

/-- The shard of the result that a grid point's tile is in. -/
def shard (t : Fin cfg0.N) : Fin 4 := ⟨t.val % 4, by have : t.val < 8 := t.isLt; omega⟩
/-- The row of the whole result that a row of a grid point's tile is. -/
def row (t : Fin cfg0.N) (f : Fin 1024) : Fin 2048 := ⟨t.val / 4 * 1024 + f.val, by have : t.val < 8 := t.isLt; omega⟩
/-- The column of the whole result that a column of a grid point's tile is. -/
def col (t : Fin cfg0.N) (d : Fin 1280) : Fin 1280 := ⟨d.val, by have : t.val < 8 := t.isLt; omega⟩

/-- A grid point's block of the first argument. -/
theorem blk0 (t : Fin cfg0.N) (k : Fin 2048) (f : Fin 1024) : (iblk m c 0 t : Vec Ideal S2048x1024 .bf16) (ix2 k f) = A0 m c (ix2 k (row t f)) := by
  unfold iblk
  rw [View.read_apply]
  show V m c main_arg0 _ = m (c.tc.loc main_arg0) _
  unfold V
  congr 1
  funext a
  apply Fin.ext
  match a with
  | ⟨0, _⟩ => show win0_0.index t 0 * 2048 + 1 * k.val = k.val; rw [(index0 t).1]; omega
  | ⟨1, _⟩ => show win0_0.index t 1 * 1024 + 1 * f.val = t.val / 4 * 1024 + f.val; rw [(index0 t).2]; omega

/-- A grid point's block of the second argument. -/
theorem blk1 (t : Fin cfg0.N) (k : Fin 2048) (d : Fin 1280) : (iblk m c 1 t : Vec Ideal S2048x1280 .bf16) (ix2 k d) = A1 m c (ix2 k ⟨(shard t).val * 1280 + (col t d).val, by omega⟩) := by
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [(index1 t).1]; omega
  | ⟨1, _⟩ => show win0_1.index t 1 * 1280 + 1 * d.val = (t.val % 4) * 1280 + (d.val); rw [(index1 t).2]; omega

/-- What a grid point leaves in its tile. -/
theorem tile (t : Fin cfg0.N) (z : Fin 1) (f : Fin 1024) (d : Fin 1280) :
    out0_2 (F := Ideal) (iblk m c 0 t) (iblk m c 1 t) (ix3 z f d) = entry (A0 m c) (A1 m c) (shard t) (row t f) (col t d) := by
  unfold out0_2
  rw [View.canon_unit_zero offsets3]
  simp only [View.ld_unit_zero (S := S2048x1024) offsets2, View.ld_unit_zero (S := S2048x1280) offsets2]
  unfold k0_pay1 entry
  pointwise
  simp only [blk0, blk1]

/-- The result is the product. -/
theorem final : (dats m 0 c).arrAt 2 cfg0.N = arr3 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr3 (entry (A0 m c) (A1 m c)) _
    have key : ∀ j : S1x1024x1280.Idx, out0_2 (F := Ideal) (iblk m c 0 t) (iblk m c 1 t) j = entry (A0 m c) (A1 m c) (shard t) (row t (j 1)) (col t (j 2)) := fun j => by
      conv_lhs => rw [eq_ix3 j]
      exact tile m c t _ _ _
    refine (key j).trans (entry_arr3 _ _ _ _ _ ?_ ?_ ?_)
    · have hz : (j 0).val < 1 := (j 0).isLt
      show t.val % 4 = win0_2.index t 0 * 1 + 1 * (j 0).val
      rw [(index2 t).1]; omega
    · show t.val / 4 * 1024 + (j 1).val = win0_2.index t 1 * 1024 + 1 * (j 1).val
      rw [(index2 t).2.1]; omega
    · show (j 2).val = win0_2.index t 2 * 1280 + 1 * (j 2).val
      rw [(index2 t).2.2]; omega
  · have h0 : (i 0 : Nat) < 4 := (i 0).isLt
    have h1 : (i 1 : Nat) < 2048 := (i 1).isLt
    have h2 : (i 2 : Nat) < 1280 := (i 2).isLt
    have hlt : 4 * ((i 1 : Nat) / 1024) + (i 0 : Nat) < cfg0.N := by show _ < 8; omega
    refine ⟨⟨4 * ((i 1 : Nat) / 1024) + (i 0 : Nat), hlt⟩, flush0_2 _, ?_⟩
    generalize ht : (⟨4 * ((i 1 : Nat) / 1024) + (i 0 : Nat), hlt⟩ : Fin cfg0.N) = t
    have hv : t.val = 4 * ((i 1 : Nat) / 1024) + (i 0 : Nat) := by rw [← ht]
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(index2 t).1]; omega
    | ⟨1, _⟩ => show win0_2.index t 1 * 1024 ≤ (i 1 : Nat) ∧ (i 1 : Nat) < win0_2.index t 1 * 1024 + 1024
                rw [(index2 t).2.1]; omega
    | ⟨2, _⟩ => show win0_2.index t 2 * 1280 ≤ (i 2 : Nat) ∧ (i 2 : Nat) < win0_2.index t 2 * 1280 + 1280
                rw [(index2 t).2.2]; omega

end Kern

section Ref
open Cert.Reference12Ideal Cert.Reference12Ideal.Gen Cert.Reference12Ideal.Read

/-- The reference's result is the product. -/
theorem ref (x0 : Arr2 2048 2048) (x1 : Arr2 2048 5120) : val_main_v10 (F := Ideal) x0 x1 = arr3 (entry x0 x1) :=
  eq_arr3 _ _ fun s f d => by
    unfold val_main_v10 val_main_v9 val_main_v8 val_main_v7 val_main_v6 val_main_v5 val_main_v4 val_main_v2 val_main_v1 entry
    pointwise
    rw [Fin.sum_univ_one]
    exact Finset.sum_congr rfl fun k _ => mul_comm _ _

/-- The reference runs, its arguments end unchanged, and no signal is left. -/
theorem refFrame : Cert.quiescent_Reference12Ideal := fun m ρ _ =>
  (θ_run defs _ _).mono (fun r h => ⟨fun c => (h c).2, Idealize.ShloMosaic.sem_eq_zero_of_no_sems (by decide) r.2⟩)
    (Cert.Reference12Ideal.Value.run (F := Ideal) m ρ)

end Ref

/-- Kernel and reference end with the same array, whatever the arguments hold. -/
theorem algebraic : Cert.algebraic_Kernel12Ideal_Reference12Ideal := by
  intro m g m' g' _ hargs
  refine ⟨fun c => arr3 (entry (A0 m c) (A1 m c)), ?_, ?_⟩
  · exact (θ_run Cert.Kernel12Ideal.defs _ _).mono (fun r h c => ⟨(h c).1.trans (final m c), (h c).2⟩) (Cert.Kernel12Ideal.Value.run_blocks m g)
  · refine (θ_run Cert.Reference12Ideal.defs _ _).mono (fun r h c => ⟨(h c).1.trans ?_, (h c).2⟩) (Cert.Reference12Ideal.Value.run (F := Ideal) m' g')
    obtain ⟨e0, e1⟩ := hargs c
    rw [Cert.Reference12Ideal.Read.val_main_v10_eq, e0, e1]; exact ref _ _

end Cert.ADWin

end
-- ==== Proof.ADH1.lean ====
/- The cotangent of the normed input of an attention layer: the kernel's tiles of the product make the reference's product. -/
module

public import proofs.«01_k».proof.Defs
public import proofs.«01_k».proof.Proof.Prod
public import proofs.«01_k».proof.Proof.Gen.Kernel13Ideal.Value
public import proofs.«01_k».proof.Proof.Gen.Reference13Ideal.Read

@[expose] public section

set_option maxRecDepth 16384

noncomputable section

namespace Cert.ADH1

open Idealize.ShloMosaic Idealize.ShloMosaic.TcCoe Idealize.SL.Sem Cert.Prod

/-- One term of an entry. -/
def term (x0 : Arr2 2048 5120) (x1 : Arr3 4 2048 1280) (r : Fin 2048) (f : Fin 2048) (k : Fin 5120) : EReal := x0 (ix2 r k) * x1 (ix3 ⟨k.val / 1280, by omega⟩ f ⟨k.val % 1280, by omega⟩)

/-- One entry: a row of the first argument times a row of the second. -/
def entry (x0 : Arr2 2048 5120) (x1 : Arr3 4 2048 1280) (r : Fin 2048) (f : Fin 2048) : EReal :=
  ∑ k : Fin 5120, term x0 x1 r f k

section Kern
open Cert.Kernel13Ideal Cert.Kernel13Ideal.Gen Cert.Kernel13Ideal.Value Idealize.ShloMosaic.Pipeline

variable (m : (ℓ : Loc nD τ sig) → Buf (Elt Ideal) ℓ) (c : Dev nD)

/-- The first argument on a device. -/
abbrev A0 : Arr2 2048 5120 := m ((c.tc : Thread nD τ).loc main_arg0)
/-- The second argument on a device. -/
abbrev A1 : Arr3 4 2048 1280 := m ((c.tc : Thread nD τ).loc main_arg1)

theorem index0 : ∀ t : Fin cfg0.N, win0_0.index t 0 = t.val / 8 ∧ win0_0.index t 1 = t.val % 4 :=
  (by decide +kernel : ∀ t : Fin grid0.N, _)
theorem index1 : ∀ t : Fin cfg0.N, win0_1.index t 0 = t.val % 4 ∧ win0_1.index t 1 = t.val / 4 % 2 ∧ win0_1.index t 2 = 0 :=
  (by decide +kernel : ∀ t : Fin grid0.N, _)
theorem index2 : ∀ t : Fin cfg0.N, win0_2.index t 0 = t.val / 8 ∧ win0_2.index t 1 = t.val / 4 % 2 :=
  (by decide +kernel : ∀ t : Fin grid0.N, _)

/-- The row of the whole result that a row of a grid point's tile is. -/
def row (t : Fin cfg0.N) (r : Fin 1024) : Fin 2048 := ⟨t.val / 8 * 1024 + r.val, by have : t.val < 16 := t.isLt; omega⟩
/-- The column of the whole result that a column of a grid point's tile is. -/
def col (t : Fin cfg0.N) (f : Fin 1024) : Fin 2048 := ⟨t.val / 4 % 2 * 1024 + f.val, by have : t.val < 16 := t.isLt; omega⟩
/-- The place in the whole sum that a place of a grid point's part of it is. -/
def kk (t : Fin cfg0.N) (k : Fin 1280) : Fin 5120 := ⟨t.val % 4 * 1280 + k.val, by have : t.val < 16 := t.isLt; omega⟩

/-- A grid point's block of the first argument. -/
theorem blk0 (t : Fin cfg0.N) (r : Fin 1024) (k : Fin 1280) : (iblk m c 0 t : Vec Ideal S1024x1280 .bf16) (ix2 r k) = A0 m c (ix2 (row t r) (kk t k)) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 8 * 1024 + r.val; rw [(index0 t).1]; omega
  | ⟨1, _⟩ => show win0_0.index t 1 * 1280 + 1 * k.val = (t.val % 4 * 1280 + k.val); rw [(index0 t).2]; omega

/-- A grid point's block of the second argument. -/
theorem blk1 (t : Fin cfg0.N) (z : Fin 1) (f : Fin 1024) (k : Fin 1280) : (iblk m c 1 t : Vec Ideal S1x1024x1280 .bf16) (ix3 z f k) = A1 m c (ix3 ⟨(kk t k).val / 1280, by omega⟩ (col t f) ⟨(kk t k).val % 1280, by omega⟩) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = (t.val % 4 * 1280 + k.val) / 1280; rw [(index1 t).1]; omega
  | ⟨1, _⟩ => show win0_1.index t 1 * 1024 + 1 * f.val = t.val / 4 % 2 * 1024 + f.val; rw [(index1 t).2.1]; omega
  | ⟨2, _⟩ => show win0_1.index t 2 * 1280 + 1 * k.val = (t.val % 4 * 1280 + k.val) % 1280; rw [(index1 t).2.2]; omega

section Case
variable {F : FTy → Type} [FloatOps F] (i : grid0.Coords) (arg3 : Memref sig .tc .vmem S1024x1280 .bf16) (harg3 : arg3.IsWhole) (arg4 : Memref sig .tc .vmem S1x1024x1280 .bf16) (harg4 : arg4.IsWhole) (arg5 : Memref sig .tc .vmem S1024x1024 .f32) (harg5 : arg5.IsWhole) (arg6 : Memref sig .tc .vmem S1024x1024 .f32) (harg6 : arg6.IsWhole)
variable (x0 : Vec F S1024x1280 .bf16) (x1 : Vec F S1x1024x1280 .bf16) (xs0 : Vec F S1024x1024 .f32)

/-- The first part of the sum leaves this in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x1280) offsets2, View.ld_unit_zero (S := S1x1024x1280) offsets3]

/-- A later part of the sum leaves this in the scratch. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x1280) offsets2, View.ld_unit_zero (S := S1x1024x1280) offsets3]

/-- A later part of the sum leaves this in the scratch. -/
theorem sout_C (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x1280) offsets2, View.ld_unit_zero (S := S1x1024x1280) offsets3]

/-- The last part of the sum leaves this in the output. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay3 x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x1280) offsets2, View.ld_unit_zero (S := S1x1024x1280) offsets3, View.readCov_cons_toLoadRect]

end Case

/-- What a grid point adds to the sum. -/
theorem part (t : Fin cfg0.N) (r : Fin 1024) (f : Fin 1024) :
    k0_pay1 (F := Ideal) (iblk m c 0 t) (iblk m c 1 t) (ix2 r f) = ∑ k ∈ Finset.range 1280, ext (term (A0 m c) (A1 m c) (row t r) (col t f)) (t.val % 4 * 1280 + k) := by
  rw [← part_range (term (A0 m c) (A1 m c) (row t r) (col t f)) (kk t) (t.val % 4 * 1280) fun _ => rfl]
  unfold k0_pay1 term
  pointwise
  simp only [blk0, blk1]

/-- What a grid point leaves in the scratch at the start of a sum. -/
theorem first (t : Fin cfg0.N) (r : Fin 1024) (f : Fin 1024) :
    k0_pay2 (F := Ideal) (iblk m c 0 t) (iblk m c 1 t) (ix2 r f) = ∑ k ∈ Finset.range 1280, ext (term (A0 m c) (A1 m c) (row t r) (col t f)) (t.val % 4 * 1280 + k) := by
  unfold k0_pay2
  rw [shapeCast_self, part]

/-- What a grid point leaves in the scratch further on. -/
theorem next (t : Fin cfg0.N) (r : Fin 1024) (f : Fin 1024) (x : Vec Ideal S1024x1024 .f32) :
    k0_pay3 (F := Ideal) (iblk m c 0 t) (iblk m c 1 t) x (ix2 r f) = x (ix2 r f) + ∑ k ∈ Finset.range 1280, ext (term (A0 m c) (A1 m c) (row t r) (col t f)) (t.val % 4 * 1280 + k) := by
  unfold k0_pay3
  rw [shapeCast_self]
  show _ + k0_pay1 (F := Ideal) (iblk m c 0 t) (iblk m c 1 t) (ix2 r f) = _
  rw [part]

/-- After each grid point the scratch holds the sum so far. -/
theorem sofar : ∀ (n : ℕ) (hn : n < cfg0.N) (r : Fin 1024) (f : Fin 1024),
    (outsAt0 m c n hn).2 (ix2 r f) = ∑ k ∈ Finset.range (1280 * (n % 4 + 1)), ext (term (A0 m c) (A1 m c) (row ⟨n, hn⟩ r) (col ⟨n, hn⟩ f)) k := by
  intro n
  induction n with
  | zero =>
    intro hn r f
    rw [outsAt0_A m c ⟨0, hn⟩ rfl (by simp) (by simp)]
    dsimp only
    rw [sout_A, first]
    simp
  | succ n ih =>
    intro hn r f
    have hN : n + 1 < 16 := hn
    by_cases h0 : (n + 1) % 4 = 0
    · rw [outsAt0_A m c ⟨n + 1, hn⟩ h0 (by simp only; omega) (by simp only; omega)]
      dsimp only
      rw [sout_A, first]
      simp [h0]
    · have hp := ih (Nat.lt_of_succ_lt hn) r f
      have hs : 1280 * ((n + 1) % 4 + 1) = 1280 * (n % 4 + 1) + 1280 := by omega
      have ho : (n + 1) % 4 * 1280 = 1280 * (n % 4 + 1) := by omega
      have hr : row ⟨n + 1, hn⟩ r = row ⟨n, Nat.lt_of_succ_lt hn⟩ r := Fin.ext (by show (n + 1) / 8 * 1024 + r.val = n / 8 * 1024 + r.val; omega)
      have hc : col ⟨n + 1, hn⟩ f = col ⟨n, Nat.lt_of_succ_lt hn⟩ f := Fin.ext (by show (n + 1) / 4 % 2 * 1024 + f.val = n / 4 % 2 * 1024 + f.val; omega)
      have hx : (outsAt0 m c (n + 1) hn).2 (ix2 r f)
          = (outsAt0 m c n (Nat.lt_of_succ_lt hn)).2 (ix2 r f) + ∑ k ∈ Finset.range 1280, ext (term (A0 m c) (A1 m c) (row ⟨n + 1, hn⟩ r) (col ⟨n + 1, hn⟩ f)) ((n + 1) % 4 * 1280 + k) := by
        by_cases h2 : (n + 1) % 4 = 3
        · rw [outsAt0_C m c ⟨n + 1, hn⟩ h0 (by simp only; omega) h2]
          dsimp only
          rw [sout_C, next]
          rfl
        · rw [outsAt0_B m c ⟨n + 1, hn⟩ h0 (by simp only; omega) h2]
          dsimp only
          rw [sout_B, next]
          rfl
      rw [hx, hs, Finset.sum_range_add, hr, hc, ← hp, ho]

/-- After the last part of a sum the output holds the entry. -/
theorem done (t : Fin cfg0.N) (h : t.val % 4 = 3) (r : Fin 1024) (f : Fin 1024) :
    (outsAt0 m c t.val t.isLt).1 (ix2 r f) = entry (A0 m c) (A1 m c) (row t r) (col t f) := by
  have hs := sofar m c t.val t.isLt r f
  rw [outsAt0_C m c t (by omega) (by omega) h] at hs ⊢
  dsimp only at hs ⊢
  rw [sout_C, h] at hs
  rw [out_C]
  rw [hs]
  unfold entry
  rw [sum_ext]

/-- The result is the product. -/
theorem final : (dats m 0 c).arrAt 2 cfg0.N = arr2 (entry (A0 m c) (A1 m c)) := by
  refine (dats m 0 c).arrAt_eq_of_cover 2 _ (fun t hf => ?_) fun i => ?_
  · rw [flushed2]
    funext j
    rw [View.read_apply]
    show (outsAt0 m c t.val t.isLt).1 j = arr2 (entry (A0 m c) (A1 m c)) _
    have key : ∀ j : S1024x1024.Idx, (outsAt0 m c t.val t.isLt).1 j = entry (A0 m c) (A1 m c) (row t (j 0)) (col t (j 1)) := fun j => by
      conv_lhs => rw [eq_ix2 j]
      exact done m c t ((flush0_2 t).mp hf) _ _
    refine (key j).trans (entry_arr2 _ _ _ _ ?_ ?_)
    · show t.val / 8 * 1024 + (j 0).val = win0_2.index t 0 * 1024 + 1 * (j 0).val
      rw [(index2 t).1]; omega
    · show t.val / 4 % 2 * 1024 + (j 1).val = win0_2.index t 1 * 1024 + 1 * (j 1).val
      rw [(index2 t).2]; omega
  · have h0 : (i 0 : Nat) < 2048 := (i 0).isLt
    have h1 : (i 1 : Nat) < 2048 := (i 1).isLt
    have hlt : 8 * ((i 0 : Nat) / 1024) + 4 * ((i 1 : Nat) / 1024) + 3 < cfg0.N := by show _ < 16; omega
    refine ⟨⟨8 * ((i 0 : Nat) / 1024) + 4 * ((i 1 : Nat) / 1024) + 3, hlt⟩, (flush0_2 _).mpr (by show (8 * ((i 0 : Nat) / 1024) + 4 * ((i 1 : Nat) / 1024) + 3) % 4 = 3; omega), ?_⟩
    generalize ht : (⟨8 * ((i 0 : Nat) / 1024) + 4 * ((i 1 : Nat) / 1024) + 3, hlt⟩ : Fin cfg0.N) = t
    have hv : t.val = 8 * ((i 0 : Nat) / 1024) + 4 * ((i 1 : Nat) / 1024) + 3 := by rw [← ht]
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1]; omega
    | ⟨1, _⟩ => show win0_2.index t 1 * 1024 ≤ (i 1 : Nat) ∧ (i 1 : Nat) < win0_2.index t 1 * 1024 + 1024
                rw [(index2 t).2]; omega

end Kern

section Ref
open Cert.Reference13Ideal Cert.Reference13Ideal.Gen Cert.Reference13Ideal.Read

/-- The reference's result is the product. -/
theorem ref (x0 : Arr2 2048 5120) (x1 : Arr3 4 2048 1280) : val_main_v8 (F := Ideal) x0 x1 = arr2 (entry x0 x1) :=
  eq_arr2 _ _ fun r f => by
    unfold val_main_v8 val_main_v7 val_main_v6 val_main_v5 val_main_v2 val_main_v1 val_main_v0 entry term
    pointwise

/-- The reference runs, its arguments end unchanged, and no signal is left. -/
theorem refFrame : Cert.quiescent_Reference13Ideal := fun m ρ _ =>
  (θ_run defs _ _).mono (fun r h => ⟨fun c => (h c).2, Idealize.ShloMosaic.sem_eq_zero_of_no_sems (by decide) r.2⟩)
    (Cert.Reference13Ideal.Value.run (F := Ideal) m ρ)

end Ref

/-- Kernel and reference end with the same array, whatever the arguments hold. -/
theorem algebraic : Cert.algebraic_Kernel13Ideal_Reference13Ideal := by
  intro m g m' g' _ hargs
  refine ⟨fun c => arr2 (entry (A0 m c) (A1 m c)), ?_, ?_⟩
  · exact (θ_run Cert.Kernel13Ideal.defs _ _).mono (fun r h c => ⟨(h c).1.trans (final m c), (h c).2⟩) (Cert.Kernel13Ideal.Value.run_blocks m g)
  · refine (θ_run Cert.Reference13Ideal.defs _ _).mono (fun r h c => ⟨(h c).1.trans ?_, (h c).2⟩) (Cert.Reference13Ideal.Value.run (F := Ideal) m' g')
    obtain ⟨e0, e1⟩ := hargs c
    rw [Cert.Reference13Ideal.Read.val_main_v8_eq, e0, e1]; exact ref _ _

end Cert.ADH1

end
-- ==== Proof.BIn.lean ====
/- The input projection of a gating layer: the kernel's tiles of the product make the reference's product. -/
module

public import proofs.«01_k».proof.Defs
public import proofs.«01_k».proof.Proof.Prod
public import proofs.«01_k».proof.Proof.Gen.Kernel14Ideal.Value
public import proofs.«01_k».proof.Proof.Gen.Reference14Ideal.Read

@[expose] public section

set_option maxRecDepth 16384

noncomputable section

namespace Cert.BIn

open Idealize.ShloMosaic Idealize.ShloMosaic.TcCoe Idealize.SL.Sem Cert.Prod

/-- One entry: a row of the first argument times a column of the second. -/
def entry (x0 : Arr2 2048 2048) (x1 : Arr3 4 2048 896) (r : Fin 2048) (f : Fin 3584) : EReal :=
  ∑ k : Fin 2048, x0 (ix2 r k) * x1 (ix3 ⟨f.val / 896, by omega⟩ k ⟨f.val % 896, by omega⟩)

section Kern
open Cert.Kernel14Ideal Cert.Kernel14Ideal.Gen Cert.Kernel14Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr3 4 2048 896 := m ((c.tc : Thread nD τ).loc main_arg1)

theorem index0 : ∀ t : Fin cfg0.N, win0_0.index t 0 = t.val / 4 ∧ win0_0.index t 1 = 0 :=
  (by decide +kernel : ∀ t : Fin grid0.N, _)
theorem index1 : ∀ t : Fin cfg0.N, win0_1.index t 0 = t.val % 4 ∧ win0_1.index t 1 = 0 ∧ win0_1.index t 2 = 0 :=
  (by decide +kernel : ∀ t : Fin grid0.N, _)
theorem index2 : ∀ t : Fin cfg0.N, win0_2.index t 0 = t.val / 4 ∧ win0_2.index t 1 = t.val % 4 :=
  (by decide +kernel : ∀ t : Fin grid0.N, _)

/-- The row of the whole result that a row of a grid point's tile is. -/
def row (t : Fin cfg0.N) (r : Fin 1024) : Fin 2048 := ⟨t.val / 4 * 1024 + r.val, by have : t.val < 8 := t.isLt; omega⟩
/-- The column of the whole result that a column of a grid point's tile is. -/
def col (t : Fin cfg0.N) (f : Fin 896) : Fin 3584 := ⟨t.val % 4 * 896 + f.val, by have : t.val < 8 := t.isLt; omega⟩

/-- A grid point's block of the first argument. -/
theorem blk0 (t : Fin cfg0.N) (r : Fin 1024) (k : Fin 2048) : (iblk m c 0 t : Vec Ideal S1024x2048 .bf16) (ix2 r k) = A0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 4 * 1024 + r.val; rw [(index0 t).1]; omega
  | ⟨1, _⟩ => show win0_0.index t 1 * 2048 + 1 * k.val = k.val; rw [(index0 t).2]; omega

/-- A grid point's block of the second argument. -/
theorem blk1 (t : Fin cfg0.N) (z : Fin 1) (k : Fin 2048) (f : Fin 896) : (iblk m c 1 t : Vec Ideal S1x2048x896 .bf16) (ix3 z k f) = A1 m c (ix3 ⟨(col t f).val / 896, by omega⟩ k ⟨(col t f).val % 896, by omega⟩) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = (t.val % 4 * 896 + f.val) / 896; rw [(index1 t).1]; omega
  | ⟨1, _⟩ => show win0_1.index t 1 * 2048 + 1 * k.val = k.val; rw [(index1 t).2.1]; omega
  | ⟨2, _⟩ => show win0_1.index t 2 * 896 + 1 * f.val = (t.val % 4 * 896 + f.val) % 896; rw [(index1 t).2.2]; omega

/-- What a grid point leaves in its tile. -/
theorem tile (t : Fin cfg0.N) (r : Fin 1024) (f : Fin 896) :
    out0_2 (F := Ideal) (iblk m c 0 t) (iblk m c 1 t) (ix2 r f) = entry (A0 m c) (A1 m c) (row t r) (col t f) := by
  unfold out0_2
  rw [View.canon_unit_zero offsets2]
  simp only [View.ld_unit_zero (S := S1024x2048) offsets2, View.ld_unit_zero (S := S1x2048x896) offsets3]
  unfold k0_pay1 entry
  pointwise
  simp only [blk0, blk1]

/-- The result is the product. -/
theorem final : (dats m 0 c).arrAt 2 cfg0.N = arr2 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr2 (entry (A0 m c) (A1 m c)) _
    have key : ∀ j : S1024x896.Idx, out0_2 (F := Ideal) (iblk m c 0 t) (iblk m c 1 t) j = entry (A0 m c) (A1 m c) (row t (j 0)) (col t (j 1)) := fun j => by
      conv_lhs => rw [eq_ix2 j]
      exact tile m c t _ _
    refine (key j).trans (entry_arr2 _ _ _ _ ?_ ?_)
    · show t.val / 4 * 1024 + (j 0).val = win0_2.index t 0 * 1024 + 1 * (j 0).val
      rw [(index2 t).1]; omega
    · show t.val % 4 * 896 + (j 1).val = win0_2.index t 1 * 896 + 1 * (j 1).val
      rw [(index2 t).2]; omega
  · have h0 : (i 0 : Nat) < 2048 := (i 0).isLt
    have h1 : (i 1 : Nat) < 3584 := (i 1).isLt
    have hlt : 4 * ((i 0 : Nat) / 1024) + (i 1 : Nat) / 896 < cfg0.N := by show _ < 8; omega
    refine ⟨⟨4 * ((i 0 : Nat) / 1024) + (i 1 : Nat) / 896, hlt⟩, flush0_2 _, ?_⟩
    generalize ht : (⟨4 * ((i 0 : Nat) / 1024) + (i 1 : Nat) / 896, hlt⟩ : Fin cfg0.N) = t
    have hv : t.val = 4 * ((i 0 : Nat) / 1024) + (i 1 : Nat) / 896 := by rw [← ht]
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1]; omega
    | ⟨1, _⟩ => show win0_2.index t 1 * 896 ≤ (i 1 : Nat) ∧ (i 1 : Nat) < win0_2.index t 1 * 896 + 896
                rw [(index2 t).2]; omega

end Kern

section Ref
open Cert.Reference14Ideal Cert.Reference14Ideal.Gen Cert.Reference14Ideal.Read

/-- The reference's result is the product. -/
theorem ref (x0 : Arr2 2048 2048) (x1 : Arr3 4 2048 896) : val_main_v6 (F := Ideal) x0 x1 = arr2 (entry x0 x1) :=
  eq_arr2 _ _ fun r f => by
    unfold val_main_v6 val_main_v5 val_main_v4 val_main_v3 val_main_v2 val_main_v1 val_main_v0 entry
    pointwise

/-- The reference runs, its arguments end unchanged, and no signal is left. -/
theorem refFrame : Cert.quiescent_Reference14Ideal := fun m ρ _ =>
  (θ_run defs _ _).mono (fun r h => ⟨fun c => (h c).2, Idealize.ShloMosaic.sem_eq_zero_of_no_sems (by decide) r.2⟩)
    (Cert.Reference14Ideal.Value.run (F := Ideal) m ρ)

end Ref

/-- Kernel and reference end with the same array, whatever the arguments hold. -/
theorem algebraic : Cert.algebraic_Kernel14Ideal_Reference14Ideal := by
  intro m g m' g' _ hargs
  refine ⟨fun c => arr2 (entry (A0 m c) (A1 m c)), ?_, ?_⟩
  · exact (θ_run Cert.Kernel14Ideal.defs _ _).mono (fun r h c => ⟨(h c).1.trans (final m c), (h c).2⟩) (Cert.Kernel14Ideal.Value.run_blocks m g)
  · refine (θ_run Cert.Reference14Ideal.defs _ _).mono (fun r h c => ⟨(h c).1.trans ?_, (h c).2⟩) (Cert.Reference14Ideal.Value.run (F := Ideal) m' g')
    obtain ⟨e0, e1⟩ := hargs c
    rw [Cert.Reference14Ideal.Read.val_main_v6_eq, e0, e1]; exact ref _ _

end Cert.BIn

end
-- ==== Proof.BOut.lean ====
/- The output projection of a gating layer: the kernel's tiles of the product make the reference's product. -/
module

public import proofs.«01_k».proof.Defs
public import proofs.«01_k».proof.Proof.Prod
public import proofs.«01_k».proof.Proof.Gen.Kernel15Ideal.Value
public import proofs.«01_k».proof.Proof.Gen.Reference15Ideal.Read

@[expose] public section

set_option maxRecDepth 16384

noncomputable section

namespace Cert.BOut

open Idealize.ShloMosaic Idealize.ShloMosaic.TcCoe Idealize.SL.Sem Cert.Prod

/-- One entry: a row of the first argument times a column of the second, added to the third. -/
def entry (x0 : Arr2 2048 2048) (x1 : Arr3 1 2048 2048) (x2 : Arr2 2048 2048) (r : Fin 2048) (f : Fin 2048) : EReal :=
  x2 (ix2 r f) + ∑ k : Fin 2048, x0 (ix2 r k) * x1 (ix3 0 k f)

section Kern
open Cert.Kernel15Ideal Cert.Kernel15Ideal.Gen Cert.Kernel15Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr3 1 2048 2048 := m ((c.tc : Thread nD τ).loc main_arg1)
/-- The third argument on a device. -/
abbrev A2 : Arr2 2048 2048 := m ((c.tc : Thread nD τ).loc main_arg2)

theorem index0 : ∀ t : Fin cfg0.N, win0_0.index t 0 = t.val / 2 ∧ win0_0.index t 1 = 0 :=
  (by decide +kernel : ∀ t : Fin grid0.N, _)
theorem index1 : ∀ t : Fin cfg0.N, win0_1.index t 0 = 0 ∧ win0_1.index t 1 = 0 ∧ win0_1.index t 2 = t.val % 2 :=
  (by decide +kernel : ∀ t : Fin grid0.N, _)
theorem index2 : ∀ t : Fin cfg0.N, win0_2.index t 0 = t.val / 2 ∧ win0_2.index t 1 = t.val % 2 :=
  (by decide +kernel : ∀ t : Fin grid0.N, _)
theorem index3 : ∀ t : Fin cfg0.N, win0_3.index t 0 = t.val / 2 ∧ win0_3.index t 1 = t.val % 2 :=
  (by decide +kernel : ∀ t : Fin grid0.N, _)

/-- The row of the whole result that a row of a grid point's tile is. -/
def row (t : Fin cfg0.N) (r : Fin 1024) : Fin 2048 := ⟨t.val / 2 * 1024 + r.val, by have : t.val < 4 := t.isLt; omega⟩
/-- The column of the whole result that a column of a grid point's tile is. -/
def col (t : Fin cfg0.N) (f : Fin 1024) : Fin 2048 := ⟨t.val % 2 * 1024 + f.val, by have : t.val < 4 := t.isLt; omega⟩

/-- A grid point's block of the first argument. -/
theorem blk0 (t : Fin cfg0.N) (r : Fin 1024) (k : Fin 2048) : (iblk m c 0 t : Vec Ideal S1024x2048 .bf16) (ix2 r k) = A0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 2 * 1024 + r.val; rw [(index0 t).1]; omega
  | ⟨1, _⟩ => show win0_0.index t 1 * 2048 + 1 * k.val = k.val; rw [(index0 t).2]; omega

/-- A grid point's block of the second argument. -/
theorem blk1 (t : Fin cfg0.N) (z : Fin 1) (k : Fin 2048) (f : Fin 1024) : (iblk m c 1 t : Vec Ideal S1x2048x1024 .bf16) (ix3 z k f) = A1 m c (ix3 0 k (col t f)) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = 0; rw [(index1 t).1]; omega
  | ⟨1, _⟩ => show win0_1.index t 1 * 2048 + 1 * k.val = k.val; rw [(index1 t).2.1]; omega
  | ⟨2, _⟩ => show win0_1.index t 2 * 1024 + 1 * f.val = t.val % 2 * 1024 + f.val; rw [(index1 t).2.2]; omega

/-- A grid point's block of the third argument. -/
theorem blk2 (t : Fin cfg0.N) (r : Fin 1024) (f : Fin 1024) : (iblk m c 2 t : Vec Ideal S1024x1024 .f32) (ix2 r f) = A2 m c (ix2 (row t r) (col t f)) := by
  unfold iblk
  rw [View.read_apply]
  show V m c main_arg2 _ = m (c.tc.loc main_arg2) _
  unfold V
  congr 1
  funext a
  apply Fin.ext
  match a with
  | ⟨0, _⟩ => show win0_2.index t 0 * 1024 + 1 * r.val = t.val / 2 * 1024 + r.val; rw [(index2 t).1]; omega
  | ⟨1, _⟩ => show win0_2.index t 1 * 1024 + 1 * f.val = t.val % 2 * 1024 + f.val; rw [(index2 t).2]; omega

/-- What a grid point leaves in its tile. -/
theorem tile (t : Fin cfg0.N) (r : Fin 1024) (f : Fin 1024) :
    out0_3 (F := Ideal) (iblk m c 0 t) (iblk m c 1 t) (iblk m c 2 t) (ix2 r f) = entry (A0 m c) (A1 m c) (A2 m c) (row t r) (col t f) := by
  unfold out0_3
  rw [View.canon_unit_zero offsets2]
  simp only [View.ld_unit_zero (S := S1024x1024) offsets2, View.ld_unit_zero (S := S1024x2048) offsets2, View.ld_unit_zero (S := S1x2048x1024) offsets3]
  unfold k0_pay1 entry
  pointwise
  simp only [blk0, blk1, blk2]
  rw [add_comm]

/-- The result is the product. -/
theorem final : (dats m 0 c).arrAt 3 cfg0.N = arr2 (entry (A0 m c) (A1 m c) (A2 m c)) := by
  refine (dats m 0 c).arrAt_eq_of_cover 3 _ (fun t _ => ?_) fun i => ?_
  · rw [flushed3]
    funext j
    rw [View.read_apply]
    show out0_3 (F := Ideal) (iblk m c 0 t) (iblk m c 1 t) (iblk m c 2 t) j = arr2 (entry (A0 m c) (A1 m c) (A2 m c)) _
    have key : ∀ j : S1024x1024.Idx, out0_3 (F := Ideal) (iblk m c 0 t) (iblk m c 1 t) (iblk m c 2 t) j = entry (A0 m c) (A1 m c) (A2 m c) (row t (j 0)) (col t (j 1)) := fun j => by
      conv_lhs => rw [eq_ix2 j]
      exact tile m c t _ _
    refine (key j).trans (entry_arr2 _ _ _ _ ?_ ?_)
    · show t.val / 2 * 1024 + (j 0).val = win0_3.index t 0 * 1024 + 1 * (j 0).val
      rw [(index3 t).1]; omega
    · show t.val % 2 * 1024 + (j 1).val = win0_3.index t 1 * 1024 + 1 * (j 1).val
      rw [(index3 t).2]; omega
  · have h0 : (i 0 : Nat) < 2048 := (i 0).isLt
    have h1 : (i 1 : Nat) < 2048 := (i 1).isLt
    have hlt : 2 * ((i 0 : Nat) / 1024) + (i 1 : Nat) / 1024 < cfg0.N := by show _ < 4; omega
    refine ⟨⟨2 * ((i 0 : Nat) / 1024) + (i 1 : Nat) / 1024, hlt⟩, flush0_3 _, ?_⟩
    generalize ht : (⟨2 * ((i 0 : Nat) / 1024) + (i 1 : Nat) / 1024, hlt⟩ : Fin cfg0.N) = t
    have hv : t.val = 2 * ((i 0 : Nat) / 1024) + (i 1 : Nat) / 1024 := by rw [← ht]
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index3 t).1]; omega
    | ⟨1, _⟩ => show win0_3.index t 1 * 1024 ≤ (i 1 : Nat) ∧ (i 1 : Nat) < win0_3.index t 1 * 1024 + 1024
                rw [(index3 t).2]; omega

end Kern

section Ref
open Cert.Reference15Ideal Cert.Reference15Ideal.Gen Cert.Reference15Ideal.Read

/-- The reference's result is the product. -/
theorem ref (x0 : Arr2 2048 2048) (x1 : Arr3 1 2048 2048) (x2 : Arr2 2048 2048) : val_main_v8 (F := Ideal) x0 x1 x2 = arr2 (entry x0 x1 x2) :=
  eq_arr2 _ _ fun r f => by
    unfold val_main_v8 val_main_v7 val_main_v6 val_main_v5 val_main_v4 val_main_v3 val_main_v2 val_main_v1 val_main_v0 entry
    pointwise

/-- The reference runs, its arguments end unchanged, and no signal is left. -/
theorem refFrame : Cert.quiescent_Reference15Ideal := fun m ρ _ =>
  (θ_run defs _ _).mono (fun r h => ⟨fun c => (h c).2, Idealize.ShloMosaic.sem_eq_zero_of_no_sems (by decide) r.2⟩)
    (Cert.Reference15Ideal.Value.run (F := Ideal) m ρ)

end Ref

/-- Kernel and reference end with the same array, whatever the arguments hold. -/
theorem algebraic : Cert.algebraic_Kernel15Ideal_Reference15Ideal := by
  intro m g m' g' _ hargs
  refine ⟨fun c => arr2 (entry (A0 m c) (A1 m c) (A2 m c)), ?_, ?_⟩
  · exact (θ_run Cert.Kernel15Ideal.defs _ _).mono (fun r h c => ⟨(h c).1.trans (final m c), (h c).2⟩) (Cert.Kernel15Ideal.Value.run_blocks m g)
  · refine (θ_run Cert.Reference15Ideal.defs _ _).mono (fun r h c => ⟨(h c).1.trans ?_, (h c).2⟩) (Cert.Reference15Ideal.Value.run (F := Ideal) m' g')
    obtain ⟨e0, e1, e2⟩ := hargs c
    rw [Cert.Reference15Ideal.Read.val_main_v8_eq, e0, e1, e2]; exact ref _ _ _

end Cert.BOut

end
-- ==== Proof.BDCat.lean ====
/- The cotangent of the mixed rows of a gating layer: the kernel's tiles of the product make the reference's product. -/
module

public import proofs.«01_k».proof.Defs
public import proofs.«01_k».proof.Proof.Prod
public import proofs.«01_k».proof.Proof.Gen.Kernel16Ideal.Value
public import proofs.«01_k».proof.Proof.Gen.Reference16Ideal.Read

@[expose] public section

set_option maxRecDepth 16384

noncomputable section

namespace Cert.BDCat

open Idealize.ShloMosaic Idealize.ShloMosaic.TcCoe Idealize.SL.Sem Cert.Prod

/-- One entry: a row of the first argument times a row of the second. -/
def entry (x0 : Arr2 2048 2048) (x1 : Arr3 1 2048 2048) (r : Fin 2048) (f : Fin 2048) : EReal :=
  ∑ k : Fin 2048, x0 (ix2 r k) * x1 (ix3 0 f k)

section Kern
open Cert.Kernel16Ideal Cert.Kernel16Ideal.Gen Cert.Kernel16Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr3 1 2048 2048 := m ((c.tc : Thread nD τ).loc main_arg1)

theorem index0 : ∀ t : Fin cfg0.N, win0_0.index t 0 = t.val / 2 ∧ win0_0.index t 1 = 0 :=
  (by decide +kernel : ∀ t : Fin grid0.N, _)
theorem index1 : ∀ t : Fin cfg0.N, win0_1.index t 0 = 0 ∧ win0_1.index t 1 = t.val % 2 ∧ win0_1.index t 2 = 0 :=
  (by decide +kernel : ∀ t : Fin grid0.N, _)
theorem index2 : ∀ t : Fin cfg0.N, win0_2.index t 0 = t.val / 2 ∧ win0_2.index t 1 = t.val % 2 :=
  (by decide +kernel : ∀ t : Fin grid0.N, _)

/-- The row of the whole result that a row of a grid point's tile is. -/
def row (t : Fin cfg0.N) (r : Fin 1024) : Fin 2048 := ⟨t.val / 2 * 1024 + r.val, by have : t.val < 4 := t.isLt; omega⟩
/-- The column of the whole result that a column of a grid point's tile is. -/
def col (t : Fin cfg0.N) (f : Fin 1024) : Fin 2048 := ⟨t.val % 2 * 1024 + f.val, by have : t.val < 4 := t.isLt; omega⟩

/-- A grid point's block of the first argument. -/
theorem blk0 (t : Fin cfg0.N) (r : Fin 1024) (k : Fin 2048) : (iblk m c 0 t : Vec Ideal S1024x2048 .bf16) (ix2 r k) = A0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 2 * 1024 + r.val; rw [(index0 t).1]; omega
  | ⟨1, _⟩ => show win0_0.index t 1 * 2048 + 1 * k.val = k.val; rw [(index0 t).2]; omega

/-- A grid point's block of the second argument. -/
theorem blk1 (t : Fin cfg0.N) (z : Fin 1) (f : Fin 1024) (k : Fin 2048) : (iblk m c 1 t : Vec Ideal S1x1024x2048 .bf16) (ix3 z f k) = A1 m c (ix3 0 (col t f) k) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = 0; rw [(index1 t).1]; omega
  | ⟨1, _⟩ => show win0_1.index t 1 * 1024 + 1 * f.val = t.val % 2 * 1024 + f.val; rw [(index1 t).2.1]; omega
  | ⟨2, _⟩ => show win0_1.index t 2 * 2048 + 1 * k.val = k.val; rw [(index1 t).2.2]; omega

/-- What a grid point leaves in its tile. -/
theorem tile (t : Fin cfg0.N) (r : Fin 1024) (f : Fin 1024) :
    out0_2 (F := Ideal) (iblk m c 0 t) (iblk m c 1 t) (ix2 r f) = entry (A0 m c) (A1 m c) (row t r) (col t f) := by
  unfold out0_2
  rw [View.canon_unit_zero offsets2]
  simp only [View.ld_unit_zero (S := S1024x2048) offsets2, View.ld_unit_zero (S := S1x1024x2048) offsets3]
  unfold k0_pay1 entry
  pointwise
  simp only [blk0, blk1]

/-- The result is the product. -/
theorem final : (dats m 0 c).arrAt 2 cfg0.N = arr2 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr2 (entry (A0 m c) (A1 m c)) _
    have key : ∀ j : S1024x1024.Idx, out0_2 (F := Ideal) (iblk m c 0 t) (iblk m c 1 t) j = entry (A0 m c) (A1 m c) (row t (j 0)) (col t (j 1)) := fun j => by
      conv_lhs => rw [eq_ix2 j]
      exact tile m c t _ _
    refine (key j).trans (entry_arr2 _ _ _ _ ?_ ?_)
    · show t.val / 2 * 1024 + (j 0).val = win0_2.index t 0 * 1024 + 1 * (j 0).val
      rw [(index2 t).1]; omega
    · show t.val % 2 * 1024 + (j 1).val = win0_2.index t 1 * 1024 + 1 * (j 1).val
      rw [(index2 t).2]; omega
  · have h0 : (i 0 : Nat) < 2048 := (i 0).isLt
    have h1 : (i 1 : Nat) < 2048 := (i 1).isLt
    have hlt : 2 * ((i 0 : Nat) / 1024) + (i 1 : Nat) / 1024 < cfg0.N := by show _ < 4; omega
    refine ⟨⟨2 * ((i 0 : Nat) / 1024) + (i 1 : Nat) / 1024, hlt⟩, flush0_2 _, ?_⟩
    generalize ht : (⟨2 * ((i 0 : Nat) / 1024) + (i 1 : Nat) / 1024, hlt⟩ : Fin cfg0.N) = t
    have hv : t.val = 2 * ((i 0 : Nat) / 1024) + (i 1 : Nat) / 1024 := by rw [← ht]
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1]; omega
    | ⟨1, _⟩ => show win0_2.index t 1 * 1024 ≤ (i 1 : Nat) ∧ (i 1 : Nat) < win0_2.index t 1 * 1024 + 1024
                rw [(index2 t).2]; omega

end Kern

section Ref
open Cert.Reference16Ideal Cert.Reference16Ideal.Gen Cert.Reference16Ideal.Read

/-- The reference's result is the product. -/
theorem ref (x0 : Arr2 2048 2048) (x1 : Arr3 1 2048 2048) : val_main_v8 (F := Ideal) x0 x1 = arr2 (entry x0 x1) :=
  eq_arr2 _ _ fun r f => by
    unfold val_main_v8 val_main_v7 val_main_v6 val_main_v5 val_main_v2 val_main_v1 val_main_v0 entry
    pointwise

/-- The reference runs, its arguments end unchanged, and no signal is left. -/
theorem refFrame : Cert.quiescent_Reference16Ideal := fun m ρ _ =>
  (θ_run defs _ _).mono (fun r h => ⟨fun c => (h c).2, Idealize.ShloMosaic.sem_eq_zero_of_no_sems (by decide) r.2⟩)
    (Cert.Reference16Ideal.Value.run (F := Ideal) m ρ)

end Ref

/-- Kernel and reference end with the same array, whatever the arguments hold. -/
theorem algebraic : Cert.algebraic_Kernel16Ideal_Reference16Ideal := by
  intro m g m' g' _ hargs
  refine ⟨fun c => arr2 (entry (A0 m c) (A1 m c)), ?_, ?_⟩
  · exact (θ_run Cert.Kernel16Ideal.defs _ _).mono (fun r h c => ⟨(h c).1.trans (final m c), (h c).2⟩) (Cert.Kernel16Ideal.Value.run_blocks m g)
  · refine (θ_run Cert.Reference16Ideal.defs _ _).mono (fun r h c => ⟨(h c).1.trans ?_, (h c).2⟩) (Cert.Reference16Ideal.Value.run (F := Ideal) m' g')
    obtain ⟨e0, e1⟩ := hargs c
    rw [Cert.Reference16Ideal.Read.val_main_v8_eq, e0, e1]; exact ref _ _

end Cert.BDCat

end
-- ==== Proof.BDWout.lean ====
/- The gradient of the output projection of a gating layer: the kernel's tiles of the product make the reference's product. -/
module

public import proofs.«01_k».proof.Defs
public import proofs.«01_k».proof.Proof.Prod
public import proofs.«01_k».proof.Proof.Gen.Kernel17Ideal.Value
public import proofs.«01_k».proof.Proof.Gen.Reference17Ideal.Read

@[expose] public section

set_option maxRecDepth 16384

noncomputable section

namespace Cert.BDWout

open Idealize.ShloMosaic Idealize.ShloMosaic.TcCoe Idealize.SL.Sem Cert.Prod

/-- One entry: a column of the first argument times a column of the second. -/
def entry (x0 : Arr2 2048 2048) (x1 : Arr2 2048 2048) (f : Fin 2048) (d : Fin 2048) : EReal :=
  ∑ k : Fin 2048, x0 (ix2 k f) * x1 (ix2 k d)

section Kern
open Cert.Kernel17Ideal Cert.Kernel17Ideal.Gen Cert.Kernel17Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr2 2048 2048 := m ((c.tc : Thread nD τ).loc main_arg1)

theorem index0 : ∀ t : Fin cfg0.N, win0_0.index t 0 = 0 ∧ win0_0.index t 1 = t.val / 2 :=
  (by decide +kernel : ∀ t : Fin grid0.N, _)
theorem index1 : ∀ t : Fin cfg0.N, win0_1.index t 0 = 0 ∧ win0_1.index t 1 = t.val % 2 :=
  (by decide +kernel : ∀ t : Fin grid0.N, _)
theorem index2 : ∀ t : Fin cfg0.N, win0_2.index t 0 = 0 ∧ win0_2.index t 1 = t.val / 2 ∧ win0_2.index t 2 = t.val % 2 % 2 :=
  (by decide +kernel : ∀ t : Fin grid0.N, _)

/-- The row of the whole result that a row of a grid point's tile is. -/
def row (t : Fin cfg0.N) (f : Fin 1024) : Fin 2048 := ⟨t.val / 2 * 1024 + f.val, by have : t.val < 4 := t.isLt; omega⟩
/-- The column of the whole result that a column of a grid point's tile is. -/
def col (t : Fin cfg0.N) (d : Fin 1024) : Fin 2048 := ⟨t.val % 2 % 2 * 1024 + d.val, by have : t.val < 4 := t.isLt; omega⟩

/-- A grid point's block of the first argument. -/
theorem blk0 (t : Fin cfg0.N) (k : Fin 2048) (f : Fin 1024) : (iblk m c 0 t : Vec Ideal S2048x1024 .bf16) (ix2 k f) = A0 m c (ix2 k (row t f)) := by
  unfold iblk
  rw [View.read_apply]
  show V m c main_arg0 _ = m (c.tc.loc main_arg0) _
  unfold V
  congr 1
  funext a
  apply Fin.ext
  match a with
  | ⟨0, _⟩ => show win0_0.index t 0 * 2048 + 1 * k.val = k.val; rw [(index0 t).1]; omega
  | ⟨1, _⟩ => show win0_0.index t 1 * 1024 + 1 * f.val = t.val / 2 * 1024 + f.val; rw [(index0 t).2]; omega

/-- A grid point's block of the second argument. -/
theorem blk1 (t : Fin cfg0.N) (k : Fin 2048) (d : Fin 1024) : (iblk m c 1 t : Vec Ideal S2048x1024 .bf16) (ix2 k d) = A1 m c (ix2 k (col t d)) := by
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [(index1 t).1]; omega
  | ⟨1, _⟩ => show win0_1.index t 1 * 1024 + 1 * d.val = t.val % 2 % 2 * 1024 + d.val; rw [(index1 t).2]; omega

/-- What a grid point leaves in its tile. -/
theorem tile (t : Fin cfg0.N) (z : Fin 1) (f : Fin 1024) (d : Fin 1024) :
    out0_2 (F := Ideal) (iblk m c 0 t) (iblk m c 1 t) (ix3 z f d) = entry (A0 m c) (A1 m c) (row t f) (col t d) := by
  unfold out0_2
  rw [View.canon_unit_zero offsets3]
  simp only [View.ld_unit_zero (S := S2048x1024) offsets2]
  unfold k0_pay1 entry
  pointwise
  simp only [blk0, blk1]

/-- The result is the product. -/
theorem final : (dats m 0 c).arrAt 2 cfg0.N = arr3 (fun _ => entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr3 (fun _ => entry (A0 m c) (A1 m c)) _
    have key : ∀ j : S1x1024x1024.Idx, out0_2 (F := Ideal) (iblk m c 0 t) (iblk m c 1 t) j = entry (A0 m c) (A1 m c) (row t (j 1)) (col t (j 2)) := fun j => by
      conv_lhs => rw [eq_ix3 j]
      exact tile m c t _ _ _
    refine (key j).trans (entry_arr3 (fun _ => entry (A0 m c) (A1 m c)) _ 0 _ _ ?_ ?_ ?_)
    · have hz : (j 0).val < 1 := (j 0).isLt
      show 0 = win0_2.index t 0 * 1 + 1 * (j 0).val
      rw [(index2 t).1]; omega
    · show t.val / 2 * 1024 + (j 1).val = win0_2.index t 1 * 1024 + 1 * (j 1).val
      rw [(index2 t).2.1]; omega
    · show t.val % 2 % 2 * 1024 + (j 2).val = win0_2.index t 2 * 1024 + 1 * (j 2).val
      rw [(index2 t).2.2]; omega
  · have h0 : (i 0 : Nat) < 1 := (i 0).isLt
    have h1 : (i 1 : Nat) < 2048 := (i 1).isLt
    have h2 : (i 2 : Nat) < 2048 := (i 2).isLt
    have hlt : 2 * ((i 1 : Nat) / 1024) + (i 2 : Nat) / 1024 < cfg0.N := by show _ < 4; omega
    refine ⟨⟨2 * ((i 1 : Nat) / 1024) + (i 2 : Nat) / 1024, hlt⟩, flush0_2 _, ?_⟩
    generalize ht : (⟨2 * ((i 1 : Nat) / 1024) + (i 2 : Nat) / 1024, hlt⟩ : Fin cfg0.N) = t
    have hv : t.val = 2 * ((i 1 : Nat) / 1024) + (i 2 : Nat) / 1024 := by rw [← ht]
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(index2 t).1]; omega
    | ⟨1, _⟩ => show win0_2.index t 1 * 1024 ≤ (i 1 : Nat) ∧ (i 1 : Nat) < win0_2.index t 1 * 1024 + 1024
                rw [(index2 t).2.1]; omega
    | ⟨2, _⟩ => show win0_2.index t 2 * 1024 ≤ (i 2 : Nat) ∧ (i 2 : Nat) < win0_2.index t 2 * 1024 + 1024
                rw [(index2 t).2.2]; omega

end Kern

section Ref
open Cert.Reference17Ideal Cert.Reference17Ideal.Gen Cert.Reference17Ideal.Read

/-- The reference's result is the product. -/
theorem ref (x0 : Arr2 2048 2048) (x1 : Arr2 2048 2048) : val_main_v10 (F := Ideal) x0 x1 = arr3 (fun _ => entry x0 x1) :=
  eq_arr3 _ _ fun z f d => by
    obtain rfl : z = 0 := Subsingleton.elim _ _
    unfold val_main_v10 val_main_v9 val_main_v8 val_main_v7 val_main_v6 val_main_v5 val_main_v4 val_main_v2 val_main_v1 entry
    pointwise
    rw [Fin.sum_univ_one]
    exact Finset.sum_congr rfl fun k _ => mul_comm _ _

/-- The reference runs, its arguments end unchanged, and no signal is left. -/
theorem refFrame : Cert.quiescent_Reference17Ideal := fun m ρ _ =>
  (θ_run defs _ _).mono (fun r h => ⟨fun c => (h c).2, Idealize.ShloMosaic.sem_eq_zero_of_no_sems (by decide) r.2⟩)
    (Cert.Reference17Ideal.Value.run (F := Ideal) m ρ)

end Ref

/-- Kernel and reference end with the same array, whatever the arguments hold. -/
theorem algebraic : Cert.algebraic_Kernel17Ideal_Reference17Ideal := by
  intro m g m' g' _ hargs
  refine ⟨fun c => arr3 (fun _ => entry (A0 m c) (A1 m c)), ?_, ?_⟩
  · exact (θ_run Cert.Kernel17Ideal.defs _ _).mono (fun r h c => ⟨(h c).1.trans (final m c), (h c).2⟩) (Cert.Kernel17Ideal.Value.run_blocks m g)
  · refine (θ_run Cert.Reference17Ideal.defs _ _).mono (fun r h c => ⟨(h c).1.trans ?_, (h c).2⟩) (Cert.Reference17Ideal.Value.run (F := Ideal) m' g')
    obtain ⟨e0, e1⟩ := hargs c
    rw [Cert.Reference17Ideal.Read.val_main_v10_eq, e0, e1]; exact ref _ _

end Cert.BDWout

end
-- ==== Proof.BDWin.lean ====
/- The gradient of the input projection of a gating layer: the kernel's tiles of the product make the reference's product. -/
module

public import proofs.«01_k».proof.Defs
public import proofs.«01_k».proof.Proof.Prod
public import proofs.«01_k».proof.Proof.Gen.Kernel18Ideal.Value
public import proofs.«01_k».proof.Proof.Gen.Reference18Ideal.Read

@[expose] public section

set_option maxRecDepth 16384

noncomputable section

namespace Cert.BDWin

open Idealize.ShloMosaic Idealize.ShloMosaic.TcCoe Idealize.SL.Sem Cert.Prod

/-- One entry: a column of the first argument times a column of the second. -/
def entry (x0 : Arr2 2048 2048) (x1 : Arr2 2048 3584) (s : Fin 4) (f : Fin 2048) (d : Fin 896) : EReal :=
  ∑ k : Fin 2048, x0 (ix2 k f) * x1 (ix2 k ⟨s.val * 896 + d.val, by omega⟩)

section Kern
open Cert.Kernel18Ideal Cert.Kernel18Ideal.Gen Cert.Kernel18Ideal.Value Idealize.ShloMosaic.Pipeline

variable (m : (ℓ : Loc nD τ sig) → Buf (Elt Ideal) ℓ) (c : Dev nD)

/-- The first argument on a device. -/
abbrev A0 : Arr2 2048 2048 := m ((c.tc : Thread nD τ).loc main_arg0)
/-- The second argument on a device. -/
abbrev A1 : Arr2 2048 3584 := m ((c.tc : Thread nD τ).loc main_arg1)

theorem index0 : ∀ t : Fin cfg0.N, win0_0.index t 0 = 0 ∧ win0_0.index t 1 = t.val / 4 :=
  (by decide +kernel : ∀ t : Fin grid0.N, _)
theorem index1 : ∀ t : Fin cfg0.N, win0_1.index t 0 = 0 ∧ win0_1.index t 1 = t.val % 4 :=
  (by decide +kernel : ∀ t : Fin grid0.N, _)
theorem index2 : ∀ t : Fin cfg0.N, win0_2.index t 0 = t.val % 4 ∧ win0_2.index t 1 = t.val / 4 ∧ win0_2.index t 2 = 0 :=
  (by decide +kernel : ∀ t : Fin grid0.N, _)

/-- The shard of the result that a grid point's tile is in. -/
def shard (t : Fin cfg0.N) : Fin 4 := ⟨t.val % 4, by have : t.val < 8 := t.isLt; omega⟩
/-- The row of the whole result that a row of a grid point's tile is. -/
def row (t : Fin cfg0.N) (f : Fin 1024) : Fin 2048 := ⟨t.val / 4 * 1024 + f.val, by have : t.val < 8 := t.isLt; omega⟩
/-- The column of the whole result that a column of a grid point's tile is. -/
def col (t : Fin cfg0.N) (d : Fin 896) : Fin 896 := ⟨d.val, by have : t.val < 8 := t.isLt; omega⟩

/-- A grid point's block of the first argument. -/
theorem blk0 (t : Fin cfg0.N) (k : Fin 2048) (f : Fin 1024) : (iblk m c 0 t : Vec Ideal S2048x1024 .bf16) (ix2 k f) = A0 m c (ix2 k (row t f)) := by
  unfold iblk
  rw [View.read_apply]
  show V m c main_arg0 _ = m (c.tc.loc main_arg0) _
  unfold V
  congr 1
  funext a
  apply Fin.ext
  match a with
  | ⟨0, _⟩ => show win0_0.index t 0 * 2048 + 1 * k.val = k.val; rw [(index0 t).1]; omega
  | ⟨1, _⟩ => show win0_0.index t 1 * 1024 + 1 * f.val = t.val / 4 * 1024 + f.val; rw [(index0 t).2]; omega

/-- A grid point's block of the second argument. -/
theorem blk1 (t : Fin cfg0.N) (k : Fin 2048) (d : Fin 896) : (iblk m c 1 t : Vec Ideal S2048x896 .bf16) (ix2 k d) = A1 m c (ix2 k ⟨(shard t).val * 896 + (col t d).val, by omega⟩) := by
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [(index1 t).1]; omega
  | ⟨1, _⟩ => show win0_1.index t 1 * 896 + 1 * d.val = (t.val % 4) * 896 + (d.val); rw [(index1 t).2]; omega

/-- What a grid point leaves in its tile. -/
theorem tile (t : Fin cfg0.N) (z : Fin 1) (f : Fin 1024) (d : Fin 896) :
    out0_2 (F := Ideal) (iblk m c 0 t) (iblk m c 1 t) (ix3 z f d) = entry (A0 m c) (A1 m c) (shard t) (row t f) (col t d) := by
  unfold out0_2
  rw [View.canon_unit_zero offsets3]
  simp only [View.ld_unit_zero (S := S2048x1024) offsets2, View.ld_unit_zero (S := S2048x896) offsets2]
  unfold k0_pay1 entry
  pointwise
  simp only [blk0, blk1]

/-- The result is the product. -/
theorem final : (dats m 0 c).arrAt 2 cfg0.N = arr3 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr3 (entry (A0 m c) (A1 m c)) _
    have key : ∀ j : S1x1024x896.Idx, out0_2 (F := Ideal) (iblk m c 0 t) (iblk m c 1 t) j = entry (A0 m c) (A1 m c) (shard t) (row t (j 1)) (col t (j 2)) := fun j => by
      conv_lhs => rw [eq_ix3 j]
      exact tile m c t _ _ _
    refine (key j).trans (entry_arr3 _ _ _ _ _ ?_ ?_ ?_)
    · have hz : (j 0).val < 1 := (j 0).isLt
      show t.val % 4 = win0_2.index t 0 * 1 + 1 * (j 0).val
      rw [(index2 t).1]; omega
    · show t.val / 4 * 1024 + (j 1).val = win0_2.index t 1 * 1024 + 1 * (j 1).val
      rw [(index2 t).2.1]; omega
    · show (j 2).val = win0_2.index t 2 * 896 + 1 * (j 2).val
      rw [(index2 t).2.2]; omega
  · have h0 : (i 0 : Nat) < 4 := (i 0).isLt
    have h1 : (i 1 : Nat) < 2048 := (i 1).isLt
    have h2 : (i 2 : Nat) < 896 := (i 2).isLt
    have hlt : 4 * ((i 1 : Nat) / 1024) + (i 0 : Nat) < cfg0.N := by show _ < 8; omega
    refine ⟨⟨4 * ((i 1 : Nat) / 1024) + (i 0 : Nat), hlt⟩, flush0_2 _, ?_⟩
    generalize ht : (⟨4 * ((i 1 : Nat) / 1024) + (i 0 : Nat), hlt⟩ : Fin cfg0.N) = t
    have hv : t.val = 4 * ((i 1 : Nat) / 1024) + (i 0 : Nat) := by rw [← ht]
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(index2 t).1]; omega
    | ⟨1, _⟩ => show win0_2.index t 1 * 1024 ≤ (i 1 : Nat) ∧ (i 1 : Nat) < win0_2.index t 1 * 1024 + 1024
                rw [(index2 t).2.1]; omega
    | ⟨2, _⟩ => show win0_2.index t 2 * 896 ≤ (i 2 : Nat) ∧ (i 2 : Nat) < win0_2.index t 2 * 896 + 896
                rw [(index2 t).2.2]; omega

end Kern

section Ref
open Cert.Reference18Ideal Cert.Reference18Ideal.Gen Cert.Reference18Ideal.Read

/-- The reference's result is the product. -/
theorem ref (x0 : Arr2 2048 2048) (x1 : Arr2 2048 3584) : val_main_v10 (F := Ideal) x0 x1 = arr3 (entry x0 x1) :=
  eq_arr3 _ _ fun s f d => by
    unfold val_main_v10 val_main_v9 val_main_v8 val_main_v7 val_main_v6 val_main_v5 val_main_v4 val_main_v2 val_main_v1 entry
    pointwise
    rw [Fin.sum_univ_one]
    exact Finset.sum_congr rfl fun k _ => mul_comm _ _

/-- The reference runs, its arguments end unchanged, and no signal is left. -/
theorem refFrame : Cert.quiescent_Reference18Ideal := fun m ρ _ =>
  (θ_run defs _ _).mono (fun r h => ⟨fun c => (h c).2, Idealize.ShloMosaic.sem_eq_zero_of_no_sems (by decide) r.2⟩)
    (Cert.Reference18Ideal.Value.run (F := Ideal) m ρ)

end Ref

/-- Kernel and reference end with the same array, whatever the arguments hold. -/
theorem algebraic : Cert.algebraic_Kernel18Ideal_Reference18Ideal := by
  intro m g m' g' _ hargs
  refine ⟨fun c => arr3 (entry (A0 m c) (A1 m c)), ?_, ?_⟩
  · exact (θ_run Cert.Kernel18Ideal.defs _ _).mono (fun r h c => ⟨(h c).1.trans (final m c), (h c).2⟩) (Cert.Kernel18Ideal.Value.run_blocks m g)
  · refine (θ_run Cert.Reference18Ideal.defs _ _).mono (fun r h c => ⟨(h c).1.trans ?_, (h c).2⟩) (Cert.Reference18Ideal.Value.run (F := Ideal) m' g')
    obtain ⟨e0, e1⟩ := hargs c
    rw [Cert.Reference18Ideal.Read.val_main_v10_eq, e0, e1]; exact ref _ _

end Cert.BDWin

end
-- ==== Proof.BDH1.lean ====
/- The cotangent of the normed input of a gating layer: the kernel's tiles of the product make the reference's product. -/
module

public import proofs.«01_k».proof.Defs
public import proofs.«01_k».proof.Proof.Prod
public import proofs.«01_k».proof.Proof.Gen.Kernel19Ideal.Value
public import proofs.«01_k».proof.Proof.Gen.Reference19Ideal.Read

@[expose] public section

set_option maxRecDepth 16384

noncomputable section

namespace Cert.BDH1

open Idealize.ShloMosaic Idealize.ShloMosaic.TcCoe Idealize.SL.Sem Cert.Prod

/-- One term of an entry. -/
def term (x0 : Arr2 2048 3584) (x1 : Arr3 4 2048 896) (r : Fin 2048) (f : Fin 2048) (k : Fin 3584) : EReal := x0 (ix2 r k) * x1 (ix3 ⟨k.val / 896, by omega⟩ f ⟨k.val % 896, by omega⟩)

/-- One entry: a row of the first argument times a row of the second. -/
def entry (x0 : Arr2 2048 3584) (x1 : Arr3 4 2048 896) (r : Fin 2048) (f : Fin 2048) : EReal :=
  ∑ k : Fin 3584, term x0 x1 r f k

section Kern
open Cert.Kernel19Ideal Cert.Kernel19Ideal.Gen Cert.Kernel19Ideal.Value Idealize.ShloMosaic.Pipeline

variable (m : (ℓ : Loc nD τ sig) → Buf (Elt Ideal) ℓ) (c : Dev nD)

/-- The first argument on a device. -/
abbrev A0 : Arr2 2048 3584 := m ((c.tc : Thread nD τ).loc main_arg0)
/-- The second argument on a device. -/
abbrev A1 : Arr3 4 2048 896 := m ((c.tc : Thread nD τ).loc main_arg1)

theorem index0 : ∀ t : Fin cfg0.N, win0_0.index t 0 = t.val / 8 ∧ win0_0.index t 1 = t.val % 4 :=
  (by decide +kernel : ∀ t : Fin grid0.N, _)
theorem index1 : ∀ t : Fin cfg0.N, win0_1.index t 0 = t.val % 4 ∧ win0_1.index t 1 = t.val / 4 % 2 ∧ win0_1.index t 2 = 0 :=
  (by decide +kernel : ∀ t : Fin grid0.N, _)
theorem index2 : ∀ t : Fin cfg0.N, win0_2.index t 0 = t.val / 8 ∧ win0_2.index t 1 = t.val / 4 % 2 :=
  (by decide +kernel : ∀ t : Fin grid0.N, _)

/-- The row of the whole result that a row of a grid point's tile is. -/
def row (t : Fin cfg0.N) (r : Fin 1024) : Fin 2048 := ⟨t.val / 8 * 1024 + r.val, by have : t.val < 16 := t.isLt; omega⟩
/-- The column of the whole result that a column of a grid point's tile is. -/
def col (t : Fin cfg0.N) (f : Fin 1024) : Fin 2048 := ⟨t.val / 4 % 2 * 1024 + f.val, by have : t.val < 16 := t.isLt; omega⟩
/-- The place in the whole sum that a place of a grid point's part of it is. -/
def kk (t : Fin cfg0.N) (k : Fin 896) : Fin 3584 := ⟨t.val % 4 * 896 + k.val, by have : t.val < 16 := t.isLt; omega⟩

/-- A grid point's block of the first argument. -/
theorem blk0 (t : Fin cfg0.N) (r : Fin 1024) (k : Fin 896) : (iblk m c 0 t : Vec Ideal S1024x896 .bf16) (ix2 r k) = A0 m c (ix2 (row t r) (kk t k)) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 8 * 1024 + r.val; rw [(index0 t).1]; omega
  | ⟨1, _⟩ => show win0_0.index t 1 * 896 + 1 * k.val = (t.val % 4 * 896 + k.val); rw [(index0 t).2]; omega

/-- A grid point's block of the second argument. -/
theorem blk1 (t : Fin cfg0.N) (z : Fin 1) (f : Fin 1024) (k : Fin 896) : (iblk m c 1 t : Vec Ideal S1x1024x896 .bf16) (ix3 z f k) = A1 m c (ix3 ⟨(kk t k).val / 896, by omega⟩ (col t f) ⟨(kk t k).val % 896, by omega⟩) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = (t.val % 4 * 896 + k.val) / 896; rw [(index1 t).1]; omega
  | ⟨1, _⟩ => show win0_1.index t 1 * 1024 + 1 * f.val = t.val / 4 % 2 * 1024 + f.val; rw [(index1 t).2.1]; omega
  | ⟨2, _⟩ => show win0_1.index t 2 * 896 + 1 * k.val = (t.val % 4 * 896 + k.val) % 896; rw [(index1 t).2.2]; omega

section Case
variable {F : FTy → Type} [FloatOps F] (i : grid0.Coords) (arg3 : Memref sig .tc .vmem S1024x896 .bf16) (harg3 : arg3.IsWhole) (arg4 : Memref sig .tc .vmem S1x1024x896 .bf16) (harg4 : arg4.IsWhole) (arg5 : Memref sig .tc .vmem S1024x1024 .f32) (harg5 : arg5.IsWhole) (arg6 : Memref sig .tc .vmem S1024x1024 .f32) (harg6 : arg6.IsWhole)
variable (x0 : Vec F S1024x896 .bf16) (x1 : Vec F S1x1024x896 .bf16) (xs0 : Vec F S1024x1024 .f32)

/-- The first part of the sum leaves this in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x896) offsets2, View.ld_unit_zero (S := S1x1024x896) offsets3]

/-- A later part of the sum leaves this in the scratch. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x896) offsets2, View.ld_unit_zero (S := S1x1024x896) offsets3]

/-- A later part of the sum leaves this in the scratch. -/
theorem sout_C (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x896) offsets2, View.ld_unit_zero (S := S1x1024x896) offsets3]

/-- The last part of the sum leaves this in the output. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay3 x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero offsets2]
  simp only [View.readAt_eq_ld, harg3.read_unread, harg4.read_unread, harg5.read_unread, harg6.read_unread,
    View.ld_unit_zero (S := S1024x1024) offsets2, View.ld_unit_zero (S := S1024x896) offsets2, View.ld_unit_zero (S := S1x1024x896) offsets3, View.readCov_cons_toLoadRect]

end Case

/-- What a grid point adds to the sum. -/
theorem part (t : Fin cfg0.N) (r : Fin 1024) (f : Fin 1024) :
    k0_pay1 (F := Ideal) (iblk m c 0 t) (iblk m c 1 t) (ix2 r f) = ∑ k ∈ Finset.range 896, ext (term (A0 m c) (A1 m c) (row t r) (col t f)) (t.val % 4 * 896 + k) := by
  rw [← part_range (term (A0 m c) (A1 m c) (row t r) (col t f)) (kk t) (t.val % 4 * 896) fun _ => rfl]
  unfold k0_pay1 term
  pointwise
  simp only [blk0, blk1]

/-- What a grid point leaves in the scratch at the start of a sum. -/
theorem first (t : Fin cfg0.N) (r : Fin 1024) (f : Fin 1024) :
    k0_pay2 (F := Ideal) (iblk m c 0 t) (iblk m c 1 t) (ix2 r f) = ∑ k ∈ Finset.range 896, ext (term (A0 m c) (A1 m c) (row t r) (col t f)) (t.val % 4 * 896 + k) := by
  unfold k0_pay2
  rw [shapeCast_self, part]

/-- What a grid point leaves in the scratch further on. -/
theorem next (t : Fin cfg0.N) (r : Fin 1024) (f : Fin 1024) (x : Vec Ideal S1024x1024 .f32) :
    k0_pay3 (F := Ideal) (iblk m c 0 t) (iblk m c 1 t) x (ix2 r f) = x (ix2 r f) + ∑ k ∈ Finset.range 896, ext (term (A0 m c) (A1 m c) (row t r) (col t f)) (t.val % 4 * 896 + k) := by
  unfold k0_pay3
  rw [shapeCast_self]
  show _ + k0_pay1 (F := Ideal) (iblk m c 0 t) (iblk m c 1 t) (ix2 r f) = _
  rw [part]

/-- After each grid point the scratch holds the sum so far. -/
theorem sofar : ∀ (n : ℕ) (hn : n < cfg0.N) (r : Fin 1024) (f : Fin 1024),
    (outsAt0 m c n hn).2 (ix2 r f) = ∑ k ∈ Finset.range (896 * (n % 4 + 1)), ext (term (A0 m c) (A1 m c) (row ⟨n, hn⟩ r) (col ⟨n, hn⟩ f)) k := by
  intro n
  induction n with
  | zero =>
    intro hn r f
    rw [outsAt0_A m c ⟨0, hn⟩ rfl (by simp) (by simp)]
    dsimp only
    rw [sout_A, first]
    simp
  | succ n ih =>
    intro hn r f
    have hN : n + 1 < 16 := hn
    by_cases h0 : (n + 1) % 4 = 0
    · rw [outsAt0_A m c ⟨n + 1, hn⟩ h0 (by simp only; omega) (by simp only; omega)]
      dsimp only
      rw [sout_A, first]
      simp [h0]
    · have hp := ih (Nat.lt_of_succ_lt hn) r f
      have hs : 896 * ((n + 1) % 4 + 1) = 896 * (n % 4 + 1) + 896 := by omega
      have ho : (n + 1) % 4 * 896 = 896 * (n % 4 + 1) := by omega
      have hr : row ⟨n + 1, hn⟩ r = row ⟨n, Nat.lt_of_succ_lt hn⟩ r := Fin.ext (by show (n + 1) / 8 * 1024 + r.val = n / 8 * 1024 + r.val; omega)
      have hc : col ⟨n + 1, hn⟩ f = col ⟨n, Nat.lt_of_succ_lt hn⟩ f := Fin.ext (by show (n + 1) / 4 % 2 * 1024 + f.val = n / 4 % 2 * 1024 + f.val; omega)
      have hx : (outsAt0 m c (n + 1) hn).2 (ix2 r f)
          = (outsAt0 m c n (Nat.lt_of_succ_lt hn)).2 (ix2 r f) + ∑ k ∈ Finset.range 896, ext (term (A0 m c) (A1 m c) (row ⟨n + 1, hn⟩ r) (col ⟨n + 1, hn⟩ f)) ((n + 1) % 4 * 896 + k) := by
        by_cases h2 : (n + 1) % 4 = 3
        · rw [outsAt0_C m c ⟨n + 1, hn⟩ h0 (by simp only; omega) h2]
          dsimp only
          rw [sout_C, next]
          rfl
        · rw [outsAt0_B m c ⟨n + 1, hn⟩ h0 (by simp only; omega) h2]
          dsimp only
          rw [sout_B, next]
          rfl
      rw [hx, hs, Finset.sum_range_add, hr, hc, ← hp, ho]

/-- After the last part of a sum the output holds the entry. -/
theorem done (t : Fin cfg0.N) (h : t.val % 4 = 3) (r : Fin 1024) (f : Fin 1024) :
    (outsAt0 m c t.val t.isLt).1 (ix2 r f) = entry (A0 m c) (A1 m c) (row t r) (col t f) := by
  have hs := sofar m c t.val t.isLt r f
  rw [outsAt0_C m c t (by omega) (by omega) h] at hs ⊢
  dsimp only at hs ⊢
  rw [sout_C, h] at hs
  rw [out_C]
  rw [hs]
  unfold entry
  rw [sum_ext]

/-- The result is the product. -/
theorem final : (dats m 0 c).arrAt 2 cfg0.N = arr2 (entry (A0 m c) (A1 m c)) := by
  refine (dats m 0 c).arrAt_eq_of_cover 2 _ (fun t hf => ?_) fun i => ?_
  · rw [flushed2]
    funext j
    rw [View.read_apply]
    show (outsAt0 m c t.val t.isLt).1 j = arr2 (entry (A0 m c) (A1 m c)) _
    have key : ∀ j : S1024x1024.Idx, (outsAt0 m c t.val t.isLt).1 j = entry (A0 m c) (A1 m c) (row t (j 0)) (col t (j 1)) := fun j => by
      conv_lhs => rw [eq_ix2 j]
      exact done m c t ((flush0_2 t).mp hf) _ _
    refine (key j).trans (entry_arr2 _ _ _ _ ?_ ?_)
    · show t.val / 8 * 1024 + (j 0).val = win0_2.index t 0 * 1024 + 1 * (j 0).val
      rw [(index2 t).1]; omega
    · show t.val / 4 % 2 * 1024 + (j 1).val = win0_2.index t 1 * 1024 + 1 * (j 1).val
      rw [(index2 t).2]; omega
  · have h0 : (i 0 : Nat) < 2048 := (i 0).isLt
    have h1 : (i 1 : Nat) < 2048 := (i 1).isLt
    have hlt : 8 * ((i 0 : Nat) / 1024) + 4 * ((i 1 : Nat) / 1024) + 3 < cfg0.N := by show _ < 16; omega
    refine ⟨⟨8 * ((i 0 : Nat) / 1024) + 4 * ((i 1 : Nat) / 1024) + 3, hlt⟩, (flush0_2 _).mpr (by show (8 * ((i 0 : Nat) / 1024) + 4 * ((i 1 : Nat) / 1024) + 3) % 4 = 3; omega), ?_⟩
    generalize ht : (⟨8 * ((i 0 : Nat) / 1024) + 4 * ((i 1 : Nat) / 1024) + 3, hlt⟩ : Fin cfg0.N) = t
    have hv : t.val = 8 * ((i 0 : Nat) / 1024) + 4 * ((i 1 : Nat) / 1024) + 3 := by rw [← ht]
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1]; omega
    | ⟨1, _⟩ => show win0_2.index t 1 * 1024 ≤ (i 1 : Nat) ∧ (i 1 : Nat) < win0_2.index t 1 * 1024 + 1024
                rw [(index2 t).2]; omega

end Kern

section Ref
open Cert.Reference19Ideal Cert.Reference19Ideal.Gen Cert.Reference19Ideal.Read

/-- The reference's result is the product. -/
theorem ref (x0 : Arr2 2048 3584) (x1 : Arr3 4 2048 896) : val_main_v8 (F := Ideal) x0 x1 = arr2 (entry x0 x1) :=
  eq_arr2 _ _ fun r f => by
    unfold val_main_v8 val_main_v7 val_main_v6 val_main_v5 val_main_v2 val_main_v1 val_main_v0 entry term
    pointwise

/-- The reference runs, its arguments end unchanged, and no signal is left. -/
theorem refFrame : Cert.quiescent_Reference19Ideal := fun m ρ _ =>
  (θ_run defs _ _).mono (fun r h => ⟨fun c => (h c).2, Idealize.ShloMosaic.sem_eq_zero_of_no_sems (by decide) r.2⟩)
    (Cert.Reference19Ideal.Value.run (F := Ideal) m ρ)

end Ref

/-- Kernel and reference end with the same array, whatever the arguments hold. -/
theorem algebraic : Cert.algebraic_Kernel19Ideal_Reference19Ideal := by
  intro m g m' g' _ hargs
  refine ⟨fun c => arr2 (entry (A0 m c) (A1 m c)), ?_, ?_⟩
  · exact (θ_run Cert.Kernel19Ideal.defs _ _).mono (fun r h c => ⟨(h c).1.trans (final m c), (h c).2⟩) (Cert.Kernel19Ideal.Value.run_blocks m g)
  · refine (θ_run Cert.Reference19Ideal.defs _ _).mono (fun r h c => ⟨(h c).1.trans ?_, (h c).2⟩) (Cert.Reference19Ideal.Value.run (F := Ideal) m' g')
    obtain ⟨e0, e1⟩ := hargs c
    rw [Cert.Reference19Ideal.Read.val_main_v8_eq, e0, e1]; exact ref _ _

end Cert.BDH1

end
-- ==== Proof.KvFwd.lean ====
/- The memory's keys and values: the kernel's tiles of the product make the reference's product. -/
module

public import proofs.«01_k».proof.Defs
public import proofs.«01_k».proof.Proof.Prod
public import proofs.«01_k».proof.Proof.Gen.Kernel20Ideal.Value
public import proofs.«01_k».proof.Proof.Gen.Reference20Ideal.Read

@[expose] public section

set_option maxRecDepth 16384

noncomputable section

namespace Cert.KvFwd

open Idealize.ShloMosaic Idealize.ShloMosaic.TcCoe Idealize.SL.Sem Cert.Prod

/-- One entry: a row of the first argument times a column of the second. -/
def entry (x0 : Arr2 256 2048) (x1 : Arr3 1 2048 1024) (r : Fin 256) (f : Fin 1024) : EReal :=
  ∑ k : Fin 2048, x0 (ix2 r k) * x1 (ix3 0 k f)

section Kern
open Cert.Kernel20Ideal Cert.Kernel20Ideal.Gen Cert.Kernel20Ideal.Value Idealize.ShloMosaic.Pipeline

variable (m : (ℓ : Loc nD τ sig) → Buf (Elt Ideal) ℓ) (c : Dev nD)

/-- The first argument on a device. -/
abbrev A0 : Arr2 256 2048 := m ((c.tc : Thread nD τ).loc main_arg0)
/-- The second argument on a device. -/
abbrev A1 : Arr3 1 2048 1024 := m ((c.tc : Thread nD τ).loc main_arg1)

theorem index0 : ∀ t : Fin cfg0.N, win0_0.index t 0 = 0 ∧ win0_0.index t 1 = 0 :=
  (by decide +kernel : ∀ t : Fin grid0.N, _)
theorem index1 : ∀ t : Fin cfg0.N, win0_1.index t 0 = 0 ∧ win0_1.index t 1 = 0 ∧ win0_1.index t 2 = 0 :=
  (by decide +kernel : ∀ t : Fin grid0.N, _)
theorem index2 : ∀ t : Fin cfg0.N, win0_2.index t 0 = 0 ∧ win0_2.index t 1 = 0 :=
  (by decide +kernel : ∀ t : Fin grid0.N, _)

/-- The row of the whole result that a row of a grid point's tile is. -/
def row (t : Fin cfg0.N) (r : Fin 256) : Fin 256 := ⟨r.val, by have : t.val < 1 := t.isLt; omega⟩
/-- The column of the whole result that a column of a grid point's tile is. -/
def col (t : Fin cfg0.N) (f : Fin 1024) : Fin 1024 := ⟨f.val, by have : t.val < 1 := t.isLt; omega⟩

/-- A grid point's block of the first argument. -/
theorem blk0 (t : Fin cfg0.N) (r : Fin 256) (k : Fin 2048) : (iblk m c 0 t : Vec Ideal S256x2048 .bf16) (ix2 r k) = A0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 256 + 1 * r.val = r.val; rw [(index0 t).1]; omega
  | ⟨1, _⟩ => show win0_0.index t 1 * 2048 + 1 * k.val = k.val; rw [(index0 t).2]; omega

/-- A grid point's block of the second argument. -/
theorem blk1 (t : Fin cfg0.N) (z : Fin 1) (k : Fin 2048) (f : Fin 1024) : (iblk m c 1 t : Vec Ideal S1x2048x1024 .bf16) (ix3 z k f) = A1 m c (ix3 0 k (col t f)) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = 0; rw [(index1 t).1]; omega
  | ⟨1, _⟩ => show win0_1.index t 1 * 2048 + 1 * k.val = k.val; rw [(index1 t).2.1]; omega
  | ⟨2, _⟩ => show win0_1.index t 2 * 1024 + 1 * f.val = f.val; rw [(index1 t).2.2]; omega

/-- What a grid point leaves in its tile. -/
theorem tile (t : Fin cfg0.N) (r : Fin 256) (f : Fin 1024) :
    out0_2 (F := Ideal) (iblk m c 0 t) (iblk m c 1 t) (ix2 r f) = entry (A0 m c) (A1 m c) (row t r) (col t f) := by
  unfold out0_2
  rw [View.canon_unit_zero offsets2]
  simp only [View.ld_unit_zero (S := S1x2048x1024) offsets3, View.ld_unit_zero (S := S256x2048) offsets2]
  unfold k0_pay1 entry
  pointwise
  simp only [blk0, blk1]

/-- The result is the product. -/
theorem final : (dats m 0 c).arrAt 2 cfg0.N = arr2 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr2 (entry (A0 m c) (A1 m c)) _
    have key : ∀ j : S256x1024.Idx, out0_2 (F := Ideal) (iblk m c 0 t) (iblk m c 1 t) j = entry (A0 m c) (A1 m c) (row t (j 0)) (col t (j 1)) := fun j => by
      conv_lhs => rw [eq_ix2 j]
      exact tile m c t _ _
    refine (key j).trans (entry_arr2 _ _ _ _ ?_ ?_)
    · show (j 0).val = win0_2.index t 0 * 256 + 1 * (j 0).val
      rw [(index2 t).1]; omega
    · show (j 1).val = win0_2.index t 1 * 1024 + 1 * (j 1).val
      rw [(index2 t).2]; omega
  · have h0 : (i 0 : Nat) < 256 := (i 0).isLt
    have h1 : (i 1 : Nat) < 1024 := (i 1).isLt
    have hlt : 0 < cfg0.N := by show _ < 1; omega
    refine ⟨⟨0, hlt⟩, flush0_2 _, ?_⟩
    generalize ht : (⟨0, hlt⟩ : Fin cfg0.N) = t
    have hv : t.val = 0 := by rw [← ht]
    show i ∈ ((View.whole main_v0).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256
                rw [(index2 t).1]; omega
    | ⟨1, _⟩ => show win0_2.index t 1 * 1024 ≤ (i 1 : Nat) ∧ (i 1 : Nat) < win0_2.index t 1 * 1024 + 1024
                rw [(index2 t).2]; omega

end Kern

section Ref
open Cert.Reference20Ideal Cert.Reference20Ideal.Gen Cert.Reference20Ideal.Read

/-- The reference's result is the product. -/
theorem ref (x0 : Arr2 256 2048) (x1 : Arr3 1 2048 1024) : val_main_v6 (F := Ideal) x0 x1 = arr2 (entry x0 x1) :=
  eq_arr2 _ _ fun r f => by
    unfold val_main_v6 val_main_v5 val_main_v4 val_main_v3 val_main_v2 val_main_v1 val_main_v0 entry
    pointwise

/-- The reference runs, its arguments end unchanged, and no signal is left. -/
theorem refFrame : Cert.quiescent_Reference20Ideal := fun m ρ _ =>
  (θ_run defs _ _).mono (fun r h => ⟨fun c => (h c).2, Idealize.ShloMosaic.sem_eq_zero_of_no_sems (by decide) r.2⟩)
    (Cert.Reference20Ideal.Value.run (F := Ideal) m ρ)

end Ref

/-- Kernel and reference end with the same array, whatever the arguments hold. -/
theorem algebraic : Cert.algebraic_Kernel20Ideal_Reference20Ideal := by
  intro m g m' g' _ hargs
  refine ⟨fun c => arr2 (entry (A0 m c) (A1 m c)), ?_, ?_⟩
  · exact (θ_run Cert.Kernel20Ideal.defs _ _).mono (fun r h c => ⟨(h c).1.trans (final m c), (h c).2⟩) (Cert.Kernel20Ideal.Value.run_blocks m g)
  · refine (θ_run Cert.Reference20Ideal.defs _ _).mono (fun r h c => ⟨(h c).1.trans ?_, (h c).2⟩) (Cert.Reference20Ideal.Value.run (F := Ideal) m' g')
    obtain ⟨e0, e1⟩ := hargs c
    rw [Cert.Reference20Ideal.Read.val_main_v6_eq, e0, e1]; exact ref _ _

end Cert.KvFwd

end
-- ==== Proof.DWkv.lean ====
/- The gradient of the projection to the memory's keys and values: the kernel's tiles of the product make the reference's product. -/
module

public import proofs.«01_k».proof.Defs
public import proofs.«01_k».proof.Proof.Prod
public import proofs.«01_k».proof.Proof.Gen.Kernel21Ideal.Value
public import proofs.«01_k».proof.Proof.Gen.Reference21Ideal.Read

@[expose] public section

set_option maxRecDepth 16384

noncomputable section

namespace Cert.DWkv

open Idealize.ShloMosaic Idealize.ShloMosaic.TcCoe Idealize.SL.Sem Cert.Prod

/-- One entry: a column of the first argument times a column of the second. -/
def entry (x0 : Arr2 256 2048) (x1 : Arr2 256 1024) (f : Fin 2048) (d : Fin 1024) : EReal :=
  ∑ k : Fin 256, x0 (ix2 k f) * x1 (ix2 k d)

section Kern
open Cert.Kernel21Ideal Cert.Kernel21Ideal.Gen Cert.Kernel21Ideal.Value Idealize.ShloMosaic.Pipeline

variable (m : (ℓ : Loc nD τ sig) → Buf (Elt Ideal) ℓ) (c : Dev nD)

/-- The first argument on a device. -/
abbrev A0 : Arr2 256 2048 := m ((c.tc : Thread nD τ).loc main_arg0)
/-- The second argument on a device. -/
abbrev A1 : Arr2 256 1024 := m ((c.tc : Thread nD τ).loc main_arg1)

theorem index0 : ∀ t : Fin cfg0.N, win0_0.index t 0 = 0 ∧ win0_0.index t 1 = t.val :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = 0 ∧ win0_2.index t 1 = t.val ∧ win0_2.index t 2 = 0 :=
  (by decide +kernel : ∀ t : Fin grid0.N, _)

/-- The row of the whole result that a row of a grid point's tile is. -/
def row (t : Fin cfg0.N) (f : Fin 1024) : Fin 2048 := ⟨t.val * 1024 + f.val, by have : t.val < 2 := t.isLt; omega⟩
/-- The column of the whole result that a column of a grid point's tile is. -/
def col (t : Fin cfg0.N) (d : Fin 1024) : Fin 1024 := ⟨d.val, by have : t.val < 2 := t.isLt; omega⟩

/-- A grid point's block of the first argument. -/
theorem blk0 (t : Fin cfg0.N) (k : Fin 256) (f : Fin 1024) : (iblk m c 0 t : Vec Ideal S256x1024 .bf16) (ix2 k f) = A0 m c (ix2 k (row t f)) := by
  unfold iblk
  rw [View.read_apply]
  show V m c main_arg0 _ = m (c.tc.loc main_arg0) _
  unfold V
  congr 1
  funext a
  apply Fin.ext
  match a with
  | ⟨0, _⟩ => show win0_0.index t 0 * 256 + 1 * k.val = k.val; rw [(index0 t).1]; omega
  | ⟨1, _⟩ => show win0_0.index t 1 * 1024 + 1 * f.val = t.val * 1024 + f.val; rw [(index0 t).2]; omega

/-- A grid point's block of the second argument. -/
theorem blk1 (t : Fin cfg0.N) (k : Fin 256) (d : Fin 1024) : (iblk m c 1 t : Vec Ideal S256x1024 .f32) (ix2 k d) = A1 m c (ix2 k (col t d)) := by
  unfold iblk
  rw [View.read_apply]
  show V m c main_arg1 _ = m (c.tc.loc main_arg1) _
  unfold V
  congr 1
  funext a
  apply Fin.ext
  match a with
  | ⟨0, _⟩ => show win0_1.index t 0 * 256 + 1 * k.val = k.val; rw [(index1 t).1]; omega
  | ⟨1, _⟩ => show win0_1.index t 1 * 1024 + 1 * d.val = d.val; rw [(index1 t).2]; omega

/-- What a grid point leaves in its tile. -/
theorem tile (t : Fin cfg0.N) (z : Fin 1) (f : Fin 1024) (d : Fin 1024) :
    out0_2 (F := Ideal) (iblk m c 0 t) (iblk m c 1 t) (ix3 z f d) = entry (A0 m c) (A1 m c) (row t f) (col t d) := by
  unfold out0_2
  rw [View.canon_unit_zero offsets3]
  simp only [View.ld_unit_zero (S := S256x1024) offsets2]
  unfold k0_pay1 entry
  pointwise
  simp only [blk0, blk1]

/-- The result is the product. -/
theorem final : (dats m 0 c).arrAt 2 cfg0.N = arr3 (fun _ => entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr3 (fun _ => entry (A0 m c) (A1 m c)) _
    have key : ∀ j : S1x1024x1024.Idx, out0_2 (F := Ideal) (iblk m c 0 t) (iblk m c 1 t) j = entry (A0 m c) (A1 m c) (row t (j 1)) (col t (j 2)) := fun j => by
      conv_lhs => rw [eq_ix3 j]
      exact tile m c t _ _ _
    refine (key j).trans (entry_arr3 (fun _ => entry (A0 m c) (A1 m c)) _ 0 _ _ ?_ ?_ ?_)
    · have hz : (j 0).val < 1 := (j 0).isLt
      show 0 = win0_2.index t 0 * 1 + 1 * (j 0).val
      rw [(index2 t).1]; omega
    · show t.val * 1024 + (j 1).val = win0_2.index t 1 * 1024 + 1 * (j 1).val
      rw [(index2 t).2.1]; omega
    · show (j 2).val = win0_2.index t 2 * 1024 + 1 * (j 2).val
      rw [(index2 t).2.2]; omega
  · have h0 : (i 0 : Nat) < 1 := (i 0).isLt
    have h1 : (i 1 : Nat) < 2048 := (i 1).isLt
    have h2 : (i 2 : Nat) < 1024 := (i 2).isLt
    have hlt : 1 * ((i 1 : Nat) / 1024) < cfg0.N := by show _ < 2; omega
    refine ⟨⟨1 * ((i 1 : Nat) / 1024), hlt⟩, flush0_2 _, ?_⟩
    generalize ht : (⟨1 * ((i 1 : Nat) / 1024), hlt⟩ : Fin cfg0.N) = t
    have hv : t.val = 1 * ((i 1 : Nat) / 1024) := by rw [← ht]
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(index2 t).1]; omega
    | ⟨1, _⟩ => show win0_2.index t 1 * 1024 ≤ (i 1 : Nat) ∧ (i 1 : Nat) < win0_2.index t 1 * 1024 + 1024
                rw [(index2 t).2.1]; omega
    | ⟨2, _⟩ => show win0_2.index t 2 * 1024 ≤ (i 2 : Nat) ∧ (i 2 : Nat) < win0_2.index t 2 * 1024 + 1024
                rw [(index2 t).2.2]; omega

end Kern

section Ref
open Cert.Reference21Ideal Cert.Reference21Ideal.Gen Cert.Reference21Ideal.Read

/-- The reference's result is the product. -/
theorem ref (x0 : Arr2 256 2048) (x1 : Arr2 256 1024) : val_main_v9 (F := Ideal) x0 x1 = arr3 (fun _ => entry x0 x1) :=
  eq_arr3 _ _ fun z f d => by
    obtain rfl : z = 0 := Subsingleton.elim _ _
    unfold val_main_v9 val_main_v8 val_main_v7 val_main_v6 val_main_v5 val_main_v4 val_main_v2 val_main_v1 entry
    pointwise
    rw [Fin.sum_univ_one]
    exact Finset.sum_congr rfl fun k _ => mul_comm _ _

/-- The reference runs, its arguments end unchanged, and no signal is left. -/
theorem refFrame : Cert.quiescent_Reference21Ideal := fun m ρ _ =>
  (θ_run defs _ _).mono (fun r h => ⟨fun c => (h c).2, Idealize.ShloMosaic.sem_eq_zero_of_no_sems (by decide) r.2⟩)
    (Cert.Reference21Ideal.Value.run (F := Ideal) m ρ)

end Ref

/-- Kernel and reference end with the same array, whatever the arguments hold. -/
theorem algebraic : Cert.algebraic_Kernel21Ideal_Reference21Ideal := by
  intro m g m' g' _ hargs
  refine ⟨fun c => arr3 (fun _ => entry (A0 m c) (A1 m c)), ?_, ?_⟩
  · exact (θ_run Cert.Kernel21Ideal.defs _ _).mono (fun r h c => ⟨(h c).1.trans (final m c), (h c).2⟩) (Cert.Kernel21Ideal.Value.run_blocks m g)
  · refine (θ_run Cert.Reference21Ideal.defs _ _).mono (fun r h c => ⟨(h c).1.trans ?_, (h c).2⟩) (Cert.Reference21Ideal.Value.run (F := Ideal) m' g')
    obtain ⟨e0, e1⟩ := hargs c
    rw [Cert.Reference21Ideal.Read.val_main_v9_eq, e0, e1]; exact ref _ _

end Cert.DWkv

end
-- ==== Proof.DMemN.lean ====
/- The cotangent of the normed memory: the kernel's tiles of the product make the reference's product. -/
module

public import proofs.«01_k».proof.Defs
public import proofs.«01_k».proof.Proof.Prod
public import proofs.«01_k».proof.Proof.Gen.Kernel22Ideal.Value
public import proofs.«01_k».proof.Proof.Gen.Reference22Ideal.Read

@[expose] public section

set_option maxRecDepth 16384

noncomputable section

namespace Cert.DMemN

open Idealize.ShloMosaic Idealize.ShloMosaic.TcCoe Idealize.SL.Sem Cert.Prod

/-- One entry: a row of the first argument times a row of the second. -/
def entry (x0 : Arr2 256 1024) (x1 : Arr3 1 2048 1024) (r : Fin 256) (f : Fin 2048) : EReal :=
  ∑ k : Fin 1024, x0 (ix2 r k) * x1 (ix3 0 f k)

section Kern
open Cert.Kernel22Ideal Cert.Kernel22Ideal.Gen Cert.Kernel22Ideal.Value Idealize.ShloMosaic.Pipeline

variable (m : (ℓ : Loc nD τ sig) → Buf (Elt Ideal) ℓ) (c : Dev nD)

/-- The first argument on a device. -/
abbrev A0 : Arr2 256 1024 := m ((c.tc : Thread nD τ).loc main_arg0)
/-- The second argument on a device. -/
abbrev A1 : Arr3 1 2048 1024 := m ((c.tc : Thread nD τ).loc main_arg1)

theorem index0 : ∀ t : Fin cfg0.N, win0_0.index t 0 = 0 ∧ win0_0.index t 1 = 0 :=
  (by decide +kernel : ∀ t : Fin grid0.N, _)
theorem index1 : ∀ t : Fin cfg0.N, win0_1.index t 0 = 0 ∧ win0_1.index t 1 = t.val % 2 ∧ win0_1.index t 2 = 0 :=
  (by decide +kernel : ∀ t : Fin grid0.N, _)
theorem index2 : ∀ t : Fin cfg0.N, win0_2.index t 0 = 0 ∧ win0_2.index t 1 = t.val % 2 :=
  (by decide +kernel : ∀ t : Fin grid0.N, _)

/-- The row of the whole result that a row of a grid point's tile is. -/
def row (t : Fin cfg0.N) (r : Fin 256) : Fin 256 := ⟨r.val, by have : t.val < 2 := t.isLt; omega⟩
/-- The column of the whole result that a column of a grid point's tile is. -/
def col (t : Fin cfg0.N) (f : Fin 1024) : Fin 2048 := ⟨t.val % 2 * 1024 + f.val, by have : t.val < 2 := t.isLt; omega⟩

/-- A grid point's block of the first argument. -/
theorem blk0 (t : Fin cfg0.N) (r : Fin 256) (k : Fin 1024) : (iblk m c 0 t : Vec Ideal S256x1024 .f32) (ix2 r k) = A0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 256 + 1 * r.val = r.val; rw [(index0 t).1]; omega
  | ⟨1, _⟩ => show win0_0.index t 1 * 1024 + 1 * k.val = k.val; rw [(index0 t).2]; omega

/-- A grid point's block of the second argument. -/
theorem blk1 (t : Fin cfg0.N) (z : Fin 1) (f : Fin 1024) (k : Fin 1024) : (iblk m c 1 t : Vec Ideal S1x1024x1024 .bf16) (ix3 z f k) = A1 m c (ix3 0 (col t f) k) := by
  unfold iblk
  rw [View.read_apply]
  show V m c main_arg1 _ = m (c.tc.loc main_arg1) _
  unfold V
  congr 1
  funext a
  apply Fin.ext
  match a with
  | ⟨0, _⟩ => show win0_1.index t 0 * 1 + 1 * z.val = 0; rw [(index1 t).1]; omega
  | ⟨1, _⟩ => show win0_1.index t 1 * 1024 + 1 * f.val = t.val % 2 * 1024 + f.val; rw [(index1 t).2.1]; omega
  | ⟨2, _⟩ => show win0_1.index t 2 * 1024 + 1 * k.val = k.val; rw [(index1 t).2.2]; omega

/-- What a grid point leaves in its tile. -/
theorem tile (t : Fin cfg0.N) (r : Fin 256) (f : Fin 1024) :
    out0_2 (F := Ideal) (iblk m c 0 t) (iblk m c 1 t) (ix2 r f) = entry (A0 m c) (A1 m c) (row t r) (col t f) := by
  unfold out0_2
  rw [View.canon_unit_zero offsets2]
  simp only [View.ld_unit_zero (S := S1x1024x1024) offsets3, View.ld_unit_zero (S := S256x1024) offsets2]
  unfold k0_pay1 entry
  pointwise
  simp only [blk0, blk1]

/-- The result is the product. -/
theorem final : (dats m 0 c).arrAt 2 cfg0.N = arr2 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr2 (entry (A0 m c) (A1 m c)) _
    have key : ∀ j : S256x1024.Idx, out0_2 (F := Ideal) (iblk m c 0 t) (iblk m c 1 t) j = entry (A0 m c) (A1 m c) (row t (j 0)) (col t (j 1)) := fun j => by
      conv_lhs => rw [eq_ix2 j]
      exact tile m c t _ _
    refine (key j).trans (entry_arr2 _ _ _ _ ?_ ?_)
    · show (j 0).val = win0_2.index t 0 * 256 + 1 * (j 0).val
      rw [(index2 t).1]; omega
    · show t.val % 2 * 1024 + (j 1).val = win0_2.index t 1 * 1024 + 1 * (j 1).val
      rw [(index2 t).2]; omega
  · have h0 : (i 0 : Nat) < 256 := (i 0).isLt
    have h1 : (i 1 : Nat) < 2048 := (i 1).isLt
    have hlt : (i 1 : Nat) / 1024 < cfg0.N := by show _ < 2; omega
    refine ⟨⟨(i 1 : Nat) / 1024, hlt⟩, flush0_2 _, ?_⟩
    generalize ht : (⟨(i 1 : Nat) / 1024, hlt⟩ : Fin cfg0.N) = t
    have hv : t.val = (i 1 : Nat) / 1024 := by rw [← ht]
    show i ∈ ((View.whole main_v0).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256
                rw [(index2 t).1]; omega
    | ⟨1, _⟩ => show win0_2.index t 1 * 1024 ≤ (i 1 : Nat) ∧ (i 1 : Nat) < win0_2.index t 1 * 1024 + 1024
                rw [(index2 t).2]; omega

end Kern

section Ref
open Cert.Reference22Ideal Cert.Reference22Ideal.Gen Cert.Reference22Ideal.Read

/-- The reference's result is the product. -/
theorem ref (x0 : Arr2 256 1024) (x1 : Arr3 1 2048 1024) : val_main_v7 (F := Ideal) x0 x1 = arr2 (entry x0 x1) :=
  eq_arr2 _ _ fun r f => by
    unfold val_main_v7 val_main_v6 val_main_v5 val_main_v2 val_main_v1 val_main_v0 entry
    pointwise

/-- The reference runs, its arguments end unchanged, and no signal is left. -/
theorem refFrame : Cert.quiescent_Reference22Ideal := fun m ρ _ =>
  (θ_run defs _ _).mono (fun r h => ⟨fun c => (h c).2, Idealize.ShloMosaic.sem_eq_zero_of_no_sems (by decide) r.2⟩)
    (Cert.Reference22Ideal.Value.run (F := Ideal) m ρ)

end Ref

/-- Kernel and reference end with the same array, whatever the arguments hold. -/
theorem algebraic : Cert.algebraic_Kernel22Ideal_Reference22Ideal := by
  intro m g m' g' _ hargs
  refine ⟨fun c => arr2 (entry (A0 m c) (A1 m c)), ?_, ?_⟩
  · exact (θ_run Cert.Kernel22Ideal.defs _ _).mono (fun r h c => ⟨(h c).1.trans (final m c), (h c).2⟩) (Cert.Kernel22Ideal.Value.run_blocks m g)
  · refine (θ_run Cert.Reference22Ideal.defs _ _).mono (fun r h c => ⟨(h c).1.trans ?_, (h c).2⟩) (Cert.Reference22Ideal.Value.run (F := Ideal) m' g')
    obtain ⟨e0, e1⟩ := hargs c
    rw [Cert.Reference22Ideal.Read.val_main_v7_eq, e0, e1]; exact ref _ _

end Cert.DMemN

end
-- ==== Proof.NormMath.lean ====
/- The norm of a row by its root mean square, and its gradient, over the extended reals. -/
module

public import proofs.«01_k».proof.Proof.MemMath

@[expose] public section

noncomputable section

namespace Cert.Norm

open Idealize.ShloMosaic Cert.Mem

variable {n : ℕ}

/-- The number added to the mean of the squares. -/
def eps : EReal := Ideal.ofBits .f32 0x358637BD#32

/-- It is a positive real number. -/
theorem eps_real : ∃ e : ℝ, 0 < e ∧ eps = e := by
  unfold eps
  simp only [Ideal.ofBits, Ideal.ieee]
  norm_num
  refine ⟨_, ?_, (EReal.coe_mul _ _).symm⟩
  positivity

/-- The word of 2048 denotes 2048. -/
theorem word2048 : Ideal.ofBits .f32 0x45000000#32 = ((2048 : ℝ) : EReal) := by
  simp [Ideal.ofBits, Ideal.ieee]
  rw [← EReal.coe_mul]; norm_num

/-- The word of 1536 denotes 1536. -/
theorem word1536 : Ideal.ofBits .f32 0x44C00000#32 = ((1536 : ℝ) : EReal) := by
  simp [Ideal.ofBits, Ideal.ieee]
  rw [← EReal.coe_mul]; norm_num

/-- The word of minus a half denotes minus a half. -/
theorem wordNegHalf : Ideal.ofBits .f32 0xBF000000#32 = ((-(1 / 2) : ℝ) : EReal) := by
  simp [Ideal.ofBits, Ideal.ieee]
  rw [← EReal.coe_mul]
  congr 1
  norm_num

/-- The mean of the squares of a row of length `N`, a little larger. -/
def meanSq (N : EReal) (x : Fin n → EReal) : EReal := Ideal.div (∑ k, x k * x k) N + eps

/-- One over the root of the mean of the squares. -/
def inv (N : EReal) (x : Fin n → EReal) : EReal := Ideal.rsqrt (meanSq N x)

/-- The norm of a row. -/
def normed (N : EReal) (x g : Fin n → EReal) (j : Fin n) : EReal := x j * inv N x * g j

/-- The gradient of a row as the kernel writes it: `dy` less its part along the row. -/
def back (N : EReal) (x dy : Fin n → EReal) (j : Fin n) : EReal :=
  inv N x * (dy j - x j * inv N x * Ideal.div (∑ k, dy k * (x k * inv N x)) N)

/-- What the derivative of the mean of the squares is multiplied by. -/
def coef (N : EReal) (x dy : Fin n → EReal) : EReal :=
  Ideal.div ((∑ k, x k * dy k) * (((-(1 / 2) : ℝ) : EReal) * Ideal.div (inv N x) (meanSq N x))) N

/-- The gradient of a row as the derivative gives it. -/
def backVjp (N : EReal) (x dy : Fin n → EReal) (j : Fin n) : EReal :=
  dy j * inv N x + x j * coef N x dy + coef N x dy * x j

/-- A square is not negative. -/
theorem sq_nonneg (y : EReal) : 0 ≤ y * y := by
  induction y with
  | bot => simp
  | top => simp
  | coe y => rw [← EReal.coe_mul]; exact_mod_cast mul_self_nonneg y

/-- The mean of the squares is positive. -/
theorem meanSq_pos {N : ℝ} (hN : 0 < N) (x : Fin n → EReal) : 0 < meanSq N x := by
  obtain ⟨e, he, h⟩ := eps_real
  have h0 : 0 ≤ ∑ k, x k * x k := Finset.sum_nonneg fun k _ => sq_nonneg (x k)
  unfold meanSq
  rw [h, Ideal.div_coe hN.ne']
  have h1 : (0 : EReal) ≤ (∑ k, x k * x k) * ((1 / N : ℝ) : EReal) :=
    mul_nonneg h0 (by exact_mod_cast (by positivity : (0 : ℝ) ≤ 1 / N))
  calc (0 : EReal) < (e : EReal) := by exact_mod_cast he
    _ = 0 + (e : EReal) := (zero_add _).symm
    _ ≤ _ := add_le_add_left h1 _

/-- One over the root of a positive number is a real number, and dividing it by the number cubes it. -/
theorem rsqrt_real {m : EReal} (hm : 0 < m) : ∃ r : ℝ, 0 ≤ r ∧ Ideal.rsqrt m = r ∧ Ideal.div (Ideal.rsqrt m) m = ((r * r * r : ℝ) : EReal) := by
  induction m with
  | bot => exact absurd hm (by simp)
  | top =>
    refine ⟨0, le_rfl, by simp, ?_⟩
    simp [Ideal.div]
  | coe m =>
    have h : 0 < m := by exact_mod_cast hm
    have hs : 0 < Real.sqrt m := Real.sqrt_pos.mpr h
    refine ⟨(Real.sqrt m)⁻¹, by positivity, ?_, ?_⟩
    · rw [Ideal.rsqrt_coe, if_neg (not_lt.mpr h.le), if_neg h.ne']
    · rw [Ideal.rsqrt_coe, if_neg (not_lt.mpr h.le), if_neg h.ne', Ideal.div_coe h.ne', ← EReal.coe_mul]
      congr 1
      generalize hq : Real.sqrt m = q at hs
      obtain rfl : m = q * q := by rw [← hq, Real.mul_self_sqrt h.le]
      field_simp

/-- Half of a number twice is the number. -/
theorem half_add_half (y : EReal) : ((1 / 2 : ℝ) : EReal) * y + ((1 / 2 : ℝ) : EReal) * y = y := by
  rw [← EReal.right_distrib_of_nonneg (by exact_mod_cast (by norm_num : (0 : ℝ) ≤ 1 / 2)) (by exact_mod_cast (by norm_num : (0 : ℝ) ≤ 1 / 2)),
    ← EReal.coe_add]
  norm_num

/-- THE TWO GRADIENTS AGREE, whatever extended reals the row and its cotangent are. -/
theorem back_eq {N : ℝ} (hN : 0 < N) (x dy : Fin n → EReal) (j : Fin n) : back N x dy j = backVjp N x dy j := by
  obtain ⟨r, hr, hi, hd⟩ := rsqrt_real (meanSq_pos hN x)
  have hi' : inv N x = r := hi
  change Ideal.div (inv N x) (meanSq N x) = _ at hd
  unfold back backVjp coef
  rw [hd, hi']
  have hs : ∑ k, dy k * (x k * (r : EReal)) = (∑ k, x k * dy k) * (r : EReal) := by
    rw [sum_mul_coe _ _ hr]
    exact Finset.sum_congr rfl fun k _ => by rw [← mul_assoc, mul_comm (dy k)]
  rw [hs]
  generalize (∑ k, x k * dy k) = S
  rw [Ideal.div_coe hN.ne', Ideal.div_coe hN.ne', sub_eq_add_neg, coe_mul_add hr, mul_comm (r : EReal) (dy j), add_assoc]
  congr 1
  have hc : S * (((-(1 / 2) : ℝ) : EReal) * ((r * r * r : ℝ) : EReal)) * ((1 / N : ℝ) : EReal)
      = -(((1 / 2 : ℝ) : EReal) * (S * ((r * r * r * (1 / N) : ℝ) : EReal))) := by
    rw [EReal.coe_neg, EReal.coe_mul (r * r * r) (1 / N), EReal.neg_mul, mul_neg, EReal.neg_mul]
    congr 1
    ac_rfl
  have hl : (r : EReal) * -(x j * (r : EReal) * (S * (r : EReal) * ((1 / N : ℝ) : EReal))) = -(x j * (S * ((r * r * r * (1 / N) : ℝ) : EReal))) := by
    rw [EReal.coe_mul (r * r * r) (1 / N), EReal.coe_mul (r * r) r, EReal.coe_mul r r, mul_neg]
    congr 1
    ac_rfl
  rw [hc, hl, mul_comm _ (x j), mul_neg, mul_left_comm (x j) ((1 / 2 : ℝ) : EReal), ← mul_neg ((1 / 2 : ℝ) : EReal)]
  exact (half_add_half _).symm

end Cert.Norm

end
-- ==== Proof.NormBack.lean ====
/- The gradient of a layer's norm: the kernel's row tiles make the gradient of the reference. -/
module

public import proofs.«01_k».proof.Defs
public import proofs.«01_k».proof.Proof.NormMath
public import proofs.«01_k».proof.Proof.Prod
public import proofs.«01_k».proof.Proof.Gen.Kernel23Ideal.Value
public import proofs.«01_k».proof.Proof.Gen.Reference23Ideal.Read

@[expose] public section

set_option maxRecDepth 16384

noncomputable section

namespace Cert.NormBack

open Idealize.ShloMosaic Idealize.ShloMosaic.TcCoe Idealize.SL.Sem Cert.Prod Cert.Norm

/-- One entry of the rows' gradient: what passes the norm, plus what passes by it. -/
def entry (X : Arr2 2048 2048) (G : Arr1 2048) (Y : Arr2 2048 2048) (D : Arr2 2048 2048) (r : Fin 2048) (j : Fin 2048) : EReal :=
  back ((2048 : ℝ) : EReal) (fun k => X (ix2 r k)) (fun k => Y (ix2 r k) * G (ix1 k)) j + D (ix2 r j)

/-- One entry of the gain's gradient: the sum over the rows. -/
def gainEntry (X Y : Arr2 2048 2048) (_ : Fin 1) (j : Fin 2048) : EReal :=
  ∑ r : Fin 2048, Y (ix2 r j) * (X (ix2 r j) * inv ((2048 : ℝ) : EReal) (fun k => X (ix2 r k)))

section Case
open Cert.Kernel23Ideal Cert.Kernel23Ideal.Gen

variable {F : FTy → Type} [FloatOps F] (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole)
variable (x0 : Vec F S256x2048 .f32) (x1 : Vec F S1x2048 .f32) (x2 x3 : Vec F S256x2048 .f32) (xo : Vec F S1x2048 .f32)

/-- What the first row tile leaves in its block of the gradient. -/
theorem out_A_0 (hc0 : cond0_0 i) (hc1 : ¬cond0_1 i) :
    out0_A_4 c i arg1 harg1 arg2 harg2 arg3 harg3 arg4 harg4 arg5 harg5 arg6 harg6 arg7 harg7 hc0 hc1 x0 x1 x2 x3 = k0_pay6 x0 x2 x1 x3 := by
  unfold out0_A_4
  rw [View.read_writes_eq_canon _ _ _ (cover0_A_4 c i arg1 harg1 arg2 harg2 arg3 harg3 arg4 harg4 arg5 harg5 arg6 harg6 arg7 harg7 hc0 hc1 x0 x1 x2 x3)]
  unfold kernelRun0_A
  dsimp only
  sl_unfold_words
  rw [View.canon_unit_zero offsets2]
  simp only [View.readAt_eq_ld, harg1.read_unread, harg2.read_unread, harg3.read_unread, harg4.read_unread, harg5.read_unread, harg6.read_unread, harg7.read_unread,
    View.ld_unit_zero (S := S256x2048) offsets2, View.ld_unit_zero (S := S1x2048) offsets2]

/-- What it leaves in the block's rounded copy. -/
theorem out_A_1 (hc0 : cond0_0 i) (hc1 : ¬cond0_1 i) :
    out0_A_5 c i arg1 harg1 arg2 harg2 arg3 harg3 arg4 harg4 arg5 harg5 arg6 harg6 arg7 harg7 hc0 hc1 x0 x1 x2 x3 = k0_pay1 (k0_pay6 x0 x2 x1 x3) := by
  unfold out0_A_5
  rw [View.read_writes_eq_canon _ _ _ (cover0_A_5 c i arg1 harg1 arg2 harg2 arg3 harg3 arg4 harg4 arg5 harg5 arg6 harg6 arg7 harg7 hc0 hc1 x0 x1 x2 x3)]
  unfold kernelRun0_A
  dsimp only
  sl_unfold_words
  rw [View.canon_unit_zero offsets2]
  simp only [View.readAt_eq_ld, harg1.read_unread, harg2.read_unread, harg3.read_unread, harg4.read_unread, harg5.read_unread, harg6.read_unread, harg7.read_unread,
    View.ld_unit_zero (S := S256x2048) offsets2, View.ld_unit_zero (S := S1x2048) offsets2]

/-- What it leaves in the gain's gradient. -/
theorem out_A_2 (hc0 : cond0_0 i) (hc1 : ¬cond0_1 i) :
    out0_A_6 c i arg1 harg1 arg2 harg2 arg3 harg3 arg4 harg4 arg5 harg5 arg6 harg6 arg7 harg7 hc0 hc1 x0 x1 x2 x3 = k0_pay4 x0 x2 := by
  unfold out0_A_6
  rw [View.read_writes_eq_canon _ _ _ (cover0_A_6 c i arg1 harg1 arg2 harg2 arg3 harg3 arg4 harg4 arg5 harg5 arg6 harg6 arg7 harg7 hc0 hc1 x0 x1 x2 x3)]
  unfold kernelRun0_A
  dsimp only
  sl_unfold_words
  rw [View.canon_unit_zero offsets2]
  simp only [View.readAt_eq_ld, harg1.read_unread, harg2.read_unread, harg3.read_unread, harg4.read_unread, harg5.read_unread, harg6.read_unread, harg7.read_unread,
    View.ld_unit_zero (S := S256x2048) offsets2, View.ld_unit_zero (S := S1x2048) offsets2]

/-- What a later row tile leaves in its block of the gradient. -/
theorem out_B_0 (hc0 : ¬cond0_0 i) (hc1 : cond0_1 i) :
    out0_B_4 c i arg1 harg1 arg2 harg2 arg3 harg3 arg4 harg4 arg5 harg5 arg6 harg6 arg7 harg7 hc0 hc1 x0 x1 x2 x3 xo = k0_pay6 x0 x2 x1 x3 := by
  unfold out0_B_4
  rw [View.read_writes_eq_canon _ _ _ (cover0_B_4 c i arg1 harg1 arg2 harg2 arg3 harg3 arg4 harg4 arg5 harg5 arg6 harg6 arg7 harg7 hc0 hc1 x0 x1 x2 x3 xo)]
  unfold kernelRun0_B
  dsimp only
  sl_unfold_words
  rw [View.canon_unit_zero offsets2]
  simp only [View.readAt_eq_ld, harg1.read_unread, harg2.read_unread, harg3.read_unread, harg4.read_unread, harg5.read_unread, harg6.read_unread, harg7.read_unread,
    View.ld_unit_zero (S := S256x2048) offsets2, View.ld_unit_zero (S := S1x2048) offsets2]

/-- What it leaves in the block's rounded copy. -/
theorem out_B_1 (hc0 : ¬cond0_0 i) (hc1 : cond0_1 i) :
    out0_B_5 c i arg1 harg1 arg2 harg2 arg3 harg3 arg4 harg4 arg5 harg5 arg6 harg6 arg7 harg7 hc0 hc1 x0 x1 x2 x3 xo = k0_pay1 (k0_pay6 x0 x2 x1 x3) := by
  unfold out0_B_5
  rw [View.read_writes_eq_canon _ _ _ (cover0_B_5 c i arg1 harg1 arg2 harg2 arg3 harg3 arg4 harg4 arg5 harg5 arg6 harg6 arg7 harg7 hc0 hc1 x0 x1 x2 x3 xo)]
  unfold kernelRun0_B
  dsimp only
  sl_unfold_words
  rw [View.canon_unit_zero offsets2]
  simp only [View.readAt_eq_ld, harg1.read_unread, harg2.read_unread, harg3.read_unread, harg4.read_unread, harg5.read_unread, harg6.read_unread, harg7.read_unread,
    View.ld_unit_zero (S := S256x2048) offsets2, View.ld_unit_zero (S := S1x2048) offsets2]

/-- What it leaves in the gain's gradient. -/
theorem out_B_2 (hc0 : ¬cond0_0 i) (hc1 : cond0_1 i) :
    out0_B_6 c i arg1 harg1 arg2 harg2 arg3 harg3 arg4 harg4 arg5 harg5 arg6 harg6 arg7 harg7 hc0 hc1 x0 x1 x2 x3 xo = k0_pay5 x0 x2 xo := by
  unfold out0_B_6
  rw [View.read_writes_eq_canon _ _ _ (cover0_B_6 c i arg1 harg1 arg2 harg2 arg3 harg3 arg4 harg4 arg5 harg5 arg6 harg6 arg7 harg7 hc0 hc1 x0 x1 x2 x3 xo)]
  unfold kernelRun0_B
  dsimp only
  sl_unfold_words
  rw [View.canon_unit_zero offsets2]
  simp only [View.readAt_eq_ld, harg1.read_unread, harg2.read_unread, harg3.read_unread, harg4.read_unread, harg5.read_unread, harg6.read_unread, harg7.read_unread,
    View.ld_unit_zero (S := S256x2048) offsets2, View.ld_unit_zero (S := S1x2048) offsets2]

end Case

section Kern
open Cert.Kernel23Ideal Cert.Kernel23Ideal.Gen Cert.Kernel23Ideal.Value Idealize.ShloMosaic.Pipeline

section Tile
variable (x y w : Vec Ideal S256x2048 .f32) (g : Vec Ideal S1x2048 .f32)

/-- One over the root mean square of a row of a tile. -/
theorem pay2 (r : Fin 256) (z : Fin 1) : k0_pay2 (F := Ideal) x (ix2 r z) = inv ((2048 : ℝ) : EReal) fun k => x (ix2 r k) := by
  unfold k0_pay2
  pointwise
  rw [word2048]
  rfl

/-- What a tile adds to the gain's gradient. -/
theorem pay4 (z : Fin 1) (j : Fin 2048) : k0_pay4 (F := Ideal) x y (ix2 z j)
    = ∑ r : Fin 256, y (ix2 r j) * (x (ix2 r j) * inv ((2048 : ℝ) : EReal) fun k => x (ix2 r k)) := by
  unfold k0_pay4 k0_pay3
  pointwise
  simp only [pay2]

/-- A tile's gradient. -/
theorem pay6 (r : Fin 256) (j : Fin 2048) : k0_pay6 (F := Ideal) x y g w (ix2 r j)
    = back ((2048 : ℝ) : EReal) (fun k => x (ix2 r k)) (fun k => y (ix2 r k) * g (ix2 0 k)) j + w (ix2 r j) := by
  unfold k0_pay6 k0_pay3
  pointwise
  simp only [pay2]
  rw [word2048]
  rfl
end Tile

variable (m : (ℓ : Loc nD τ sig) → Buf (Elt Ideal) ℓ) (c : Dev nD)

/-- The rows on a device. -/
abbrev A0 : Arr2 2048 2048 := m ((c.tc : Thread nD τ).loc main_arg0)
/-- The gain on a device. -/
abbrev A1 : Arr1 2048 := m ((c.tc : Thread nD τ).loc main_arg1)
/-- The cotangent of the norm on a device. -/
abbrev A2 : Arr2 2048 2048 := m ((c.tc : Thread nD τ).loc main_arg2)
/-- The cotangent of the rows as they are passed on. -/
abbrev A3 : Arr2 2048 2048 := m ((c.tc : Thread nD τ).loc main_arg3)

theorem index0 : ∀ t : Fin cfg0.N, win0_0.index t 0 = t.val ∧ win0_0.index t 1 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = t.val ∧ win0_2.index t 1 = 0 :=
  (by decide +kernel : ∀ t : Fin grid0.N, _)
theorem index3 : ∀ t : Fin cfg0.N, win0_3.index t 0 = t.val ∧ win0_3.index t 1 = 0 :=
  (by decide +kernel : ∀ t : Fin grid0.N, _)
theorem index4 : ∀ t : Fin cfg0.N, win0_4.index t 0 = t.val ∧ win0_4.index t 1 = 0 :=
  (by decide +kernel : ∀ t : Fin grid0.N, _)
theorem index5 : ∀ t : Fin cfg0.N, win0_5.index t 0 = t.val ∧ win0_5.index t 1 = 0 :=
  (by decide +kernel : ∀ t : Fin grid0.N, _)
theorem index6 : ∀ t : Fin cfg0.N, win0_6.index t 0 = 0 ∧ win0_6.index t 1 = 0 :=
  (by decide +kernel : ∀ t : Fin grid0.N, _)

/-- The row of the whole array that a row of a grid point's tile is. -/
def row (t : Fin cfg0.N) (r : Fin 256) : Fin 2048 := ⟨t.val * 256 + r.val, by have : t.val < 8 := t.isLt; omega⟩

/-- A grid point's rows of argument 0. -/
theorem blk0 (t : Fin cfg0.N) (r : Fin 256) (k : Fin 2048) : (iblk m c 0 t : Vec Ideal S256x2048 .f32) (ix2 r k) = A0 m c (ix2 (row t r) k) := by
  unfold iblk
  rw [View.read_apply]
  show A0 m c _ = A0 m c _
  congr 1
  funext a
  apply Fin.ext
  match a with
  | ⟨0, _⟩ => show win0_0.index t 0 * 256 + 1 * r.val = t.val * 256 + r.val; rw [(index0 t).1]; omega
  | ⟨1, _⟩ => show win0_0.index t 1 * 2048 + 1 * k.val = k.val; rw [(index0 t).2]; omega

/-- A grid point's rows of argument 2. -/
theorem blk2 (t : Fin cfg0.N) (r : Fin 256) (k : Fin 2048) : (iblk m c 2 t : Vec Ideal S256x2048 .f32) (ix2 r k) = A2 m c (ix2 (row t r) k) := by
  unfold iblk
  rw [View.read_apply]
  show A2 m c _ = A2 m c _
  congr 1
  funext a
  apply Fin.ext
  match a with
  | ⟨0, _⟩ => show win0_2.index t 0 * 256 + 1 * r.val = t.val * 256 + r.val; rw [(index2 t).1]; omega
  | ⟨1, _⟩ => show win0_2.index t 1 * 2048 + 1 * k.val = k.val; rw [(index2 t).2]; omega

/-- A grid point's rows of argument 3. -/
theorem blk3 (t : Fin cfg0.N) (r : Fin 256) (k : Fin 2048) : (iblk m c 3 t : Vec Ideal S256x2048 .f32) (ix2 r k) = A3 m c (ix2 (row t r) k) := by
  unfold iblk
  rw [View.read_apply]
  show A3 m c _ = A3 m c _
  congr 1
  funext a
  apply Fin.ext
  match a with
  | ⟨0, _⟩ => show win0_3.index t 0 * 256 + 1 * r.val = t.val * 256 + r.val; rw [(index3 t).1]; omega
  | ⟨1, _⟩ => show win0_3.index t 1 * 2048 + 1 * k.val = k.val; rw [(index3 t).2]; omega

/-- Every grid point's block of the gain. -/
theorem blk1 (t : Fin cfg0.N) (z : Fin 1) (k : Fin 2048) : (iblk m c 1 t : Vec Ideal S1x2048 .f32) (ix2 z k) = A1 m c (ix1 k) := by
  unfold iblk
  rw [View.read_apply]
  show shapeCast S1x2048 (A1 m c) shapeCasts_S2048_S1x2048 _ = _
  have h : ∀ i : S1x2048.Idx, (i 1).val = k.val → shapeCast S1x2048 (A1 m c) shapeCasts_S2048_S1x2048 i = A1 m c (ix1 k) := fun i hi => by
    rw [eq_ix2 i, show i 1 = k from Fin.ext hi]
    pointwise
  refine h _ ?_
  show win0_1.index t 1 * 2048 + 1 * k.val = k.val
  rw [(index1 t).2]; omega

/-- After each grid point its two blocks of the gradient are done. -/
theorem outs (t : Fin cfg0.N) (r : Fin 256) (j : Fin 2048) :
    (outsAt0 m c t.val t.isLt).1 (ix2 r j) = entry (A0 m c) (A1 m c) (A2 m c) (A3 m c) (row t r) j
    ∧ (outsAt0 m c t.val t.isLt).2.1 (ix2 r j) = entry (A0 m c) (A1 m c) (A2 m c) (A3 m c) (row t r) j := by
  have key : k0_pay6 (F := Ideal) (iblk m c 0 t) (iblk m c 2 t) (iblk m c 1 t) (iblk m c 3 t) (ix2 r j) = entry (A0 m c) (A1 m c) (A2 m c) (A3 m c) (row t r) j := by
    rw [pay6]
    simp only [blk0, blk1, blk2, blk3]
    rfl
  have hN : t.val < 8 := t.isLt
  by_cases h0 : t.val % 8 = 0
  · rw [outsAt0_A m c t h0 (by omega)]
    dsimp only
    rw [out_A_0, out_A_1]
    exact ⟨key, key⟩
  · rw [outsAt0_B m c t h0 (by omega)]
    dsimp only
    rw [out_B_0, out_B_1]
    exact ⟨key, key⟩

/-- What a row adds to the gain's gradient. -/
def term (j : Fin 2048) (r : Fin 2048) : EReal := A2 m c (ix2 r j) * (A0 m c (ix2 r j) * inv ((2048 : ℝ) : EReal) (fun k => A0 m c (ix2 r k)))

/-- What a grid point adds to the gain's gradient. -/
theorem tileGain (t : Fin cfg0.N) (z : Fin 1) (j : Fin 2048) :
    k0_pay4 (F := Ideal) (iblk m c 0 t) (iblk m c 2 t) (ix2 z j) = ∑ r ∈ Finset.range 256, ext (term m c j) (t.val * 256 + r) := by
  rw [pay4]
  simp only [blk0, blk2]
  exact part_range (term m c j) (row t) (t.val * 256) fun _ => rfl

/-- After each grid point the gain's gradient is the sum over the rows so far. -/
theorem outsGain : ∀ (n : ℕ) (hn : n < cfg0.N) (z : Fin 1) (j : Fin 2048),
    (outsAt0 m c n hn).2.2 (ix2 z j) = ∑ r ∈ Finset.range ((n + 1) * 256), ext (term m c j) r := by
  intro n
  induction n with
  | zero =>
    intro hn z j
    rw [outsAt0_A m c ⟨0, hn⟩ rfl (by simp)]
    dsimp only
    rw [out_A_2, tileGain]
    simp
  | succ n ih =>
    intro hn z j
    have hN : n + 1 < 8 := hn
    rw [outsAt0_B m c ⟨n + 1, hn⟩ (by simp only; omega) (by simp only; omega)]
    dsimp only
    rw [out_B_2, show (n + 1 + 1) * 256 = (n + 1) * 256 + 256 by omega, Finset.sum_range_add, ← ih (Nat.lt_of_succ_lt hn) z j]
    unfold k0_pay5
    simp only [shapeCast_self]
    show _ + k0_pay4 (F := Ideal) _ _ (ix2 z j) = _
    rw [tileGain]
    rfl

/-- The first result is the gradient. -/
theorem final0 : (dats m 0 c).arrAt 4 cfg0.N = arr2 (entry (A0 m c) (A1 m c) (A2 m c) (A3 m c)) := by
  refine (dats m 0 c).arrAt_eq_of_cover 4 _ (fun t _ => ?_) fun i => ?_
  · rw [flushed4]
    funext j
    rw [View.read_apply]
    show (outsAt0 m c t.val t.isLt).1 j = arr2 (entry (A0 m c) (A1 m c) (A2 m c) (A3 m c)) _
    have key : ∀ j : S256x2048.Idx, (outsAt0 m c t.val t.isLt).1 j = entry (A0 m c) (A1 m c) (A2 m c) (A3 m c) (row t (j 0)) (j 1) := fun j => by
      conv_lhs => rw [eq_ix2 j]
      exact (outs m c t _ _).1
    refine (key j).trans (entry_arr2 _ _ _ _ ?_ ?_)
    · show t.val * 256 + (j 0).val = win0_4.index t 0 * 256 + 1 * (j 0).val
      rw [(index4 t).1]; omega
    · show (j 1).val = win0_4.index t 1 * 2048 + 1 * (j 1).val
      rw [(index4 t).2]; omega
  · have h0 : (i 0 : Nat) < 2048 := (i 0).isLt
    have h1 : (i 1 : Nat) < 2048 := (i 1).isLt
    have hlt : (i 0 : Nat) / 256 < cfg0.N := by show _ < 8; omega
    refine ⟨⟨(i 0 : Nat) / 256, hlt⟩, flush0_4 _, ?_⟩
    generalize ht : (⟨(i 0 : Nat) / 256, hlt⟩ : Fin cfg0.N) = t
    have hv : t.val = (i 0 : Nat) / 256 := by rw [← ht]
    show i ∈ ((View.whole main_v1_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [(index4 t).1]; omega
    | ⟨1, _⟩ => show win0_4.index t 1 * 2048 ≤ (i 1 : Nat) ∧ (i 1 : Nat) < win0_4.index t 1 * 2048 + 2048
                rw [(index4 t).2]; omega

/-- The second result is its rounded copy. -/
theorem final1 : (dats m 0 c).arrAt 5 cfg0.N = arr2 (entry (A0 m c) (A1 m c) (A2 m c) (A3 m c)) := by
  refine (dats m 0 c).arrAt_eq_of_cover 5 _ (fun t _ => ?_) fun i => ?_
  · rw [flushed5]
    funext j
    rw [View.read_apply]
    show (outsAt0 m c t.val t.isLt).2.1 j = arr2 (entry (A0 m c) (A1 m c) (A2 m c) (A3 m c)) _
    have key : ∀ j : S256x2048.Idx, (outsAt0 m c t.val t.isLt).2.1 j = entry (A0 m c) (A1 m c) (A2 m c) (A3 m c) (row t (j 0)) (j 1) := fun j => by
      conv_lhs => rw [eq_ix2 j]
      exact (outs m c t _ _).2
    refine (key j).trans (entry_arr2 _ _ _ _ ?_ ?_)
    · show t.val * 256 + (j 0).val = win0_5.index t 0 * 256 + 1 * (j 0).val
      rw [(index5 t).1]; omega
    · show (j 1).val = win0_5.index t 1 * 2048 + 1 * (j 1).val
      rw [(index5 t).2]; omega
  · have h0 : (i 0 : Nat) < 2048 := (i 0).isLt
    have h1 : (i 1 : Nat) < 2048 := (i 1).isLt
    have hlt : (i 0 : Nat) / 256 < cfg0.N := by show _ < 8; omega
    refine ⟨⟨(i 0 : Nat) / 256, hlt⟩, flush0_5 _, ?_⟩
    generalize ht : (⟨(i 0 : Nat) / 256, hlt⟩ : Fin cfg0.N) = t
    have hv : t.val = (i 0 : Nat) / 256 := by rw [← ht]
    show i ∈ ((View.whole main_v1_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(index5 t).1]; omega
    | ⟨1, _⟩ => show win0_5.index t 1 * 2048 ≤ (i 1 : Nat) ∧ (i 1 : Nat) < win0_5.index t 1 * 2048 + 2048
                rw [(index5 t).2]; omega

/-- The third result is the gain's gradient. -/
theorem final2 : (dats m 0 c).arrAt 6 cfg0.N = arr2 (gainEntry (A0 m c) (A2 m c)) := by
  refine (dats m 0 c).arrAt_eq_of_cover 6 _ (fun t hf => ?_) fun i => ?_
  · have hm : t.val % 8 = 7 := (flush0_6 t).mp hf
    have hN : t.val < 8 := t.isLt
    rw [flushed6]
    funext j
    rw [View.read_apply]
    show (outsAt0 m c t.val t.isLt).2.2 j = arr2 (gainEntry (A0 m c) (A2 m c)) _
    have key : ∀ j : S1x2048.Idx, (outsAt0 m c t.val t.isLt).2.2 j = gainEntry (A0 m c) (A2 m c) (j 0) (j 1) := fun j => by
      conv_lhs => rw [eq_ix2 j]
      refine (outsGain m c t.val t.isLt (j 0) (j 1)).trans ?_
      rw [show (t.val + 1) * 256 = 2048 by omega]
      exact sum_ext _
    refine (key j).trans (entry_arr2 _ _ _ _ ?_ ?_)
    · show (j 0).val = win0_6.index t 0 * 1 + 1 * (j 0).val
      rw [(index6 t).1]; omega
    · show (j 1).val = win0_6.index t 1 * 2048 + 1 * (j 1).val
      rw [(index6 t).2]; omega
  · have h0 : (i 0 : Nat) < 1 := (i 0).isLt
    have h1 : (i 1 : Nat) < 2048 := (i 1).isLt
    refine ⟨⟨7, by show 7 < 8; omega⟩, (flush0_6 _).mpr rfl, ?_⟩
    generalize (⟨7, _⟩ : Fin cfg0.N) = t
    show i ∈ ((View.whole main_v1_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [(index6 t).1]; omega
    | ⟨1, _⟩ => show win0_6.index t 1 * 2048 ≤ (i 1 : Nat) ∧ (i 1 : Nat) < win0_6.index t 1 * 2048 + 2048
                rw [(index6 t).2]; omega

end Kern

section Ref
open Cert.Reference23Ideal Cert.Reference23Ideal.Gen Cert.Reference23Ideal.Read

variable (x0 : Arr2 2048 2048) (x1 : Arr1 2048) (x2 x3 : Arr2 2048 2048)

/-- The mean of the squares of a row. -/
theorem refMean (r : Fin 2048) (z : Fin 1) : val_main_v6 (F := Ideal) x0 (ix2 r z) = meanSq ((2048 : ℝ) : EReal) fun k => x0 (ix2 r k) := by
  unfold val_main_v6 val_main_v5 val_main_cst_1 val_main_v4 val_main_v3 val_main_cst_0 val_main_v2 val_main_v1 val_main_cst val_main_v0
  pointwise
  rw [word2048]
  rfl

/-- One over its root. -/
theorem refInv (r : Fin 2048) (z : Fin 1) : val_main_v7 (F := Ideal) x0 (ix2 r z) = inv ((2048 : ℝ) : EReal) fun k => x0 (ix2 r k) := by
  unfold val_main_v7
  pointwise
  rw [refMean]
  rfl

/-- The reference's first result. -/
theorem ref0 : val_main_v36 (F := Ideal) x0 x1 x2 x3 = arr2 (entry x0 x1 x2 x3) :=
  eq_arr2 _ _ fun r j => by
    unfold val_main_v36 val_main_v35 val_main_v34 val_main_v33 val_main_v32 val_main_v31 val_main_cst_7 val_main_v30 val_main_v29 val_main_cst_6 val_main_v28 val_main_v27 val_main_v26 val_main_v25 val_main_v24 val_main_v23 val_main_cst_5 val_main_v22 val_main_v20 val_main_v19 val_main_v13 val_main_v10 val_main_v9 val_main_cst_2 val_main_v8
    pointwise
    simp only [refMean, refInv]
    rw [word2048, wordNegHalf]
    unfold entry
    rw [back_eq (by norm_num)]
    unfold backVjp coef
    simp only [Finset.univ_unique, Finset.sum_singleton]
    ac_rfl

/-- Its second result. -/
theorem ref1 : val_main_v37 (F := Ideal) x0 x1 x2 x3 = arr2 (entry x0 x1 x2 x3) := ref0 x0 x1 x2 x3

/-- Its third result. -/
theorem ref2 : val_main_v38 (F := Ideal) x0 x2 = arr2 (gainEntry x0 x2) :=
  eq_arr2 _ _ fun z j => by
    unfold val_main_v38 val_main_v21 val_main_cst_4 val_main_v18 val_main_v17 val_main_cst_3 val_main_v16 val_main_v12 val_main_v11
    pointwise
    simp only [refInv]
    unfold gainEntry
    simp only [Fin.sum_univ_one]
    refine Finset.sum_congr rfl fun r _ => ?_
    rw [mul_comm]

/-- The reference runs, its arguments end unchanged, and no signal is left. -/
theorem refFrame : Cert.quiescent_Reference23Ideal := fun m ρ _ =>
  (θ_run defs _ _).mono (fun r h => ⟨fun c => (h c).2.2.2, Idealize.ShloMosaic.sem_eq_zero_of_no_sems (by decide) r.2⟩)
    (Cert.Reference23Ideal.Value.run (F := Ideal) m ρ)

end Ref

/-- Kernel and reference end with the same arrays, whatever the arguments hold. -/
theorem algebraic : Cert.algebraic_Kernel23Ideal_Reference23Ideal := by
  intro m g m' g' _ hargs
  refine ⟨fun c => arr2 (entry (A0 m c) (A1 m c) (A2 m c) (A3 m c)), fun c => arr2 (entry (A0 m c) (A1 m c) (A2 m c) (A3 m c)), fun c => arr2 (gainEntry (A0 m c) (A2 m c)), ?_, ?_⟩
  · exact (θ_run Cert.Kernel23Ideal.defs _ _).mono (fun r h c => ⟨(h c).1.trans (final0 m c), (h c).2.1.trans (final1 m c), (h c).2.2.1.trans (final2 m c), (h c).2.2.2⟩) (Cert.Kernel23Ideal.Value.run_blocks m g)
  · refine (θ_run Cert.Reference23Ideal.defs _ _).mono (fun r h c => ⟨(h c).1.trans ?_, (h c).2.1.trans ?_, (h c).2.2.1.trans ?_, (h c).2.2.2⟩) (Cert.Reference23Ideal.Value.run (F := Ideal) m' g')
    all_goals obtain ⟨e0, e1, e2, e3⟩ := hargs c
    · rw [Cert.Reference23Ideal.Read.val_main_v36_eq, e0, e1, e2, e3]; exact ref0 _ _ _ _
    · rw [Cert.Reference23Ideal.Read.val_main_v37_eq, e0, e1, e2, e3]; exact ref1 _ _ _ _
    · rw [Cert.Reference23Ideal.Read.val_main_v38_eq, e0, e2]; exact ref2 _ _

end Cert.NormBack

end
-- ==== Proof.MemNormBack.lean ====
/- The gradient of the memory's norm: the kernel's tile makes the gradient of the reference. -/
module

public import proofs.«01_k».proof.Defs
public import proofs.«01_k».proof.Proof.NormMath
public import proofs.«01_k».proof.Proof.Prod
public import proofs.«01_k».proof.Proof.Gen.Kernel24Ideal.Value
public import proofs.«01_k».proof.Proof.Gen.Reference24Ideal.Read

@[expose] public section

set_option maxRecDepth 16384

noncomputable section

namespace Cert.MemNormBack

open Idealize.ShloMosaic Idealize.ShloMosaic.TcCoe Idealize.SL.Sem Cert.Prod Cert.Norm

/-- One entry of the rows' gradient: what passes the norm, and nothing else. -/
def entry (X : Arr2 256 2048) (G : Arr1 2048) (Y : Arr2 256 2048) (r : Fin 256) (j : Fin 2048) : EReal :=
  back ((2048 : ℝ) : EReal) (fun k => X (ix2 r k)) (fun k => Y (ix2 r k) * G (ix1 k)) j

/-- One entry of the gain's gradient: the sum over the rows. -/
def gainEntry (X Y : Arr2 256 2048) (_ : Fin 1) (j : Fin 2048) : EReal :=
  ∑ r : Fin 256, Y (ix2 r j) * (X (ix2 r j) * inv ((2048 : ℝ) : EReal) (fun k => X (ix2 r k)))

section Case
open Cert.Kernel24Ideal Cert.Kernel24Ideal.Gen

variable {F : FTy → Type} [FloatOps F] (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S1x2048 .f32) (harg6 : arg6.IsWhole)
variable (x0 : Vec F S256x2048 .f32) (x1 : Vec F S1x2048 .f32) (x2 : Vec F S256x2048 .f32)

/-- What the kernel leaves in the gradient. -/
theorem out_A_0 (hc0 : cond0_0 i) (hc1 : ¬cond0_1 i) :
    out0_A_3 c i arg1 harg1 arg2 harg2 arg3 harg3 arg4 harg4 arg5 harg5 arg6 harg6 hc0 hc1 x0 x1 x2 = k0_pay5 x0 x2 x1 := by
  unfold out0_A_3
  rw [View.read_writes_eq_canon _ _ _ (cover0_A_3 c i arg1 harg1 arg2 harg2 arg3 harg3 arg4 harg4 arg5 harg5 arg6 harg6 hc0 hc1 x0 x1 x2)]
  unfold kernelRun0_A
  dsimp only
  sl_unfold_words
  rw [View.canon_unit_zero offsets2]
  simp only [View.readAt_eq_ld, harg1.read_unread, harg2.read_unread, harg3.read_unread, harg4.read_unread, harg5.read_unread, harg6.read_unread,
    View.ld_unit_zero (S := S256x2048) offsets2, View.ld_unit_zero (S := S1x2048) offsets2]

/-- What it leaves in the gradient's rounded copy. -/
theorem out_A_1 (hc0 : cond0_0 i) (hc1 : ¬cond0_1 i) :
    out0_A_4 c i arg1 harg1 arg2 harg2 arg3 harg3 arg4 harg4 arg5 harg5 arg6 harg6 hc0 hc1 x0 x1 x2 = k0_pay6 x0 x2 x1 := by
  unfold out0_A_4
  rw [View.read_writes_eq_canon _ _ _ (cover0_A_4 c i arg1 harg1 arg2 harg2 arg3 harg3 arg4 harg4 arg5 harg5 arg6 harg6 hc0 hc1 x0 x1 x2)]
  unfold kernelRun0_A
  dsimp only
  sl_unfold_words
  rw [View.canon_unit_zero offsets2]
  simp only [View.readAt_eq_ld, harg1.read_unread, harg2.read_unread, harg3.read_unread, harg4.read_unread, harg5.read_unread, harg6.read_unread,
    View.ld_unit_zero (S := S256x2048) offsets2, View.ld_unit_zero (S := S1x2048) offsets2]

/-- What it leaves in the gain's gradient. -/
theorem out_A_2 (hc0 : cond0_0 i) (hc1 : ¬cond0_1 i) :
    out0_A_5 c i arg1 harg1 arg2 harg2 arg3 harg3 arg4 harg4 arg5 harg5 arg6 harg6 hc0 hc1 x0 x1 x2 = k0_pay3 x0 x2 := by
  unfold out0_A_5
  rw [View.read_writes_eq_canon _ _ _ (cover0_A_5 c i arg1 harg1 arg2 harg2 arg3 harg3 arg4 harg4 arg5 harg5 arg6 harg6 hc0 hc1 x0 x1 x2)]
  unfold kernelRun0_A
  dsimp only
  sl_unfold_words
  rw [View.canon_unit_zero offsets2]
  simp only [View.readAt_eq_ld, harg1.read_unread, harg2.read_unread, harg3.read_unread, harg4.read_unread, harg5.read_unread, harg6.read_unread,
    View.ld_unit_zero (S := S256x2048) offsets2, View.ld_unit_zero (S := S1x2048) offsets2]

end Case

section Kern
open Cert.Kernel24Ideal Cert.Kernel24Ideal.Gen Cert.Kernel24Ideal.Value Idealize.ShloMosaic.Pipeline

section Tile
variable (x y : Vec Ideal S256x2048 .f32) (g : Vec Ideal S1x2048 .f32)

/-- One over the root mean square of a row of a tile. -/
theorem pay2 (r : Fin 256) (z : Fin 1) : k0_pay1 (F := Ideal) x (ix2 r z) = inv ((2048 : ℝ) : EReal) fun k => x (ix2 r k) := by
  unfold k0_pay1
  pointwise
  rw [word2048]
  rfl

/-- What a tile adds to the gain's gradient. -/
theorem pay4 (z : Fin 1) (j : Fin 2048) : k0_pay3 (F := Ideal) x y (ix2 z j)
    = ∑ r : Fin 256, y (ix2 r j) * (x (ix2 r j) * inv ((2048 : ℝ) : EReal) fun k => x (ix2 r k)) := by
  unfold k0_pay3 k0_pay2
  pointwise
  simp only [pay2]

/-- A tile's gradient. -/
theorem pay6 (r : Fin 256) (j : Fin 2048) : k0_pay5 (F := Ideal) x y g (ix2 r j)
    = back ((2048 : ℝ) : EReal) (fun k => x (ix2 r k)) (fun k => y (ix2 r k) * g (ix2 0 k)) j := by
  unfold k0_pay5 k0_pay2
  pointwise
  simp only [pay2]
  rw [word2048]
  rfl
end Tile

variable (m : (ℓ : Loc nD τ sig) → Buf (Elt Ideal) ℓ) (c : Dev nD)

/-- The rows on a device. -/
abbrev A0 : Arr2 256 2048 := m ((c.tc : Thread nD τ).loc main_arg0)
/-- The gain on a device. -/
abbrev A1 : Arr1 2048 := m ((c.tc : Thread nD τ).loc main_arg1)
/-- The cotangent of the norm on a device. -/
abbrev A2 : Arr2 256 2048 := m ((c.tc : Thread nD τ).loc main_arg2)

theorem index0 : ∀ t : Fin cfg0.N, win0_0.index t 0 = t.val ∧ win0_0.index t 1 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = t.val ∧ win0_2.index t 1 = 0 :=
  (by decide +kernel : ∀ t : Fin grid0.N, _)
theorem index3 : ∀ t : Fin cfg0.N, win0_3.index t 0 = t.val ∧ win0_3.index t 1 = 0 :=
  (by decide +kernel : ∀ t : Fin grid0.N, _)
theorem index4 : ∀ t : Fin cfg0.N, win0_4.index t 0 = t.val ∧ win0_4.index t 1 = 0 :=
  (by decide +kernel : ∀ t : Fin grid0.N, _)
theorem index5 : ∀ t : Fin cfg0.N, win0_5.index t 0 = 0 ∧ win0_5.index t 1 = 0 :=
  (by decide +kernel : ∀ t : Fin grid0.N, _)

/-- The row of the whole array that a row of a grid point's tile is. -/
def row (t : Fin cfg0.N) (r : Fin 256) : Fin 256 := ⟨t.val * 256 + r.val, by have : t.val < 1 := t.isLt; omega⟩

/-- A grid point's rows of argument 0. -/
theorem blk0 (t : Fin cfg0.N) (r : Fin 256) (k : Fin 2048) : (iblk m c 0 t : Vec Ideal S256x2048 .f32) (ix2 r k) = A0 m c (ix2 (row t r) k) := by
  unfold iblk
  rw [View.read_apply]
  show A0 m c _ = A0 m c _
  congr 1
  funext a
  apply Fin.ext
  match a with
  | ⟨0, _⟩ => show win0_0.index t 0 * 256 + 1 * r.val = t.val * 256 + r.val; rw [(index0 t).1]; omega
  | ⟨1, _⟩ => show win0_0.index t 1 * 2048 + 1 * k.val = k.val; rw [(index0 t).2]; omega

/-- A grid point's rows of argument 2. -/
theorem blk2 (t : Fin cfg0.N) (r : Fin 256) (k : Fin 2048) : (iblk m c 2 t : Vec Ideal S256x2048 .f32) (ix2 r k) = A2 m c (ix2 (row t r) k) := by
  unfold iblk
  rw [View.read_apply]
  show A2 m c _ = A2 m c _
  congr 1
  funext a
  apply Fin.ext
  match a with
  | ⟨0, _⟩ => show win0_2.index t 0 * 256 + 1 * r.val = t.val * 256 + r.val; rw [(index2 t).1]; omega
  | ⟨1, _⟩ => show win0_2.index t 1 * 2048 + 1 * k.val = k.val; rw [(index2 t).2]; omega

/-- Every grid point's block of the gain. -/
theorem blk1 (t : Fin cfg0.N) (z : Fin 1) (k : Fin 2048) : (iblk m c 1 t : Vec Ideal S1x2048 .f32) (ix2 z k) = A1 m c (ix1 k) := by
  unfold iblk
  rw [View.read_apply]
  show shapeCast S1x2048 (A1 m c) shapeCasts_S2048_S1x2048 _ = _
  have h : ∀ i : S1x2048.Idx, (i 1).val = k.val → shapeCast S1x2048 (A1 m c) shapeCasts_S2048_S1x2048 i = A1 m c (ix1 k) := fun i hi => by
    rw [eq_ix2 i, show i 1 = k from Fin.ext hi]
    pointwise
  refine h _ ?_
  show win0_1.index t 1 * 2048 + 1 * k.val = k.val
  rw [(index1 t).2]; omega

/-- After each grid point its two blocks of the gradient are done. -/
theorem outs (t : Fin cfg0.N) (r : Fin 256) (j : Fin 2048) :
    (outsAt0 m c t).1 (ix2 r j) = entry (A0 m c) (A1 m c) (A2 m c) (row t r) j
    ∧ (outsAt0 m c t).2.1 (ix2 r j) = entry (A0 m c) (A1 m c) (A2 m c) (row t r) j := by
  have key : k0_pay5 (F := Ideal) (iblk m c 0 t) (iblk m c 2 t) (iblk m c 1 t) (ix2 r j) = entry (A0 m c) (A1 m c) (A2 m c) (row t r) j := by
    rw [pay6]
    simp only [blk0, blk1, blk2]
    rfl
  unfold outsAt0
  dsimp only
  rw [out_A_0, out_A_1]
  exact ⟨key, key⟩

/-- What a row adds to the gain's gradient. -/
def term (j : Fin 2048) (r : Fin 256) : EReal := A2 m c (ix2 r j) * (A0 m c (ix2 r j) * inv ((2048 : ℝ) : EReal) (fun k => A0 m c (ix2 r k)))

/-- What a grid point adds to the gain's gradient. -/
theorem tileGain (t : Fin cfg0.N) (z : Fin 1) (j : Fin 2048) :
    k0_pay3 (F := Ideal) (iblk m c 0 t) (iblk m c 2 t) (ix2 z j) = ∑ r ∈ Finset.range 256, ext (term m c j) (t.val * 256 + r) := by
  rw [pay4]
  simp only [blk0, blk2]
  exact part_range (term m c j) (row t) (t.val * 256) fun _ => rfl

/-- The gain's gradient is the sum over the rows. -/
theorem outsGain (t : Fin cfg0.N) (z : Fin 1) (j : Fin 2048) : (outsAt0 m c t).2.2 (ix2 z j) = gainEntry (A0 m c) (A2 m c) z j := by
  unfold outsAt0
  dsimp only
  have ht : t.val = 0 := by have : t.val < 1 := t.isLt; omega
  rw [out_A_2, tileGain, ht]
  simp only [Nat.zero_mul, Nat.zero_add]
  exact sum_ext _

/-- The first result is the gradient. -/
theorem final0 : (dats m 0 c).arrAt 3 cfg0.N = arr2 (entry (A0 m c) (A1 m c) (A2 m c)) := by
  refine (dats m 0 c).arrAt_eq_of_cover 3 _ (fun t _ => ?_) fun i => ?_
  · rw [flushed3]
    funext j
    rw [View.read_apply]
    show (outsAt0 m c t).1 j = arr2 (entry (A0 m c) (A1 m c) (A2 m c)) _
    have key : ∀ j : S256x2048.Idx, (outsAt0 m c t).1 j = entry (A0 m c) (A1 m c) (A2 m c) (row t (j 0)) (j 1) := fun j => by
      conv_lhs => rw [eq_ix2 j]
      exact (outs m c t _ _).1
    refine (key j).trans (entry_arr2 _ _ _ _ ?_ ?_)
    · show t.val * 256 + (j 0).val = win0_3.index t 0 * 256 + 1 * (j 0).val
      rw [(index3 t).1]; omega
    · show (j 1).val = win0_3.index t 1 * 2048 + 1 * (j 1).val
      rw [(index3 t).2]; omega
  · have h0 : (i 0 : Nat) < 256 := (i 0).isLt
    have h1 : (i 1 : Nat) < 2048 := (i 1).isLt
    have hlt : (i 0 : Nat) / 256 < cfg0.N := by show _ < 1; omega
    refine ⟨⟨(i 0 : Nat) / 256, hlt⟩, flush0_3 _, ?_⟩
    generalize ht : (⟨(i 0 : Nat) / 256, hlt⟩ : Fin cfg0.N) = t
    have hv : t.val = (i 0 : Nat) / 256 := by rw [← ht]
    show i ∈ ((View.whole main_v1_0).slice (win0_3.rect t)).set
    rw [View.set_slice_whole, Rect.mem_set_unit]
    intro a
    match a with
    | ⟨0, _⟩ => show win0_3.index t 0 * 256 ≤ (i 0 : Nat) ∧ (i 0 : Nat) < win0_3.index t 0 * 256 + 256
                rw [(index3 t).1]; omega
    | ⟨1, _⟩ => show win0_3.index t 1 * 2048 ≤ (i 1 : Nat) ∧ (i 1 : Nat) < win0_3.index t 1 * 2048 + 2048
                rw [(index3 t).2]; omega

/-- The second result is its rounded copy. -/
theorem final1 : (dats m 0 c).arrAt 4 cfg0.N = arr2 (entry (A0 m c) (A1 m c) (A2 m c)) := by
  refine (dats m 0 c).arrAt_eq_of_cover 4 _ (fun t _ => ?_) fun i => ?_
  · rw [flushed4]
    funext j
    rw [View.read_apply]
    show (outsAt0 m c t).2.1 j = arr2 (entry (A0 m c) (A1 m c) (A2 m c)) _
    have key : ∀ j : S256x2048.Idx, (outsAt0 m c t).2.1 j = entry (A0 m c) (A1 m c) (A2 m c) (row t (j 0)) (j 1) := fun j => by
      conv_lhs => rw [eq_ix2 j]
      exact (outs m c t _ _).2
    refine (key j).trans (entry_arr2 _ _ _ _ ?_ ?_)
    · show t.val * 256 + (j 0).val = win0_4.index t 0 * 256 + 1 * (j 0).val
      rw [(index4 t).1]; omega
    · show (j 1).val = win0_4.index t 1 * 2048 + 1 * (j 1).val
      rw [(index4 t).2]; omega
  · have h0 : (i 0 : Nat) < 256 := (i 0).isLt
    have h1 : (i 1 : Nat) < 2048 := (i 1).isLt
    have hlt : (i 0 : Nat) / 256 < cfg0.N := by show _ < 1; omega
    refine ⟨⟨(i 0 : Nat) / 256, hlt⟩, flush0_4 _, ?_⟩
    generalize ht : (⟨(i 0 : Nat) / 256, hlt⟩ : Fin cfg0.N) = t
    have hv : t.val = (i 0 : Nat) / 256 := by rw [← ht]
    show i ∈ ((View.whole main_v1_1).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [(index4 t).1]; omega
    | ⟨1, _⟩ => show win0_4.index t 1 * 2048 ≤ (i 1 : Nat) ∧ (i 1 : Nat) < win0_4.index t 1 * 2048 + 2048
                rw [(index4 t).2]; omega

/-- The third result is the gain's gradient. -/
theorem final2 : (dats m 0 c).arrAt 5 cfg0.N = arr2 (gainEntry (A0 m c) (A2 m c)) := by
  refine (dats m 0 c).arrAt_eq_of_cover 5 _ (fun t hf => ?_) fun i => ?_
  · rw [flushed5]
    funext j
    rw [View.read_apply]
    show (outsAt0 m c t).2.2 j = arr2 (gainEntry (A0 m c) (A2 m c)) _
    have key : ∀ j : S1x2048.Idx, (outsAt0 m c t).2.2 j = gainEntry (A0 m c) (A2 m c) (j 0) (j 1) := fun j => by
      conv_lhs => rw [eq_ix2 j]
      exact outsGain m c t _ _
    refine (key j).trans (entry_arr2 _ _ _ _ ?_ ?_)
    · show (j 0).val = win0_5.index t 0 * 1 + 1 * (j 0).val
      rw [(index5 t).1]; omega
    · show (j 1).val = win0_5.index t 1 * 2048 + 1 * (j 1).val
      rw [(index5 t).2]; omega
  · have h0 : (i 0 : Nat) < 1 := (i 0).isLt
    have h1 : (i 1 : Nat) < 2048 := (i 1).isLt
    refine ⟨⟨0, by show 0 < 1; omega⟩, flush0_5 _, ?_⟩
    generalize (⟨0, _⟩ : Fin cfg0.N) = t
    show i ∈ ((View.whole main_v1_2).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [(index5 t).1]; omega
    | ⟨1, _⟩ => show win0_5.index t 1 * 2048 ≤ (i 1 : Nat) ∧ (i 1 : Nat) < win0_5.index t 1 * 2048 + 2048
                rw [(index5 t).2]; omega

end Kern

section Ref
open Cert.Reference24Ideal Cert.Reference24Ideal.Gen Cert.Reference24Ideal.Read

variable (x0 : Arr2 256 2048) (x1 : Arr1 2048) (x2 : Arr2 256 2048)

/-- The mean of the squares of a row. -/
theorem refMean (r : Fin 256) (z : Fin 1) : val_main_v6 (F := Ideal) x0 (ix2 r z) = meanSq ((2048 : ℝ) : EReal) fun k => x0 (ix2 r k) := by
  unfold val_main_v6 val_main_v5 val_main_cst_1 val_main_v4 val_main_v3 val_main_cst_0 val_main_v2 val_main_v1 val_main_cst val_main_v0
  pointwise
  rw [word2048]
  rfl

/-- One over its root. -/
theorem refInv (r : Fin 256) (z : Fin 1) : val_main_v7 (F := Ideal) x0 (ix2 r z) = inv ((2048 : ℝ) : EReal) fun k => x0 (ix2 r k) := by
  unfold val_main_v7
  pointwise
  rw [refMean]
  rfl

/-- The reference's first result. -/
theorem ref0 : val_main_v35 (F := Ideal) x0 x1 x2 = arr2 (entry x0 x1 x2) :=
  eq_arr2 _ _ fun r j => by
    unfold val_main_v35 val_main_v34 val_main_v33 val_main_v32 val_main_v31 val_main_v30 val_main_cst_7 val_main_v29 val_main_v28 val_main_cst_6 val_main_v27 val_main_v26 val_main_v25 val_main_v24 val_main_v23 val_main_cst_5 val_main_v22 val_main_v20 val_main_v19 val_main_v13 val_main_v10 val_main_v9 val_main_cst_2 val_main_v8
    pointwise
    simp only [refMean, refInv]
    rw [word2048, wordNegHalf]
    unfold entry
    rw [back_eq (by norm_num)]
    unfold backVjp coef
    simp only [Finset.univ_unique, Finset.sum_singleton]

/-- Its second result. -/
theorem ref1 : val_main_v36 (F := Ideal) x0 x1 x2 = arr2 (entry x0 x1 x2) := ref0 x0 x1 x2

/-- Its third result. -/
theorem ref2 : val_main_v37 (F := Ideal) x0 x2 = arr2 (gainEntry x0 x2) :=
  eq_arr2 _ _ fun z j => by
    unfold val_main_v37 val_main_v21 val_main_cst_4 val_main_v18 val_main_v17 val_main_cst_3 val_main_v16 val_main_v12 val_main_v11
    pointwise
    simp only [refInv]
    unfold gainEntry
    simp only [Fin.sum_univ_one]
    refine Finset.sum_congr rfl fun r _ => ?_
    rw [mul_comm]

/-- The reference runs, its arguments end unchanged, and no signal is left. -/
theorem refFrame : Cert.quiescent_Reference24Ideal := fun m ρ _ =>
  (θ_run defs _ _).mono (fun r h => ⟨fun c => (h c).2.2.2, Idealize.ShloMosaic.sem_eq_zero_of_no_sems (by decide) r.2⟩)
    (Cert.Reference24Ideal.Value.run (F := Ideal) m ρ)

end Ref

/-- Kernel and reference end with the same arrays, whatever the arguments hold. -/
theorem algebraic : Cert.algebraic_Kernel24Ideal_Reference24Ideal := by
  intro m g m' g' _ hargs
  refine ⟨fun c => arr2 (entry (A0 m c) (A1 m c) (A2 m c)), fun c => arr2 (entry (A0 m c) (A1 m c) (A2 m c)), fun c => arr2 (gainEntry (A0 m c) (A2 m c)), ?_, ?_⟩
  · exact (θ_run Cert.Kernel24Ideal.defs _ _).mono (fun r h c => ⟨(h c).1.trans (final0 m c), (h c).2.1.trans (final1 m c), (h c).2.2.1.trans (final2 m c), (h c).2.2.2⟩) (Cert.Kernel24Ideal.Value.run_blocks m g)
  · refine (θ_run Cert.Reference24Ideal.defs _ _).mono (fun r h c => ⟨(h c).1.trans ?_, (h c).2.1.trans ?_, (h c).2.2.1.trans ?_, (h c).2.2.2⟩) (Cert.Reference24Ideal.Value.run (F := Ideal) m' g')
    all_goals obtain ⟨e0, e1, e2⟩ := hargs c
    · rw [Cert.Reference24Ideal.Read.val_main_v35_eq, e0, e1, e2]; exact ref0 _ _ _
    · rw [Cert.Reference24Ideal.Read.val_main_v36_eq, e0, e1, e2]; exact ref1 _ _ _
    · rw [Cert.Reference24Ideal.Read.val_main_v37_eq, e0, e2]; exact ref2 _ _

end Cert.MemNormBack

end
-- ==== Proof.GateMath.lean ====
/- The gating unit of a chunk of rows: gelu, split, norm, mixing of the chunk's rows in each group of columns, gate. -/
module

public import proofs.«01_k».proof.Proof.NormMath
public import proofs.«01_k».proof.Proof.Prod

@[expose] public section

noncomputable section

namespace Cert.Gate

open Idealize.ShloMosaic Cert.Prod Cert.Norm

/-- The word of one half. -/
def half : EReal := Ideal.ofBits .f32 0x3F000000#32

/-- The gelu of a number, its error function taken of the number times `w`. -/
def gelu (w x : EReal) : EReal := x * (half * (1 + Ideal.erf (x * w)))

/-- The gate's columns of a row. -/
def uAt (w : EReal) (x : Fin 3072 → EReal) (c : Fin 1536) : EReal := gelu w (x ⟨c.val, by omega⟩)

/-- The columns of a row that are mixed. -/
def vAt (w : EReal) (x : Fin 3072 → EReal) (c : Fin 1536) : EReal := gelu w (x ⟨1536 + c.val, by omega⟩)

/-- They, normed. -/
def vnAt (w : EReal) (x : Fin 3072 → EReal) (G : Fin 1536 → EReal) (c : Fin 1536) : EReal := normed ((1536 : ℝ) : EReal) (vAt w x) G c

/-- The group of a column. -/
def grp (c : Fin 1536) : Fin 12 := ⟨c.val / 128, by omega⟩

/-- The mixed rows of a chunk. -/
def mixed (w : EReal) (X : Fin 128 → Fin 3072 → EReal) (G : Fin 1536 → EReal) (W : Fin 12 → Fin 128 → Fin 128 → EReal)
    (B : Fin 12 → Fin 128 → EReal) (i : Fin 128) (c : Fin 1536) : EReal :=
  ∑ t, W (grp c) i t * vnAt w (X t) G c + B (grp c) i

/-- The gated rows of a chunk. -/
def gated (w : EReal) (X : Fin 128 → Fin 3072 → EReal) (G : Fin 1536 → EReal) (W : Fin 12 → Fin 128 → Fin 128 → EReal)
    (B : Fin 12 → Fin 128 → EReal) (i : Fin 128) (c : Fin 1536) : EReal :=
  uAt w (X i) c * mixed w X G W B i c

/-- The mixed rows, the group given. -/
theorem mixed_eq (w : EReal) (X : Fin 128 → Fin 3072 → EReal) (G : Fin 1536 → EReal) (W : Fin 12 → Fin 128 → Fin 128 → EReal)
    (B : Fin 12 → Fin 128 → EReal) (i : Fin 128) (c : Fin 1536) (g : Fin 12) (h : c.val / 128 = g.val) :
    mixed w X G W B i c = ∑ t, W g i t * vnAt w (X t) G c + B g i := by
  obtain rfl : grp c = g := Fin.ext h
  rfl

end Cert.Gate

end
-- ==== Proof.GateBackMath.lean ====
/- The gradient of the gating unit: its numbers over the extended reals. -/
module

public import proofs.«01_k».proof.Proof.GateMath
public import proofs.«01_k».proof.Proof.MemMath

@[expose] public section

noncomputable section

namespace Cert.Gate

open Idealize.ShloMosaic Cert.Prod Cert.Norm

/-- The derivative of the gelu, its error function taken of the number times `w`, its bell times `d`. -/
def dgelu (w d x : EReal) : EReal := half * (1 + Ideal.erf (x * w)) + x * (Ideal.exp (((-(1 / 2) : ℝ) : EReal) * x * x) * d)

variable (w d : EReal) (X : Fin 128 → Fin 3072 → EReal) (G : Fin 1536 → EReal) (W T : Fin 12 → Fin 128 → Fin 128 → EReal) (B : Fin 12 → Fin 128 → EReal)
  (D : Fin 128 → Fin 1536 → EReal)

/-- The cotangent of the mixed rows of a chunk. -/
def dm (i : Fin 128) (c : Fin 1536) : EReal := D i c * uAt w (X i) c

/-- The cotangent of its normed columns, `T` being the transposed mixing. -/
def dvn (i : Fin 128) (c : Fin 1536) : EReal := ∑ t, T (grp c) i t * dm w X D t c

/-- The gradient of a chunk's rows, in the gate's columns. -/
def dxu (i : Fin 128) (c : Fin 1536) : EReal := D i c * mixed w X G W B i c * dgelu w d (X i ⟨c.val, by omega⟩)

/-- The gradient of a chunk's rows, in the mixed columns. -/
def dxv (i : Fin 128) (c : Fin 1536) : EReal :=
  back ((1536 : ℝ) : EReal) (vAt w (X i)) (fun k => dvn w X T D i k * G k) c * dgelu w d (X i ⟨1536 + c.val, by omega⟩)

/-- The gradient of a chunk's rows. -/
def dxAt (i : Fin 128) (k : Fin 3072) : EReal :=
  if h : k.val < 1536 then dxu w d X G W B D i ⟨k.val, h⟩ else dxv w d X G T D i ⟨k.val - 1536, by omega⟩

/-- A chunk's part of the gradient of the mixing. -/
def dwsAt (g : Fin 12) (i t : Fin 128) : EReal :=
  ∑ j : Fin 128, dm w X D i ⟨128 * g.val + j.val, by omega⟩ * vnAt w (X t) G ⟨128 * g.val + j.val, by omega⟩

/-- A chunk's part of the gradient of the mixing's bias, channel by channel. -/
def dbiasAt (g : Fin 12) (i j : Fin 128) : EReal := dm w X D i ⟨128 * g.val + j.val, by omega⟩

/-- A chunk's part of the gradient of the norm's scale. -/
def dgainAt (c : Fin 1536) : EReal :=
  ∑ i, dvn w X T D i c * (vAt w (X i) c * inv ((1536 : ℝ) : EReal) (vAt w (X i)))

/-- The cotangent of the normed columns, the group given. -/
theorem dvn_eq (i : Fin 128) (c : Fin 1536) (g : Fin 12) (h : c.val / 128 = g.val) : dvn w X T D i c = ∑ t, T g i t * dm w X D t c := by
  obtain rfl : grp c = g := Fin.ext h
  rfl

end Cert.Gate

end
-- ==== Proof.GateBackTile.lean ====
/- The gradient of the gating unit: what one grid point leaves in its tiles. -/
module

public import proofs.«01_k».proof.Proof.GateBackMath
public import proofs.«01_k».proof.Proof.Gen.Kernel25Ideal.Value
public import Idealize.ShloMosaic.Lib.Pipeline.ReadBack

@[expose] public section

set_option maxRecDepth 16384

noncomputable section

namespace Cert.GateBack

open Idealize.ShloMosaic Idealize.ShloMosaic.TcCoe Idealize.SL.Sem Cert.Prod Cert.Norm Cert.Gate
open Cert.Kernel25Ideal Cert.Kernel25Ideal.Gen Cert.Kernel25Ideal.Value Idealize.ShloMosaic.Pipeline

/-- One over the root of two. -/
def root : EReal := (((Real.sqrt 2)⁻¹ : ℝ) : EReal)

/-- One over the root of twice pi, as the reference rounds it. -/
def bell : EReal := (((9465531 / 16777216) * (Real.sqrt 2)⁻¹ : ℝ) : EReal)

/-- The named constant is it. -/
theorem named_root : (Named.named Cert.Kernel25Ideal.κ "half_root" (φ := .f32) 0x3F3504F3#32 : Ideal .f32) = root :=
  IdealRules.named_const.ideal_named_scalar _ _ _ _ rfl

/-- The other named constant is the other. -/
theorem named_bell : (Named.named Cert.Kernel25Ideal.κ "density" (φ := .f32) 0x3ECC422A#32 : Ideal .f32) = bell :=
  IdealRules.named_const.ideal_named_scalar _ _ _ _ rfl

section Pay

variable (x0 : Vec Ideal S128x3072 .f32) (x1 : Vec Ideal S1x1536 .f32) (x2 x3 x4 : Vec Ideal S12x128x128 .f32) (x5 : Vec Ideal S128x1536 .f32)

/-- The normal distribution of a tile. -/
theorem pay4 (i : Fin 128) (c : Fin 3072) : k0_pay4 (F := Ideal) x0 (ix2 i c) = half * (1 + Ideal.erf (x0 (ix2 i c) * root)) := by
  unfold k0_pay4
  pointwise
  rw [named_root]
  rfl

/-- The gelu of a tile. -/
theorem pay5 (i : Fin 128) (c : Fin 3072) : k0_pay5 (F := Ideal) x0 (ix2 i c) = gelu root (x0 (ix2 i c)) := by
  unfold k0_pay5
  pointwise
  rw [pay4]
  rfl

/-- The gelu's derivative of a tile. -/
theorem pay6 (i : Fin 128) (c : Fin 3072) : k0_pay6 (F := Ideal) x0 (ix2 i c) = dgelu root bell (x0 (ix2 i c)) := by
  unfold k0_pay6
  pointwise
  rw [pay4, named_bell, wordNegHalf]
  rfl

/-- Its gate's columns. -/
theorem pay7 (i : Fin 128) (c : Fin 1536) : k0_pay7 (F := Ideal) x0 (ix2 i c) = uAt root (fun l => x0 (ix2 i l)) c := by
  unfold k0_pay7
  pointwise
  rw [pay5]
  rfl

/-- Its mixed columns. -/
theorem pay8 (i : Fin 128) (c : Fin 1536) : k0_pay8 (F := Ideal) x0 (ix2 i c) = vAt root (fun l => x0 (ix2 i l)) c := by
  unfold k0_pay8
  pointwise
  rw [pay5]
  rfl

/-- One over the root of the mean of their squares. -/
theorem pay9 (i : Fin 128) (z : Fin 1) : k0_pay9 (F := Ideal) x0 (ix2 i z) = inv ((1536 : ℝ) : EReal) (vAt root fun l => x0 (ix2 i l)) := by
  unfold k0_pay9
  pointwise
  simp only [pay8]
  rw [word1536]
  rfl

/-- The mixed columns times it. -/
theorem pay10 (i : Fin 128) (c : Fin 1536) : k0_pay10 (F := Ideal) x0 (ix2 i c)
    = vAt root (fun l => x0 (ix2 i l)) c * inv ((1536 : ℝ) : EReal) (vAt root fun l => x0 (ix2 i l)) := by
  unfold k0_pay10
  pointwise
  rw [pay8, pay9]

/-- The normed columns. -/
theorem pay11 (i : Fin 128) (c : Fin 1536) :
    k0_pay11 (F := Ideal) x1 x0 (ix2 i c) = vnAt root (fun l => x0 (ix2 i l)) (fun l => x1 (ix2 0 l)) c := by
  unfold k0_pay11 k0_pay3
  pointwise
  rw [pay10]
  rfl

/-- The gradient of the mixed columns from the cotangent of the normed ones. -/
theorem pay2 (y : Vec Ideal S128x1536 .f32) (i : Fin 128) (c : Fin 1536) :
    k0_pay2 (F := Ideal) (k0_pay3 x1) (k0_pay6 x0) (k0_pay9 x0) (k0_pay10 x0) y (ix2 i c)
      = back ((1536 : ℝ) : EReal) (vAt root fun l => x0 (ix2 i l)) (fun k => y (ix2 i k) * x1 (ix2 0 k)) c
        * dgelu root bell (x0 (ix2 i ⟨1536 + c.val, by omega⟩)) := by
  unfold k0_pay2 k0_pay3
  pointwise
  simp only [pay6, pay9, pay10]
  rw [word1536]
  rfl

/-- A grid point's part of the gradient of the norm's scale. -/
theorem pay137 (y : Vec Ideal S128x1536 .f32) (z : Fin 1) (c : Fin 1536) :
    k0_pay137 (F := Ideal) (k0_pay10 x0) y (ix2 z c)
      = ∑ i, y (ix2 i c) * (vAt root (fun l => x0 (ix2 i l)) c * inv ((1536 : ℝ) : EReal) (vAt root fun l => x0 (ix2 i l))) := by
  unfold k0_pay137
  pointwise
  simp only [pay10]

end Pay

/-- The columns of a group. -/
theorem emb2 {n : ℕ} (o : ℕ) (h : ∀ a, ![0, o] a + ![128, 128] a ≤ (⟨2, ![128, n]⟩ : Shape).size a) (i j : Fin 128) (h' : o + j.val < n) :
    (Rect.unit (s := ⟨2, ![128, n]⟩) ![0, o] ![128, 128] h).emb (ix2 i j) = ix2 i ⟨o + j.val, h'⟩ := by
  funext a
  apply Fin.ext
  match a with
  | ⟨0, _⟩ => show 0 + 1 * i.val = i.val; omega
  | ⟨1, _⟩ => show o + 1 * j.val = o + j.val; omega

/-- A group of a stack of tiles. -/
theorem emb3 (g : ℕ) (h : ∀ a, ![g, 0, 0] a + ![1, 128, 128] a ≤ S12x128x128.size a) (z : Fin 1) (i j : Fin 128) (h' : g < 12) :
    (Rect.unit (s := S12x128x128) ![g, 0, 0] ![1, 128, 128] h).emb (ix3 z i j) = ix3 ⟨g, h'⟩ i j := by
  funext a
  apply Fin.ext
  match a with
  | ⟨0, _⟩ => show g + 1 * z.val = g; omega
  | ⟨1, _⟩ => show 0 + 1 * i.val = i.val; omega
  | ⟨2, _⟩ => show 0 + 1 * j.val = j.val; omega

section Tile

variable (x0 : Vec Ideal S128x3072 .f32) (x1 : Vec Ideal S1x1536 .f32) (x2 x3 x4 : Vec Ideal S12x128x128 .f32) (x5 : Vec Ideal S128x1536 .f32)

/-- The rows of a tile. -/
abbrev rows : Fin 128 → Fin 3072 → EReal := fun i l => x0 (ix2 i l)

/-- The scale. -/
abbrev scale : Fin 1536 → EReal := fun l => x1 (ix2 0 l)

/-- A stack of mixings. -/
abbrev stack : Fin 12 → Fin 128 → Fin 128 → EReal := fun g i t => x2 (ix3 g i t)

/-- The cotangents of a tile. -/
abbrev cots : Fin 128 → Fin 1536 → EReal := fun i l => x5 (ix2 i l)

/-- A group's columns of the cotangent of the normed columns. -/
theorem colT (i j : Fin 128) (g : ℕ) (hg : g < 12) {h : 128 * g + j.val < 1536} {y : S128x1536.Idx} (hy : y = ix2 i ⟨128 * g + j.val, h⟩) :
    ∑ t, x3 (ix3 ⟨g, hg⟩ i t) * (x5 (ix2 t ⟨128 * g + j.val, h⟩) * uAt root (fun l => x0 (ix2 t l)) ⟨128 * g + j.val, h⟩)
      = arr2 (dvn root (rows x0) (stack x3) (cots x5)) y := by
  subst hy
  show _ = dvn _ _ _ _ i ⟨128 * g + j.val, h⟩
  rw [dvn_eq _ _ _ _ _ _ ⟨g, hg⟩ (by show (128 * g + j.val) / 128 = g; omega)]
  rfl

/-- A group's columns of the gradient of the rows. -/
theorem colU (B : Fin 12 → Fin 128 → EReal) (hB : ∀ g i j, x4 (ix3 g i j) = B g i) (i j : Fin 128) (g : ℕ) (hg : g < 12)
    {h : 128 * g + j.val < 1536} {h' : 128 * g + j.val < 3072} {y : S128x3072.Idx} (hy : y = ix2 i ⟨128 * g + j.val, h'⟩) :
    x5 (ix2 i ⟨128 * g + j.val, h⟩)
        * (∑ t, x2 (ix3 ⟨g, hg⟩ i t) * vnAt root (fun l => x0 (ix2 t l)) (fun l => x1 (ix2 0 l)) ⟨128 * g + j.val, h⟩ + x4 (ix3 ⟨g, hg⟩ i j))
        * dgelu root bell (x0 (ix2 i ⟨128 * g + j.val, h'⟩))
      = arr2 (dxAt root bell (rows x0) (scale x1) (stack x2) (stack x3) B (cots x5)) y := by
  subst hy
  rw [hB]
  show _ = dxAt _ _ _ _ _ _ _ _ i ⟨128 * g + j.val, h'⟩
  unfold dxAt
  rw [dif_pos (show (⟨128 * g + j.val, h'⟩ : Fin 3072).val < 1536 from h)]
  unfold dxu
  rw [mixed_eq _ _ _ _ _ _ _ ⟨g, hg⟩ (by show (128 * g + j.val) / 128 = g; omega)]

/-- A group's part of the gradient of the mixing. -/
theorem colW (i t : Fin 128) (g : ℕ) (hg : g < 12) (f : Fin 128 → ℕ) (hf : ∀ j, f j = 128 * g + j.val) (h : ∀ j, f j < 1536) :
    ∑ j, x5 (ix2 i ⟨f j, h j⟩) * uAt root (fun l => x0 (ix2 i l)) ⟨f j, h j⟩ * vnAt root (fun l => x0 (ix2 t l)) (fun l => x1 (ix2 0 l)) ⟨f j, h j⟩
      = dwsAt root (rows x0) (scale x1) (cots x5) ⟨g, hg⟩ i t := by
  obtain rfl : f = fun j => 128 * g + j.val := funext hf
  rfl

/-- A group's part of the gradient of the mixing's bias. -/
theorem colB (i j : Fin 128) (g : ℕ) (hg : g < 12) (f : ℕ) (hf : f = 128 * g + j.val) (h : f < 1536) :
    x5 (ix2 i ⟨f, h⟩) * uAt root (fun l => x0 (ix2 i l)) ⟨f, h⟩ = dbiasAt root (rows x0) (cots x5) ⟨g, hg⟩ i j := by
  subst hf
  rfl

/-- The stores of the cotangent of the normed columns, group by group. -/
def stores : List (View.Piece (Elt Ideal) S128x1536 .f32) :=
  [⟨Rect.unit ![0, 1408] ![128, 128] inb_S128x1536_S128x128_0_1408,
        k0_pay132 (k0_pay7 x0) x5
          (View.ld x3 (Rect.unit ![11, 0, 0] ![1, 128, 128] inb_S12x128x128_S1x128x128_11_0_0))⟩,
      ⟨Rect.unit ![0, 1280] ![128, 128] inb_S128x1536_S128x128_0_1280,
        k0_pay122 (k0_pay7 x0) x5
          (View.ld x3 (Rect.unit ![10, 0, 0] ![1, 128, 128] inb_S12x128x128_S1x128x128_10_0_0))⟩,
      ⟨Rect.unit ![0, 1152] ![128, 128] inb_S128x1536_S128x128_0_1152,
        k0_pay112 (k0_pay7 x0) x5 (View.ld x3 (Rect.unit ![9, 0, 0] ![1, 128, 128] inb_S12x128x128_S1x128x128_9_0_0))⟩,
      ⟨Rect.unit ![0, 1024] ![128, 128] inb_S128x1536_S128x128_0_1024,
        k0_pay102 (k0_pay7 x0) x5 (View.ld x3 (Rect.unit ![8, 0, 0] ![1, 128, 128] inb_S12x128x128_S1x128x128_8_0_0))⟩,
      ⟨Rect.unit ![0, 896] ![128, 128] inb_S128x1536_S128x128_0_896,
        k0_pay92 (k0_pay7 x0) x5 (View.ld x3 (Rect.unit ![7, 0, 0] ![1, 128, 128] inb_S12x128x128_S1x128x128_7_0_0))⟩,
      ⟨Rect.unit ![0, 768] ![128, 128] inb_S128x1536_S128x128_0_768,
        k0_pay82
          (k0_pay81 (k0_pay7 x0) x5
            (View.ld x3 (Rect.unit ![6, 0, 0] ![1, 128, 128] inb_S12x128x128_S1x128x128_6_0_0)))⟩,
      ⟨Rect.unit ![0, 640] ![128, 128] inb_S128x1536_S128x128_0_640,
        k0_pay71 (k0_pay69 (k0_pay7 x0) x5)
          (View.ld x3 (Rect.unit ![5, 0, 0] ![1, 128, 128] inb_S12x128x128_S1x128x128_5_0_0))⟩,
      ⟨Rect.unit ![0, 512] ![128, 128] inb_S128x1536_S128x128_0_512,
        k0_pay61 (k0_pay59 (k0_pay7 x0) x5)
          (View.ld x3 (Rect.unit ![4, 0, 0] ![1, 128, 128] inb_S12x128x128_S1x128x128_4_0_0))⟩,
      ⟨Rect.unit ![0, 384] ![128, 128] inb_S128x1536_S128x128_0_384,
        k0_pay51 (k0_pay7 x0) x5 (View.ld x3 (Rect.unit ![3, 0, 0] ![1, 128, 128] inb_S12x128x128_S1x128x128_3_0_0))⟩,
      ⟨Rect.unit ![0, 256] ![128, 128] inb_S128x1536_S128x128_0_256,
        k0_pay41 (k0_pay7 x0) x5 (View.ld x3 (Rect.unit ![2, 0, 0] ![1, 128, 128] inb_S12x128x128_S1x128x128_2_0_0))⟩,
      ⟨Rect.unit ![0, 128] ![128, 128] inb_S128x1536_S128x128_0_128,
        k0_pay29 (k0_pay7 x0) x5 (View.ld x3 (Rect.unit ![1, 0, 0] ![1, 128, 128] inb_S12x128x128_S1x128x128_1_0_0))⟩,
      ⟨Rect.unit ![0, 0] ![128, 128] inb_S128x1536_S128x128_0_0,
        k0_pay18 (k0_pay7 x0) x5 (View.ld x3 (Rect.unit ![0, 0, 0] ![1, 128, 128] inb_S12x128x128_S1x128x128_0_0_0))⟩]

/-- Each is its columns of it. -/
theorem storesOf : View.PiecesOf (Val := Elt Ideal) (arr2 (dvn root (rows x0) (stack x3) (cots x5))) (stores x0 x3 x5) := by
  refine ⟨?_, ?_, ?_, ?_, ?_, ?_, ?_, ?_, ?_, ?_, ?_, ?_, trivial⟩
  all_goals
    intro x
    obtain ⟨i, j, rfl⟩ : ∃ (i j : Fin 128), x = ix2 i j := ⟨x 0, x 1, eq_ix2 x⟩
    simp only [k0_pay15, k0_pay16, k0_pay18, k0_pay26, k0_pay27, k0_pay29, k0_pay38, k0_pay39, k0_pay41, k0_pay48, k0_pay49, k0_pay51, k0_pay58, k0_pay59,
      k0_pay61, k0_pay68, k0_pay69, k0_pay71, k0_pay78, k0_pay79, k0_pay81, k0_pay82, k0_pay89, k0_pay90, k0_pay92, k0_pay99, k0_pay100, k0_pay102,
      k0_pay109, k0_pay110, k0_pay112, k0_pay119, k0_pay120, k0_pay122, k0_pay129, k0_pay130, k0_pay132, View.ld_unit]
    pointwise
    simp only [pay7]
  · exact colT x0 x3 x5 i j 11 (by omega) (emb2 1408 _ i j (by omega))
  · exact colT x0 x3 x5 i j 10 (by omega) (emb2 1280 _ i j (by omega))
  · exact colT x0 x3 x5 i j 9 (by omega) (emb2 1152 _ i j (by omega))
  · exact colT x0 x3 x5 i j 8 (by omega) (emb2 1024 _ i j (by omega))
  · exact colT x0 x3 x5 i j 7 (by omega) (emb2 896 _ i j (by omega))
  · exact colT x0 x3 x5 i j 6 (by omega) (emb2 768 _ i j (by omega))
  · exact colT x0 x3 x5 i j 5 (by omega) (emb2 640 _ i j (by omega))
  · exact colT x0 x3 x5 i j 4 (by omega) (emb2 512 _ i j (by omega))
  · exact colT x0 x3 x5 i j 3 (by omega) (emb2 384 _ i j (by omega))
  · exact colT x0 x3 x5 i j 2 (by omega) (emb2 256 _ i j (by omega))
  · exact colT x0 x3 x5 i j 1 (by omega) (emb2 128 _ i j (by omega))
  · have q := colT x0 x3 x5 i j 0 (by omega) (emb2 0 inb_S128x1536_S128x128_0_0 i j (by omega))
    simp only [Nat.mul_zero, Nat.zero_add] at q
    exact q

/-- Read back they are all of it. -/
theorem storesRead {sig' : RefSig} {κ' : Kind} {sp : Space} (v : View sig' κ' sp S128x1536 .f32) (h : ∀ a, ![0, 0] a + ![128, 1536] a ≤ S128x1536.size a) :
    v.readCov (stores x0 x3 x5) (Rect.unit ![0, 0] ![128, 1536] h).toLoadRect = arr2 (dvn root (rows x0) (stack x3) (cots x5)) := by
  rw [View.readCov_eq_canon']
  funext x
  rw [View.canon_apply_of_pieces _ _ (storesOf x0 x3 x5).mem _ (View.cover_of_tiledL (stores x0 x3 x5) S128x128.size (by sl_kernel_rfl) _)]
  congr 1
  funext a
  apply Fin.ext
  match a with
  | ⟨0, _⟩ => show 0 + 1 * (x 0).val = (x 0).val; omega
  | ⟨1, _⟩ => show 0 + 1 * (x 1).val = (x 1).val; omega

end Tile

/-- The columns behind the gate's of the gradient of the rows. -/
theorem colV (x0 : Vec Ideal S128x3072 .f32) (x1 : Vec Ideal S1x1536 .f32) (x2 x3 : Vec Ideal S12x128x128 .f32) (x5 : Vec Ideal S128x1536 .f32)
    (B : Fin 12 → Fin 128 → EReal) (i : Fin 128) (c : Fin 1536) (h : ∀ a, ![0, 1536] a + ![128, 1536] a ≤ S128x3072.size a) :
    back ((1536 : ℝ) : EReal) (vAt root fun l => x0 (ix2 i l))
        (fun k => arr2 (dvn root (rows x0) (stack x3) (cots x5)) (ix2 i k) * x1 (ix2 0 k)) c * dgelu root bell (x0 (ix2 i ⟨1536 + c.val, by omega⟩))
      = arr2 (dxAt root bell (rows x0) (scale x1) (stack x2) (stack x3) B (cots x5)) ((Rect.unit (s := S128x3072) ![0, 1536] ![128, 1536] h).emb (ix2 i c)) := by
  have e : (Rect.unit (s := S128x3072) ![0, 1536] ![128, 1536] h).emb (ix2 i c) = ix2 i (⟨1536 + c.val, by omega⟩ : Fin 3072) := by
    funext a
    apply Fin.ext
    match a with
    | ⟨0, _⟩ => show 0 + 1 * i.val = i.val; omega
    | ⟨1, _⟩ => show 1536 + 1 * c.val = 1536 + c.val; omega
  rw [e]
  show _ = dxAt _ _ _ _ _ _ _ _ i ⟨1536 + c.val, by omega⟩
  unfold dxAt
  rw [dif_neg (show ¬(1536 + c.val < 1536) by omega)]
  obtain hc : (⟨1536 + c.val - 1536, by omega⟩ : Fin 1536) = c := Fin.ext (by show 1536 + c.val - 1536 = c.val; omega)
  rw [show (⟨(⟨1536 + c.val, by omega⟩ : Fin 3072).val - 1536, by show 1536 + c.val - 1536 < 1536; omega⟩ : Fin 1536) = c from hc]
  rfl

/-- The row of the scale's gradient. -/
theorem emb1 (h : ∀ a, ![0, 0] a + ![1, 1536] a ≤ S1x1536.size a) (z : Fin 1) (j : Fin 1536) :
    (Rect.unit (s := S1x1536) ![0, 0] ![1, 1536] h).emb (ix2 z j) = ix2 z j := by
  funext a
  apply Fin.ext
  match a with
  | ⟨0, _⟩ => show 0 + 1 * z.val = z.val; omega
  | ⟨1, _⟩ => show 0 + 1 * j.val = j.val; omega

end Cert.GateBack

end
-- ==== Proof.GateBackSpec.lean ====
/- The gradient of the gating unit: the entries of its four results. -/
module

public import proofs.«01_k».proof.Proof.GateBackTile

@[expose] public section

noncomputable section

namespace Cert.GateBack

open Idealize.ShloMosaic Cert.Prod Cert.Norm Cert.Gate

/-- The row of the whole array that a row of a chunk is. -/
def rowOf (n : Fin 16) (i : Fin 128) : Fin 2048 := ⟨n.val * 128 + i.val, by omega⟩

/-- The chunk a row is in. -/
def chunkOf (r : Fin 2048) : Fin 16 := ⟨r.val / 128, by omega⟩

/-- The row's place in its chunk. -/
def placeOf (r : Fin 2048) : Fin 128 := ⟨r.val % 128, by omega⟩

/-- A row is the row at its place in its chunk. -/
theorem rowOf_chunkOf (r : Fin 2048) : rowOf (chunkOf r) (placeOf r) = r := Fin.ext (by
  show r.val / 128 * 128 + r.val % 128 = r.val
  omega)

/-- The chunk of a chunk's row. -/
theorem chunkOf_rowOf (n : Fin 16) (i : Fin 128) : chunkOf (rowOf n i) = n := Fin.ext (by
  show (n.val * 128 + i.val) / 128 = n.val
  omega)

/-- The place of a chunk's row. -/
theorem placeOf_rowOf (n : Fin 16) (i : Fin 128) : placeOf (rowOf n i) = i := Fin.ext (by
  show (n.val * 128 + i.val) % 128 = i.val
  omega)

variable (X : Arr2 2048 3584) (G : Arr1 1536) (W : Arr3 12 128 128) (B : Arr2 12 128) (D : Arr2 2048 2048)

/-- A chunk's rows of the projection, the gating unit's columns. -/
def rowsOf (n : Fin 16) (i : Fin 128) (l : Fin 3072) : EReal := X (ix2 (rowOf n i) ⟨l.val, by omega⟩)

/-- A chunk's rows of the cotangent, the gating unit's columns. -/
def cotsOf (n : Fin 16) (i : Fin 128) (l : Fin 1536) : EReal := D (ix2 (rowOf n i) ⟨l.val, by omega⟩)

/-- The gain. -/
def gainOf (l : Fin 1536) : EReal := G (ix1 l)

/-- The mixing matrices. -/
def mixOf (g : Fin 12) (i t : Fin 128) : EReal := W (ix3 g i t)

/-- The mixing matrices, transposed. -/
def turned (g : Fin 12) (i t : Fin 128) : EReal := W (ix3 g t i)

/-- The biases. -/
def biasOf (g : Fin 12) (i : Fin 128) : EReal := B (ix2 g i)

/-- One entry of the gradient of the projection. -/
def dxEntry (r : Fin 2048) (k : Fin 3072) : EReal :=
  dxAt root bell (rowsOf X (chunkOf r)) (gainOf G) (mixOf W) (turned W) (biasOf B) (cotsOf D (chunkOf r)) (placeOf r) k

/-- The entry of a chunk's row. -/
theorem dxEntry_rowOf (n : Fin 16) (i : Fin 128) (k : Fin 3072) : dxEntry X G W B D (rowOf n i) k
    = dxAt root bell (rowsOf X n) (gainOf G) (mixOf W) (turned W) (biasOf B) (cotsOf D n) i k := by
  unfold dxEntry
  rw [chunkOf_rowOf, placeOf_rowOf]

/-- One entry of the gradient of the mixing: the sum over the chunks. -/
def dwsEntry (g : Fin 12) (i t : Fin 128) : EReal := ∑ n, dwsAt root (rowsOf X n) (gainOf G) (cotsOf D n) g i t

/-- One entry of the gradient of the biases, channel by channel: the sum over the chunks. -/
def dbiasEntry (g : Fin 12) (i j : Fin 128) : EReal := ∑ n, dbiasAt root (rowsOf X n) (cotsOf D n) g i j

/-- One entry of the gradient of the gain: the sum over the chunks. -/
def dgainEntry (_ : Fin 1) (k : Fin 1536) : EReal := ∑ n, dgainAt root (rowsOf X n) (turned W) (cotsOf D n) k

end Cert.GateBack

end
-- ==== Proof.GateBackTileA.lean ====
/- The gradient of the gating unit: what the first grid point leaves in its tiles. -/
module

public import proofs.«01_k».proof.Proof.GateBackTile

@[expose] public section

set_option maxRecDepth 16384

noncomputable section

namespace Cert.GateBack

open Idealize.ShloMosaic Idealize.ShloMosaic.TcCoe Idealize.SL.Sem Cert.Prod Cert.Norm Cert.Gate
open Cert.Kernel25Ideal Cert.Kernel25Ideal.Gen Cert.Kernel25Ideal.Value Idealize.ShloMosaic.Pipeline

variable (c : Dev nD) (i : grid0.Coords) (arg1 : Memref sig .tc .vmem S128x3072 .f32) (harg1 : arg1.IsWhole) (arg2 : Memref sig .tc .vmem S1x1536 .f32) (harg2 : arg2.IsWhole) (arg3 : Memref sig .tc .vmem S12x128x128 .f32) (harg3 : arg3.IsWhole) (arg4 : Memref sig .tc .vmem S12x128x128 .f32) (harg4 : arg4.IsWhole) (arg5 : Memref sig .tc .vmem S12x128x128 .f32) (harg5 : arg5.IsWhole) (arg6 : Memref sig .tc .vmem S128x1536 .f32) (harg6 : arg6.IsWhole) (arg7 : Memref sig .tc .vmem S128x3072 .bf16) (harg7 : arg7.IsWhole) (arg8 : Memref sig .tc .vmem S12x128x128 .f32) (harg8 : arg8.IsWhole) (arg9 : Memref sig .tc .vmem S12x128x128 .f32) (harg9 : arg9.IsWhole) (arg10 : Memref sig .tc .vmem S1x1536 .f32) (harg10 : arg10.IsWhole) (arg11 : Memref sig .tc .vmem S128x1536 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) (hc14 : cond0_14 i) (hc15 : ¬cond0_15 i) (hc16 : cond0_16 i) (hc17 : ¬cond0_17 i) (hc18 : cond0_18 i) (hc19 : ¬cond0_19 i) (hc20 : cond0_20 i) (hc21 : ¬cond0_21 i) (hc22 : cond0_22 i) (hc23 : ¬cond0_23 i) (hc24 : cond0_24 i) (hc25 : ¬cond0_25 i)

/-- The first grid point: its tile of the gradient of the rows. -/
theorem tile6_A
    (x0 : Vec Ideal S128x3072 .f32) (x1 : Vec Ideal S1x1536 .f32) (x2 x3 x4 : Vec Ideal S12x128x128 .f32) (x5 : Vec Ideal S128x1536 .f32)
    (B : Fin 12 → Fin 128 → EReal) (hB : ∀ g i j, x4 (ix3 g i j) = B g i) :
    out0_A_6 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 = arr2 (dxAt root bell (rows x0) (scale x1) (stack x2) (stack x3) B (cots x5)) := by
  unfold out0_A_6
  rw [View.read_writes_junk_eq_canon]
  funext y
  refine View.canon_apply_of_pieces (arr2 (dxAt root bell (rows x0) (scale x1) (stack x2) (stack x3) B (cots x5))) _ (View.PiecesOf.mem ?_) _ (cover0_A_6 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 _)
  unfold kernelRun0_A
  dsimp only
  sl_unfold_words
  simp only [View.readAt_eq_ld, harg1.read_unread, harg2.read_unread, harg3.read_unread, harg4.read_unread, harg5.read_unread, harg6.read_unread,
    View.ld_unit_zero (S := S128x3072) offsets2, View.ld_unit_zero (S := S1x1536) offsets2, View.ld_unit_zero (S := S128x1536) offsets2]
  have e := storesRead x0 x3 x5 arg11.view inb_S128x1536_S128x1536_0_0
  unfold stores at e
  rw [e]
  clear e
  refine ⟨?_, ?_, ?_, ?_, ?_, ?_, ?_, ?_, ?_, ?_, ?_, ?_, ?_, trivial⟩
  · intro x
    obtain ⟨i, j, rfl⟩ : ∃ (i : Fin 128) (j : Fin 1536), x = ix2 i j := ⟨x 0, x 1, eq_ix2 x⟩
    exact (pay2 x0 x1 _ i j).trans (colV x0 x1 x2 x3 x5 B i j inb_S128x3072_S128x1536_0_1536)
  all_goals
    intro x
    obtain ⟨i, j, rfl⟩ : ∃ (i j : Fin 128), x = ix2 i j := ⟨x 0, x 1, eq_ix2 x⟩
    simp only [k0_pay12, k0_pay13, k0_pay14, k0_pay23, k0_pay24, k0_pay25, k0_pay34, k0_pay35, k0_pay36, k0_pay37, k0_pay46, k0_pay47, k0_pay56, k0_pay57,
      k0_pay66, k0_pay67, k0_pay76, k0_pay77, k0_pay87, k0_pay88, k0_pay97, k0_pay98, k0_pay107, k0_pay108, k0_pay117, k0_pay118, k0_pay127, k0_pay128, View.ld_unit]
    pointwise
    simp only [pay6, pay11]
  · exact colU x0 x1 x2 x3 x4 x5 B hB i j 11 (by omega) (emb2 1408 _ i j (by omega))
  · exact colU x0 x1 x2 x3 x4 x5 B hB i j 10 (by omega) (emb2 1280 _ i j (by omega))
  · exact colU x0 x1 x2 x3 x4 x5 B hB i j 9 (by omega) (emb2 1152 _ i j (by omega))
  · exact colU x0 x1 x2 x3 x4 x5 B hB i j 8 (by omega) (emb2 1024 _ i j (by omega))
  · exact colU x0 x1 x2 x3 x4 x5 B hB i j 7 (by omega) (emb2 896 _ i j (by omega))
  · exact colU x0 x1 x2 x3 x4 x5 B hB i j 6 (by omega) (emb2 768 _ i j (by omega))
  · exact colU x0 x1 x2 x3 x4 x5 B hB i j 5 (by omega) (emb2 640 _ i j (by omega))
  · exact colU x0 x1 x2 x3 x4 x5 B hB i j 4 (by omega) (emb2 512 _ i j (by omega))
  · exact colU x0 x1 x2 x3 x4 x5 B hB i j 3 (by omega) (emb2 384 _ i j (by omega))
  · exact colU x0 x1 x2 x3 x4 x5 B hB i j 2 (by omega) (emb2 256 _ i j (by omega))
  · exact colU x0 x1 x2 x3 x4 x5 B hB i j 1 (by omega) (emb2 128 _ i j (by omega))
  · have q := colU x0 x1 x2 x3 x4 x5 B hB i j 0 (by omega) (h := by omega) (emb2 0 inb_S128x3072_S128x128_0_0 i j (by omega))
    simp only [Nat.mul_zero, Nat.zero_add] at q
    exact q

/-- The first grid point: its part of the gradient of the mixing. -/
theorem tile7_A
    (x0 : Vec Ideal S128x3072 .f32) (x1 : Vec Ideal S1x1536 .f32) (x2 x3 x4 : Vec Ideal S12x128x128 .f32) (x5 : Vec Ideal S128x1536 .f32) :
    out0_A_7 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 = fun x : S12x128x128.Idx => dwsAt root (rows x0) (scale x1) (cots x5) (x 0) (x 1) (x 2) := by
  unfold out0_A_7
  rw [View.read_writes_junk_eq_canon]
  funext y
  suffices q : View.PiecesOf (Val := Elt Ideal) (fun x : S12x128x128.Idx => dwsAt root (rows x0) (scale x1) (cots x5) (x 0) (x 1) (x 2)) (kernelRun0_A c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5).2.1 from
    View.canon_apply_of_pieces (fun x : S12x128x128.Idx => dwsAt root (rows x0) (scale x1) (cots x5) (x 0) (x 1) (x 2)) _ q.mem _ (cover0_A_7 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 _)
  unfold kernelRun0_A
  dsimp only
  sl_unfold_words
  simp only [View.readAt_eq_ld, harg1.read_unread, harg2.read_unread, harg3.read_unread, harg4.read_unread, harg5.read_unread, harg6.read_unread,
    View.ld_unit_zero (S := S128x3072) offsets2, View.ld_unit_zero (S := S1x1536) offsets2, View.ld_unit_zero (S := S128x1536) offsets2]
  refine ⟨?_, ?_, ?_, ?_, ?_, ?_, ?_, ?_, ?_, ?_, ?_, ?_, trivial⟩
  all_goals
    intro x
    obtain ⟨z, i, j, rfl⟩ : ∃ (z : Fin 1) (i j : Fin 128), x = ix3 z i j := ⟨x 0, x 1, x 2, eq_ix3 x⟩
    obtain rfl : z = 0 := Subsingleton.elim _ _
    simp only [k0_pay12, k0_pay15, k0_pay16, k0_pay17, k0_pay19, k0_pay23, k0_pay26, k0_pay27, k0_pay28, k0_pay30, k0_pay34, k0_pay38, k0_pay39, k0_pay40,
      k0_pay42, k0_pay46, k0_pay48, k0_pay49, k0_pay50, k0_pay52, k0_pay56, k0_pay58, k0_pay59, k0_pay60, k0_pay62, k0_pay66, k0_pay68, k0_pay69,
      k0_pay70, k0_pay72, k0_pay76, k0_pay78, k0_pay79, k0_pay80, k0_pay83, k0_pay87, k0_pay89, k0_pay90, k0_pay91, k0_pay93, k0_pay97, k0_pay99,
      k0_pay100, k0_pay101, k0_pay103, k0_pay107, k0_pay109, k0_pay110, k0_pay111, k0_pay113, k0_pay117, k0_pay119, k0_pay120, k0_pay121, k0_pay123,
      k0_pay127, k0_pay129, k0_pay130, k0_pay131, k0_pay133, View.ld_unit]
    pointwise
    simp only [pay7, pay11]
  · rw [emb3 11 _ 0 i j (by omega)]; exact colW x0 x1 x5 i j 11 (by omega) (fun j => 1408 + j.val) (fun j => by omega) (fun j => by omega)
  · rw [emb3 10 _ 0 i j (by omega)]; exact colW x0 x1 x5 i j 10 (by omega) (fun j => 1280 + j.val) (fun j => by omega) (fun j => by omega)
  · rw [emb3 9 _ 0 i j (by omega)]; exact colW x0 x1 x5 i j 9 (by omega) (fun j => 1152 + j.val) (fun j => by omega) (fun j => by omega)
  · rw [emb3 8 _ 0 i j (by omega)]; exact colW x0 x1 x5 i j 8 (by omega) (fun j => 1024 + j.val) (fun j => by omega) (fun j => by omega)
  · rw [emb3 7 _ 0 i j (by omega)]; exact colW x0 x1 x5 i j 7 (by omega) (fun j => 896 + j.val) (fun j => by omega) (fun j => by omega)
  · rw [emb3 6 _ 0 i j (by omega)]; exact colW x0 x1 x5 i j 6 (by omega) (fun j => 768 + j.val) (fun j => by omega) (fun j => by omega)
  · rw [emb3 5 _ 0 i j (by omega)]; exact colW x0 x1 x5 i j 5 (by omega) (fun j => 640 + j.val) (fun j => by omega) (fun j => by omega)
  · rw [emb3 4 _ 0 i j (by omega)]; exact colW x0 x1 x5 i j 4 (by omega) (fun j => 512 + j.val) (fun j => by omega) (fun j => by omega)
  · rw [emb3 3 _ 0 i j (by omega)]; exact colW x0 x1 x5 i j 3 (by omega) (fun j => 384 + j.val) (fun j => by omega) (fun j => by omega)
  · rw [emb3 2 _ 0 i j (by omega)]; exact colW x0 x1 x5 i j 2 (by omega) (fun j => 256 + j.val) (fun j => by omega) (fun j => by omega)
  · rw [emb3 1 _ 0 i j (by omega)]; exact colW x0 x1 x5 i j 1 (by omega) (fun j => 128 + j.val) (fun j => by omega) (fun j => by omega)
  · rw [emb3 0 _ 0 i j (by omega)]; exact colW x0 x1 x5 i j 0 (by omega) (fun j => j.val) (fun j => by omega) (fun j => by omega)

/-- The first grid point: its part of the gradient of the mixing's bias. -/
theorem tile8_A
    (x0 : Vec Ideal S128x3072 .f32) (x1 : Vec Ideal S1x1536 .f32) (x2 x3 x4 : Vec Ideal S12x128x128 .f32) (x5 : Vec Ideal S128x1536 .f32) :
    out0_A_8 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 = fun x : S12x128x128.Idx => dbiasAt root (rows x0) (cots x5) (x 0) (x 1) (x 2) := by
  unfold out0_A_8
  rw [View.read_writes_junk_eq_canon]
  funext y
  suffices q : View.PiecesOf (Val := Elt Ideal) (fun x : S12x128x128.Idx => dbiasAt root (rows x0) (cots x5) (x 0) (x 1) (x 2)) (kernelRun0_A c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5).2.2.1 from
    View.canon_apply_of_pieces (fun x : S12x128x128.Idx => dbiasAt root (rows x0) (cots x5) (x 0) (x 1) (x 2)) _ q.mem _ (cover0_A_8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 _)
  unfold kernelRun0_A
  dsimp only
  sl_unfold_words
  simp only [View.readAt_eq_ld, harg1.read_unread, harg2.read_unread, harg3.read_unread, harg4.read_unread, harg5.read_unread, harg6.read_unread,
    View.ld_unit_zero (S := S128x3072) offsets2, View.ld_unit_zero (S := S1x1536) offsets2, View.ld_unit_zero (S := S128x1536) offsets2]
  refine ⟨?_, ?_, ?_, ?_, ?_, ?_, ?_, ?_, ?_, ?_, ?_, ?_, trivial⟩
  all_goals
    intro x
    obtain ⟨z, i, j, rfl⟩ : ∃ (z : Fin 1) (i j : Fin 128), x = ix3 z i j := ⟨x 0, x 1, x 2, eq_ix3 x⟩
    obtain rfl : z = 0 := Subsingleton.elim _ _
    simp only [k0_pay15, k0_pay20, k0_pay26, k0_pay31, k0_pay38, k0_pay43, k0_pay48, k0_pay53, k0_pay58, k0_pay63, k0_pay68, k0_pay73, k0_pay78, k0_pay84,
      k0_pay89, k0_pay94, k0_pay99, k0_pay104, k0_pay109, k0_pay114, k0_pay119, k0_pay124, k0_pay129, k0_pay134, View.ld_unit]
    pointwise
    simp only [pay7, pay11]
  · rw [emb3 11 _ 0 i j (by omega)]; exact colB x0 x5 i j 11 (by omega) _ (by omega) (by omega)
  · rw [emb3 10 _ 0 i j (by omega)]; exact colB x0 x5 i j 10 (by omega) _ (by omega) (by omega)
  · rw [emb3 9 _ 0 i j (by omega)]; exact colB x0 x5 i j 9 (by omega) _ (by omega) (by omega)
  · rw [emb3 8 _ 0 i j (by omega)]; exact colB x0 x5 i j 8 (by omega) _ (by omega) (by omega)
  · rw [emb3 7 _ 0 i j (by omega)]; exact colB x0 x5 i j 7 (by omega) _ (by omega) (by omega)
  · rw [emb3 6 _ 0 i j (by omega)]; exact colB x0 x5 i j 6 (by omega) _ (by omega) (by omega)
  · rw [emb3 5 _ 0 i j (by omega)]; exact colB x0 x5 i j 5 (by omega) _ (by omega) (by omega)
  · rw [emb3 4 _ 0 i j (by omega)]; exact colB x0 x5 i j 4 (by omega) _ (by omega) (by omega)
  · rw [emb3 3 _ 0 i j (by omega)]; exact colB x0 x5 i j 3 (by omega) _ (by omega) (by omega)
  · rw [emb3 2 _ 0 i j (by omega)]; exact colB x0 x5 i j 2 (by omega) _ (by omega) (by omega)
  · rw [emb3 1 _ 0 i j (by omega)]; exact colB x0 x5 i j 1 (by omega) _ (by omega) (by omega)
  · rw [emb3 0 _ 0 i j (by omega)]; exact colB x0 x5 i j 0 (by omega) _ (by omega) (by omega)

/-- The first grid point: its part of the gradient of the norm's scale. -/
theorem tile9_A
    (x0 : Vec Ideal S128x3072 .f32) (x1 : Vec Ideal S1x1536 .f32) (x2 x3 x4 : Vec Ideal S12x128x128 .f32) (x5 : Vec Ideal S128x1536 .f32) :
    out0_A_9 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 = fun x : S1x1536.Idx => dgainAt root (rows x0) (stack x3) (cots x5) (x 1) := by
  unfold out0_A_9
  rw [View.read_writes_junk_eq_canon]
  funext y
  suffices q : View.PiecesOf (Val := Elt Ideal) (fun x : S1x1536.Idx => dgainAt root (rows x0) (stack x3) (cots x5) (x 1)) (kernelRun0_A c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5).2.2.2.1 from
    View.canon_apply_of_pieces (fun x : S1x1536.Idx => dgainAt root (rows x0) (stack x3) (cots x5) (x 1)) _ q.mem _ (cover0_A_9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 _)
  unfold kernelRun0_A
  dsimp only
  sl_unfold_words
  simp only [View.readAt_eq_ld, harg1.read_unread, harg2.read_unread, harg3.read_unread, harg4.read_unread, harg5.read_unread, harg6.read_unread,
    View.ld_unit_zero (S := S128x3072) offsets2, View.ld_unit_zero (S := S1x1536) offsets2, View.ld_unit_zero (S := S128x1536) offsets2]
  have e := storesRead x0 x3 x5 arg11.view inb_S128x1536_S128x1536_0_0
  unfold stores at e
  rw [e]
  clear e
  refine ⟨?_, trivial⟩
  intro x
  obtain ⟨z, j, rfl⟩ : ∃ (z : Fin 1) (j : Fin 1536), x = ix2 z j := ⟨x 0, x 1, eq_ix2 x⟩
  rw [show (Rect.unit ![0, 0] ![1, 1536] inb_S1x1536_S1x1536_0_0).emb (ix2 z j) = ix2 z j from emb1 _ z j]
  exact pay137 x0 _ z j

end Cert.GateBack

end
-- ==== Proof.GateBackTileB.lean ====
/- The gradient of the gating unit: what a later grid point leaves in its tiles. -/
module

public import proofs.«01_k».proof.Proof.GateBackTile

@[expose] public section

set_option maxRecDepth 16384

noncomputable section

namespace Cert.GateBack

open Idealize.ShloMosaic Idealize.ShloMosaic.TcCoe Idealize.SL.Sem Cert.Prod Cert.Norm Cert.Gate
open Cert.Kernel25Ideal Cert.Kernel25Ideal.Gen Cert.Kernel25Ideal.Value Idealize.ShloMosaic.Pipeline

variable (c : Dev nD) (i : grid0.Coords) (arg1 : Memref sig .tc .vmem S128x3072 .f32) (harg1 : arg1.IsWhole) (arg2 : Memref sig .tc .vmem S1x1536 .f32) (harg2 : arg2.IsWhole) (arg3 : Memref sig .tc .vmem S12x128x128 .f32) (harg3 : arg3.IsWhole) (arg4 : Memref sig .tc .vmem S12x128x128 .f32) (harg4 : arg4.IsWhole) (arg5 : Memref sig .tc .vmem S12x128x128 .f32) (harg5 : arg5.IsWhole) (arg6 : Memref sig .tc .vmem S128x1536 .f32) (harg6 : arg6.IsWhole) (arg7 : Memref sig .tc .vmem S128x3072 .bf16) (harg7 : arg7.IsWhole) (arg8 : Memref sig .tc .vmem S12x128x128 .f32) (harg8 : arg8.IsWhole) (arg9 : Memref sig .tc .vmem S12x128x128 .f32) (harg9 : arg9.IsWhole) (arg10 : Memref sig .tc .vmem S1x1536 .f32) (harg10 : arg10.IsWhole) (arg11 : Memref sig .tc .vmem S128x1536 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i) (hc14 : ¬cond0_14 i) (hc15 : cond0_15 i) (hc16 : ¬cond0_16 i) (hc17 : cond0_17 i) (hc18 : ¬cond0_18 i) (hc19 : cond0_19 i) (hc20 : ¬cond0_20 i) (hc21 : cond0_21 i) (hc22 : ¬cond0_22 i) (hc23 : cond0_23 i) (hc24 : ¬cond0_24 i) (hc25 : cond0_25 i)

/-- A later grid point: its tile of the gradient of the rows. -/
theorem tile6_B
    (x0 : Vec Ideal S128x3072 .f32) (x1 : Vec Ideal S1x1536 .f32) (x2 x3 x4 : Vec Ideal S12x128x128 .f32) (x5 : Vec Ideal S128x1536 .f32) (xo7 xo8 : Vec Ideal S12x128x128 .f32) (xo9 : Vec Ideal S1x1536 .f32)
    (B : Fin 12 → Fin 128 → EReal) (hB : ∀ g i j, x4 (ix3 g i j) = B g i) :
    out0_B_6 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9 = arr2 (dxAt root bell (rows x0) (scale x1) (stack x2) (stack x3) B (cots x5)) := by
  unfold out0_B_6
  rw [View.read_writes_junk_eq_canon]
  funext y
  refine View.canon_apply_of_pieces (arr2 (dxAt root bell (rows x0) (scale x1) (stack x2) (stack x3) B (cots x5))) _ (View.PiecesOf.mem ?_) _ (cover0_B_6 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9 _)
  unfold kernelRun0_B
  dsimp only
  sl_unfold_words
  simp only [View.readAt_eq_ld, harg1.read_unread, harg2.read_unread, harg3.read_unread, harg4.read_unread, harg5.read_unread, harg6.read_unread, harg8.read_unread, harg9.read_unread, harg10.read_unread,
    View.ld_unit_zero (S := S128x3072) offsets2, View.ld_unit_zero (S := S1x1536) offsets2, View.ld_unit_zero (S := S128x1536) offsets2]
  have e := storesRead x0 x3 x5 arg11.view inb_S128x1536_S128x1536_0_0
  unfold stores at e
  rw [e]
  clear e
  refine ⟨?_, ?_, ?_, ?_, ?_, ?_, ?_, ?_, ?_, ?_, ?_, ?_, ?_, trivial⟩
  · intro x
    obtain ⟨i, j, rfl⟩ : ∃ (i : Fin 128) (j : Fin 1536), x = ix2 i j := ⟨x 0, x 1, eq_ix2 x⟩
    exact (pay2 x0 x1 _ i j).trans (colV x0 x1 x2 x3 x5 B i j inb_S128x3072_S128x1536_0_1536)
  all_goals
    intro x
    obtain ⟨i, j, rfl⟩ : ∃ (i j : Fin 128), x = ix2 i j := ⟨x 0, x 1, eq_ix2 x⟩
    simp only [k0_pay12, k0_pay13, k0_pay14, k0_pay23, k0_pay24, k0_pay25, k0_pay34, k0_pay35, k0_pay36, k0_pay37, k0_pay46, k0_pay47, k0_pay56, k0_pay57,
      k0_pay66, k0_pay67, k0_pay76, k0_pay77, k0_pay87, k0_pay88, k0_pay97, k0_pay98, k0_pay107, k0_pay108, k0_pay117, k0_pay118, k0_pay127, k0_pay128, View.ld_unit]
    pointwise
    simp only [pay6, pay11]
  · exact colU x0 x1 x2 x3 x4 x5 B hB i j 11 (by omega) (emb2 1408 _ i j (by omega))
  · exact colU x0 x1 x2 x3 x4 x5 B hB i j 10 (by omega) (emb2 1280 _ i j (by omega))
  · exact colU x0 x1 x2 x3 x4 x5 B hB i j 9 (by omega) (emb2 1152 _ i j (by omega))
  · exact colU x0 x1 x2 x3 x4 x5 B hB i j 8 (by omega) (emb2 1024 _ i j (by omega))
  · exact colU x0 x1 x2 x3 x4 x5 B hB i j 7 (by omega) (emb2 896 _ i j (by omega))
  · exact colU x0 x1 x2 x3 x4 x5 B hB i j 6 (by omega) (emb2 768 _ i j (by omega))
  · exact colU x0 x1 x2 x3 x4 x5 B hB i j 5 (by omega) (emb2 640 _ i j (by omega))
  · exact colU x0 x1 x2 x3 x4 x5 B hB i j 4 (by omega) (emb2 512 _ i j (by omega))
  · exact colU x0 x1 x2 x3 x4 x5 B hB i j 3 (by omega) (emb2 384 _ i j (by omega))
  · exact colU x0 x1 x2 x3 x4 x5 B hB i j 2 (by omega) (emb2 256 _ i j (by omega))
  · exact colU x0 x1 x2 x3 x4 x5 B hB i j 1 (by omega) (emb2 128 _ i j (by omega))
  · have q := colU x0 x1 x2 x3 x4 x5 B hB i j 0 (by omega) (h := by omega) (emb2 0 inb_S128x3072_S128x128_0_0 i j (by omega))
    simp only [Nat.mul_zero, Nat.zero_add] at q
    exact q

/-- A later grid point: its part of the gradient of the mixing, added to what is there. -/
theorem tile7_B
    (x0 : Vec Ideal S128x3072 .f32) (x1 : Vec Ideal S1x1536 .f32) (x2 x3 x4 : Vec Ideal S12x128x128 .f32) (x5 : Vec Ideal S128x1536 .f32) (xo7 xo8 : Vec Ideal S12x128x128 .f32) (xo9 : Vec Ideal S1x1536 .f32) :
    out0_B_7 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9 = fun x => xo7 x + dwsAt root (rows x0) (scale x1) (cots x5) (x 0) (x 1) (x 2) := by
  unfold out0_B_7
  rw [View.read_writes_junk_eq_canon]
  funext y
  suffices q : View.PiecesOf (Val := Elt Ideal) (fun x => xo7 x + dwsAt root (rows x0) (scale x1) (cots x5) (x 0) (x 1) (x 2)) (kernelRun0_B c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9).2.1 from
    View.canon_apply_of_pieces (fun x => xo7 x + dwsAt root (rows x0) (scale x1) (cots x5) (x 0) (x 1) (x 2)) _ q.mem _ (cover0_B_7 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9 _)
  unfold kernelRun0_B
  dsimp only
  sl_unfold_words
  simp only [View.readAt_eq_ld, harg1.read_unread, harg2.read_unread, harg3.read_unread, harg4.read_unread, harg5.read_unread, harg6.read_unread, harg8.read_unread, harg9.read_unread, harg10.read_unread,
    View.ld_unit_zero (S := S128x3072) offsets2, View.ld_unit_zero (S := S1x1536) offsets2, View.ld_unit_zero (S := S128x1536) offsets2]
  refine ⟨?_, ?_, ?_, ?_, ?_, ?_, ?_, ?_, ?_, ?_, ?_, ?_, trivial⟩
  all_goals
    intro x
    obtain ⟨z, i, j, rfl⟩ : ∃ (z : Fin 1) (i j : Fin 128), x = ix3 z i j := ⟨x 0, x 1, x 2, eq_ix3 x⟩
    obtain rfl : z = 0 := Subsingleton.elim _ _
    simp only [k0_pay12, k0_pay15, k0_pay16, k0_pay17, k0_pay21, k0_pay23, k0_pay26, k0_pay27, k0_pay28, k0_pay32, k0_pay34, k0_pay38, k0_pay39, k0_pay40,
      k0_pay44, k0_pay46, k0_pay48, k0_pay49, k0_pay50, k0_pay54, k0_pay56, k0_pay58, k0_pay59, k0_pay60, k0_pay64, k0_pay66, k0_pay68, k0_pay69,
      k0_pay70, k0_pay74, k0_pay76, k0_pay78, k0_pay79, k0_pay80, k0_pay85, k0_pay87, k0_pay89, k0_pay90, k0_pay91, k0_pay95, k0_pay97, k0_pay99,
      k0_pay100, k0_pay101, k0_pay105, k0_pay107, k0_pay109, k0_pay110, k0_pay111, k0_pay115, k0_pay117, k0_pay119, k0_pay120, k0_pay121, k0_pay125,
      k0_pay127, k0_pay129, k0_pay130, k0_pay131, k0_pay135, View.ld_unit]
    pointwise
    simp only [pay7, pay11]
  · rw [emb3 11 _ 0 i j (by omega)]; exact congrArg (xo7 (ix3 11 i j) + ·) (colW x0 x1 x5 i j 11 (by omega) (fun j => 1408 + j.val) (fun j => by omega) (fun j => by omega))
  · rw [emb3 10 _ 0 i j (by omega)]; exact congrArg (xo7 (ix3 10 i j) + ·) (colW x0 x1 x5 i j 10 (by omega) (fun j => 1280 + j.val) (fun j => by omega) (fun j => by omega))
  · rw [emb3 9 _ 0 i j (by omega)]; exact congrArg (xo7 (ix3 9 i j) + ·) (colW x0 x1 x5 i j 9 (by omega) (fun j => 1152 + j.val) (fun j => by omega) (fun j => by omega))
  · rw [emb3 8 _ 0 i j (by omega)]; exact congrArg (xo7 (ix3 8 i j) + ·) (colW x0 x1 x5 i j 8 (by omega) (fun j => 1024 + j.val) (fun j => by omega) (fun j => by omega))
  · rw [emb3 7 _ 0 i j (by omega)]; exact congrArg (xo7 (ix3 7 i j) + ·) (colW x0 x1 x5 i j 7 (by omega) (fun j => 896 + j.val) (fun j => by omega) (fun j => by omega))
  · rw [emb3 6 _ 0 i j (by omega)]; exact congrArg (xo7 (ix3 6 i j) + ·) (colW x0 x1 x5 i j 6 (by omega) (fun j => 768 + j.val) (fun j => by omega) (fun j => by omega))
  · rw [emb3 5 _ 0 i j (by omega)]; exact congrArg (xo7 (ix3 5 i j) + ·) (colW x0 x1 x5 i j 5 (by omega) (fun j => 640 + j.val) (fun j => by omega) (fun j => by omega))
  · rw [emb3 4 _ 0 i j (by omega)]; exact congrArg (xo7 (ix3 4 i j) + ·) (colW x0 x1 x5 i j 4 (by omega) (fun j => 512 + j.val) (fun j => by omega) (fun j => by omega))
  · rw [emb3 3 _ 0 i j (by omega)]; exact congrArg (xo7 (ix3 3 i j) + ·) (colW x0 x1 x5 i j 3 (by omega) (fun j => 384 + j.val) (fun j => by omega) (fun j => by omega))
  · rw [emb3 2 _ 0 i j (by omega)]; exact congrArg (xo7 (ix3 2 i j) + ·) (colW x0 x1 x5 i j 2 (by omega) (fun j => 256 + j.val) (fun j => by omega) (fun j => by omega))
  · rw [emb3 1 _ 0 i j (by omega)]; exact congrArg (xo7 (ix3 1 i j) + ·) (colW x0 x1 x5 i j 1 (by omega) (fun j => 128 + j.val) (fun j => by omega) (fun j => by omega))
  · rw [emb3 0 _ 0 i j (by omega)]; exact congrArg (xo7 (ix3 0 i j) + ·) (colW x0 x1 x5 i j 0 (by omega) (fun j => j.val) (fun j => by omega) (fun j => by omega))

/-- A later grid point: its part of the gradient of the mixing's bias, added to what is there. -/
theorem tile8_B
    (x0 : Vec Ideal S128x3072 .f32) (x1 : Vec Ideal S1x1536 .f32) (x2 x3 x4 : Vec Ideal S12x128x128 .f32) (x5 : Vec Ideal S128x1536 .f32) (xo7 xo8 : Vec Ideal S12x128x128 .f32) (xo9 : Vec Ideal S1x1536 .f32) :
    out0_B_8 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9 = fun x => xo8 x + dbiasAt root (rows x0) (cots x5) (x 0) (x 1) (x 2) := by
  unfold out0_B_8
  rw [View.read_writes_junk_eq_canon]
  funext y
  suffices q : View.PiecesOf (Val := Elt Ideal) (fun x => xo8 x + dbiasAt root (rows x0) (cots x5) (x 0) (x 1) (x 2)) (kernelRun0_B c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9).2.2.1 from
    View.canon_apply_of_pieces (fun x => xo8 x + dbiasAt root (rows x0) (cots x5) (x 0) (x 1) (x 2)) _ q.mem _ (cover0_B_8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9 _)
  unfold kernelRun0_B
  dsimp only
  sl_unfold_words
  simp only [View.readAt_eq_ld, harg1.read_unread, harg2.read_unread, harg3.read_unread, harg4.read_unread, harg5.read_unread, harg6.read_unread, harg8.read_unread, harg9.read_unread, harg10.read_unread,
    View.ld_unit_zero (S := S128x3072) offsets2, View.ld_unit_zero (S := S1x1536) offsets2, View.ld_unit_zero (S := S128x1536) offsets2]
  refine ⟨?_, ?_, ?_, ?_, ?_, ?_, ?_, ?_, ?_, ?_, ?_, ?_, trivial⟩
  all_goals
    intro x
    obtain ⟨z, i, j, rfl⟩ : ∃ (z : Fin 1) (i j : Fin 128), x = ix3 z i j := ⟨x 0, x 1, x 2, eq_ix3 x⟩
    obtain rfl : z = 0 := Subsingleton.elim _ _
    simp only [k0_pay15, k0_pay22, k0_pay26, k0_pay33, k0_pay38, k0_pay45, k0_pay48, k0_pay55, k0_pay58, k0_pay65, k0_pay68, k0_pay75, k0_pay78, k0_pay86,
      k0_pay89, k0_pay96, k0_pay99, k0_pay106, k0_pay109, k0_pay116, k0_pay119, k0_pay126, k0_pay129, k0_pay136, View.ld_unit]
    pointwise
    simp only [pay7, pay11]
  · rw [emb3 11 _ 0 i j (by omega)]; exact congrArg (xo8 (ix3 11 i j) + ·) (colB x0 x5 i j 11 (by omega) _ (by omega) (by omega))
  · rw [emb3 10 _ 0 i j (by omega)]; exact congrArg (xo8 (ix3 10 i j) + ·) (colB x0 x5 i j 10 (by omega) _ (by omega) (by omega))
  · rw [emb3 9 _ 0 i j (by omega)]; exact congrArg (xo8 (ix3 9 i j) + ·) (colB x0 x5 i j 9 (by omega) _ (by omega) (by omega))
  · rw [emb3 8 _ 0 i j (by omega)]; exact congrArg (xo8 (ix3 8 i j) + ·) (colB x0 x5 i j 8 (by omega) _ (by omega) (by omega))
  · rw [emb3 7 _ 0 i j (by omega)]; exact congrArg (xo8 (ix3 7 i j) + ·) (colB x0 x5 i j 7 (by omega) _ (by omega) (by omega))
  · rw [emb3 6 _ 0 i j (by omega)]; exact congrArg (xo8 (ix3 6 i j) + ·) (colB x0 x5 i j 6 (by omega) _ (by omega) (by omega))
  · rw [emb3 5 _ 0 i j (by omega)]; exact congrArg (xo8 (ix3 5 i j) + ·) (colB x0 x5 i j 5 (by omega) _ (by omega) (by omega))
  · rw [emb3 4 _ 0 i j (by omega)]; exact congrArg (xo8 (ix3 4 i j) + ·) (colB x0 x5 i j 4 (by omega) _ (by omega) (by omega))
  · rw [emb3 3 _ 0 i j (by omega)]; exact congrArg (xo8 (ix3 3 i j) + ·) (colB x0 x5 i j 3 (by omega) _ (by omega) (by omega))
  · rw [emb3 2 _ 0 i j (by omega)]; exact congrArg (xo8 (ix3 2 i j) + ·) (colB x0 x5 i j 2 (by omega) _ (by omega) (by omega))
  · rw [emb3 1 _ 0 i j (by omega)]; exact congrArg (xo8 (ix3 1 i j) + ·) (colB x0 x5 i j 1 (by omega) _ (by omega) (by omega))
  · rw [emb3 0 _ 0 i j (by omega)]; exact congrArg (xo8 (ix3 0 i j) + ·) (colB x0 x5 i j 0 (by omega) _ (by omega) (by omega))

/-- A later grid point: its part of the gradient of the norm's scale, added to what is there. -/
theorem tile9_B
    (x0 : Vec Ideal S128x3072 .f32) (x1 : Vec Ideal S1x1536 .f32) (x2 x3 x4 : Vec Ideal S12x128x128 .f32) (x5 : Vec Ideal S128x1536 .f32) (xo7 xo8 : Vec Ideal S12x128x128 .f32) (xo9 : Vec Ideal S1x1536 .f32) :
    out0_B_9 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9 = fun x => xo9 x + dgainAt root (rows x0) (stack x3) (cots x5) (x 1) := by
  unfold out0_B_9
  rw [View.read_writes_junk_eq_canon]
  funext y
  suffices q : View.PiecesOf (Val := Elt Ideal) (fun x => xo9 x + dgainAt root (rows x0) (stack x3) (cots x5) (x 1)) (kernelRun0_B c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9).2.2.2.1 from
    View.canon_apply_of_pieces (fun x => xo9 x + dgainAt root (rows x0) (stack x3) (cots x5) (x 1)) _ q.mem _ (cover0_B_9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 hc14 hc15 hc16 hc17 hc18 hc19 hc20 hc21 hc22 hc23 hc24 hc25 x0 x1 x2 x3 x4 x5 xo7 xo8 xo9 _)
  unfold kernelRun0_B
  dsimp only
  sl_unfold_words
  simp only [View.readAt_eq_ld, harg1.read_unread, harg2.read_unread, harg3.read_unread, harg4.read_unread, harg5.read_unread, harg6.read_unread, harg8.read_unread, harg9.read_unread, harg10.read_unread,
    View.ld_unit_zero (S := S128x3072) offsets2, View.ld_unit_zero (S := S1x1536) offsets2, View.ld_unit_zero (S := S128x1536) offsets2]
  have e := storesRead x0 x3 x5 arg11.view inb_S128x1536_S128x1536_0_0
  unfold stores at e
  rw [e]
  clear e
  refine ⟨?_, trivial⟩
  intro x
  obtain ⟨z, j, rfl⟩ : ∃ (z : Fin 1) (j : Fin 1536), x = ix2 z j := ⟨x 0, x 1, eq_ix2 x⟩
  rw [show (Rect.unit ![0, 0] ![1, 1536] inb_S1x1536_S1x1536_0_0).emb (ix2 z j) = ix2 z j from emb1 _ z j]
  show k0_pay1 (F := Ideal) _ xo9 (ix2 z j) = _
  unfold k0_pay1
  pointwise
  rw [pay137]
  rfl

end Cert.GateBack

end
-- ==== Proof.GateBackKern.lean ====
/- The gradient of the gating unit: what the kernel's chunks make of the four results. -/
module

public import proofs.«01_k».proof.Proof.GateBackSpec
public import proofs.«01_k».proof.Proof.GateBackTileA
public import proofs.«01_k».proof.Proof.GateBackTileB

@[expose] public section

set_option maxRecDepth 16384

noncomputable section

namespace Cert.GateBack

open Idealize.ShloMosaic Idealize.ShloMosaic.TcCoe Idealize.SL.Sem Cert.Prod Cert.Norm Cert.Gate
open Cert.Kernel25Ideal Cert.Kernel25Ideal.Gen Cert.Kernel25Ideal.Value Idealize.ShloMosaic.Pipeline

variable (m : (ℓ : Loc nD τ sig) → Buf (Elt Ideal) ℓ) (c : Dev nD)

/-- The projection on a device. -/
abbrev A0 : Arr2 2048 3584 := m ((c.tc : Thread nD τ).loc main_arg0)
/-- The gain on a device. -/
abbrev A1 : Arr1 1536 := m ((c.tc : Thread nD τ).loc main_arg1)
/-- The mixing matrices on a device. -/
abbrev A2 : Arr3 12 128 128 := m ((c.tc : Thread nD τ).loc main_arg2)
/-- The biases on a device. -/
abbrev A3 : Arr2 12 128 := m ((c.tc : Thread nD τ).loc main_arg3)
/-- The cotangent on a device. -/
abbrev A4 : Arr2 2048 2048 := m ((c.tc : Thread nD τ).loc main_arg4)

theorem index0 : ∀ t : Fin cfg0.N, win0_0.index t 0 = t.val ∧ win0_0.index t 1 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = 0 ∧ win0_2.index t 1 = 0 ∧ win0_2.index t 2 = 0 :=
  (by decide +kernel : ∀ t : Fin grid0.N, _)
theorem index3 : ∀ t : Fin cfg0.N, win0_3.index t 0 = 0 ∧ win0_3.index t 1 = 0 ∧ win0_3.index t 2 = 0 :=
  (by decide +kernel : ∀ t : Fin grid0.N, _)
theorem index4 : ∀ t : Fin cfg0.N, win0_4.index t 0 = 0 ∧ win0_4.index t 1 = 0 ∧ win0_4.index t 2 = 0 :=
  (by decide +kernel : ∀ t : Fin grid0.N, _)
theorem index5 : ∀ t : Fin cfg0.N, win0_5.index t 0 = t.val ∧ win0_5.index t 1 = 0 :=
  (by decide +kernel : ∀ t : Fin grid0.N, _)
theorem index6 : ∀ t : Fin cfg0.N, win0_6.index t 0 = t.val ∧ win0_6.index t 1 = 0 :=
  (by decide +kernel : ∀ t : Fin grid0.N, _)
theorem index7 : ∀ t : Fin cfg0.N, win0_7.index t 0 = 0 ∧ win0_7.index t 1 = 0 ∧ win0_7.index t 2 = 0 :=
  (by decide +kernel : ∀ t : Fin grid0.N, _)
theorem index8 : ∀ t : Fin cfg0.N, win0_8.index t 0 = 0 ∧ win0_8.index t 1 = 0 ∧ win0_8.index t 2 = 0 :=
  (by decide +kernel : ∀ t : Fin grid0.N, _)
theorem index9 : ∀ t : Fin cfg0.N, win0_9.index t 0 = 0 ∧ win0_9.index t 1 = 0 :=
  (by decide +kernel : ∀ t : Fin grid0.N, _)

/-- The chunk a grid point works on. -/
def at' (t : Fin cfg0.N) : Fin 16 := ⟨t.val, t.isLt⟩

/-- A grid point's rows of the projection. -/
theorem blk0 (t : Fin cfg0.N) (r : Fin 128) (k : Fin 3072) : (X0_0 m c t : Vec Ideal S128x3072 .f32) (ix2 r k) = rowsOf (A0 m c) (at' t) r k := by
  unfold X0_0 Pipeline.Window.fill
  rw [dif_pos (moved0_0 t _)]
  unfold iblk
  rw [View.read_apply]
  show A0 m c _ = A0 m c _
  congr 1
  funext a
  apply Fin.ext
  match a with
  | ⟨0, _⟩ => show win0_0.index t 0 * 128 + 1 * r.val = t.val * 128 + r.val; rw [(index0 t).1]; omega
  | ⟨1, _⟩ => show win0_0.index t 1 * 3072 + 1 * k.val = k.val; rw [(index0 t).2]; omega

/-- A grid point's rows of the cotangent. -/
theorem blk5 (t : Fin cfg0.N) (r : Fin 128) (k : Fin 1536) : (X0_5 m c t : Vec Ideal S128x1536 .f32) (ix2 r k) = cotsOf (A4 m c) (at' t) r k := by
  unfold X0_5 Pipeline.Window.fill
  rw [dif_pos (moved0_5 t _)]
  unfold iblk
  rw [View.read_apply]
  show A4 m c _ = A4 m c _
  congr 1
  funext a
  apply Fin.ext
  match a with
  | ⟨0, _⟩ => show win0_5.index t 0 * 128 + 1 * r.val = t.val * 128 + r.val; rw [(index5 t).1]; omega
  | ⟨1, _⟩ => show win0_5.index t 1 * 1536 + 1 * k.val = k.val; rw [(index5 t).2]; omega

/-- Every grid point's block of the gain. -/
theorem blk1 (t : Fin cfg0.N) (z : Fin 1) (k : Fin 1536) : (iblk m c 1 t : Vec Ideal S1x1536 .f32) (ix2 z k) = gainOf (A1 m c) k := by
  unfold iblk
  rw [View.read_apply]
  show shapeCast S1x1536 (A1 m c) shapeCasts_S1536_S1x1536 _ = _
  have h : ∀ i : S1x1536.Idx, (i 1).val = k.val → shapeCast S1x1536 (A1 m c) shapeCasts_S1536_S1x1536 i = A1 m c (ix1 k) := fun i hi => by
    rw [eq_ix2 i, show i 1 = k from Fin.ext hi]
    pointwise
  refine h _ ?_
  show win0_1.index t 1 * 1536 + 1 * k.val = k.val
  rw [(index1 t).2]; omega

/-- Every grid point's block of the mixing matrices. -/
theorem blk2 (t : Fin cfg0.N) (g : Fin 12) (i k : Fin 128) : (iblk m c 2 t : Vec Ideal S12x128x128 .f32) (ix3 g i k) = mixOf (A2 m c) g i k := by
  unfold iblk
  rw [View.read_apply]
  show A2 m c _ = A2 m c _
  congr 1
  funext a
  apply Fin.ext
  match a with
  | ⟨0, _⟩ => show win0_2.index t 0 * 12 + 1 * g.val = g.val; rw [(index2 t).1]; omega
  | ⟨1, _⟩ => show win0_2.index t 1 * 128 + 1 * i.val = i.val; rw [(index2 t).2.1]; omega
  | ⟨2, _⟩ => show win0_2.index t 2 * 128 + 1 * k.val = k.val; rw [(index2 t).2.2]; omega

/-- Every grid point's block of the transposed mixing matrices. -/
theorem blk3 (t : Fin cfg0.N) (g : Fin 12) (i k : Fin 128) : (iblk m c 3 t : Vec Ideal S12x128x128 .f32) (ix3 g i k) = turned (A2 m c) g i k := by
  unfold iblk
  rw [View.read_apply]
  show transpose S12x128x128 [0, 2, 1] (A2 m c) transposes_S12x128x128_S12x128x128_0_2_1 _ = _
  have h : ∀ y : S12x128x128.Idx, (y 0).val = g.val → (y 1).val = i.val → (y 2).val = k.val →
      transpose S12x128x128 [0, 2, 1] (A2 m c) transposes_S12x128x128_S12x128x128_0_2_1 y = A2 m c (ix3 g k i) := fun y h0 h1 h2 => by
    rw [eq_ix3 y, show y 0 = g from Fin.ext h0, show y 1 = i from Fin.ext h1, show y 2 = k from Fin.ext h2]
    pointwise
  refine h _ ?_ ?_ ?_
  · show win0_3.index t 0 * 12 + 1 * g.val = g.val; rw [(index3 t).1]; omega
  · show win0_3.index t 1 * 128 + 1 * i.val = i.val; rw [(index3 t).2.1]; omega
  · show win0_3.index t 2 * 128 + 1 * k.val = k.val; rw [(index3 t).2.2]; omega

/-- Every grid point's block of the biases. -/
theorem blk4 (t : Fin cfg0.N) (g : Fin 12) (i k : Fin 128) : (iblk m c 4 t : Vec Ideal S12x128x128 .f32) (ix3 g i k) = biasOf (A3 m c) g i := by
  unfold iblk
  rw [View.read_apply]
  show broadcastInDim S12x128x128 ![0, 1, 2] bcast_S12x128x1_S12x128x128_0_1_2 (broadcastInDim S12x128x1 ![0, 1] bcast_S12x128_S12x128x1_0_1 (A3 m c)) _ = _
  have h : ∀ y : S12x128x128.Idx, (y 0).val = g.val → (y 1).val = i.val →
      broadcastInDim S12x128x128 ![0, 1, 2] bcast_S12x128x1_S12x128x128_0_1_2 (broadcastInDim S12x128x1 ![0, 1] bcast_S12x128_S12x128x1_0_1 (A3 m c)) y = A3 m c (ix2 g i) := fun y h0 h1 => by
    rw [eq_ix3 y, show y 0 = g from Fin.ext h0, show y 1 = i from Fin.ext h1]
    pointwise
  refine h _ ?_ ?_
  · show win0_4.index t 0 * 12 + 1 * g.val = g.val; rw [(index4 t).1]; omega
  · show win0_4.index t 1 * 128 + 1 * i.val = i.val; rw [(index4 t).2.1]; omega

/-- A grid point's rows of the projection, as rows. -/
theorem rowsEq (t : Fin cfg0.N) : rows (X0_0 m c t) = rowsOf (A0 m c) (at' t) := funext fun r => funext fun k => blk0 m c t r k
/-- A grid point's rows of the cotangent, as rows. -/
theorem cotsEq (t : Fin cfg0.N) : cots (X0_5 m c t) = cotsOf (A4 m c) (at' t) := funext fun r => funext fun k => blk5 m c t r k
/-- A grid point's gain. -/
theorem scaleEq (t : Fin cfg0.N) : scale (iblk m c 1 t) = gainOf (A1 m c) := funext fun k => blk1 m c t 0 k
/-- A grid point's mixing matrices. -/
theorem stackEq (t : Fin cfg0.N) : stack (iblk m c 2 t) = mixOf (A2 m c) := funext fun g => funext fun i => funext fun k => blk2 m c t g i k
/-- A grid point's transposed mixing matrices. -/
theorem turnedEq (t : Fin cfg0.N) : stack (iblk m c 3 t) = turned (A2 m c) := funext fun g => funext fun i => funext fun k => blk3 m c t g i k

/-- A chunk's gradient of the projection. -/
abbrev part6 (n : Fin 16) : Vec Ideal S128x3072 .bf16 :=
  arr2 (dxAt root bell (rowsOf (A0 m c) n) (gainOf (A1 m c)) (mixOf (A2 m c)) (turned (A2 m c)) (biasOf (A3 m c)) (cotsOf (A4 m c) n))
/-- A chunk's part of the gradient of the mixing. -/
abbrev part7 (n : Fin 16) (x : S12x128x128.Idx) : EReal := dwsAt root (rowsOf (A0 m c) n) (gainOf (A1 m c)) (cotsOf (A4 m c) n) (x 0) (x 1) (x 2)
/-- A chunk's part of the gradient of the biases. -/
abbrev part8 (n : Fin 16) (x : S12x128x128.Idx) : EReal := dbiasAt root (rowsOf (A0 m c) n) (cotsOf (A4 m c) n) (x 0) (x 1) (x 2)
/-- A chunk's part of the gradient of the gain. -/
abbrev part9 (n : Fin 16) (x : S1x1536.Idx) : EReal := dgainAt root (rowsOf (A0 m c) n) (turned (A2 m c)) (cotsOf (A4 m c) n) (x 1)

/-- What the first grid point leaves. -/
theorem outsFirst (t : Fin cfg0.N) (h : t.val % 16 = 0) :
    (outsAt0 m c t.val t.isLt).1 = part6 m c (at' t) ∧ (outsAt0 m c t.val t.isLt).2.1 = part7 m c (at' t)
    ∧ (outsAt0 m c t.val t.isLt).2.2.1 = part8 m c (at' t) ∧ (outsAt0 m c t.val t.isLt).2.2.2 = part9 m c (at' t) := by
  have hN : t.val < 16 := t.isLt
  rw [outsAt0_A m c t h (by omega) h (by omega) h (by omega) h (by omega) h (by omega) h (by omega) h (by omega) h (by omega) h (by omega) h (by omega) h (by omega) h (by omega) h (by omega)]
  dsimp only
  rw [tile6_A _ _ _ _ _ _ _ _ _ _ _ _ _ _ _ _ _ _ _ _ _ _ _ _ _ _ _ _ _ _ _ _ _ _ _ _ _ _ _ _ _ _ _ _ _ _ _ _ _ _ _ _ _ _ _ _ (biasOf (A3 m c)) fun g i j => blk4 m c t g i j, tile7_A, tile8_A, tile9_A]
  simp only [rowsEq, cotsEq, scaleEq, stackEq, turnedEq]
  exact ⟨trivial, trivial, trivial, trivial⟩

/-- What a later grid point leaves. -/
theorem outsLater (t : Fin cfg0.N) (h : ¬t.val % 16 = 0) :
    (outsAt0 m c t.val t.isLt).1 = part6 m c (at' t)
    ∧ (outsAt0 m c t.val t.isLt).2.1 = (fun x => (outsAt0 m c (t.val - 1) (Nat.lt_of_le_of_lt (Nat.sub_le _ _) t.isLt)).2.1 x + part7 m c (at' t) x)
    ∧ (outsAt0 m c t.val t.isLt).2.2.1 = (fun x => (outsAt0 m c (t.val - 1) (Nat.lt_of_le_of_lt (Nat.sub_le _ _) t.isLt)).2.2.1 x + part8 m c (at' t) x)
    ∧ (outsAt0 m c t.val t.isLt).2.2.2 = (fun x => (outsAt0 m c (t.val - 1) (Nat.lt_of_le_of_lt (Nat.sub_le _ _) t.isLt)).2.2.2 x + part9 m c (at' t) x) := by
  rw [outsAt0_B m c t h (by omega) h (by omega) h (by omega) h (by omega) h (by omega) h (by omega) h (by omega) h (by omega) h (by omega) h (by omega) h (by omega) h (by omega) h (by omega)]
  dsimp only
  rw [tile6_B _ _ _ _ _ _ _ _ _ _ _ _ _ _ _ _ _ _ _ _ _ _ _ _ _ _ _ _ _ _ _ _ _ _ _ _ _ _ _ _ _ _ _ _ _ _ _ _ _ _ _ _ _ _ _ _ _ _ _ (biasOf (A3 m c)) fun g i j => blk4 m c t g i j, tile7_B, tile8_B, tile9_B]
  simp only [rowsEq, cotsEq, scaleEq, stackEq, turnedEq]
  exact ⟨trivial, trivial, trivial, trivial⟩

/-- After each grid point its rows of the gradient are done. -/
theorem outs (t : Fin cfg0.N) : (outsAt0 m c t.val t.isLt).1 = part6 m c (at' t) := by
  by_cases h : t.val % 16 = 0
  · exact (outsFirst m c t h).1
  · exact (outsLater m c t h).1

/-- After each grid point the three sums are over the chunks so far. -/
theorem outsSums : ∀ (n : ℕ) (hn : n < cfg0.N),
    (∀ x, (outsAt0 m c n hn).2.1 x = ∑ k ∈ Finset.range (n + 1), ext (fun q => part7 m c q x) k)
    ∧ (∀ x, (outsAt0 m c n hn).2.2.1 x = ∑ k ∈ Finset.range (n + 1), ext (fun q => part8 m c q x) k)
    ∧ (∀ x, (outsAt0 m c n hn).2.2.2 x = ∑ k ∈ Finset.range (n + 1), ext (fun q => part9 m c q x) k) := by
  intro n
  induction n with
  | zero =>
    intro hn
    obtain ⟨-, h7, h8, h9⟩ := outsFirst m c ⟨0, hn⟩ rfl
    refine ⟨fun x => ?_, fun x => ?_, fun x => ?_⟩
    · exact (congrFun h7 x).trans (by simp [ext, at'])
    · exact (congrFun h8 x).trans (by simp [ext, at'])
    · exact (congrFun h9 x).trans (by simp [ext, at'])
  | succ n ih =>
    intro hn
    have hN : n + 1 < 16 := hn
    obtain ⟨-, h7, h8, h9⟩ := outsLater m c ⟨n + 1, hn⟩ (by show ¬(n + 1) % 16 = 0; omega)
    obtain ⟨i7, i8, i9⟩ := ih (Nat.lt_of_succ_lt hn)
    have e : ∀ f : Fin 16 → EReal, f (at' ⟨n + 1, hn⟩) = ext f (n + 1) := fun f => by
      unfold ext
      rw [dif_pos hN]
      rfl
    refine ⟨fun x => ?_, fun x => ?_, fun x => ?_⟩
    · rw [Finset.sum_range_succ, ← i7 x, ← e]; exact congrFun h7 x
    · rw [Finset.sum_range_succ, ← i8 x, ← e]; exact congrFun h8 x
    · rw [Finset.sum_range_succ, ← i9 x, ← e]; exact congrFun h9 x

/-- The first result is the gradient of the projection. -/
theorem final6 : (dats m 0 c).arrAt 6 cfg0.N = arr2 (dxEntry (A0 m c) (A1 m c) (A2 m c) (A3 m c) (A4 m c)) := by
  refine (dats m 0 c).arrAt_eq_of_cover 6 _ (fun t _ => ?_) fun i => ?_
  · rw [flushed6]
    funext j
    rw [View.read_apply]
    show (outsAt0 m c t.val t.isLt).1 j = arr2 (dxEntry (A0 m c) (A1 m c) (A2 m c) (A3 m c) (A4 m c)) _
    have key : ∀ j : S128x3072.Idx, (outsAt0 m c t.val t.isLt).1 j = dxEntry (A0 m c) (A1 m c) (A2 m c) (A3 m c) (A4 m c) (rowOf (at' t) (j 0)) (j 1) := fun j => by
      rw [outs]
      exact (dxEntry_rowOf _ _ _ _ _ (at' t) (j 0) (j 1)).symm
    refine (key j).trans (entry_arr2 _ _ _ _ ?_ ?_)
    · show t.val * 128 + (j 0).val = win0_6.index t 0 * 128 + 1 * (j 0).val
      rw [(index6 t).1]; omega
    · show (j 1).val = win0_6.index t 1 * 3072 + 1 * (j 1).val
      rw [(index6 t).2]; omega
  · have h0 : (i 0 : Nat) < 2048 := (i 0).isLt
    have h1 : (i 1 : Nat) < 3072 := (i 1).isLt
    have hlt : (i 0 : Nat) / 128 < cfg0.N := by show _ < 16; omega
    refine ⟨⟨(i 0 : Nat) / 128, hlt⟩, flush0_6 _, ?_⟩
    generalize ht : (⟨(i 0 : Nat) / 128, hlt⟩ : Fin cfg0.N) = t
    have hv : t.val = (i 0 : Nat) / 128 := by rw [← ht]
    show i ∈ ((View.whole main_v4_0).slice (win0_6.rect t)).set
    rw [View.set_slice_whole, Rect.mem_set_unit]
    intro a
    match a with
    | ⟨0, _⟩ => show win0_6.index t 0 * 128 ≤ (i 0 : Nat) ∧ (i 0 : Nat) < win0_6.index t 0 * 128 + 128
                rw [(index6 t).1]; omega
    | ⟨1, _⟩ => show win0_6.index t 1 * 3072 ≤ (i 1 : Nat) ∧ (i 1 : Nat) < win0_6.index t 1 * 3072 + 3072
                rw [(index6 t).2]; omega

/-- The second result is the gradient of the mixing. -/
theorem final7 : (dats m 0 c).arrAt 7 cfg0.N = arr3 (dwsEntry (A0 m c) (A1 m c) (A4 m c)) := by
  refine (dats m 0 c).arrAt_eq_of_cover 7 _ (fun t hf => ?_) fun i => ?_
  · have hm : t.val % 16 = 15 := (flush0_7 t).mp hf
    have hN : t.val < 16 := t.isLt
    rw [flushed7]
    funext j
    rw [View.read_apply]
    show (outsAt0 m c t.val t.isLt).2.1 j = arr3 (dwsEntry (A0 m c) (A1 m c) (A4 m c)) _
    have key : ∀ j : S12x128x128.Idx, (outsAt0 m c t.val t.isLt).2.1 j = dwsEntry (A0 m c) (A1 m c) (A4 m c) (j 0) (j 1) (j 2) := fun j => by
      refine ((outsSums m c t.val t.isLt).1 j).trans ?_
      rw [show t.val + 1 = 16 by omega]
      exact sum_ext _
    refine (key j).trans (entry_arr3 _ _ _ _ _ ?_ ?_ ?_)
    · show (j 0).val = win0_7.index t 0 * 12 + 1 * (j 0).val
      rw [(index7 t).1]; omega
    · show (j 1).val = win0_7.index t 1 * 128 + 1 * (j 1).val
      rw [(index7 t).2.1]; omega
    · show (j 2).val = win0_7.index t 2 * 128 + 1 * (j 2).val
      rw [(index7 t).2.2]; omega
  · have h0 : (i 0 : Nat) < 12 := (i 0).isLt
    have h1 : (i 1 : Nat) < 128 := (i 1).isLt
    have h2 : (i 2 : Nat) < 128 := (i 2).isLt
    refine ⟨⟨15, by show 15 < 16; omega⟩, (flush0_7 _).mpr rfl, ?_⟩
    generalize (⟨15, _⟩ : Fin cfg0.N) = t
    show i ∈ ((View.whole main_v4_1).slice (win0_7.rect t)).set
    rw [View.set_slice_whole, Rect.mem_set_unit]
    intro a
    match a with
    | ⟨0, _⟩ => show win0_7.index t 0 * 12 ≤ (i 0 : Nat) ∧ (i 0 : Nat) < win0_7.index t 0 * 12 + 12
                rw [(index7 t).1]; omega
    | ⟨1, _⟩ => show win0_7.index t 1 * 128 ≤ (i 1 : Nat) ∧ (i 1 : Nat) < win0_7.index t 1 * 128 + 128
                rw [(index7 t).2.1]; omega
    | ⟨2, _⟩ => show win0_7.index t 2 * 128 ≤ (i 2 : Nat) ∧ (i 2 : Nat) < win0_7.index t 2 * 128 + 128
                rw [(index7 t).2.2]; omega

/-- The third result is the gradient of the biases, channel by channel. -/
theorem final8 : (dats m 0 c).arrAt 8 cfg0.N = arr3 (dbiasEntry (A0 m c) (A4 m c)) := by
  refine (dats m 0 c).arrAt_eq_of_cover 8 _ (fun t hf => ?_) fun i => ?_
  · have hm : t.val % 16 = 15 := (flush0_8 t).mp hf
    have hN : t.val < 16 := t.isLt
    rw [flushed8]
    funext j
    rw [View.read_apply]
    show (outsAt0 m c t.val t.isLt).2.2.1 j = arr3 (dbiasEntry (A0 m c) (A4 m c)) _
    have key : ∀ j : S12x128x128.Idx, (outsAt0 m c t.val t.isLt).2.2.1 j = dbiasEntry (A0 m c) (A4 m c) (j 0) (j 1) (j 2) := fun j => by
      refine ((outsSums m c t.val t.isLt).2.1 j).trans ?_
      rw [show t.val + 1 = 16 by omega]
      exact sum_ext _
    refine (key j).trans (entry_arr3 _ _ _ _ _ ?_ ?_ ?_)
    · show (j 0).val = win0_8.index t 0 * 12 + 1 * (j 0).val
      rw [(index8 t).1]; omega
    · show (j 1).val = win0_8.index t 1 * 128 + 1 * (j 1).val
      rw [(index8 t).2.1]; omega
    · show (j 2).val = win0_8.index t 2 * 128 + 1 * (j 2).val
      rw [(index8 t).2.2]; omega
  · have h0 : (i 0 : Nat) < 12 := (i 0).isLt
    have h1 : (i 1 : Nat) < 128 := (i 1).isLt
    have h2 : (i 2 : Nat) < 128 := (i 2).isLt
    refine ⟨⟨15, by show 15 < 16; omega⟩, (flush0_8 _).mpr rfl, ?_⟩
    generalize (⟨15, _⟩ : Fin cfg0.N) = t
    show i ∈ ((View.whole main_v4_2).slice (win0_8.rect t)).set
    rw [View.set_slice_whole, Rect.mem_set_unit]
    intro a
    match a with
    | ⟨0, _⟩ => show win0_8.index t 0 * 12 ≤ (i 0 : Nat) ∧ (i 0 : Nat) < win0_8.index t 0 * 12 + 12
                rw [(index8 t).1]; omega
    | ⟨1, _⟩ => show win0_8.index t 1 * 128 ≤ (i 1 : Nat) ∧ (i 1 : Nat) < win0_8.index t 1 * 128 + 128
                rw [(index8 t).2.1]; omega
    | ⟨2, _⟩ => show win0_8.index t 2 * 128 ≤ (i 2 : Nat) ∧ (i 2 : Nat) < win0_8.index t 2 * 128 + 128
                rw [(index8 t).2.2]; omega

/-- The fourth result is the gradient of the gain. -/
theorem final9 : (dats m 0 c).arrAt 9 cfg0.N = arr2 (dgainEntry (A0 m c) (A2 m c) (A4 m c)) := by
  refine (dats m 0 c).arrAt_eq_of_cover 9 _ (fun t hf => ?_) fun i => ?_
  · have hm : t.val % 16 = 15 := (flush0_9 t).mp hf
    have hN : t.val < 16 := t.isLt
    rw [flushed9]
    funext j
    rw [View.read_apply]
    show (outsAt0 m c t.val t.isLt).2.2.2 j = arr2 (dgainEntry (A0 m c) (A2 m c) (A4 m c)) _
    have key : ∀ j : S1x1536.Idx, (outsAt0 m c t.val t.isLt).2.2.2 j = dgainEntry (A0 m c) (A2 m c) (A4 m c) (j 0) (j 1) := fun j => by
      refine ((outsSums m c t.val t.isLt).2.2 j).trans ?_
      rw [show t.val + 1 = 16 by omega]
      exact sum_ext _
    refine (key j).trans (entry_arr2 _ _ _ _ ?_ ?_)
    · show (j 0).val = win0_9.index t 0 * 1 + 1 * (j 0).val
      rw [(index9 t).1]; omega
    · show (j 1).val = win0_9.index t 1 * 1536 + 1 * (j 1).val
      rw [(index9 t).2]; omega
  · have h0 : (i 0 : Nat) < 1 := (i 0).isLt
    have h1 : (i 1 : Nat) < 1536 := (i 1).isLt
    refine ⟨⟨15, by show 15 < 16; omega⟩, (flush0_9 _).mpr rfl, ?_⟩
    generalize (⟨15, _⟩ : Fin cfg0.N) = t
    show i ∈ ((View.whole main_v4_3).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [(index9 t).1]; omega
    | ⟨1, _⟩ => show win0_9.index t 1 * 1536 ≤ (i 1 : Nat) ∧ (i 1 : Nat) < win0_9.index t 1 * 1536 + 1536
                rw [(index9 t).2]; omega

end Cert.GateBack

end
-- ==== Proof.GateBackRef.lean ====
/- The gradient of the gating unit: the reference read at an entry, but for the gelu's derivative. -/
module

public import proofs.«01_k».proof.Proof.GateBackSpec
public import proofs.«01_k».proof.Proof.Gen.Reference25Ideal.Read
public import Idealize.ShloMosaic.Lib.KernelVsHost

@[expose] public section

set_option maxRecDepth 16384

noncomputable section

namespace Cert.GateBack.Ref

open Idealize.ShloMosaic Cert.Prod Cert.Norm Cert.Gate Cert.GateBack
open Cert.Reference25Ideal Cert.Reference25Ideal.Gen Cert.Reference25Ideal.Read

/-- The root of the word of two. -/
theorem rootTwo : Ideal.sqrt (Ideal.ofBits .f32 0x40000000#32) = ((Real.sqrt 2 : ℝ) : EReal) := by
  have h : Ideal.ofBits .f32 0x40000000#32 = ((2 : ℝ) : EReal) := by
    simp [Ideal.ofBits, Ideal.ieee]
    rw [← EReal.coe_mul]; norm_num
  rw [h, Ideal.sqrt_coe, if_neg (by norm_num)]

/-- A number over the root of two is the number times one over that root. -/
theorem overRoot (x : EReal) : Ideal.div x ((Real.sqrt 2 : ℝ) : EReal) = x * root := by
  rw [Ideal.div_coe (by positivity), one_div]
  rfl

/-- A sum along axes that leave one term at each index is that term. -/
theorem reduceOne {s : Shape} {axes : List (Fin s.rank)} {t : Shape} (h : s.ReducesTo axes t) (x : s.Idx → EReal) (v : EReal) (j : t.Idx) (i : s.Idx)
    (hi : ∀ k, h.drop k = j ↔ k = i) : Ideal.hostReduceAdd h x v j = v + x i := by
  unfold Ideal.hostReduceAdd
  rw [show (Finset.univ.filter fun k => h.drop k = j) = {i} from Finset.ext fun k => by
    simp only [Finset.mem_filter, Finset.mem_univ, true_and, Finset.mem_singleton]
    exact hi k, Finset.sum_singleton]

variable (x0 : Arr2 2048 3584) (x1 : Arr1 1536) (x2 : Arr3 12 128 128) (x3 : Arr2 12 128) (x4 : Arr2 2048 2048) (n : Fin 16) (i : Fin 128)

/-- One plus the error function of a column over the root of two. -/
theorem refErf (l : Fin 3072) : val_main_v14 (F := Ideal) x0 (ix3 0 (rowOf n i) l) = 1 + Ideal.erf (rowsOf x0 n i l * root) := by
  unfold val_main_v14 val_main_v13 val_main_cst_1 val_main_v9 val_main_v8 val_main_v7 val_main_v6 val_main_cst_0 val_main_v3 val_main_v2
  pointwise
  rw [rootTwo, overRoot]
  rfl

/-- The gelu of the projection. -/
theorem refGelu (l : Fin 3072) : val_main_v15 (F := Ideal) x0 (ix3 0 (rowOf n i) l) = gelu root (rowsOf x0 n i l) := by
  unfold val_main_v15 val_main_v5 val_main_v4 val_main_cst val_main_v3 val_main_v2
  pointwise
  rw [refErf]
  show half * rowsOf x0 n i l * _ = rowsOf x0 n i l * (half * _)
  rw [mul_comm half, mul_assoc]

/-- The gate's columns. -/
theorem refU (f : Fin 1536) : val_main_v16 (F := Ideal) x0 (ix3 0 (rowOf n i) f) = uAt root (rowsOf x0 n i) f := by
  unfold val_main_v16
  pointwise
  rw [refGelu]
  rfl

/-- The columns mixed. -/
theorem refV (f : Fin 1536) : val_main_v17 (F := Ideal) x0 (ix3 0 (rowOf n i) f) = vAt root (rowsOf x0 n i) f := by
  unfold val_main_v17
  pointwise
  rw [refGelu]
  rfl

/-- The mean of their squares. -/
theorem refMean (z : Fin 1) : val_main_v24 (F := Ideal) x0 (ix3 0 (rowOf n i) z) = meanSq ((1536 : ℝ) : EReal) (vAt root (rowsOf x0 n i)) := by
  unfold val_main_v24 val_main_v23 val_main_cst_4 val_main_v22 val_main_v21 val_main_cst_3 val_main_v20 val_main_v19 val_main_cst_2 val_main_v18
  pointwise
  simp only [refV]
  rw [word1536]
  rfl

/-- One over its root. -/
theorem refInv (z : Fin 1) : val_main_v25 (F := Ideal) x0 (ix3 0 (rowOf n i) z) = inv ((1536 : ℝ) : EReal) (vAt root (rowsOf x0 n i)) := by
  unfold val_main_v25
  pointwise
  rw [refMean]
  rfl

/-- The mixed columns over the root of the mean of their squares. -/
theorem refVh (f : Fin 1536) : val_main_v30 (F := Ideal) x0 (ix3 0 (rowOf n i) f)
    = vAt root (rowsOf x0 n i) f * inv ((1536 : ℝ) : EReal) (vAt root (rowsOf x0 n i)) := by
  unfold val_main_v30 val_main_v29
  pointwise
  rw [refV, refInv]

/-- They, normed. -/
theorem refVn (f : Fin 1536) : val_main_v33 (F := Ideal) x0 x1 (ix3 0 (rowOf n i) f) = vnAt root (rowsOf x0 n i) (gainOf x1) f := by
  unfold val_main_v33 val_main_v32 val_main_v31
  pointwise
  rw [refVh]
  rfl

/-- A place in an array of chunks, rows, groups and channels is this place in the array of rows and columns. -/
theorem flat (y : S1x16x128x12x128.Idx) (t : Fin 128) (f : Fin 1536) (h1 : y 1 = n) (h2 : y 2 = t) (h : 128 * (y 3).val + (y 4).val = f.val) :
    idx_main_v34 y = ix3 0 (rowOf n t) f := by
  have h0 : (y 0).val < 1 := (y 0).isLt
  have h3 : (y 3).val < 12 := (y 3).isLt
  have h4 : (y 4).val < 128 := (y 4).isLt
  have e1 : (y 1).val = n.val := congrArg Fin.val h1
  have e2 : (y 2).val = t.val := congrArg Fin.val h2
  funext a
  apply Fin.ext
  match a with
  | ⟨0, _⟩ => rfl
  | ⟨1, _⟩ => show (((((y 0).val * 16 + (y 1).val) * 128 + (y 2).val) * 12 + (y 3).val) * 128 + (y 4).val) / 1536 % 2048 = n.val * 128 + t.val; omega
  | ⟨2, _⟩ => show (((((y 0).val * 16 + (y 1).val) * 128 + (y 2).val) * 12 + (y 3).val) * 128 + (y 4).val) % 1536 = f.val; omega

/-- A place in the array of rows and columns is this place in the array of chunks, rows, groups and channels. -/
theorem split (f : Fin 1536) : idx_main_v41 (ix3 0 (rowOf n i) f) = ix5 0 n i (grp f) ⟨f.val % 128, by omega⟩ := by
  funext a
  apply Fin.ext
  match a with
  | ⟨0, _⟩ => rfl
  | ⟨1, _⟩ => show ((0 * 2048 + (n.val * 128 + i.val)) * 1536 + f.val) / 196608 % 16 = n.val; omega
  | ⟨2, _⟩ => show ((0 * 2048 + (n.val * 128 + i.val)) * 1536 + f.val) / 1536 % 128 = i.val; omega
  | ⟨3, _⟩ => show ((0 * 2048 + (n.val * 128 + i.val)) * 1536 + f.val) / 128 % 12 = f.val / 128; omega
  | ⟨4, _⟩ => show ((0 * 2048 + (n.val * 128 + i.val)) * 1536 + f.val) % 128 = f.val % 128; omega

/-- The normed columns, as chunks, rows, groups and channels. -/
theorem refVn5 (y : S1x16x128x12x128.Idx) (t : Fin 128) (f : Fin 1536) (h1 : y 1 = n) (h2 : y 2 = t) (h : 128 * (y 3).val + (y 4).val = f.val) :
    val_main_v34 (F := Ideal) x0 x1 y = vnAt root (rowsOf x0 n t) (gainOf x1) f := by
  rw [val_main_v34_apply, flat n y t f h1 h2 h, refVn]

/-- The mixed rows. -/
theorem refMixed (f : Fin 1536) : val_main_v41 (F := Ideal) x0 x1 x2 x3 (ix3 0 (rowOf n i) f)
    = mixed root (rowsOf x0 n) (gainOf x1) (mixOf x2) (biasOf x3) i f := by
  rw [val_main_v41_apply, split, val_main_v40_apply, val_main_v36_apply, val_main_v35_apply, val_main_v39_apply, val_main_v38_apply, val_main_v37_apply, val_main_v1_apply, val_main_v0_apply]
  unfold mixed
  show _ + _ = _
  congr 1
  · refine Finset.sum_congr rfl fun k _ => ?_
    rw [mul_comm, refVn5 x0 x1 n _ k f rfl rfl (by show 128 * (f.val / 128) + f.val % 128 = f.val; omega)]
    congr 1
    unfold mixOf
    congr 1
    funext a
    match a with
    | ⟨0, _⟩ => rfl
    | ⟨1, _⟩ => rfl
    | ⟨2, _⟩ => rfl
  · unfold biasOf
    congr 1
    funext a
    match a with
    | ⟨0, _⟩ => rfl
    | ⟨1, _⟩ => rfl

/-- The cotangent's columns. -/
theorem refCot (f : Fin 1536) : val_main_v44 (F := Ideal) x4 (ix3 0 (rowOf n i) f) = cotsOf x4 n i f := by
  unfold val_main_v44 val_main_v43
  pointwise
  rfl

/-- The cotangent of the mixed rows, as chunks, rows, groups and channels. -/
theorem refDm (y : S1x16x128x12x128.Idx) (t : Fin 128) (f : Fin 1536) (h1 : y 1 = n) (h2 : y 2 = t) (h : 128 * (y 3).val + (y 4).val = f.val) :
    val_main_v47 (F := Ideal) x0 x4 y = dm root (rowsOf x0 n) (cotsOf x4 n) t f := by
  rw [val_main_v47_apply]
  show val_main_v45 (F := Ideal) x0 x4 (idx_main_v34 y) = _
  rw [flat n y t f h1 h2 h, val_main_v45_apply, refU, refCot]
  exact mul_comm _ _

/-- The cotangent of the normed columns. -/
theorem refDvn (f : Fin 1536) : val_main_v56 (F := Ideal) x0 x2 x4 (ix3 0 (rowOf n i) f) = dvn root (rowsOf x0 n) (turned x2) (cotsOf x4 n) i f := by
  rw [val_main_v56_apply]
  show val_main_v55 (F := Ideal) x0 x2 x4 (idx_main_v41 (ix3 0 (rowOf n i) f)) = _
  rw [split, val_main_v55_apply, val_main_v54_apply]
  unfold dvn
  refine Finset.sum_congr rfl fun k _ => ?_
  rw [mul_comm, val_main_v52_apply, refDm x0 x4 n _ k f rfl rfl (by show 128 * (f.val / 128) + f.val % 128 = f.val; omega)]
  congr 1
  unfold turned
  congr 1
  funext a
  match a with
  | ⟨0, _⟩ => rfl
  | ⟨1, _⟩ => rfl
  | ⟨2, _⟩ => rfl

/-- A contracted place is a chunk and a channel. -/
def cell : (dot_S12x1x16x128x128_S1x16x128x12x128_S12x128x128_123_014_4_2_0_3.contr).Idx ≃ Fin 16 × Fin 128 where
  toFun q := (q ⟨1, by decide⟩, q ⟨2, by decide⟩)
  invFun p := fun a => match a with
    | ⟨0, _⟩ => (0 : Fin 1)
    | ⟨1, _⟩ => p.1
    | ⟨2, _⟩ => p.2
  left_inv q := by
    funext a
    match a with
    | ⟨0, _⟩ => exact Subsingleton.elim (α := Fin 1) _ _
    | ⟨1, _⟩ => rfl
    | ⟨2, _⟩ => rfl
  right_inv p := rfl

/-- The gradient of the mixing weights. -/
theorem refDws : val_main_v53 (F := Ideal) x0 x1 x4 = arr3 (dwsEntry x0 x1 x4) := by
  refine eq_arr3 _ _ fun g i t => ?_
  unfold val_main_v53
  simp only [Host.dotGeneral]
  rw [Ideal.dotGeneral_apply, ← Equiv.sum_comp cell.symm, Fintype.sum_prod_type]
  unfold dwsEntry dwsAt
  refine Finset.sum_congr rfl fun n _ => Finset.sum_congr rfl fun j _ => ?_
  have hf : 128 * g.val + j.val < 1536 := by omega
  rw [val_main_v52_apply]
  congr 1
  · exact refDm x0 x4 n _ i ⟨128 * g.val + j.val, hf⟩ rfl rfl rfl
  · exact refVn5 x0 x1 n _ t ⟨128 * g.val + j.val, hf⟩ rfl rfl rfl

/-- The gradient of the mixing biases. -/
theorem refDbias : val_main_v51 (F := Ideal) x0 x4 = arr3 (dbiasEntry x0 x4) := by
  refine eq_arr3 _ _ fun g i j => ?_
  rw [val_main_v51_apply]
  unfold val_main_v50
  show Ideal.hostReduceAdd _ _ (Ideal.ofBits .f32 0x00000000#32) _ = _
  rw [reduceOne _ _ _ _ (ix5 0 0 i g j) fun k => ?_]
  · rw [Ideal.ofBits_zero_f32, zero_add, val_main_v49_apply, val_main_v48_apply]
    show Ideal.ofBits .f32 0x00000000#32 + _ = _
    rw [Ideal.ofBits_zero_f32, zero_add]
    unfold dbiasEntry dbiasAt
    refine Finset.sum_congr rfl fun n _ => ?_
    refine refDm x0 x4 n _ i ⟨128 * g.val + j.val, by omega⟩ rfl ?_ ?_
    · apply Fin.ext
      show ((((0 * 1 + 0) * 128 + i.val) * 12 + g.val) * 128 + j.val) / 1536 % 128 = i.val
      omega
    · show 128 * (((((0 * 1 + 0) * 128 + i.val) * 12 + g.val) * 128 + j.val) / 128 % 12) + ((((0 * 1 + 0) * 128 + i.val) * 12 + g.val) * 128 + j.val) % 128 = 128 * g.val + j.val
      omega
  · have h0 : (k 0).val < 1 := (k 0).isLt
    have h1 : (k 1).val < 1 := (k 1).isLt
    constructor
    · intro e
      funext a
      apply Fin.ext
      match a with
      | ⟨0, _⟩ => show (k 0).val = 0; omega
      | ⟨1, _⟩ => show (k 1).val = 0; omega
      | ⟨2, _⟩ => exact congrArg Fin.val (congrFun e 0)
      | ⟨3, _⟩ => exact congrArg Fin.val (congrFun e 1)
      | ⟨4, _⟩ => exact congrArg Fin.val (congrFun e 2)
    · rintro rfl
      funext b
      apply Fin.ext
      match b with
      | ⟨0, _⟩ => rfl
      | ⟨1, _⟩ => rfl
      | ⟨2, _⟩ => rfl

/-- The rows, chunk by chunk. -/
def rowsEquiv : Fin 16 × Fin 128 ≃ Fin 2048 where
  toFun p := rowOf p.1 p.2
  invFun r := (chunkOf r, placeOf r)
  left_inv p := _root_.Prod.ext (chunkOf_rowOf _ _) (placeOf_rowOf _ _)
  right_inv r := rowOf_chunkOf r

/-- The gradient of the gain. -/
theorem refDgain : val_main_v93 (F := Ideal) x0 x2 x4 = arr2 (dgainEntry x0 x2 x4) := by
  refine eq_arr2 _ _ fun z k => ?_
  rw [val_main_v93_apply]
  unfold val_main_v62
  show Ideal.hostReduceAdd _ _ (Ideal.ofBits .f32 0x00000000#32) _ = _
  rw [reduceOne _ _ _ _ (ix3 0 0 k) fun y => ?_]
  · rw [Ideal.ofBits_zero_f32, zero_add]
    rw [val_main_v59_apply, val_main_v58_apply]
    show Ideal.ofBits .f32 0x00000000#32 + _ = _
    rw [Ideal.ofBits_zero_f32, zero_add, ← Equiv.sum_comp rowsEquiv, Fintype.sum_prod_type]
    unfold dgainEntry dgainAt
    refine Finset.sum_congr rfl fun n _ => Finset.sum_congr rfl fun i _ => ?_
    show val_main_v57 (F := Ideal) x0 x2 x4 _ = _
    rw [show idx_main_v58 (idx_main_v59 (ix3 0 0 k)) (rowsEquiv (n, i)) = ix3 0 (rowOf n i) k from by
      funext a
      apply Fin.ext
      match a with
      | ⟨0, _⟩ => rfl
      | ⟨1, _⟩ => rfl
      | ⟨2, _⟩ => show ((0 * 1 + 0) * 1536 + k.val) % 1536 = k.val; omega, val_main_v57_apply, refVh, refDvn]
    exact mul_comm _ _
  · have h0 : (y 0).val < 1 := (y 0).isLt
    have h1 : (y 1).val < 1 := (y 1).isLt
    constructor
    · intro e
      funext a
      apply Fin.ext
      match a with
      | ⟨0, _⟩ => show (y 0).val = 0; omega
      | ⟨1, _⟩ => show (y 1).val = 0; omega
      | ⟨2, _⟩ => exact congrArg Fin.val (congrFun e 0)
    · rintro rfl
      funext b
      apply Fin.ext
      match b with
      | ⟨0, _⟩ => rfl

/-- The coefficient of the norm's gradient, times two summed over no further axis. -/
theorem refCoef (r : Fin 2048) (c : Fin 1536) : val_main_v73 (F := Ideal) x0 x1 x2 x4 (ix3 0 r c) = val_main_v70 (F := Ideal) x0 x1 x2 x4 (ix3 0 r 0) := by
  rw [val_main_v73_apply, val_main_v72_apply]
  unfold val_main_v71
  show Ideal.hostReduceAdd _ _ (Ideal.ofBits .f32 0x00000000#32) _ = _
  rw [reduceOne _ _ _ _ (ix3 0 r 0) fun y => ?_]
  · rw [Ideal.ofBits_zero_f32, zero_add]
  · have h0 : (y 0).val < 1 := (y 0).isLt
    have h2 : (y 2).val < 1 := (y 2).isLt
    constructor
    · intro e
      funext a
      apply Fin.ext
      match a with
      | ⟨0, _⟩ => show (y 0).val = 0; omega
      | ⟨1, _⟩ => exact congrArg Fin.val (congrFun e 0)
      | ⟨2, _⟩ => show (y 2).val = 0; omega
    · rintro rfl
      funext b
      apply Fin.ext
      match b with
      | ⟨0, _⟩ => rfl

/-- The cotangent of the mixed columns over their root mean square. -/
theorem refDy (k : Fin 1536) : val_main_v61 (F := Ideal) x0 x1 x2 x4 (ix3 0 (rowOf n i) k)
    = dvn root (rowsOf x0 n) (turned x2) (cotsOf x4 n) i k * gainOf x1 k := by
  rw [val_main_v61_apply, refDvn, val_main_v60_apply]
  unfold val_main_v31
  pointwise
  rfl

/-- The index the sum along a row takes its terms at. -/
theorem termAt (r : Fin 2048) (k : Fin 1536) : idx_main_v64 (idx_main_v65 (ix3 0 r 0)) k = ix3 0 r k := by
  funext a
  apply Fin.ext
  match a with
  | ⟨0, _⟩ => rfl
  | ⟨1, _⟩ => show ((0 * 2048 + r.val) * 1 + 0) % 2048 = r.val; omega
  | ⟨2, _⟩ => rfl

/-- The coefficient of the norm's gradient. -/
theorem refCoefAt : val_main_v70 (F := Ideal) x0 x1 x2 x4 (ix3 0 (rowOf n i) 0)
    = coef ((1536 : ℝ) : EReal) (vAt root (rowsOf x0 n i)) (fun k => dvn root (rowsOf x0 n) (turned x2) (cotsOf x4 n) i k * gainOf x1 k) := by
  rw [val_main_v70_apply, val_main_v69_apply, val_main_v68_apply, val_main_v65_apply, val_main_v64_apply, val_main_v28_apply, val_main_v27_apply,
    val_main_v26_apply, refInv, refMean]
  simp only [termAt, val_main_v63_apply, refV, refDy]
  show Ideal.div ((Ideal.ofBits .f32 0x00000000#32 + _) * (Ideal.ofBits .f32 0xBF000000#32 * _)) (Ideal.ofBits .f32 0x44C00000#32) = _
  rw [Ideal.ofBits_zero_f32, zero_add, word1536, wordNegHalf]
  rfl

/-- The cotangent of the columns mixed. -/
theorem refDv (c : Fin 1536) : val_main_v77 (F := Ideal) x0 x1 x2 x4 (ix3 0 (rowOf n i) c)
    = back ((1536 : ℝ) : EReal) (vAt root (rowsOf x0 n i)) (fun k => dvn root (rowsOf x0 n) (turned x2) (cotsOf x4 n) i k * gainOf x1 k) c := by
  rw [val_main_v77_apply, val_main_v76_apply, val_main_v75_apply, val_main_v74_apply, val_main_v67_apply, refCoef, refCoefAt, refDy, refV,
    val_main_v66_apply, show idx_main_v66 (ix3 0 (rowOf n i) c) = ix3 0 (rowOf n i) 0 from by
      funext a
      match a with
      | ⟨0, _⟩ => rfl
      | ⟨1, _⟩ => rfl
      | ⟨2, _⟩ => rfl, refInv, back_eq (by norm_num)]
  rfl

/-- The cotangent of the gelu, in the gate's columns. -/
theorem refLow (k : Fin 3072) (h : k.val < 1536) : val_main_v80 (F := Ideal) x0 x1 x2 x3 x4 (ix3 0 (rowOf n i) k)
    = cotsOf x4 n i ⟨k.val, h⟩ * mixed root (rowsOf x0 n) (gainOf x1) (mixOf x2) (biasOf x3) i ⟨k.val, h⟩ := by
  rw [val_main_v80_apply]
  unfold val_main_v78 val_main_v79
  rw [pad_apply_of_not_inside _ _ _ _ _ _ _ _ (2 : Fin 3) (fun hh => absurd (show 1536 ≤ k.val from hh.1) (by omega)),
    pad_apply_of_inside _ _ _ _ _ _ _ _ (ix3 0 (rowOf n i) ⟨k.val, h⟩) (fun a => match a with
      | ⟨0, _⟩ => rfl
      | ⟨1, _⟩ => by show (rowOf n i).val = 0 + (rowOf n i).val * 1; omega
      | ⟨2, _⟩ => by show k.val = 0 + k.val * 1; omega), val_main_v46_apply, refMixed, refCot]
  show Ideal.ofBits .f32 0x00000000#32 + _ = _
  rw [Ideal.ofBits_zero_f32, zero_add]
  rfl

/-- The cotangent of the gelu, in the columns mixed. -/
theorem refHigh (k : Fin 3072) (h : ¬k.val < 1536) : val_main_v80 (F := Ideal) x0 x1 x2 x3 x4 (ix3 0 (rowOf n i) k)
    = back ((1536 : ℝ) : EReal) (vAt root (rowsOf x0 n i)) (fun k => dvn root (rowsOf x0 n) (turned x2) (cotsOf x4 n) i k * gainOf x1 k)
      ⟨k.val - 1536, by omega⟩ := by
  rw [val_main_v80_apply]
  unfold val_main_v78 val_main_v79
  rw [pad_apply_of_inside _ _ _ _ _ _ _ _ (ix3 0 (rowOf n i) ⟨k.val - 1536, by omega⟩) (fun a => match a with
      | ⟨0, _⟩ => rfl
      | ⟨1, _⟩ => by show (rowOf n i).val = 0 + (rowOf n i).val * 1; omega
      | ⟨2, _⟩ => by show k.val = 1536 + (k.val - 1536) * 1; omega),
    pad_apply_of_not_inside _ _ _ _ _ _ _ _ (2 : Fin 3) (fun hh => absurd (show (k.val - 0) / 1 < 1536 from hh.2.2) (by omega)), refDv]
  show _ + Ideal.ofBits .f32 0x00000000#32 = _
  rw [Ideal.ofBits_zero_f32, add_zero]

/-- The gradient of the projection, the gelu's derivative in two terms. -/
theorem refDx (k : Fin 3072) : val_main_v92 (F := Ideal) x0 x1 x2 x3 x4 (ix2 (rowOf n i) k)
    = Ideal.ofBits .f32 0x3F906EBB#32 * (half * rowsOf x0 n i k * val_main_v80 (F := Ideal) x0 x1 x2 x3 x4 (ix3 0 (rowOf n i) k))
        * Ideal.exp (-(rowsOf x0 n i k * root * (rowsOf x0 n i k * root))) * root
      + half * (val_main_v80 (F := Ideal) x0 x1 x2 x3 x4 (ix3 0 (rowOf n i) k) * (1 + Ideal.erf (rowsOf x0 n i k * root))) := by
  unfold val_main_v92 val_main_v91 val_main_v90 val_main_v89 val_main_v88 val_main_cst_16 val_main_v87 val_main_v86 val_main_v85 val_main_v84 val_main_v83
    val_main_cst_15 val_main_v82 val_main_v81 val_main_v12 val_main_v11 val_main_v10 val_main_v8 val_main_v7 val_main_v6 val_main_cst_0 val_main_v5
    val_main_v4 val_main_cst val_main_v3 val_main_v2
  pointwise
  generalize val_main_v80 (F := Ideal) x0 x1 x2 x3 x4 = y
  rw [rootTwo, overRoot, overRoot, refErf]
  rfl

end Cert.GateBack.Ref

end
-- ==== Proof.GateBackReal.lean ====
/- The gradient of the gating unit on real arguments: the gelu's derivative as one factor, and as two terms. -/
module

public import proofs.«01_k».proof.Proof.GateBackSpec

@[expose] public section

set_option maxRecDepth 16384

noncomputable section

namespace Cert.GateBack

open Idealize.ShloMosaic Cert.Prod Cert.Norm Cert.Gate

/-- A number is real. -/
def IsReal (x : EReal) : Prop := ∃ a : ℝ, x = a

namespace IsReal

/-- A real number is. -/
theorem coe (a : ℝ) : IsReal (a : EReal) := ⟨a, rfl⟩

/-- A sum of two is. -/
theorem add {x y : EReal} : IsReal x → IsReal y → IsReal (x + y) := by
  rintro ⟨a, rfl⟩ ⟨b, rfl⟩
  exact ⟨a + b, (EReal.coe_add a b).symm⟩

/-- A product of two is. -/
theorem mul {x y : EReal} : IsReal x → IsReal y → IsReal (x * y) := by
  rintro ⟨a, rfl⟩ ⟨b, rfl⟩
  exact ⟨a * b, (EReal.coe_mul a b).symm⟩

/-- A sum of many is. -/
theorem sum {n : ℕ} {f : Fin n → EReal} (h : ∀ k, IsReal (f k)) : IsReal (∑ k, f k) := by
  choose a ha using h
  exact ⟨∑ k, a k, by simp only [ha]; exact Cert.Mem.coe_sum _ a⟩

/-- A real number over a real number other than zero is. -/
theorem div {x : EReal} {y : ℝ} (hy : y ≠ 0) : IsReal x → IsReal (Ideal.div x y) := fun h => by
  rw [Ideal.div_coe hy]
  exact h.mul (coe _)

/-- The error function of one is. -/
theorem erf {x : EReal} : IsReal x → IsReal (Ideal.erf x) := by
  rintro ⟨a, rfl⟩
  exact ⟨_, Ideal.erf_coe a⟩

end IsReal

/-- A half is real. -/
theorem half_coe : half = ((1 / 2 : ℝ) : EReal) := by
  unfold half
  simp [Ideal.ofBits, Ideal.ieee]
  rw [← EReal.coe_mul]; norm_num

/-- The gelu of a real number is real. -/
theorem gelu_real {x : EReal} (h : IsReal x) : IsReal (gelu root x) := by
  unfold gelu root
  rw [half_coe]
  exact h.mul ((IsReal.coe _).mul ((IsReal.coe 1).add (h.mul (IsReal.coe _)).erf))

/-- One over the root mean square is real. -/
theorem inv_real {n : ℕ} (x : Fin n → EReal) : IsReal (inv ((1536 : ℝ) : EReal) x) :=
  have ⟨r, _, h, _⟩ := rsqrt_real (meanSq_pos (by norm_num) x)
  ⟨r, h⟩

/-- The norm's gradient is real, of real rows and cotangents. -/
theorem back_real {n : ℕ} {x dy : Fin n → EReal} (hx : ∀ k, IsReal (x k)) (hd : ∀ k, IsReal (dy k)) (j : Fin n) : IsReal (back ((1536 : ℝ) : EReal) x dy j) := by
  obtain ⟨r, _, _, h⟩ := rsqrt_real (meanSq_pos (N := 1536) (by norm_num) x)
  have hc : IsReal (coef ((1536 : ℝ) : EReal) x dy) := by
    unfold coef
    refine IsReal.div (by norm_num) ((IsReal.sum fun k => (hx k).mul (hd k)).mul ((IsReal.coe _).mul ⟨_, h⟩))
  rw [back_eq (by norm_num)]
  exact (((hd j).mul (inv_real x)).add ((hx j).mul hc)).add (hc.mul (hx j))

/-- The word of two over the root of pi. -/
theorem wordBell : Ideal.ofBits .f32 0x3F906EBB#32 = ((9465531 / 8388608 : ℝ) : EReal) := by
  simp [Ideal.ofBits, Ideal.ieee]
  rw [← EReal.coe_mul]; norm_num

/-- The gelu's derivative at a real number, times a real number: in two terms, and as one factor. -/
theorem dgelu_two {x g : EReal} (hx : IsReal x) (hg : IsReal g) :
    Ideal.ofBits .f32 0x3F906EBB#32 * (half * x * g) * Ideal.exp (-(x * root * (x * root))) * root + half * (g * (1 + Ideal.erf (x * root)))
      = g * dgelu root bell x := by
  obtain ⟨E, hE⟩ := (hx.mul (IsReal.coe (Real.sqrt 2)⁻¹)).erf
  obtain ⟨x, rfl⟩ := hx
  obtain ⟨g, rfl⟩ := hg
  unfold dgelu bell
  unfold root at *
  rw [hE, half_coe, wordBell]
  have hs : (Real.sqrt 2)⁻¹ * (Real.sqrt 2)⁻¹ = 1 / 2 := by
    rw [← mul_inv, Real.mul_self_sqrt (by norm_num)]; norm_num
  have e1 : -((x : EReal) * ((Real.sqrt 2)⁻¹ : ℝ) * ((x : EReal) * ((Real.sqrt 2)⁻¹ : ℝ))) = ((-(1 / 2) * x * x : ℝ) : EReal) := by
    rw [← EReal.coe_mul, ← EReal.coe_mul, ← EReal.coe_neg]
    congr 1
    linear_combination (-(x * x)) * hs
  have e2 : ((-(1 / 2) : ℝ) : EReal) * x * x = ((-(1 / 2) * x * x : ℝ) : EReal) := by
    rw [EReal.coe_mul, EReal.coe_mul]
  rw [e1, e2, Ideal.exp_coe, ← EReal.coe_one]
  simp only [← EReal.coe_mul, ← EReal.coe_add]
  congr 1
  ring

variable {X : Arr2 2048 3584} {G : Arr1 1536} {W : Arr3 12 128 128} {B : Arr2 12 128} {D : Arr2 2048 2048}

/-- What the gating unit reads is real. -/
structure RealGates (X : Arr2 2048 3584) (G : Arr1 1536) (W : Arr3 12 128 128) (B : Arr2 12 128) (D : Arr2 2048 2048) : Prop where
  /-- The rows are. -/
  row (n : Fin 16) (i : Fin 128) (l : Fin 3072) : IsReal (rowsOf X n i l)
  /-- The gain is. -/
  gain (l : Fin 1536) : IsReal (gainOf G l)
  /-- The mixing is. -/
  mix (g : Fin 12) (i t : Fin 128) : IsReal (mixOf W g i t)
  /-- The biases are. -/
  bias (g : Fin 12) (i : Fin 128) : IsReal (biasOf B g i)
  /-- The cotangent is. -/
  cot (n : Fin 16) (i : Fin 128) (l : Fin 1536) : IsReal (cotsOf D n i l)

variable (H : RealGates X G W B D) (n : Fin 16) (i : Fin 128)
include H

/-- The gate's columns are real. -/
theorem u_real (c : Fin 1536) : IsReal (uAt root (rowsOf X n i) c) := gelu_real (H.row n i _)

/-- The columns mixed are real. -/
theorem v_real (c : Fin 1536) : IsReal (vAt root (rowsOf X n i) c) := gelu_real (H.row n i _)

/-- The mixed rows are real. -/
theorem mixed_real (c : Fin 1536) : IsReal (mixed root (rowsOf X n) (gainOf G) (mixOf W) (biasOf B) i c) :=
  (IsReal.sum fun t => (H.mix _ _ t).mul (((v_real H n t c).mul (inv_real _)).mul (H.gain c))).add (H.bias _ _)

/-- The cotangent of the normed columns is real. -/
theorem dvn_real (c : Fin 1536) : IsReal (dvn root (rowsOf X n) (turned W) (cotsOf D n) i c) :=
  IsReal.sum fun t => (H.mix _ t i).mul ((H.cot n t c).mul (u_real H n t c))

end Cert.GateBack

end
-- ==== Proof.GateBack.lean ====
/- The gradient of the gating unit: kernel and reference end with the same four arrays, and the reference's frame. -/
module

public import proofs.«01_k».proof.Defs
public import proofs.«01_k».proof.Proof.MemEq
public import proofs.«01_k».proof.Proof.GateBackKern
public import proofs.«01_k».proof.Proof.GateBackRef
public import proofs.«01_k».proof.Proof.GateBackReal
public import proofs.«01_k».proof.Proof.Gen.Reference25Ideal.Run

@[expose] public section

set_option maxRecDepth 16384

noncomputable section

namespace Cert.GateBack

open Idealize.ShloMosaic Idealize.SL.Sem Cert.Prod Cert.Norm Cert.Gate

/-- The shape relations the precondition's operations take. -/
instance preFacts : Cert.Pre_real_gates.Facts where
  slices_S2048x3584_S2048x3072_0_0 := by decide
  bcast_S_S2048x3072 := by decide
  bcast_S_S1536 := by decide
  bcast_S_S12x128x128 := by decide
  bcast_S_S12x128 := by decide
  slices_S2048x2048_S2048x1536_0_0 := by decide
  bcast_S_S2048x1536 := by decide

variable (X : Arr2 2048 3584) (G : Arr1 1536) (W : Arr3 12 128 128) (B : Arr2 12 128) (D : Arr2 2048 2048)

/-- The precondition says that what the gating unit reads is real. -/
theorem real_of_pre (h : (Cert.Pre_real_gates.fn (F := Ideal) X G W B D).1 = (fun _ => 1#1)
    ∧ (Cert.Pre_real_gates.fn (F := Ideal) X G W B D).2.1 = (fun _ => 1#1) ∧ (Cert.Pre_real_gates.fn (F := Ideal) X G W B D).2.2.1 = (fun _ => 1#1)
    ∧ (Cert.Pre_real_gates.fn (F := Ideal) X G W B D).2.2.2.1 = (fun _ => 1#1)
    ∧ (Cert.Pre_real_gates.fn (F := Ideal) X G W B D).2.2.2.2 = (fun _ => 1#1)) : RealGates X G W B D where
  row n i l := Mem.real_of_lt _ (by
    refine Eq.trans ?_ (congrFun h.1 (ix2 (rowOf n i) l))
    unfold rowsOf Cert.Pre_real_gates.fn
    dsimp only
    pointwise
    rw [Ideal.absf_def])
  gain l := Mem.real_of_lt _ (by
    refine Eq.trans ?_ (congrFun h.2.1 (ix1 l))
    unfold gainOf Cert.Pre_real_gates.fn
    dsimp only
    pointwise
    rw [Ideal.absf_def])
  mix g i t := Mem.real_of_lt _ (by
    refine Eq.trans ?_ (congrFun h.2.2.1 (ix3 g i t))
    unfold mixOf Cert.Pre_real_gates.fn
    dsimp only
    pointwise
    rw [Ideal.absf_def])
  bias g i := Mem.real_of_lt _ (by
    refine Eq.trans ?_ (congrFun h.2.2.2.1 (ix2 g i))
    unfold biasOf Cert.Pre_real_gates.fn
    dsimp only
    pointwise
    rw [Ideal.absf_def])
  cot n i l := Mem.real_of_lt _ (by
    refine Eq.trans ?_ (congrFun h.2.2.2.2 (ix2 (rowOf n i) l))
    unfold cotsOf Cert.Pre_real_gates.fn
    dsimp only
    pointwise
    rw [Ideal.absf_def])

variable {X G W B D}

/-- The reference's gradient of the projection, what it reads being real. -/
theorem ref_dx (H : RealGates X G W B D) : Cert.Reference25Ideal.Read.val_main_v92 (F := Ideal) X G W B D = arr2 (dxEntry X G W B D) :=
  eq_arr2 _ _ fun r k => by
    rw [← rowOf_chunkOf r, dxEntry_rowOf, Ref.refDx]
    generalize chunkOf r = n
    generalize placeOf r = i
    unfold dxAt
    split
    · rename_i h
      rw [Ref.refLow X G W B D n i k h, dgelu_two (H.row n i k) ((H.cot n i _).mul (mixed_real H n i _))]
      rfl
    · rename_i h
      rw [Ref.refHigh X G W B D n i k h,
        dgelu_two (H.row n i k) (back_real (v_real H n i) (fun c => (dvn_real H n i c).mul (H.gain c)) _)]
      unfold dxv
      congr 3
      apply Fin.ext
      show k.val = 1536 + (k.val - 1536)
      omega

/-- The reference runs, its arguments end unchanged, and no signal is left. -/
theorem refFrame : Cert.quiescent_Reference25Ideal := fun m ρ _ =>
  (θ_run Cert.Reference25Ideal.defs _ _).mono (fun r h => ⟨fun c => (h c).2.2.2.2, Idealize.ShloMosaic.sem_eq_zero_of_no_sems (by decide) r.2⟩)
    (Cert.Reference25Ideal.Value.run (F := Ideal) m ρ)

/-- The two named constants are the words' readings. -/
theorem preserves : Cert.preserves_Kernel25_Kernel25Ideal :=
  ⟨IdealRules.named_const.statement Cert.Kernel25Ideal.κ "half_root" .f32 0x3F3504F3#32 _ rfl,
    IdealRules.named_const.statement Cert.Kernel25Ideal.κ "density" .f32 0x3ECC422A#32 _ rfl⟩

/-- Where what they read is real, kernel and reference end with the same four arrays. -/
theorem algebraic : Cert.algebraic_Kernel25Ideal_Reference25Ideal_pre_real_gates := by
  intro m g m' g' hpre hargs
  refine ⟨fun c => arr2 (dxEntry (A0 m c) (A1 m c) (A2 m c) (A3 m c) (A4 m c)), fun c => arr3 (dwsEntry (A0 m c) (A1 m c) (A4 m c)),
    fun c => arr3 (dbiasEntry (A0 m c) (A4 m c)), fun c => arr2 (dgainEntry (A0 m c) (A2 m c) (A4 m c)), ?_, ?_⟩
  · exact (θ_run Cert.Kernel25Ideal.defs _ _).mono (fun r h c => ⟨(h c).1.trans (final6 m c), (h c).2.1.trans (final7 m c), (h c).2.2.1.trans (final8 m c),
      (h c).2.2.2.1.trans (final9 m c), (h c).2.2.2.2⟩) (Cert.Kernel25Ideal.Value.run_blocks m g)
  · refine (θ_run Cert.Reference25Ideal.defs _ _).mono (fun r h c => ?_) (Cert.Reference25Ideal.Value.run (F := Ideal) m' g')
    have H : RealGates (A0 m c) (A1 m c) (A2 m c) (A3 m c) (A4 m c) := real_of_pre _ _ _ _ _ (hpre c)
    obtain ⟨e0, e1, e2, e3, e4⟩ := hargs c
    refine ⟨(h c).1.trans ?_, (h c).2.1.trans ?_, (h c).2.2.1.trans ?_, (h c).2.2.2.1.trans ?_, (h c).2.2.2.2⟩
    · rw [Cert.Reference25Ideal.Read.val_main_v92_eq, e0, e1, e2, e3, e4]; exact ref_dx H
    · rw [Cert.Reference25Ideal.Read.val_main_v53_eq, e0, e1, e4]; exact Ref.refDws _ _ _
    · rw [Cert.Reference25Ideal.Read.val_main_v51_eq, e0, e4]; exact Ref.refDbias _ _
    · rw [Cert.Reference25Ideal.Read.val_main_v93_eq, e0, e2, e4]; exact Ref.refDgain _ _ _

end Cert.GateBack

end
-- ==== Proof.MemBSpec.lean ====
/- The memory cross-attention of a gating layer, as that of an attention layer whose arrays hold the same columns elsewhere. -/
module

public import proofs.«01_k».proof.Proof.MemSpec

@[expose] public section

set_option maxRecDepth 16384

noncomputable section

namespace Cert.MemB

open Idealize.ShloMosaic Cert.Mem

/-- The projections of the rows of a gating layer, whose last 512 columns are the queries. -/
abbrev Proj := (⟨2, ![2048, 3584]⟩ : Shape).Idx → EReal
/-- The cotangent of the concatenated parts, whose last 512 columns are the memory's. -/
abbrev Cot := (⟨2, ![2048, 2048]⟩ : Shape).Idx → EReal

/-- The projections with the queries in the columns where an attention layer has them. -/
def wide (x : Proj) : Cert.Mem.Proj := fun i => x (ix2 (i 0) ⟨(i 1).val - 1536, by have : (i 1).val < 5120 := (i 1).isLt; omega⟩)
/-- The cotangent with the memory's columns where an attention layer has them. -/
def part (x : Cot) : Cert.Mem.Cot := fun i => x (ix2 (i 0) ⟨(i 1).val + 1024, by have : (i 1).val < 1024 := (i 1).isLt; omega⟩)

/-- The queries are the last 512 columns. -/
theorem qAt_wide (x : Proj) (h : Fin 4) (r : Fin 2048) (e : Fin 128) : qAt (wide x) h r e = x (ix2 r ⟨3072 + 128 * h.val + e.val, by omega⟩) := by
  unfold qAt wide
  congr 2
  apply Fin.ext
  show 4608 + 128 * h.val + e.val - 1536 = 3072 + 128 * h.val + e.val
  omega

/-- The memory's cotangents are the last 512 columns. -/
theorem gAt_part (x : Cot) (h : Fin 4) (r : Fin 2048) (e : Fin 128) : gAt (part x) h r e = x (ix2 r ⟨1536 + 128 * h.val + e.val, by omega⟩) := by
  unfold gAt part
  congr 2
  apply Fin.ext
  show 512 + 128 * h.val + e.val + 1024 = 1536 + 128 * h.val + e.val
  omega

end Cert.MemB

end
-- ==== Proof.MemBTile.lean ====
/- What one grid point of the kernel computes from its blocks, entry by entry. -/
module

public import proofs.«01_k».proof.Proof.MemBSpec
public import proofs.«01_k».proof.Proof.Gen.Kernel27Ideal.Skeleton

@[expose] public section

set_option maxRecDepth 16384

noncomputable section

namespace Cert.MemB.Kern

open Idealize.ShloMosaic Cert.Kernel27Ideal Cert.Kernel27Ideal.Gen Cert.Mem

variable (q : Vec Ideal S512x128 .f32) (k v : Vec Ideal S256x128 .f32) (g : Vec Ideal S512x128 .f32)

/-- The scores of a row of a tile. -/
def bscore (r : Fin 512) (t : Fin 256) : EReal := (∑ e : Fin 128, q (ix2 r e) * k (ix2 t e)) * scale
/-- The cotangents of the probabilities of a row of a tile. -/
def bdprob (r : Fin 512) (t : Fin 256) : EReal := ∑ e : Fin 128, g (ix2 r e) * v (ix2 t e)

/-- The probabilities of a tile. -/
theorem pay6 (r : Fin 512) (t : Fin 256) : k0_pay6 (F := Ideal) q k (ix2 r t) = prob (bscore q k r) t := by
  unfold k0_pay6 k0_pay3 k0_pay4
  pointwise
  rw [negInf]
  rfl

/-- The cotangents of a tile's scores. -/
theorem pay7 (r : Fin 512) (t : Fin 256) : k0_pay7 (F := Ideal) q k v g (ix2 r t) = grad scale (bscore q k r) (bdprob v g r) t := by
  unfold k0_pay7 k0_pay5
  pointwise
  simp only [pay6]
  rfl

/-- What a tile gives the queries. -/
theorem pay8 (r : Fin 512) (e : Fin 128) : k0_pay8 (F := Ideal) q k v g (ix2 r e)
    = ∑ t : Fin 256, grad scale (bscore q k r) (bdprob v g r) t * k (ix2 t e) := by
  unfold k0_pay8 k0_pay4
  pointwise
  simp only [pay7]

/-- What a tile adds to the keys. -/
theorem pay9 (t : Fin 256) (e : Fin 128) : k0_pay9 (F := Ideal) q k v g (ix2 t e)
    = ∑ r : Fin 512, grad scale (bscore q k r) (bdprob v g r) t * q (ix2 r e) := by
  unfold k0_pay9 k0_pay3
  pointwise
  simp only [pay7]

/-- What a tile adds to the values. -/
theorem pay10 (t : Fin 256) (e : Fin 128) : k0_pay10 (F := Ideal) q k g (ix2 t e)
    = ∑ r : Fin 512, prob (bscore q k r) t * g (ix2 r e) := by
  unfold k0_pay10 k0_pay5
  pointwise
  simp only [pay6]

end Cert.MemB.Kern

end
-- ==== Proof.MemBCase.lean ====
/- What each case of the kernel's body leaves in the outputs' buffers, as the payloads of the blocks. -/
module

public import proofs.«01_k».proof.Proof.Gen.Kernel27Ideal.Frame
public import Idealize.ShloMosaic.Lib.Pipeline.Value

@[expose] public section

set_option maxRecDepth 16384

noncomputable section

namespace Cert.MemB.Kern

open Idealize.ShloMosaic Idealize.ShloMosaic.TcCoe Cert.Kernel27Ideal Cert.Kernel27Ideal.Gen

variable {F : FTy → Type} [FloatOps F]

/-- The store's offsets are zero. -/
theorem offsets : (![0, 0] : Fin 2 → Nat) = fun _ => 0 := funext fun a => by fin_cases a <;> rfl

variable (c : Dev nD) (i : grid0.Coords) (arg2 : Memref sig .tc .vmem S512x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S512x128 .f32) (harg5 : arg5.IsWhole) (arg6 : Memref sig .tc .vmem S512x128 .bf16) (harg6 : arg6.IsWhole) (arg7 : Memref sig .tc .vmem S256x128 .f32) (harg7 : arg7.IsWhole) (arg8 : Memref sig .tc .vmem S256x128 .f32) (harg8 : arg8.IsWhole)
variable (x0 : Vec F S512x128 .f32) (x1 x2 : Vec F S256x128 .f32) (x3 : Vec F S512x128 .f32) (xo5 xo6 : Vec F S256x128 .f32)

/-- In the output of the queries' gradient the first row tile leaves this payload. -/
theorem out_A_4 (hc0 : cond0_0 i) (hc1 : ¬cond0_1 i) :
    out0_A_4 c i arg2 harg2 arg3 harg3 arg4 harg4 arg5 harg5 arg6 harg6 arg7 harg7 arg8 harg8 hc0 hc1 x0 x1 x2 x3 = k0_pay8 x0 x1 x2 x3 := by
  unfold out0_A_4
  rw [View.read_writes_eq_canon _ _ _ (cover0_A_4 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the keys' gradient the first row tile leaves this payload. -/
theorem out_A_5 (hc0 : cond0_0 i) (hc1 : ¬cond0_1 i) :
    out0_A_5 c i arg2 harg2 arg3 harg3 arg4 harg4 arg5 harg5 arg6 harg6 arg7 harg7 arg8 harg8 hc0 hc1 x0 x1 x2 x3 = k0_pay9 x0 x1 x2 x3 := by
  unfold out0_A_5
  rw [View.read_writes_eq_canon _ _ _ (cover0_A_5 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the values' gradient the first row tile leaves this payload. -/
theorem out_A_6 (hc0 : cond0_0 i) (hc1 : ¬cond0_1 i) :
    out0_A_6 c i arg2 harg2 arg3 harg3 arg4 harg4 arg5 harg5 arg6 harg6 arg7 harg7 arg8 harg8 hc0 hc1 x0 x1 x2 x3 = k0_pay10 x0 x1 x3 := by
  unfold out0_A_6
  rw [View.read_writes_eq_canon _ _ _ (cover0_A_6 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the queries' gradient a later row tile leaves this payload. -/
theorem out_B_4 (hc0 : ¬cond0_0 i) (hc1 : cond0_1 i) :
    out0_B_4 c i arg2 harg2 arg3 harg3 arg4 harg4 arg5 harg5 arg6 harg6 arg7 harg7 arg8 harg8 hc0 hc1 x0 x1 x2 x3 xo5 xo6 = k0_pay8 x0 x1 x2 x3 := by
  unfold out0_B_4
  rw [View.read_writes_eq_canon _ _ _ (cover0_B_4 c i arg2 harg2 arg3 harg3 arg4 harg4 arg5 harg5 arg6 harg6 arg7 harg7 arg8 harg8 hc0 hc1 x0 x1 x2 x3 xo5 xo6)]
  unfold kernelRun0_B
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the keys' gradient a later row tile leaves this payload. -/
theorem out_B_5 (hc0 : ¬cond0_0 i) (hc1 : cond0_1 i) :
    out0_B_5 c i arg2 harg2 arg3 harg3 arg4 harg4 arg5 harg5 arg6 harg6 arg7 harg7 arg8 harg8 hc0 hc1 x0 x1 x2 x3 xo5 xo6 = k0_pay1 (k0_pay9 x0 x1 x2 x3) xo5 := by
  unfold out0_B_5
  rw [View.read_writes_eq_canon _ _ _ (cover0_B_5 c i arg2 harg2 arg3 harg3 arg4 harg4 arg5 harg5 arg6 harg6 arg7 harg7 arg8 harg8 hc0 hc1 x0 x1 x2 x3 xo5 xo6)]
  unfold kernelRun0_B
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

/-- In the output of the values' gradient a later row tile leaves this payload. -/
theorem out_B_6 (hc0 : ¬cond0_0 i) (hc1 : cond0_1 i) :
    out0_B_6 c i arg2 harg2 arg3 harg3 arg4 harg4 arg5 harg5 arg6 harg6 arg7 harg7 arg8 harg8 hc0 hc1 x0 x1 x2 x3 xo5 xo6 = k0_pay2 (k0_pay10 x0 x1 x3) xo6 := by
  unfold out0_B_6
  rw [View.read_writes_eq_canon _ _ _ (cover0_B_6 c i arg2 harg2 arg3 harg3 arg4 harg4 arg5 harg5 arg6 harg6 arg7 harg7 arg8 harg8 hc0 hc1 x0 x1 x2 x3 xo5 xo6)]
  unfold kernelRun0_B
  dsimp only
  sl_unfold_words
  rw [View.canon_unit_zero offsets]
  simp only [View.readAt_eq_ld, harg2.read_unread, harg3.read_unread, harg4.read_unread, harg5.read_unread, harg7.read_unread, harg8.read_unread,
    View.ld_unit_zero (S := S512x128) offsets, View.ld_unit_zero (S := S256x128) offsets]

end Cert.MemB.Kern

end
-- ==== Proof.MemBKernel.lean ====
/- The kernel's results: the blocks each grid point reads, the sums over the row tiles, and the final arrays. -/
module

public import proofs.«01_k».proof.Proof.MemBTile
public import proofs.«01_k».proof.Proof.MemBCase
public import proofs.«01_k».proof.Proof.Gen.Kernel27Ideal.Value

@[expose] public section

set_option maxRecDepth 16384

noncomputable section

namespace Cert.MemB.Kern

open Idealize.ShloMosaic Idealize.ShloMosaic.TcCoe Idealize.SL.Sem Cert.Kernel27Ideal Cert.Kernel27Ideal.Gen Cert.Kernel27Ideal.Value Cert.Mem
open Cert.MemB (wide part qAt_wide gAt_part)
open Idealize.ShloMosaic.Pipeline

variable (m : (ℓ : Loc nD τ sig) → Buf (Elt Ideal) ℓ) (c : Dev nD)

/-- The projections on a device. -/
abbrev A0 : (⟨2, ![2048, 3584]⟩ : Shape).Idx → EReal := m ((c.tc : Thread nD τ).loc main_arg0)
/-- The memory's keys and values on a device. -/
abbrev A1 : Kv := m ((c.tc : Thread nD τ).loc main_arg1)
/-- The cotangents on a device. -/
abbrev A2 : (⟨2, ![2048, 2048]⟩ : Shape).Idx → EReal := m ((c.tc : Thread nD τ).loc main_arg2)

/-- The head of a grid point. -/
def hd (t : Fin cfg0.N) : Fin 4 := ⟨t.val / 4, by have : t.val < 16 := t.isLt; omega⟩
/-- The row of the whole array that a row of a grid point's tile is. -/
def row (t : Fin cfg0.N) (r : Fin 512) : Fin 2048 := ⟨512 * (t.val % 4) + r.val, by omega⟩

theorem index0 : ∀ t : Fin cfg0.N, win0_0.index t 0 = t.val % 4 ∧ win0_0.index t 1 = 24 + t.val / 4 :=
  (by decide +kernel : ∀ t : Fin grid0.N, _)
theorem index1 : ∀ t : Fin cfg0.N, win0_1.index t 0 = 0 ∧ win0_1.index t 1 = t.val / 4 :=
  (by decide +kernel : ∀ t : Fin grid0.N, _)
theorem index2 : ∀ t : Fin cfg0.N, win0_2.index t 0 = 0 ∧ win0_2.index t 1 = 4 + t.val / 4 :=
  (by decide +kernel : ∀ t : Fin grid0.N, _)
theorem index3 : ∀ t : Fin cfg0.N, win0_3.index t 0 = t.val % 4 ∧ win0_3.index t 1 = 12 + t.val / 4 :=
  (by decide +kernel : ∀ t : Fin grid0.N, _)
theorem index4 : ∀ t : Fin cfg0.N, win0_4.index t 0 = t.val % 4 ∧ win0_4.index t 1 = t.val / 4 :=
  (by decide +kernel : ∀ t : Fin grid0.N, _)
theorem index5 : ∀ t : Fin cfg0.N, win0_5.index t 0 = 0 ∧ win0_5.index t 1 = t.val / 4 :=
  (by decide +kernel : ∀ t : Fin grid0.N, _)
theorem index6 : ∀ t : Fin cfg0.N, win0_6.index t 0 = 0 ∧ win0_6.index t 1 = t.val / 4 :=
  (by decide +kernel : ∀ t : Fin grid0.N, _)

/-- A grid point's block of queries. -/
theorem blk0 (t : Fin cfg0.N) (r : Fin 512) (e : Fin 128) : (iblk m c 0 t : Vec Ideal S512x128 .f32) (ix2 r e) = qAt (wide (A0 m c)) (hd t) (row t r) e := by
  rw [qAt_wide]
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * (t.val % 4) + r.val; rw [(index0 t).1]; omega
  | ⟨1, _⟩ => show win0_0.index t 1 * 128 + 1 * e.val = 3072 + 128 * (t.val / 4) + e.val; rw [(index0 t).2]; omega

/-- A grid point's block of keys. -/
theorem blk1 (t : Fin cfg0.N) (r : Fin 256) (e : Fin 128) : (iblk m c 1 t : Vec Ideal S256x128 .f32) (ix2 r e) = kAt (A1 m c) (hd t) r e := by
  unfold iblk kAt
  rw [View.read_apply]
  show V m c main_arg1 _ = m (c.tc.loc main_arg1) _
  unfold V
  congr 1
  funext a
  apply Fin.ext
  match a with
  | ⟨0, _⟩ => show win0_1.index t 0 * 256 + 1 * r.val = r.val; rw [(index1 t).1]; omega
  | ⟨1, _⟩ => show win0_1.index t 1 * 128 + 1 * e.val = 128 * (t.val / 4) + e.val; rw [(index1 t).2]; omega

/-- A grid point's block of values. -/
theorem blk2 (t : Fin cfg0.N) (r : Fin 256) (e : Fin 128) : (iblk m c 2 t : Vec Ideal S256x128 .f32) (ix2 r e) = vAt (A1 m c) (hd t) r e := by
  unfold iblk vAt
  rw [View.read_apply]
  show V m c main_arg1 _ = m (c.tc.loc main_arg1) _
  unfold V
  congr 1
  funext a
  apply Fin.ext
  match a with
  | ⟨0, _⟩ => show win0_2.index t 0 * 256 + 1 * r.val = r.val; rw [(index2 t).1]; omega
  | ⟨1, _⟩ => show win0_2.index t 1 * 128 + 1 * e.val = 512 + 128 * (t.val / 4) + e.val; rw [(index2 t).2]; omega

/-- A grid point's block of cotangents. -/
theorem blk3 (t : Fin cfg0.N) (r : Fin 512) (e : Fin 128) : (iblk m c 3 t : Vec Ideal S512x128 .f32) (ix2 r e) = gAt (part (A2 m c)) (hd t) (row t r) e := by
  rw [gAt_part]
  unfold iblk
  rw [View.read_apply]
  show V m c main_arg2 _ = m (c.tc.loc main_arg2) _
  unfold V
  congr 1
  funext a
  apply Fin.ext
  match a with
  | ⟨0, _⟩ => show win0_3.index t 0 * 512 + 1 * r.val = 512 * (t.val % 4) + r.val; rw [(index3 t).1]; omega
  | ⟨1, _⟩ => show win0_3.index t 1 * 128 + 1 * e.val = 1536 + 128 * (t.val / 4) + e.val; rw [(index3 t).2]; omega

/-- A tile's scores are the row's. -/
theorem bscore_eq (t : Fin cfg0.N) (r : Fin 512) : bscore (iblk m c 0 t) (iblk m c 1 t) r = score (wide (A0 m c)) (A1 m c) (hd t) (row t r) := by
  funext u
  unfold bscore score
  simp only [blk0, blk1]

/-- A tile's cotangents of the probabilities are the row's. -/
theorem bdprob_eq (t : Fin cfg0.N) (r : Fin 512) : bdprob (iblk m c 2 t) (iblk m c 3 t) r = dprob (A1 m c) (part (A2 m c)) (hd t) (row t r) := by
  funext u
  unfold bdprob dprob
  simp only [blk2, blk3]

/-- What a grid point gives the queries. -/
theorem tile_q (t : Fin cfg0.N) (r : Fin 512) (e : Fin 128) :
    k0_pay8 (F := Ideal) (iblk m c 0 t) (iblk m c 1 t) (iblk m c 2 t) (iblk m c 3 t) (ix2 r e) = dq (wide (A0 m c)) (A1 m c) (part (A2 m c)) (hd t) (row t r) e := by
  rw [pay8, bscore_eq, bdprob_eq]
  simp only [blk1]
  rfl

/-- What a row adds to the keys. -/
def kRow (h : Fin 4) (u : Fin 256) (e : Fin 128) (r : ℕ) : EReal :=
  if hr : r < 2048 then dscore (wide (A0 m c)) (A1 m c) (part (A2 m c)) h ⟨r, hr⟩ u * qAt (wide (A0 m c)) h ⟨r, hr⟩ e else 0
/-- What a row adds to the values. -/
def vRow (h : Fin 4) (u : Fin 256) (e : Fin 128) (r : ℕ) : EReal :=
  if hr : r < 2048 then prob (score (wide (A0 m c)) (A1 m c) h ⟨r, hr⟩) u * gAt (part (A2 m c)) h ⟨r, hr⟩ e else 0

/-- What a grid point adds to the keys. -/
theorem tile_k (t : Fin cfg0.N) (u : Fin 256) (e : Fin 128) :
    k0_pay9 (F := Ideal) (iblk m c 0 t) (iblk m c 1 t) (iblk m c 2 t) (iblk m c 3 t) (ix2 u e)
      = ∑ r ∈ Finset.range 512, kRow m c (hd t) u e (512 * (t.val % 4) + r) := by
  rw [pay9, Finset.sum_range]
  refine Finset.sum_congr rfl fun r _ => ?_
  rw [bscore_eq, bdprob_eq, blk0]
  unfold kRow
  rw [dif_pos (show 512 * (t.val % 4) + r.val < 2048 by omega)]
  rfl

/-- What a grid point adds to the values. -/
theorem tile_v (t : Fin cfg0.N) (u : Fin 256) (e : Fin 128) :
    k0_pay10 (F := Ideal) (iblk m c 0 t) (iblk m c 1 t) (iblk m c 3 t) (ix2 u e)
      = ∑ r ∈ Finset.range 512, vRow m c (hd t) u e (512 * (t.val % 4) + r) := by
  rw [pay10, Finset.sum_range]
  refine Finset.sum_congr rfl fun r _ => ?_
  rw [bscore_eq, blk3]
  unfold vRow
  rw [dif_pos (show 512 * (t.val % 4) + r.val < 2048 by omega)]
  rfl

/-- After each grid point its block of the queries' gradient is done. -/
theorem outs_q (t : Fin cfg0.N) (r : Fin 512) (e : Fin 128) :
    (outsAt0 m c t.val t.isLt).1 (ix2 r e) = dq (wide (A0 m c)) (A1 m c) (part (A2 m c)) (hd t) (row t r) e := by
  by_cases h0 : t.val % 4 = 0
  · rw [outsAt0_A m c t h0 (by omega)]
    dsimp only
    rw [out_A_4, tile_q]
  · rw [outsAt0_B m c t h0 (by omega)]
    dsimp only
    rw [out_B_4, tile_q]

/-- After each grid point the other two outputs hold the sums over the rows so far. -/
theorem outs_kv : ∀ (n : ℕ) (hn : n < cfg0.N) (u : Fin 256) (e : Fin 128),
    (outsAt0 m c n hn).2.1 (ix2 u e) = ∑ r ∈ Finset.range (512 * (n % 4 + 1)), kRow m c (hd ⟨n, hn⟩) u e r
    ∧ (outsAt0 m c n hn).2.2 (ix2 u e) = ∑ r ∈ Finset.range (512 * (n % 4 + 1)), vRow m c (hd ⟨n, hn⟩) u e r := by
  intro n
  induction n with
  | zero =>
    intro hn u e
    rw [outsAt0_A m c ⟨0, hn⟩ rfl (by simp)]
    dsimp only
    rw [out_A_5, out_A_6, tile_k, tile_v]
    simp
  | succ n ih =>
    intro hn u e
    by_cases h0 : (n + 1) % 4 = 0
    · rw [outsAt0_A m c ⟨n + 1, hn⟩ h0 (by simp only; omega)]
      dsimp only
      rw [out_A_5, out_A_6, tile_k, tile_v]
      simp [h0]
    · rw [outsAt0_B m c ⟨n + 1, hn⟩ h0 (by simp only; omega)]
      dsimp only
      rw [out_B_5, out_B_6]
      have hp := ih (Nat.lt_of_succ_lt hn) u e
      have hh : hd ⟨n + 1, hn⟩ = hd ⟨n, Nat.lt_of_succ_lt hn⟩ := Fin.ext (by show (n + 1) / 4 = n / 4; omega)
      have hs : 512 * ((n + 1) % 4 + 1) = 512 * (n % 4 + 1) + 512 := by omega
      have ho : 512 * ((n + 1) % 4) = 512 * (n % 4 + 1) := by omega
      rw [hs, Finset.sum_range_add, Finset.sum_range_add, hh, ← hp.1, ← hp.2]
      unfold k0_pay1 k0_pay2
      simp only [shapeCast_self]
      constructor
      · show _ + k0_pay9 (F := Ideal) _ _ _ _ (ix2 u e) = _
        rw [tile_k, hh]
        dsimp only
        rw [ho]
        rfl
      · show _ + k0_pay10 (F := Ideal) _ _ _ (ix2 u e) = _
        rw [tile_v, hh]
        dsimp only
        rw [ho]
        rfl

/-- The sum over all rows is the keys' gradient. -/
theorem sum_k (h : Fin 4) (u : Fin 256) (e : Fin 128) : ∑ r ∈ Finset.range 2048, kRow m c h u e r = dk (wide (A0 m c)) (A1 m c) (part (A2 m c)) h u e := by
  rw [Finset.sum_range]
  refine Finset.sum_congr rfl fun r _ => ?_
  unfold kRow
  rw [dif_pos r.isLt]

/-- The sum over all rows is the values' gradient. -/
theorem sum_v (h : Fin 4) (u : Fin 256) (e : Fin 128) : ∑ r ∈ Finset.range 2048, vRow m c h u e r = dv (wide (A0 m c)) (A1 m c) (part (A2 m c)) h u e := by
  rw [Finset.sum_range]
  refine Finset.sum_congr rfl fun r _ => ?_
  unfold vRow
  rw [dif_pos r.isLt]

/-- The first result is the queries' gradient. -/
theorem final_q : (dats m 0 c).arrAt 4 cfg0.N = dqArr (wide (A0 m c)) (A1 m c) (part (A2 m c)) := by
  refine (dats m 0 c).arrAt_eq_of_cover 4 _ (fun t _ => ?_) fun i => ?_
  · rw [flushed4]
    funext j
    rw [View.read_apply]
    show (outsAt0 m c t.val t.isLt).1 j = dqArr (wide (A0 m c)) (A1 m c) (part (A2 m c)) _
    have key : ∀ j : S512x128.Idx, (outsAt0 m c t.val t.isLt).1 j = dq (wide (A0 m c)) (A1 m c) (part (A2 m c)) (hd t) (row t (j 0)) (j 1) := fun j => by
      conv_lhs => rw [eq_ix2 j]
      exact outs_q m c t _ _
    refine (key j).trans ?_
    have h1 : (j 1).val < 128 := (j 1).isLt
    unfold dqArr
    congr 1
    · apply Fin.ext
      show t.val / 4 = (win0_4.index t 1 * 128 + 1 * (j 1).val) / 128
      rw [(index4 t).2]; omega
    · apply Fin.ext
      show 512 * (t.val % 4) + (j 0).val = win0_4.index t 0 * 512 + 1 * (j 0).val
      rw [(index4 t).1]; omega
    · apply Fin.ext
      show (j 1).val = (win0_4.index t 1 * 128 + 1 * (j 1).val) % 128
      rw [(index4 t).2]; omega
  · have h0 : (i 0 : Nat) < 2048 := (i 0).isLt
    have h1 : (i 1 : Nat) < 512 := (i 1).isLt
    have hlt : 4 * ((i 1 : Nat) / 128) + (i 0 : Nat) / 512 < cfg0.N := by show _ < 16; omega
    refine ⟨⟨4 * ((i 1 : Nat) / 128) + (i 0 : Nat) / 512, hlt⟩, flush0_4 _, ?_⟩
    generalize ht : (⟨4 * ((i 1 : Nat) / 128) + (i 0 : Nat) / 512, hlt⟩ : Fin cfg0.N) = t
    have hv : t.val = 4 * ((i 1 : Nat) / 128) + (i 0 : Nat) / 512 := by rw [← ht]
    show i ∈ ((View.whole main_v0_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [(index4 t).1]; omega
    | ⟨1, _⟩ => show win0_4.index t 1 * 128 ≤ (i 1 : Nat) ∧ (i 1 : Nat) < win0_4.index t 1 * 128 + 128
                rw [(index4 t).2]; omega

/-- The second result is the keys' gradient. -/
theorem final_k : (dats m 0 c).arrAt 5 cfg0.N = dkArr (wide (A0 m c)) (A1 m c) (part (A2 m c)) := by
  refine (dats m 0 c).arrAt_eq_of_cover 5 _ (fun t hf => ?_) fun i => ?_
  · have hm : t.val % 4 = 3 := (flush0_5 t).mp hf
    rw [flushed5]
    funext j
    rw [View.read_apply]
    show (outsAt0 m c t.val t.isLt).2.1 j = dkArr (wide (A0 m c)) (A1 m c) (part (A2 m c)) _
    have key : ∀ j : S256x128.Idx, (outsAt0 m c t.val t.isLt).2.1 j = dk (wide (A0 m c)) (A1 m c) (part (A2 m c)) (hd t) (j 0) (j 1) := fun j => by
      conv_lhs => rw [eq_ix2 j]
      refine ((outs_kv m c t.val t.isLt (j 0) (j 1)).1).trans ?_
      rw [hm]
      exact sum_k m c _ _ _
    refine (key j).trans ?_
    have h1 : (j 1).val < 128 := (j 1).isLt
    unfold dkArr
    congr 1
    · apply Fin.ext
      show t.val / 4 = (win0_5.index t 1 * 128 + 1 * (j 1).val) / 128
      rw [(index5 t).2]; omega
    · apply Fin.ext
      show (j 0).val = win0_5.index t 0 * 256 + 1 * (j 0).val
      rw [(index5 t).1]; omega
    · apply Fin.ext
      show (j 1).val = (win0_5.index t 1 * 128 + 1 * (j 1).val) % 128
      rw [(index5 t).2]; omega
  · have h0 : (i 0 : Nat) < 256 := (i 0).isLt
    have h1 : (i 1 : Nat) < 512 := (i 1).isLt
    have hlt : 4 * ((i 1 : Nat) / 128) + 3 < cfg0.N := by show _ < 16; omega
    refine ⟨⟨4 * ((i 1 : Nat) / 128) + 3, hlt⟩, (flush0_5 _).mpr (by show (4 * ((i 1 : Nat) / 128) + 3) % 4 = 3; omega), ?_⟩
    generalize ht : (⟨4 * ((i 1 : Nat) / 128) + 3, hlt⟩ : Fin cfg0.N) = t
    have hv : t.val = 4 * ((i 1 : Nat) / 128) + 3 := by rw [← ht]
    show i ∈ ((View.whole main_v0_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(index5 t).1]; omega
    | ⟨1, _⟩ => show win0_5.index t 1 * 128 ≤ (i 1 : Nat) ∧ (i 1 : Nat) < win0_5.index t 1 * 128 + 128
                rw [(index5 t).2]; omega

/-- The third result is the values' gradient. -/
theorem final_v : (dats m 0 c).arrAt 6 cfg0.N = dvArr (wide (A0 m c)) (A1 m c) (part (A2 m c)) := by
  refine (dats m 0 c).arrAt_eq_of_cover 6 _ (fun t hf => ?_) fun i => ?_
  · have hm : t.val % 4 = 3 := (flush0_6 t).mp hf
    rw [flushed6]
    funext j
    rw [View.read_apply]
    show (outsAt0 m c t.val t.isLt).2.2 j = dvArr (wide (A0 m c)) (A1 m c) (part (A2 m c)) _
    have key : ∀ j : S256x128.Idx, (outsAt0 m c t.val t.isLt).2.2 j = dv (wide (A0 m c)) (A1 m c) (part (A2 m c)) (hd t) (j 0) (j 1) := fun j => by
      conv_lhs => rw [eq_ix2 j]
      refine ((outs_kv m c t.val t.isLt (j 0) (j 1)).2).trans ?_
      rw [hm]
      exact sum_v m c _ _ _
    refine (key j).trans ?_
    have h1 : (j 1).val < 128 := (j 1).isLt
    unfold dvArr
    congr 1
    · apply Fin.ext
      show t.val / 4 = (win0_6.index t 1 * 128 + 1 * (j 1).val) / 128
      rw [(index6 t).2]; omega
    · apply Fin.ext
      show (j 0).val = win0_6.index t 0 * 256 + 1 * (j 0).val
      rw [(index6 t).1]; omega
    · apply Fin.ext
      show (j 1).val = (win0_6.index t 1 * 128 + 1 * (j 1).val) % 128
      rw [(index6 t).2]; omega
  · have h0 : (i 0 : Nat) < 256 := (i 0).isLt
    have h1 : (i 1 : Nat) < 512 := (i 1).isLt
    have hlt : 4 * ((i 1 : Nat) / 128) + 3 < cfg0.N := by show _ < 16; omega
    refine ⟨⟨4 * ((i 1 : Nat) / 128) + 3, hlt⟩, (flush0_6 _).mpr (by show (4 * ((i 1 : Nat) / 128) + 3) % 4 = 3; omega), ?_⟩
    generalize ht : (⟨4 * ((i 1 : Nat) / 128) + 3, hlt⟩ : Fin cfg0.N) = t
    have hv : t.val = 4 * ((i 1 : Nat) / 128) + 3 := by rw [← ht]
    show i ∈ ((View.whole main_v0_2).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [(index6 t).1]; omega
    | ⟨1, _⟩ => show win0_6.index t 1 * 128 ≤ (i 1 : Nat) ∧ (i 1 : Nat) < win0_6.index t 1 * 128 + 128
                rw [(index6 t).2]; omega

/-- The kernel's run: its three results are the gradients, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = dqArr (wide (A0 m c)) (A1 m c) (part (A2 m c))
      ∧ r.2.mem ((c : Thread nD τ).loc main_v0_1) = dkArr (wide (A0 m c)) (A1 m c) (part (A2 m c))
      ∧ r.2.mem ((c : Thread nD τ).loc main_v0_2) = dvArr (wide (A0 m c)) (A1 m c) (part (A2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_q m c), (h c).2.1.trans (final_k m c), (h c).2.2.1.trans (final_v m c), (h c).2.2.2⟩)
    (run_blocks m ρ)

end Cert.MemB.Kern

end
-- ==== Proof.MemBRef.lean ====
/- The reference program read at an entry. -/
module

public import proofs.«01_k».proof.Proof.MemBSpec
public import proofs.«01_k».proof.Proof.Gen.Reference27Ideal.Read
public import Idealize.ShloMosaic.Lib.KernelVsHost

@[expose] public section

set_option maxRecDepth 16384

noncomputable section

namespace Cert.MemB.Ref

open Idealize.ShloMosaic Cert.Reference27Ideal Cert.Reference27Ideal.Gen Cert.Reference27Ideal.Read Cert.Mem
open Cert.MemB (wide part qAt_wide gAt_part)

variable (x0 : Cert.MemB.Proj) (x1 : Kv) (x2 : Cert.MemB.Cot)

/-- The queries, split into heads. -/
theorem v4 (i : S1x2048x4x128.Idx) : val_main_v4 (F := Ideal) x0 i = qAt (wide x0) (i 2) (i 1) (i 3) := by
  have h0 : (i 0).val < 1 := (i 0).isLt
  have h1 : (i 1).val < 2048 := (i 1).isLt
  have h2 : (i 2).val < 4 := (i 2).isLt
  have h3 : (i 3).val < 128 := (i 3).isLt
  rw [val_main_v4_apply, val_main_v1_apply, val_main_v0_apply]
  refine Eq.trans ?_ (qAt_wide x0 (i 2) (i 1) (i 3)).symm
  congr 1
  funext a
  apply Fin.ext
  match a with
  | ⟨0, _⟩ => show ((((i 0).val * 2048 + (i 1).val) * 4 + (i 2).val) * 128 + (i 3).val) / 512 % 2048 = (i 1).val; omega
  | ⟨1, _⟩ => show 3072 + ((((i 0).val * 2048 + (i 1).val) * 4 + (i 2).val) * 128 + (i 3).val) % 512 = 3072 + 128 * (i 2).val + (i 3).val; omega

/-- The keys, split into heads. -/
theorem v6 (i : S1x256x4x128.Idx) : val_main_v6 (F := Ideal) x1 i = kAt x1 (i 2) (i 1) (i 3) := by
  have h0 : (i 0).val < 1 := (i 0).isLt
  have h1 : (i 1).val < 256 := (i 1).isLt
  have h2 : (i 2).val < 4 := (i 2).isLt
  have h3 : (i 3).val < 128 := (i 3).isLt
  rw [val_main_v6_apply, val_main_v5_apply, val_main_v3_apply, val_main_v2_apply]
  unfold kAt
  congr 1
  funext a
  apply Fin.ext
  match a with
  | ⟨0, _⟩ => show ((((0 * 256 + ((((i 0).val * 256 + (i 1).val) * 4 + (i 2).val) * 128 + (i 3).val) / 512 % 256) * 2 + 0) * 4 + ((((i 0).val * 256 + (i 1).val) * 4 + (i 2).val) * 128 + (i 3).val) / 128 % 4) * 128 + ((((i 0).val * 256 + (i 1).val) * 4 + (i 2).val) * 128 + (i 3).val) % 128) / 1024 % 256 = (i 1).val; omega
  | ⟨1, _⟩ => show ((((0 * 256 + ((((i 0).val * 256 + (i 1).val) * 4 + (i 2).val) * 128 + (i 3).val) / 512 % 256) * 2 + 0) * 4 + ((((i 0).val * 256 + (i 1).val) * 4 + (i 2).val) * 128 + (i 3).val) / 128 % 4) * 128 + ((((i 0).val * 256 + (i 1).val) * 4 + (i 2).val) * 128 + (i 3).val) % 128) % 1024 = 128 * (i 2).val + (i 3).val; omega

/-- The values, split into heads. -/
theorem v8 (i : S1x256x4x128.Idx) : val_main_v8 (F := Ideal) x1 i = vAt x1 (i 2) (i 1) (i 3) := by
  have h0 : (i 0).val < 1 := (i 0).isLt
  have h1 : (i 1).val < 256 := (i 1).isLt
  have h2 : (i 2).val < 4 := (i 2).isLt
  have h3 : (i 3).val < 128 := (i 3).isLt
  rw [val_main_v8_apply, val_main_v7_apply, val_main_v3_apply, val_main_v2_apply]
  unfold vAt
  congr 1
  funext a
  apply Fin.ext
  match a with
  | ⟨0, _⟩ => show ((((0 * 256 + ((((i 0).val * 256 + (i 1).val) * 4 + (i 2).val) * 128 + (i 3).val) / 512 % 256) * 2 + 1) * 4 + ((((i 0).val * 256 + (i 1).val) * 4 + (i 2).val) * 128 + (i 3).val) / 128 % 4) * 128 + ((((i 0).val * 256 + (i 1).val) * 4 + (i 2).val) * 128 + (i 3).val) % 128) / 1024 % 256 = (i 1).val; omega
  | ⟨1, _⟩ => show ((((0 * 256 + ((((i 0).val * 256 + (i 1).val) * 4 + (i 2).val) * 128 + (i 3).val) / 512 % 256) * 2 + 1) * 4 + ((((i 0).val * 256 + (i 1).val) * 4 + (i 2).val) * 128 + (i 3).val) / 128 % 4) * 128 + ((((i 0).val * 256 + (i 1).val) * 4 + (i 2).val) * 128 + (i 3).val) % 128) % 1024 = 512 + 128 * (i 2).val + (i 3).val; omega

/-- The cotangents, split into heads. -/
theorem v46 (i : S1x4x128x2048.Idx) : val_main_v46 (F := Ideal) x2 i = gAt (part x2) (i 1) (i 3) (i 2) := by
  have h0 : (i 0).val < 1 := (i 0).isLt
  have h1 : (i 1).val < 4 := (i 1).isLt
  have h2 : (i 2).val < 128 := (i 2).isLt
  have h3 : (i 3).val < 2048 := (i 3).isLt
  rw [val_main_v46_apply, val_main_v45_apply, val_main_v44_apply, val_main_v43_apply]
  refine Eq.trans ?_ (gAt_part x2 (i 1) (i 3) (i 2)).symm
  congr 1
  funext a
  apply Fin.ext
  match a with
  | ⟨0, _⟩ => show ((((i 0).val * 2048 + (i 3).val) * 4 + (i 1).val) * 128 + (i 2).val) / 512 % 2048 = (i 3).val; omega
  | ⟨1, _⟩ => show 1536 + ((((i 0).val * 2048 + (i 3).val) * 4 + (i 1).val) * 128 + (i 2).val) % 512 = 1536 + 128 * (i 1).val + (i 2).val; omega

/-- The scores. -/
theorem v11 (i : S1x4x2048x256.Idx) : val_main_v11 (F := Ideal) x0 x1 i = score (wide x0) x1 (i 1) (i 2) (i 3) := by
  rw [val_main_v11_apply, val_main_v9_apply, val_main_v10_apply]
  simp only [v4, v6]
  rfl

/-- The largest score of a row. -/
theorem v12 (i : S1x4x2048.Idx) : val_main_v12 (F := Ideal) x0 x1 i = rowMax (score (wide x0) x1 (i 1) (i 2)) := by
  unfold val_main_v12
  rw [Host.reduce_eq_fold_single FloatOps.maximumf _ _ _ (by decide : S1x4x2048x256.Reduces [3] S1x4x2048)]
  unfold rowMax
  show Finset.fold max (Ideal.ofBits .f32 0xFF800000#32) _ _ = _
  rw [negInf]
  congr 1
  funext k
  show val_main_v11 (F := Ideal) x0 x1 _ = _
  rw [v11]
  congr 1

/-- The exponentials. -/
theorem v32 (i : S1x4x2048x256.Idx) : val_main_v32 (F := Ideal) x0 x1 i = expo (score (wide x0) x1 (i 1) (i 2)) (i 3) := by
  rw [val_main_v32_apply, val_main_v31_apply, val_main_v30_apply, val_main_v29_apply, val_main_v19_apply, val_main_v18_apply, v11, v12]
  show Ideal.exp (score (wide x0) x1 (i 1) (i 2) (i 3) - max (Ideal.ofBits .f32 0xFF800000#32) (rowMax (score (wide x0) x1 (i 1) (i 2)))) = _
  rw [negInf, rowMax_bot_max]
  rfl

/-- The sums of the exponentials. -/
theorem v34 (i : S1x4x2048x1.Idx) : val_main_v34 (F := Ideal) x0 x1 i = total (score (wide x0) x1 (i 1) (i 2)) := by
  rw [val_main_v34_apply, val_main_v33_apply]
  simp only [v32]
  show Ideal.ofBits .f32 0x00000000#32 + total (score (wide x0) x1 (i 1) (i 2)) = _
  rw [Ideal.ofBits_zero_f32, zero_add]

/-- The probabilities. -/
theorem v36 (i : S1x4x2048x256.Idx) : val_main_v36 (F := Ideal) x0 x1 i = prob (score (wide x0) x1 (i 1) (i 2)) (i 3) := by
  rw [val_main_v36_apply, val_main_v35_apply, v34, v32]
  rfl

/-- The cotangents of the probabilities. -/
theorem v47 (i : S1x4x2048x256.Idx) : val_main_v47 (F := Ideal) x1 x2 i = dprob x1 (part x2) (i 1) (i 2) (i 3) := by
  rw [val_main_v47_apply]
  simp only [v46, v8]
  rfl

/-- The terms of the weighted sum of a row. -/
theorem v52 (i : S1x4x2048x256.Idx) : val_main_v52 (F := Ideal) x0 x1 x2 i
    = dprob x1 (part x2) (i 1) (i 2) (i 3) * Ideal.div 1 (total (score (wide x0) x1 (i 1) (i 2)) * total (score (wide x0) x1 (i 1) (i 2)))
      * expo (score (wide x0) x1 (i 1) (i 2)) (i 3) := by
  rw [val_main_v52_apply, val_main_v51_apply, val_main_v50_apply, val_main_v39_apply, val_main_v38_apply, val_main_v37_apply, v47, v34, v32]
  show dprob x1 (part x2) (i 1) (i 2) (i 3) * Ideal.div (Ideal.ofBits .f32 0x3F800000#32)
    (total (score (wide x0) x1 (i 1) (i 2)) * total (score (wide x0) x1 (i 1) (i 2))) * expo (score (wide x0) x1 (i 1) (i 2)) (i 3) = _
  rw [oneWord]

/-- An index without its last coordinate. -/
abbrev dropLast (i : S1x4x2048x1.Idx) : S1x4x2048.Idx := fun a => match a with
  | ⟨0, _⟩ => ⟨0, Nat.one_pos⟩
  | ⟨1, _⟩ => ⟨(i 1).val, (i 1).isLt⟩
  | ⟨2, _⟩ => ⟨(i 2).val, (i 2).isLt⟩

/-- The negated weighted sum of a row. -/
theorem v55 (i : S1x4x2048x1.Idx) : val_main_v55 (F := Ideal) x0 x1 x2 i
    = -(∑ u : Fin 256, dprob x1 (part x2) (i 1) (i 2) u * Ideal.div 1 (total (score (wide x0) x1 (i 1) (i 2)) * total (score (wide x0) x1 (i 1) (i 2)))
      * expo (score (wide x0) x1 (i 1) (i 2)) u) := by
  have hi : idx_main_v54 i = dropLast i := by
    have h0 : (i 0).val < 1 := (i 0).isLt
    have h1 : (i 1).val < 4 := (i 1).isLt
    have h2 : (i 2).val < 2048 := (i 2).isLt
    have h3 : (i 3).val < 1 := (i 3).isLt
    funext a
    apply Fin.ext
    match a with
    | ⟨0, _⟩ => rfl
    | ⟨1, _⟩ => show ((((i 0).val * 4 + (i 1).val) * 2048 + (i 2).val) * 1 + (i 3).val) / 2048 % 4 = (i 1).val; omega
    | ⟨2, _⟩ => show ((((i 0).val * 4 + (i 1).val) * 2048 + (i 2).val) * 1 + (i 3).val) % 2048 = (i 2).val; omega
  rw [val_main_v55_apply, val_main_v54_apply, hi, val_main_v53_apply]
  simp only [v52]
  show -(Ideal.ofBits .f32 0x00000000#32 + _) = _
  rw [Ideal.ofBits_zero_f32, zero_add]
  rfl

/-- The index of the rank-four array that drops to an index of the rank-two one. -/
abbrev up (i : S4x2048.Idx) : S1x4x2048x1.Idx := fun a => match a with
  | ⟨0, _⟩ => ⟨0, Nat.one_pos⟩
  | ⟨1, _⟩ => ⟨(i 0).val, (i 0).isLt⟩
  | ⟨2, _⟩ => ⟨(i 1).val, (i 1).isLt⟩
  | ⟨3, _⟩ => ⟨0, Nat.one_pos⟩

/-- The same after the sum over the axes of one place. -/
theorem v58 (i : S4x2048.Idx) : val_main_v58 (F := Ideal) x0 x1 x2 i = val_main_v55 (F := Ideal) x0 x1 x2 (up i) := by
  unfold val_main_v58
  generalize val_main_v55 (F := Ideal) x0 x1 x2 = y
  show Ideal.hostReduceAdd _ y _ i = _
  unfold Ideal.hostReduceAdd
  have hf : (Finset.univ.filter fun k => reducesTo_S1x4x2048x1_S4x2048_d0_3.drop k = i) = {up i} := by
    ext k
    simp only [Finset.mem_filter, Finset.mem_univ, true_and, Finset.mem_singleton]
    constructor
    · intro e
      funext a
      apply Fin.ext
      have h0 : (k 0).val < 1 := (k 0).isLt
      have h3 : (k 3).val < 1 := (k 3).isLt
      match a with
      | ⟨0, _⟩ => show (k 0).val = 0; omega
      | ⟨1, _⟩ => exact congrArg Fin.val (congrFun e 0)
      | ⟨2, _⟩ => exact congrArg Fin.val (congrFun e 1)
      | ⟨3, _⟩ => show (k 3).val = 0; omega
    · rintro rfl
      funext b
      apply Fin.ext
      match b with
      | ⟨0, _⟩ => rfl
      | ⟨1, _⟩ => rfl
  rw [hf, Finset.sum_singleton]
  show Ideal.ofBits .f32 0x00000000#32 + _ = _
  rw [Ideal.ofBits_zero_f32, zero_add]

/-- The cotangents of the unscaled scores. -/
theorem v64 (H : RealScores (wide x0) x1) (i : S1x4x2048x256.Idx) : val_main_v64 (F := Ideal) x0 x1 x2 i = dscore (wide x0) x1 (part x2) (i 1) (i 2) (i 3) := by
  refine Eq.trans ?_ (dscore_eq H (part x2) _ _ _).symm
  rw [val_main_v64_apply, val_main_v63_apply, val_main_v62_apply, val_main_v61_apply, val_main_v60_apply, val_main_v59_apply, v58, v55,
    val_main_v57_apply, val_main_v56_apply, v47, v34, v32]
  rfl

/-- The gradient of the queries. -/
theorem v68 (H : RealScores (wide x0) x1) (i : S1x2048x4x128.Idx) : val_main_v68 (F := Ideal) x0 x1 x2 i = dq (wide x0) x1 (part x2) (i 2) (i 1) (i 3) := by
  rw [val_main_v68_apply, val_main_v67_apply]
  simp only [v64 x0 x1 x2 H, v6]
  rfl

/-- The gradient of the keys. -/
theorem v66 (H : RealScores (wide x0) x1) (i : S1x256x4x128.Idx) : val_main_v66 (F := Ideal) x0 x1 x2 i = dk (wide x0) x1 (part x2) (i 2) (i 1) (i 3) := by
  rw [val_main_v66_apply, val_main_v65_apply]
  simp only [v64 x0 x1 x2 H, v4]
  rfl

/-- The gradient of the values. -/
theorem v49 (i : S1x256x4x128.Idx) : val_main_v49 (F := Ideal) x0 x1 x2 i = dv (wide x0) x1 (part x2) (i 2) (i 1) (i 3) := by
  rw [val_main_v49_apply, val_main_v48_apply]
  simp only [v36, v46]
  unfold dv
  refine Finset.sum_congr rfl fun r _ => ?_
  exact mul_comm _ _

/-- The padded gradient of the values: zero at place zero of the third axis. -/
theorem v70_zero (t : Fin 256) (h : Fin 4) (e : Fin 128) : val_main_v70 (F := Ideal) x0 x1 x2 (ix5 0 t 0 h e) = (0 : EReal) := by
  unfold val_main_v70
  rw [pad_apply_of_not_inside _ _ _ _ _ _ _ _ (2 : Fin 5) (fun hh => absurd (show 1 ≤ 0 from hh.1) (by decide))]
  exact Ideal.ofBits_zero_f32

/-- The padded gradient of the values: the gradient at place one of the third axis. -/
theorem v70_one (t : Fin 256) (h : Fin 4) (e : Fin 128) : val_main_v70 (F := Ideal) x0 x1 x2 (ix5 0 t 1 h e) = dv (wide x0) x1 (part x2) h t e := by
  unfold val_main_v70
  rw [pad_apply_of_inside _ _ _ _ _ _ _ _ (ix5 (0 : Fin 1) t (0 : Fin 1) h e) (fun a => match a with
    | ⟨0, _⟩ => rfl
    | ⟨1, _⟩ => by show t.val = 0 + t.val * 1; omega
    | ⟨2, _⟩ => rfl
    | ⟨3, _⟩ => by show h.val = 0 + h.val * 1; omega
    | ⟨4, _⟩ => by show e.val = 0 + e.val * 1; omega)]
  rw [val_main_v69_apply, v49]
  rfl

/-- The padded gradient of the keys: the gradient at place zero of the third axis. -/
theorem v72_zero (H : RealScores (wide x0) x1) (t : Fin 256) (h : Fin 4) (e : Fin 128) :
    val_main_v72 (F := Ideal) x0 x1 x2 (ix5 0 t 0 h e) = dk (wide x0) x1 (part x2) h t e := by
  unfold val_main_v72
  rw [pad_apply_of_inside _ _ _ _ _ _ _ _ (ix5 (0 : Fin 1) t (0 : Fin 1) h e) (fun a => match a with
    | ⟨0, _⟩ => rfl
    | ⟨1, _⟩ => by show t.val = 0 + t.val * 1; omega
    | ⟨2, _⟩ => rfl
    | ⟨3, _⟩ => by show h.val = 0 + h.val * 1; omega
    | ⟨4, _⟩ => by show e.val = 0 + e.val * 1; omega)]
  rw [val_main_v71_apply, v66 x0 x1 x2 H]
  rfl

/-- The padded gradient of the keys: zero at place one of the third axis. -/
theorem v72_one (t : Fin 256) (h : Fin 4) (e : Fin 128) : val_main_v72 (F := Ideal) x0 x1 x2 (ix5 0 t 1 h e) = (0 : EReal) := by
  unfold val_main_v72
  rw [pad_apply_of_not_inside _ _ _ _ _ _ _ _ (2 : Fin 5) (fun hh => absurd (show (1 - 0) / (0 + 1) < 1 from hh.2.2) (by decide))]
  exact Ideal.ofBits_zero_f32

/-- The first result: the gradient of the queries. -/
theorem v77 (H : RealScores (wide x0) x1) (h : Fin 4) (r : Fin 2048) (e : Fin 128) :
    val_main_v77 (F := Ideal) x0 x1 x2 (ix2 r ⟨128 * h.val + e.val, by omega⟩) = dq (wide x0) x1 (part x2) h r e := by
  rw [val_main_v77_apply, val_main_v76_apply, val_main_v74_apply, v68 x0 x1 x2 H]
  show dq (wide x0) x1 (part x2) _ _ _ = _
  congr 1
  · apply Fin.ext
    show ((0 * 2048 + (r.val * 512 + (128 * h.val + e.val)) / 512 % 2048) * 512 + (r.val * 512 + (128 * h.val + e.val)) % 512) / 128 % 4 = h.val
    omega
  · apply Fin.ext
    show ((0 * 2048 + (r.val * 512 + (128 * h.val + e.val)) / 512 % 2048) * 512 + (r.val * 512 + (128 * h.val + e.val)) % 512) / 512 % 2048 = r.val
    omega
  · apply Fin.ext
    show ((0 * 2048 + (r.val * 512 + (128 * h.val + e.val)) / 512 % 2048) * 512 + (r.val * 512 + (128 * h.val + e.val)) % 512) % 128 = e.val
    omega

/-- The second result: the gradient of the keys. -/
theorem v79 (H : RealScores (wide x0) x1) (h : Fin 4) (t : Fin 256) (e : Fin 128) :
    val_main_v79 (F := Ideal) x0 x1 x2 (ix2 t ⟨128 * h.val + e.val, by omega⟩) = dk (wide x0) x1 (part x2) h t e := by
  have hi : idx_main_v75 (idx_main_v78 (idx_main_v79 (ix2 t ⟨128 * h.val + e.val, by omega⟩))) = ix5 (0 : Fin 1) t (0 : Fin 2) h e := by
    funext a
    apply Fin.ext
    match a with
    | ⟨0, _⟩ => rfl
    | ⟨1, _⟩ => show ((0 * 256 + (t.val * 512 + (128 * h.val + e.val)) / 512 % 256) * 1024 + ((t.val * 512 + (128 * h.val + e.val)) % 512)) / 1024 % 256 = t.val; omega
    | ⟨2, _⟩ => show ((0 * 256 + (t.val * 512 + (128 * h.val + e.val)) / 512 % 256) * 1024 + ((t.val * 512 + (128 * h.val + e.val)) % 512)) / 512 % 2 = 0; omega
    | ⟨3, _⟩ => show ((0 * 256 + (t.val * 512 + (128 * h.val + e.val)) / 512 % 256) * 1024 + ((t.val * 512 + (128 * h.val + e.val)) % 512)) / 128 % 4 = h.val; omega
    | ⟨4, _⟩ => show ((0 * 256 + (t.val * 512 + (128 * h.val + e.val)) / 512 % 256) * 1024 + ((t.val * 512 + (128 * h.val + e.val)) % 512)) % 128 = e.val; omega
  rw [val_main_v79_apply, val_main_v78_apply, val_main_v75_apply, val_main_v73_apply, hi, v70_zero, v72_zero x0 x1 x2 H]
  exact zero_add _

/-- The third result: the gradient of the values. -/
theorem v81 (h : Fin 4) (t : Fin 256) (e : Fin 128) :
    val_main_v81 (F := Ideal) x0 x1 x2 (ix2 t ⟨128 * h.val + e.val, by omega⟩) = dv (wide x0) x1 (part x2) h t e := by
  have hi : idx_main_v75 (idx_main_v80 (idx_main_v81 (ix2 t ⟨128 * h.val + e.val, by omega⟩))) = ix5 (0 : Fin 1) t (1 : Fin 2) h e := by
    funext a
    apply Fin.ext
    match a with
    | ⟨0, _⟩ => rfl
    | ⟨1, _⟩ => show ((0 * 256 + (t.val * 512 + (128 * h.val + e.val)) / 512 % 256) * 1024 + (512 + (t.val * 512 + (128 * h.val + e.val)) % 512)) / 1024 % 256 = t.val; omega
    | ⟨2, _⟩ => show ((0 * 256 + (t.val * 512 + (128 * h.val + e.val)) / 512 % 256) * 1024 + (512 + (t.val * 512 + (128 * h.val + e.val)) % 512)) / 512 % 2 = 1; omega
    | ⟨3, _⟩ => show ((0 * 256 + (t.val * 512 + (128 * h.val + e.val)) / 512 % 256) * 1024 + (512 + (t.val * 512 + (128 * h.val + e.val)) % 512)) / 128 % 4 = h.val; omega
    | ⟨4, _⟩ => show ((0 * 256 + (t.val * 512 + (128 * h.val + e.val)) / 512 % 256) * 1024 + (512 + (t.val * 512 + (128 * h.val + e.val)) % 512)) % 128 = e.val; omega
  rw [val_main_v81_apply, val_main_v80_apply, val_main_v75_apply, val_main_v73_apply, hi, v70_one, v72_one]
  exact add_zero _

/-- The first result as an array. -/
theorem v77_eq (H : RealScores (wide x0) x1) : val_main_v77 (F := Ideal) x0 x1 x2 = dqArr (wide x0) x1 (part x2) := funext fun i => by
  conv_lhs => rw [eq_lane i]
  exact v77 x0 x1 x2 H _ _ _

/-- The second result as an array. -/
theorem v79_eq (H : RealScores (wide x0) x1) : val_main_v79 (F := Ideal) x0 x1 x2 = dkArr (wide x0) x1 (part x2) := funext fun i => by
  conv_lhs => rw [eq_lane i]
  exact v79 x0 x1 x2 H _ _ _

/-- The third result as an array. -/
theorem v81_eq : val_main_v81 (F := Ideal) x0 x1 x2 = dvArr (wide x0) x1 (part x2) := funext fun i => by
  conv_lhs => rw [eq_lane i]
  exact v81 x0 x1 x2 _ _ _

end Cert.MemB.Ref

end
-- ==== Proof.MemBEq.lean ====
/- Of a gating layer: Kernel and reference compute the same three gradients, and the reference's frame. -/
module

public import proofs.«01_k».proof.Defs
public import proofs.«01_k».proof.Proof.MemEq
public import proofs.«01_k».proof.Proof.MemBKernel
public import proofs.«01_k».proof.Proof.MemBRef
public import proofs.«01_k».proof.Proof.Gen.Reference27Ideal.Run

@[expose] public section

set_option maxRecDepth 16384

noncomputable section

namespace Cert.MemB

open Idealize.ShloMosaic Idealize.SL.Sem

/-- The shape relations the precondition's operations take. -/
instance preFacts : Cert.Pre_real_scores_b.Facts where
  slices_S2048x3584_S2048x512_0_3072 := by decide
  bcast_S_S2048x512 := by decide
  slices_S256x1024_S256x512_0_0 := by decide
  bcast_S_S256x512 := by decide

/-- The precondition says that the queries and the keys are real. -/
theorem real_of_pre (x0 : Proj) (x1 : Mem.Kv) (x2 : Cot)
    (h : (Cert.Pre_real_scores_b.fn (F := Ideal) x0 x1 x2).1 = (fun _ => 1#1) ∧ (Cert.Pre_real_scores_b.fn (F := Ideal) x0 x1 x2).2 = (fun _ => 1#1)) :
    Mem.RealScores (wide x0) x1 := by
  refine ⟨fun hh r e => Mem.real_of_lt _ ?_, fun hh t e => Mem.real_of_lt _ ?_⟩
  · refine Eq.trans ?_ (congrFun h.1 (ix2 r ⟨128 * hh.val + e.val, by omega⟩))
    rw [qAt_wide]
    unfold Cert.Pre_real_scores_b.fn
    dsimp only
    pointwise
    rw [Ideal.absf_def]
    simp only [Nat.add_assoc]
  · refine Eq.trans ?_ (congrFun h.2 (ix2 t ⟨128 * hh.val + e.val, by omega⟩))
    unfold Mem.kAt Cert.Pre_real_scores_b.fn
    dsimp only
    pointwise
    rw [Ideal.absf_def]

/-- The reference runs, its arguments end unchanged, and no signal is left. -/
theorem refFrame : Cert.quiescent_Reference27Ideal := fun m ρ _ =>
  (θ_run Cert.Reference27Ideal.defs _ _).mono (fun r h => ⟨fun c => (h c).2.2.2, Idealize.ShloMosaic.sem_eq_zero_of_no_sems (by decide) r.2⟩)
    (Cert.Reference27Ideal.Value.run (F := Ideal) m ρ)

/-- On finite queries and keys, kernel and reference end with the same three arrays. -/
theorem algebraic : Cert.algebraic_Kernel27Ideal_Reference27Ideal_pre_real_scores_b := by
  intro m g m' g' hpre hargs
  refine ⟨fun c => Mem.dqArr (wide (Kern.A0 m c)) (Kern.A1 m c) (part (Kern.A2 m c)), fun c => Mem.dkArr (wide (Kern.A0 m c)) (Kern.A1 m c) (part (Kern.A2 m c)),
    fun c => Mem.dvArr (wide (Kern.A0 m c)) (Kern.A1 m c) (part (Kern.A2 m c)), Kern.run m g, ?_⟩
  refine (θ_run Cert.Reference27Ideal.defs _ _).mono (fun r h c => ?_) (Cert.Reference27Ideal.Value.run (F := Ideal) m' g')
  have H : Mem.RealScores (wide (Kern.A0 m c)) (Kern.A1 m c) := real_of_pre _ _ (Kern.A2 m c) (hpre c)
  obtain ⟨e0, e1, e2⟩ := hargs c
  refine ⟨(h c).1.trans ?_, (h c).2.1.trans ?_, (h c).2.2.1.trans ?_, (h c).2.2.2⟩
  · rw [Cert.Reference27Ideal.Read.val_main_v77_eq, e0, e1, e2]; exact Ref.v77_eq _ _ _ H
  · rw [Cert.Reference27Ideal.Read.val_main_v79_eq, e0, e1, e2]; exact Ref.v79_eq _ _ _ H
  · rw [Cert.Reference27Ideal.Read.val_main_v81_eq, e0, e1, e2]; exact Ref.v81_eq _ _ _

end Cert.MemB

end
-- ==== Proof.MemMix.lean ====
/- The memory cross-attention, entry by entry: what both programs compute. -/
module

public import proofs.«01_k».proof.Proof.MemBSpec

@[expose] public section

set_option maxRecDepth 16384

noncomputable section

namespace Cert.Mem

open Idealize.ShloMosaic

/-- The values of the memory weighted by the probabilities of a row. -/
def mix (x0 : Proj) (x1 : Kv) (h : Fin 4) (r : Fin 2048) (e : Fin 128) : EReal := ∑ t, prob (score x0 x1 h r) t * vAt x1 h t e

/-- The same as an array, the heads side by side. -/
def mixArr (x0 : Proj) (x1 : Kv) (i : (⟨2, ![2048, 512]⟩ : Shape).Idx) : EReal :=
  mix x0 x1 ⟨(i 1).val / 128, by have : (i 1).val < 512 := (i 1).isLt; omega⟩ (i 0) ⟨(i 1).val % 128, by omega⟩

end Cert.Mem

end
-- ==== Proof.MemFwd.lean ====
/- The memory cross-attention of an attention layer: the kernel's tiles make the reference's array. -/
module

public import proofs.«01_k».proof.Defs
public import proofs.«01_k».proof.Proof.MemMix
public import proofs.«01_k».proof.Proof.Prod
public import proofs.«01_k».proof.Proof.Gen.Kernel28Ideal.Value
public import proofs.«01_k».proof.Proof.Gen.Reference28Ideal.Read
public import Idealize.ShloMosaic.Lib.KernelVsHost

@[expose] public section

set_option maxRecDepth 16384

noncomputable section

namespace Cert.MemFwd

open Idealize.ShloMosaic Idealize.ShloMosaic.TcCoe Idealize.SL.Sem Cert.Prod Cert.Mem

section Kern
open Cert.Kernel28Ideal Cert.Kernel28Ideal.Gen Cert.Kernel28Ideal.Value Idealize.ShloMosaic.Pipeline

/-- What a tile holds. -/
theorem pay (q : Vec Ideal S512x128 .f32) (k v : Vec Ideal S256x128 .f32) (r : Fin 512) (e : Fin 128) :
    k0_pay1 (F := Ideal) q k v (ix2 r e)
      = ∑ t : Fin 256, prob (fun t => (∑ e : Fin 128, q (ix2 r e) * k (ix2 t e)) * scale) t * v (ix2 t e) := by
  unfold k0_pay1
  pointwise
  rw [negInf]
  rfl

variable (m : (ℓ : Loc nD τ sig) → Buf (Elt Ideal) ℓ) (c : Dev nD)

/-- The projections on a device. -/
abbrev A0 : Proj := m ((c.tc : Thread nD τ).loc main_arg0)
/-- The memory's keys and values on a device. -/
abbrev A1 : Kv := m ((c.tc : Thread nD τ).loc main_arg1)

/-- The head of a grid point. -/
def hd (t : Fin cfg0.N) : Fin 4 := ⟨t.val / 4, by have : t.val < 16 := t.isLt; omega⟩
/-- The row of the whole array that a row of a grid point's tile is. -/
def row (t : Fin cfg0.N) (r : Fin 512) : Fin 2048 := ⟨512 * (t.val % 4) + r.val, by omega⟩

theorem index0 : ∀ t : Fin cfg0.N, win0_0.index t 0 = t.val % 4 ∧ win0_0.index t 1 = 36 + t.val / 4 :=
  (by decide +kernel : ∀ t : Fin grid0.N, _)
theorem index1 : ∀ t : Fin cfg0.N, win0_1.index t 0 = 0 ∧ win0_1.index t 1 = t.val / 4 :=
  (by decide +kernel : ∀ t : Fin grid0.N, _)
theorem index2 : ∀ t : Fin cfg0.N, win0_2.index t 0 = 0 ∧ win0_2.index t 1 = 4 + t.val / 4 :=
  (by decide +kernel : ∀ t : Fin grid0.N, _)
theorem index3 : ∀ t : Fin cfg0.N, win0_3.index t 0 = t.val % 4 ∧ win0_3.index t 1 = t.val / 4 :=
  (by decide +kernel : ∀ t : Fin grid0.N, _)

/-- A grid point's block of queries. -/
theorem blk0 (t : Fin cfg0.N) (r : Fin 512) (e : Fin 128) : (iblk m c 0 t : Vec Ideal S512x128 .f32) (ix2 r e) = qAt (A0 m c) (hd t) (row t r) e := by
  unfold iblk qAt
  rw [View.read_apply]
  show V m c main_arg0 _ = m (c.tc.loc main_arg0) _
  unfold V
  congr 1
  funext a
  apply Fin.ext
  match a with
  | ⟨0, _⟩ => show win0_0.index t 0 * 512 + 1 * r.val = 512 * (t.val % 4) + r.val; rw [(index0 t).1]; omega
  | ⟨1, _⟩ => show win0_0.index t 1 * 128 + 1 * e.val = 4608 + 128 * (t.val / 4) + e.val; rw [(index0 t).2]; omega

/-- A grid point's block of keys. -/
theorem blk1 (t : Fin cfg0.N) (r : Fin 256) (e : Fin 128) : (iblk m c 1 t : Vec Ideal S256x128 .f32) (ix2 r e) = kAt (A1 m c) (hd t) r e := by
  unfold iblk kAt
  rw [View.read_apply]
  show V m c main_arg1 _ = m (c.tc.loc main_arg1) _
  unfold V
  congr 1
  funext a
  apply Fin.ext
  match a with
  | ⟨0, _⟩ => show win0_1.index t 0 * 256 + 1 * r.val = r.val; rw [(index1 t).1]; omega
  | ⟨1, _⟩ => show win0_1.index t 1 * 128 + 1 * e.val = 128 * (t.val / 4) + e.val; rw [(index1 t).2]; omega

/-- A grid point's block of values. -/
theorem blk2 (t : Fin cfg0.N) (r : Fin 256) (e : Fin 128) : (iblk m c 2 t : Vec Ideal S256x128 .f32) (ix2 r e) = vAt (A1 m c) (hd t) r e := by
  unfold iblk vAt
  rw [View.read_apply]
  show V m c main_arg1 _ = m (c.tc.loc main_arg1) _
  unfold V
  congr 1
  funext a
  apply Fin.ext
  match a with
  | ⟨0, _⟩ => show win0_2.index t 0 * 256 + 1 * r.val = r.val; rw [(index2 t).1]; omega
  | ⟨1, _⟩ => show win0_2.index t 1 * 128 + 1 * e.val = 512 + 128 * (t.val / 4) + e.val; rw [(index2 t).2]; omega

/-- What a grid point leaves in its tile. -/
theorem tile (t : Fin cfg0.N) (r : Fin 512) (e : Fin 128) :
    out0_3 (F := Ideal) (iblk m c 0 t) (iblk m c 1 t) (iblk m c 2 t) (ix2 r e) = mix (A0 m c) (A1 m c) (hd t) (row t r) e := by
  unfold out0_3
  rw [View.canon_unit_zero offsets2]
  simp only [View.ld_unit_zero (S := S512x128) offsets2, View.ld_unit_zero (S := S256x128) offsets2]
  rw [pay]
  simp only [blk0, blk1, blk2]
  rfl

/-- The result is the weighted values. -/
theorem final : (dats m 0 c).arrAt 3 cfg0.N = mixArr (A0 m c) (A1 m c) := by
  refine (dats m 0 c).arrAt_eq_of_cover 3 _ (fun t _ => ?_) fun i => ?_
  · rw [flushed3]
    funext j
    rw [View.read_apply]
    show out0_3 (F := Ideal) (iblk m c 0 t) (iblk m c 1 t) (iblk m c 2 t) j = mixArr (A0 m c) (A1 m c) _
    have key : ∀ j : S512x128.Idx, out0_3 (F := Ideal) (iblk m c 0 t) (iblk m c 1 t) (iblk m c 2 t) j = mix (A0 m c) (A1 m c) (hd t) (row t (j 0)) (j 1) := fun j => by
      conv_lhs => rw [eq_ix2 j]
      exact tile m c t _ _
    refine (key j).trans ?_
    have h1 : (j 1).val < 128 := (j 1).isLt
    unfold mixArr
    congr 1
    · apply Fin.ext
      show t.val / 4 = (win0_3.index t 1 * 128 + 1 * (j 1).val) / 128
      rw [(index3 t).2]; omega
    · apply Fin.ext
      show 512 * (t.val % 4) + (j 0).val = win0_3.index t 0 * 512 + 1 * (j 0).val
      rw [(index3 t).1]; omega
    · apply Fin.ext
      show (j 1).val = (win0_3.index t 1 * 128 + 1 * (j 1).val) % 128
      rw [(index3 t).2]; omega
  · have h0 : (i 0 : Nat) < 2048 := (i 0).isLt
    have h1 : (i 1 : Nat) < 512 := (i 1).isLt
    have hlt : 4 * ((i 1 : Nat) / 128) + (i 0 : Nat) / 512 < cfg0.N := by show _ < 16; omega
    refine ⟨⟨4 * ((i 1 : Nat) / 128) + (i 0 : Nat) / 512, hlt⟩, flush0_3 _, ?_⟩
    generalize ht : (⟨4 * ((i 1 : Nat) / 128) + (i 0 : Nat) / 512, hlt⟩ : Fin cfg0.N) = t
    have hv : t.val = 4 * ((i 1 : Nat) / 128) + (i 0 : Nat) / 512 := by rw [← ht]
    show i ∈ ((View.whole main_v0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(index3 t).1]; omega
    | ⟨1, _⟩ => show win0_3.index t 1 * 128 ≤ (i 1 : Nat) ∧ (i 1 : Nat) < win0_3.index t 1 * 128 + 128
                rw [(index3 t).2]; omega

end Kern

section Ref
open Cert.Reference28Ideal Cert.Reference28Ideal.Gen Cert.Reference28Ideal.Read

variable (x0 : Proj) (x1 : Kv)

/-- The queries, split into heads. -/
theorem v4 (i : S1x2048x4x128.Idx) : val_main_v4 (F := Ideal) x0 i = qAt x0 (i 2) (i 1) (i 3) := by
  have h0 : (i 0).val < 1 := (i 0).isLt
  have h1 : (i 1).val < 2048 := (i 1).isLt
  have h2 : (i 2).val < 4 := (i 2).isLt
  have h3 : (i 3).val < 128 := (i 3).isLt
  rw [val_main_v4_apply, val_main_v1_apply, val_main_v0_apply]
  unfold qAt
  congr 1
  funext a
  apply Fin.ext
  match a with
  | ⟨0, _⟩ => show ((((i 0).val * 2048 + (i 1).val) * 4 + (i 2).val) * 128 + (i 3).val) / 512 % 2048 = (i 1).val; omega
  | ⟨1, _⟩ => show 4608 + ((((i 0).val * 2048 + (i 1).val) * 4 + (i 2).val) * 128 + (i 3).val) % 512 = 4608 + 128 * (i 2).val + (i 3).val; omega

/-- The keys, split into heads. -/
theorem v6 (i : S1x256x4x128.Idx) : val_main_v6 (F := Ideal) x1 i = kAt x1 (i 2) (i 1) (i 3) := by
  have h0 : (i 0).val < 1 := (i 0).isLt
  have h1 : (i 1).val < 256 := (i 1).isLt
  have h2 : (i 2).val < 4 := (i 2).isLt
  have h3 : (i 3).val < 128 := (i 3).isLt
  rw [val_main_v6_apply, val_main_v5_apply, val_main_v3_apply, val_main_v2_apply]
  unfold kAt
  congr 1
  funext a
  apply Fin.ext
  match a with
  | ⟨0, _⟩ => show ((((0 * 256 + ((((i 0).val * 256 + (i 1).val) * 4 + (i 2).val) * 128 + (i 3).val) / 512 % 256) * 2 + 0) * 4 + ((((i 0).val * 256 + (i 1).val) * 4 + (i 2).val) * 128 + (i 3).val) / 128 % 4) * 128 + ((((i 0).val * 256 + (i 1).val) * 4 + (i 2).val) * 128 + (i 3).val) % 128) / 1024 % 256 = (i 1).val; omega
  | ⟨1, _⟩ => show ((((0 * 256 + ((((i 0).val * 256 + (i 1).val) * 4 + (i 2).val) * 128 + (i 3).val) / 512 % 256) * 2 + 0) * 4 + ((((i 0).val * 256 + (i 1).val) * 4 + (i 2).val) * 128 + (i 3).val) / 128 % 4) * 128 + ((((i 0).val * 256 + (i 1).val) * 4 + (i 2).val) * 128 + (i 3).val) % 128) % 1024 = 128 * (i 2).val + (i 3).val; omega

/-- The values, split into heads. -/
theorem v8 (i : S1x256x4x128.Idx) : val_main_v8 (F := Ideal) x1 i = vAt x1 (i 2) (i 1) (i 3) := by
  have h0 : (i 0).val < 1 := (i 0).isLt
  have h1 : (i 1).val < 256 := (i 1).isLt
  have h2 : (i 2).val < 4 := (i 2).isLt
  have h3 : (i 3).val < 128 := (i 3).isLt
  rw [val_main_v8_apply, val_main_v7_apply, val_main_v3_apply, val_main_v2_apply]
  unfold vAt
  congr 1
  funext a
  apply Fin.ext
  match a with
  | ⟨0, _⟩ => show ((((0 * 256 + ((((i 0).val * 256 + (i 1).val) * 4 + (i 2).val) * 128 + (i 3).val) / 512 % 256) * 2 + 1) * 4 + ((((i 0).val * 256 + (i 1).val) * 4 + (i 2).val) * 128 + (i 3).val) / 128 % 4) * 128 + ((((i 0).val * 256 + (i 1).val) * 4 + (i 2).val) * 128 + (i 3).val) % 128) / 1024 % 256 = (i 1).val; omega
  | ⟨1, _⟩ => show ((((0 * 256 + ((((i 0).val * 256 + (i 1).val) * 4 + (i 2).val) * 128 + (i 3).val) / 512 % 256) * 2 + 1) * 4 + ((((i 0).val * 256 + (i 1).val) * 4 + (i 2).val) * 128 + (i 3).val) / 128 % 4) * 128 + ((((i 0).val * 256 + (i 1).val) * 4 + (i 2).val) * 128 + (i 3).val) % 128) % 1024 = 512 + 128 * (i 2).val + (i 3).val; omega

/-- The scores. -/
theorem v11 (i : S1x4x2048x256.Idx) : val_main_v11 (F := Ideal) x0 x1 i = score x0 x1 (i 1) (i 2) (i 3) := by
  rw [val_main_v11_apply, val_main_v9_apply, val_main_v10_apply]
  simp only [v4, v6]
  rfl

/-- The largest score of a row. -/
theorem v12 (i : S1x4x2048.Idx) : val_main_v12 (F := Ideal) x0 x1 i = rowMax (score x0 x1 (i 1) (i 2)) := by
  unfold val_main_v12
  rw [Host.reduce_eq_fold_single FloatOps.maximumf _ _ _ (by decide : S1x4x2048x256.Reduces [3] S1x4x2048)]
  unfold rowMax
  show Finset.fold max (Ideal.ofBits .f32 0xFF800000#32) _ _ = _
  rw [negInf]
  congr 1
  funext k
  show val_main_v11 (F := Ideal) x0 x1 _ = _
  rw [v11]
  congr 1

/-- The exponentials. -/
theorem v18 (i : S1x4x2048x256.Idx) : val_main_v18 (F := Ideal) x0 x1 i = expo (score x0 x1 (i 1) (i 2)) (i 3) := by
  rw [val_main_v18_apply, val_main_v17_apply, val_main_v16_apply, val_main_v15_apply, val_main_v14_apply, val_main_v13_apply, v11, v12]
  show Ideal.exp (score x0 x1 (i 1) (i 2) (i 3) - max (Ideal.ofBits .f32 0xFF800000#32) (rowMax (score x0 x1 (i 1) (i 2)))) = _
  rw [negInf, rowMax_bot_max]
  rfl

/-- The sums of the exponentials. -/
theorem v20 (i : S1x4x2048x1.Idx) : val_main_v20 (F := Ideal) x0 x1 i = total (score x0 x1 (i 1) (i 2)) := by
  rw [val_main_v20_apply, val_main_v19_apply]
  simp only [v18]
  show Ideal.ofBits .f32 0x00000000#32 + total (score x0 x1 (i 1) (i 2)) = _
  rw [Ideal.ofBits_zero_f32, zero_add]

/-- The probabilities. -/
theorem v22 (i : S1x4x2048x256.Idx) : val_main_v22 (F := Ideal) x0 x1 i = prob (score x0 x1 (i 1) (i 2)) (i 3) := by
  rw [val_main_v22_apply, val_main_v21_apply, v20, v18]
  rfl

/-- The weighted values. -/
theorem v24 (i : S1x2048x4x128.Idx) : val_main_v24 (F := Ideal) x0 x1 i = mix x0 x1 (i 2) (i 1) (i 3) := by
  rw [val_main_v24_apply, val_main_v23_apply]
  simp only [v22, v8]
  unfold mix
  exact Finset.sum_congr rfl fun t _ => mul_comm _ _

/-- The reference's result at an entry. -/
theorem v27 (h : Fin 4) (r : Fin 2048) (e : Fin 128) :
    val_main_v27 (F := Ideal) x0 x1 (ix2 r ⟨128 * h.val + e.val, by omega⟩) = mix x0 x1 h r e := by
  rw [val_main_v27_apply, val_main_v26_apply, val_main_v25_apply, v24]
  show mix x0 x1 _ _ _ = _
  congr 1
  · apply Fin.ext
    show ((0 * 2048 + (r.val * 512 + (128 * h.val + e.val)) / 512 % 2048) * 512 + (r.val * 512 + (128 * h.val + e.val)) % 512) / 128 % 4 = h.val
    omega
  · apply Fin.ext
    show ((0 * 2048 + (r.val * 512 + (128 * h.val + e.val)) / 512 % 2048) * 512 + (r.val * 512 + (128 * h.val + e.val)) % 512) / 512 % 2048 = r.val
    omega
  · apply Fin.ext
    show ((0 * 2048 + (r.val * 512 + (128 * h.val + e.val)) / 512 % 2048) * 512 + (r.val * 512 + (128 * h.val + e.val)) % 512) % 128 = e.val
    omega

/-- The reference's result is the weighted values. -/
theorem ref : val_main_v27 (F := Ideal) x0 x1 = mixArr x0 x1 := funext fun i => by
  conv_lhs => rw [eq_lane i]
  exact v27 x0 x1 _ _ _

/-- The reference runs, its arguments end unchanged, and no signal is left. -/
theorem refFrame : Cert.quiescent_Reference28Ideal := fun m ρ _ =>
  (θ_run defs _ _).mono (fun r h => ⟨fun c => (h c).2, Idealize.ShloMosaic.sem_eq_zero_of_no_sems (by decide) r.2⟩)
    (Cert.Reference28Ideal.Value.run (F := Ideal) m ρ)

end Ref

/-- Kernel and reference end with the same array, whatever the arguments hold. -/
theorem algebraic : Cert.algebraic_Kernel28Ideal_Reference28Ideal := by
  intro m g m' g' _ hargs
  refine ⟨fun c => mixArr (A0 m c) (A1 m c), ?_, ?_⟩
  · exact (θ_run Cert.Kernel28Ideal.defs _ _).mono (fun r h c => ⟨(h c).1.trans (final m c), (h c).2⟩) (Cert.Kernel28Ideal.Value.run_blocks m g)
  · refine (θ_run Cert.Reference28Ideal.defs _ _).mono (fun r h c => ⟨(h c).1.trans ?_, (h c).2⟩) (Cert.Reference28Ideal.Value.run (F := Ideal) m' g')
    obtain ⟨e0, e1⟩ := hargs c
    rw [Cert.Reference28Ideal.Read.val_main_v27_eq, e0, e1]; exact ref _ _

end Cert.MemFwd

end
-- ==== Proof.MemBFwd.lean ====
/- The memory cross-attention of a gating layer: the kernel's tiles make the reference's array. -/
module

public import proofs.«01_k».proof.Defs
public import proofs.«01_k».proof.Proof.MemMix
public import proofs.«01_k».proof.Proof.Prod
public import proofs.«01_k».proof.Proof.Gen.Kernel29Ideal.Value
public import proofs.«01_k».proof.Proof.Gen.Reference29Ideal.Read
public import Idealize.ShloMosaic.Lib.KernelVsHost

@[expose] public section

set_option maxRecDepth 16384

noncomputable section

namespace Cert.MemBFwd

open Idealize.ShloMosaic Idealize.ShloMosaic.TcCoe Idealize.SL.Sem Cert.Prod Cert.Mem
open Cert.MemB (wide qAt_wide)

section Kern
open Cert.Kernel29Ideal Cert.Kernel29Ideal.Gen Cert.Kernel29Ideal.Value Idealize.ShloMosaic.Pipeline

/-- What a tile holds. -/
theorem pay (q : Vec Ideal S512x128 .f32) (k v : Vec Ideal S256x128 .f32) (r : Fin 512) (e : Fin 128) :
    k0_pay1 (F := Ideal) q k v (ix2 r e)
      = ∑ t : Fin 256, prob (fun t => (∑ e : Fin 128, q (ix2 r e) * k (ix2 t e)) * scale) t * v (ix2 t e) := by
  unfold k0_pay1
  pointwise
  rw [negInf]
  rfl

variable (m : (ℓ : Loc nD τ sig) → Buf (Elt Ideal) ℓ) (c : Dev nD)

/-- The projections on a device. -/
abbrev A0 : (⟨2, ![2048, 3584]⟩ : Shape).Idx → EReal := m ((c.tc : Thread nD τ).loc main_arg0)
/-- The memory's keys and values on a device. -/
abbrev A1 : Kv := m ((c.tc : Thread nD τ).loc main_arg1)

/-- The head of a grid point. -/
def hd (t : Fin cfg0.N) : Fin 4 := ⟨t.val / 4, by have : t.val < 16 := t.isLt; omega⟩
/-- The row of the whole array that a row of a grid point's tile is. -/
def row (t : Fin cfg0.N) (r : Fin 512) : Fin 2048 := ⟨512 * (t.val % 4) + r.val, by omega⟩

theorem index0 : ∀ t : Fin cfg0.N, win0_0.index t 0 = t.val % 4 ∧ win0_0.index t 1 = 24 + t.val / 4 :=
  (by decide +kernel : ∀ t : Fin grid0.N, _)
theorem index1 : ∀ t : Fin cfg0.N, win0_1.index t 0 = 0 ∧ win0_1.index t 1 = t.val / 4 :=
  (by decide +kernel : ∀ t : Fin grid0.N, _)
theorem index2 : ∀ t : Fin cfg0.N, win0_2.index t 0 = 0 ∧ win0_2.index t 1 = 4 + t.val / 4 :=
  (by decide +kernel : ∀ t : Fin grid0.N, _)
theorem index3 : ∀ t : Fin cfg0.N, win0_3.index t 0 = t.val % 4 ∧ win0_3.index t 1 = t.val / 4 :=
  (by decide +kernel : ∀ t : Fin grid0.N, _)

/-- A grid point's block of queries. -/
theorem blk0 (t : Fin cfg0.N) (r : Fin 512) (e : Fin 128) : (iblk m c 0 t : Vec Ideal S512x128 .f32) (ix2 r e) = qAt (wide (A0 m c)) (hd t) (row t r) e := by
  rw [qAt_wide]
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * (t.val % 4) + r.val; rw [(index0 t).1]; omega
  | ⟨1, _⟩ => show win0_0.index t 1 * 128 + 1 * e.val = 3072 + 128 * (t.val / 4) + e.val; rw [(index0 t).2]; omega

/-- A grid point's block of keys. -/
theorem blk1 (t : Fin cfg0.N) (r : Fin 256) (e : Fin 128) : (iblk m c 1 t : Vec Ideal S256x128 .f32) (ix2 r e) = kAt (A1 m c) (hd t) r e := by
  unfold iblk kAt
  rw [View.read_apply]
  show V m c main_arg1 _ = m (c.tc.loc main_arg1) _
  unfold V
  congr 1
  funext a
  apply Fin.ext
  match a with
  | ⟨0, _⟩ => show win0_1.index t 0 * 256 + 1 * r.val = r.val; rw [(index1 t).1]; omega
  | ⟨1, _⟩ => show win0_1.index t 1 * 128 + 1 * e.val = 128 * (t.val / 4) + e.val; rw [(index1 t).2]; omega

/-- A grid point's block of values. -/
theorem blk2 (t : Fin cfg0.N) (r : Fin 256) (e : Fin 128) : (iblk m c 2 t : Vec Ideal S256x128 .f32) (ix2 r e) = vAt (A1 m c) (hd t) r e := by
  unfold iblk vAt
  rw [View.read_apply]
  show V m c main_arg1 _ = m (c.tc.loc main_arg1) _
  unfold V
  congr 1
  funext a
  apply Fin.ext
  match a with
  | ⟨0, _⟩ => show win0_2.index t 0 * 256 + 1 * r.val = r.val; rw [(index2 t).1]; omega
  | ⟨1, _⟩ => show win0_2.index t 1 * 128 + 1 * e.val = 512 + 128 * (t.val / 4) + e.val; rw [(index2 t).2]; omega

/-- What a grid point leaves in its tile. -/
theorem tile (t : Fin cfg0.N) (r : Fin 512) (e : Fin 128) :
    out0_3 (F := Ideal) (iblk m c 0 t) (iblk m c 1 t) (iblk m c 2 t) (ix2 r e) = mix (wide (A0 m c)) (A1 m c) (hd t) (row t r) e := by
  unfold out0_3
  rw [View.canon_unit_zero offsets2]
  simp only [View.ld_unit_zero (S := S512x128) offsets2, View.ld_unit_zero (S := S256x128) offsets2]
  rw [pay]
  simp only [blk0, blk1, blk2]
  rfl

/-- The result is the weighted values. -/
theorem final : (dats m 0 c).arrAt 3 cfg0.N = mixArr (wide (A0 m c)) (A1 m c) := by
  refine (dats m 0 c).arrAt_eq_of_cover 3 _ (fun t _ => ?_) fun i => ?_
  · rw [flushed3]
    funext j
    rw [View.read_apply]
    show out0_3 (F := Ideal) (iblk m c 0 t) (iblk m c 1 t) (iblk m c 2 t) j = mixArr (wide (A0 m c)) (A1 m c) _
    have key : ∀ j : S512x128.Idx, out0_3 (F := Ideal) (iblk m c 0 t) (iblk m c 1 t) (iblk m c 2 t) j = mix (wide (A0 m c)) (A1 m c) (hd t) (row t (j 0)) (j 1) := fun j => by
      conv_lhs => rw [eq_ix2 j]
      exact tile m c t _ _
    refine (key j).trans ?_
    have h1 : (j 1).val < 128 := (j 1).isLt
    unfold mixArr
    congr 1
    · apply Fin.ext
      show t.val / 4 = (win0_3.index t 1 * 128 + 1 * (j 1).val) / 128
      rw [(index3 t).2]; omega
    · apply Fin.ext
      show 512 * (t.val % 4) + (j 0).val = win0_3.index t 0 * 512 + 1 * (j 0).val
      rw [(index3 t).1]; omega
    · apply Fin.ext
      show (j 1).val = (win0_3.index t 1 * 128 + 1 * (j 1).val) % 128
      rw [(index3 t).2]; omega
  · have h0 : (i 0 : Nat) < 2048 := (i 0).isLt
    have h1 : (i 1 : Nat) < 512 := (i 1).isLt
    have hlt : 4 * ((i 1 : Nat) / 128) + (i 0 : Nat) / 512 < cfg0.N := by show _ < 16; omega
    refine ⟨⟨4 * ((i 1 : Nat) / 128) + (i 0 : Nat) / 512, hlt⟩, flush0_3 _, ?_⟩
    generalize ht : (⟨4 * ((i 1 : Nat) / 128) + (i 0 : Nat) / 512, hlt⟩ : Fin cfg0.N) = t
    have hv : t.val = 4 * ((i 1 : Nat) / 128) + (i 0 : Nat) / 512 := by rw [← ht]
    show i ∈ ((View.whole main_v0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(index3 t).1]; omega
    | ⟨1, _⟩ => show win0_3.index t 1 * 128 ≤ (i 1 : Nat) ∧ (i 1 : Nat) < win0_3.index t 1 * 128 + 128
                rw [(index3 t).2]; omega

end Kern

section Ref
open Cert.Reference29Ideal Cert.Reference29Ideal.Gen Cert.Reference29Ideal.Read

variable (x0 : (⟨2, ![2048, 3584]⟩ : Shape).Idx → EReal) (x1 : Kv)

/-- The queries, split into heads. -/
theorem v4 (i : S1x2048x4x128.Idx) : val_main_v4 (F := Ideal) x0 i = qAt (wide x0) (i 2) (i 1) (i 3) := by
  have h0 : (i 0).val < 1 := (i 0).isLt
  have h1 : (i 1).val < 2048 := (i 1).isLt
  have h2 : (i 2).val < 4 := (i 2).isLt
  have h3 : (i 3).val < 128 := (i 3).isLt
  rw [val_main_v4_apply, val_main_v1_apply, val_main_v0_apply]
  refine Eq.trans ?_ (qAt_wide x0 (i 2) (i 1) (i 3)).symm
  congr 1
  funext a
  apply Fin.ext
  match a with
  | ⟨0, _⟩ => show ((((i 0).val * 2048 + (i 1).val) * 4 + (i 2).val) * 128 + (i 3).val) / 512 % 2048 = (i 1).val; omega
  | ⟨1, _⟩ => show 3072 + ((((i 0).val * 2048 + (i 1).val) * 4 + (i 2).val) * 128 + (i 3).val) % 512 = 3072 + 128 * (i 2).val + (i 3).val; omega

/-- The keys, split into heads. -/
theorem v6 (i : S1x256x4x128.Idx) : val_main_v6 (F := Ideal) x1 i = kAt x1 (i 2) (i 1) (i 3) := by
  have h0 : (i 0).val < 1 := (i 0).isLt
  have h1 : (i 1).val < 256 := (i 1).isLt
  have h2 : (i 2).val < 4 := (i 2).isLt
  have h3 : (i 3).val < 128 := (i 3).isLt
  rw [val_main_v6_apply, val_main_v5_apply, val_main_v3_apply, val_main_v2_apply]
  unfold kAt
  congr 1
  funext a
  apply Fin.ext
  match a with
  | ⟨0, _⟩ => show ((((0 * 256 + ((((i 0).val * 256 + (i 1).val) * 4 + (i 2).val) * 128 + (i 3).val) / 512 % 256) * 2 + 0) * 4 + ((((i 0).val * 256 + (i 1).val) * 4 + (i 2).val) * 128 + (i 3).val) / 128 % 4) * 128 + ((((i 0).val * 256 + (i 1).val) * 4 + (i 2).val) * 128 + (i 3).val) % 128) / 1024 % 256 = (i 1).val; omega
  | ⟨1, _⟩ => show ((((0 * 256 + ((((i 0).val * 256 + (i 1).val) * 4 + (i 2).val) * 128 + (i 3).val) / 512 % 256) * 2 + 0) * 4 + ((((i 0).val * 256 + (i 1).val) * 4 + (i 2).val) * 128 + (i 3).val) / 128 % 4) * 128 + ((((i 0).val * 256 + (i 1).val) * 4 + (i 2).val) * 128 + (i 3).val) % 128) % 1024 = 128 * (i 2).val + (i 3).val; omega

/-- The values, split into heads. -/
theorem v8 (i : S1x256x4x128.Idx) : val_main_v8 (F := Ideal) x1 i = vAt x1 (i 2) (i 1) (i 3) := by
  have h0 : (i 0).val < 1 := (i 0).isLt
  have h1 : (i 1).val < 256 := (i 1).isLt
  have h2 : (i 2).val < 4 := (i 2).isLt
  have h3 : (i 3).val < 128 := (i 3).isLt
  rw [val_main_v8_apply, val_main_v7_apply, val_main_v3_apply, val_main_v2_apply]
  unfold vAt
  congr 1
  funext a
  apply Fin.ext
  match a with
  | ⟨0, _⟩ => show ((((0 * 256 + ((((i 0).val * 256 + (i 1).val) * 4 + (i 2).val) * 128 + (i 3).val) / 512 % 256) * 2 + 1) * 4 + ((((i 0).val * 256 + (i 1).val) * 4 + (i 2).val) * 128 + (i 3).val) / 128 % 4) * 128 + ((((i 0).val * 256 + (i 1).val) * 4 + (i 2).val) * 128 + (i 3).val) % 128) / 1024 % 256 = (i 1).val; omega
  | ⟨1, _⟩ => show ((((0 * 256 + ((((i 0).val * 256 + (i 1).val) * 4 + (i 2).val) * 128 + (i 3).val) / 512 % 256) * 2 + 1) * 4 + ((((i 0).val * 256 + (i 1).val) * 4 + (i 2).val) * 128 + (i 3).val) / 128 % 4) * 128 + ((((i 0).val * 256 + (i 1).val) * 4 + (i 2).val) * 128 + (i 3).val) % 128) % 1024 = 512 + 128 * (i 2).val + (i 3).val; omega

/-- The scores. -/
theorem v11 (i : S1x4x2048x256.Idx) : val_main_v11 (F := Ideal) x0 x1 i = score (wide x0) x1 (i 1) (i 2) (i 3) := by
  rw [val_main_v11_apply, val_main_v9_apply, val_main_v10_apply]
  simp only [v4, v6]
  rfl

/-- The largest score of a row. -/
theorem v12 (i : S1x4x2048.Idx) : val_main_v12 (F := Ideal) x0 x1 i = rowMax (score (wide x0) x1 (i 1) (i 2)) := by
  unfold val_main_v12
  rw [Host.reduce_eq_fold_single FloatOps.maximumf _ _ _ (by decide : S1x4x2048x256.Reduces [3] S1x4x2048)]
  unfold rowMax
  show Finset.fold max (Ideal.ofBits .f32 0xFF800000#32) _ _ = _
  rw [negInf]
  congr 1
  funext k
  show val_main_v11 (F := Ideal) x0 x1 _ = _
  rw [v11]
  congr 1

/-- The exponentials. -/
theorem v18 (i : S1x4x2048x256.Idx) : val_main_v18 (F := Ideal) x0 x1 i = expo (score (wide x0) x1 (i 1) (i 2)) (i 3) := by
  rw [val_main_v18_apply, val_main_v17_apply, val_main_v16_apply, val_main_v15_apply, val_main_v14_apply, val_main_v13_apply, v11, v12]
  show Ideal.exp (score (wide x0) x1 (i 1) (i 2) (i 3) - max (Ideal.ofBits .f32 0xFF800000#32) (rowMax (score (wide x0) x1 (i 1) (i 2)))) = _
  rw [negInf, rowMax_bot_max]
  rfl

/-- The sums of the exponentials. -/
theorem v20 (i : S1x4x2048x1.Idx) : val_main_v20 (F := Ideal) x0 x1 i = total (score (wide x0) x1 (i 1) (i 2)) := by
  rw [val_main_v20_apply, val_main_v19_apply]
  simp only [v18]
  show Ideal.ofBits .f32 0x00000000#32 + total (score (wide x0) x1 (i 1) (i 2)) = _
  rw [Ideal.ofBits_zero_f32, zero_add]

/-- The probabilities. -/
theorem v22 (i : S1x4x2048x256.Idx) : val_main_v22 (F := Ideal) x0 x1 i = prob (score (wide x0) x1 (i 1) (i 2)) (i 3) := by
  rw [val_main_v22_apply, val_main_v21_apply, v20, v18]
  rfl

/-- The weighted values. -/
theorem v24 (i : S1x2048x4x128.Idx) : val_main_v24 (F := Ideal) x0 x1 i = mix (wide x0) x1 (i 2) (i 1) (i 3) := by
  rw [val_main_v24_apply, val_main_v23_apply]
  simp only [v22, v8]
  unfold mix
  exact Finset.sum_congr rfl fun t _ => mul_comm _ _

/-- The reference's result at an entry. -/
theorem v27 (h : Fin 4) (r : Fin 2048) (e : Fin 128) :
    val_main_v27 (F := Ideal) x0 x1 (ix2 r ⟨128 * h.val + e.val, by omega⟩) = mix (wide x0) x1 h r e := by
  rw [val_main_v27_apply, val_main_v26_apply, val_main_v25_apply, v24]
  show mix (wide x0) x1 _ _ _ = _
  congr 1
  · apply Fin.ext
    show ((0 * 2048 + (r.val * 512 + (128 * h.val + e.val)) / 512 % 2048) * 512 + (r.val * 512 + (128 * h.val + e.val)) % 512) / 128 % 4 = h.val
    omega
  · apply Fin.ext
    show ((0 * 2048 + (r.val * 512 + (128 * h.val + e.val)) / 512 % 2048) * 512 + (r.val * 512 + (128 * h.val + e.val)) % 512) / 512 % 2048 = r.val
    omega
  · apply Fin.ext
    show ((0 * 2048 + (r.val * 512 + (128 * h.val + e.val)) / 512 % 2048) * 512 + (r.val * 512 + (128 * h.val + e.val)) % 512) % 128 = e.val
    omega

/-- The reference's result is the weighted values. -/
theorem ref : val_main_v27 (F := Ideal) x0 x1 = mixArr (wide x0) x1 := funext fun i => by
  conv_lhs => rw [eq_lane i]
  exact v27 x0 x1 _ _ _

/-- The reference runs, its arguments end unchanged, and no signal is left. -/
theorem refFrame : Cert.quiescent_Reference29Ideal := fun m ρ _ =>
  (θ_run defs _ _).mono (fun r h => ⟨fun c => (h c).2, Idealize.ShloMosaic.sem_eq_zero_of_no_sems (by decide) r.2⟩)
    (Cert.Reference29Ideal.Value.run (F := Ideal) m ρ)

end Ref

/-- Kernel and reference end with the same array, whatever the arguments hold. -/
theorem algebraic : Cert.algebraic_Kernel29Ideal_Reference29Ideal := by
  intro m g m' g' _ hargs
  refine ⟨fun c => mixArr (wide (A0 m c)) (A1 m c), ?_, ?_⟩
  · exact (θ_run Cert.Kernel29Ideal.defs _ _).mono (fun r h c => ⟨(h c).1.trans (final m c), (h c).2⟩) (Cert.Kernel29Ideal.Value.run_blocks m g)
  · refine (θ_run Cert.Reference29Ideal.defs _ _).mono (fun r h c => ⟨(h c).1.trans ?_, (h c).2⟩) (Cert.Reference29Ideal.Value.run (F := Ideal) m' g')
    obtain ⟨e0, e1⟩ := hargs c
    rw [Cert.Reference29Ideal.Read.val_main_v27_eq, e0, e1]; exact ref _ _

end Cert.MemBFwd

end
-- ==== Proof.NormFwd.lean ====
/- A layer's norm: the kernel's row tiles make the norm of the reference. -/
module

public import proofs.«01_k».proof.Defs
public import proofs.«01_k».proof.Proof.NormMath
public import proofs.«01_k».proof.Proof.Prod
public import proofs.«01_k».proof.Proof.Gen.Kernel30Ideal.Value
public import proofs.«01_k».proof.Proof.Gen.Reference30Ideal.Read

@[expose] public section

set_option maxRecDepth 16384

noncomputable section

namespace Cert.NormFwd

open Idealize.ShloMosaic Idealize.ShloMosaic.TcCoe Idealize.SL.Sem Cert.Prod Cert.Norm

/-- One entry: the row over its root mean square, times the gain. -/
def entry (X : Arr2 2048 2048) (G : Arr1 2048) (r : Fin 2048) (j : Fin 2048) : EReal :=
  normed ((2048 : ℝ) : EReal) (fun k => X (ix2 r k)) (fun k => G (ix1 k)) j

section Kern
open Cert.Kernel30Ideal Cert.Kernel30Ideal.Gen Cert.Kernel30Ideal.Value Idealize.ShloMosaic.Pipeline

/-- A tile's norm. -/
theorem pay (x : Vec Ideal S256x2048 .f32) (g : Vec Ideal S1x2048 .f32) (r : Fin 256) (j : Fin 2048) :
    k0_pay1 (F := Ideal) x g (ix2 r j) = normed ((2048 : ℝ) : EReal) (fun k => x (ix2 r k)) (fun k => g (ix2 0 k)) j := by
  unfold k0_pay1
  pointwise
  rw [word2048]
  rfl

variable (m : (ℓ : Loc nD τ sig) → Buf (Elt Ideal) ℓ) (c : Dev nD)

/-- The rows on a device. -/
abbrev A0 : Arr2 2048 2048 := m ((c.tc : Thread nD τ).loc main_arg0)
/-- The gain on a device. -/
abbrev A1 : Arr1 2048 := m ((c.tc : Thread nD τ).loc main_arg1)

theorem index0 : ∀ t : Fin cfg0.N, win0_0.index t 0 = t.val ∧ win0_0.index t 1 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = t.val ∧ win0_2.index t 1 = 0 :=
  (by decide +kernel : ∀ t : Fin grid0.N, _)

/-- The row of the whole array that a row of a grid point's tile is. -/
def row (t : Fin cfg0.N) (r : Fin 256) : Fin 2048 := ⟨t.val * 256 + r.val, by have : t.val < 8 := t.isLt; omega⟩

/-- A grid point's rows of argument 0. -/
theorem blk0 (t : Fin cfg0.N) (r : Fin 256) (k : Fin 2048) : (iblk m c 0 t : Vec Ideal S256x2048 .f32) (ix2 r k) = A0 m c (ix2 (row t r) k) := by
  unfold iblk
  rw [View.read_apply]
  show A0 m c _ = A0 m c _
  congr 1
  funext a
  apply Fin.ext
  match a with
  | ⟨0, _⟩ => show win0_0.index t 0 * 256 + 1 * r.val = t.val * 256 + r.val; rw [(index0 t).1]; omega
  | ⟨1, _⟩ => show win0_0.index t 1 * 2048 + 1 * k.val = k.val; rw [(index0 t).2]; omega

/-- Every grid point's block of the gain. -/
theorem blk1 (t : Fin cfg0.N) (z : Fin 1) (k : Fin 2048) : (iblk m c 1 t : Vec Ideal S1x2048 .f32) (ix2 z k) = A1 m c (ix1 k) := by
  unfold iblk
  rw [View.read_apply]
  show shapeCast S1x2048 (A1 m c) shapeCasts_S2048_S1x2048 _ = _
  have h : ∀ i : S1x2048.Idx, (i 1).val = k.val → shapeCast S1x2048 (A1 m c) shapeCasts_S2048_S1x2048 i = A1 m c (ix1 k) := fun i hi => by
    rw [eq_ix2 i, show i 1 = k from Fin.ext hi]
    pointwise
  refine h _ ?_
  show win0_1.index t 1 * 2048 + 1 * k.val = k.val
  rw [(index1 t).2]; omega

/-- What a grid point leaves in its tile. -/
theorem tile (t : Fin cfg0.N) (r : Fin 256) (j : Fin 2048) :
    out0_2 (F := Ideal) (iblk m c 0 t) (iblk m c 1 t) (ix2 r j) = entry (A0 m c) (A1 m c) (row t r) j := by
  unfold out0_2
  rw [View.canon_unit_zero offsets2]
  simp only [View.ld_unit_zero (S := S256x2048) offsets2, View.ld_unit_zero (S := S1x2048) offsets2]
  rw [pay]
  simp only [blk0, blk1]
  rfl

/-- The result is the norm. -/
theorem final : (dats m 0 c).arrAt 2 cfg0.N = arr2 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr2 (entry (A0 m c) (A1 m c)) _
    have key : ∀ j : S256x2048.Idx, out0_2 (F := Ideal) (iblk m c 0 t) (iblk m c 1 t) j = entry (A0 m c) (A1 m c) (row t (j 0)) (j 1) := fun j => by
      conv_lhs => rw [eq_ix2 j]
      exact tile m c t _ _
    refine (key j).trans (entry_arr2 _ _ _ _ ?_ ?_)
    · show t.val * 256 + (j 0).val = win0_2.index t 0 * 256 + 1 * (j 0).val
      rw [(index2 t).1]; omega
    · show (j 1).val = win0_2.index t 1 * 2048 + 1 * (j 1).val
      rw [(index2 t).2]; omega
  · have h0 : (i 0 : Nat) < 2048 := (i 0).isLt
    have h1 : (i 1 : Nat) < 2048 := (i 1).isLt
    have hlt : (i 0 : Nat) / 256 < cfg0.N := by show _ < 8; omega
    refine ⟨⟨(i 0 : Nat) / 256, hlt⟩, flush0_2 _, ?_⟩
    generalize ht : (⟨(i 0 : Nat) / 256, hlt⟩ : Fin cfg0.N) = t
    have hv : t.val = (i 0 : Nat) / 256 := by rw [← ht]
    show i ∈ ((View.whole main_v1).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256
                rw [(index2 t).1]; omega
    | ⟨1, _⟩ => show win0_2.index t 1 * 2048 ≤ (i 1 : Nat) ∧ (i 1 : Nat) < win0_2.index t 1 * 2048 + 2048
                rw [(index2 t).2]; omega

end Kern

section Ref
open Cert.Reference30Ideal Cert.Reference30Ideal.Gen Cert.Reference30Ideal.Read

variable (x0 : Arr2 2048 2048) (x1 : Arr1 2048)

/-- The mean of the squares of a row. -/
theorem refMean (r : Fin 2048) (z : Fin 1) : val_main_v6 (F := Ideal) x0 (ix2 r z) = meanSq ((2048 : ℝ) : EReal) fun k => x0 (ix2 r k) := by
  unfold val_main_v6 val_main_v5 val_main_cst_1 val_main_v4 val_main_v3 val_main_cst_0 val_main_v2 val_main_v1 val_main_cst val_main_v0
  pointwise
  rw [word2048]
  rfl

/-- One over its root. -/
theorem refInv (r : Fin 2048) (z : Fin 1) : val_main_v7 (F := Ideal) x0 (ix2 r z) = inv ((2048 : ℝ) : EReal) fun k => x0 (ix2 r k) := by
  unfold val_main_v7
  pointwise
  rw [refMean]
  rfl

/-- The reference's result is the norm. -/
theorem ref : val_main_v13 (F := Ideal) x0 x1 = arr2 (entry x0 x1) :=
  eq_arr2 _ _ fun r j => by
    unfold val_main_v13 val_main_v12 val_main_v11 val_main_v10 val_main_v9 val_main_v8
    pointwise
    rw [refInv]
    rfl

/-- The reference runs, its arguments end unchanged, and no signal is left. -/
theorem refFrame : Cert.quiescent_Reference30Ideal := fun m ρ _ =>
  (θ_run defs _ _).mono (fun r h => ⟨fun c => (h c).2, Idealize.ShloMosaic.sem_eq_zero_of_no_sems (by decide) r.2⟩)
    (Cert.Reference30Ideal.Value.run (F := Ideal) m ρ)

end Ref

/-- Kernel and reference end with the same array, whatever the arguments hold. -/
theorem algebraic : Cert.algebraic_Kernel30Ideal_Reference30Ideal := by
  intro m g m' g' _ hargs
  refine ⟨fun c => arr2 (entry (A0 m c) (A1 m c)), ?_, ?_⟩
  · exact (θ_run Cert.Kernel30Ideal.defs _ _).mono (fun r h c => ⟨(h c).1.trans (final m c), (h c).2⟩) (Cert.Kernel30Ideal.Value.run_blocks m g)
  · refine (θ_run Cert.Reference30Ideal.defs _ _).mono (fun r h c => ⟨(h c).1.trans ?_, (h c).2⟩) (Cert.Reference30Ideal.Value.run (F := Ideal) m' g')
    obtain ⟨e0, e1⟩ := hargs c
    rw [Cert.Reference30Ideal.Read.val_main_v13_eq, e0, e1]; exact ref _ _

end Cert.NormFwd

end
-- ==== Proof.MemNormFwd.lean ====
/- The memory's norm: the kernel's tile makes the norm of the reference. -/
module

public import proofs.«01_k».proof.Defs
public import proofs.«01_k».proof.Proof.NormMath
public import proofs.«01_k».proof.Proof.Prod
public import proofs.«01_k».proof.Proof.Gen.Kernel31Ideal.Value
public import proofs.«01_k».proof.Proof.Gen.Reference31Ideal.Read

@[expose] public section

set_option maxRecDepth 16384

noncomputable section

namespace Cert.MemNormFwd

open Idealize.ShloMosaic Idealize.ShloMosaic.TcCoe Idealize.SL.Sem Cert.Prod Cert.Norm

/-- One entry: the row over its root mean square, times the gain. -/
def entry (X : Arr2 256 2048) (G : Arr1 2048) (r : Fin 256) (j : Fin 2048) : EReal :=
  normed ((2048 : ℝ) : EReal) (fun k => X (ix2 r k)) (fun k => G (ix1 k)) j

section Kern
open Cert.Kernel31Ideal Cert.Kernel31Ideal.Gen Cert.Kernel31Ideal.Value Idealize.ShloMosaic.Pipeline

/-- A tile's norm. -/
theorem pay (x : Vec Ideal S256x2048 .f32) (g : Vec Ideal S1x2048 .f32) (r : Fin 256) (j : Fin 2048) :
    k0_pay1 (F := Ideal) x g (ix2 r j) = normed ((2048 : ℝ) : EReal) (fun k => x (ix2 r k)) (fun k => g (ix2 0 k)) j := by
  unfold k0_pay1
  pointwise
  rw [word2048]
  rfl

variable (m : (ℓ : Loc nD τ sig) → Buf (Elt Ideal) ℓ) (c : Dev nD)

/-- The rows on a device. -/
abbrev A0 : Arr2 256 2048 := m ((c.tc : Thread nD τ).loc main_arg0)
/-- The gain on a device. -/
abbrev A1 : Arr1 2048 := m ((c.tc : Thread nD τ).loc main_arg1)

theorem index0 : ∀ t : Fin cfg0.N, win0_0.index t 0 = t.val ∧ win0_0.index t 1 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = t.val ∧ win0_2.index t 1 = 0 :=
  (by decide +kernel : ∀ t : Fin grid0.N, _)

/-- The row of the whole array that a row of a grid point's tile is. -/
def row (t : Fin cfg0.N) (r : Fin 256) : Fin 256 := ⟨t.val * 256 + r.val, by have : t.val < 1 := t.isLt; omega⟩

/-- A grid point's rows of argument 0. -/
theorem blk0 (t : Fin cfg0.N) (r : Fin 256) (k : Fin 2048) : (iblk m c 0 t : Vec Ideal S256x2048 .f32) (ix2 r k) = A0 m c (ix2 (row t r) k) := by
  unfold iblk
  rw [View.read_apply]
  show A0 m c _ = A0 m c _
  congr 1
  funext a
  apply Fin.ext
  match a with
  | ⟨0, _⟩ => show win0_0.index t 0 * 256 + 1 * r.val = t.val * 256 + r.val; rw [(index0 t).1]; omega
  | ⟨1, _⟩ => show win0_0.index t 1 * 2048 + 1 * k.val = k.val; rw [(index0 t).2]; omega

/-- Every grid point's block of the gain. -/
theorem blk1 (t : Fin cfg0.N) (z : Fin 1) (k : Fin 2048) : (iblk m c 1 t : Vec Ideal S1x2048 .f32) (ix2 z k) = A1 m c (ix1 k) := by
  unfold iblk
  rw [View.read_apply]
  show shapeCast S1x2048 (A1 m c) shapeCasts_S2048_S1x2048 _ = _
  have h : ∀ i : S1x2048.Idx, (i 1).val = k.val → shapeCast S1x2048 (A1 m c) shapeCasts_S2048_S1x2048 i = A1 m c (ix1 k) := fun i hi => by
    rw [eq_ix2 i, show i 1 = k from Fin.ext hi]
    pointwise
  refine h _ ?_
  show win0_1.index t 1 * 2048 + 1 * k.val = k.val
  rw [(index1 t).2]; omega

/-- What a grid point leaves in its tile. -/
theorem tile (t : Fin cfg0.N) (r : Fin 256) (j : Fin 2048) :
    out0_2 (F := Ideal) (iblk m c 0 t) (iblk m c 1 t) (ix2 r j) = entry (A0 m c) (A1 m c) (row t r) j := by
  unfold out0_2
  rw [View.canon_unit_zero offsets2]
  simp only [View.ld_unit_zero (S := S256x2048) offsets2, View.ld_unit_zero (S := S1x2048) offsets2]
  rw [pay]
  simp only [blk0, blk1]
  rfl

/-- The result is the norm. -/
theorem final : (dats m 0 c).arrAt 2 cfg0.N = arr2 (entry (A0 m c) (A1 m c)) := by
  refine (dats m 0 c).arrAt_eq_of_cover 2 _ (fun t _ => ?_) fun i => ?_
  · rw [flushed2]
    funext j
    rw [View.read_apply]
    show out0_2 (F := Ideal) (iblk m c 0 t) (iblk m c 1 t) j = arr2 (entry (A0 m c) (A1 m c)) _
    have key : ∀ j : S256x2048.Idx, out0_2 (F := Ideal) (iblk m c 0 t) (iblk m c 1 t) j = entry (A0 m c) (A1 m c) (row t (j 0)) (j 1) := fun j => by
      conv_lhs => rw [eq_ix2 j]
      exact tile m c t _ _
    refine (key j).trans (entry_arr2 _ _ _ _ ?_ ?_)
    · show t.val * 256 + (j 0).val = win0_2.index t 0 * 256 + 1 * (j 0).val
      rw [(index2 t).1]; omega
    · show (j 1).val = win0_2.index t 1 * 2048 + 1 * (j 1).val
      rw [(index2 t).2]; omega
  · have h0 : (i 0 : Nat) < 256 := (i 0).isLt
    have h1 : (i 1 : Nat) < 2048 := (i 1).isLt
    have hlt : (i 0 : Nat) / 256 < cfg0.N := by show _ < 1; omega
    refine ⟨⟨(i 0 : Nat) / 256, hlt⟩, flush0_2 _, ?_⟩
    generalize ht : (⟨(i 0 : Nat) / 256, hlt⟩ : Fin cfg0.N) = t
    have hv : t.val = (i 0 : Nat) / 256 := by rw [← ht]
    show i ∈ ((View.whole main_v1).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256
                rw [(index2 t).1]; omega
    | ⟨1, _⟩ => show win0_2.index t 1 * 2048 ≤ (i 1 : Nat) ∧ (i 1 : Nat) < win0_2.index t 1 * 2048 + 2048
                rw [(index2 t).2]; omega

end Kern

section Ref
open Cert.Reference31Ideal Cert.Reference31Ideal.Gen Cert.Reference31Ideal.Read

variable (x0 : Arr2 256 2048) (x1 : Arr1 2048)

/-- The mean of the squares of a row. -/
theorem refMean (r : Fin 256) (z : Fin 1) : val_main_v6 (F := Ideal) x0 (ix2 r z) = meanSq ((2048 : ℝ) : EReal) fun k => x0 (ix2 r k) := by
  unfold val_main_v6 val_main_v5 val_main_cst_1 val_main_v4 val_main_v3 val_main_cst_0 val_main_v2 val_main_v1 val_main_cst val_main_v0
  pointwise
  rw [word2048]
  rfl

/-- One over its root. -/
theorem refInv (r : Fin 256) (z : Fin 1) : val_main_v7 (F := Ideal) x0 (ix2 r z) = inv ((2048 : ℝ) : EReal) fun k => x0 (ix2 r k) := by
  unfold val_main_v7
  pointwise
  rw [refMean]
  rfl

/-- The reference's result is the norm. -/
theorem ref : val_main_v13 (F := Ideal) x0 x1 = arr2 (entry x0 x1) :=
  eq_arr2 _ _ fun r j => by
    unfold val_main_v13 val_main_v12 val_main_v11 val_main_v10 val_main_v9 val_main_v8
    pointwise
    rw [refInv]
    rfl

/-- The reference runs, its arguments end unchanged, and no signal is left. -/
theorem refFrame : Cert.quiescent_Reference31Ideal := fun m ρ _ =>
  (θ_run defs _ _).mono (fun r h => ⟨fun c => (h c).2, Idealize.ShloMosaic.sem_eq_zero_of_no_sems (by decide) r.2⟩)
    (Cert.Reference31Ideal.Value.run (F := Ideal) m ρ)

end Ref

/-- Kernel and reference end with the same array, whatever the arguments hold. -/
theorem algebraic : Cert.algebraic_Kernel31Ideal_Reference31Ideal := by
  intro m g m' g' _ hargs
  refine ⟨fun c => arr2 (entry (A0 m c) (A1 m c)), ?_, ?_⟩
  · exact (θ_run Cert.Kernel31Ideal.defs _ _).mono (fun r h c => ⟨(h c).1.trans (final m c), (h c).2⟩) (Cert.Kernel31Ideal.Value.run_blocks m g)
  · refine (θ_run Cert.Reference31Ideal.defs _ _).mono (fun r h c => ⟨(h c).1.trans ?_, (h c).2⟩) (Cert.Reference31Ideal.Value.run (F := Ideal) m' g')
    obtain ⟨e0, e1⟩ := hargs c
    rw [Cert.Reference31Ideal.Read.val_main_v13_eq, e0, e1]; exact ref _ _

end Cert.MemNormFwd

end
-- ==== Proof.GateTile.lean ====
/- The gating unit: what one grid point leaves in its tile. -/
module

public import proofs.«01_k».proof.Proof.GateMath
public import proofs.«01_k».proof.Proof.Gen.Kernel32Ideal.Value
public import Idealize.ShloMosaic.Lib.Pipeline.ReadBack

@[expose] public section

set_option maxRecDepth 16384

noncomputable section

namespace Cert.GateFwd

open Idealize.ShloMosaic Idealize.ShloMosaic.TcCoe Idealize.SL.Sem Cert.Prod Cert.Norm Cert.Gate
open Cert.Kernel32Ideal Cert.Kernel32Ideal.Gen Cert.Kernel32Ideal.Value Idealize.ShloMosaic.Pipeline

/-- The number the kernel multiplies by before the error function. -/
def root : EReal := Ideal.ofBits .f32 0x3F3504F3#32

variable (x0 : Vec Ideal S128x3072 .f32) (x1 : Vec Ideal S1x1536 .f32) (x2 x3 : Vec Ideal S12x128x128 .f32)

/-- The gelu of a tile. -/
theorem pay2 (i : Fin 128) (c : Fin 3072) : k0_pay2 (F := Ideal) x0 (ix2 i c) = gelu root (x0 (ix2 i c)) := by
  unfold k0_pay2
  pointwise
  rfl

/-- Its gate's columns. -/
theorem pay3 (i : Fin 128) (c : Fin 1536) : k0_pay3 (F := Ideal) x0 (ix2 i c) = uAt root (fun l => x0 (ix2 i l)) c := by
  unfold k0_pay3
  pointwise
  rw [pay2]
  rfl

/-- Its normed columns. -/
theorem pay4 (i : Fin 128) (c : Fin 1536) :
    k0_pay4 (F := Ideal) x0 x1 (ix2 i c) = vnAt root (fun l => x0 (ix2 i l)) (fun l => x1 (ix2 0 l)) c := by
  unfold k0_pay4
  pointwise
  simp only [pay2]
  rw [word1536]
  rfl

/-- The columns of a group. -/
theorem emb2 (o : ℕ) (h : ∀ a, ![0, o] a + ![128, 128] a ≤ S128x1536.size a) (i j : Fin 128) (h' : o + j.val < 1536) :
    (Rect.unit ![0, o] ![128, 128] h).emb (ix2 i j) = ix2 i ⟨o + j.val, h'⟩ := by
  funext a
  apply Fin.ext
  match a with
  | ⟨0, _⟩ => show 0 + 1 * i.val = i.val; omega
  | ⟨1, _⟩ => show o + 1 * j.val = o + j.val; omega

/-- A group's columns of the gated rows. -/
theorem col2 (B : Fin 12 → Fin 128 → EReal) (hB : ∀ g i j, x3 (ix3 g i j) = B g i) (i j : Fin 128) (g : ℕ) (hg : g < 12)
    {h : 128 * g + j.val < 1536} {y : S128x1536.Idx} (hy : y = ix2 i ⟨128 * g + j.val, h⟩) :
    uAt root (fun l => x0 (ix2 i l)) ⟨128 * g + j.val, h⟩
        * (∑ t, x2 (ix3 ⟨g, hg⟩ i t) * vnAt root (fun l => x0 (ix2 t l)) (fun l => x1 (ix2 0 l)) ⟨128 * g + j.val, h⟩ + x3 (ix3 ⟨g, hg⟩ i j))
      = arr2 (gated root (fun i l => x0 (ix2 i l)) (fun l => x1 (ix2 0 l)) (fun g i t => x2 (ix3 g i t)) B) y := by
  subst hy
  rw [hB]
  show _ = gated _ _ _ _ _ i ⟨128 * g + j.val, h⟩
  unfold gated
  rw [mixed_eq _ _ _ _ _ _ _ ⟨g, hg⟩ (by show (128 * g + j.val) / 128 = g; omega)]

/-- Every store of the tile is its columns of the gated rows. -/
theorem pieces (c : Dev nD) (i : grid0.Coords) (arg1 : Memref sig .tc .vmem S128x3072 .f32) (harg1 : arg1.IsWhole) (arg2 : Memref sig .tc .vmem S1x1536 .f32) (harg2 : arg2.IsWhole) (arg3 : Memref sig .tc .vmem S12x128x128 .f32) (harg3 : arg3.IsWhole) (arg4 : Memref sig .tc .vmem S12x128x128 .f32) (harg4 : arg4.IsWhole) (arg5 : Memref sig .tc .vmem S128x1536 .bf16) (harg5 : arg5.IsWhole)
    (B : Fin 12 → Fin 128 → EReal) (hB : ∀ g i j, x3 (ix3 g i j) = B g i) :
    View.PiecesOf (Val := Elt Ideal) (arr2 (gated root (fun i l => x0 (ix2 i l)) (fun l => x1 (ix2 0 l)) (fun g i t => x2 (ix3 g i t)) B)) (kernelRun0_A c i arg1 harg1 arg2 harg2 arg3 harg3 arg4 harg4 arg5 harg5 x0 x1 x2 x3).1 := by
  unfold kernelRun0_A
  dsimp only
  sl_unfold_words
  simp only [View.readAt_eq_ld, harg1.read_unread, harg2.read_unread, harg3.read_unread, harg4.read_unread,
    View.ld_unit_zero (S := S128x3072) offsets2, View.ld_unit_zero (S := S1x1536) offsets2]
  refine ⟨?_, ?_, ?_, ?_, ?_, ?_, ?_, ?_, ?_, ?_, ?_, ?_, trivial⟩
  all_goals
    intro x
    obtain ⟨i, j, rfl⟩ : ∃ (i j : Fin 128), x = ix2 i j := ⟨x 0, x 1, eq_ix2 x⟩
    simp only [k0_pay1, k0_pay5, k0_pay6, k0_pay7, k0_pay8, k0_pay9, k0_pay10, k0_pay11, k0_pay12, k0_pay13, k0_pay14, k0_pay15, k0_pay16, k0_pay17,
      k0_pay18, k0_pay19, View.ld_unit]
    pointwise
    simp only [pay3, pay4]
  · exact col2 x0 x1 x2 x3 B hB i j 11 (by omega) (emb2 1408 _ i j (by omega))
  · exact col2 x0 x1 x2 x3 B hB i j 10 (by omega) (emb2 1280 _ i j (by omega))
  · exact col2 x0 x1 x2 x3 B hB i j 9 (by omega) (emb2 1152 _ i j (by omega))
  · exact col2 x0 x1 x2 x3 B hB i j 8 (by omega) (emb2 1024 _ i j (by omega))
  · exact col2 x0 x1 x2 x3 B hB i j 7 (by omega) (emb2 896 _ i j (by omega))
  · exact col2 x0 x1 x2 x3 B hB i j 6 (by omega) (emb2 768 _ i j (by omega))
  · exact col2 x0 x1 x2 x3 B hB i j 5 (by omega) (emb2 640 _ i j (by omega))
  · exact col2 x0 x1 x2 x3 B hB i j 4 (by omega) (emb2 512 _ i j (by omega))
  · exact col2 x0 x1 x2 x3 B hB i j 3 (by omega) (emb2 384 _ i j (by omega))
  · exact col2 x0 x1 x2 x3 B hB i j 2 (by omega) (emb2 256 _ i j (by omega))
  · exact col2 x0 x1 x2 x3 B hB i j 1 (by omega) (emb2 128 _ i j (by omega))
  · have q := col2 x0 x1 x2 x3 B hB i j 0 (by omega) (emb2 0 inb_S128x1536_S128x128_0_0 i j (by omega))
    simp only [Nat.mul_zero, Nat.zero_add] at q
    exact q

/-- What one grid point leaves in its tile. -/
theorem tile (c : Dev nD) (i : grid0.Coords) (arg1 : Memref sig .tc .vmem S128x3072 .f32) (harg1 : arg1.IsWhole) (arg2 : Memref sig .tc .vmem S1x1536 .f32) (harg2 : arg2.IsWhole) (arg3 : Memref sig .tc .vmem S12x128x128 .f32) (harg3 : arg3.IsWhole) (arg4 : Memref sig .tc .vmem S12x128x128 .f32) (harg4 : arg4.IsWhole) (arg5 : Memref sig .tc .vmem S128x1536 .bf16) (harg5 : arg5.IsWhole)
    (B : Fin 12 → Fin 128 → EReal) (hB : ∀ g i j, x3 (ix3 g i j) = B g i) (r : Fin 128) (f : Fin 1536) :
    out0_A_4 (F := Ideal) c i arg1 harg1 arg2 harg2 arg3 harg3 arg4 harg4 arg5 harg5 x0 x1 x2 x3 (ix2 r f)
      = gated root (fun i l => x0 (ix2 i l)) (fun l => x1 (ix2 0 l)) (fun g i t => x2 (ix3 g i t)) B r f := by
  unfold out0_A_4
  rw [View.read_writes_junk_eq_canon]
  exact View.canon_apply_of_pieces _ _ (pieces x0 x1 x2 x3 c i arg1 harg1 arg2 harg2 arg3 harg3 arg4 harg4 arg5 harg5 B hB).mem _ (cover0_A_4 c i arg1 harg1 arg2 harg2 arg3 harg3 arg4 harg4 arg5 harg5 x0 x1 x2 x3 _)

end Cert.GateFwd

end
-- ==== Proof.GateFwd.lean ====
/- The gating unit: the kernel's chunks of rows make the reference's rows. -/
module

public import proofs.«01_k».proof.Defs
public import proofs.«01_k».proof.Proof.GateTile
public import proofs.«01_k».proof.Proof.Gen.Reference32Ideal.Read

@[expose] public section

set_option maxRecDepth 16384

noncomputable section

namespace Cert.GateFwd

open Idealize.ShloMosaic Idealize.ShloMosaic.TcCoe Idealize.SL.Sem Cert.Prod Cert.Norm Cert.Gate

/-- A row of the projection, the gating unit's columns. -/
def rowAt (X : Arr2 2048 3584) (r : Fin 2048) (l : Fin 3072) : EReal := X (ix2 r ⟨l.val, by omega⟩)

/-- The rows of the chunk a row is in. -/
def chunk (r : Fin 2048) (t : Fin 128) : Fin 2048 := ⟨r.val / 128 * 128 + t.val, by omega⟩

/-- One entry: the row's gate times its chunk's normed columns, mixed. -/
def entry (X : Arr2 2048 3584) (G : Arr1 1536) (W : Arr3 12 128 128) (B : Arr2 12 128) (r : Fin 2048) (f : Fin 1536) : EReal :=
  gated root (fun t => rowAt X (chunk r t)) (fun l => G (ix1 l)) (fun g i t => W (ix3 g i t)) (fun g i => B (ix2 g i)) ⟨r.val % 128, by omega⟩ f

section Kern
open Cert.Kernel32Ideal Cert.Kernel32Ideal.Gen Cert.Kernel32Ideal.Value Idealize.ShloMosaic.Pipeline

variable (m : (ℓ : Loc nD τ sig) → Buf (Elt Ideal) ℓ) (c : Dev nD)

/-- The projection on a device. -/
abbrev A0 : Arr2 2048 3584 := m ((c.tc : Thread nD τ).loc main_arg0)
/-- The gain on a device. -/
abbrev A1 : Arr1 1536 := m ((c.tc : Thread nD τ).loc main_arg1)
/-- The mixing matrices on a device. -/
abbrev A2 : Arr3 12 128 128 := m ((c.tc : Thread nD τ).loc main_arg2)
/-- The biases on a device. -/
abbrev A3 : Arr2 12 128 := m ((c.tc : Thread nD τ).loc main_arg3)

theorem index0 : ∀ t : Fin cfg0.N, win0_0.index t 0 = t.val ∧ win0_0.index t 1 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = 0 ∧ win0_2.index t 1 = 0 ∧ win0_2.index t 2 = 0 :=
  (by decide +kernel : ∀ t : Fin grid0.N, _)
theorem index3 : ∀ t : Fin cfg0.N, win0_3.index t 0 = 0 ∧ win0_3.index t 1 = 0 ∧ win0_3.index t 2 = 0 :=
  (by decide +kernel : ∀ t : Fin grid0.N, _)
theorem index4 : ∀ t : Fin cfg0.N, win0_4.index t 0 = t.val ∧ win0_4.index t 1 = 0 :=
  (by decide +kernel : ∀ t : Fin grid0.N, _)

/-- The row of the whole array that a row of a grid point's tile is. -/
def row (t : Fin cfg0.N) (r : Fin 128) : Fin 2048 := ⟨t.val * 128 + r.val, by have : t.val < 16 := t.isLt; omega⟩

/-- A grid point's rows of the projection. -/
theorem blk0 (t : Fin cfg0.N) (r : Fin 128) (k : Fin 3072) : (X0_0 m c t : Vec Ideal S128x3072 .f32) (ix2 r k) = rowAt (A0 m c) (row t r) k := by
  unfold X0_0 Pipeline.Window.fill
  rw [dif_pos (moved0_0 t _)]
  unfold iblk
  rw [View.read_apply]
  show A0 m c _ = A0 m c _
  congr 1
  funext a
  apply Fin.ext
  match a with
  | ⟨0, _⟩ => show win0_0.index t 0 * 128 + 1 * r.val = t.val * 128 + r.val; rw [(index0 t).1]; omega
  | ⟨1, _⟩ => show win0_0.index t 1 * 3072 + 1 * k.val = k.val; rw [(index0 t).2]; omega

/-- Every grid point's block of the gain. -/
theorem blk1 (t : Fin cfg0.N) (z : Fin 1) (k : Fin 1536) : (iblk m c 1 t : Vec Ideal S1x1536 .f32) (ix2 z k) = A1 m c (ix1 k) := by
  unfold iblk
  rw [View.read_apply]
  show shapeCast S1x1536 (A1 m c) shapeCasts_S1536_S1x1536 _ = _
  have h : ∀ i : S1x1536.Idx, (i 1).val = k.val → shapeCast S1x1536 (A1 m c) shapeCasts_S1536_S1x1536 i = A1 m c (ix1 k) := fun i hi => by
    rw [eq_ix2 i, show i 1 = k from Fin.ext hi]
    pointwise
  refine h _ ?_
  show win0_1.index t 1 * 1536 + 1 * k.val = k.val
  rw [(index1 t).2]; omega

/-- Every grid point's block of the mixing matrices. -/
theorem blk2 (t : Fin cfg0.N) (g : Fin 12) (i k : Fin 128) : (iblk m c 2 t : Vec Ideal S12x128x128 .f32) (ix3 g i k) = A2 m c (ix3 g i k) := by
  unfold iblk
  rw [View.read_apply]
  show A2 m c _ = A2 m c _
  congr 1
  funext a
  apply Fin.ext
  match a with
  | ⟨0, _⟩ => show win0_2.index t 0 * 12 + 1 * g.val = g.val; rw [(index2 t).1]; omega
  | ⟨1, _⟩ => show win0_2.index t 1 * 128 + 1 * i.val = i.val; rw [(index2 t).2.1]; omega
  | ⟨2, _⟩ => show win0_2.index t 2 * 128 + 1 * k.val = k.val; rw [(index2 t).2.2]; omega

/-- Every grid point's block of the biases. -/
theorem blk3 (t : Fin cfg0.N) (g : Fin 12) (i k : Fin 128) : (iblk m c 3 t : Vec Ideal S12x128x128 .f32) (ix3 g i k) = A3 m c (ix2 g i) := by
  unfold iblk
  rw [View.read_apply]
  show broadcastInDim S12x128x128 ![0, 1, 2] bcast_S12x128x1_S12x128x128_0_1_2 (broadcastInDim S12x128x1 ![0, 1] bcast_S12x128_S12x128x1_0_1 (A3 m c)) _ = _
  have h : ∀ y : S12x128x128.Idx, (y 0).val = g.val → (y 1).val = i.val →
      broadcastInDim S12x128x128 ![0, 1, 2] bcast_S12x128x1_S12x128x128_0_1_2 (broadcastInDim S12x128x1 ![0, 1] bcast_S12x128_S12x128x1_0_1 (A3 m c)) y = A3 m c (ix2 g i) := fun y h0 h1 => by
    rw [eq_ix3 y, show y 0 = g from Fin.ext h0, show y 1 = i from Fin.ext h1]
    pointwise
  refine h _ ?_ ?_
  · show win0_3.index t 0 * 12 + 1 * g.val = g.val; rw [(index3 t).1]; omega
  · show win0_3.index t 1 * 128 + 1 * i.val = i.val; rw [(index3 t).2.1]; omega

/-- What a grid point leaves in its tile. -/
theorem tileAt (t : Fin cfg0.N) (r : Fin 128) (f : Fin 1536) :
    out0_A_4 (F := Ideal) c (grid0.coords t) (ms0_0 t) (hs0_0 t) (ms0_1 t) (hs0_1 t) (ms0_2 t) (hs0_2 t) (ms0_3 t) (hs0_3 t) (ms0_4 t) (hs0_4 t) (X0_0 m c t) (iblk m c 1 t) (iblk m c 2 t) (iblk m c 3 t) (ix2 r f)
      = entry (A0 m c) (A1 m c) (A2 m c) (A3 m c) (row t r) f := by
  rw [tile _ _ _ _ _ _ _ _ _ _ _ _ _ _ _ _ (fun g i => A3 m c (ix2 g i)) fun g i j => blk3 m c t g i j]
  simp only [blk0, blk1, blk2]
  have e : ∀ u : Fin 128, chunk (row t r) u = row t u := fun u => Fin.ext (by
    show (t.val * 128 + r.val) / 128 * 128 + u.val = t.val * 128 + u.val
    omega)
  have e' : (⟨(row t r).val % 128, by omega⟩ : Fin 128) = r := Fin.ext (by show (t.val * 128 + r.val) % 128 = r.val; omega)
  unfold entry
  rw [e']
  simp only [e]

/-- The result is the gated rows. -/
theorem final : (dats m 0 c).arrAt 4 cfg0.N = arr2 (entry (A0 m c) (A1 m c) (A2 m c) (A3 m c)) := by
  refine (dats m 0 c).arrAt_eq_of_cover 4 _ (fun t _ => ?_) fun i => ?_
  · rw [flushed4_A]
    funext j
    rw [View.read_apply]
    refine Eq.trans (b := entry (A0 m c) (A1 m c) (A2 m c) (A3 m c) (row t (j 0)) (j 1)) ?_ (entry_arr2 _ _ _ _ ?_ ?_)
    · exact (congrArg _ (eq_ix2 _)).trans (tileAt m c t _ _)
    · show t.val * 128 + (j 0).val = win0_4.index t 0 * 128 + 1 * (j 0).val
      rw [(index4 t).1]; omega
    · show (j 1).val = win0_4.index t 1 * 1536 + 1 * (j 1).val
      rw [(index4 t).2]; omega
  · have h0 : (i 0 : Nat) < 2048 := (i 0).isLt
    have h1 : (i 1 : Nat) < 1536 := (i 1).isLt
    have hlt : (i 0 : Nat) / 128 < cfg0.N := by show _ < 16; omega
    refine ⟨⟨(i 0 : Nat) / 128, hlt⟩, flush0_4 _, ?_⟩
    generalize ht : (⟨(i 0 : Nat) / 128, hlt⟩ : Fin cfg0.N) = t
    have hv : t.val = (i 0 : Nat) / 128 := by rw [← ht]
    show i ∈ ((View.whole main_v3).slice (win0_4.rect t)).set
    rw [View.set_slice_whole, Rect.mem_set_unit]
    intro a
    match a with
    | ⟨0, _⟩ => show win0_4.index t 0 * 128 ≤ (i 0 : Nat) ∧ (i 0 : Nat) < win0_4.index t 0 * 128 + 128
                rw [(index4 t).1]; omega
    | ⟨1, _⟩ => show win0_4.index t 1 * 1536 ≤ (i 1 : Nat) ∧ (i 1 : Nat) < win0_4.index t 1 * 1536 + 1536
                rw [(index4 t).2]; omega

end Kern

section Ref
open Cert.Reference32Ideal Cert.Reference32Ideal.Gen Cert.Reference32Ideal.Read

variable (x0 : Arr2 2048 3584) (x1 : Arr1 1536) (x2 : Arr3 12 128 128) (x3 : Arr2 12 128)

/-- The gelu of the projection. -/
theorem refGelu (r : Fin 2048) (l : Fin 3072) : val_main_v9 (F := Ideal) x0 (ix3 0 r l) = gelu root (rowAt x0 r l) := by
  unfold val_main_v9 val_main_v8 val_main_v7 val_main_v6 val_main_v5 val_main_v4 val_main_v3 val_main_v1 val_main_v0 val_main_cst val_main_cst_0
  pointwise
  rw [EReal.neg_mul, Ideal.erfc_neg]
  show half * rowAt x0 r l * (1 + Ideal.erf (rowAt x0 r l * root)) = rowAt x0 r l * (half * (1 + Ideal.erf (rowAt x0 r l * root)))
  rw [mul_comm half, mul_assoc]

/-- The gate's columns. -/
theorem refU (r : Fin 2048) (f : Fin 1536) : val_main_v10 (F := Ideal) x0 (ix3 0 r f) = uAt root (rowAt x0 r) f := by
  unfold val_main_v10
  pointwise
  rw [refGelu]
  rfl

/-- The columns mixed. -/
theorem refV (r : Fin 2048) (f : Fin 1536) : val_main_v11 (F := Ideal) x0 (ix3 0 r f) = vAt root (rowAt x0 r) f := by
  unfold val_main_v11
  pointwise
  rw [refGelu]
  rfl

/-- One over the root of the mean of their squares. -/
theorem refInv (r : Fin 2048) (z : Fin 1) : val_main_v19 (F := Ideal) x0 (ix3 0 r z) = inv ((1536 : ℝ) : EReal) (vAt root (rowAt x0 r)) := by
  unfold val_main_v19 val_main_v18 val_main_v17 val_main_cst_3 val_main_v16 val_main_v15 val_main_cst_2 val_main_v14 val_main_v13 val_main_cst_1 val_main_v12
  pointwise
  simp only [refV]
  rw [word1536]
  rfl

/-- They, normed. -/
theorem refVn (r : Fin 2048) (f : Fin 1536) : val_main_v24 (F := Ideal) x0 x1 (ix3 0 r f) = vnAt root (rowAt x0 r) (fun l => x1 (ix1 l)) f := by
  unfold val_main_v24 val_main_v23 val_main_v22 val_main_v21 val_main_v20
  pointwise
  rw [refV, refInv]
  rfl

/-- They, as an array of rows and columns read at any index. -/
theorem refVn' (i : S1x2048x1536.Idx) (r : Fin 2048) (f : Fin 1536) (h1 : (i 1).val = r.val) (h2 : (i 2).val = f.val) :
    val_main_v24 (F := Ideal) x0 x1 i = vnAt root (rowAt x0 r) (fun l => x1 (ix1 l)) f := by
  rw [eq_ix3 i, show i 0 = (0 : Fin 1) from Subsingleton.elim (α := Fin 1) _ _, show i 1 = r from Fin.ext h1, show i 2 = f from Fin.ext h2]
  exact refVn x0 x1 r f

/-- The mixed rows. -/
theorem refMixed (r : Fin 2048) (f : Fin 1536) : val_main_v32 (F := Ideal) x0 x1 x2 x3 (ix3 0 r f)
    = mixed root (fun t => rowAt x0 (chunk r t)) (fun l => x1 (ix1 l)) (fun g i t => x2 (ix3 g i t)) (fun g i => x3 (ix2 g i)) ⟨r.val % 128, by omega⟩ f := by
  rw [val_main_v32_apply, val_main_v31_apply, val_main_v27_apply, val_main_v26_apply, val_main_v30_apply, val_main_v29_apply, val_main_v28_apply, val_main_v2_apply]
  unfold mixed
  show _ + _ = _
  congr 1
  · refine Finset.sum_congr rfl fun k _ => ?_
    rw [val_main_v25_apply, mul_comm, refVn' x0 x1 _ (chunk r k) f]
    · congr 2
      funext a
      apply Fin.ext
      match a with
      | ⟨0, _⟩ => show ((0 * 2048 + r.val) * 1536 + f.val) / 128 % 12 = f.val / 128; omega
      | ⟨1, _⟩ => show ((0 * 2048 + r.val) * 1536 + f.val) / 1536 % 128 = r.val % 128; omega
      | ⟨2, _⟩ => rfl
    · show ((((0 * 16 + ((0 * 2048 + r.val) * 1536 + f.val) / 196608 % 16) * 128 + k.val) * 12 + ((0 * 2048 + r.val) * 1536 + f.val) / 128 % 12) * 128 + ((0 * 2048 + r.val) * 1536 + f.val) % 128) / 1536 % 2048 = r.val / 128 * 128 + k.val; omega
    · show ((((0 * 16 + ((0 * 2048 + r.val) * 1536 + f.val) / 196608 % 16) * 128 + k.val) * 12 + ((0 * 2048 + r.val) * 1536 + f.val) / 128 % 12) * 128 + ((0 * 2048 + r.val) * 1536 + f.val) % 128) % 1536 = f.val; omega
  · congr 1
    funext a
    apply Fin.ext
    match a with
    | ⟨0, _⟩ => show ((0 * 2048 + r.val) * 1536 + f.val) / 128 % 12 = f.val / 128; omega
    | ⟨1, _⟩ => show ((0 * 2048 + r.val) * 1536 + f.val) / 1536 % 128 = r.val % 128; omega

/-- The reference's result is the gated rows. -/
theorem ref : val_main_v35 (F := Ideal) x0 x1 x2 x3 = arr2 (entry x0 x1 x2 x3) :=
  eq_arr2 _ _ fun r f => by
    unfold val_main_v35 val_main_v34 val_main_v33
    pointwise
    rw [refU, refMixed]
    have e : r = chunk r ⟨r.val % 128, by omega⟩ := Fin.ext (by show r.val = r.val / 128 * 128 + r.val % 128; omega)
    unfold entry gated
    exact congrArg (fun q => uAt root (rowAt x0 q) f * _) e

/-- The reference runs, its arguments end unchanged, and no signal is left. -/
theorem refFrame : Cert.quiescent_Reference32Ideal := fun m ρ _ =>
  (θ_run defs _ _).mono (fun r h => ⟨fun c => (h c).2, Idealize.ShloMosaic.sem_eq_zero_of_no_sems (by decide) r.2⟩)
    (Cert.Reference32Ideal.Value.run (F := Ideal) m ρ)

end Ref

/-- Kernel and reference end with the same array, whatever the arguments hold. -/
theorem algebraic : Cert.algebraic_Kernel32Ideal_Reference32Ideal := by
  intro m g m' g' _ hargs
  refine ⟨fun c => arr2 (entry (A0 m c) (A1 m c) (A2 m c) (A3 m c)), ?_, ?_⟩
  · exact (θ_run Cert.Kernel32Ideal.defs _ _).mono (fun r h c => ⟨(h c).1.trans (final m c), (h c).2⟩) (Cert.Kernel32Ideal.Value.run_blocks m g)
  · refine (θ_run Cert.Reference32Ideal.defs _ _).mono (fun r h c => ⟨(h c).1.trans ?_, (h c).2⟩) (Cert.Reference32Ideal.Value.run (F := Ideal) m' g')
    obtain ⟨e0, e1, e2, e3⟩ := hargs c
    rw [Cert.Reference32Ideal.Read.val_main_v35_eq, e0, e1, e2, e3]; exact ref _ _ _ _

end Cert.GateFwd

end
-- ==== Proof.ConvFwd.lean ====
/- The gated convolution: the kernel's blocks of columns make the reference's columns. -/
module

public import proofs.«01_k».proof.Defs
public import proofs.«01_k».proof.Proof.GateTile
public import proofs.«01_k».proof.Proof.MemMath
public import Idealize.ShloMosaic.Lib.KernelVsHost
public import proofs.«01_k».proof.Proof.Gen.Kernel33Ideal.Value
public import proofs.«01_k».proof.Proof.Gen.Reference33Ideal.Read

@[expose] public section

set_option maxRecDepth 16384

noncomputable section

namespace Cert.ConvFwd

open Idealize.ShloMosaic Idealize.ShloMosaic.TcCoe Idealize.SL.Sem Cert.Prod Cert.Norm Cert.Gate

/-- A column one row down, with zero at the top. -/
def before (x : Fin 2048 → EReal) (r : Fin 2048) : EReal := if r.val = 0 then 0 else x ⟨r.val - 1, by omega⟩

/-- A column one row up, with zero at the bottom. -/
def after (x : Fin 2048 → EReal) (r : Fin 2048) : EReal := if h : r.val = 2047 then 0 else x ⟨r.val + 1, by omega⟩

/-- Three taps of a column, and a bias. -/
def conv (x : Fin 2048 → EReal) (w : Fin 3 → EReal) (b : EReal) (r : Fin 2048) : EReal :=
  before x r * w 0 + x r * w 1 + after x r * w 2 + b

/-- A number gated by a gelu of another: the error function's form. -/
def act (g v : EReal) : EReal := half * g * (1 + Ideal.erf (g * GateFwd.root)) * v

/-- A column of the taps' outputs. -/
def col (X : Arr2 2048 11264) (W : Arr2 3 11264) (B : Arr1 11264) (l : Fin 11264) (r : Fin 2048) : EReal :=
  conv (fun i => X (ix2 i l)) (fun k => W (ix2 k l)) (B (ix1 l)) r

/-- One entry: a column of the first half gates its column of the second. -/
def entry (X : Arr2 2048 11264) (W : Arr2 3 11264) (B : Arr1 11264) (r : Fin 2048) (f : Fin 5632) : EReal :=
  act (col X W B ⟨f.val, by omega⟩ r) (col X W B ⟨5632 + f.val, by omega⟩ r)

/-- The zero word. -/
theorem zeroWord : (FloatOps.ofBits FTy.f32 0#32 : Ideal .f32) = (0 : EReal) := Ideal.ofBits_zero_f32

section Kern
open Cert.Kernel33Ideal Cert.Kernel33Ideal.Gen Cert.Kernel33Ideal.Value Idealize.ShloMosaic.Pipeline

section Tile
variable (x y : Vec Ideal S2048x256 .f32) (w u : Vec Ideal S3x256 .f32) (b d : Vec Ideal S1x256 .f32) (r : Fin 2048) (f : Fin 256)

/-- The rotation down, its first row cleared. -/
theorem pay3 : k0_pay3 (F := Ideal) x (ix2 r f) = before (fun i => x (ix2 i f)) r := by
  unfold k0_pay3 before
  simp only [hlo_ix]
  rw [zeroWord]
  have e : (BitVec.ofNat 32 (ix2 r f 0 : Fin 2048).val).toNat = (0#32).toNat ↔ r.val = 0 := by
    show (BitVec.ofNat 32 r.val).toNat = 0 ↔ _
    rw [BitVec.toNat_ofNat, Nat.mod_eq_of_lt (by omega)]
  by_cases h : r.val = 0
  · rw [if_pos h]; exact if_pos (e.2 h)
  · rw [if_neg h]
    refine (if_neg fun q => h (e.1 q)).trans ?_
    refine Idealize.ShloMosaic.dynamicRotate_apply 0 1#32 x rotates_S2048x256_d0 (ix2 r f) _ fun a => ?_
    match a with
    | ⟨0, _⟩ => show r.val - 1 = (r.val + 2048 - 1 % 2048) % 2048; omega
    | ⟨1, _⟩ => rfl

/-- The rotation up, its last row cleared. -/
theorem pay456 : select (k0_pay4) (k0_pay6 (F := Ideal)) (k0_pay5 (F := Ideal) x) (ix2 r f) = after (fun i => x (ix2 i f)) r := by
  unfold k0_pay4 k0_pay5 k0_pay6 after
  simp only [hlo_ix]
  rw [zeroWord]
  have e : (BitVec.ofNat 32 (ix2 r f 0 : Fin 2048).val).toNat = (2047#32).toNat ↔ r.val = 2047 := by
    show (BitVec.ofNat 32 r.val).toNat = 2047 ↔ _
    rw [BitVec.toNat_ofNat, Nat.mod_eq_of_lt (by omega)]
  by_cases h : r.val = 2047
  · rw [dif_pos h]; exact if_pos (e.2 h)
  · rw [dif_neg h]
    refine (if_neg fun q => h (e.1 q)).trans ?_
    refine Idealize.ShloMosaic.dynamicRotate_apply 0 2047#32 x rotates_S2048x256_d0 (ix2 r f) _ fun a => ?_
    match a with
    | ⟨0, _⟩ => show r.val + 1 = (r.val + 2048 - 2047 % 2048) % 2048; omega
    | ⟨1, _⟩ => rfl

/-- One row of the taps, over all rows. -/
theorem tap0 : broadcastTo S2048x256 (extractStridedSlice S1x256 ![0, 0] w slices_S3x256_o0_0_S1x256) broadcasts_S1x256_S2048x256 (ix2 r f) = w (ix2 0 f) := by
  pointwise
theorem tap1 : broadcastTo S2048x256 (extractStridedSlice S1x256 ![1, 0] w slices_S3x256_o1_0_S1x256) broadcasts_S1x256_S2048x256 (ix2 r f) = w (ix2 1 f) := by
  pointwise
theorem tap2 : broadcastTo S2048x256 (extractStridedSlice S1x256 ![2, 0] w slices_S3x256_o2_0_S1x256) broadcasts_S1x256_S2048x256 (ix2 r f) = w (ix2 2 f) := by
  pointwise
/-- The biases, over all rows. -/
theorem row0 : broadcastTo S2048x256 (shapeCast S1x256 b shapeCasts_S1x256_S1x256) broadcasts_S1x256_S2048x256 (ix2 r f) = b (ix2 0 f) := by
  pointwise

/-- The taps of a tile's half. -/
theorem pay2 : k0_pay2 (F := Ideal) x w b (ix2 r f) = conv (fun i => x (ix2 i f)) (fun k => w (ix2 k f)) (b (ix2 0 f)) r := by
  have h1 := pay3 x r f
  have h2 := pay456 x r f
  unfold conv
  rw [← h1, ← h2]
  unfold k0_pay2
  show k0_pay3 x (ix2 r f) * broadcastTo S2048x256 (extractStridedSlice S1x256 ![0, 0] w slices_S3x256_o0_0_S1x256) broadcasts_S1x256_S2048x256 (ix2 r f)
      + x (ix2 r f) * broadcastTo S2048x256 (extractStridedSlice S1x256 ![1, 0] w slices_S3x256_o1_0_S1x256) broadcasts_S1x256_S2048x256 (ix2 r f)
      + select k0_pay4 k0_pay6 (k0_pay5 x) (ix2 r f) * broadcastTo S2048x256 (extractStridedSlice S1x256 ![2, 0] w slices_S3x256_o2_0_S1x256) broadcasts_S1x256_S2048x256 (ix2 r f)
      + broadcastTo S2048x256 (shapeCast S1x256 b shapeCasts_S1x256_S1x256) broadcasts_S1x256_S2048x256 (ix2 r f) = _
  rw [tap0, tap1, tap2, row0]

/-- What one grid point leaves in its tile. -/
theorem pay1 : k0_pay1 (F := Ideal) (k0_pay2 x w b) y (k0_pay3 y) k0_pay4 (k0_pay5 y) k0_pay6 u d (ix2 r f)
    = act (conv (fun i => x (ix2 i f)) (fun k => w (ix2 k f)) (b (ix2 0 f)) r)
        (conv (fun i => y (ix2 i f)) (fun k => u (ix2 k f)) (d (ix2 0 f)) r) := by
  rw [← pay2, ← pay2 y u d]
  unfold act k0_pay1
  generalize k0_pay2 (F := Ideal) x w b = g
  show half * g (ix2 r f) * (Ideal.ofBits .f32 0x3F800000#32 + Ideal.erf (g (ix2 r f) * GateFwd.root)) * k0_pay2 y u d (ix2 r f) = _
  rw [Mem.oneWord]

end Tile

variable (m : (ℓ : Loc nD τ sig) → Buf (Elt Ideal) ℓ) (c : Dev nD)

/-- The projection on a device. -/
abbrev A0 : Arr2 2048 11264 := m ((c.tc : Thread nD τ).loc main_arg0)
/-- The taps on a device. -/
abbrev A1 : Arr2 3 11264 := m ((c.tc : Thread nD τ).loc main_arg1)
/-- The biases on a device. -/
abbrev A2 : Arr1 11264 := m ((c.tc : Thread nD τ).loc main_arg2)

theorem index0 : ∀ t : Fin cfg0.N, win0_0.index t 0 = 0 ∧ win0_0.index t 1 = t.val :=
  (by decide +kernel : ∀ t : Fin grid0.N, _)
theorem index1 : ∀ t : Fin cfg0.N, win0_1.index t 0 = 0 ∧ win0_1.index t 1 = t.val + 22 :=
  (by decide +kernel : ∀ t : Fin grid0.N, _)
theorem index2 : ∀ t : Fin cfg0.N, win0_2.index t 0 = 0 ∧ win0_2.index t 1 = t.val :=
  (by decide +kernel : ∀ t : Fin grid0.N, _)
theorem index3 : ∀ t : Fin cfg0.N, win0_3.index t 0 = 0 ∧ win0_3.index t 1 = t.val + 22 :=
  (by decide +kernel : ∀ t : Fin grid0.N, _)
theorem index4 : ∀ t : Fin cfg0.N, win0_4.index t 0 = 0 ∧ win0_4.index t 1 = t.val :=
  (by decide +kernel : ∀ t : Fin grid0.N, _)
theorem index5 : ∀ t : Fin cfg0.N, win0_5.index t 0 = 0 ∧ win0_5.index t 1 = t.val + 22 :=
  (by decide +kernel : ∀ t : Fin grid0.N, _)
theorem index6 : ∀ t : Fin cfg0.N, win0_6.index t 0 = 0 ∧ win0_6.index t 1 = t.val :=
  (by decide +kernel : ∀ t : Fin grid0.N, _)

/-- The gate's column that a column of a grid point's tile is. -/
def gcol (t : Fin cfg0.N) (f : Fin 256) : Fin 11264 := ⟨t.val * 256 + f.val, by have : t.val < 22 := t.isLt; omega⟩

/-- The value's column that a column of a grid point's tile is. -/
def vcol (t : Fin cfg0.N) (f : Fin 256) : Fin 11264 := ⟨(t.val + 22) * 256 + f.val, by have : t.val < 22 := t.isLt; omega⟩

/-- A grid point's columns of the gate. -/
theorem blk0 (t : Fin cfg0.N) (r : Fin 2048) (f : Fin 256) : (iblk m c 0 t : Vec Ideal S2048x256 .f32) (ix2 r f) = A0 m c (ix2 r (gcol t f)) := by
  unfold iblk
  rw [View.read_apply]
  show A0 m c _ = A0 m c _
  congr 1
  funext a
  apply Fin.ext
  match a with
  | ⟨0, _⟩ => show win0_0.index t 0 * 2048 + 1 * r.val = r.val; rw [(index0 t).1]; omega
  | ⟨1, _⟩ => show win0_0.index t 1 * 256 + 1 * f.val = t.val * 256 + f.val; rw [(index0 t).2]; omega

/-- A grid point's columns of the value. -/
theorem blk1 (t : Fin cfg0.N) (r : Fin 2048) (f : Fin 256) : (iblk m c 1 t : Vec Ideal S2048x256 .f32) (ix2 r f) = A0 m c (ix2 r (vcol t f)) := by
  unfold iblk
  rw [View.read_apply]
  show A0 m c _ = A0 m c _
  congr 1
  funext a
  apply Fin.ext
  match a with
  | ⟨0, _⟩ => show win0_1.index t 0 * 2048 + 1 * r.val = r.val; rw [(index1 t).1]; omega
  | ⟨1, _⟩ => show win0_1.index t 1 * 256 + 1 * f.val = (t.val + 22) * 256 + f.val; rw [(index1 t).2]; omega

/-- A grid point's taps of the gate. -/
theorem blk2 (t : Fin cfg0.N) (k : Fin 3) (f : Fin 256) : (iblk m c 2 t : Vec Ideal S3x256 .f32) (ix2 k f) = A1 m c (ix2 k (gcol t f)) := by
  unfold iblk
  rw [View.read_apply]
  show A1 m c _ = A1 m c _
  congr 1
  funext a
  apply Fin.ext
  match a with
  | ⟨0, _⟩ => show win0_2.index t 0 * 3 + 1 * k.val = k.val; rw [(index2 t).1]; omega
  | ⟨1, _⟩ => show win0_2.index t 1 * 256 + 1 * f.val = t.val * 256 + f.val; rw [(index2 t).2]; omega

/-- A grid point's taps of the value. -/
theorem blk3 (t : Fin cfg0.N) (k : Fin 3) (f : Fin 256) : (iblk m c 3 t : Vec Ideal S3x256 .f32) (ix2 k f) = A1 m c (ix2 k (vcol t f)) := by
  unfold iblk
  rw [View.read_apply]
  show A1 m c _ = A1 m c _
  congr 1
  funext a
  apply Fin.ext
  match a with
  | ⟨0, _⟩ => show win0_3.index t 0 * 3 + 1 * k.val = k.val; rw [(index3 t).1]; omega
  | ⟨1, _⟩ => show win0_3.index t 1 * 256 + 1 * f.val = (t.val + 22) * 256 + f.val; rw [(index3 t).2]; omega

/-- The biases as one row, read at a column. -/
theorem biasRow (i : S1x11264.Idx) (l : Fin 11264) (h : (i 1).val = l.val) :
    shapeCast S1x11264 (A2 m c) shapeCasts_S11264_S1x11264 i = A2 m c (ix1 l) := by
  rw [eq_ix2 i, show i 1 = l from Fin.ext h]
  pointwise

/-- A grid point's biases of the gate. -/
theorem blk4 (t : Fin cfg0.N) (z : Fin 1) (f : Fin 256) : (iblk m c 4 t : Vec Ideal S1x256 .f32) (ix2 z f) = A2 m c (ix1 (gcol t f)) := by
  unfold iblk
  rw [View.read_apply]
  show shapeCast S1x11264 (A2 m c) shapeCasts_S11264_S1x11264 _ = _
  refine biasRow m c _ _ ?_
  show win0_4.index t 1 * 256 + 1 * f.val = t.val * 256 + f.val
  rw [(index4 t).2]; omega

/-- A grid point's biases of the value. -/
theorem blk5 (t : Fin cfg0.N) (z : Fin 1) (f : Fin 256) : (iblk m c 5 t : Vec Ideal S1x256 .f32) (ix2 z f) = A2 m c (ix1 (vcol t f)) := by
  unfold iblk
  rw [View.read_apply]
  show shapeCast S1x11264 (A2 m c) shapeCasts_S11264_S1x11264 _ = _
  refine biasRow m c _ _ ?_
  show win0_5.index t 1 * 256 + 1 * f.val = (t.val + 22) * 256 + f.val
  rw [(index5 t).2]; omega

/-- What a grid point leaves in its tile. -/
theorem tileAt (t : Fin cfg0.N) (r : Fin 2048) (f : Fin 256) :
    out0_6 (F := Ideal) (iblk m c 0 t) (iblk m c 1 t) (iblk m c 2 t) (iblk m c 3 t) (iblk m c 4 t) (iblk m c 5 t) (ix2 r f)
      = act (col (A0 m c) (A1 m c) (A2 m c) (gcol t f) r) (col (A0 m c) (A1 m c) (A2 m c) (vcol t f) r) := by
  unfold out0_6
  rw [View.canon_unit_zero offsets2]
  simp only [View.ld_unit_zero (S := S2048x256) offsets2, View.ld_unit_zero (S := S3x256) offsets2, View.ld_unit_zero (S := S1x256) offsets2]
  rw [pay1]
  simp only [blk0, blk1, blk2, blk3, blk4, blk5]
  rfl

/-- The result is the gated columns. -/
theorem final : (dats m 0 c).arrAt 6 cfg0.N = arr2 (entry (A0 m c) (A1 m c) (A2 m c)) := by
  refine (dats m 0 c).arrAt_eq_of_cover 6 _ (fun t _ => ?_) fun i => ?_
  · rw [flushed6]
    funext j
    rw [View.read_apply]
    have hlt : t.val * 256 + (j 1 : Fin 256).val < 5632 := by
      have : t.val < 22 := t.isLt
      have : (j 1 : Fin 256).val < 256 := (j 1 : Fin 256).isLt
      omega
    refine Eq.trans (b := entry (A0 m c) (A1 m c) (A2 m c) (j 0) ⟨t.val * 256 + (j 1 : Fin 256).val, hlt⟩) ?_ (entry_arr2 _ _ _ _ ?_ ?_)
    · refine (congrArg _ (eq_ix2 _)).trans ((tileAt m c t _ _).trans ?_)
      unfold entry gcol
      have e : vcol t (j 1) = ⟨5632 + (t.val * 256 + (j 1 : Fin 256).val), by omega⟩ := Fin.ext (by
        show (t.val + 22) * 256 + (j 1 : Fin 256).val = 5632 + (t.val * 256 + (j 1 : Fin 256).val)
        omega)
      exact congrArg (fun q => act _ (col _ _ _ q _)) e
    · show (j 0).val = win0_6.index t 0 * 2048 + 1 * (j 0).val
      rw [(index6 t).1]; omega
    · show t.val * 256 + (j 1).val = win0_6.index t 1 * 256 + 1 * (j 1).val
      rw [(index6 t).2]; omega
  · have h0 : (i 0 : Nat) < 2048 := (i 0).isLt
    have h1 : (i 1 : Nat) < 5632 := (i 1).isLt
    have hlt : (i 1 : Nat) / 256 < cfg0.N := by show _ < 22; omega
    refine ⟨⟨(i 1 : Nat) / 256, hlt⟩, flush0_6 _, ?_⟩
    generalize ht : (⟨(i 1 : Nat) / 256, hlt⟩ : Fin cfg0.N) = t
    have hv : t.val = (i 1 : Nat) / 256 := by rw [← ht]
    show i ∈ ((View.whole main_v1).slice (win0_6.rect t)).set
    rw [View.set_slice_whole, Rect.mem_set_unit]
    intro a
    match a with
    | ⟨0, _⟩ => show win0_6.index t 0 * 2048 ≤ (i 0 : Nat) ∧ (i 0 : Nat) < win0_6.index t 0 * 2048 + 2048
                rw [(index6 t).1]; omega
    | ⟨1, _⟩ => show win0_6.index t 1 * 256 ≤ (i 1 : Nat) ∧ (i 1 : Nat) < win0_6.index t 1 * 256 + 256
                rw [(index6 t).2]; omega

end Kern

section Ref
open Cert.Reference33Ideal Cert.Reference33Ideal.Gen Cert.Reference33Ideal.Read

variable (x0 : Arr2 2048 11264) (x1 : Arr2 3 11264) (x2 : Arr1 11264)

/-- The added rows are zero. -/
theorem refEdge (i : S1x2050x11264.Idx) (h : (i 1).val = 0 ∨ (i 1).val = 2049) : val_main_v1 (F := Ideal) x0 i = (0 : EReal) := by
  unfold val_main_v1
  rw [pad_apply_of_not_inside _ _ _ _ _ _ _ _ (1 : Fin 3) fun hh => ?_]
  · rw [val_main_call0_v0_apply, val_main_c_apply]
    show (((0#32).toInt : ℝ) : EReal) = 0
    simp
  · have h1 : 1 ≤ (i 1).val := hh.1
    have h2 : ((i 1).val - 1) / 1 < 2048 := hh.2.2
    omega

/-- The rows between are the array's. -/
theorem refMid (i : S1x2050x11264.Idx) (r : Fin 2048) (l : Fin 11264) (h : (i 1).val = 1 + r.val) (hl : (i 2).val = l.val) :
    val_main_v1 (F := Ideal) x0 i = x0 (ix2 r l) := by
  unfold val_main_v1
  rw [pad_apply_of_inside _ _ _ _ _ _ _ _ (ix3 0 r l) fun a => match a with
    | ⟨0, _⟩ => by show (i 0).val = 0 + 0 * (0 + 1); have : (i 0).val < 1 := (i 0).isLt; omega
    | ⟨1, _⟩ => by show (i 1).val = 1 + r.val * (0 + 1); omega
    | ⟨2, _⟩ => by show (i 2).val = 0 + l.val * (0 + 1); omega]
  unfold val_main_v0
  pointwise

/-- The rows one above. -/
theorem refBefore (r : Fin 2048) (l : Fin 11264) : val_main_v2 (F := Ideal) x0 (ix3 0 r l) = before (fun i => x0 (ix2 i l)) r := by
  rw [val_main_v2_apply]
  unfold before
  by_cases h : r.val = 0
  · rw [if_pos h]; exact refEdge x0 _ (Or.inl h)
  · rw [if_neg h]; exact refMid x0 _ _ _ (by show r.val = 1 + (r.val - 1); omega) rfl

/-- The rows themselves. -/
theorem refHere (r : Fin 2048) (l : Fin 11264) : val_main_v8 (F := Ideal) x0 (ix3 0 r l) = x0 (ix2 r l) := by
  rw [val_main_v8_apply]
  exact refMid x0 _ _ _ rfl rfl

/-- The rows one below. -/
theorem refAfter (r : Fin 2048) (l : Fin 11264) : val_main_v15 (F := Ideal) x0 (ix3 0 r l) = after (fun i => x0 (ix2 i l)) r := by
  rw [val_main_v15_apply]
  unfold after
  by_cases h : r.val = 2047
  · rw [dif_pos h]; exact refEdge x0 _ (by show 2 + r.val = 0 ∨ 2 + r.val = 2049; omega)
  · rw [dif_neg h]; exact refMid x0 _ _ _ (by show 2 + r.val = 1 + (r.val + 1); omega) rfl

/-- The taps' outputs. -/
theorem refCol (r : Fin 2048) (l : Fin 11264) : val_main_v24 (F := Ideal) x0 x1 x2 (ix3 0 r l) = col x0 x1 x2 l r := by
  unfold val_main_v24 val_main_v23 val_main_v22 val_main_v21 val_main_v20 val_main_v19 val_main_v18 val_main_v17 val_main_v16 val_main_v14 val_main_v13 val_main_v12 val_main_v11 val_main_v10 val_main_v9 val_main_v7 val_main_v6 val_main_v5 val_main_v4 val_main_v3
  pointwise
  rw [refBefore, refHere, refAfter]
  rfl

/-- The reference's result is the gated columns. -/
theorem ref : val_main_v36 (F := Ideal) x0 x1 x2 = arr2 (entry x0 x1 x2) :=
  eq_arr2 _ _ fun r f => by
    unfold val_main_v36 val_main_v35 val_main_v34 val_main_v33 val_main_v32 val_main_v31 val_main_v30 val_main_v29 val_main_v28 val_main_v27 val_main_v26 val_main_v25 val_main_cst val_main_cst_0
    pointwise
    rw [refCol, refCol, EReal.neg_mul, Ideal.erfc_neg]
    rfl

/-- The reference runs, its arguments end unchanged, and no signal is left. -/
theorem refFrame : Cert.quiescent_Reference33Ideal := fun m ρ _ =>
  (θ_run defs _ _).mono (fun r h => ⟨fun c => (h c).2, Idealize.ShloMosaic.sem_eq_zero_of_no_sems (by decide) r.2⟩)
    (Cert.Reference33Ideal.Value.run (F := Ideal) m ρ)

end Ref

/-- Kernel and reference end with the same array, whatever the arguments hold. -/
theorem algebraic : Cert.algebraic_Kernel33Ideal_Reference33Ideal := by
  intro m g m' g' _ hargs
  refine ⟨fun c => arr2 (entry (A0 m c) (A1 m c) (A2 m c)), ?_, ?_⟩
  · exact (θ_run Cert.Kernel33Ideal.defs _ _).mono (fun r h c => ⟨(h c).1.trans (final m c), (h c).2⟩) (Cert.Kernel33Ideal.Value.run_blocks m g)
  · refine (θ_run Cert.Reference33Ideal.defs _ _).mono (fun r h c => ⟨(h c).1.trans ?_, (h c).2⟩) (Cert.Reference33Ideal.Value.run (F := Ideal) m' g')
    obtain ⟨e0, e1, e2⟩ := hargs c
    rw [Cert.Reference33Ideal.Read.val_main_v36_eq, e0, e1, e2]; exact ref _ _ _

end Cert.ConvFwd

end
-- ==== Proof.Adam.lean ====
/- The optimiser's step on one element, and that packing arrays of several shapes into one array of rows commutes with a
   step taken element by element. -/
module

public import Idealize.ShloMosaic.Lib.Pointwise

@[expose] public section

noncomputable section

namespace Cert.Adam

open Idealize.ShloMosaic

/-- The new first moment, of the gradient and the old moment. -/
def first (g m : EReal) : EReal := Ideal.ofBits .f32 0x3F666666#32 * m + Ideal.ofBits .f32 0x3DCCCCCD#32 * g

/-- The new second moment, of the gradient and the old moment. -/
def second (g v : EReal) : EReal :=
  Ideal.ofBits .f32 0x3F7FBE77#32 * v + Ideal.ofBits .f32 0x3A83126F#32 * (g * g)

/-- The change of a weight, of the weight, its gradient and its two old moments. -/
def delta (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- The first moment's step takes zeros to zero. -/
theorem first_zero : first 0 0 = 0 := by simp [first]

/-- The second moment's step takes zeros to zero. -/
theorem second_zero : second 0 0 = 0 := by simp [second]

/-- The two corrections and the small constant are not zero. -/
theorem consts : Ideal.ofBits .f32 0x3F26BD02#32 ≠ (0 : EReal) ∧ Ideal.ofBits .f32 0x3C231ACC#32 ≠ (0 : EReal)
    ∧ Ideal.ofBits .f32 0x322BCC77#32 ≠ (0 : EReal) := by
  refine ⟨?_, ?_, ?_⟩ <;> · simp [Ideal.ofBits, Ideal.ieee, -EReal.coe_mul]

/-- Zero over a nonzero number is zero. -/
theorem div_zero_left {y : EReal} (hy : y ≠ 0) : Ideal.div 0 y = 0 := by simp [Ideal.div, hy]

/-- The root of zero is zero. -/
theorem sqrt_zero : Ideal.sqrt 0 = 0 := by
  show (if (0 : ℝ) < 0 then (⊥ : EReal) else ((Real.sqrt 0 : ℝ) : EReal)) = 0
  simp

/-- The weight's step takes zeros to zero. -/
theorem delta_zero : delta 0 0 0 0 = 0 := by
  unfold delta
  rw [first_zero, second_zero, div_zero_left consts.1, div_zero_left consts.2.1, sqrt_zero, zero_add, div_zero_left consts.2.2]
  simp

/-- Several arrays of possibly different shapes. -/
abbrev Pieces := List ((s : Shape) × (s.Idx → EReal))

/-- The arrays of the last list are those of the four others, taken element by element through `E`. -/
inductive Each (E : EReal → EReal → EReal → EReal → EReal) : Pieces → Pieces → Pieces → Pieces → Pieces → Prop
  | nil : Each E [] [] [] [] []
  | cons {s : Shape} (w g m v : s.Idx → EReal) {ws gs ms vs xs : Pieces} (h : Each E ws gs ms vs xs) :
      Each E (⟨s, w⟩ :: ws) (⟨s, g⟩ :: gs) (⟨s, m⟩ :: ms) (⟨s, v⟩ :: vs) (⟨s, fun i => E (w i) (g i) (m i) (v i)⟩ :: xs)

variable {E : EReal → EReal → EReal → EReal → EReal} {ws gs ms vs xs : Pieces}

/-- Arrays laid one after another, read from a place on: the step of the arrays is the step of what is read. -/
theorem at_each (H : Each E ws gs ms vs xs) (t : Shape) (a : Fin t.rank) (j : t.Idx) : ∀ hx hw hg hm hv (c : Nat) cx cw cg cm cv,
    concatenateAt t a j xs hx c cx
      = E (concatenateAt t a j ws hw c cw) (concatenateAt t a j gs hg c cg) (concatenateAt t a j ms hm c cm)
          (concatenateAt t a j vs hv c cv) := by
  induction H with
  | nil => intro _ _ _ _ _ c cx; exact absurd cx (Nat.not_lt_zero _)
  | cons w g m v T ih =>
    intro hx hw hg hm hv c cx cw cg cm cv
    cases T with
    | nil => simp only [concatenateAt_singleton]
    | cons w' g' m' v' T' =>
      simp only [concatenateAt_cons]
      split
      · rfl
      · exact ih ..

/-- Arrays laid one after another: the step of the arrays is the step of the whole. -/
theorem concat_each (H : Each E ws gs ms vs xs) (t : Shape) (a : Fin t.rank) (hx hw hg hm hv) :
    concatenate t a xs hx
      = fun j => E (concatenate t a ws hw j) (concatenate t a gs hg j) (concatenate t a ms hm j) (concatenate t a vs hv j) := by
  funext j
  rw [concatenate_apply, concatenate_apply, concatenate_apply, concatenate_apply, concatenate_apply]
  exact at_each H t a j ..

/-- Padding with a value the step keeps: the step of the arrays, padded, is the step of the padded arrays. -/
theorem pad_each {s t : Shape} (lo hi interior : Fin s.rank → Nat) {u : Shape} (z : u.Idx → EReal) (hp) (hu)
    (hz : ∀ k, E (z k) (z k) (z k) (z k) = z k) (w g m v : s.Idx → EReal) :
    pad t lo hi interior (fun i => E (w i) (g i) (m i) (v i)) z hp hu
      = fun j => E (pad t lo hi interior w z hp hu j) (pad t lo hi interior g z hp hu j) (pad t lo hi interior m z hp hu j)
          (pad t lo hi interior v z hp hu j) := by
  funext j
  unfold pad
  split
  · rfl
  · exact (hz _).symm

/-- Arrays laid one after another and padded: the step of the arrays is the step of the whole. -/
theorem packed (H : Each E ws gs ms vs xs) (s t : Shape) (a : Fin s.rank) (hx hw hg hm hv) (lo hi interior : Fin s.rank → Nat)
    {u : Shape} (z : u.Idx → EReal) (hp) (hu) (hz : ∀ k, E (z k) (z k) (z k) (z k) = z k) (j : t.Idx) :
    pad t lo hi interior (concatenate s a xs hx) z hp hu j
      = E (pad t lo hi interior (concatenate s a ws hw) z hp hu j) (pad t lo hi interior (concatenate s a gs hg) z hp hu j)
          (pad t lo hi interior (concatenate s a ms hm) z hp hu j) (pad t lo hi interior (concatenate s a vs hv) z hp hu j) := by
  rw [concat_each H s a hx hw hg hm hv, pad_each (E := E) lo hi interior z hp hu hz]

end Cert.Adam

end
-- ==== Proof.AdamLayer.lean ====
/- The optimiser's step of one layer of a stacked weight: the kernel's tiles make the reference's layer, the other layers kept. -/
module

public import proofs.«01_k».proof.Defs
public import proofs.«01_k».proof.Proof.Prod
public import proofs.«01_k».proof.Proof.Adam
public import Idealize.ShloMosaic.Lib.Pipeline.Value
public import proofs.«01_k».proof.Proof.Gen.Kernel34Ideal.Value
public import proofs.«01_k».proof.Proof.Gen.Reference34Ideal.Read

@[expose] public section

set_option maxRecDepth 16384

noncomputable section

namespace Cert.AdamLayer

open Idealize.ShloMosaic Idealize.ShloMosaic.TcCoe Idealize.SL.Sem Cert.Prod Cert.Adam

/-- A stacked array whose first layer is new, the others kept. -/
def upd (a : Fin 1408 → Fin 2048 → EReal) (p : Arr3 4 1408 2048) : Arr3 4 1408 2048 :=
  arr3 fun l r f => if l.val = 0 then a r f else p (ix3 l r f)

variable (w m v : Arr3 4 1408 2048) (g : Arr2 1408 2048)

/-- The gradient of the layer. -/
def gAt (r : Fin 1408) (f : Fin 2048) : EReal := g (ix2 r f)
/-- The change of the layer. -/
def dAt (r : Fin 1408) (f : Fin 2048) : EReal := delta (w (ix3 0 r f)) (g (ix2 r f)) (m (ix3 0 r f)) (v (ix3 0 r f))
/-- The layer's first moment. -/
def mAt (r : Fin 1408) (f : Fin 2048) : EReal := first (g (ix2 r f)) (m (ix3 0 r f))
/-- The layer's second moment. -/
def vAt (r : Fin 1408) (f : Fin 2048) : EReal := second (g (ix2 r f)) (v (ix3 0 r f))

/-- An entry of the first layer. -/
theorem upd_first (a : Fin 1408 → Fin 2048 → EReal) (p : Arr3 4 1408 2048) (i : (⟨3, ![4, 1408, 2048]⟩ : Shape).Idx) (h : (i 0).val = 0)
    (r : Fin 1408) (f : Fin 2048) (hr : (i 1).val = r.val) (hf : (i 2).val = f.val) : upd a p i = a r f := by
  have e1 : i 1 = r := Fin.ext hr
  have e2 : i 2 = f := Fin.ext hf
  show (if (i 0).val = 0 then a (i 1) (i 2) else _) = _
  rw [if_pos h, e1, e2]

/-- An entry of another layer. -/
theorem upd_other (a : Fin 1408 → Fin 2048 → EReal) (p : Arr3 4 1408 2048) (i : (⟨3, ![4, 1408, 2048]⟩ : Shape).Idx) (h : ¬(i 0).val = 0) :
    upd a p i = p i := by
  show (if (i 0).val = 0 then a (i 1) (i 2) else p (ix3 (i 0) (i 1) (i 2))) = _
  rw [if_neg h, ← eq_ix3 i]

section Kern
open Cert.Kernel34Ideal Cert.Kernel34Ideal.Gen Cert.Kernel34Ideal.Value Idealize.ShloMosaic.Pipeline

variable (m : (ℓ : Loc nD τ sig) → Buf (Elt Ideal) ℓ) (c : Dev nD)

/-- The weights on a device. -/
abbrev A0 : Arr3 4 1408 2048 := m ((c.tc : Thread nD τ).loc main_arg0)
/-- The first moments on a device. -/
abbrev A1 : Arr3 4 1408 2048 := m ((c.tc : Thread nD τ).loc main_arg1)
/-- The second moments on a device. -/
abbrev A2 : Arr3 4 1408 2048 := m ((c.tc : Thread nD τ).loc main_arg2)
/-- The gradient on a device. -/
abbrev A3 : Arr2 1408 2048 := m ((c.tc : Thread nD τ).loc main_arg3)
/-- The gradients kept on a device. -/
abbrev A4 : Arr3 4 1408 2048 := m ((c.tc : Thread nD τ).loc main_arg4)
/-- The changes kept on a device. -/
abbrev A5 : Arr3 4 1408 2048 := m ((c.tc : Thread nD τ).loc main_arg5)
/-- The first moments kept on a device. -/
abbrev A6 : Arr3 4 1408 2048 := m ((c.tc : Thread nD τ).loc main_arg6)
/-- The second moments kept on a device. -/
abbrev A7 : Arr3 4 1408 2048 := m ((c.tc : Thread nD τ).loc main_arg7)

theorem index0 : ∀ t : Fin cfg0.N, win0_0.index t 0 = 0 ∧ win0_0.index t 1 = t.val ∧ win0_0.index t 2 = 0 :=
  (by decide +kernel : ∀ t : Fin grid0.N, _)
theorem index1 : ∀ t : Fin cfg0.N, win0_1.index t 0 = 0 ∧ win0_1.index t 1 = t.val ∧ win0_1.index t 2 = 0 :=
  (by decide +kernel : ∀ t : Fin grid0.N, _)
theorem index2 : ∀ t : Fin cfg0.N, win0_2.index t 0 = 0 ∧ win0_2.index t 1 = t.val ∧ win0_2.index t 2 = 0 :=
  (by decide +kernel : ∀ t : Fin grid0.N, _)
theorem index4 : ∀ t : Fin cfg0.N, win0_4.index t 0 = 0 ∧ win0_4.index t 1 = t.val ∧ win0_4.index t 2 = 0 :=
  (by decide +kernel : ∀ t : Fin grid0.N, _)
theorem index5 : ∀ t : Fin cfg0.N, win0_5.index t 0 = 0 ∧ win0_5.index t 1 = t.val ∧ win0_5.index t 2 = 0 :=
  (by decide +kernel : ∀ t : Fin grid0.N, _)
theorem index6 : ∀ t : Fin cfg0.N, win0_6.index t 0 = 0 ∧ win0_6.index t 1 = t.val ∧ win0_6.index t 2 = 0 :=
  (by decide +kernel : ∀ t : Fin grid0.N, _)
theorem index7 : ∀ t : Fin cfg0.N, win0_7.index t 0 = 0 ∧ win0_7.index t 1 = t.val ∧ win0_7.index t 2 = 0 :=
  (by decide +kernel : ∀ t : Fin grid0.N, _)
theorem index3 : ∀ t : Fin cfg0.N, win0_3.index t 0 = t.val ∧ win0_3.index t 1 = 0 :=
  (by decide +kernel : ∀ t : Fin grid0.N, _)

/-- The row of the layer that a row of a grid point's tile is. -/
def row (t : Fin cfg0.N) (r : Fin 128) : Fin 1408 := ⟨t.val * 128 + r.val, by have : t.val < 11 := t.isLt; omega⟩

/-- A grid point's rows: the weights. -/
theorem blk0 (t : Fin cfg0.N) (z : Fin 1) (r : Fin 128) (f : Fin 2048) : (iblk m c 0 t : Vec Ideal S1x128x2048 .f32) (ix3 z r f) = A0 m c (ix3 0 (row t r) f) := by
  unfold iblk
  rw [View.read_apply]
  show A0 m c _ = A0 m c _
  congr 1
  funext a
  apply Fin.ext
  match a with
  | ⟨0, _⟩ => show win0_0.index t 0 * 1 + 1 * z.val = 0; rw [(index0 t).1]; omega
  | ⟨1, _⟩ => show win0_0.index t 1 * 128 + 1 * r.val = t.val * 128 + r.val; rw [(index0 t).2.1]; omega
  | ⟨2, _⟩ => show win0_0.index t 2 * 2048 + 1 * f.val = f.val; rw [(index0 t).2.2]; omega

/-- A grid point's rows: the first moments. -/
theorem blk1 (t : Fin cfg0.N) (z : Fin 1) (r : Fin 128) (f : Fin 2048) : (iblk m c 1 t : Vec Ideal S1x128x2048 .f32) (ix3 z r f) = A1 m c (ix3 0 (row t r) f) := by
  unfold iblk
  rw [View.read_apply]
  show A1 m c _ = A1 m c _
  congr 1
  funext a
  apply Fin.ext
  match a with
  | ⟨0, _⟩ => show win0_1.index t 0 * 1 + 1 * z.val = 0; rw [(index1 t).1]; omega
  | ⟨1, _⟩ => show win0_1.index t 1 * 128 + 1 * r.val = t.val * 128 + r.val; rw [(index1 t).2.1]; omega
  | ⟨2, _⟩ => show win0_1.index t 2 * 2048 + 1 * f.val = f.val; rw [(index1 t).2.2]; omega

/-- A grid point's rows: the second moments. -/
theorem blk2 (t : Fin cfg0.N) (z : Fin 1) (r : Fin 128) (f : Fin 2048) : (iblk m c 2 t : Vec Ideal S1x128x2048 .f32) (ix3 z r f) = A2 m c (ix3 0 (row t r) f) := by
  unfold iblk
  rw [View.read_apply]
  show A2 m c _ = A2 m c _
  congr 1
  funext a
  apply Fin.ext
  match a with
  | ⟨0, _⟩ => show win0_2.index t 0 * 1 + 1 * z.val = 0; rw [(index2 t).1]; omega
  | ⟨1, _⟩ => show win0_2.index t 1 * 128 + 1 * r.val = t.val * 128 + r.val; rw [(index2 t).2.1]; omega
  | ⟨2, _⟩ => show win0_2.index t 2 * 2048 + 1 * f.val = f.val; rw [(index2 t).2.2]; omega

/-- A grid point's rows of the gradient. -/
theorem blk3 (t : Fin cfg0.N) (r : Fin 128) (f : Fin 2048) : (iblk m c 3 t : Vec Ideal S128x2048 .f32) (ix2 r f) = A3 m c (ix2 (row t r) f) := by
  unfold iblk
  rw [View.read_apply]
  show A3 m c _ = A3 m c _
  congr 1
  funext a
  apply Fin.ext
  match a with
  | ⟨0, _⟩ => show win0_3.index t 0 * 128 + 1 * r.val = t.val * 128 + r.val; rw [(index3 t).1]; omega
  | ⟨1, _⟩ => show win0_3.index t 1 * 2048 + 1 * f.val = f.val; rw [(index3 t).2]; omega

/-- What a grid point leaves in its tile of the gradient. -/
theorem tile4 (t : Fin cfg0.N) (z : Fin 1) (r : Fin 128) (f : Fin 2048) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (iblk m c 0 t) (iblk m c 1 t) (iblk m c 2 t) (iblk m c 3 t) (ix3 z r f) = gAt (A3 m c) (row t r) f := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _)]
  unfold kernelRun0_A
  dsimp only
  sl_unfold_words
  rw [View.canon_unit_zero offsets3]
  simp only [View.readAt_eq_ld, (hs0_0 t).read_unread, (hs0_1 t).read_unread, (hs0_2 t).read_unread, (hs0_3 t).read_unread,
    View.ld_unit_zero (S := S1x128x2048) offsets3, View.ld_unit_zero (S := S128x2048) offsets2]
  unfold k0_pay7 gAt
  have e3 := blk3 m c t r f
  rw [← e3]
  pointwise

/-- The gradient's array ends with its layer new. -/
theorem final4 : (dats m 0 c).arrAt 4 cfg0.N = upd (gAt (A3 m c)) (A4 m c) := by
  funext i
  have h1 : (i 1 : Nat) < 1408 := (i 1).isLt
  by_cases h : (i 0).val = 0
  · have hlt : (i 1 : Nat) / 128 < cfg0.N := by show _ < 11; omega
    generalize ht : (⟨(i 1 : Nat) / 128, hlt⟩ : Fin cfg0.N) = t
    have hv : t.val = (i 1 : Nat) / 128 := by rw [← ht]
    have b := congrFun (blocks4 m c t (flush0_4 t)) (ix3 0 ⟨(i 1 : Nat) % 128, Nat.mod_lt _ (by decide)⟩ (i 2))
    rw [flushed4_A, View.read_apply] at b
    have e : ((cfg0.win 4).blk t).view.emb (ix3 0 ⟨(i 1 : Nat) % 128, Nat.mod_lt _ (by decide)⟩ (i 2)) = i := by
      funext a
      apply Fin.ext
      match a with
      | ⟨0, _⟩ => show win0_4.index t 0 * 1 + 1 * 0 = (i 0).val; rw [(index4 t).1]; omega
      | ⟨1, _⟩ => show win0_4.index t 1 * 128 + 1 * ((i 1 : Nat) % 128) = (i 1 : Nat); rw [(index4 t).2.1]; omega
      | ⟨2, _⟩ => show win0_4.index t 2 * 2048 + 1 * (i 2).val = (i 2).val; rw [(index4 t).2.2]; omega
    rw [e] at b
    refine b.trans ((tile4 m c t 0 _ _).trans (upd_first _ _ i h _ _ ?_ rfl).symm)
    show (i 1 : Nat) = t.val * 128 + (i 1 : Nat) % 128
    omega
  · rw [upd_other _ _ i h]
    refine (entry4 m c i fun t _ q => ?_).trans rfl
    have q' : i ∈ ((View.whole main_v0_0).slice (win0_4.rect t)).set := q
    rw [View.set_slice_whole, Rect.mem_set_unit] at q'
    have q0 : (i 0 : Nat) < win0_4.index t 0 * 1 + 1 := (q' 0).2
    rw [(index4 t).1] at q0
    omega

/-- What a grid point leaves in its tile of the change. -/
theorem tile5 (t : Fin cfg0.N) (z : Fin 1) (r : Fin 128) (f : Fin 2048) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (iblk m c 0 t) (iblk m c 1 t) (iblk m c 2 t) (iblk m c 3 t) (ix3 z r f) = dAt (A0 m c) (A1 m c) (A2 m c) (A3 m c) (row t r) f := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _)]
  unfold kernelRun0_A
  dsimp only
  sl_unfold_words
  rw [View.canon_unit_zero offsets3]
  simp only [View.readAt_eq_ld, (hs0_0 t).read_unread, (hs0_1 t).read_unread, (hs0_2 t).read_unread, (hs0_3 t).read_unread,
    View.ld_unit_zero (S := S1x128x2048) offsets3, View.ld_unit_zero (S := S128x2048) offsets2]
  unfold k0_pay1 k0_pay6 k0_pay4 k0_pay5 dAt
  have e0 := blk0 m c t 0 r f
  have e1 := blk1 m c t 0 r f
  have e2 := blk2 m c t 0 r f
  have e3 := blk3 m c t r f
  rw [← e3]
  pointwise
  rw [← e0, ← e1, ← e2]
  rfl

/-- The change's array ends with its layer new. -/
theorem final5 : (dats m 0 c).arrAt 5 cfg0.N = upd (dAt (A0 m c) (A1 m c) (A2 m c) (A3 m c)) (A5 m c) := by
  funext i
  have h1 : (i 1 : Nat) < 1408 := (i 1).isLt
  by_cases h : (i 0).val = 0
  · have hlt : (i 1 : Nat) / 128 < cfg0.N := by show _ < 11; omega
    generalize ht : (⟨(i 1 : Nat) / 128, hlt⟩ : Fin cfg0.N) = t
    have hv : t.val = (i 1 : Nat) / 128 := by rw [← ht]
    have b := congrFun (blocks5 m c t (flush0_5 t)) (ix3 0 ⟨(i 1 : Nat) % 128, Nat.mod_lt _ (by decide)⟩ (i 2))
    rw [flushed5_A, View.read_apply] at b
    have e : ((cfg0.win 5).blk t).view.emb (ix3 0 ⟨(i 1 : Nat) % 128, Nat.mod_lt _ (by decide)⟩ (i 2)) = i := by
      funext a
      apply Fin.ext
      match a with
      | ⟨0, _⟩ => show win0_5.index t 0 * 1 + 1 * 0 = (i 0).val; rw [(index5 t).1]; omega
      | ⟨1, _⟩ => show win0_5.index t 1 * 128 + 1 * ((i 1 : Nat) % 128) = (i 1 : Nat); rw [(index5 t).2.1]; omega
      | ⟨2, _⟩ => show win0_5.index t 2 * 2048 + 1 * (i 2).val = (i 2).val; rw [(index5 t).2.2]; omega
    rw [e] at b
    refine b.trans ((tile5 m c t 0 _ _).trans (upd_first _ _ i h _ _ ?_ rfl).symm)
    show (i 1 : Nat) = t.val * 128 + (i 1 : Nat) % 128
    omega
  · rw [upd_other _ _ i h]
    refine (entry5 m c i fun t _ q => ?_).trans rfl
    have q' : i ∈ ((View.whole main_v0_1).slice (win0_5.rect t)).set := q
    rw [View.set_slice_whole, Rect.mem_set_unit] at q'
    have q0 : (i 0 : Nat) < win0_5.index t 0 * 1 + 1 := (q' 0).2
    rw [(index5 t).1] at q0
    omega

/-- What a grid point leaves in its tile of the first moment. -/
theorem tile6 (t : Fin cfg0.N) (z : Fin 1) (r : Fin 128) (f : Fin 2048) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (iblk m c 0 t) (iblk m c 1 t) (iblk m c 2 t) (iblk m c 3 t) (ix3 z r f) = mAt (A1 m c) (A3 m c) (row t r) f := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _)]
  unfold kernelRun0_A
  dsimp only
  sl_unfold_words
  rw [View.canon_unit_zero offsets3]
  simp only [View.readAt_eq_ld, (hs0_0 t).read_unread, (hs0_1 t).read_unread, (hs0_2 t).read_unread, (hs0_3 t).read_unread,
    View.ld_unit_zero (S := S1x128x2048) offsets3, View.ld_unit_zero (S := S128x2048) offsets2]
  unfold k0_pay2 k0_pay4 mAt
  have e1 := blk1 m c t 0 r f
  have e3 := blk3 m c t r f
  rw [← e3]
  pointwise
  rw [← e1]
  rfl

/-- The first moment's array ends with its layer new. -/
theorem final6 : (dats m 0 c).arrAt 6 cfg0.N = upd (mAt (A1 m c) (A3 m c)) (A6 m c) := by
  funext i
  have h1 : (i 1 : Nat) < 1408 := (i 1).isLt
  by_cases h : (i 0).val = 0
  · have hlt : (i 1 : Nat) / 128 < cfg0.N := by show _ < 11; omega
    generalize ht : (⟨(i 1 : Nat) / 128, hlt⟩ : Fin cfg0.N) = t
    have hv : t.val = (i 1 : Nat) / 128 := by rw [← ht]
    have b := congrFun (blocks6 m c t (flush0_6 t)) (ix3 0 ⟨(i 1 : Nat) % 128, Nat.mod_lt _ (by decide)⟩ (i 2))
    rw [flushed6_A, View.read_apply] at b
    have e : ((cfg0.win 6).blk t).view.emb (ix3 0 ⟨(i 1 : Nat) % 128, Nat.mod_lt _ (by decide)⟩ (i 2)) = i := by
      funext a
      apply Fin.ext
      match a with
      | ⟨0, _⟩ => show win0_6.index t 0 * 1 + 1 * 0 = (i 0).val; rw [(index6 t).1]; omega
      | ⟨1, _⟩ => show win0_6.index t 1 * 128 + 1 * ((i 1 : Nat) % 128) = (i 1 : Nat); rw [(index6 t).2.1]; omega
      | ⟨2, _⟩ => show win0_6.index t 2 * 2048 + 1 * (i 2).val = (i 2).val; rw [(index6 t).2.2]; omega
    rw [e] at b
    refine b.trans ((tile6 m c t 0 _ _).trans (upd_first _ _ i h _ _ ?_ rfl).symm)
    show (i 1 : Nat) = t.val * 128 + (i 1 : Nat) % 128
    omega
  · rw [upd_other _ _ i h]
    refine (entry6 m c i fun t _ q => ?_).trans rfl
    have q' : i ∈ ((View.whole main_v0_2).slice (win0_6.rect t)).set := q
    rw [View.set_slice_whole, Rect.mem_set_unit] at q'
    have q0 : (i 0 : Nat) < win0_6.index t 0 * 1 + 1 := (q' 0).2
    rw [(index6 t).1] at q0
    omega

/-- What a grid point leaves in its tile of the second moment. -/
theorem tile7 (t : Fin cfg0.N) (z : Fin 1) (r : Fin 128) (f : Fin 2048) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (iblk m c 0 t) (iblk m c 1 t) (iblk m c 2 t) (iblk m c 3 t) (ix3 z r f) = vAt (A2 m c) (A3 m c) (row t r) f := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _)]
  unfold kernelRun0_A
  dsimp only
  sl_unfold_words
  rw [View.canon_unit_zero offsets3]
  simp only [View.readAt_eq_ld, (hs0_0 t).read_unread, (hs0_1 t).read_unread, (hs0_2 t).read_unread, (hs0_3 t).read_unread,
    View.ld_unit_zero (S := S1x128x2048) offsets3, View.ld_unit_zero (S := S128x2048) offsets2]
  unfold k0_pay3 k0_pay5 vAt
  have e2 := blk2 m c t 0 r f
  have e3 := blk3 m c t r f
  rw [← e3]
  pointwise
  rw [← e2]
  rfl

/-- The second moment's array ends with its layer new. -/
theorem final7 : (dats m 0 c).arrAt 7 cfg0.N = upd (vAt (A2 m c) (A3 m c)) (A7 m c) := by
  funext i
  have h1 : (i 1 : Nat) < 1408 := (i 1).isLt
  by_cases h : (i 0).val = 0
  · have hlt : (i 1 : Nat) / 128 < cfg0.N := by show _ < 11; omega
    generalize ht : (⟨(i 1 : Nat) / 128, hlt⟩ : Fin cfg0.N) = t
    have hv : t.val = (i 1 : Nat) / 128 := by rw [← ht]
    have b := congrFun (blocks7 m c t (flush0_7 t)) (ix3 0 ⟨(i 1 : Nat) % 128, Nat.mod_lt _ (by decide)⟩ (i 2))
    rw [flushed7_A, View.read_apply] at b
    have e : ((cfg0.win 7).blk t).view.emb (ix3 0 ⟨(i 1 : Nat) % 128, Nat.mod_lt _ (by decide)⟩ (i 2)) = i := by
      funext a
      apply Fin.ext
      match a with
      | ⟨0, _⟩ => show win0_7.index t 0 * 1 + 1 * 0 = (i 0).val; rw [(index7 t).1]; omega
      | ⟨1, _⟩ => show win0_7.index t 1 * 128 + 1 * ((i 1 : Nat) % 128) = (i 1 : Nat); rw [(index7 t).2.1]; omega
      | ⟨2, _⟩ => show win0_7.index t 2 * 2048 + 1 * (i 2).val = (i 2).val; rw [(index7 t).2.2]; omega
    rw [e] at b
    refine b.trans ((tile7 m c t 0 _ _).trans (upd_first _ _ i h _ _ ?_ rfl).symm)
    show (i 1 : Nat) = t.val * 128 + (i 1 : Nat) % 128
    omega
  · rw [upd_other _ _ i h]
    refine (entry7 m c i fun t _ q => ?_).trans rfl
    have q' : i ∈ ((View.whole main_v0_3).slice (win0_7.rect t)).set := q
    rw [View.set_slice_whole, Rect.mem_set_unit] at q'
    have q0 : (i 0 : Nat) < win0_7.index t 0 * 1 + 1 := (q' 0).2
    rw [(index7 t).1] at q0
    omega

end Kern

section Ref
open Cert.Reference34Ideal Cert.Reference34Ideal.Gen Cert.Reference34Ideal.Read

variable (x0 x1 x2 : Arr3 4 1408 2048) (x3 : Arr2 1408 2048) (p : Arr3 4 1408 2048)

/-- A layer put before the last three of four. -/
theorem stacked (a : Fin 1408 → Fin 2048 → EReal) (y : Arr2 1408 2048) (h : ∀ r f, y (ix2 r f) = a r f) :
    concatenate S4x1408x2048 0 [⟨S1x1408x2048, (broadcastInDim S1x1408x2048 ![1, 2] bcast_S1408x2048_S1x1408x2048_1_2 y)⟩, ⟨S3x1408x2048, (extractStridedSlice S3x1408x2048 ![1, 0, 0] p slices_S4x1408x2048_S3x1408x2048_1_0_0)⟩] concatenates_S1x1408x2048_S3x1408x2048_S4x1408x2048_d0
      = upd a p :=
  eq_arr3 _ _ fun l r f => by
    by_cases hl : l.val = 0
    · rw [if_pos hl]
      refine (concatenate_pair_apply_left (t := S4x1408x2048) (s₁ := S1x1408x2048) (s₂ := S3x1408x2048) 0 _ _ _ (ix3 l r f) rfl (ix3 0 r f) fun b => ?_).trans ?_
      · match b with
        | ⟨0, _⟩ => exact hl.symm
        | ⟨1, _⟩ => rfl
        | ⟨2, _⟩ => rfl
      · rw [← h]
        pointwise
    · rw [if_neg hl]
      refine (concatenate_pair_apply_right (t := S4x1408x2048) (s₁ := S1x1408x2048) (s₂ := S3x1408x2048) 0 _ _ _ (ix3 l r f) rfl rfl (ix3 ⟨l.val - 1, by omega⟩ r f) (fun b hb => ?_) ?_).trans ?_
      · match b with
        | ⟨0, _⟩ => exact absurd rfl hb
        | ⟨1, _⟩ => rfl
        | ⟨2, _⟩ => rfl
      · show l.val - 1 + 1 = l.val
        omega
      · pointwise
        exact congrArg (fun q => p (ix3 q r f)) (Fin.ext (show 1 + (l.val - 1) = l.val by omega))

/-- The reference's gradient. -/
theorem refG : val_main_v32 (F := Ideal) x3 p = upd (gAt x3) p := stacked p _ _ fun _ _ => rfl

/-- The first layer of a stacked array. -/
theorem layer0 (r : Fin 1408) (f : Fin 2048) :
    shapeCast S1408x2048 (extractStridedSlice S1x1408x2048 ![0, 0, 0] p slices_S4x1408x2048_S1x1408x2048_0_0_0) shapeCasts_S1x1408x2048_S1408x2048 (ix2 r f) = p (ix3 0 r f) := by
  pointwise

/-- The reference's first moment. -/
theorem refM : val_main_v38 (F := Ideal) x1 x3 p = upd (mAt x1 x3) p := stacked p _ _ fun r f => by
  unfold mAt
  rw [← layer0 x1]
  rfl

/-- The reference's second moment. -/
theorem refV : val_main_v41 (F := Ideal) x2 x3 p = upd (vAt x2 x3) p := stacked p _ _ fun r f => by
  unfold vAt
  rw [← layer0 x2]
  rfl

/-- The reference's change. -/
theorem refD : val_main_v35 (F := Ideal) x0 x1 x2 x3 p = upd (dAt x0 x1 x2 x3) p := stacked p _ _ fun r f => by
  unfold dAt
  rw [← layer0 x0, ← layer0 x1, ← layer0 x2]
  rfl

/-- The reference runs, its arguments end unchanged, and no signal is left. -/
theorem refFrame : Cert.quiescent_Reference34Ideal := fun m ρ _ =>
  (θ_run defs _ _).mono (fun r h => ⟨fun c => (h c).2.2.2.2, Idealize.ShloMosaic.sem_eq_zero_of_no_sems (by decide) r.2⟩)
    (Cert.Reference34Ideal.Value.run (F := Ideal) m ρ)

end Ref

/-- Kernel and reference end with the same four arrays, whatever the arguments hold. -/
theorem algebraic : Cert.algebraic_Kernel34Ideal_Reference34Ideal := by
  intro m g m' g' _ hargs
  refine ⟨fun c => upd (gAt (A3 m c)) (A4 m c), fun c => upd (dAt (A0 m c) (A1 m c) (A2 m c) (A3 m c)) (A5 m c),
    fun c => upd (mAt (A1 m c) (A3 m c)) (A6 m c), fun c => upd (vAt (A2 m c) (A3 m c)) (A7 m c), ?_, ?_⟩
  · exact (θ_run Cert.Kernel34Ideal.defs _ _).mono (fun r h c => ⟨(h c).1.trans (final4 m c), (h c).2.1.trans (final5 m c),
      (h c).2.2.1.trans (final6 m c), (h c).2.2.2.1.trans (final7 m c), (h c).2.2.2.2⟩) (Cert.Kernel34Ideal.Value.run_blocks m g)
  · refine (θ_run Cert.Reference34Ideal.defs _ _).mono (fun r h c => ⟨(h c).1.trans ?_, (h c).2.1.trans ?_, (h c).2.2.1.trans ?_, (h c).2.2.2.1.trans ?_, (h c).2.2.2.2⟩)
      (Cert.Reference34Ideal.Value.run (F := Ideal) m' g')
    all_goals obtain ⟨e0, e1, e2, e3, e4, e5, e6, e7⟩ := hargs c
    · rw [Cert.Reference34Ideal.Read.val_main_v32_eq, e3, e4]; exact refG _ _
    · rw [Cert.Reference34Ideal.Read.val_main_v35_eq, e0, e1, e2, e3, e5]; exact refD _ _ _ _ _
    · rw [Cert.Reference34Ideal.Read.val_main_v38_eq, e1, e3, e6]; exact refM _ _ _
    · rw [Cert.Reference34Ideal.Read.val_main_v41_eq, e2, e3, e7]; exact refV _ _ _

end Cert.AdamLayer

end
-- ==== Proof.AdamPack.lean ====
/- The optimiser's step of the small weights, packed into rows: the kernel's step of the packed rows is the reference's packing of
   the steps. -/
module

public import proofs.«01_k».proof.Defs
public import proofs.«01_k».proof.Proof.Prod
public import proofs.«01_k».proof.Proof.Adam
public import proofs.«01_k».proof.Proof.Gen.Kernel35Ideal.Value
public import proofs.«01_k».proof.Proof.Gen.Reference35Ideal.Read

@[expose] public section

set_option maxRecDepth 16384

noncomputable section

namespace Cert.AdamPack

open Idealize.ShloMosaic Idealize.ShloMosaic.TcCoe Idealize.SL.Sem Cert.Prod Cert.Adam

/-- Nine arrays, of the small weights' shapes. -/
@[ext] structure Nine where
  (a0 a1 a2 : Arr2 4 2048)
  (a3 : Arr2 2 384)
  (a4 : (⟨4, ![2, 12, 128, 128]⟩ : Shape).Idx → EReal)
  (a5 : Arr3 2 12 128)
  (a6 : Arr3 4 3 2816)
  (a7 : Arr2 4 11264)
  (a8 : Arr1 2048)

/-- A step, taken element by element on each of the nine. -/
def Nine.map (E : EReal → EReal → EReal → EReal → EReal) (w g m v : Nine) : Nine where
  a0 := fun i => E (w.a0 i) (g.a0 i) (m.a0 i) (v.a0 i)
  a1 := fun i => E (w.a1 i) (g.a1 i) (m.a1 i) (v.a1 i)
  a2 := fun i => E (w.a2 i) (g.a2 i) (m.a2 i) (v.a2 i)
  a3 := fun i => E (w.a3 i) (g.a3 i) (m.a3 i) (v.a3 i)
  a4 := fun i => E (w.a4 i) (g.a4 i) (m.a4 i) (v.a4 i)
  a5 := fun i => E (w.a5 i) (g.a5 i) (m.a5 i) (v.a5 i)
  a6 := fun i => E (w.a6 i) (g.a6 i) (m.a6 i) (v.a6 i)
  a7 := fun i => E (w.a7 i) (g.a7 i) (m.a7 i) (v.a7 i)
  a8 := fun i => E (w.a8 i) (g.a8 i) (m.a8 i) (v.a8 i)

section Pack
open Cert.Kernel35Ideal Cert.Kernel35Ideal.Gen

/-- The nine arrays, each as one row. -/
def Nine.pieces (x : Nine) : Pieces :=
  [⟨S8192, shapeCast S8192 x.a0 shapeCasts_S4x2048_S8192⟩, ⟨S8192, shapeCast S8192 x.a1 shapeCasts_S4x2048_S8192⟩,
   ⟨S8192, shapeCast S8192 x.a2 shapeCasts_S4x2048_S8192⟩, ⟨S768, shapeCast S768 x.a3 shapeCasts_S2x384_S768⟩,
   ⟨S393216, shapeCast S393216 x.a4 shapeCasts_S2x12x128x128_S393216⟩, ⟨S3072, shapeCast S3072 x.a5 shapeCasts_S2x12x128_S3072⟩,
   ⟨S33792, shapeCast S33792 x.a6 shapeCasts_S4x3x2816_S33792⟩, ⟨S45056, shapeCast S45056 x.a7 shapeCasts_S4x11264_S45056⟩,
   ⟨S2048, x.a8⟩]

/-- The nine arrays one after another, padded with zeros, as rows. -/
def pack (x : Nine) : Arr2 3968 128 :=
  shapeCast S3968x128 (pad S507904 ![0] ![5376] ![0]
    (concatenate S502528 0 x.pieces concatenates_S8192_S8192_S8192_S768_S393216_S3072_S33792_S45056_S2048_S502528_d0)
    (sitofp (F := Ideal) .f32 (constantI S_ 32 0#32)) pads_S502528_S507904_053760 h_S_) shapeCasts_S507904_S3968x128

variable (E : EReal → EReal → EReal → EReal → EReal) (w g m v : Nine)

/-- The rows of the steps are the steps of the rows. -/
theorem each : Each E w.pieces g.pieces m.pieces v.pieces (Nine.map E w g m v).pieces :=
  .cons _ _ _ _ <| .cons _ _ _ _ <| .cons _ _ _ _ <| .cons _ _ _ _ <| .cons _ _ _ _ <| .cons _ _ _ _ <| .cons _ _ _ _ <|
    .cons _ _ _ _ <| .cons _ _ _ _ .nil

/-- A step that keeps zero, taken on the packed rows, is the step of the arrays, packed. -/
theorem pack_map (hE : E 0 0 0 0 = 0) : pack (Nine.map E w g m v) = fun i => E (pack w i) (pack g i) (pack m i) (pack v i) := by
  have hz : ∀ k, sitofp (F := Ideal) .f32 (constantI S_ 32 0#32) k = (0 : EReal) := fun k => by
    show (((0#32).toInt : ℝ) : EReal) = 0
    simp
  have h := concatenates_S8192_S8192_S8192_S768_S393216_S3072_S33792_S45056_S2048_S502528_d0
  funext i
  exact packed (each E w g m v) S502528 S507904 0 h h h h h ![0] ![5376] ![0] (sitofp (F := Ideal) .f32 (constantI S_ 32 0#32))
    pads_S502528_S507904_053760 h_S_ (fun k => by rw [hz k, hE]) _

end Pack

section Kern
open Cert.Kernel35Ideal Cert.Kernel35Ideal.Gen Cert.Kernel35Ideal.Value Idealize.ShloMosaic.Pipeline

variable (m : (ℓ : Loc nD τ sig) → Buf (Elt Ideal) ℓ) (c : Dev nD)

/-- The weights on a device. -/
def NW : Nine :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
/-- The gradients on a device. -/
def NG : Nine :=
  ⟨m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17)⟩
/-- The first moments on a device. -/
def NM : Nine :=
  ⟨m ((c.tc : Thread nD τ).loc main_arg18), m ((c.tc : Thread nD τ).loc main_arg19), m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26)⟩
/-- The second moments on a device. -/
def NV : Nine :=
  ⟨m ((c.tc : Thread nD τ).loc main_arg27), m ((c.tc : Thread nD τ).loc main_arg28), m ((c.tc : Thread nD τ).loc main_arg29), m ((c.tc : Thread nD τ).loc main_arg30), m ((c.tc : Thread nD τ).loc main_arg31), m ((c.tc : Thread nD τ).loc main_arg32), m ((c.tc : Thread nD τ).loc main_arg33), m ((c.tc : Thread nD τ).loc main_arg34), m ((c.tc : Thread nD τ).loc main_arg35)⟩
/-- The packed weights the grid reads. -/
def PW : Arr2 3968 128 := V m c main_v10
/-- The packed gradients the grid reads. -/
def PG : Arr2 3968 128 := V m c main_v21
/-- The packed first moments the grid reads. -/
def PM : Arr2 3968 128 := V m c main_v32
/-- The packed second moments the grid reads. -/
def PV : Arr2 3968 128 := V m c main_v43

theorem index0 : ∀ t : Fin cfg0.N, win0_0.index t 0 = t.val ∧ win0_0.index t 1 = 0 :=
  (by decide +kernel : ∀ t : Fin grid0.N, _)
theorem index1 : ∀ t : Fin cfg0.N, win0_1.index t 0 = t.val ∧ win0_1.index t 1 = 0 :=
  (by decide +kernel : ∀ t : Fin grid0.N, _)
theorem index2 : ∀ t : Fin cfg0.N, win0_2.index t 0 = t.val ∧ win0_2.index t 1 = 0 :=
  (by decide +kernel : ∀ t : Fin grid0.N, _)
theorem index3 : ∀ t : Fin cfg0.N, win0_3.index t 0 = t.val ∧ win0_3.index t 1 = 0 :=
  (by decide +kernel : ∀ t : Fin grid0.N, _)
theorem index4 : ∀ t : Fin cfg0.N, win0_4.index t 0 = t.val ∧ win0_4.index t 1 = 0 :=
  (by decide +kernel : ∀ t : Fin grid0.N, _)
theorem index5 : ∀ t : Fin cfg0.N, win0_5.index t 0 = t.val ∧ win0_5.index t 1 = 0 :=
  (by decide +kernel : ∀ t : Fin grid0.N, _)
theorem index6 : ∀ t : Fin cfg0.N, win0_6.index t 0 = t.val ∧ win0_6.index t 1 = 0 :=
  (by decide +kernel : ∀ t : Fin grid0.N, _)

/-- The row of the packed rows that a row of a grid point's tile is. -/
def row (t : Fin cfg0.N) (r : Fin 128) : Fin 3968 := ⟨t.val * 128 + r.val, by have : t.val < 31 := t.isLt; omega⟩

/-- A grid point's rows of the packed weights. -/
theorem blk0 (t : Fin cfg0.N) (r f : Fin 128) : (iblk m c 0 t : Vec Ideal S128x128 .f32) (ix2 r f) = PW m c (ix2 (row t r) f) := by
  unfold iblk
  rw [View.read_apply]
  show PW m c _ = PW m c _
  congr 1
  funext a
  apply Fin.ext
  match a with
  | ⟨0, _⟩ => show win0_0.index t 0 * 128 + 1 * r.val = t.val * 128 + r.val; rw [(index0 t).1]; omega
  | ⟨1, _⟩ => show win0_0.index t 1 * 128 + 1 * f.val = f.val; rw [(index0 t).2]; omega

/-- A grid point's rows of the packed gradients. -/
theorem blk1 (t : Fin cfg0.N) (r f : Fin 128) : (iblk m c 1 t : Vec Ideal S128x128 .f32) (ix2 r f) = PG m c (ix2 (row t r) f) := by
  unfold iblk
  rw [View.read_apply]
  show PG m c _ = PG m c _
  congr 1
  funext a
  apply Fin.ext
  match a with
  | ⟨0, _⟩ => show win0_1.index t 0 * 128 + 1 * r.val = t.val * 128 + r.val; rw [(index1 t).1]; omega
  | ⟨1, _⟩ => show win0_1.index t 1 * 128 + 1 * f.val = f.val; rw [(index1 t).2]; omega

/-- A grid point's rows of the packed first moments. -/
theorem blk2 (t : Fin cfg0.N) (r f : Fin 128) : (iblk m c 2 t : Vec Ideal S128x128 .f32) (ix2 r f) = PM m c (ix2 (row t r) f) := by
  unfold iblk
  rw [View.read_apply]
  show PM m c _ = PM m c _
  congr 1
  funext a
  apply Fin.ext
  match a with
  | ⟨0, _⟩ => show win0_2.index t 0 * 128 + 1 * r.val = t.val * 128 + r.val; rw [(index2 t).1]; omega
  | ⟨1, _⟩ => show win0_2.index t 1 * 128 + 1 * f.val = f.val; rw [(index2 t).2]; omega

/-- A grid point's rows of the packed second moments. -/
theorem blk3 (t : Fin cfg0.N) (r f : Fin 128) : (iblk m c 3 t : Vec Ideal S128x128 .f32) (ix2 r f) = PV m c (ix2 (row t r) f) := by
  unfold iblk
  rw [View.read_apply]
  show PV m c _ = PV m c _
  congr 1
  funext a
  apply Fin.ext
  match a with
  | ⟨0, _⟩ => show win0_3.index t 0 * 128 + 1 * r.val = t.val * 128 + r.val; rw [(index3 t).1]; omega
  | ⟨1, _⟩ => show win0_3.index t 1 * 128 + 1 * f.val = f.val; rw [(index3 t).2]; omega

/-- One packed entry's change. -/
def dAt (r : Fin 3968) (f : Fin 128) : EReal := delta (PW m c (ix2 r f)) (PG m c (ix2 r f)) (PM m c (ix2 r f)) (PV m c (ix2 r f))

/-- What a grid point leaves in its tile of the change. -/
theorem tile4 (t : Fin cfg0.N) (r f : Fin 128) :
    out0_4 (F := Ideal) (iblk m c 0 t) (iblk m c 1 t) (iblk m c 2 t) (iblk m c 3 t) (ix2 r f) = dAt m c (row t r) f := by
  unfold out0_4
  rw [View.canon_unit_zero offsets2]
  simp only [View.ld_unit_zero (S := S128x128) offsets2]
  unfold dAt
  rw [← blk0, ← blk1, ← blk2, ← blk3]
  unfold k0_pay4 k0_pay2 k0_pay3 k0_pay1
  pointwise
  rfl

/-- The changes' array is the steps of the packed rows. -/
theorem final4 : (dats m 0 c).arrAt 4 cfg0.N = arr2 (dAt m c) := by
  refine (dats m 0 c).arrAt_eq_of_cover 4 _ (fun t _ => ?_) fun i => ?_
  · rw [flushed4]
    funext j
    rw [View.read_apply]
    refine Eq.trans (b := dAt m c (row t (j 0)) (j 1)) ?_ (entry_arr2 _ _ _ _ ?_ ?_)
    · exact (congrArg _ (eq_ix2 _)).trans (tile4 m c t _ _)
    · show t.val * 128 + (j 0).val = win0_4.index t 0 * 128 + 1 * (j 0).val
      rw [(index4 t).1]; omega
    · show (j 1).val = win0_4.index t 1 * 128 + 1 * (j 1).val
      rw [(index4 t).2]; omega
  · have h0 : (i 0 : Nat) < 3968 := (i 0).isLt
    have h1 : (i 1 : Nat) < 128 := (i 1).isLt
    have hlt : (i 0 : Nat) / 128 < cfg0.N := by show _ < 31; omega
    refine ⟨⟨(i 0 : Nat) / 128, hlt⟩, flush0_4 _, ?_⟩
    generalize ht : (⟨(i 0 : Nat) / 128, hlt⟩ : Fin cfg0.N) = t
    have hv : t.val = (i 0 : Nat) / 128 := by rw [← ht]
    show i ∈ ((View.whole main_v44_0).slice (win0_4.rect t)).set
    rw [View.set_slice_whole, Rect.mem_set_unit]
    intro a
    match a with
    | ⟨0, _⟩ => show win0_4.index t 0 * 128 ≤ (i 0 : Nat) ∧ (i 0 : Nat) < win0_4.index t 0 * 128 + 128
                rw [(index4 t).1]; omega
    | ⟨1, _⟩ => show win0_4.index t 1 * 128 ≤ (i 1 : Nat) ∧ (i 1 : Nat) < win0_4.index t 1 * 128 + 128
                rw [(index4 t).2]; omega

/-- One packed entry's first moment. -/
def mAt (r : Fin 3968) (f : Fin 128) : EReal := first (PG m c (ix2 r f)) (PM m c (ix2 r f))

/-- What a grid point leaves in its tile of the first moment. -/
theorem tile5 (t : Fin cfg0.N) (r f : Fin 128) :
    out0_5 (F := Ideal) (iblk m c 0 t) (iblk m c 1 t) (iblk m c 2 t) (iblk m c 3 t) (ix2 r f) = mAt m c (row t r) f := by
  unfold out0_5
  rw [View.canon_unit_zero offsets2]
  simp only [View.ld_unit_zero (S := S128x128) offsets2]
  unfold mAt
  rw [← blk1, ← blk2]
  unfold k0_pay2 k0_pay1
  pointwise
  rfl

/-- The first moments' array is the steps of the packed rows. -/
theorem final5 : (dats m 0 c).arrAt 5 cfg0.N = arr2 (mAt m c) := by
  refine (dats m 0 c).arrAt_eq_of_cover 5 _ (fun t _ => ?_) fun i => ?_
  · rw [flushed5]
    funext j
    rw [View.read_apply]
    refine Eq.trans (b := mAt m c (row t (j 0)) (j 1)) ?_ (entry_arr2 _ _ _ _ ?_ ?_)
    · exact (congrArg _ (eq_ix2 _)).trans (tile5 m c t _ _)
    · show t.val * 128 + (j 0).val = win0_5.index t 0 * 128 + 1 * (j 0).val
      rw [(index5 t).1]; omega
    · show (j 1).val = win0_5.index t 1 * 128 + 1 * (j 1).val
      rw [(index5 t).2]; omega
  · have h0 : (i 0 : Nat) < 3968 := (i 0).isLt
    have h1 : (i 1 : Nat) < 128 := (i 1).isLt
    have hlt : (i 0 : Nat) / 128 < cfg0.N := by show _ < 31; omega
    refine ⟨⟨(i 0 : Nat) / 128, hlt⟩, flush0_5 _, ?_⟩
    generalize ht : (⟨(i 0 : Nat) / 128, hlt⟩ : Fin cfg0.N) = t
    have hv : t.val = (i 0 : Nat) / 128 := by rw [← ht]
    show i ∈ ((View.whole main_v44_1).slice (win0_5.rect t)).set
    rw [View.set_slice_whole, Rect.mem_set_unit]
    intro a
    match a with
    | ⟨0, _⟩ => show win0_5.index t 0 * 128 ≤ (i 0 : Nat) ∧ (i 0 : Nat) < win0_5.index t 0 * 128 + 128
                rw [(index5 t).1]; omega
    | ⟨1, _⟩ => show win0_5.index t 1 * 128 ≤ (i 1 : Nat) ∧ (i 1 : Nat) < win0_5.index t 1 * 128 + 128
                rw [(index5 t).2]; omega

/-- One packed entry's second moment. -/
def vAt (r : Fin 3968) (f : Fin 128) : EReal := second (PG m c (ix2 r f)) (PV m c (ix2 r f))

/-- What a grid point leaves in its tile of the second moment. -/
theorem tile6 (t : Fin cfg0.N) (r f : Fin 128) :
    out0_6 (F := Ideal) (iblk m c 0 t) (iblk m c 1 t) (iblk m c 2 t) (iblk m c 3 t) (ix2 r f) = vAt m c (row t r) f := by
  unfold out0_6
  rw [View.canon_unit_zero offsets2]
  simp only [View.ld_unit_zero (S := S128x128) offsets2]
  unfold vAt
  rw [← blk1, ← blk3]
  unfold k0_pay3 k0_pay1
  pointwise
  rfl

/-- The second moments' array is the steps of the packed rows. -/
theorem final6 : (dats m 0 c).arrAt 6 cfg0.N = arr2 (vAt m c) := by
  refine (dats m 0 c).arrAt_eq_of_cover 6 _ (fun t _ => ?_) fun i => ?_
  · rw [flushed6]
    funext j
    rw [View.read_apply]
    refine Eq.trans (b := vAt m c (row t (j 0)) (j 1)) ?_ (entry_arr2 _ _ _ _ ?_ ?_)
    · exact (congrArg _ (eq_ix2 _)).trans (tile6 m c t _ _)
    · show t.val * 128 + (j 0).val = win0_6.index t 0 * 128 + 1 * (j 0).val
      rw [(index6 t).1]; omega
    · show (j 1).val = win0_6.index t 1 * 128 + 1 * (j 1).val
      rw [(index6 t).2]; omega
  · have h0 : (i 0 : Nat) < 3968 := (i 0).isLt
    have h1 : (i 1 : Nat) < 128 := (i 1).isLt
    have hlt : (i 0 : Nat) / 128 < cfg0.N := by show _ < 31; omega
    refine ⟨⟨(i 0 : Nat) / 128, hlt⟩, flush0_6 _, ?_⟩
    generalize ht : (⟨(i 0 : Nat) / 128, hlt⟩ : Fin cfg0.N) = t
    have hv : t.val = (i 0 : Nat) / 128 := by rw [← ht]
    show i ∈ ((View.whole main_v44_2).slice (win0_6.rect t)).set
    rw [View.set_slice_whole, Rect.mem_set_unit]
    intro a
    match a with
    | ⟨0, _⟩ => show win0_6.index t 0 * 128 ≤ (i 0 : Nat) ∧ (i 0 : Nat) < win0_6.index t 0 * 128 + 128
                rw [(index6 t).1]; omega
    | ⟨1, _⟩ => show win0_6.index t 1 * 128 ≤ (i 1 : Nat) ∧ (i 1 : Nat) < win0_6.index t 1 * 128 + 128
                rw [(index6 t).2]; omega

/-- What the grid reads is the packed arrays. -/
theorem packs : PW m c = pack (NW m c) ∧ PG m c = pack (NG m c) ∧ PM m c = pack (NM m c) ∧ PV m c = pack (NV m c) := by
  unfold PW PG PM PV V
  refine ⟨?_, ?_, ?_, ?_⟩ <;>
  · simp only [hostOps0, hostOps0_1, hostOps0_2, hostOps0_3, hostOps0_4, hostOps0_5, hostOps0_6, hostOps0_7, hostOps0_8, List.flatten_cons,
      List.flatten_nil, List.append_nil, List.cons_append, List.nil_append, StableHlo.TRef.binary, StableHlo.TRef.unary, StableHlo.TRef.toBuf,
      StableHlo.TRef.ofBuf, cast_eq]
    after_results_simp
    rfl

/-- The changes' array is the changes of the arrays, packed. -/
theorem whole4 : arr2 (dAt m c) = pack (Nine.map delta (NW m c) (NG m c) (NM m c) (NV m c)) := by
  obtain ⟨a, b, d, e⟩ := packs m c
  rw [pack_map _ _ _ _ _ delta_zero, ← a, ← b, ← d, ← e]
  funext i
  conv_rhs => rw [eq_ix2 i]
  rfl

/-- The first moments' array is the first moments of the arrays, packed. -/
theorem whole5 : arr2 (mAt m c) = pack (Nine.map (fun _ g m _ => first g m) (NW m c) (NG m c) (NM m c) (NV m c)) := by
  obtain ⟨_, b, d, _⟩ := packs m c
  rw [pack_map _ _ _ _ _ first_zero, ← b, ← d]
  funext i
  conv_rhs => rw [eq_ix2 i]
  rfl

/-- The second moments' array is the second moments of the arrays, packed. -/
theorem whole6 : arr2 (vAt m c) = pack (Nine.map (fun _ g _ v => second g v) (NW m c) (NG m c) (NM m c) (NV m c)) := by
  obtain ⟨_, b, _, e⟩ := packs m c
  rw [pack_map _ _ _ _ _ second_zero, ← b, ← e]
  funext i
  conv_rhs => rw [eq_ix2 i]
  rfl

end Kern

section Ref
open Cert.Reference35Ideal Cert.Reference35Ideal.Gen Cert.Reference35Ideal.Read

section Val
variable (w g m v : Nine)

/-- The reference packs the changes. -/
theorem refD : val_main_v226 (F := Ideal) w.a0 w.a1 w.a2 w.a3 w.a4 w.a5 w.a6 w.a7 w.a8 g.a0 g.a1 g.a2 g.a3 g.a4 g.a5 g.a6 g.a7 g.a8 m.a0 m.a1 m.a2 m.a3 m.a4 m.a5 m.a6 m.a7 m.a8 v.a0 v.a1 v.a2 v.a3 v.a4 v.a5 v.a6 v.a7 v.a8
    = pack (Nine.map delta w g m v) := rfl

/-- The reference packs the first moments. -/
theorem refM : val_main_v237 (F := Ideal) g.a0 g.a1 g.a2 g.a3 g.a4 g.a5 g.a6 g.a7 g.a8 m.a0 m.a1 m.a2 m.a3 m.a4 m.a5 m.a6 m.a7 m.a8
    = pack (Nine.map (fun _ g m _ => first g m) w g m v) := rfl

/-- The reference packs the second moments. -/
theorem refV : val_main_v248 (F := Ideal) g.a0 g.a1 g.a2 g.a3 g.a4 g.a5 g.a6 g.a7 g.a8 v.a0 v.a1 v.a2 v.a3 v.a4 v.a5 v.a6 v.a7 v.a8
    = pack (Nine.map (fun _ g _ v => second g v) w g m v) := rfl

end Val

variable (m : (ℓ : Loc nD τ sig) → Buf (Elt Ideal) ℓ) (c : Dev nD)

/-- The reference's weights on a device. -/
def RW : Nine :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
/-- The reference's gradients on a device. -/
def RG : Nine :=
  ⟨m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17)⟩
/-- The reference's first moments on a device. -/
def RM : Nine :=
  ⟨m ((c.tc : Thread nD τ).loc main_arg18), m ((c.tc : Thread nD τ).loc main_arg19), m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26)⟩
/-- The reference's second moments on a device. -/
def RV : Nine :=
  ⟨m ((c.tc : Thread nD τ).loc main_arg27), m ((c.tc : Thread nD τ).loc main_arg28), m ((c.tc : Thread nD τ).loc main_arg29), m ((c.tc : Thread nD τ).loc main_arg30), m ((c.tc : Thread nD τ).loc main_arg31), m ((c.tc : Thread nD τ).loc main_arg32), m ((c.tc : Thread nD τ).loc main_arg33), m ((c.tc : Thread nD τ).loc main_arg34), m ((c.tc : Thread nD τ).loc main_arg35)⟩

/-- The reference runs, its arguments end unchanged, and no signal is left. -/
theorem refFrame : Cert.quiescent_Reference35Ideal := fun m ρ _ =>
  (θ_run defs _ _).mono (fun r h => ⟨fun c => (h c).2.2.2, Idealize.ShloMosaic.sem_eq_zero_of_no_sems (by decide) r.2⟩)
    (Cert.Reference35Ideal.Value.run (F := Ideal) m ρ)

end Ref

/-- Kernel and reference end with the same three arrays, whatever the arguments hold. -/
theorem algebraic : Cert.algebraic_Kernel35Ideal_Reference35Ideal := by
  intro m g m' g' _ hargs
  refine ⟨fun c => pack (Nine.map delta (NW m c) (NG m c) (NM m c) (NV m c)),
    fun c => pack (Nine.map (fun _ g m _ => first g m) (NW m c) (NG m c) (NM m c) (NV m c)),
    fun c => pack (Nine.map (fun _ g _ v => second g v) (NW m c) (NG m c) (NM m c) (NV m c)), ?_, ?_⟩
  · exact (θ_run Cert.Kernel35Ideal.defs _ _).mono (fun r h c => ⟨(h c).1.trans ((final4 m c).trans (whole4 m c)),
      (h c).2.1.trans ((final5 m c).trans (whole5 m c)), (h c).2.2.1.trans ((final6 m c).trans (whole6 m c)), (h c).2.2.2⟩)
      (Cert.Kernel35Ideal.Value.run_blocks m g)
  · have same : ∀ c, RW m' c = NW m c ∧ RG m' c = NG m c ∧ RM m' c = NM m c ∧ RV m' c = NV m c := fun c => by
      obtain ⟨e0, e1, e2, e3, e4, e5, e6, e7, e8, e9, e10, e11, e12, e13, e14, e15, e16, e17, e18, e19, e20, e21, e22, e23, e24, e25, e26, e27, e28, e29, e30, e31, e32, e33, e34, e35⟩ := hargs c
      exact ⟨Nine.ext e0 e1 e2 e3 e4 e5 e6 e7 e8, Nine.ext e9 e10 e11 e12 e13 e14 e15 e16 e17, Nine.ext e18 e19 e20 e21 e22 e23 e24 e25 e26, Nine.ext e27 e28 e29 e30 e31 e32 e33 e34 e35⟩
    refine (θ_run Cert.Reference35Ideal.defs _ _).mono (fun r h c => ⟨(h c).1.trans ?_, (h c).2.1.trans ?_, (h c).2.2.1.trans ?_, (h c).2.2.2⟩)
      (Cert.Reference35Ideal.Value.run (F := Ideal) m' g')
    all_goals obtain ⟨a, b, d, e⟩ := same c
    · rw [Cert.Reference35Ideal.Read.val_main_v226_eq]; refine (refD (RW m' c) (RG m' c) (RM m' c) (RV m' c)).trans ?_; rw [a, b, d, e]
    · rw [Cert.Reference35Ideal.Read.val_main_v237_eq]; refine (refM (RW m' c) (RG m' c) (RM m' c) (RV m' c)).trans ?_; rw [a, b, d, e]
    · rw [Cert.Reference35Ideal.Read.val_main_v248_eq]; refine (refV (RW m' c) (RG m' c) (RM m' c) (RV m' c)).trans ?_; rw [a, b, d, e]

end Cert.AdamPack

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel25.Frame
public import proofs.«01_k».proof.Proof.Gen.Kernel33.Frame
public import proofs.«01_k».proof.Proof.Gen.Kernel34.Frame
public import proofs.«01_k».proof.Proof.Gen.Kernel35.Frame
public import proofs.«01_k».proof.Proof.MemEq
public import proofs.«01_k».proof.Proof.DAct
public import proofs.«01_k».proof.Proof.DWdown
public import proofs.«01_k».proof.Proof.DWup
public import proofs.«01_k».proof.Proof.DH2
public import proofs.«01_k».proof.Proof.FfnUp
public import proofs.«01_k».proof.Proof.FfnDown
public import proofs.«01_k».proof.Proof.AIn
public import proofs.«01_k».proof.Proof.AOut
public import proofs.«01_k».proof.Proof.ADCat
public import proofs.«01_k».proof.Proof.ADWout
public import proofs.«01_k».proof.Proof.ADWin
public import proofs.«01_k».proof.Proof.ADH1
public import proofs.«01_k».proof.Proof.BIn
public import proofs.«01_k».proof.Proof.BOut
public import proofs.«01_k».proof.Proof.BDCat
public import proofs.«01_k».proof.Proof.BDWout
public import proofs.«01_k».proof.Proof.BDWin
public import proofs.«01_k».proof.Proof.BDH1
public import proofs.«01_k».proof.Proof.KvFwd
public import proofs.«01_k».proof.Proof.DWkv
public import proofs.«01_k».proof.Proof.DMemN
public import proofs.«01_k».proof.Proof.NormBack
public import proofs.«01_k».proof.Proof.MemNormBack
public import proofs.«01_k».proof.Proof.GateBack
public import proofs.«01_k».proof.Proof.MemBEq
public import proofs.«01_k».proof.Proof.MemFwd
public import proofs.«01_k».proof.Proof.MemBFwd
public import proofs.«01_k».proof.Proof.NormFwd
public import proofs.«01_k».proof.Proof.MemNormFwd
public import proofs.«01_k».proof.Proof.GateFwd
public import proofs.«01_k».proof.Proof.ConvFwd
public import proofs.«01_k».proof.Proof.AdamLayer
public import proofs.«01_k».proof.Proof.AdamPack
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel34.Gen.facts,
    Cert.Kernel34Ideal.Gen.facts,
    Cert.Reference34Ideal.Gen.facts,
    Cert.Kernel35.Gen.facts,
    Cert.Kernel35Ideal.Gen.facts,
    Cert.Reference35Ideal.Gen.facts,
    Cert.Mem.preFacts,
    Cert.GateBack.preFacts,
    Cert.MemB.preFacts,
    fun m ρ _ => Cert.Kernel.Gen.frame m ρ,
    fun m ρ _ => Cert.KernelIdeal.Gen.frame m ρ,
    fun m ρ _ => Cert.KernelIdeal.Gen.frame m ρ,
    fun m ρ _ => Cert.Mem.refFrame m ρ trivial,
    fun m ρ _ => Cert.Mem.refFrame m ρ trivial,
    fun m ρ _ => Cert.Kernel2.Gen.frame m ρ,
    fun m ρ _ => Cert.Kernel2Ideal.Gen.frame m ρ,
    fun m ρ _ => Cert.DAct.refFrame m ρ trivial,
    fun m ρ _ => Cert.Kernel3.Gen.frame m ρ,
    fun m ρ _ => Cert.Kernel3Ideal.Gen.frame m ρ,
    fun m ρ _ => Cert.DWdown.refFrame m ρ trivial,
    fun m ρ _ => Cert.Kernel4.Gen.frame m ρ,
    fun m ρ _ => Cert.Kernel4Ideal.Gen.frame m ρ,
    fun m ρ _ => Cert.DWup.refFrame m ρ trivial,
    fun m ρ _ => Cert.Kernel5.Gen.frame m ρ,
    fun m ρ _ => Cert.Kernel5Ideal.Gen.frame m ρ,
    fun m ρ _ => Cert.DH2.refFrame m ρ trivial,
    fun m ρ _ => Cert.Kernel6.Gen.frame m ρ,
    fun m ρ _ => Cert.Kernel6Ideal.Gen.frame m ρ,
    fun m ρ _ => Cert.FfnUp.refFrame m ρ trivial,
    fun m ρ _ => Cert.Kernel7.Gen.frame m ρ,
    fun m ρ _ => Cert.Kernel7Ideal.Gen.frame m ρ,
    fun m ρ _ => Cert.FfnDown.refFrame m ρ trivial,
    fun m ρ _ => Cert.Kernel8.Gen.frame m ρ,
    fun m ρ _ => Cert.Kernel8Ideal.Gen.frame m ρ,
    fun m ρ _ => Cert.AIn.refFrame m ρ trivial,
    fun m ρ _ => Cert.Kernel9.Gen.frame m ρ,
    fun m ρ _ => Cert.Kernel9Ideal.Gen.frame m ρ,
    fun m ρ _ => Cert.AOut.refFrame m ρ trivial,
    fun m ρ _ => Cert.Kernel10.Gen.frame m ρ,
    fun m ρ _ => Cert.Kernel10Ideal.Gen.frame m ρ,
    fun m ρ _ => Cert.ADCat.refFrame m ρ trivial,
    fun m ρ _ => Cert.Kernel11.Gen.frame m ρ,
    fun m ρ _ => Cert.Kernel11Ideal.Gen.frame m ρ,
    fun m ρ _ => Cert.ADWout.refFrame m ρ trivial,
    fun m ρ _ => Cert.Kernel12.Gen.frame m ρ,
    fun m ρ _ => Cert.Kernel12Ideal.Gen.frame m ρ,
    fun m ρ _ => Cert.ADWin.refFrame m ρ trivial,
    fun m ρ _ => Cert.Kernel13.Gen.frame m ρ,
    fun m ρ _ => Cert.Kernel13Ideal.Gen.frame m ρ,
    fun m ρ _ => Cert.ADH1.refFrame m ρ trivial,
    fun m ρ _ => Cert.Kernel14.Gen.frame m ρ,
    fun m ρ _ => Cert.Kernel14Ideal.Gen.frame m ρ,
    fun m ρ _ => Cert.BIn.refFrame m ρ trivial,
    fun m ρ _ => Cert.Kernel15.Gen.frame m ρ,
    fun m ρ _ => Cert.Kernel15Ideal.Gen.frame m ρ,
    fun m ρ _ => Cert.BOut.refFrame m ρ trivial,
    fun m ρ _ => Cert.Kernel16.Gen.frame m ρ,
    fun m ρ _ => Cert.Kernel16Ideal.Gen.frame m ρ,
    fun m ρ _ => Cert.BDCat.refFrame m ρ trivial,
    fun m ρ _ => Cert.Kernel17.Gen.frame m ρ,
    fun m ρ _ => Cert.Kernel17Ideal.Gen.frame m ρ,
    fun m ρ _ => Cert.BDWout.refFrame m ρ trivial,
    fun m ρ _ => Cert.Kernel18.Gen.frame m ρ,
    fun m ρ _ => Cert.Kernel18Ideal.Gen.frame m ρ,
    fun m ρ _ => Cert.BDWin.refFrame m ρ trivial,
    fun m ρ _ => Cert.Kernel19.Gen.frame m ρ,
    fun m ρ _ => Cert.Kernel19Ideal.Gen.frame m ρ,
    fun m ρ _ => Cert.BDH1.refFrame m ρ trivial,
    fun m ρ _ => Cert.Kernel20.Gen.frame m ρ,
    fun m ρ _ => Cert.Kernel20Ideal.Gen.frame m ρ,
    fun m ρ _ => Cert.KvFwd.refFrame m ρ trivial,
    fun m ρ _ => Cert.Kernel21.Gen.frame m ρ,
    fun m ρ _ => Cert.Kernel21Ideal.Gen.frame m ρ,
    fun m ρ _ => Cert.DWkv.refFrame m ρ trivial,
    fun m ρ _ => Cert.Kernel22.Gen.frame m ρ,
    fun m ρ _ => Cert.Kernel22Ideal.Gen.frame m ρ,
    fun m ρ _ => Cert.DMemN.refFrame m ρ trivial,
    fun m ρ _ => Cert.Kernel23.Gen.frame m ρ,
    fun m ρ _ => Cert.Kernel23Ideal.Gen.frame m ρ,
    fun m ρ _ => Cert.NormBack.refFrame m ρ trivial,
    fun m ρ _ => Cert.Kernel24.Gen.frame m ρ,
    fun m ρ _ => Cert.Kernel24Ideal.Gen.frame m ρ,
    fun m ρ _ => Cert.MemNormBack.refFrame m ρ trivial,
    fun m ρ _ => Cert.Kernel25.Gen.frame m ρ,
    fun m ρ _ => Cert.Kernel25Ideal.Gen.frame m ρ,
    fun m ρ _ => Cert.Kernel25Ideal.Gen.frame m ρ,
    fun m ρ _ => Cert.GateBack.refFrame m ρ trivial,
    fun m ρ _ => Cert.GateBack.refFrame m ρ trivial,
    fun m ρ _ => Cert.Kernel27.Gen.frame m ρ,
    fun m ρ _ => Cert.Kernel27Ideal.Gen.frame m ρ,
    fun m ρ _ => Cert.Kernel27Ideal.Gen.frame m ρ,
    fun m ρ _ => Cert.MemB.refFrame m ρ trivial,
    fun m ρ _ => Cert.MemB.refFrame m ρ trivial,
    fun m ρ _ => Cert.Kernel28.Gen.frame m ρ,
    fun m ρ _ => Cert.Kernel28Ideal.Gen.frame m ρ,
    fun m ρ _ => Cert.MemFwd.refFrame m ρ trivial,
    fun m ρ _ => Cert.Kernel29.Gen.frame m ρ,
    fun m ρ _ => Cert.Kernel29Ideal.Gen.frame m ρ,
    fun m ρ _ => Cert.MemBFwd.refFrame m ρ trivial,
    fun m ρ _ => Cert.Kernel30.Gen.frame m ρ,
    fun m ρ _ => Cert.Kernel30Ideal.Gen.frame m ρ,
    fun m ρ _ => Cert.NormFwd.refFrame m ρ trivial,
    fun m ρ _ => Cert.Kernel31.Gen.frame m ρ,
    fun m ρ _ => Cert.Kernel31Ideal.Gen.frame m ρ,
    fun m ρ _ => Cert.MemNormFwd.refFrame m ρ trivial,
    fun m ρ _ => Cert.Kernel32.Gen.frame m ρ,
    fun m ρ _ => Cert.Kernel32Ideal.Gen.frame m ρ,
    fun m ρ _ => Cert.GateFwd.refFrame m ρ trivial,
    fun m ρ _ => Cert.Kernel33.Gen.frame m ρ,
    fun m ρ _ => Cert.Kernel33Ideal.Gen.frame m ρ,
    fun m ρ _ => Cert.ConvFwd.refFrame m ρ trivial,
    fun m ρ _ => Cert.Kernel34.Gen.frame m ρ,
    fun m ρ _ => Cert.Kernel34Ideal.Gen.frame m ρ,
    fun m ρ _ => Cert.AdamLayer.refFrame m ρ trivial,
    fun m ρ _ => Cert.Kernel35.Gen.frame m ρ,
    fun m ρ _ => Cert.Kernel35Ideal.Gen.frame m ρ,
    fun m ρ _ => Cert.AdamPack.refFrame m ρ trivial,
    trivial,
    Cert.Mem.algebraic,
    trivial,
    Cert.DAct.algebraic,
    trivial,
    Cert.DWdown.algebraic,
    trivial,
    Cert.DWup.algebraic,
    trivial,
    Cert.DH2.algebraic,
    trivial,
    Cert.FfnUp.algebraic,
    trivial,
    Cert.FfnDown.algebraic,
    trivial,
    Cert.AIn.algebraic,
    trivial,
    Cert.AOut.algebraic,
    trivial,
    Cert.ADCat.algebraic,
    trivial,
    Cert.ADWout.algebraic,
    trivial,
    Cert.ADWin.algebraic,
    trivial,
    Cert.ADH1.algebraic,
    trivial,
    Cert.BIn.algebraic,
    trivial,
    Cert.BOut.algebraic,
    trivial,
    Cert.BDCat.algebraic,
    trivial,
    Cert.BDWout.algebraic,
    trivial,
    Cert.BDWin.algebraic,
    trivial,
    Cert.BDH1.algebraic,
    trivial,
    Cert.KvFwd.algebraic,
    trivial,
    Cert.DWkv.algebraic,
    trivial,
    Cert.DMemN.algebraic,
    trivial,
    Cert.NormBack.algebraic,
    trivial,
    Cert.MemNormBack.algebraic,
    Cert.GateBack.preserves,
    Cert.GateBack.algebraic,
    trivial,
    Cert.MemB.algebraic,
    trivial,
    Cert.MemFwd.algebraic,
    trivial,
    Cert.MemBFwd.algebraic,
    trivial,
    Cert.NormFwd.algebraic,
    trivial,
    Cert.MemNormFwd.algebraic,
    trivial,
    Cert.GateFwd.algebraic,
    trivial,
    Cert.ConvFwd.algebraic,
    trivial,
    Cert.AdamLayer.algebraic,
    trivial,
    Cert.AdamPack.algebraic⟩

end Cert.Proof

end
